-- ==== Defs.lean ====
def Pre_Sibling (m : (ℓ : Loc Cert.Sibling.nD Cert.Sibling.τ Cert.Sibling.sig) → Buf (Elt Bits) ℓ) : Prop :=
  True

def Pre_SiblingIdeal (m : (ℓ : Loc Cert.SiblingIdeal.nD Cert.SiblingIdeal.τ Cert.SiblingIdeal.sig) → Buf (Elt Ideal) ℓ) : Prop :=
  True

def Pre_SiblingRefIdeal (m : (ℓ : Loc Cert.SiblingRefIdeal.nD Cert.SiblingRefIdeal.τ Cert.SiblingRefIdeal.sig) → Buf (Elt Ideal) ℓ) : Prop :=
  True

def Pre_SiblingRef (m : (ℓ : Loc Cert.SiblingRef.nD Cert.SiblingRef.τ Cert.SiblingRef.sig) → Buf (Elt Bits) ℓ) : Prop :=
  True

def Pre_Chips (m : (ℓ : Loc Cert.Chips.nD Cert.Chips.τ Cert.Chips.sig) → Buf (Elt Bits) ℓ) : Prop :=
  True

def Pre_ChipsIdeal (m : (ℓ : Loc Cert.ChipsIdeal.nD Cert.ChipsIdeal.τ Cert.ChipsIdeal.sig) → Buf (Elt Ideal) ℓ) : Prop :=
  True

def Pre_ChipsRefIdeal (m : (ℓ : Loc Cert.ChipsRefIdeal.nD Cert.ChipsRefIdeal.τ Cert.ChipsRefIdeal.sig) → Buf (Elt Ideal) ℓ) : Prop :=
  True

def Pre_ChipsRef (m : (ℓ : Loc Cert.ChipsRef.nD Cert.ChipsRef.τ Cert.ChipsRef.sig) → Buf (Elt Bits) ℓ) : Prop :=
  True

def Pre_Share (m : (ℓ : Loc Cert.Share.nD Cert.Share.τ Cert.Share.sig) → Buf (Elt Bits) ℓ) : Prop :=
  True

def Pre_ShareIdeal (m : (ℓ : Loc Cert.ShareIdeal.nD Cert.ShareIdeal.τ Cert.ShareIdeal.sig) → Buf (Elt Ideal) ℓ) : Prop :=
  True

def Pre_ShareRefIdeal (m : (ℓ : Loc Cert.ShareRefIdeal.nD Cert.ShareRefIdeal.τ Cert.ShareRefIdeal.sig) → Buf (Elt Ideal) ℓ) : Prop :=
  True

def Pre_ShareRef (m : (ℓ : Loc Cert.ShareRef.nD Cert.ShareRef.τ Cert.ShareRef.sig) → Buf (Elt Bits) ℓ) : Prop :=
  True

def Pre_Gather (m : (ℓ : Loc Cert.Gather.nD Cert.Gather.τ Cert.Gather.sig) → Buf (Elt Bits) ℓ) : Prop :=
  True

def Pre_GatherIdeal (m : (ℓ : Loc Cert.GatherIdeal.nD Cert.GatherIdeal.τ Cert.GatherIdeal.sig) → Buf (Elt Ideal) ℓ) : Prop :=
  True

def Pre_GatherRefIdeal (m : (ℓ : Loc Cert.GatherRefIdeal.nD Cert.GatherRefIdeal.τ Cert.GatherRefIdeal.sig) → Buf (Elt Ideal) ℓ) : Prop :=
  True

def Pre_GatherRef (m : (ℓ : Loc Cert.GatherRef.nD Cert.GatherRef.τ Cert.GatherRef.sig) → Buf (Elt Bits) ℓ) : Prop :=
  True

def Pre_GatherSmall (m : (ℓ : Loc Cert.GatherSmall.nD Cert.GatherSmall.τ Cert.GatherSmall.sig) → Buf (Elt Bits) ℓ) : Prop :=
  True

def Pre_GatherSmallIdeal (m : (ℓ : Loc Cert.GatherSmallIdeal.nD Cert.GatherSmallIdeal.τ Cert.GatherSmallIdeal.sig) → Buf (Elt Ideal) ℓ) : Prop :=
  True

def Pre_GatherSmallRefIdeal (m : (ℓ : Loc Cert.GatherSmallRefIdeal.nD Cert.GatherSmallRefIdeal.τ Cert.GatherSmallRefIdeal.sig) → Buf (Elt Ideal) ℓ) : Prop :=
  True

def Pre_GatherSmallRef (m : (ℓ : Loc Cert.GatherSmallRef.nD Cert.GatherSmallRef.τ Cert.GatherSmallRef.sig) → Buf (Elt Bits) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamSquare (m : (ℓ : Loc Cert.AdamSquare.nD Cert.AdamSquare.τ Cert.AdamSquare.sig) → Buf (Elt Bits) ℓ) : Prop :=
  True

def Pre_AdamSquareIdeal (m : (ℓ : Loc Cert.AdamSquareIdeal.nD Cert.AdamSquareIdeal.τ Cert.AdamSquareIdeal.sig) → Buf (Elt Ideal) ℓ) : Prop :=
  True

def Pre_AdamSquareRefIdeal (m : (ℓ : Loc Cert.AdamSquareRefIdeal.nD Cert.AdamSquareRefIdeal.τ Cert.AdamSquareRefIdeal.sig) → Buf (Elt Ideal) ℓ) : Prop :=
  True

def Pre_AdamMeta (m : (ℓ : Loc Cert.AdamMeta.nD Cert.AdamMeta.τ Cert.AdamMeta.sig) → Buf (Elt Bits) ℓ) : Prop :=
  True

def Pre_AdamMetaIdeal (m : (ℓ : Loc Cert.AdamMetaIdeal.nD Cert.AdamMetaIdeal.τ Cert.AdamMetaIdeal.sig) → Buf (Elt Ideal) ℓ) : Prop :=
  True

def Pre_AdamMetaRefIdeal (m : (ℓ : Loc Cert.AdamMetaRefIdeal.nD Cert.AdamMetaRefIdeal.τ Cert.AdamMetaRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_LossGrad (m : (ℓ : Loc Cert.LossGrad.nD Cert.LossGrad.τ Cert.LossGrad.sig) → Buf (Elt Bits) ℓ) : Prop :=
  True

def Pre_LossGradIdeal (m : (ℓ : Loc Cert.LossGradIdeal.nD Cert.LossGradIdeal.τ Cert.LossGradIdeal.sig) → Buf (Elt Ideal) ℓ) : Prop :=
  True

def Pre_LossGradRefIdeal (m : (ℓ : Loc Cert.LossGradRefIdeal.nD Cert.LossGradRefIdeal.τ Cert.LossGradRefIdeal.sig) → Buf (Elt Ideal) ℓ) : Prop :=
  True

def Pre_TnUp (m : (ℓ : Loc Cert.TnUp.nD Cert.TnUp.τ Cert.TnUp.sig) → Buf (Elt Bits) ℓ) : Prop :=
  True

def Pre_TnUpIdeal (m : (ℓ : Loc Cert.TnUpIdeal.nD Cert.TnUpIdeal.τ Cert.TnUpIdeal.sig) → Buf (Elt Ideal) ℓ) : Prop :=
  True

def Pre_TnUpRefIdeal (m : (ℓ : Loc Cert.TnUpRefIdeal.nD Cert.TnUpRefIdeal.τ Cert.TnUpRefIdeal.sig) → Buf (Elt Ideal) ℓ) : Prop :=
  True

def Pre_TnDown (m : (ℓ : Loc Cert.TnDown.nD Cert.TnDown.τ Cert.TnDown.sig) → Buf (Elt Bits) ℓ) : Prop :=
  True

def Pre_TnDownIdeal (m : (ℓ : Loc Cert.TnDownIdeal.nD Cert.TnDownIdeal.τ Cert.TnDownIdeal.sig) → Buf (Elt Ideal) ℓ) : Prop :=
  True

def Pre_TnDownRefIdeal (m : (ℓ : Loc Cert.TnDownRefIdeal.nD Cert.TnDownRefIdeal.τ Cert.TnDownRefIdeal.sig) → Buf (Elt Ideal) ℓ) : Prop :=
  True

def Pre_TnSquare (m : (ℓ : Loc Cert.TnSquare.nD Cert.TnSquare.τ Cert.TnSquare.sig) → Buf (Elt Bits) ℓ) : Prop :=
  True

def Pre_TnSquareIdeal (m : (ℓ : Loc Cert.TnSquareIdeal.nD Cert.TnSquareIdeal.τ Cert.TnSquareIdeal.sig) → Buf (Elt Ideal) ℓ) : Prop :=
  True

def Pre_TnSquareRefIdeal (m : (ℓ : Loc Cert.TnSquareRefIdeal.nD Cert.TnSquareRefIdeal.τ Cert.TnSquareRefIdeal.sig) → Buf (Elt Ideal) ℓ) : Prop :=
  True

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdRefIdeal (m : (ℓ : Loc Cert.FfnFwdRefIdeal.nD Cert.FfnFwdRefIdeal.τ Cert.FfnFwdRefIdeal.sig) → Buf (Elt Ideal) ℓ) : Prop :=
  True

def Pre_BwdDown (m : (ℓ : Loc Cert.BwdDown.nD Cert.BwdDown.τ Cert.BwdDown.sig) → Buf (Elt Bits) ℓ) : Prop :=
  True

def Pre_BwdDownIdeal (m : (ℓ : Loc Cert.BwdDownIdeal.nD Cert.BwdDownIdeal.τ Cert.BwdDownIdeal.sig) → Buf (Elt Ideal) ℓ) : Prop :=
  True

def Pre_BwdDownRefIdeal (m : (ℓ : Loc Cert.BwdDownRefIdeal.nD Cert.BwdDownRefIdeal.τ Cert.BwdDownRefIdeal.sig) → Buf (Elt Ideal) ℓ) : Prop :=
  True

def Pre_BwdUp (m : (ℓ : Loc Cert.BwdUp.nD Cert.BwdUp.τ Cert.BwdUp.sig) → Buf (Elt Bits) ℓ) : Prop :=
  True

def Pre_BwdUpIdeal (m : (ℓ : Loc Cert.BwdUpIdeal.nD Cert.BwdUpIdeal.τ Cert.BwdUpIdeal.sig) → Buf (Elt Ideal) ℓ) : Prop :=
  True

def Pre_BwdUpRefIdeal (m : (ℓ : Loc Cert.BwdUpRefIdeal.nD Cert.BwdUpRefIdeal.τ Cert.BwdUpRefIdeal.sig) → Buf (Elt Ideal) ℓ) : Prop :=
  True

def Pre_HalfUp [hPre_core_named : Cert.Pre_core_named.Facts] (m : (ℓ : Loc Cert.HalfUp.nD Cert.HalfUp.τ Cert.HalfUp.sig) → Buf (Elt Bits) ℓ) : Prop :=
  ∀ c : Dev Cert.HalfUp.nD,
    (Cert.Pre_core_named.fn (F := Bits) (m ((c.tc : Thread Cert.HalfUp.nD Cert.HalfUp.τ).loc Cert.HalfUp.main_arg0)) (m ((c.tc : Thread Cert.HalfUp.nD Cert.HalfUp.τ).loc Cert.HalfUp.main_arg1)) (m ((c.tc : Thread Cert.HalfUp.nD Cert.HalfUp.τ).loc Cert.HalfUp.main_arg2))) = (fun _ => 1#1)

def Pre_HalfUpIdeal [hPre_core_named : Cert.Pre_core_named.Facts] (m : (ℓ : Loc Cert.HalfUpIdeal.nD Cert.HalfUpIdeal.τ Cert.HalfUpIdeal.sig) → Buf (Elt Ideal) ℓ) : Prop :=
  ∀ c : Dev Cert.HalfUpIdeal.nD,
    (Cert.Pre_core_named.fn (F := Ideal) (m ((c.tc : Thread Cert.HalfUpIdeal.nD Cert.HalfUpIdeal.τ).loc Cert.HalfUpIdeal.main_arg0)) (m ((c.tc : Thread Cert.HalfUpIdeal.nD Cert.HalfUpIdeal.τ).loc Cert.HalfUpIdeal.main_arg1)) (m ((c.tc : Thread Cert.HalfUpIdeal.nD Cert.HalfUpIdeal.τ).loc Cert.HalfUpIdeal.main_arg2))) = (fun _ => 1#1)

def Pre_HalfUpRefIdeal (m : (ℓ : Loc Cert.HalfUpRefIdeal.nD Cert.HalfUpRefIdeal.τ Cert.HalfUpRefIdeal.sig) → Buf (Elt Ideal) ℓ) : Prop :=
  True

def Pre_HalfUpRefIdeal_core_named [hPre_core_named : Cert.Pre_core_named.Facts] (m : (ℓ : Loc Cert.HalfUpRefIdeal.nD Cert.HalfUpRefIdeal.τ Cert.HalfUpRefIdeal.sig) → Buf (Elt Ideal) ℓ) : Prop :=
  ∀ c : Dev Cert.HalfUpRefIdeal.nD,
    (Cert.Pre_core_named.fn (F := Ideal) (m ((c.tc : Thread Cert.HalfUpRefIdeal.nD Cert.HalfUpRefIdeal.τ).loc Cert.HalfUpRefIdeal.main_arg0)) (m ((c.tc : Thread Cert.HalfUpRefIdeal.nD Cert.HalfUpRefIdeal.τ).loc Cert.HalfUpRefIdeal.main_arg1)) (m ((c.tc : Thread Cert.HalfUpRefIdeal.nD Cert.HalfUpRefIdeal.τ).loc Cert.HalfUpRefIdeal.main_arg2))) = (fun _ => 1#1)

def Pre_AddUp [hPre_chip_named : Cert.Pre_chip_named.Facts] (m : (ℓ : Loc Cert.AddUp.nD Cert.AddUp.τ Cert.AddUp.sig) → Buf (Elt Bits) ℓ) : Prop :=
  ∀ c : Dev Cert.AddUp.nD,
    (Cert.Pre_chip_named.fn (F := Bits) (m ((c.tc : Thread Cert.AddUp.nD Cert.AddUp.τ).loc Cert.AddUp.main_arg0)) (m ((c.tc : Thread Cert.AddUp.nD Cert.AddUp.τ).loc Cert.AddUp.main_arg1)) (m ((c.tc : Thread Cert.AddUp.nD Cert.AddUp.τ).loc Cert.AddUp.main_arg2))) = (fun _ => 1#1)

def Pre_AddUpIdeal [hPre_chip_named : Cert.Pre_chip_named.Facts] (m : (ℓ : Loc Cert.AddUpIdeal.nD Cert.AddUpIdeal.τ Cert.AddUpIdeal.sig) → Buf (Elt Ideal) ℓ) : Prop :=
  ∀ c : Dev Cert.AddUpIdeal.nD,
    (Cert.Pre_chip_named.fn (F := Ideal) (m ((c.tc : Thread Cert.AddUpIdeal.nD Cert.AddUpIdeal.τ).loc Cert.AddUpIdeal.main_arg0)) (m ((c.tc : Thread Cert.AddUpIdeal.nD Cert.AddUpIdeal.τ).loc Cert.AddUpIdeal.main_arg1)) (m ((c.tc : Thread Cert.AddUpIdeal.nD Cert.AddUpIdeal.τ).loc Cert.AddUpIdeal.main_arg2))) = (fun _ => 1#1)

def Pre_AddUpRefIdeal (m : (ℓ : Loc Cert.AddUpRefIdeal.nD Cert.AddUpRefIdeal.τ Cert.AddUpRefIdeal.sig) → Buf (Elt Ideal) ℓ) : Prop :=
  True

def Pre_AddUpRefIdeal_chip_named [hPre_chip_named : Cert.Pre_chip_named.Facts] (m : (ℓ : Loc Cert.AddUpRefIdeal.nD Cert.AddUpRefIdeal.τ Cert.AddUpRefIdeal.sig) → Buf (Elt Ideal) ℓ) : Prop :=
  ∀ c : Dev Cert.AddUpRefIdeal.nD,
    (Cert.Pre_chip_named.fn (F := Ideal) (m ((c.tc : Thread Cert.AddUpRefIdeal.nD Cert.AddUpRefIdeal.τ).loc Cert.AddUpRefIdeal.main_arg0)) (m ((c.tc : Thread Cert.AddUpRefIdeal.nD Cert.AddUpRefIdeal.τ).loc Cert.AddUpRefIdeal.main_arg1)) (m ((c.tc : Thread Cert.AddUpRefIdeal.nD Cert.AddUpRefIdeal.τ).loc Cert.AddUpRefIdeal.main_arg2))) = (fun _ => 1#1)

def quiescent_Sibling [hSibling : Cert.Sibling.Facts] : Prop :=
  ∀ (m : (ℓ : Loc Cert.Sibling.nD Cert.Sibling.τ Cert.Sibling.sig) → Buf (Elt Bits) ℓ) (g : Dev Cert.Sibling.nD → PrngReg), Pre_Sibling m →
    θ_run (Cert.Sibling.defs (F := Bits)) (onTc (τ := Cert.Sibling.τ) (Cert.Sibling.main (F := Bits))) ⟨m, fun _ => 0, g⟩ (fun r => (∀ c : Dev Cert.Sibling.nD,
      r.2.mem ((c.tc : Thread Cert.Sibling.nD Cert.Sibling.τ).loc Cert.Sibling.main_arg0) = m ((c.tc : Thread Cert.Sibling.nD Cert.Sibling.τ).loc Cert.Sibling.main_arg0)
      ∧ r.2.mem ((c.tc : Thread Cert.Sibling.nD Cert.Sibling.τ).loc Cert.Sibling.main_arg1) = m ((c.tc : Thread Cert.Sibling.nD Cert.Sibling.τ).loc Cert.Sibling.main_arg1)
      ∧ r.2.mem ((c.tc : Thread Cert.Sibling.nD Cert.Sibling.τ).loc Cert.Sibling.main_arg2) = m ((c.tc : Thread Cert.Sibling.nD Cert.Sibling.τ).loc Cert.Sibling.main_arg2)
      ∧ r.2.mem ((c.tc : Thread Cert.Sibling.nD Cert.Sibling.τ).loc Cert.Sibling.main_arg3) = m ((c.tc : Thread Cert.Sibling.nD Cert.Sibling.τ).loc Cert.Sibling.main_arg3)
      ∧ r.2.mem ((c.tc : Thread Cert.Sibling.nD Cert.Sibling.τ).loc Cert.Sibling.main_arg4) = m ((c.tc : Thread Cert.Sibling.nD Cert.Sibling.τ).loc Cert.Sibling.main_arg4)
      ∧ r.2.mem ((c.tc : Thread Cert.Sibling.nD Cert.Sibling.τ).loc Cert.Sibling.main_arg5) = m ((c.tc : Thread Cert.Sibling.nD Cert.Sibling.τ).loc Cert.Sibling.main_arg5)
      ∧ r.2.mem ((c.tc : Thread Cert.Sibling.nD Cert.Sibling.τ).loc Cert.Sibling.main_arg6) = m ((c.tc : Thread Cert.Sibling.nD Cert.Sibling.τ).loc Cert.Sibling.main_arg6)
      ∧ r.2.mem ((c.tc : Thread Cert.Sibling.nD Cert.Sibling.τ).loc Cert.Sibling.main_arg7) = m ((c.tc : Thread Cert.Sibling.nD Cert.Sibling.τ).loc Cert.Sibling.main_arg7)
      ∧ r.2.mem ((c.tc : Thread Cert.Sibling.nD Cert.Sibling.τ).loc Cert.Sibling.main_arg8) = m ((c.tc : Thread Cert.Sibling.nD Cert.Sibling.τ).loc Cert.Sibling.main_arg8))
      ∧ r.2.sem = fun _ => 0)

def quiescent_SiblingIdeal [hSiblingIdeal : Cert.SiblingIdeal.Facts] : Prop :=
  ∀ (m : (ℓ : Loc Cert.SiblingIdeal.nD Cert.SiblingIdeal.τ Cert.SiblingIdeal.sig) → Buf (Elt Ideal) ℓ) (g : Dev Cert.SiblingIdeal.nD → PrngReg), Pre_SiblingIdeal m →
    θ_run (Cert.SiblingIdeal.defs (F := Ideal)) (onTc (τ := Cert.SiblingIdeal.τ) (Cert.SiblingIdeal.main (F := Ideal))) ⟨m, fun _ => 0, g⟩ (fun r => (∀ c : Dev Cert.SiblingIdeal.nD,
      r.2.mem ((c.tc : Thread Cert.SiblingIdeal.nD Cert.SiblingIdeal.τ).loc Cert.SiblingIdeal.main_arg0) = m ((c.tc : Thread Cert.SiblingIdeal.nD Cert.SiblingIdeal.τ).loc Cert.SiblingIdeal.main_arg0)
      ∧ r.2.mem ((c.tc : Thread Cert.SiblingIdeal.nD Cert.SiblingIdeal.τ).loc Cert.SiblingIdeal.main_arg1) = m ((c.tc : Thread Cert.SiblingIdeal.nD Cert.SiblingIdeal.τ).loc Cert.SiblingIdeal.main_arg1)
      ∧ r.2.mem ((c.tc : Thread Cert.SiblingIdeal.nD Cert.SiblingIdeal.τ).loc Cert.SiblingIdeal.main_arg2) = m ((c.tc : Thread Cert.SiblingIdeal.nD Cert.SiblingIdeal.τ).loc Cert.SiblingIdeal.main_arg2)
      ∧ r.2.mem ((c.tc : Thread Cert.SiblingIdeal.nD Cert.SiblingIdeal.τ).loc Cert.SiblingIdeal.main_arg3) = m ((c.tc : Thread Cert.SiblingIdeal.nD Cert.SiblingIdeal.τ).loc Cert.SiblingIdeal.main_arg3)
      ∧ r.2.mem ((c.tc : Thread Cert.SiblingIdeal.nD Cert.SiblingIdeal.τ).loc Cert.SiblingIdeal.main_arg4) = m ((c.tc : Thread Cert.SiblingIdeal.nD Cert.SiblingIdeal.τ).loc Cert.SiblingIdeal.main_arg4)
      ∧ r.2.mem ((c.tc : Thread Cert.SiblingIdeal.nD Cert.SiblingIdeal.τ).loc Cert.SiblingIdeal.main_arg5) = m ((c.tc : Thread Cert.SiblingIdeal.nD Cert.SiblingIdeal.τ).loc Cert.SiblingIdeal.main_arg5)
      ∧ r.2.mem ((c.tc : Thread Cert.SiblingIdeal.nD Cert.SiblingIdeal.τ).loc Cert.SiblingIdeal.main_arg6) = m ((c.tc : Thread Cert.SiblingIdeal.nD Cert.SiblingIdeal.τ).loc Cert.SiblingIdeal.main_arg6)
      ∧ r.2.mem ((c.tc : Thread Cert.SiblingIdeal.nD Cert.SiblingIdeal.τ).loc Cert.SiblingIdeal.main_arg7) = m ((c.tc : Thread Cert.SiblingIdeal.nD Cert.SiblingIdeal.τ).loc Cert.SiblingIdeal.main_arg7)
      ∧ r.2.mem ((c.tc : Thread Cert.SiblingIdeal.nD Cert.SiblingIdeal.τ).loc Cert.SiblingIdeal.main_arg8) = m ((c.tc : Thread Cert.SiblingIdeal.nD Cert.SiblingIdeal.τ).loc Cert.SiblingIdeal.main_arg8))
      ∧ r.2.sem = fun _ => 0)

def quiescent_SiblingRefIdeal [hSiblingRefIdeal : Cert.SiblingRefIdeal.Facts] : Prop :=
  ∀ (m : (ℓ : Loc Cert.SiblingRefIdeal.nD Cert.SiblingRefIdeal.τ Cert.SiblingRefIdeal.sig) → Buf (Elt Ideal) ℓ) (g : Dev Cert.SiblingRefIdeal.nD → PrngReg), Pre_SiblingRefIdeal m →
    θ_run (Cert.SiblingRefIdeal.defs (F := Ideal)) (onTc (τ := Cert.SiblingRefIdeal.τ) (Cert.SiblingRefIdeal.main (F := Ideal))) ⟨m, fun _ => 0, g⟩ (fun r => (∀ c : Dev Cert.SiblingRefIdeal.nD,
      r.2.mem ((c.tc : Thread Cert.SiblingRefIdeal.nD Cert.SiblingRefIdeal.τ).loc Cert.SiblingRefIdeal.main_arg0) = m ((c.tc : Thread Cert.SiblingRefIdeal.nD Cert.SiblingRefIdeal.τ).loc Cert.SiblingRefIdeal.main_arg0)
      ∧ r.2.mem ((c.tc : Thread Cert.SiblingRefIdeal.nD Cert.SiblingRefIdeal.τ).loc Cert.SiblingRefIdeal.main_arg1) = m ((c.tc : Thread Cert.SiblingRefIdeal.nD Cert.SiblingRefIdeal.τ).loc Cert.SiblingRefIdeal.main_arg1)
      ∧ r.2.mem ((c.tc : Thread Cert.SiblingRefIdeal.nD Cert.SiblingRefIdeal.τ).loc Cert.SiblingRefIdeal.main_arg2) = m ((c.tc : Thread Cert.SiblingRefIdeal.nD Cert.SiblingRefIdeal.τ).loc Cert.SiblingRefIdeal.main_arg2)
      ∧ r.2.mem ((c.tc : Thread Cert.SiblingRefIdeal.nD Cert.SiblingRefIdeal.τ).loc Cert.SiblingRefIdeal.main_arg3) = m ((c.tc : Thread Cert.SiblingRefIdeal.nD Cert.SiblingRefIdeal.τ).loc Cert.SiblingRefIdeal.main_arg3)
      ∧ r.2.mem ((c.tc : Thread Cert.SiblingRefIdeal.nD Cert.SiblingRefIdeal.τ).loc Cert.SiblingRefIdeal.main_arg4) = m ((c.tc : Thread Cert.SiblingRefIdeal.nD Cert.SiblingRefIdeal.τ).loc Cert.SiblingRefIdeal.main_arg4)
      ∧ r.2.mem ((c.tc : Thread Cert.SiblingRefIdeal.nD Cert.SiblingRefIdeal.τ).loc Cert.SiblingRefIdeal.main_arg5) = m ((c.tc : Thread Cert.SiblingRefIdeal.nD Cert.SiblingRefIdeal.τ).loc Cert.SiblingRefIdeal.main_arg5)
      ∧ r.2.mem ((c.tc : Thread Cert.SiblingRefIdeal.nD Cert.SiblingRefIdeal.τ).loc Cert.SiblingRefIdeal.main_arg6) = m ((c.tc : Thread Cert.SiblingRefIdeal.nD Cert.SiblingRefIdeal.τ).loc Cert.SiblingRefIdeal.main_arg6)
      ∧ r.2.mem ((c.tc : Thread Cert.SiblingRefIdeal.nD Cert.SiblingRefIdeal.τ).loc Cert.SiblingRefIdeal.main_arg7) = m ((c.tc : Thread Cert.SiblingRefIdeal.nD Cert.SiblingRefIdeal.τ).loc Cert.SiblingRefIdeal.main_arg7)
      ∧ r.2.mem ((c.tc : Thread Cert.SiblingRefIdeal.nD Cert.SiblingRefIdeal.τ).loc Cert.SiblingRefIdeal.main_arg8) = m ((c.tc : Thread Cert.SiblingRefIdeal.nD Cert.SiblingRefIdeal.τ).loc Cert.SiblingRefIdeal.main_arg8))
      ∧ r.2.sem = fun _ => 0)

def quiescent_SiblingRef [hSiblingRef : Cert.SiblingRef.Facts] : Prop :=
  ∀ (m : (ℓ : Loc Cert.SiblingRef.nD Cert.SiblingRef.τ Cert.SiblingRef.sig) → Buf (Elt Bits) ℓ) (g : Dev Cert.SiblingRef.nD → PrngReg), Pre_SiblingRef m →
    θ_run (Cert.SiblingRef.defs (F := Bits)) (onTc (τ := Cert.SiblingRef.τ) (Cert.SiblingRef.main (F := Bits))) ⟨m, fun _ => 0, g⟩ (fun r => (∀ c : Dev Cert.SiblingRef.nD,
      r.2.mem ((c.tc : Thread Cert.SiblingRef.nD Cert.SiblingRef.τ).loc Cert.SiblingRef.main_arg0) = m ((c.tc : Thread Cert.SiblingRef.nD Cert.SiblingRef.τ).loc Cert.SiblingRef.main_arg0)
      ∧ r.2.mem ((c.tc : Thread Cert.SiblingRef.nD Cert.SiblingRef.τ).loc Cert.SiblingRef.main_arg1) = m ((c.tc : Thread Cert.SiblingRef.nD Cert.SiblingRef.τ).loc Cert.SiblingRef.main_arg1)
      ∧ r.2.mem ((c.tc : Thread Cert.SiblingRef.nD Cert.SiblingRef.τ).loc Cert.SiblingRef.main_arg2) = m ((c.tc : Thread Cert.SiblingRef.nD Cert.SiblingRef.τ).loc Cert.SiblingRef.main_arg2)
      ∧ r.2.mem ((c.tc : Thread Cert.SiblingRef.nD Cert.SiblingRef.τ).loc Cert.SiblingRef.main_arg3) = m ((c.tc : Thread Cert.SiblingRef.nD Cert.SiblingRef.τ).loc Cert.SiblingRef.main_arg3)
      ∧ r.2.mem ((c.tc : Thread Cert.SiblingRef.nD Cert.SiblingRef.τ).loc Cert.SiblingRef.main_arg4) = m ((c.tc : Thread Cert.SiblingRef.nD Cert.SiblingRef.τ).loc Cert.SiblingRef.main_arg4)
      ∧ r.2.mem ((c.tc : Thread Cert.SiblingRef.nD Cert.SiblingRef.τ).loc Cert.SiblingRef.main_arg5) = m ((c.tc : Thread Cert.SiblingRef.nD Cert.SiblingRef.τ).loc Cert.SiblingRef.main_arg5)
      ∧ r.2.mem ((c.tc : Thread Cert.SiblingRef.nD Cert.SiblingRef.τ).loc Cert.SiblingRef.main_arg6) = m ((c.tc : Thread Cert.SiblingRef.nD Cert.SiblingRef.τ).loc Cert.SiblingRef.main_arg6)
      ∧ r.2.mem ((c.tc : Thread Cert.SiblingRef.nD Cert.SiblingRef.τ).loc Cert.SiblingRef.main_arg7) = m ((c.tc : Thread Cert.SiblingRef.nD Cert.SiblingRef.τ).loc Cert.SiblingRef.main_arg7)
      ∧ r.2.mem ((c.tc : Thread Cert.SiblingRef.nD Cert.SiblingRef.τ).loc Cert.SiblingRef.main_arg8) = m ((c.tc : Thread Cert.SiblingRef.nD Cert.SiblingRef.τ).loc Cert.SiblingRef.main_arg8))
      ∧ r.2.sem = fun _ => 0)

def quiescent_Chips [hChips : Cert.Chips.Facts] : Prop :=
  ∀ (m : (ℓ : Loc Cert.Chips.nD Cert.Chips.τ Cert.Chips.sig) → Buf (Elt Bits) ℓ) (g : Dev Cert.Chips.nD → PrngReg), Pre_Chips m →
    θ_run (Cert.Chips.defs (F := Bits)) (onTc (τ := Cert.Chips.τ) (Cert.Chips.main (F := Bits))) ⟨m, fun _ => 0, g⟩ (fun r => (∀ c : Dev Cert.Chips.nD,
      r.2.mem ((c.tc : Thread Cert.Chips.nD Cert.Chips.τ).loc Cert.Chips.main_arg0) = m ((c.tc : Thread Cert.Chips.nD Cert.Chips.τ).loc Cert.Chips.main_arg0)
      ∧ r.2.mem ((c.tc : Thread Cert.Chips.nD Cert.Chips.τ).loc Cert.Chips.main_arg1) = m ((c.tc : Thread Cert.Chips.nD Cert.Chips.τ).loc Cert.Chips.main_arg1)
      ∧ r.2.mem ((c.tc : Thread Cert.Chips.nD Cert.Chips.τ).loc Cert.Chips.main_arg2) = m ((c.tc : Thread Cert.Chips.nD Cert.Chips.τ).loc Cert.Chips.main_arg2)
      ∧ r.2.mem ((c.tc : Thread Cert.Chips.nD Cert.Chips.τ).loc Cert.Chips.main_arg3) = m ((c.tc : Thread Cert.Chips.nD Cert.Chips.τ).loc Cert.Chips.main_arg3)
      ∧ r.2.mem ((c.tc : Thread Cert.Chips.nD Cert.Chips.τ).loc Cert.Chips.main_arg4) = m ((c.tc : Thread Cert.Chips.nD Cert.Chips.τ).loc Cert.Chips.main_arg4)
      ∧ r.2.mem ((c.tc : Thread Cert.Chips.nD Cert.Chips.τ).loc Cert.Chips.main_arg5) = m ((c.tc : Thread Cert.Chips.nD Cert.Chips.τ).loc Cert.Chips.main_arg5)
      ∧ r.2.mem ((c.tc : Thread Cert.Chips.nD Cert.Chips.τ).loc Cert.Chips.main_arg6) = m ((c.tc : Thread Cert.Chips.nD Cert.Chips.τ).loc Cert.Chips.main_arg6)
      ∧ r.2.mem ((c.tc : Thread Cert.Chips.nD Cert.Chips.τ).loc Cert.Chips.main_arg7) = m ((c.tc : Thread Cert.Chips.nD Cert.Chips.τ).loc Cert.Chips.main_arg7)
      ∧ r.2.mem ((c.tc : Thread Cert.Chips.nD Cert.Chips.τ).loc Cert.Chips.main_arg8) = m ((c.tc : Thread Cert.Chips.nD Cert.Chips.τ).loc Cert.Chips.main_arg8))
      ∧ r.2.sem = fun _ => 0)

def quiescent_ChipsIdeal [hChipsIdeal : Cert.ChipsIdeal.Facts] : Prop :=
  ∀ (m : (ℓ : Loc Cert.ChipsIdeal.nD Cert.ChipsIdeal.τ Cert.ChipsIdeal.sig) → Buf (Elt Ideal) ℓ) (g : Dev Cert.ChipsIdeal.nD → PrngReg), Pre_ChipsIdeal m →
    θ_run (Cert.ChipsIdeal.defs (F := Ideal)) (onTc (τ := Cert.ChipsIdeal.τ) (Cert.ChipsIdeal.main (F := Ideal))) ⟨m, fun _ => 0, g⟩ (fun r => (∀ c : Dev Cert.ChipsIdeal.nD,
      r.2.mem ((c.tc : Thread Cert.ChipsIdeal.nD Cert.ChipsIdeal.τ).loc Cert.ChipsIdeal.main_arg0) = m ((c.tc : Thread Cert.ChipsIdeal.nD Cert.ChipsIdeal.τ).loc Cert.ChipsIdeal.main_arg0)
      ∧ r.2.mem ((c.tc : Thread Cert.ChipsIdeal.nD Cert.ChipsIdeal.τ).loc Cert.ChipsIdeal.main_arg1) = m ((c.tc : Thread Cert.ChipsIdeal.nD Cert.ChipsIdeal.τ).loc Cert.ChipsIdeal.main_arg1)
      ∧ r.2.mem ((c.tc : Thread Cert.ChipsIdeal.nD Cert.ChipsIdeal.τ).loc Cert.ChipsIdeal.main_arg2) = m ((c.tc : Thread Cert.ChipsIdeal.nD Cert.ChipsIdeal.τ).loc Cert.ChipsIdeal.main_arg2)
      ∧ r.2.mem ((c.tc : Thread Cert.ChipsIdeal.nD Cert.ChipsIdeal.τ).loc Cert.ChipsIdeal.main_arg3) = m ((c.tc : Thread Cert.ChipsIdeal.nD Cert.ChipsIdeal.τ).loc Cert.ChipsIdeal.main_arg3)
      ∧ r.2.mem ((c.tc : Thread Cert.ChipsIdeal.nD Cert.ChipsIdeal.τ).loc Cert.ChipsIdeal.main_arg4) = m ((c.tc : Thread Cert.ChipsIdeal.nD Cert.ChipsIdeal.τ).loc Cert.ChipsIdeal.main_arg4)
      ∧ r.2.mem ((c.tc : Thread Cert.ChipsIdeal.nD Cert.ChipsIdeal.τ).loc Cert.ChipsIdeal.main_arg5) = m ((c.tc : Thread Cert.ChipsIdeal.nD Cert.ChipsIdeal.τ).loc Cert.ChipsIdeal.main_arg5)
      ∧ r.2.mem ((c.tc : Thread Cert.ChipsIdeal.nD Cert.ChipsIdeal.τ).loc Cert.ChipsIdeal.main_arg6) = m ((c.tc : Thread Cert.ChipsIdeal.nD Cert.ChipsIdeal.τ).loc Cert.ChipsIdeal.main_arg6)
      ∧ r.2.mem ((c.tc : Thread Cert.ChipsIdeal.nD Cert.ChipsIdeal.τ).loc Cert.ChipsIdeal.main_arg7) = m ((c.tc : Thread Cert.ChipsIdeal.nD Cert.ChipsIdeal.τ).loc Cert.ChipsIdeal.main_arg7)
      ∧ r.2.mem ((c.tc : Thread Cert.ChipsIdeal.nD Cert.ChipsIdeal.τ).loc Cert.ChipsIdeal.main_arg8) = m ((c.tc : Thread Cert.ChipsIdeal.nD Cert.ChipsIdeal.τ).loc Cert.ChipsIdeal.main_arg8))
      ∧ r.2.sem = fun _ => 0)

def quiescent_ChipsRefIdeal [hChipsRefIdeal : Cert.ChipsRefIdeal.Facts] : Prop :=
  ∀ (m : (ℓ : Loc Cert.ChipsRefIdeal.nD Cert.ChipsRefIdeal.τ Cert.ChipsRefIdeal.sig) → Buf (Elt Ideal) ℓ) (g : Dev Cert.ChipsRefIdeal.nD → PrngReg), Pre_ChipsRefIdeal m →
    θ_run (Cert.ChipsRefIdeal.defs (F := Ideal)) (onTc (τ := Cert.ChipsRefIdeal.τ) (Cert.ChipsRefIdeal.main (F := Ideal))) ⟨m, fun _ => 0, g⟩ (fun r => (∀ c : Dev Cert.ChipsRefIdeal.nD,
      r.2.mem ((c.tc : Thread Cert.ChipsRefIdeal.nD Cert.ChipsRefIdeal.τ).loc Cert.ChipsRefIdeal.main_arg0) = m ((c.tc : Thread Cert.ChipsRefIdeal.nD Cert.ChipsRefIdeal.τ).loc Cert.ChipsRefIdeal.main_arg0)
      ∧ r.2.mem ((c.tc : Thread Cert.ChipsRefIdeal.nD Cert.ChipsRefIdeal.τ).loc Cert.ChipsRefIdeal.main_arg1) = m ((c.tc : Thread Cert.ChipsRefIdeal.nD Cert.ChipsRefIdeal.τ).loc Cert.ChipsRefIdeal.main_arg1)
      ∧ r.2.mem ((c.tc : Thread Cert.ChipsRefIdeal.nD Cert.ChipsRefIdeal.τ).loc Cert.ChipsRefIdeal.main_arg2) = m ((c.tc : Thread Cert.ChipsRefIdeal.nD Cert.ChipsRefIdeal.τ).loc Cert.ChipsRefIdeal.main_arg2)
      ∧ r.2.mem ((c.tc : Thread Cert.ChipsRefIdeal.nD Cert.ChipsRefIdeal.τ).loc Cert.ChipsRefIdeal.main_arg3) = m ((c.tc : Thread Cert.ChipsRefIdeal.nD Cert.ChipsRefIdeal.τ).loc Cert.ChipsRefIdeal.main_arg3)
      ∧ r.2.mem ((c.tc : Thread Cert.ChipsRefIdeal.nD Cert.ChipsRefIdeal.τ).loc Cert.ChipsRefIdeal.main_arg4) = m ((c.tc : Thread Cert.ChipsRefIdeal.nD Cert.ChipsRefIdeal.τ).loc Cert.ChipsRefIdeal.main_arg4)
      ∧ r.2.mem ((c.tc : Thread Cert.ChipsRefIdeal.nD Cert.ChipsRefIdeal.τ).loc Cert.ChipsRefIdeal.main_arg5) = m ((c.tc : Thread Cert.ChipsRefIdeal.nD Cert.ChipsRefIdeal.τ).loc Cert.ChipsRefIdeal.main_arg5)
      ∧ r.2.mem ((c.tc : Thread Cert.ChipsRefIdeal.nD Cert.ChipsRefIdeal.τ).loc Cert.ChipsRefIdeal.main_arg6) = m ((c.tc : Thread Cert.ChipsRefIdeal.nD Cert.ChipsRefIdeal.τ).loc Cert.ChipsRefIdeal.main_arg6)
      ∧ r.2.mem ((c.tc : Thread Cert.ChipsRefIdeal.nD Cert.ChipsRefIdeal.τ).loc Cert.ChipsRefIdeal.main_arg7) = m ((c.tc : Thread Cert.ChipsRefIdeal.nD Cert.ChipsRefIdeal.τ).loc Cert.ChipsRefIdeal.main_arg7)
      ∧ r.2.mem ((c.tc : Thread Cert.ChipsRefIdeal.nD Cert.ChipsRefIdeal.τ).loc Cert.ChipsRefIdeal.main_arg8) = m ((c.tc : Thread Cert.ChipsRefIdeal.nD Cert.ChipsRefIdeal.τ).loc Cert.ChipsRefIdeal.main_arg8))
      ∧ r.2.sem = fun _ => 0)

def quiescent_ChipsRef [hChipsRef : Cert.ChipsRef.Facts] : Prop :=
  ∀ (m : (ℓ : Loc Cert.ChipsRef.nD Cert.ChipsRef.τ Cert.ChipsRef.sig) → Buf (Elt Bits) ℓ) (g : Dev Cert.ChipsRef.nD → PrngReg), Pre_ChipsRef m →
    θ_run (Cert.ChipsRef.defs (F := Bits)) (onTc (τ := Cert.ChipsRef.τ) (Cert.ChipsRef.main (F := Bits))) ⟨m, fun _ => 0, g⟩ (fun r => (∀ c : Dev Cert.ChipsRef.nD,
      r.2.mem ((c.tc : Thread Cert.ChipsRef.nD Cert.ChipsRef.τ).loc Cert.ChipsRef.main_arg0) = m ((c.tc : Thread Cert.ChipsRef.nD Cert.ChipsRef.τ).loc Cert.ChipsRef.main_arg0)
      ∧ r.2.mem ((c.tc : Thread Cert.ChipsRef.nD Cert.ChipsRef.τ).loc Cert.ChipsRef.main_arg1) = m ((c.tc : Thread Cert.ChipsRef.nD Cert.ChipsRef.τ).loc Cert.ChipsRef.main_arg1)
      ∧ r.2.mem ((c.tc : Thread Cert.ChipsRef.nD Cert.ChipsRef.τ).loc Cert.ChipsRef.main_arg2) = m ((c.tc : Thread Cert.ChipsRef.nD Cert.ChipsRef.τ).loc Cert.ChipsRef.main_arg2)
      ∧ r.2.mem ((c.tc : Thread Cert.ChipsRef.nD Cert.ChipsRef.τ).loc Cert.ChipsRef.main_arg3) = m ((c.tc : Thread Cert.ChipsRef.nD Cert.ChipsRef.τ).loc Cert.ChipsRef.main_arg3)
      ∧ r.2.mem ((c.tc : Thread Cert.ChipsRef.nD Cert.ChipsRef.τ).loc Cert.ChipsRef.main_arg4) = m ((c.tc : Thread Cert.ChipsRef.nD Cert.ChipsRef.τ).loc Cert.ChipsRef.main_arg4)
      ∧ r.2.mem ((c.tc : Thread Cert.ChipsRef.nD Cert.ChipsRef.τ).loc Cert.ChipsRef.main_arg5) = m ((c.tc : Thread Cert.ChipsRef.nD Cert.ChipsRef.τ).loc Cert.ChipsRef.main_arg5)
      ∧ r.2.mem ((c.tc : Thread Cert.ChipsRef.nD Cert.ChipsRef.τ).loc Cert.ChipsRef.main_arg6) = m ((c.tc : Thread Cert.ChipsRef.nD Cert.ChipsRef.τ).loc Cert.ChipsRef.main_arg6)
      ∧ r.2.mem ((c.tc : Thread Cert.ChipsRef.nD Cert.ChipsRef.τ).loc Cert.ChipsRef.main_arg7) = m ((c.tc : Thread Cert.ChipsRef.nD Cert.ChipsRef.τ).loc Cert.ChipsRef.main_arg7)
      ∧ r.2.mem ((c.tc : Thread Cert.ChipsRef.nD Cert.ChipsRef.τ).loc Cert.ChipsRef.main_arg8) = m ((c.tc : Thread Cert.ChipsRef.nD Cert.ChipsRef.τ).loc Cert.ChipsRef.main_arg8))
      ∧ r.2.sem = fun _ => 0)

def quiescent_Share [hShare : Cert.Share.Facts] : Prop :=
  ∀ (m : (ℓ : Loc Cert.Share.nD Cert.Share.τ Cert.Share.sig) → Buf (Elt Bits) ℓ) (g : Dev Cert.Share.nD → PrngReg), Pre_Share m →
    θ_run (Cert.Share.defs (F := Bits)) (onTc (τ := Cert.Share.τ) (Cert.Share.main (F := Bits))) ⟨m, fun _ => 0, g⟩ (fun r => (∀ c : Dev Cert.Share.nD,
      r.2.mem ((c.tc : Thread Cert.Share.nD Cert.Share.τ).loc Cert.Share.main_arg0) = m ((c.tc : Thread Cert.Share.nD Cert.Share.τ).loc Cert.Share.main_arg0)
      ∧ r.2.mem ((c.tc : Thread Cert.Share.nD Cert.Share.τ).loc Cert.Share.main_arg1) = m ((c.tc : Thread Cert.Share.nD Cert.Share.τ).loc Cert.Share.main_arg1)
      ∧ r.2.mem ((c.tc : Thread Cert.Share.nD Cert.Share.τ).loc Cert.Share.main_arg2) = m ((c.tc : Thread Cert.Share.nD Cert.Share.τ).loc Cert.Share.main_arg2)
      ∧ r.2.mem ((c.tc : Thread Cert.Share.nD Cert.Share.τ).loc Cert.Share.main_arg3) = m ((c.tc : Thread Cert.Share.nD Cert.Share.τ).loc Cert.Share.main_arg3)
      ∧ r.2.mem ((c.tc : Thread Cert.Share.nD Cert.Share.τ).loc Cert.Share.main_arg4) = m ((c.tc : Thread Cert.Share.nD Cert.Share.τ).loc Cert.Share.main_arg4)
      ∧ r.2.mem ((c.tc : Thread Cert.Share.nD Cert.Share.τ).loc Cert.Share.main_arg5) = m ((c.tc : Thread Cert.Share.nD Cert.Share.τ).loc Cert.Share.main_arg5)
      ∧ r.2.mem ((c.tc : Thread Cert.Share.nD Cert.Share.τ).loc Cert.Share.main_arg6) = m ((c.tc : Thread Cert.Share.nD Cert.Share.τ).loc Cert.Share.main_arg6)
      ∧ r.2.mem ((c.tc : Thread Cert.Share.nD Cert.Share.τ).loc Cert.Share.main_arg7) = m ((c.tc : Thread Cert.Share.nD Cert.Share.τ).loc Cert.Share.main_arg7)
      ∧ r.2.mem ((c.tc : Thread Cert.Share.nD Cert.Share.τ).loc Cert.Share.main_arg8) = m ((c.tc : Thread Cert.Share.nD Cert.Share.τ).loc Cert.Share.main_arg8))
      ∧ r.2.sem = fun _ => 0)

def quiescent_ShareIdeal [hShareIdeal : Cert.ShareIdeal.Facts] : Prop :=
  ∀ (m : (ℓ : Loc Cert.ShareIdeal.nD Cert.ShareIdeal.τ Cert.ShareIdeal.sig) → Buf (Elt Ideal) ℓ) (g : Dev Cert.ShareIdeal.nD → PrngReg), Pre_ShareIdeal m →
    θ_run (Cert.ShareIdeal.defs (F := Ideal)) (onTc (τ := Cert.ShareIdeal.τ) (Cert.ShareIdeal.main (F := Ideal))) ⟨m, fun _ => 0, g⟩ (fun r => (∀ c : Dev Cert.ShareIdeal.nD,
      r.2.mem ((c.tc : Thread Cert.ShareIdeal.nD Cert.ShareIdeal.τ).loc Cert.ShareIdeal.main_arg0) = m ((c.tc : Thread Cert.ShareIdeal.nD Cert.ShareIdeal.τ).loc Cert.ShareIdeal.main_arg0)
      ∧ r.2.mem ((c.tc : Thread Cert.ShareIdeal.nD Cert.ShareIdeal.τ).loc Cert.ShareIdeal.main_arg1) = m ((c.tc : Thread Cert.ShareIdeal.nD Cert.ShareIdeal.τ).loc Cert.ShareIdeal.main_arg1)
      ∧ r.2.mem ((c.tc : Thread Cert.ShareIdeal.nD Cert.ShareIdeal.τ).loc Cert.ShareIdeal.main_arg2) = m ((c.tc : Thread Cert.ShareIdeal.nD Cert.ShareIdeal.τ).loc Cert.ShareIdeal.main_arg2)
      ∧ r.2.mem ((c.tc : Thread Cert.ShareIdeal.nD Cert.ShareIdeal.τ).loc Cert.ShareIdeal.main_arg3) = m ((c.tc : Thread Cert.ShareIdeal.nD Cert.ShareIdeal.τ).loc Cert.ShareIdeal.main_arg3)
      ∧ r.2.mem ((c.tc : Thread Cert.ShareIdeal.nD Cert.ShareIdeal.τ).loc Cert.ShareIdeal.main_arg4) = m ((c.tc : Thread Cert.ShareIdeal.nD Cert.ShareIdeal.τ).loc Cert.ShareIdeal.main_arg4)
      ∧ r.2.mem ((c.tc : Thread Cert.ShareIdeal.nD Cert.ShareIdeal.τ).loc Cert.ShareIdeal.main_arg5) = m ((c.tc : Thread Cert.ShareIdeal.nD Cert.ShareIdeal.τ).loc Cert.ShareIdeal.main_arg5)
      ∧ r.2.mem ((c.tc : Thread Cert.ShareIdeal.nD Cert.ShareIdeal.τ).loc Cert.ShareIdeal.main_arg6) = m ((c.tc : Thread Cert.ShareIdeal.nD Cert.ShareIdeal.τ).loc Cert.ShareIdeal.main_arg6)
      ∧ r.2.mem ((c.tc : Thread Cert.ShareIdeal.nD Cert.ShareIdeal.τ).loc Cert.ShareIdeal.main_arg7) = m ((c.tc : Thread Cert.ShareIdeal.nD Cert.ShareIdeal.τ).loc Cert.ShareIdeal.main_arg7)
      ∧ r.2.mem ((c.tc : Thread Cert.ShareIdeal.nD Cert.ShareIdeal.τ).loc Cert.ShareIdeal.main_arg8) = m ((c.tc : Thread Cert.ShareIdeal.nD Cert.ShareIdeal.τ).loc Cert.ShareIdeal.main_arg8))
      ∧ r.2.sem = fun _ => 0)

def quiescent_ShareRefIdeal [hShareRefIdeal : Cert.ShareRefIdeal.Facts] : Prop :=
  ∀ (m : (ℓ : Loc Cert.ShareRefIdeal.nD Cert.ShareRefIdeal.τ Cert.ShareRefIdeal.sig) → Buf (Elt Ideal) ℓ) (g : Dev Cert.ShareRefIdeal.nD → PrngReg), Pre_ShareRefIdeal m →
    θ_run (Cert.ShareRefIdeal.defs (F := Ideal)) (onTc (τ := Cert.ShareRefIdeal.τ) (Cert.ShareRefIdeal.main (F := Ideal))) ⟨m, fun _ => 0, g⟩ (fun r => (∀ c : Dev Cert.ShareRefIdeal.nD,
      r.2.mem ((c.tc : Thread Cert.ShareRefIdeal.nD Cert.ShareRefIdeal.τ).loc Cert.ShareRefIdeal.main_arg0) = m ((c.tc : Thread Cert.ShareRefIdeal.nD Cert.ShareRefIdeal.τ).loc Cert.ShareRefIdeal.main_arg0)
      ∧ r.2.mem ((c.tc : Thread Cert.ShareRefIdeal.nD Cert.ShareRefIdeal.τ).loc Cert.ShareRefIdeal.main_arg1) = m ((c.tc : Thread Cert.ShareRefIdeal.nD Cert.ShareRefIdeal.τ).loc Cert.ShareRefIdeal.main_arg1)
      ∧ r.2.mem ((c.tc : Thread Cert.ShareRefIdeal.nD Cert.ShareRefIdeal.τ).loc Cert.ShareRefIdeal.main_arg2) = m ((c.tc : Thread Cert.ShareRefIdeal.nD Cert.ShareRefIdeal.τ).loc Cert.ShareRefIdeal.main_arg2)
      ∧ r.2.mem ((c.tc : Thread Cert.ShareRefIdeal.nD Cert.ShareRefIdeal.τ).loc Cert.ShareRefIdeal.main_arg3) = m ((c.tc : Thread Cert.ShareRefIdeal.nD Cert.ShareRefIdeal.τ).loc Cert.ShareRefIdeal.main_arg3)
      ∧ r.2.mem ((c.tc : Thread Cert.ShareRefIdeal.nD Cert.ShareRefIdeal.τ).loc Cert.ShareRefIdeal.main_arg4) = m ((c.tc : Thread Cert.ShareRefIdeal.nD Cert.ShareRefIdeal.τ).loc Cert.ShareRefIdeal.main_arg4)
      ∧ r.2.mem ((c.tc : Thread Cert.ShareRefIdeal.nD Cert.ShareRefIdeal.τ).loc Cert.ShareRefIdeal.main_arg5) = m ((c.tc : Thread Cert.ShareRefIdeal.nD Cert.ShareRefIdeal.τ).loc Cert.ShareRefIdeal.main_arg5)
      ∧ r.2.mem ((c.tc : Thread Cert.ShareRefIdeal.nD Cert.ShareRefIdeal.τ).loc Cert.ShareRefIdeal.main_arg6) = m ((c.tc : Thread Cert.ShareRefIdeal.nD Cert.ShareRefIdeal.τ).loc Cert.ShareRefIdeal.main_arg6)
      ∧ r.2.mem ((c.tc : Thread Cert.ShareRefIdeal.nD Cert.ShareRefIdeal.τ).loc Cert.ShareRefIdeal.main_arg7) = m ((c.tc : Thread Cert.ShareRefIdeal.nD Cert.ShareRefIdeal.τ).loc Cert.ShareRefIdeal.main_arg7)
      ∧ r.2.mem ((c.tc : Thread Cert.ShareRefIdeal.nD Cert.ShareRefIdeal.τ).loc Cert.ShareRefIdeal.main_arg8) = m ((c.tc : Thread Cert.ShareRefIdeal.nD Cert.ShareRefIdeal.τ).loc Cert.ShareRefIdeal.main_arg8))
      ∧ r.2.sem = fun _ => 0)

def quiescent_ShareRef [hShareRef : Cert.ShareRef.Facts] : Prop :=
  ∀ (m : (ℓ : Loc Cert.ShareRef.nD Cert.ShareRef.τ Cert.ShareRef.sig) → Buf (Elt Bits) ℓ) (g : Dev Cert.ShareRef.nD → PrngReg), Pre_ShareRef m →
    θ_run (Cert.ShareRef.defs (F := Bits)) (onTc (τ := Cert.ShareRef.τ) (Cert.ShareRef.main (F := Bits))) ⟨m, fun _ => 0, g⟩ (fun r => (∀ c : Dev Cert.ShareRef.nD,
      r.2.mem ((c.tc : Thread Cert.ShareRef.nD Cert.ShareRef.τ).loc Cert.ShareRef.main_arg0) = m ((c.tc : Thread Cert.ShareRef.nD Cert.ShareRef.τ).loc Cert.ShareRef.main_arg0)
      ∧ r.2.mem ((c.tc : Thread Cert.ShareRef.nD Cert.ShareRef.τ).loc Cert.ShareRef.main_arg1) = m ((c.tc : Thread Cert.ShareRef.nD Cert.ShareRef.τ).loc Cert.ShareRef.main_arg1)
      ∧ r.2.mem ((c.tc : Thread Cert.ShareRef.nD Cert.ShareRef.τ).loc Cert.ShareRef.main_arg2) = m ((c.tc : Thread Cert.ShareRef.nD Cert.ShareRef.τ).loc Cert.ShareRef.main_arg2)
      ∧ r.2.mem ((c.tc : Thread Cert.ShareRef.nD Cert.ShareRef.τ).loc Cert.ShareRef.main_arg3) = m ((c.tc : Thread Cert.ShareRef.nD Cert.ShareRef.τ).loc Cert.ShareRef.main_arg3)
      ∧ r.2.mem ((c.tc : Thread Cert.ShareRef.nD Cert.ShareRef.τ).loc Cert.ShareRef.main_arg4) = m ((c.tc : Thread Cert.ShareRef.nD Cert.ShareRef.τ).loc Cert.ShareRef.main_arg4)
      ∧ r.2.mem ((c.tc : Thread Cert.ShareRef.nD Cert.ShareRef.τ).loc Cert.ShareRef.main_arg5) = m ((c.tc : Thread Cert.ShareRef.nD Cert.ShareRef.τ).loc Cert.ShareRef.main_arg5)
      ∧ r.2.mem ((c.tc : Thread Cert.ShareRef.nD Cert.ShareRef.τ).loc Cert.ShareRef.main_arg6) = m ((c.tc : Thread Cert.ShareRef.nD Cert.ShareRef.τ).loc Cert.ShareRef.main_arg6)
      ∧ r.2.mem ((c.tc : Thread Cert.ShareRef.nD Cert.ShareRef.τ).loc Cert.ShareRef.main_arg7) = m ((c.tc : Thread Cert.ShareRef.nD Cert.ShareRef.τ).loc Cert.ShareRef.main_arg7)
      ∧ r.2.mem ((c.tc : Thread Cert.ShareRef.nD Cert.ShareRef.τ).loc Cert.ShareRef.main_arg8) = m ((c.tc : Thread Cert.ShareRef.nD Cert.ShareRef.τ).loc Cert.ShareRef.main_arg8))
      ∧ r.2.sem = fun _ => 0)

def quiescent_Gather [hGather : Cert.Gather.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1)
      ∧ r.2.mem ((c.tc : Thread Cert.Gather.nD Cert.Gather.τ).loc Cert.Gather.main_arg2) = m ((c.tc : Thread Cert.Gather.nD Cert.Gather.τ).loc Cert.Gather.main_arg2)
      ∧ r.2.mem ((c.tc : Thread Cert.Gather.nD Cert.Gather.τ).loc Cert.Gather.main_arg3) = m ((c.tc : Thread Cert.Gather.nD Cert.Gather.τ).loc Cert.Gather.main_arg3)
      ∧ r.2.mem ((c.tc : Thread Cert.Gather.nD Cert.Gather.τ).loc Cert.Gather.main_arg4) = m ((c.tc : Thread Cert.Gather.nD Cert.Gather.τ).loc Cert.Gather.main_arg4)
      ∧ r.2.mem ((c.tc : Thread Cert.Gather.nD Cert.Gather.τ).loc Cert.Gather.main_arg5) = m ((c.tc : Thread Cert.Gather.nD Cert.Gather.τ).loc Cert.Gather.main_arg5)
      ∧ r.2.mem ((c.tc : Thread Cert.Gather.nD Cert.Gather.τ).loc Cert.Gather.main_arg6) = m ((c.tc : Thread Cert.Gather.nD Cert.Gather.τ).loc Cert.Gather.main_arg6)
      ∧ r.2.mem ((c.tc : Thread Cert.Gather.nD Cert.Gather.τ).loc Cert.Gather.main_arg7) = m ((c.tc : Thread Cert.Gather.nD Cert.Gather.τ).loc Cert.Gather.main_arg7)
      ∧ r.2.mem ((c.tc : Thread Cert.Gather.nD Cert.Gather.τ).loc Cert.Gather.main_arg8) = m ((c.tc : Thread Cert.Gather.nD Cert.Gather.τ).loc Cert.Gather.main_arg8))
      ∧ r.2.sem = fun _ => 0)

def quiescent_GatherIdeal [hGatherIdeal : Cert.GatherIdeal.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
      ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2)
      ∧ r.2.mem ((c.tc : Thread Cert.GatherIdeal.nD Cert.GatherIdeal.τ).loc Cert.GatherIdeal.main_arg3) = m ((c.tc : Thread Cert.GatherIdeal.nD Cert.GatherIdeal.τ).loc Cert.GatherIdeal.main_arg3)
      ∧ r.2.mem ((c.tc : Thread Cert.GatherIdeal.nD Cert.GatherIdeal.τ).loc Cert.GatherIdeal.main_arg4) = m ((c.tc : Thread Cert.GatherIdeal.nD Cert.GatherIdeal.τ).loc Cert.GatherIdeal.main_arg4)
      ∧ r.2.mem ((c.tc : Thread Cert.GatherIdeal.nD Cert.GatherIdeal.τ).loc Cert.GatherIdeal.main_arg5) = m ((c.tc : Thread Cert.GatherIdeal.nD Cert.GatherIdeal.τ).loc Cert.GatherIdeal.main_arg5)
      ∧ r.2.mem ((c.tc : Thread Cert.GatherIdeal.nD Cert.GatherIdeal.τ).loc Cert.GatherIdeal.main_arg6) = m ((c.tc : Thread Cert.GatherIdeal.nD Cert.GatherIdeal.τ).loc Cert.GatherIdeal.main_arg6)
      ∧ r.2.mem ((c.tc : Thread Cert.GatherIdeal.nD Cert.GatherIdeal.τ).loc Cert.GatherIdeal.main_arg7) = m ((c.tc : Thread Cert.GatherIdeal.nD Cert.GatherIdeal.τ).loc Cert.GatherIdeal.main_arg7)
      ∧ r.2.mem ((c.tc : Thread Cert.GatherIdeal.nD Cert.GatherIdeal.τ).loc Cert.GatherIdeal.main_arg8) = m ((c.tc : Thread Cert.GatherIdeal.nD Cert.GatherIdeal.τ).loc Cert.GatherIdeal.main_arg8))
      ∧ r.2.sem = fun _ => 0)

def quiescent_GatherRefIdeal [hGatherRefIdeal : Cert.GatherRefIdeal.Facts] : Prop :=
  ∀ (m : (ℓ : Loc Cert.GatherRefIdeal.nD Cert.GatherRefIdeal.τ Cert.GatherRefIdeal.sig) → Buf (Elt Ideal) ℓ) (g : Dev Cert.GatherRefIdeal.nD → PrngReg), Pre_GatherRefIdeal m →
    θ_run (Cert.GatherRefIdeal.defs (F := Ideal)) (onTc (τ := Cert.GatherRefIdeal.τ) (Cert.GatherRefIdeal.main (F := Ideal))) ⟨m, fun _ => 0, g⟩ (fun r => (∀ c : Dev Cert.GatherRefIdeal.nD,
      r.2.mem ((c.tc : Thread Cert.GatherRefIdeal.nD Cert.GatherRefIdeal.τ).loc Cert.GatherRefIdeal.main_arg0) = m ((c.tc : Thread Cert.GatherRefIdeal.nD Cert.GatherRefIdeal.τ).loc Cert.GatherRefIdeal.main_arg0)
      ∧ r.2.mem ((c.tc : Thread Cert.GatherRefIdeal.nD Cert.GatherRefIdeal.τ).loc Cert.GatherRefIdeal.main_arg1) = m ((c.tc : Thread Cert.GatherRefIdeal.nD Cert.GatherRefIdeal.τ).loc Cert.GatherRefIdeal.main_arg1)
      ∧ r.2.mem ((c.tc : Thread Cert.GatherRefIdeal.nD Cert.GatherRefIdeal.τ).loc Cert.GatherRefIdeal.main_arg2) = m ((c.tc : Thread Cert.GatherRefIdeal.nD Cert.GatherRefIdeal.τ).loc Cert.GatherRefIdeal.main_arg2)
      ∧ r.2.mem ((c.tc : Thread Cert.GatherRefIdeal.nD Cert.GatherRefIdeal.τ).loc Cert.GatherRefIdeal.main_arg3) = m ((c.tc : Thread Cert.GatherRefIdeal.nD Cert.GatherRefIdeal.τ).loc Cert.GatherRefIdeal.main_arg3)
      ∧ r.2.mem ((c.tc : Thread Cert.GatherRefIdeal.nD Cert.GatherRefIdeal.τ).loc Cert.GatherRefIdeal.main_arg4) = m ((c.tc : Thread Cert.GatherRefIdeal.nD Cert.GatherRefIdeal.τ).loc Cert.GatherRefIdeal.main_arg4)
      ∧ r.2.mem ((c.tc : Thread Cert.GatherRefIdeal.nD Cert.GatherRefIdeal.τ).loc Cert.GatherRefIdeal.main_arg5) = m ((c.tc : Thread Cert.GatherRefIdeal.nD Cert.GatherRefIdeal.τ).loc Cert.GatherRefIdeal.main_arg5)
      ∧ r.2.mem ((c.tc : Thread Cert.GatherRefIdeal.nD Cert.GatherRefIdeal.τ).loc Cert.GatherRefIdeal.main_arg6) = m ((c.tc : Thread Cert.GatherRefIdeal.nD Cert.GatherRefIdeal.τ).loc Cert.GatherRefIdeal.main_arg6)
      ∧ r.2.mem ((c.tc : Thread Cert.GatherRefIdeal.nD Cert.GatherRefIdeal.τ).loc Cert.GatherRefIdeal.main_arg7) = m ((c.tc : Thread Cert.GatherRefIdeal.nD Cert.GatherRefIdeal.τ).loc Cert.GatherRefIdeal.main_arg7)
      ∧ r.2.mem ((c.tc : Thread Cert.GatherRefIdeal.nD Cert.GatherRefIdeal.τ).loc Cert.GatherRefIdeal.main_arg8) = m ((c.tc : Thread Cert.GatherRefIdeal.nD Cert.GatherRefIdeal.τ).loc Cert.GatherRefIdeal.main_arg8))
      ∧ r.2.sem = fun _ => 0)

def quiescent_GatherRef [hGatherRef : Cert.GatherRef.Facts] : Prop :=
  ∀ (m : (ℓ : Loc Cert.GatherRef.nD Cert.GatherRef.τ Cert.GatherRef.sig) → Buf (Elt Bits) ℓ) (g : Dev Cert.GatherRef.nD → PrngReg), Pre_GatherRef m →
    θ_run (Cert.GatherRef.defs (F := Bits)) (onTc (τ := Cert.GatherRef.τ) (Cert.GatherRef.main (F := Bits))) ⟨m, fun _ => 0, g⟩ (fun r => (∀ c : Dev Cert.GatherRef.nD,
      r.2.mem ((c.tc : Thread Cert.GatherRef.nD Cert.GatherRef.τ).loc Cert.GatherRef.main_arg0) = m ((c.tc : Thread Cert.GatherRef.nD Cert.GatherRef.τ).loc Cert.GatherRef.main_arg0)
      ∧ r.2.mem ((c.tc : Thread Cert.GatherRef.nD Cert.GatherRef.τ).loc Cert.GatherRef.main_arg1) = m ((c.tc : Thread Cert.GatherRef.nD Cert.GatherRef.τ).loc Cert.GatherRef.main_arg1)
      ∧ r.2.mem ((c.tc : Thread Cert.GatherRef.nD Cert.GatherRef.τ).loc Cert.GatherRef.main_arg2) = m ((c.tc : Thread Cert.GatherRef.nD Cert.GatherRef.τ).loc Cert.GatherRef.main_arg2)
      ∧ r.2.mem ((c.tc : Thread Cert.GatherRef.nD Cert.GatherRef.τ).loc Cert.GatherRef.main_arg3) = m ((c.tc : Thread Cert.GatherRef.nD Cert.GatherRef.τ).loc Cert.GatherRef.main_arg3)
      ∧ r.2.mem ((c.tc : Thread Cert.GatherRef.nD Cert.GatherRef.τ).loc Cert.GatherRef.main_arg4) = m ((c.tc : Thread Cert.GatherRef.nD Cert.GatherRef.τ).loc Cert.GatherRef.main_arg4)
      ∧ r.2.mem ((c.tc : Thread Cert.GatherRef.nD Cert.GatherRef.τ).loc Cert.GatherRef.main_arg5) = m ((c.tc : Thread Cert.GatherRef.nD Cert.GatherRef.τ).loc Cert.GatherRef.main_arg5)
      ∧ r.2.mem ((c.tc : Thread Cert.GatherRef.nD Cert.GatherRef.τ).loc Cert.GatherRef.main_arg6) = m ((c.tc : Thread Cert.GatherRef.nD Cert.GatherRef.τ).loc Cert.GatherRef.main_arg6)
      ∧ r.2.mem ((c.tc : Thread Cert.GatherRef.nD Cert.GatherRef.τ).loc Cert.GatherRef.main_arg7) = m ((c.tc : Thread Cert.GatherRef.nD Cert.GatherRef.τ).loc Cert.GatherRef.main_arg7)
      ∧ r.2.mem ((c.tc : Thread Cert.GatherRef.nD Cert.GatherRef.τ).loc Cert.GatherRef.main_arg8) = m ((c.tc : Thread Cert.GatherRef.nD Cert.GatherRef.τ).loc Cert.GatherRef.main_arg8))
      ∧ r.2.sem = fun _ => 0)

def quiescent_GatherSmall [hGatherSmall : Cert.GatherSmall.Facts] : Prop :=
  ∀ (m : (ℓ : Loc Cert.GatherSmall.nD Cert.GatherSmall.τ Cert.GatherSmall.sig) → Buf (Elt Bits) ℓ) (g : Dev Cert.GatherSmall.nD → PrngReg), Pre_GatherSmall m →
    θ_run (Cert.GatherSmall.defs (F := Bits)) (onTc (τ := Cert.GatherSmall.τ) (Cert.GatherSmall.main (F := Bits))) ⟨m, fun _ => 0, g⟩ (fun r => (∀ c : Dev Cert.GatherSmall.nD,
      r.2.mem ((c.tc : Thread Cert.GatherSmall.nD Cert.GatherSmall.τ).loc Cert.GatherSmall.main_arg0) = m ((c.tc : Thread Cert.GatherSmall.nD Cert.GatherSmall.τ).loc Cert.GatherSmall.main_arg0))
      ∧ r.2.sem = fun _ => 0)

def quiescent_GatherSmallIdeal [hGatherSmallIdeal : Cert.GatherSmallIdeal.Facts] : Prop :=
  ∀ (m : (ℓ : Loc Cert.GatherSmallIdeal.nD Cert.GatherSmallIdeal.τ Cert.GatherSmallIdeal.sig) → Buf (Elt Ideal) ℓ) (g : Dev Cert.GatherSmallIdeal.nD → PrngReg), Pre_GatherSmallIdeal m →
    θ_run (Cert.GatherSmallIdeal.defs (F := Ideal)) (onTc (τ := Cert.GatherSmallIdeal.τ) (Cert.GatherSmallIdeal.main (F := Ideal))) ⟨m, fun _ => 0, g⟩ (fun r => (∀ c : Dev Cert.GatherSmallIdeal.nD,
      r.2.mem ((c.tc : Thread Cert.GatherSmallIdeal.nD Cert.GatherSmallIdeal.τ).loc Cert.GatherSmallIdeal.main_arg0) = m ((c.tc : Thread Cert.GatherSmallIdeal.nD Cert.GatherSmallIdeal.τ).loc Cert.GatherSmallIdeal.main_arg0))
      ∧ r.2.sem = fun _ => 0)

def quiescent_GatherSmallRefIdeal [hGatherSmallRefIdeal : Cert.GatherSmallRefIdeal.Facts] : Prop :=
  ∀ (m : (ℓ : Loc Cert.GatherSmallRefIdeal.nD Cert.GatherSmallRefIdeal.τ Cert.GatherSmallRefIdeal.sig) → Buf (Elt Ideal) ℓ) (g : Dev Cert.GatherSmallRefIdeal.nD → PrngReg), Pre_GatherSmallRefIdeal m →
    θ_run (Cert.GatherSmallRefIdeal.defs (F := Ideal)) (onTc (τ := Cert.GatherSmallRefIdeal.τ) (Cert.GatherSmallRefIdeal.main (F := Ideal))) ⟨m, fun _ => 0, g⟩ (fun r => (∀ c : Dev Cert.GatherSmallRefIdeal.nD,
      r.2.mem ((c.tc : Thread Cert.GatherSmallRefIdeal.nD Cert.GatherSmallRefIdeal.τ).loc Cert.GatherSmallRefIdeal.main_arg0) = m ((c.tc : Thread Cert.GatherSmallRefIdeal.nD Cert.GatherSmallRefIdeal.τ).loc Cert.GatherSmallRefIdeal.main_arg0))
      ∧ r.2.sem = fun _ => 0)

def quiescent_GatherSmallRef [hGatherSmallRef : Cert.GatherSmallRef.Facts] : Prop :=
  ∀ (m : (ℓ : Loc Cert.GatherSmallRef.nD Cert.GatherSmallRef.τ Cert.GatherSmallRef.sig) → Buf (Elt Bits) ℓ) (g : Dev Cert.GatherSmallRef.nD → PrngReg), Pre_GatherSmallRef m →
    θ_run (Cert.GatherSmallRef.defs (F := Bits)) (onTc (τ := Cert.GatherSmallRef.τ) (Cert.GatherSmallRef.main (F := Bits))) ⟨m, fun _ => 0, g⟩ (fun r => (∀ c : Dev Cert.GatherSmallRef.nD,
      r.2.mem ((c.tc : Thread Cert.GatherSmallRef.nD Cert.GatherSmallRef.τ).loc Cert.GatherSmallRef.main_arg0) = m ((c.tc : Thread Cert.GatherSmallRef.nD Cert.GatherSmallRef.τ).loc Cert.GatherSmallRef.main_arg0))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_AdamSquare [hAdamSquare : Cert.AdamSquare.Facts] : Prop :=
  ∀ (m : (ℓ : Loc Cert.AdamSquare.nD Cert.AdamSquare.τ Cert.AdamSquare.sig) → Buf (Elt Bits) ℓ) (g : Dev Cert.AdamSquare.nD → PrngReg), Pre_AdamSquare m →
    θ_run (Cert.AdamSquare.defs (F := Bits)) (onTc (τ := Cert.AdamSquare.τ) (Cert.AdamSquare.main (F := Bits))) ⟨m, fun _ => 0, g⟩ (fun r => (∀ c : Dev Cert.AdamSquare.nD,
      r.2.mem ((c.tc : Thread Cert.AdamSquare.nD Cert.AdamSquare.τ).loc Cert.AdamSquare.main_arg0) = m ((c.tc : Thread Cert.AdamSquare.nD Cert.AdamSquare.τ).loc Cert.AdamSquare.main_arg0)
      ∧ r.2.mem ((c.tc : Thread Cert.AdamSquare.nD Cert.AdamSquare.τ).loc Cert.AdamSquare.main_arg1) = m ((c.tc : Thread Cert.AdamSquare.nD Cert.AdamSquare.τ).loc Cert.AdamSquare.main_arg1)
      ∧ r.2.mem ((c.tc : Thread Cert.AdamSquare.nD Cert.AdamSquare.τ).loc Cert.AdamSquare.main_arg2) = m ((c.tc : Thread Cert.AdamSquare.nD Cert.AdamSquare.τ).loc Cert.AdamSquare.main_arg2)
      ∧ r.2.mem ((c.tc : Thread Cert.AdamSquare.nD Cert.AdamSquare.τ).loc Cert.AdamSquare.main_arg3) = m ((c.tc : Thread Cert.AdamSquare.nD Cert.AdamSquare.τ).loc Cert.AdamSquare.main_arg3))
      ∧ r.2.sem = fun _ => 0)

def quiescent_AdamSquareIdeal [hAdamSquareIdeal : Cert.AdamSquareIdeal.Facts] : Prop :=
  ∀ (m : (ℓ : Loc Cert.AdamSquareIdeal.nD Cert.AdamSquareIdeal.τ Cert.AdamSquareIdeal.sig) → Buf (Elt Ideal) ℓ) (g : Dev Cert.AdamSquareIdeal.nD → PrngReg), Pre_AdamSquareIdeal m →
    θ_run (Cert.AdamSquareIdeal.defs (F := Ideal)) (onTc (τ := Cert.AdamSquareIdeal.τ) (Cert.AdamSquareIdeal.main (F := Ideal))) ⟨m, fun _ => 0, g⟩ (fun r => (∀ c : Dev Cert.AdamSquareIdeal.nD,
      r.2.mem ((c.tc : Thread Cert.AdamSquareIdeal.nD Cert.AdamSquareIdeal.τ).loc Cert.AdamSquareIdeal.main_arg0) = m ((c.tc : Thread Cert.AdamSquareIdeal.nD Cert.AdamSquareIdeal.τ).loc Cert.AdamSquareIdeal.main_arg0)
      ∧ r.2.mem ((c.tc : Thread Cert.AdamSquareIdeal.nD Cert.AdamSquareIdeal.τ).loc Cert.AdamSquareIdeal.main_arg1) = m ((c.tc : Thread Cert.AdamSquareIdeal.nD Cert.AdamSquareIdeal.τ).loc Cert.AdamSquareIdeal.main_arg1)
      ∧ r.2.mem ((c.tc : Thread Cert.AdamSquareIdeal.nD Cert.AdamSquareIdeal.τ).loc Cert.AdamSquareIdeal.main_arg2) = m ((c.tc : Thread Cert.AdamSquareIdeal.nD Cert.AdamSquareIdeal.τ).loc Cert.AdamSquareIdeal.main_arg2)
      ∧ r.2.mem ((c.tc : Thread Cert.AdamSquareIdeal.nD Cert.AdamSquareIdeal.τ).loc Cert.AdamSquareIdeal.main_arg3) = m ((c.tc : Thread Cert.AdamSquareIdeal.nD Cert.AdamSquareIdeal.τ).loc Cert.AdamSquareIdeal.main_arg3))
      ∧ r.2.sem = fun _ => 0)

def quiescent_AdamSquareRefIdeal [hAdamSquareRefIdeal : Cert.AdamSquareRefIdeal.Facts] : Prop :=
  ∀ (m : (ℓ : Loc Cert.AdamSquareRefIdeal.nD Cert.AdamSquareRefIdeal.τ Cert.AdamSquareRefIdeal.sig) → Buf (Elt Ideal) ℓ) (g : Dev Cert.AdamSquareRefIdeal.nD → PrngReg), Pre_AdamSquareRefIdeal m →
    θ_run (Cert.AdamSquareRefIdeal.defs (F := Ideal)) (onTc (τ := Cert.AdamSquareRefIdeal.τ) (Cert.AdamSquareRefIdeal.main (F := Ideal))) ⟨m, fun _ => 0, g⟩ (fun r => (∀ c : Dev Cert.AdamSquareRefIdeal.nD,
      r.2.mem ((c.tc : Thread Cert.AdamSquareRefIdeal.nD Cert.AdamSquareRefIdeal.τ).loc Cert.AdamSquareRefIdeal.main_arg0) = m ((c.tc : Thread Cert.AdamSquareRefIdeal.nD Cert.AdamSquareRefIdeal.τ).loc Cert.AdamSquareRefIdeal.main_arg0)
      ∧ r.2.mem ((c.tc : Thread Cert.AdamSquareRefIdeal.nD Cert.AdamSquareRefIdeal.τ).loc Cert.AdamSquareRefIdeal.main_arg1) = m ((c.tc : Thread Cert.AdamSquareRefIdeal.nD Cert.AdamSquareRefIdeal.τ).loc Cert.AdamSquareRefIdeal.main_arg1)
      ∧ r.2.mem ((c.tc : Thread Cert.AdamSquareRefIdeal.nD Cert.AdamSquareRefIdeal.τ).loc Cert.AdamSquareRefIdeal.main_arg2) = m ((c.tc : Thread Cert.AdamSquareRefIdeal.nD Cert.AdamSquareRefIdeal.τ).loc Cert.AdamSquareRefIdeal.main_arg2)
      ∧ r.2.mem ((c.tc : Thread Cert.AdamSquareRefIdeal.nD Cert.AdamSquareRefIdeal.τ).loc Cert.AdamSquareRefIdeal.main_arg3) = m ((c.tc : Thread Cert.AdamSquareRefIdeal.nD Cert.AdamSquareRefIdeal.τ).loc Cert.AdamSquareRefIdeal.main_arg3))
      ∧ r.2.sem = fun _ => 0)

def quiescent_AdamMeta [hAdamMeta : Cert.AdamMeta.Facts] : Prop :=
  ∀ (m : (ℓ : Loc Cert.AdamMeta.nD Cert.AdamMeta.τ Cert.AdamMeta.sig) → Buf (Elt Bits) ℓ) (g : Dev Cert.AdamMeta.nD → PrngReg), Pre_AdamMeta m →
    θ_run (Cert.AdamMeta.defs (F := Bits)) (onTc (τ := Cert.AdamMeta.τ) (Cert.AdamMeta.main (F := Bits))) ⟨m, fun _ => 0, g⟩ (fun r => (∀ c : Dev Cert.AdamMeta.nD,
      r.2.mem ((c.tc : Thread Cert.AdamMeta.nD Cert.AdamMeta.τ).loc Cert.AdamMeta.main_arg0) = m ((c.tc : Thread Cert.AdamMeta.nD Cert.AdamMeta.τ).loc Cert.AdamMeta.main_arg0)
      ∧ r.2.mem ((c.tc : Thread Cert.AdamMeta.nD Cert.AdamMeta.τ).loc Cert.AdamMeta.main_arg1) = m ((c.tc : Thread Cert.AdamMeta.nD Cert.AdamMeta.τ).loc Cert.AdamMeta.main_arg1)
      ∧ r.2.mem ((c.tc : Thread Cert.AdamMeta.nD Cert.AdamMeta.τ).loc Cert.AdamMeta.main_arg2) = m ((c.tc : Thread Cert.AdamMeta.nD Cert.AdamMeta.τ).loc Cert.AdamMeta.main_arg2)
      ∧ r.2.mem ((c.tc : Thread Cert.AdamMeta.nD Cert.AdamMeta.τ).loc Cert.AdamMeta.main_arg3) = m ((c.tc : Thread Cert.AdamMeta.nD Cert.AdamMeta.τ).loc Cert.AdamMeta.main_arg3))
      ∧ r.2.sem = fun _ => 0)

def quiescent_AdamMetaIdeal [hAdamMetaIdeal : Cert.AdamMetaIdeal.Facts] : Prop :=
  ∀ (m : (ℓ : Loc Cert.AdamMetaIdeal.nD Cert.AdamMetaIdeal.τ Cert.AdamMetaIdeal.sig) → Buf (Elt Ideal) ℓ) (g : Dev Cert.AdamMetaIdeal.nD → PrngReg), Pre_AdamMetaIdeal m →
    θ_run (Cert.AdamMetaIdeal.defs (F := Ideal)) (onTc (τ := Cert.AdamMetaIdeal.τ) (Cert.AdamMetaIdeal.main (F := Ideal))) ⟨m, fun _ => 0, g⟩ (fun r => (∀ c : Dev Cert.AdamMetaIdeal.nD,
      r.2.mem ((c.tc : Thread Cert.AdamMetaIdeal.nD Cert.AdamMetaIdeal.τ).loc Cert.AdamMetaIdeal.main_arg0) = m ((c.tc : Thread Cert.AdamMetaIdeal.nD Cert.AdamMetaIdeal.τ).loc Cert.AdamMetaIdeal.main_arg0)
      ∧ r.2.mem ((c.tc : Thread Cert.AdamMetaIdeal.nD Cert.AdamMetaIdeal.τ).loc Cert.AdamMetaIdeal.main_arg1) = m ((c.tc : Thread Cert.AdamMetaIdeal.nD Cert.AdamMetaIdeal.τ).loc Cert.AdamMetaIdeal.main_arg1)
      ∧ r.2.mem ((c.tc : Thread Cert.AdamMetaIdeal.nD Cert.AdamMetaIdeal.τ).loc Cert.AdamMetaIdeal.main_arg2) = m ((c.tc : Thread Cert.AdamMetaIdeal.nD Cert.AdamMetaIdeal.τ).loc Cert.AdamMetaIdeal.main_arg2)
      ∧ r.2.mem ((c.tc : Thread Cert.AdamMetaIdeal.nD Cert.AdamMetaIdeal.τ).loc Cert.AdamMetaIdeal.main_arg3) = m ((c.tc : Thread Cert.AdamMetaIdeal.nD Cert.AdamMetaIdeal.τ).loc Cert.AdamMetaIdeal.main_arg3))
      ∧ r.2.sem = fun _ => 0)

def quiescent_AdamMetaRefIdeal [hAdamMetaRefIdeal : Cert.AdamMetaRefIdeal.Facts] : Prop :=
  ∀ (m : (ℓ : Loc Cert.AdamMetaRefIdeal.nD Cert.AdamMetaRefIdeal.τ Cert.AdamMetaRefIdeal.sig) → Buf (Elt Ideal) ℓ) (g : Dev Cert.AdamMetaRefIdeal.nD → PrngReg), Pre_AdamMetaRefIdeal m →
    θ_run (Cert.AdamMetaRefIdeal.defs (F := Ideal)) (onTc (τ := Cert.AdamMetaRefIdeal.τ) (Cert.AdamMetaRefIdeal.main (F := Ideal))) ⟨m, fun _ => 0, g⟩ (fun r => (∀ c : Dev Cert.AdamMetaRefIdeal.nD,
      r.2.mem ((c.tc : Thread Cert.AdamMetaRefIdeal.nD Cert.AdamMetaRefIdeal.τ).loc Cert.AdamMetaRefIdeal.main_arg0) = m ((c.tc : Thread Cert.AdamMetaRefIdeal.nD Cert.AdamMetaRefIdeal.τ).loc Cert.AdamMetaRefIdeal.main_arg0)
      ∧ r.2.mem ((c.tc : Thread Cert.AdamMetaRefIdeal.nD Cert.AdamMetaRefIdeal.τ).loc Cert.AdamMetaRefIdeal.main_arg1) = m ((c.tc : Thread Cert.AdamMetaRefIdeal.nD Cert.AdamMetaRefIdeal.τ).loc Cert.AdamMetaRefIdeal.main_arg1)
      ∧ r.2.mem ((c.tc : Thread Cert.AdamMetaRefIdeal.nD Cert.AdamMetaRefIdeal.τ).loc Cert.AdamMetaRefIdeal.main_arg2) = m ((c.tc : Thread Cert.AdamMetaRefIdeal.nD Cert.AdamMetaRefIdeal.τ).loc Cert.AdamMetaRefIdeal.main_arg2)
      ∧ r.2.mem ((c.tc : Thread Cert.AdamMetaRefIdeal.nD Cert.AdamMetaRefIdeal.τ).loc Cert.AdamMetaRefIdeal.main_arg3) = m ((c.tc : Thread Cert.AdamMetaRefIdeal.nD Cert.AdamMetaRefIdeal.τ).loc Cert.AdamMetaRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_LossGrad [hLossGrad : Cert.LossGrad.Facts] : Prop :=
  ∀ (m : (ℓ : Loc Cert.LossGrad.nD Cert.LossGrad.τ Cert.LossGrad.sig) → Buf (Elt Bits) ℓ) (g : Dev Cert.LossGrad.nD → PrngReg), Pre_LossGrad m →
    θ_run (Cert.LossGrad.defs (F := Bits)) (onTc (τ := Cert.LossGrad.τ) (Cert.LossGrad.main (F := Bits))) ⟨m, fun _ => 0, g⟩ (fun r => (∀ c : Dev Cert.LossGrad.nD,
      r.2.mem ((c.tc : Thread Cert.LossGrad.nD Cert.LossGrad.τ).loc Cert.LossGrad.main_arg0) = m ((c.tc : Thread Cert.LossGrad.nD Cert.LossGrad.τ).loc Cert.LossGrad.main_arg0)
      ∧ r.2.mem ((c.tc : Thread Cert.LossGrad.nD Cert.LossGrad.τ).loc Cert.LossGrad.main_arg1) = m ((c.tc : Thread Cert.LossGrad.nD Cert.LossGrad.τ).loc Cert.LossGrad.main_arg1))
      ∧ r.2.sem = fun _ => 0)

def quiescent_LossGradIdeal [hLossGradIdeal : Cert.LossGradIdeal.Facts] : Prop :=
  ∀ (m : (ℓ : Loc Cert.LossGradIdeal.nD Cert.LossGradIdeal.τ Cert.LossGradIdeal.sig) → Buf (Elt Ideal) ℓ) (g : Dev Cert.LossGradIdeal.nD → PrngReg), Pre_LossGradIdeal m →
    θ_run (Cert.LossGradIdeal.defs (F := Ideal)) (onTc (τ := Cert.LossGradIdeal.τ) (Cert.LossGradIdeal.main (F := Ideal))) ⟨m, fun _ => 0, g⟩ (fun r => (∀ c : Dev Cert.LossGradIdeal.nD,
      r.2.mem ((c.tc : Thread Cert.LossGradIdeal.nD Cert.LossGradIdeal.τ).loc Cert.LossGradIdeal.main_arg0) = m ((c.tc : Thread Cert.LossGradIdeal.nD Cert.LossGradIdeal.τ).loc Cert.LossGradIdeal.main_arg0)
      ∧ r.2.mem ((c.tc : Thread Cert.LossGradIdeal.nD Cert.LossGradIdeal.τ).loc Cert.LossGradIdeal.main_arg1) = m ((c.tc : Thread Cert.LossGradIdeal.nD Cert.LossGradIdeal.τ).loc Cert.LossGradIdeal.main_arg1))
      ∧ r.2.sem = fun _ => 0)

def quiescent_LossGradRefIdeal [hLossGradRefIdeal : Cert.LossGradRefIdeal.Facts] : Prop :=
  ∀ (m : (ℓ : Loc Cert.LossGradRefIdeal.nD Cert.LossGradRefIdeal.τ Cert.LossGradRefIdeal.sig) → Buf (Elt Ideal) ℓ) (g : Dev Cert.LossGradRefIdeal.nD → PrngReg), Pre_LossGradRefIdeal m →
    θ_run (Cert.LossGradRefIdeal.defs (F := Ideal)) (onTc (τ := Cert.LossGradRefIdeal.τ) (Cert.LossGradRefIdeal.main (F := Ideal))) ⟨m, fun _ => 0, g⟩ (fun r => (∀ c : Dev Cert.LossGradRefIdeal.nD,
      r.2.mem ((c.tc : Thread Cert.LossGradRefIdeal.nD Cert.LossGradRefIdeal.τ).loc Cert.LossGradRefIdeal.main_arg0) = m ((c.tc : Thread Cert.LossGradRefIdeal.nD Cert.LossGradRefIdeal.τ).loc Cert.LossGradRefIdeal.main_arg0)
      ∧ r.2.mem ((c.tc : Thread Cert.LossGradRefIdeal.nD Cert.LossGradRefIdeal.τ).loc Cert.LossGradRefIdeal.main_arg1) = m ((c.tc : Thread Cert.LossGradRefIdeal.nD Cert.LossGradRefIdeal.τ).loc Cert.LossGradRefIdeal.main_arg1))
      ∧ r.2.sem = fun _ => 0)

def quiescent_TnUp [hTnUp : Cert.TnUp.Facts] : Prop :=
  ∀ (m : (ℓ : Loc Cert.TnUp.nD Cert.TnUp.τ Cert.TnUp.sig) → Buf (Elt Bits) ℓ) (g : Dev Cert.TnUp.nD → PrngReg), Pre_TnUp m →
    θ_run (Cert.TnUp.defs (F := Bits)) (onTc (τ := Cert.TnUp.τ) (Cert.TnUp.main (F := Bits))) ⟨m, fun _ => 0, g⟩ (fun r => (∀ c : Dev Cert.TnUp.nD,
      r.2.mem ((c.tc : Thread Cert.TnUp.nD Cert.TnUp.τ).loc Cert.TnUp.main_arg0) = m ((c.tc : Thread Cert.TnUp.nD Cert.TnUp.τ).loc Cert.TnUp.main_arg0)
      ∧ r.2.mem ((c.tc : Thread Cert.TnUp.nD Cert.TnUp.τ).loc Cert.TnUp.main_arg1) = m ((c.tc : Thread Cert.TnUp.nD Cert.TnUp.τ).loc Cert.TnUp.main_arg1))
      ∧ r.2.sem = fun _ => 0)

def quiescent_TnUpIdeal [hTnUpIdeal : Cert.TnUpIdeal.Facts] : Prop :=
  ∀ (m : (ℓ : Loc Cert.TnUpIdeal.nD Cert.TnUpIdeal.τ Cert.TnUpIdeal.sig) → Buf (Elt Ideal) ℓ) (g : Dev Cert.TnUpIdeal.nD → PrngReg), Pre_TnUpIdeal m →
    θ_run (Cert.TnUpIdeal.defs (F := Ideal)) (onTc (τ := Cert.TnUpIdeal.τ) (Cert.TnUpIdeal.main (F := Ideal))) ⟨m, fun _ => 0, g⟩ (fun r => (∀ c : Dev Cert.TnUpIdeal.nD,
      r.2.mem ((c.tc : Thread Cert.TnUpIdeal.nD Cert.TnUpIdeal.τ).loc Cert.TnUpIdeal.main_arg0) = m ((c.tc : Thread Cert.TnUpIdeal.nD Cert.TnUpIdeal.τ).loc Cert.TnUpIdeal.main_arg0)
      ∧ r.2.mem ((c.tc : Thread Cert.TnUpIdeal.nD Cert.TnUpIdeal.τ).loc Cert.TnUpIdeal.main_arg1) = m ((c.tc : Thread Cert.TnUpIdeal.nD Cert.TnUpIdeal.τ).loc Cert.TnUpIdeal.main_arg1))
      ∧ r.2.sem = fun _ => 0)

def quiescent_TnUpRefIdeal [hTnUpRefIdeal : Cert.TnUpRefIdeal.Facts] : Prop :=
  ∀ (m : (ℓ : Loc Cert.TnUpRefIdeal.nD Cert.TnUpRefIdeal.τ Cert.TnUpRefIdeal.sig) → Buf (Elt Ideal) ℓ) (g : Dev Cert.TnUpRefIdeal.nD → PrngReg), Pre_TnUpRefIdeal m →
    θ_run (Cert.TnUpRefIdeal.defs (F := Ideal)) (onTc (τ := Cert.TnUpRefIdeal.τ) (Cert.TnUpRefIdeal.main (F := Ideal))) ⟨m, fun _ => 0, g⟩ (fun r => (∀ c : Dev Cert.TnUpRefIdeal.nD,
      r.2.mem ((c.tc : Thread Cert.TnUpRefIdeal.nD Cert.TnUpRefIdeal.τ).loc Cert.TnUpRefIdeal.main_arg0) = m ((c.tc : Thread Cert.TnUpRefIdeal.nD Cert.TnUpRefIdeal.τ).loc Cert.TnUpRefIdeal.main_arg0)
      ∧ r.2.mem ((c.tc : Thread Cert.TnUpRefIdeal.nD Cert.TnUpRefIdeal.τ).loc Cert.TnUpRefIdeal.main_arg1) = m ((c.tc : Thread Cert.TnUpRefIdeal.nD Cert.TnUpRefIdeal.τ).loc Cert.TnUpRefIdeal.main_arg1))
      ∧ r.2.sem = fun _ => 0)

def quiescent_TnDown [hTnDown : Cert.TnDown.Facts] : Prop :=
  ∀ (m : (ℓ : Loc Cert.TnDown.nD Cert.TnDown.τ Cert.TnDown.sig) → Buf (Elt Bits) ℓ) (g : Dev Cert.TnDown.nD → PrngReg), Pre_TnDown m →
    θ_run (Cert.TnDown.defs (F := Bits)) (onTc (τ := Cert.TnDown.τ) (Cert.TnDown.main (F := Bits))) ⟨m, fun _ => 0, g⟩ (fun r => (∀ c : Dev Cert.TnDown.nD,
      r.2.mem ((c.tc : Thread Cert.TnDown.nD Cert.TnDown.τ).loc Cert.TnDown.main_arg0) = m ((c.tc : Thread Cert.TnDown.nD Cert.TnDown.τ).loc Cert.TnDown.main_arg0)
      ∧ r.2.mem ((c.tc : Thread Cert.TnDown.nD Cert.TnDown.τ).loc Cert.TnDown.main_arg1) = m ((c.tc : Thread Cert.TnDown.nD Cert.TnDown.τ).loc Cert.TnDown.main_arg1))
      ∧ r.2.sem = fun _ => 0)

def quiescent_TnDownIdeal [hTnDownIdeal : Cert.TnDownIdeal.Facts] : Prop :=
  ∀ (m : (ℓ : Loc Cert.TnDownIdeal.nD Cert.TnDownIdeal.τ Cert.TnDownIdeal.sig) → Buf (Elt Ideal) ℓ) (g : Dev Cert.TnDownIdeal.nD → PrngReg), Pre_TnDownIdeal m →
    θ_run (Cert.TnDownIdeal.defs (F := Ideal)) (onTc (τ := Cert.TnDownIdeal.τ) (Cert.TnDownIdeal.main (F := Ideal))) ⟨m, fun _ => 0, g⟩ (fun r => (∀ c : Dev Cert.TnDownIdeal.nD,
      r.2.mem ((c.tc : Thread Cert.TnDownIdeal.nD Cert.TnDownIdeal.τ).loc Cert.TnDownIdeal.main_arg0) = m ((c.tc : Thread Cert.TnDownIdeal.nD Cert.TnDownIdeal.τ).loc Cert.TnDownIdeal.main_arg0)
      ∧ r.2.mem ((c.tc : Thread Cert.TnDownIdeal.nD Cert.TnDownIdeal.τ).loc Cert.TnDownIdeal.main_arg1) = m ((c.tc : Thread Cert.TnDownIdeal.nD Cert.TnDownIdeal.τ).loc Cert.TnDownIdeal.main_arg1))
      ∧ r.2.sem = fun _ => 0)

def quiescent_TnDownRefIdeal [hTnDownRefIdeal : Cert.TnDownRefIdeal.Facts] : Prop :=
  ∀ (m : (ℓ : Loc Cert.TnDownRefIdeal.nD Cert.TnDownRefIdeal.τ Cert.TnDownRefIdeal.sig) → Buf (Elt Ideal) ℓ) (g : Dev Cert.TnDownRefIdeal.nD → PrngReg), Pre_TnDownRefIdeal m →
    θ_run (Cert.TnDownRefIdeal.defs (F := Ideal)) (onTc (τ := Cert.TnDownRefIdeal.τ) (Cert.TnDownRefIdeal.main (F := Ideal))) ⟨m, fun _ => 0, g⟩ (fun r => (∀ c : Dev Cert.TnDownRefIdeal.nD,
      r.2.mem ((c.tc : Thread Cert.TnDownRefIdeal.nD Cert.TnDownRefIdeal.τ).loc Cert.TnDownRefIdeal.main_arg0) = m ((c.tc : Thread Cert.TnDownRefIdeal.nD Cert.TnDownRefIdeal.τ).loc Cert.TnDownRefIdeal.main_arg0)
      ∧ r.2.mem ((c.tc : Thread Cert.TnDownRefIdeal.nD Cert.TnDownRefIdeal.τ).loc Cert.TnDownRefIdeal.main_arg1) = m ((c.tc : Thread Cert.TnDownRefIdeal.nD Cert.TnDownRefIdeal.τ).loc Cert.TnDownRefIdeal.main_arg1))
      ∧ r.2.sem = fun _ => 0)

def quiescent_TnSquare [hTnSquare : Cert.TnSquare.Facts] : Prop :=
  ∀ (m : (ℓ : Loc Cert.TnSquare.nD Cert.TnSquare.τ Cert.TnSquare.sig) → Buf (Elt Bits) ℓ) (g : Dev Cert.TnSquare.nD → PrngReg), Pre_TnSquare m →
    θ_run (Cert.TnSquare.defs (F := Bits)) (onTc (τ := Cert.TnSquare.τ) (Cert.TnSquare.main (F := Bits))) ⟨m, fun _ => 0, g⟩ (fun r => (∀ c : Dev Cert.TnSquare.nD,
      r.2.mem ((c.tc : Thread Cert.TnSquare.nD Cert.TnSquare.τ).loc Cert.TnSquare.main_arg0) = m ((c.tc : Thread Cert.TnSquare.nD Cert.TnSquare.τ).loc Cert.TnSquare.main_arg0)
      ∧ r.2.mem ((c.tc : Thread Cert.TnSquare.nD Cert.TnSquare.τ).loc Cert.TnSquare.main_arg1) = m ((c.tc : Thread Cert.TnSquare.nD Cert.TnSquare.τ).loc Cert.TnSquare.main_arg1))
      ∧ r.2.sem = fun _ => 0)

def quiescent_TnSquareIdeal [hTnSquareIdeal : Cert.TnSquareIdeal.Facts] : Prop :=
  ∀ (m : (ℓ : Loc Cert.TnSquareIdeal.nD Cert.TnSquareIdeal.τ Cert.TnSquareIdeal.sig) → Buf (Elt Ideal) ℓ) (g : Dev Cert.TnSquareIdeal.nD → PrngReg), Pre_TnSquareIdeal m →
    θ_run (Cert.TnSquareIdeal.defs (F := Ideal)) (onTc (τ := Cert.TnSquareIdeal.τ) (Cert.TnSquareIdeal.main (F := Ideal))) ⟨m, fun _ => 0, g⟩ (fun r => (∀ c : Dev Cert.TnSquareIdeal.nD,
      r.2.mem ((c.tc : Thread Cert.TnSquareIdeal.nD Cert.TnSquareIdeal.τ).loc Cert.TnSquareIdeal.main_arg0) = m ((c.tc : Thread Cert.TnSquareIdeal.nD Cert.TnSquareIdeal.τ).loc Cert.TnSquareIdeal.main_arg0)
      ∧ r.2.mem ((c.tc : Thread Cert.TnSquareIdeal.nD Cert.TnSquareIdeal.τ).loc Cert.TnSquareIdeal.main_arg1) = m ((c.tc : Thread Cert.TnSquareIdeal.nD Cert.TnSquareIdeal.τ).loc Cert.TnSquareIdeal.main_arg1))
      ∧ r.2.sem = fun _ => 0)

def quiescent_TnSquareRefIdeal [hTnSquareRefIdeal : Cert.TnSquareRefIdeal.Facts] : Prop :=
  ∀ (m : (ℓ : Loc Cert.TnSquareRefIdeal.nD Cert.TnSquareRefIdeal.τ Cert.TnSquareRefIdeal.sig) → Buf (Elt Ideal) ℓ) (g : Dev Cert.TnSquareRefIdeal.nD → PrngReg), Pre_TnSquareRefIdeal m →
    θ_run (Cert.TnSquareRefIdeal.defs (F := Ideal)) (onTc (τ := Cert.TnSquareRefIdeal.τ) (Cert.TnSquareRefIdeal.main (F := Ideal))) ⟨m, fun _ => 0, g⟩ (fun r => (∀ c : Dev Cert.TnSquareRefIdeal.nD,
      r.2.mem ((c.tc : Thread Cert.TnSquareRefIdeal.nD Cert.TnSquareRefIdeal.τ).loc Cert.TnSquareRefIdeal.main_arg0) = m ((c.tc : Thread Cert.TnSquareRefIdeal.nD Cert.TnSquareRefIdeal.τ).loc Cert.TnSquareRefIdeal.main_arg0)
      ∧ r.2.mem ((c.tc : Thread Cert.TnSquareRefIdeal.nD Cert.TnSquareRefIdeal.τ).loc Cert.TnSquareRefIdeal.main_arg1) = m ((c.tc : Thread Cert.TnSquareRefIdeal.nD Cert.TnSquareRefIdeal.τ).loc Cert.TnSquareRefIdeal.main_arg1))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3)
      ∧ r.2.mem ((c.tc : Thread Cert.FfnFwd.nD Cert.FfnFwd.τ).loc Cert.FfnFwd.main_arg4) = m ((c.tc : Thread Cert.FfnFwd.nD Cert.FfnFwd.τ).loc Cert.FfnFwd.main_arg4)
      ∧ r.2.mem ((c.tc : Thread Cert.FfnFwd.nD Cert.FfnFwd.τ).loc Cert.FfnFwd.main_arg5) = m ((c.tc : Thread Cert.FfnFwd.nD Cert.FfnFwd.τ).loc Cert.FfnFwd.main_arg5))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
      ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4)
      ∧ r.2.mem ((c.tc : Thread Cert.FfnFwdIdeal.nD Cert.FfnFwdIdeal.τ).loc Cert.FfnFwdIdeal.main_arg5) = m ((c.tc : Thread Cert.FfnFwdIdeal.nD Cert.FfnFwdIdeal.τ).loc Cert.FfnFwdIdeal.main_arg5))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3)
      ∧ r.2.mem ((c.tc : Thread Cert.FfnFwdRefIdeal.nD Cert.FfnFwdRefIdeal.τ).loc Cert.FfnFwdRefIdeal.main_arg4) = m ((c.tc : Thread Cert.FfnFwdRefIdeal.nD Cert.FfnFwdRefIdeal.τ).loc Cert.FfnFwdRefIdeal.main_arg4)
      ∧ r.2.mem ((c.tc : Thread Cert.FfnFwdRefIdeal.nD Cert.FfnFwdRefIdeal.τ).loc Cert.FfnFwdRefIdeal.main_arg5) = m ((c.tc : Thread Cert.FfnFwdRefIdeal.nD Cert.FfnFwdRefIdeal.τ).loc Cert.FfnFwdRefIdeal.main_arg5))
      ∧ r.2.sem = fun _ => 0)

def quiescent_BwdDown [hBwdDown : Cert.BwdDown.Facts] : Prop :=
  ∀ (m : (ℓ : Loc Cert.BwdDown.nD Cert.BwdDown.τ Cert.BwdDown.sig) → Buf (Elt Bits) ℓ) (g : Dev Cert.BwdDown.nD → PrngReg), Pre_BwdDown m →
    θ_run (Cert.BwdDown.defs (F := Bits)) (onTc (τ := Cert.BwdDown.τ) (Cert.BwdDown.main (F := Bits))) ⟨m, fun _ => 0, g⟩ (fun r => (∀ c : Dev Cert.BwdDown.nD,
      r.2.mem ((c.tc : Thread Cert.BwdDown.nD Cert.BwdDown.τ).loc Cert.BwdDown.main_arg0) = m ((c.tc : Thread Cert.BwdDown.nD Cert.BwdDown.τ).loc Cert.BwdDown.main_arg0)
      ∧ r.2.mem ((c.tc : Thread Cert.BwdDown.nD Cert.BwdDown.τ).loc Cert.BwdDown.main_arg1) = m ((c.tc : Thread Cert.BwdDown.nD Cert.BwdDown.τ).loc Cert.BwdDown.main_arg1)
      ∧ r.2.mem ((c.tc : Thread Cert.BwdDown.nD Cert.BwdDown.τ).loc Cert.BwdDown.main_arg2) = m ((c.tc : Thread Cert.BwdDown.nD Cert.BwdDown.τ).loc Cert.BwdDown.main_arg2)
      ∧ r.2.mem ((c.tc : Thread Cert.BwdDown.nD Cert.BwdDown.τ).loc Cert.BwdDown.main_arg3) = m ((c.tc : Thread Cert.BwdDown.nD Cert.BwdDown.τ).loc Cert.BwdDown.main_arg3)
      ∧ r.2.mem ((c.tc : Thread Cert.BwdDown.nD Cert.BwdDown.τ).loc Cert.BwdDown.main_arg4) = m ((c.tc : Thread Cert.BwdDown.nD Cert.BwdDown.τ).loc Cert.BwdDown.main_arg4)
      ∧ r.2.mem ((c.tc : Thread Cert.BwdDown.nD Cert.BwdDown.τ).loc Cert.BwdDown.main_arg5) = m ((c.tc : Thread Cert.BwdDown.nD Cert.BwdDown.τ).loc Cert.BwdDown.main_arg5))
      ∧ r.2.sem = fun _ => 0)

def quiescent_BwdDownIdeal [hBwdDownIdeal : Cert.BwdDownIdeal.Facts] : Prop :=
  ∀ (m : (ℓ : Loc Cert.BwdDownIdeal.nD Cert.BwdDownIdeal.τ Cert.BwdDownIdeal.sig) → Buf (Elt Ideal) ℓ) (g : Dev Cert.BwdDownIdeal.nD → PrngReg), Pre_BwdDownIdeal m →
    θ_run (Cert.BwdDownIdeal.defs (F := Ideal)) (onTc (τ := Cert.BwdDownIdeal.τ) (Cert.BwdDownIdeal.main (F := Ideal))) ⟨m, fun _ => 0, g⟩ (fun r => (∀ c : Dev Cert.BwdDownIdeal.nD,
      r.2.mem ((c.tc : Thread Cert.BwdDownIdeal.nD Cert.BwdDownIdeal.τ).loc Cert.BwdDownIdeal.main_arg0) = m ((c.tc : Thread Cert.BwdDownIdeal.nD Cert.BwdDownIdeal.τ).loc Cert.BwdDownIdeal.main_arg0)
      ∧ r.2.mem ((c.tc : Thread Cert.BwdDownIdeal.nD Cert.BwdDownIdeal.τ).loc Cert.BwdDownIdeal.main_arg1) = m ((c.tc : Thread Cert.BwdDownIdeal.nD Cert.BwdDownIdeal.τ).loc Cert.BwdDownIdeal.main_arg1)
      ∧ r.2.mem ((c.tc : Thread Cert.BwdDownIdeal.nD Cert.BwdDownIdeal.τ).loc Cert.BwdDownIdeal.main_arg2) = m ((c.tc : Thread Cert.BwdDownIdeal.nD Cert.BwdDownIdeal.τ).loc Cert.BwdDownIdeal.main_arg2)
      ∧ r.2.mem ((c.tc : Thread Cert.BwdDownIdeal.nD Cert.BwdDownIdeal.τ).loc Cert.BwdDownIdeal.main_arg3) = m ((c.tc : Thread Cert.BwdDownIdeal.nD Cert.BwdDownIdeal.τ).loc Cert.BwdDownIdeal.main_arg3)
      ∧ r.2.mem ((c.tc : Thread Cert.BwdDownIdeal.nD Cert.BwdDownIdeal.τ).loc Cert.BwdDownIdeal.main_arg4) = m ((c.tc : Thread Cert.BwdDownIdeal.nD Cert.BwdDownIdeal.τ).loc Cert.BwdDownIdeal.main_arg4)
      ∧ r.2.mem ((c.tc : Thread Cert.BwdDownIdeal.nD Cert.BwdDownIdeal.τ).loc Cert.BwdDownIdeal.main_arg5) = m ((c.tc : Thread Cert.BwdDownIdeal.nD Cert.BwdDownIdeal.τ).loc Cert.BwdDownIdeal.main_arg5))
      ∧ r.2.sem = fun _ => 0)

def quiescent_BwdDownRefIdeal [hBwdDownRefIdeal : Cert.BwdDownRefIdeal.Facts] : Prop :=
  ∀ (m : (ℓ : Loc Cert.BwdDownRefIdeal.nD Cert.BwdDownRefIdeal.τ Cert.BwdDownRefIdeal.sig) → Buf (Elt Ideal) ℓ) (g : Dev Cert.BwdDownRefIdeal.nD → PrngReg), Pre_BwdDownRefIdeal m →
    θ_run (Cert.BwdDownRefIdeal.defs (F := Ideal)) (onTc (τ := Cert.BwdDownRefIdeal.τ) (Cert.BwdDownRefIdeal.main (F := Ideal))) ⟨m, fun _ => 0, g⟩ (fun r => (∀ c : Dev Cert.BwdDownRefIdeal.nD,
      r.2.mem ((c.tc : Thread Cert.BwdDownRefIdeal.nD Cert.BwdDownRefIdeal.τ).loc Cert.BwdDownRefIdeal.main_arg0) = m ((c.tc : Thread Cert.BwdDownRefIdeal.nD Cert.BwdDownRefIdeal.τ).loc Cert.BwdDownRefIdeal.main_arg0)
      ∧ r.2.mem ((c.tc : Thread Cert.BwdDownRefIdeal.nD Cert.BwdDownRefIdeal.τ).loc Cert.BwdDownRefIdeal.main_arg1) = m ((c.tc : Thread Cert.BwdDownRefIdeal.nD Cert.BwdDownRefIdeal.τ).loc Cert.BwdDownRefIdeal.main_arg1)
      ∧ r.2.mem ((c.tc : Thread Cert.BwdDownRefIdeal.nD Cert.BwdDownRefIdeal.τ).loc Cert.BwdDownRefIdeal.main_arg2) = m ((c.tc : Thread Cert.BwdDownRefIdeal.nD Cert.BwdDownRefIdeal.τ).loc Cert.BwdDownRefIdeal.main_arg2)
      ∧ r.2.mem ((c.tc : Thread Cert.BwdDownRefIdeal.nD Cert.BwdDownRefIdeal.τ).loc Cert.BwdDownRefIdeal.main_arg3) = m ((c.tc : Thread Cert.BwdDownRefIdeal.nD Cert.BwdDownRefIdeal.τ).loc Cert.BwdDownRefIdeal.main_arg3)
      ∧ r.2.mem ((c.tc : Thread Cert.BwdDownRefIdeal.nD Cert.BwdDownRefIdeal.τ).loc Cert.BwdDownRefIdeal.main_arg4) = m ((c.tc : Thread Cert.BwdDownRefIdeal.nD Cert.BwdDownRefIdeal.τ).loc Cert.BwdDownRefIdeal.main_arg4)
      ∧ r.2.mem ((c.tc : Thread Cert.BwdDownRefIdeal.nD Cert.BwdDownRefIdeal.τ).loc Cert.BwdDownRefIdeal.main_arg5) = m ((c.tc : Thread Cert.BwdDownRefIdeal.nD Cert.BwdDownRefIdeal.τ).loc Cert.BwdDownRefIdeal.main_arg5))
      ∧ r.2.sem = fun _ => 0)

def quiescent_BwdUp [hBwdUp : Cert.BwdUp.Facts] : Prop :=
  ∀ (m : (ℓ : Loc Cert.BwdUp.nD Cert.BwdUp.τ Cert.BwdUp.sig) → Buf (Elt Bits) ℓ) (g : Dev Cert.BwdUp.nD → PrngReg), Pre_BwdUp m →
    θ_run (Cert.BwdUp.defs (F := Bits)) (onTc (τ := Cert.BwdUp.τ) (Cert.BwdUp.main (F := Bits))) ⟨m, fun _ => 0, g⟩ (fun r => (∀ c : Dev Cert.BwdUp.nD,
      r.2.mem ((c.tc : Thread Cert.BwdUp.nD Cert.BwdUp.τ).loc Cert.BwdUp.main_arg0) = m ((c.tc : Thread Cert.BwdUp.nD Cert.BwdUp.τ).loc Cert.BwdUp.main_arg0)
      ∧ r.2.mem ((c.tc : Thread Cert.BwdUp.nD Cert.BwdUp.τ).loc Cert.BwdUp.main_arg1) = m ((c.tc : Thread Cert.BwdUp.nD Cert.BwdUp.τ).loc Cert.BwdUp.main_arg1)
      ∧ r.2.mem ((c.tc : Thread Cert.BwdUp.nD Cert.BwdUp.τ).loc Cert.BwdUp.main_arg2) = m ((c.tc : Thread Cert.BwdUp.nD Cert.BwdUp.τ).loc Cert.BwdUp.main_arg2)
      ∧ r.2.mem ((c.tc : Thread Cert.BwdUp.nD Cert.BwdUp.τ).loc Cert.BwdUp.main_arg3) = m ((c.tc : Thread Cert.BwdUp.nD Cert.BwdUp.τ).loc Cert.BwdUp.main_arg3)
      ∧ r.2.mem ((c.tc : Thread Cert.BwdUp.nD Cert.BwdUp.τ).loc Cert.BwdUp.main_arg4) = m ((c.tc : Thread Cert.BwdUp.nD Cert.BwdUp.τ).loc Cert.BwdUp.main_arg4)
      ∧ r.2.mem ((c.tc : Thread Cert.BwdUp.nD Cert.BwdUp.τ).loc Cert.BwdUp.main_arg5) = m ((c.tc : Thread Cert.BwdUp.nD Cert.BwdUp.τ).loc Cert.BwdUp.main_arg5)
      ∧ r.2.mem ((c.tc : Thread Cert.BwdUp.nD Cert.BwdUp.τ).loc Cert.BwdUp.main_arg6) = m ((c.tc : Thread Cert.BwdUp.nD Cert.BwdUp.τ).loc Cert.BwdUp.main_arg6))
      ∧ r.2.sem = fun _ => 0)

def quiescent_BwdUpIdeal [hBwdUpIdeal : Cert.BwdUpIdeal.Facts] : Prop :=
  ∀ (m : (ℓ : Loc Cert.BwdUpIdeal.nD Cert.BwdUpIdeal.τ Cert.BwdUpIdeal.sig) → Buf (Elt Ideal) ℓ) (g : Dev Cert.BwdUpIdeal.nD → PrngReg), Pre_BwdUpIdeal m →
    θ_run (Cert.BwdUpIdeal.defs (F := Ideal)) (onTc (τ := Cert.BwdUpIdeal.τ) (Cert.BwdUpIdeal.main (F := Ideal))) ⟨m, fun _ => 0, g⟩ (fun r => (∀ c : Dev Cert.BwdUpIdeal.nD,
      r.2.mem ((c.tc : Thread Cert.BwdUpIdeal.nD Cert.BwdUpIdeal.τ).loc Cert.BwdUpIdeal.main_arg0) = m ((c.tc : Thread Cert.BwdUpIdeal.nD Cert.BwdUpIdeal.τ).loc Cert.BwdUpIdeal.main_arg0)
      ∧ r.2.mem ((c.tc : Thread Cert.BwdUpIdeal.nD Cert.BwdUpIdeal.τ).loc Cert.BwdUpIdeal.main_arg1) = m ((c.tc : Thread Cert.BwdUpIdeal.nD Cert.BwdUpIdeal.τ).loc Cert.BwdUpIdeal.main_arg1)
      ∧ r.2.mem ((c.tc : Thread Cert.BwdUpIdeal.nD Cert.BwdUpIdeal.τ).loc Cert.BwdUpIdeal.main_arg2) = m ((c.tc : Thread Cert.BwdUpIdeal.nD Cert.BwdUpIdeal.τ).loc Cert.BwdUpIdeal.main_arg2)
      ∧ r.2.mem ((c.tc : Thread Cert.BwdUpIdeal.nD Cert.BwdUpIdeal.τ).loc Cert.BwdUpIdeal.main_arg3) = m ((c.tc : Thread Cert.BwdUpIdeal.nD Cert.BwdUpIdeal.τ).loc Cert.BwdUpIdeal.main_arg3)
      ∧ r.2.mem ((c.tc : Thread Cert.BwdUpIdeal.nD Cert.BwdUpIdeal.τ).loc Cert.BwdUpIdeal.main_arg4) = m ((c.tc : Thread Cert.BwdUpIdeal.nD Cert.BwdUpIdeal.τ).loc Cert.BwdUpIdeal.main_arg4)
      ∧ r.2.mem ((c.tc : Thread Cert.BwdUpIdeal.nD Cert.BwdUpIdeal.τ).loc Cert.BwdUpIdeal.main_arg5) = m ((c.tc : Thread Cert.BwdUpIdeal.nD Cert.BwdUpIdeal.τ).loc Cert.BwdUpIdeal.main_arg5)
      ∧ r.2.mem ((c.tc : Thread Cert.BwdUpIdeal.nD Cert.BwdUpIdeal.τ).loc Cert.BwdUpIdeal.main_arg6) = m ((c.tc : Thread Cert.BwdUpIdeal.nD Cert.BwdUpIdeal.τ).loc Cert.BwdUpIdeal.main_arg6))
      ∧ r.2.sem = fun _ => 0)

def quiescent_BwdUpRefIdeal [hBwdUpRefIdeal : Cert.BwdUpRefIdeal.Facts] : Prop :=
  ∀ (m : (ℓ : Loc Cert.BwdUpRefIdeal.nD Cert.BwdUpRefIdeal.τ Cert.BwdUpRefIdeal.sig) → Buf (Elt Ideal) ℓ) (g : Dev Cert.BwdUpRefIdeal.nD → PrngReg), Pre_BwdUpRefIdeal m →
    θ_run (Cert.BwdUpRefIdeal.defs (F := Ideal)) (onTc (τ := Cert.BwdUpRefIdeal.τ) (Cert.BwdUpRefIdeal.main (F := Ideal))) ⟨m, fun _ => 0, g⟩ (fun r => (∀ c : Dev Cert.BwdUpRefIdeal.nD,
      r.2.mem ((c.tc : Thread Cert.BwdUpRefIdeal.nD Cert.BwdUpRefIdeal.τ).loc Cert.BwdUpRefIdeal.main_arg0) = m ((c.tc : Thread Cert.BwdUpRefIdeal.nD Cert.BwdUpRefIdeal.τ).loc Cert.BwdUpRefIdeal.main_arg0)
      ∧ r.2.mem ((c.tc : Thread Cert.BwdUpRefIdeal.nD Cert.BwdUpRefIdeal.τ).loc Cert.BwdUpRefIdeal.main_arg1) = m ((c.tc : Thread Cert.BwdUpRefIdeal.nD Cert.BwdUpRefIdeal.τ).loc Cert.BwdUpRefIdeal.main_arg1)
      ∧ r.2.mem ((c.tc : Thread Cert.BwdUpRefIdeal.nD Cert.BwdUpRefIdeal.τ).loc Cert.BwdUpRefIdeal.main_arg2) = m ((c.tc : Thread Cert.BwdUpRefIdeal.nD Cert.BwdUpRefIdeal.τ).loc Cert.BwdUpRefIdeal.main_arg2)
      ∧ r.2.mem ((c.tc : Thread Cert.BwdUpRefIdeal.nD Cert.BwdUpRefIdeal.τ).loc Cert.BwdUpRefIdeal.main_arg3) = m ((c.tc : Thread Cert.BwdUpRefIdeal.nD Cert.BwdUpRefIdeal.τ).loc Cert.BwdUpRefIdeal.main_arg3)
      ∧ r.2.mem ((c.tc : Thread Cert.BwdUpRefIdeal.nD Cert.BwdUpRefIdeal.τ).loc Cert.BwdUpRefIdeal.main_arg4) = m ((c.tc : Thread Cert.BwdUpRefIdeal.nD Cert.BwdUpRefIdeal.τ).loc Cert.BwdUpRefIdeal.main_arg4)
      ∧ r.2.mem ((c.tc : Thread Cert.BwdUpRefIdeal.nD Cert.BwdUpRefIdeal.τ).loc Cert.BwdUpRefIdeal.main_arg5) = m ((c.tc : Thread Cert.BwdUpRefIdeal.nD Cert.BwdUpRefIdeal.τ).loc Cert.BwdUpRefIdeal.main_arg5)
      ∧ r.2.mem ((c.tc : Thread Cert.BwdUpRefIdeal.nD Cert.BwdUpRefIdeal.τ).loc Cert.BwdUpRefIdeal.main_arg6) = m ((c.tc : Thread Cert.BwdUpRefIdeal.nD Cert.BwdUpRefIdeal.τ).loc Cert.BwdUpRefIdeal.main_arg6))
      ∧ r.2.sem = fun _ => 0)

def quiescent_HalfUp [hHalfUp : Cert.HalfUp.Facts] [hPre_core_named : Cert.Pre_core_named.Facts] : Prop :=
  ∀ (m : (ℓ : Loc Cert.HalfUp.nD Cert.HalfUp.τ Cert.HalfUp.sig) → Buf (Elt Bits) ℓ) (g : Dev Cert.HalfUp.nD → PrngReg), Pre_HalfUp m →
    θ_run (Cert.HalfUp.defs (F := Bits)) (onTc (τ := Cert.HalfUp.τ) (Cert.HalfUp.main (F := Bits))) ⟨m, fun _ => 0, g⟩ (fun r => (∀ c : Dev Cert.HalfUp.nD,
      r.2.mem ((c.tc : Thread Cert.HalfUp.nD Cert.HalfUp.τ).loc Cert.HalfUp.main_arg0) = m ((c.tc : Thread Cert.HalfUp.nD Cert.HalfUp.τ).loc Cert.HalfUp.main_arg0)
      ∧ r.2.mem ((c.tc : Thread Cert.HalfUp.nD Cert.HalfUp.τ).loc Cert.HalfUp.main_arg1) = m ((c.tc : Thread Cert.HalfUp.nD Cert.HalfUp.τ).loc Cert.HalfUp.main_arg1)
      ∧ r.2.mem ((c.tc : Thread Cert.HalfUp.nD Cert.HalfUp.τ).loc Cert.HalfUp.main_arg2) = m ((c.tc : Thread Cert.HalfUp.nD Cert.HalfUp.τ).loc Cert.HalfUp.main_arg2))
      ∧ r.2.sem = fun _ => 0)

def quiescent_HalfUpIdeal [hHalfUpIdeal : Cert.HalfUpIdeal.Facts] [hPre_core_named : Cert.Pre_core_named.Facts] : Prop :=
  ∀ (m : (ℓ : Loc Cert.HalfUpIdeal.nD Cert.HalfUpIdeal.τ Cert.HalfUpIdeal.sig) → Buf (Elt Ideal) ℓ) (g : Dev Cert.HalfUpIdeal.nD → PrngReg), Pre_HalfUpIdeal m →
    θ_run (Cert.HalfUpIdeal.defs (F := Ideal)) (onTc (τ := Cert.HalfUpIdeal.τ) (Cert.HalfUpIdeal.main (F := Ideal))) ⟨m, fun _ => 0, g⟩ (fun r => (∀ c : Dev Cert.HalfUpIdeal.nD,
      r.2.mem ((c.tc : Thread Cert.HalfUpIdeal.nD Cert.HalfUpIdeal.τ).loc Cert.HalfUpIdeal.main_arg0) = m ((c.tc : Thread Cert.HalfUpIdeal.nD Cert.HalfUpIdeal.τ).loc Cert.HalfUpIdeal.main_arg0)
      ∧ r.2.mem ((c.tc : Thread Cert.HalfUpIdeal.nD Cert.HalfUpIdeal.τ).loc Cert.HalfUpIdeal.main_arg1) = m ((c.tc : Thread Cert.HalfUpIdeal.nD Cert.HalfUpIdeal.τ).loc Cert.HalfUpIdeal.main_arg1)
      ∧ r.2.mem ((c.tc : Thread Cert.HalfUpIdeal.nD Cert.HalfUpIdeal.τ).loc Cert.HalfUpIdeal.main_arg2) = m ((c.tc : Thread Cert.HalfUpIdeal.nD Cert.HalfUpIdeal.τ).loc Cert.HalfUpIdeal.main_arg2))
      ∧ r.2.sem = fun _ => 0)

def quiescent_HalfUpRefIdeal [hHalfUpRefIdeal : Cert.HalfUpRefIdeal.Facts] : Prop :=
  ∀ (m : (ℓ : Loc Cert.HalfUpRefIdeal.nD Cert.HalfUpRefIdeal.τ Cert.HalfUpRefIdeal.sig) → Buf (Elt Ideal) ℓ) (g : Dev Cert.HalfUpRefIdeal.nD → PrngReg), Pre_HalfUpRefIdeal m →
    θ_run (Cert.HalfUpRefIdeal.defs (F := Ideal)) (onTc (τ := Cert.HalfUpRefIdeal.τ) (Cert.HalfUpRefIdeal.main (F := Ideal))) ⟨m, fun _ => 0, g⟩ (fun r => (∀ c : Dev Cert.HalfUpRefIdeal.nD,
      r.2.mem ((c.tc : Thread Cert.HalfUpRefIdeal.nD Cert.HalfUpRefIdeal.τ).loc Cert.HalfUpRefIdeal.main_arg0) = m ((c.tc : Thread Cert.HalfUpRefIdeal.nD Cert.HalfUpRefIdeal.τ).loc Cert.HalfUpRefIdeal.main_arg0)
      ∧ r.2.mem ((c.tc : Thread Cert.HalfUpRefIdeal.nD Cert.HalfUpRefIdeal.τ).loc Cert.HalfUpRefIdeal.main_arg1) = m ((c.tc : Thread Cert.HalfUpRefIdeal.nD Cert.HalfUpRefIdeal.τ).loc Cert.HalfUpRefIdeal.main_arg1)
      ∧ r.2.mem ((c.tc : Thread Cert.HalfUpRefIdeal.nD Cert.HalfUpRefIdeal.τ).loc Cert.HalfUpRefIdeal.main_arg2) = m ((c.tc : Thread Cert.HalfUpRefIdeal.nD Cert.HalfUpRefIdeal.τ).loc Cert.HalfUpRefIdeal.main_arg2))
      ∧ r.2.sem = fun _ => 0)

def quiescent_HalfUpRefIdeal_pre_core_named [hHalfUpRefIdeal : Cert.HalfUpRefIdeal.Facts] [hPre_core_named : Cert.Pre_core_named.Facts] : Prop :=
  ∀ (m : (ℓ : Loc Cert.HalfUpRefIdeal.nD Cert.HalfUpRefIdeal.τ Cert.HalfUpRefIdeal.sig) → Buf (Elt Ideal) ℓ) (g : Dev Cert.HalfUpRefIdeal.nD → PrngReg), Pre_HalfUpRefIdeal_core_named m →
    θ_run (Cert.HalfUpRefIdeal.defs (F := Ideal)) (onTc (τ := Cert.HalfUpRefIdeal.τ) (Cert.HalfUpRefIdeal.main (F := Ideal))) ⟨m, fun _ => 0, g⟩ (fun r => (∀ c : Dev Cert.HalfUpRefIdeal.nD,
      r.2.mem ((c.tc : Thread Cert.HalfUpRefIdeal.nD Cert.HalfUpRefIdeal.τ).loc Cert.HalfUpRefIdeal.main_arg0) = m ((c.tc : Thread Cert.HalfUpRefIdeal.nD Cert.HalfUpRefIdeal.τ).loc Cert.HalfUpRefIdeal.main_arg0)
      ∧ r.2.mem ((c.tc : Thread Cert.HalfUpRefIdeal.nD Cert.HalfUpRefIdeal.τ).loc Cert.HalfUpRefIdeal.main_arg1) = m ((c.tc : Thread Cert.HalfUpRefIdeal.nD Cert.HalfUpRefIdeal.τ).loc Cert.HalfUpRefIdeal.main_arg1)
      ∧ r.2.mem ((c.tc : Thread Cert.HalfUpRefIdeal.nD Cert.HalfUpRefIdeal.τ).loc Cert.HalfUpRefIdeal.main_arg2) = m ((c.tc : Thread Cert.HalfUpRefIdeal.nD Cert.HalfUpRefIdeal.τ).loc Cert.HalfUpRefIdeal.main_arg2))
      ∧ r.2.sem = fun _ => 0)

def quiescent_AddUp [hAddUp : Cert.AddUp.Facts] [hPre_chip_named : Cert.Pre_chip_named.Facts] : Prop :=
  ∀ (m : (ℓ : Loc Cert.AddUp.nD Cert.AddUp.τ Cert.AddUp.sig) → Buf (Elt Bits) ℓ) (g : Dev Cert.AddUp.nD → PrngReg), Pre_AddUp m →
    θ_run (Cert.AddUp.defs (F := Bits)) (onTc (τ := Cert.AddUp.τ) (Cert.AddUp.main (F := Bits))) ⟨m, fun _ => 0, g⟩ (fun r => (∀ c : Dev Cert.AddUp.nD,
      r.2.mem ((c.tc : Thread Cert.AddUp.nD Cert.AddUp.τ).loc Cert.AddUp.main_arg0) = m ((c.tc : Thread Cert.AddUp.nD Cert.AddUp.τ).loc Cert.AddUp.main_arg0)
      ∧ r.2.mem ((c.tc : Thread Cert.AddUp.nD Cert.AddUp.τ).loc Cert.AddUp.main_arg1) = m ((c.tc : Thread Cert.AddUp.nD Cert.AddUp.τ).loc Cert.AddUp.main_arg1)
      ∧ r.2.mem ((c.tc : Thread Cert.AddUp.nD Cert.AddUp.τ).loc Cert.AddUp.main_arg2) = m ((c.tc : Thread Cert.AddUp.nD Cert.AddUp.τ).loc Cert.AddUp.main_arg2))
      ∧ r.2.sem = fun _ => 0)

def quiescent_AddUpIdeal [hAddUpIdeal : Cert.AddUpIdeal.Facts] [hPre_chip_named : Cert.Pre_chip_named.Facts] : Prop :=
  ∀ (m : (ℓ : Loc Cert.AddUpIdeal.nD Cert.AddUpIdeal.τ Cert.AddUpIdeal.sig) → Buf (Elt Ideal) ℓ) (g : Dev Cert.AddUpIdeal.nD → PrngReg), Pre_AddUpIdeal m →
    θ_run (Cert.AddUpIdeal.defs (F := Ideal)) (onTc (τ := Cert.AddUpIdeal.τ) (Cert.AddUpIdeal.main (F := Ideal))) ⟨m, fun _ => 0, g⟩ (fun r => (∀ c : Dev Cert.AddUpIdeal.nD,
      r.2.mem ((c.tc : Thread Cert.AddUpIdeal.nD Cert.AddUpIdeal.τ).loc Cert.AddUpIdeal.main_arg0) = m ((c.tc : Thread Cert.AddUpIdeal.nD Cert.AddUpIdeal.τ).loc Cert.AddUpIdeal.main_arg0)
      ∧ r.2.mem ((c.tc : Thread Cert.AddUpIdeal.nD Cert.AddUpIdeal.τ).loc Cert.AddUpIdeal.main_arg1) = m ((c.tc : Thread Cert.AddUpIdeal.nD Cert.AddUpIdeal.τ).loc Cert.AddUpIdeal.main_arg1)
      ∧ r.2.mem ((c.tc : Thread Cert.AddUpIdeal.nD Cert.AddUpIdeal.τ).loc Cert.AddUpIdeal.main_arg2) = m ((c.tc : Thread Cert.AddUpIdeal.nD Cert.AddUpIdeal.τ).loc Cert.AddUpIdeal.main_arg2))
      ∧ r.2.sem = fun _ => 0)

def quiescent_AddUpRefIdeal [hAddUpRefIdeal : Cert.AddUpRefIdeal.Facts] : Prop :=
  ∀ (m : (ℓ : Loc Cert.AddUpRefIdeal.nD Cert.AddUpRefIdeal.τ Cert.AddUpRefIdeal.sig) → Buf (Elt Ideal) ℓ) (g : Dev Cert.AddUpRefIdeal.nD → PrngReg), Pre_AddUpRefIdeal m →
    θ_run (Cert.AddUpRefIdeal.defs (F := Ideal)) (onTc (τ := Cert.AddUpRefIdeal.τ) (Cert.AddUpRefIdeal.main (F := Ideal))) ⟨m, fun _ => 0, g⟩ (fun r => (∀ c : Dev Cert.AddUpRefIdeal.nD,
      r.2.mem ((c.tc : Thread Cert.AddUpRefIdeal.nD Cert.AddUpRefIdeal.τ).loc Cert.AddUpRefIdeal.main_arg0) = m ((c.tc : Thread Cert.AddUpRefIdeal.nD Cert.AddUpRefIdeal.τ).loc Cert.AddUpRefIdeal.main_arg0)
      ∧ r.2.mem ((c.tc : Thread Cert.AddUpRefIdeal.nD Cert.AddUpRefIdeal.τ).loc Cert.AddUpRefIdeal.main_arg1) = m ((c.tc : Thread Cert.AddUpRefIdeal.nD Cert.AddUpRefIdeal.τ).loc Cert.AddUpRefIdeal.main_arg1)
      ∧ r.2.mem ((c.tc : Thread Cert.AddUpRefIdeal.nD Cert.AddUpRefIdeal.τ).loc Cert.AddUpRefIdeal.main_arg2) = m ((c.tc : Thread Cert.AddUpRefIdeal.nD Cert.AddUpRefIdeal.τ).loc Cert.AddUpRefIdeal.main_arg2))
      ∧ r.2.sem = fun _ => 0)

def quiescent_AddUpRefIdeal_pre_chip_named [hAddUpRefIdeal : Cert.AddUpRefIdeal.Facts] [hPre_chip_named : Cert.Pre_chip_named.Facts] : Prop :=
  ∀ (m : (ℓ : Loc Cert.AddUpRefIdeal.nD Cert.AddUpRefIdeal.τ Cert.AddUpRefIdeal.sig) → Buf (Elt Ideal) ℓ) (g : Dev Cert.AddUpRefIdeal.nD → PrngReg), Pre_AddUpRefIdeal_chip_named m →
    θ_run (Cert.AddUpRefIdeal.defs (F := Ideal)) (onTc (τ := Cert.AddUpRefIdeal.τ) (Cert.AddUpRefIdeal.main (F := Ideal))) ⟨m, fun _ => 0, g⟩ (fun r => (∀ c : Dev Cert.AddUpRefIdeal.nD,
      r.2.mem ((c.tc : Thread Cert.AddUpRefIdeal.nD Cert.AddUpRefIdeal.τ).loc Cert.AddUpRefIdeal.main_arg0) = m ((c.tc : Thread Cert.AddUpRefIdeal.nD Cert.AddUpRefIdeal.τ).loc Cert.AddUpRefIdeal.main_arg0)
      ∧ r.2.mem ((c.tc : Thread Cert.AddUpRefIdeal.nD Cert.AddUpRefIdeal.τ).loc Cert.AddUpRefIdeal.main_arg1) = m ((c.tc : Thread Cert.AddUpRefIdeal.nD Cert.AddUpRefIdeal.τ).loc Cert.AddUpRefIdeal.main_arg1)
      ∧ r.2.mem ((c.tc : Thread Cert.AddUpRefIdeal.nD Cert.AddUpRefIdeal.τ).loc Cert.AddUpRefIdeal.main_arg2) = m ((c.tc : Thread Cert.AddUpRefIdeal.nD Cert.AddUpRefIdeal.τ).loc Cert.AddUpRefIdeal.main_arg2))
      ∧ r.2.sem = fun _ => 0)

def preserves_Sibling_SiblingIdeal : Prop :=
  True

def bitexact_Sibling_SiblingRef [hSibling : Cert.Sibling.Facts] [hSiblingRef : Cert.SiblingRef.Facts] : Prop :=
  ∀ (m : (ℓ : Loc Cert.Sibling.nD Cert.Sibling.τ Cert.Sibling.sig) → Buf (Elt Bits) ℓ) (g : Dev Cert.Sibling.nD → PrngReg)
    (m' : (ℓ : Loc Cert.SiblingRef.nD Cert.SiblingRef.τ Cert.SiblingRef.sig) → Buf (Elt Bits) ℓ) (g' : Dev Cert.SiblingRef.nD → PrngReg), Pre_Sibling m →
    (∀ c : Dev Cert.Sibling.nD,
      m ((c.tc : Thread Cert.Sibling.nD Cert.Sibling.τ).loc Cert.Sibling.main_arg0) = Layout.block ⟨4, ![4, 2, 240, 128]⟩ ⟨4, ![32, 2, 240, 128]⟩ 0 8 c (m' (((0 : Dev Cert.SiblingRef.nD).tc : Thread Cert.SiblingRef.nD Cert.SiblingRef.τ).loc Cert.SiblingRef.main_arg0))
      ∧ m ((c.tc : Thread Cert.Sibling.nD Cert.Sibling.τ).loc Cert.Sibling.main_arg1) = Layout.block ⟨4, ![4, 2, 512, 704]⟩ ⟨4, ![32, 2, 512, 704]⟩ 0 8 c (m' (((0 : Dev Cert.SiblingRef.nD).tc : Thread Cert.SiblingRef.nD Cert.SiblingRef.τ).loc Cert.SiblingRef.main_arg1))
      ∧ m ((c.tc : Thread Cert.Sibling.nD Cert.Sibling.τ).loc Cert.Sibling.main_arg2) = Layout.block ⟨4, ![4, 2, 512, 704]⟩ ⟨4, ![32, 2, 512, 704]⟩ 0 8 c (m' (((0 : Dev Cert.SiblingRef.nD).tc : Thread Cert.SiblingRef.nD Cert.SiblingRef.τ).loc Cert.SiblingRef.main_arg2))
      ∧ m ((c.tc : Thread Cert.Sibling.nD Cert.Sibling.τ).loc Cert.Sibling.main_arg3) = Layout.block ⟨4, ![4, 2, 352, 1024]⟩ ⟨4, ![32, 2, 352, 1024]⟩ 0 8 c (m' (((0 : Dev Cert.SiblingRef.nD).tc : Thread Cert.SiblingRef.nD Cert.SiblingRef.τ).loc Cert.SiblingRef.main_arg3))
      ∧ m ((c.tc : Thread Cert.Sibling.nD Cert.Sibling.τ).loc Cert.Sibling.main_arg4) = Layout.block ⟨4, ![4, 2, 128, 1024]⟩ ⟨4, ![32, 2, 128, 1024]⟩ 0 8 c (m' (((0 : Dev Cert.SiblingRef.nD).tc : Thread Cert.SiblingRef.nD Cert.SiblingRef.τ).loc Cert.SiblingRef.main_arg4))
      ∧ m ((c.tc : Thread Cert.Sibling.nD Cert.Sibling.τ).loc Cert.Sibling.main_arg5) = Layout.block ⟨4, ![4, 2, 128, 1024]⟩ ⟨4, ![32, 2, 128, 1024]⟩ 0 8 c (m' (((0 : Dev Cert.SiblingRef.nD).tc : Thread Cert.SiblingRef.nD Cert.SiblingRef.τ).loc Cert.SiblingRef.main_arg5))
      ∧ m ((c.tc : Thread Cert.Sibling.nD Cert.Sibling.τ).loc Cert.Sibling.main_arg6) = Layout.block ⟨4, ![4, 2, 512, 704]⟩ ⟨4, ![32, 2, 512, 704]⟩ 0 8 c (m' (((0 : Dev Cert.SiblingRef.nD).tc : Thread Cert.SiblingRef.nD Cert.SiblingRef.τ).loc Cert.SiblingRef.main_arg6))
      ∧ m ((c.tc : Thread Cert.Sibling.nD Cert.Sibling.τ).loc Cert.Sibling.main_arg7) = Layout.block ⟨4, ![4, 2, 512, 704]⟩ ⟨4, ![32, 2, 512, 704]⟩ 0 8 c (m' (((0 : Dev Cert.SiblingRef.nD).tc : Thread Cert.SiblingRef.nD Cert.SiblingRef.τ).loc Cert.SiblingRef.main_arg7))
      ∧ m ((c.tc : Thread Cert.Sibling.nD Cert.Sibling.τ).loc Cert.Sibling.main_arg8) = Layout.block ⟨4, ![4, 2, 352, 1024]⟩ ⟨4, ![32, 2, 352, 1024]⟩ 0 8 c (m' (((0 : Dev Cert.SiblingRef.nD).tc : Thread Cert.SiblingRef.nD Cert.SiblingRef.τ).loc Cert.SiblingRef.main_arg8))) →
    ∃ (v0 : Buf (Elt Bits) (((0 : Dev Cert.SiblingRef.nD).tc : Thread Cert.SiblingRef.nD Cert.SiblingRef.τ).loc Cert.SiblingRef.main_v8)) (v1 : Buf (Elt Bits) (((0 : Dev Cert.SiblingRef.nD).tc : Thread Cert.SiblingRef.nD Cert.SiblingRef.τ).loc Cert.SiblingRef.main_v17)) (v2 : Buf (Elt Bits) (((0 : Dev Cert.SiblingRef.nD).tc : Thread Cert.SiblingRef.nD Cert.SiblingRef.τ).loc Cert.SiblingRef.main_v26)) (v3 : Buf (Elt Bits) (((0 : Dev Cert.SiblingRef.nD).tc : Thread Cert.SiblingRef.nD Cert.SiblingRef.τ).loc Cert.SiblingRef.main_v35)) (v4 : Buf (Elt Bits) (((0 : Dev Cert.SiblingRef.nD).tc : Thread Cert.SiblingRef.nD Cert.SiblingRef.τ).loc Cert.SiblingRef.main_v44)) (v5 : Buf (Elt Bits) (((0 : Dev Cert.SiblingRef.nD).tc : Thread Cert.SiblingRef.nD Cert.SiblingRef.τ).loc Cert.SiblingRef.main_v53)) (v6 : Buf (Elt Bits) (((0 : Dev Cert.SiblingRef.nD).tc : Thread Cert.SiblingRef.nD Cert.SiblingRef.τ).loc Cert.SiblingRef.main_v62)) (v7 : Buf (Elt Bits) (((0 : Dev Cert.SiblingRef.nD).tc : Thread Cert.SiblingRef.nD Cert.SiblingRef.τ).loc Cert.SiblingRef.main_v71)) (v8 : Buf (Elt Bits) (((0 : Dev Cert.SiblingRef.nD).tc : Thread Cert.SiblingRef.nD Cert.SiblingRef.τ).loc Cert.SiblingRef.main_v80)),
      θ_run (Cert.Sibling.defs (F := Bits)) (onTc (τ := Cert.Sibling.τ) (Cert.Sibling.main (F := Bits))) ⟨m, fun _ => 0, g⟩ (fun r => ∀ c : Dev Cert.Sibling.nD,
          r.2.mem ((c.tc : Thread Cert.Sibling.nD Cert.Sibling.τ).loc Cert.Sibling.main_v1_0) = Layout.block ⟨3, ![4, 240, 128]⟩ ⟨3, ![32, 240, 128]⟩ 0 8 c v0
          ∧ r.2.mem ((c.tc : Thread Cert.Sibling.nD Cert.Sibling.τ).loc Cert.Sibling.main_v1_1) = Layout.block ⟨3, ![4, 512, 704]⟩ ⟨3, ![32, 512, 704]⟩ 0 8 c v1
          ∧ r.2.mem ((c.tc : Thread Cert.Sibling.nD Cert.Sibling.τ).loc Cert.Sibling.main_v1_2) = Layout.block ⟨3, ![4, 512, 704]⟩ ⟨3, ![32, 512, 704]⟩ 0 8 c v2
          ∧ r.2.mem ((c.tc : Thread Cert.Sibling.nD Cert.Sibling.τ).loc Cert.Sibling.main_v1_3) = Layout.block ⟨3, ![4, 352, 1024]⟩ ⟨3, ![32, 352, 1024]⟩ 0 8 c v3
          ∧ r.2.mem ((c.tc : Thread Cert.Sibling.nD Cert.Sibling.τ).loc Cert.Sibling.main_v1_4) = Layout.block ⟨3, ![4, 128, 1024]⟩ ⟨3, ![32, 128, 1024]⟩ 0 8 c v4
          ∧ r.2.mem ((c.tc : Thread Cert.Sibling.nD Cert.Sibling.τ).loc Cert.Sibling.main_v1_5) = Layout.block ⟨3, ![4, 128, 1024]⟩ ⟨3, ![32, 128, 1024]⟩ 0 8 c v5
          ∧ r.2.mem ((c.tc : Thread Cert.Sibling.nD Cert.Sibling.τ).loc Cert.Sibling.main_v1_6) = Layout.block ⟨3, ![4, 512, 704]⟩ ⟨3, ![32, 512, 704]⟩ 0 8 c v6
          ∧ r.2.mem ((c.tc : Thread Cert.Sibling.nD Cert.Sibling.τ).loc Cert.Sibling.main_v1_7) = Layout.block ⟨3, ![4, 512, 704]⟩ ⟨3, ![32, 512, 704]⟩ 0 8 c v7
          ∧ r.2.mem ((c.tc : Thread Cert.Sibling.nD Cert.Sibling.τ).loc Cert.Sibling.main_v1_8) = Layout.block ⟨3, ![4, 352, 1024]⟩ ⟨3, ![32, 352, 1024]⟩ 0 8 c v8
          ∧ r.2.mem ((c.tc : Thread Cert.Sibling.nD Cert.Sibling.τ).loc Cert.Sibling.main_arg0) = m ((c.tc : Thread Cert.Sibling.nD Cert.Sibling.τ).loc Cert.Sibling.main_arg0)
          ∧ r.2.mem ((c.tc : Thread Cert.Sibling.nD Cert.Sibling.τ).loc Cert.Sibling.main_arg1) = m ((c.tc : Thread Cert.Sibling.nD Cert.Sibling.τ).loc Cert.Sibling.main_arg1)
          ∧ r.2.mem ((c.tc : Thread Cert.Sibling.nD Cert.Sibling.τ).loc Cert.Sibling.main_arg2) = m ((c.tc : Thread Cert.Sibling.nD Cert.Sibling.τ).loc Cert.Sibling.main_arg2)
          ∧ r.2.mem ((c.tc : Thread Cert.Sibling.nD Cert.Sibling.τ).loc Cert.Sibling.main_arg3) = m ((c.tc : Thread Cert.Sibling.nD Cert.Sibling.τ).loc Cert.Sibling.main_arg3)
          ∧ r.2.mem ((c.tc : Thread Cert.Sibling.nD Cert.Sibling.τ).loc Cert.Sibling.main_arg4) = m ((c.tc : Thread Cert.Sibling.nD Cert.Sibling.τ).loc Cert.Sibling.main_arg4)
          ∧ r.2.mem ((c.tc : Thread Cert.Sibling.nD Cert.Sibling.τ).loc Cert.Sibling.main_arg5) = m ((c.tc : Thread Cert.Sibling.nD Cert.Sibling.τ).loc Cert.Sibling.main_arg5)
          ∧ r.2.mem ((c.tc : Thread Cert.Sibling.nD Cert.Sibling.τ).loc Cert.Sibling.main_arg6) = m ((c.tc : Thread Cert.Sibling.nD Cert.Sibling.τ).loc Cert.Sibling.main_arg6)
          ∧ r.2.mem ((c.tc : Thread Cert.Sibling.nD Cert.Sibling.τ).loc Cert.Sibling.main_arg7) = m ((c.tc : Thread Cert.Sibling.nD Cert.Sibling.τ).loc Cert.Sibling.main_arg7)
          ∧ r.2.mem ((c.tc : Thread Cert.Sibling.nD Cert.Sibling.τ).loc Cert.Sibling.main_arg8) = m ((c.tc : Thread Cert.Sibling.nD Cert.Sibling.τ).loc Cert.Sibling.main_arg8))
      ∧ θ_run (Cert.SiblingRef.defs (F := Bits)) (onTc (τ := Cert.SiblingRef.τ) (Cert.SiblingRef.main (F := Bits))) ⟨m', fun _ => 0, g'⟩ (fun r =>
          r.2.mem (((0 : Dev Cert.SiblingRef.nD).tc : Thread Cert.SiblingRef.nD Cert.SiblingRef.τ).loc Cert.SiblingRef.main_v8) = v0
          ∧ r.2.mem (((0 : Dev Cert.SiblingRef.nD).tc : Thread Cert.SiblingRef.nD Cert.SiblingRef.τ).loc Cert.SiblingRef.main_v17) = v1
          ∧ r.2.mem (((0 : Dev Cert.SiblingRef.nD).tc : Thread Cert.SiblingRef.nD Cert.SiblingRef.τ).loc Cert.SiblingRef.main_v26) = v2
          ∧ r.2.mem (((0 : Dev Cert.SiblingRef.nD).tc : Thread Cert.SiblingRef.nD Cert.SiblingRef.τ).loc Cert.SiblingRef.main_v35) = v3
          ∧ r.2.mem (((0 : Dev Cert.SiblingRef.nD).tc : Thread Cert.SiblingRef.nD Cert.SiblingRef.τ).loc Cert.SiblingRef.main_v44) = v4
          ∧ r.2.mem (((0 : Dev Cert.SiblingRef.nD).tc : Thread Cert.SiblingRef.nD Cert.SiblingRef.τ).loc Cert.SiblingRef.main_v53) = v5
          ∧ r.2.mem (((0 : Dev Cert.SiblingRef.nD).tc : Thread Cert.SiblingRef.nD Cert.SiblingRef.τ).loc Cert.SiblingRef.main_v62) = v6
          ∧ r.2.mem (((0 : Dev Cert.SiblingRef.nD).tc : Thread Cert.SiblingRef.nD Cert.SiblingRef.τ).loc Cert.SiblingRef.main_v71) = v7
          ∧ r.2.mem (((0 : Dev Cert.SiblingRef.nD).tc : Thread Cert.SiblingRef.nD Cert.SiblingRef.τ).loc Cert.SiblingRef.main_v80) = v8
          ∧ r.2.mem (((0 : Dev Cert.SiblingRef.nD).tc : Thread Cert.SiblingRef.nD Cert.SiblingRef.τ).loc Cert.SiblingRef.main_arg0) = m' (((0 : Dev Cert.SiblingRef.nD).tc : Thread Cert.SiblingRef.nD Cert.SiblingRef.τ).loc Cert.SiblingRef.main_arg0)
          ∧ r.2.mem (((0 : Dev Cert.SiblingRef.nD).tc : Thread Cert.SiblingRef.nD Cert.SiblingRef.τ).loc Cert.SiblingRef.main_arg1) = m' (((0 : Dev Cert.SiblingRef.nD).tc : Thread Cert.SiblingRef.nD Cert.SiblingRef.τ).loc Cert.SiblingRef.main_arg1)
          ∧ r.2.mem (((0 : Dev Cert.SiblingRef.nD).tc : Thread Cert.SiblingRef.nD Cert.SiblingRef.τ).loc Cert.SiblingRef.main_arg2) = m' (((0 : Dev Cert.SiblingRef.nD).tc : Thread Cert.SiblingRef.nD Cert.SiblingRef.τ).loc Cert.SiblingRef.main_arg2)
          ∧ r.2.mem (((0 : Dev Cert.SiblingRef.nD).tc : Thread Cert.SiblingRef.nD Cert.SiblingRef.τ).loc Cert.SiblingRef.main_arg3) = m' (((0 : Dev Cert.SiblingRef.nD).tc : Thread Cert.SiblingRef.nD Cert.SiblingRef.τ).loc Cert.SiblingRef.main_arg3)
          ∧ r.2.mem (((0 : Dev Cert.SiblingRef.nD).tc : Thread Cert.SiblingRef.nD Cert.SiblingRef.τ).loc Cert.SiblingRef.main_arg4) = m' (((0 : Dev Cert.SiblingRef.nD).tc : Thread Cert.SiblingRef.nD Cert.SiblingRef.τ).loc Cert.SiblingRef.main_arg4)
          ∧ r.2.mem (((0 : Dev Cert.SiblingRef.nD).tc : Thread Cert.SiblingRef.nD Cert.SiblingRef.τ).loc Cert.SiblingRef.main_arg5) = m' (((0 : Dev Cert.SiblingRef.nD).tc : Thread Cert.SiblingRef.nD Cert.SiblingRef.τ).loc Cert.SiblingRef.main_arg5)
          ∧ r.2.mem (((0 : Dev Cert.SiblingRef.nD).tc : Thread Cert.SiblingRef.nD Cert.SiblingRef.τ).loc Cert.SiblingRef.main_arg6) = m' (((0 : Dev Cert.SiblingRef.nD).tc : Thread Cert.SiblingRef.nD Cert.SiblingRef.τ).loc Cert.SiblingRef.main_arg6)
          ∧ r.2.mem (((0 : Dev Cert.SiblingRef.nD).tc : Thread Cert.SiblingRef.nD Cert.SiblingRef.τ).loc Cert.SiblingRef.main_arg7) = m' (((0 : Dev Cert.SiblingRef.nD).tc : Thread Cert.SiblingRef.nD Cert.SiblingRef.τ).loc Cert.SiblingRef.main_arg7)
          ∧ r.2.mem (((0 : Dev Cert.SiblingRef.nD).tc : Thread Cert.SiblingRef.nD Cert.SiblingRef.τ).loc Cert.SiblingRef.main_arg8) = m' (((0 : Dev Cert.SiblingRef.nD).tc : Thread Cert.SiblingRef.nD Cert.SiblingRef.τ).loc Cert.SiblingRef.main_arg8))

def algebraic_SiblingIdeal_SiblingRefIdeal [hSiblingIdeal : Cert.SiblingIdeal.Facts] [hSiblingRefIdeal : Cert.SiblingRefIdeal.Facts] : Prop :=
  ∀ (m : (ℓ : Loc Cert.SiblingIdeal.nD Cert.SiblingIdeal.τ Cert.SiblingIdeal.sig) → Buf (Elt Ideal) ℓ) (g : Dev Cert.SiblingIdeal.nD → PrngReg)
    (m' : (ℓ : Loc Cert.SiblingRefIdeal.nD Cert.SiblingRefIdeal.τ Cert.SiblingRefIdeal.sig) → Buf (Elt Ideal) ℓ) (g' : Dev Cert.SiblingRefIdeal.nD → PrngReg), Pre_SiblingIdeal m →
    (∀ c : Dev Cert.SiblingIdeal.nD,
      m ((c.tc : Thread Cert.SiblingIdeal.nD Cert.SiblingIdeal.τ).loc Cert.SiblingIdeal.main_arg0) = Layout.block ⟨4, ![4, 2, 240, 128]⟩ ⟨4, ![32, 2, 240, 128]⟩ 0 8 c (m' (((0 : Dev Cert.SiblingRefIdeal.nD).tc : Thread Cert.SiblingRefIdeal.nD Cert.SiblingRefIdeal.τ).loc Cert.SiblingRefIdeal.main_arg0))
      ∧ m ((c.tc : Thread Cert.SiblingIdeal.nD Cert.SiblingIdeal.τ).loc Cert.SiblingIdeal.main_arg1) = Layout.block ⟨4, ![4, 2, 512, 704]⟩ ⟨4, ![32, 2, 512, 704]⟩ 0 8 c (m' (((0 : Dev Cert.SiblingRefIdeal.nD).tc : Thread Cert.SiblingRefIdeal.nD Cert.SiblingRefIdeal.τ).loc Cert.SiblingRefIdeal.main_arg1))
      ∧ m ((c.tc : Thread Cert.SiblingIdeal.nD Cert.SiblingIdeal.τ).loc Cert.SiblingIdeal.main_arg2) = Layout.block ⟨4, ![4, 2, 512, 704]⟩ ⟨4, ![32, 2, 512, 704]⟩ 0 8 c (m' (((0 : Dev Cert.SiblingRefIdeal.nD).tc : Thread Cert.SiblingRefIdeal.nD Cert.SiblingRefIdeal.τ).loc Cert.SiblingRefIdeal.main_arg2))
      ∧ m ((c.tc : Thread Cert.SiblingIdeal.nD Cert.SiblingIdeal.τ).loc Cert.SiblingIdeal.main_arg3) = Layout.block ⟨4, ![4, 2, 352, 1024]⟩ ⟨4, ![32, 2, 352, 1024]⟩ 0 8 c (m' (((0 : Dev Cert.SiblingRefIdeal.nD).tc : Thread Cert.SiblingRefIdeal.nD Cert.SiblingRefIdeal.τ).loc Cert.SiblingRefIdeal.main_arg3))
      ∧ m ((c.tc : Thread Cert.SiblingIdeal.nD Cert.SiblingIdeal.τ).loc Cert.SiblingIdeal.main_arg4) = Layout.block ⟨4, ![4, 2, 128, 1024]⟩ ⟨4, ![32, 2, 128, 1024]⟩ 0 8 c (m' (((0 : Dev Cert.SiblingRefIdeal.nD).tc : Thread Cert.SiblingRefIdeal.nD Cert.SiblingRefIdeal.τ).loc Cert.SiblingRefIdeal.main_arg4))
      ∧ m ((c.tc : Thread Cert.SiblingIdeal.nD Cert.SiblingIdeal.τ).loc Cert.SiblingIdeal.main_arg5) = Layout.block ⟨4, ![4, 2, 128, 1024]⟩ ⟨4, ![32, 2, 128, 1024]⟩ 0 8 c (m' (((0 : Dev Cert.SiblingRefIdeal.nD).tc : Thread Cert.SiblingRefIdeal.nD Cert.SiblingRefIdeal.τ).loc Cert.SiblingRefIdeal.main_arg5))
      ∧ m ((c.tc : Thread Cert.SiblingIdeal.nD Cert.SiblingIdeal.τ).loc Cert.SiblingIdeal.main_arg6) = Layout.block ⟨4, ![4, 2, 512, 704]⟩ ⟨4, ![32, 2, 512, 704]⟩ 0 8 c (m' (((0 : Dev Cert.SiblingRefIdeal.nD).tc : Thread Cert.SiblingRefIdeal.nD Cert.SiblingRefIdeal.τ).loc Cert.SiblingRefIdeal.main_arg6))
      ∧ m ((c.tc : Thread Cert.SiblingIdeal.nD Cert.SiblingIdeal.τ).loc Cert.SiblingIdeal.main_arg7) = Layout.block ⟨4, ![4, 2, 512, 704]⟩ ⟨4, ![32, 2, 512, 704]⟩ 0 8 c (m' (((0 : Dev Cert.SiblingRefIdeal.nD).tc : Thread Cert.SiblingRefIdeal.nD Cert.SiblingRefIdeal.τ).loc Cert.SiblingRefIdeal.main_arg7))
      ∧ m ((c.tc : Thread Cert.SiblingIdeal.nD Cert.SiblingIdeal.τ).loc Cert.SiblingIdeal.main_arg8) = Layout.block ⟨4, ![4, 2, 352, 1024]⟩ ⟨4, ![32, 2, 352, 1024]⟩ 0 8 c (m' (((0 : Dev Cert.SiblingRefIdeal.nD).tc : Thread Cert.SiblingRefIdeal.nD Cert.SiblingRefIdeal.τ).loc Cert.SiblingRefIdeal.main_arg8))) →
    ∃ (v0 : Buf (Elt Ideal) (((0 : Dev Cert.SiblingRefIdeal.nD).tc : Thread Cert.SiblingRefIdeal.nD Cert.SiblingRefIdeal.τ).loc Cert.SiblingRefIdeal.main_v8)) (v1 : Buf (Elt Ideal) (((0 : Dev Cert.SiblingRefIdeal.nD).tc : Thread Cert.SiblingRefIdeal.nD Cert.SiblingRefIdeal.τ).loc Cert.SiblingRefIdeal.main_v17)) (v2 : Buf (Elt Ideal) (((0 : Dev Cert.SiblingRefIdeal.nD).tc : Thread Cert.SiblingRefIdeal.nD Cert.SiblingRefIdeal.τ).loc Cert.SiblingRefIdeal.main_v26)) (v3 : Buf (Elt Ideal) (((0 : Dev Cert.SiblingRefIdeal.nD).tc : Thread Cert.SiblingRefIdeal.nD Cert.SiblingRefIdeal.τ).loc Cert.SiblingRefIdeal.main_v35)) (v4 : Buf (Elt Ideal) (((0 : Dev Cert.SiblingRefIdeal.nD).tc : Thread Cert.SiblingRefIdeal.nD Cert.SiblingRefIdeal.τ).loc Cert.SiblingRefIdeal.main_v44)) (v5 : Buf (Elt Ideal) (((0 : Dev Cert.SiblingRefIdeal.nD).tc : Thread Cert.SiblingRefIdeal.nD Cert.SiblingRefIdeal.τ).loc Cert.SiblingRefIdeal.main_v53)) (v6 : Buf (Elt Ideal) (((0 : Dev Cert.SiblingRefIdeal.nD).tc : Thread Cert.SiblingRefIdeal.nD Cert.SiblingRefIdeal.τ).loc Cert.SiblingRefIdeal.main_v62)) (v7 : Buf (Elt Ideal) (((0 : Dev Cert.SiblingRefIdeal.nD).tc : Thread Cert.SiblingRefIdeal.nD Cert.SiblingRefIdeal.τ).loc Cert.SiblingRefIdeal.main_v71)) (v8 : Buf (Elt Ideal) (((0 : Dev Cert.SiblingRefIdeal.nD).tc : Thread Cert.SiblingRefIdeal.nD Cert.SiblingRefIdeal.τ).loc Cert.SiblingRefIdeal.main_v80)),
      θ_run (Cert.SiblingIdeal.defs (F := Ideal)) (onTc (τ := Cert.SiblingIdeal.τ) (Cert.SiblingIdeal.main (F := Ideal))) ⟨m, fun _ => 0, g⟩ (fun r => ∀ c : Dev Cert.SiblingIdeal.nD,
          r.2.mem ((c.tc : Thread Cert.SiblingIdeal.nD Cert.SiblingIdeal.τ).loc Cert.SiblingIdeal.main_v1_0) = Layout.block ⟨3, ![4, 240, 128]⟩ ⟨3, ![32, 240, 128]⟩ 0 8 c v0
          ∧ r.2.mem ((c.tc : Thread Cert.SiblingIdeal.nD Cert.SiblingIdeal.τ).loc Cert.SiblingIdeal.main_v1_1) = Layout.block ⟨3, ![4, 512, 704]⟩ ⟨3, ![32, 512, 704]⟩ 0 8 c v1
          ∧ r.2.mem ((c.tc : Thread Cert.SiblingIdeal.nD Cert.SiblingIdeal.τ).loc Cert.SiblingIdeal.main_v1_2) = Layout.block ⟨3, ![4, 512, 704]⟩ ⟨3, ![32, 512, 704]⟩ 0 8 c v2
          ∧ r.2.mem ((c.tc : Thread Cert.SiblingIdeal.nD Cert.SiblingIdeal.τ).loc Cert.SiblingIdeal.main_v1_3) = Layout.block ⟨3, ![4, 352, 1024]⟩ ⟨3, ![32, 352, 1024]⟩ 0 8 c v3
          ∧ r.2.mem ((c.tc : Thread Cert.SiblingIdeal.nD Cert.SiblingIdeal.τ).loc Cert.SiblingIdeal.main_v1_4) = Layout.block ⟨3, ![4, 128, 1024]⟩ ⟨3, ![32, 128, 1024]⟩ 0 8 c v4
          ∧ r.2.mem ((c.tc : Thread Cert.SiblingIdeal.nD Cert.SiblingIdeal.τ).loc Cert.SiblingIdeal.main_v1_5) = Layout.block ⟨3, ![4, 128, 1024]⟩ ⟨3, ![32, 128, 1024]⟩ 0 8 c v5
          ∧ r.2.mem ((c.tc : Thread Cert.SiblingIdeal.nD Cert.SiblingIdeal.τ).loc Cert.SiblingIdeal.main_v1_6) = Layout.block ⟨3, ![4, 512, 704]⟩ ⟨3, ![32, 512, 704]⟩ 0 8 c v6
          ∧ r.2.mem ((c.tc : Thread Cert.SiblingIdeal.nD Cert.SiblingIdeal.τ).loc Cert.SiblingIdeal.main_v1_7) = Layout.block ⟨3, ![4, 512, 704]⟩ ⟨3, ![32, 512, 704]⟩ 0 8 c v7
          ∧ r.2.mem ((c.tc : Thread Cert.SiblingIdeal.nD Cert.SiblingIdeal.τ).loc Cert.SiblingIdeal.main_v1_8) = Layout.block ⟨3, ![4, 352, 1024]⟩ ⟨3, ![32, 352, 1024]⟩ 0 8 c v8
          ∧ r.2.mem ((c.tc : Thread Cert.SiblingIdeal.nD Cert.SiblingIdeal.τ).loc Cert.SiblingIdeal.main_arg0) = m ((c.tc : Thread Cert.SiblingIdeal.nD Cert.SiblingIdeal.τ).loc Cert.SiblingIdeal.main_arg0)
          ∧ r.2.mem ((c.tc : Thread Cert.SiblingIdeal.nD Cert.SiblingIdeal.τ).loc Cert.SiblingIdeal.main_arg1) = m ((c.tc : Thread Cert.SiblingIdeal.nD Cert.SiblingIdeal.τ).loc Cert.SiblingIdeal.main_arg1)
          ∧ r.2.mem ((c.tc : Thread Cert.SiblingIdeal.nD Cert.SiblingIdeal.τ).loc Cert.SiblingIdeal.main_arg2) = m ((c.tc : Thread Cert.SiblingIdeal.nD Cert.SiblingIdeal.τ).loc Cert.SiblingIdeal.main_arg2)
          ∧ r.2.mem ((c.tc : Thread Cert.SiblingIdeal.nD Cert.SiblingIdeal.τ).loc Cert.SiblingIdeal.main_arg3) = m ((c.tc : Thread Cert.SiblingIdeal.nD Cert.SiblingIdeal.τ).loc Cert.SiblingIdeal.main_arg3)
          ∧ r.2.mem ((c.tc : Thread Cert.SiblingIdeal.nD Cert.SiblingIdeal.τ).loc Cert.SiblingIdeal.main_arg4) = m ((c.tc : Thread Cert.SiblingIdeal.nD Cert.SiblingIdeal.τ).loc Cert.SiblingIdeal.main_arg4)
          ∧ r.2.mem ((c.tc : Thread Cert.SiblingIdeal.nD Cert.SiblingIdeal.τ).loc Cert.SiblingIdeal.main_arg5) = m ((c.tc : Thread Cert.SiblingIdeal.nD Cert.SiblingIdeal.τ).loc Cert.SiblingIdeal.main_arg5)
          ∧ r.2.mem ((c.tc : Thread Cert.SiblingIdeal.nD Cert.SiblingIdeal.τ).loc Cert.SiblingIdeal.main_arg6) = m ((c.tc : Thread Cert.SiblingIdeal.nD Cert.SiblingIdeal.τ).loc Cert.SiblingIdeal.main_arg6)
          ∧ r.2.mem ((c.tc : Thread Cert.SiblingIdeal.nD Cert.SiblingIdeal.τ).loc Cert.SiblingIdeal.main_arg7) = m ((c.tc : Thread Cert.SiblingIdeal.nD Cert.SiblingIdeal.τ).loc Cert.SiblingIdeal.main_arg7)
          ∧ r.2.mem ((c.tc : Thread Cert.SiblingIdeal.nD Cert.SiblingIdeal.τ).loc Cert.SiblingIdeal.main_arg8) = m ((c.tc : Thread Cert.SiblingIdeal.nD Cert.SiblingIdeal.τ).loc Cert.SiblingIdeal.main_arg8))
      ∧ θ_run (Cert.SiblingRefIdeal.defs (F := Ideal)) (onTc (τ := Cert.SiblingRefIdeal.τ) (Cert.SiblingRefIdeal.main (F := Ideal))) ⟨m', fun _ => 0, g'⟩ (fun r =>
          r.2.mem (((0 : Dev Cert.SiblingRefIdeal.nD).tc : Thread Cert.SiblingRefIdeal.nD Cert.SiblingRefIdeal.τ).loc Cert.SiblingRefIdeal.main_v8) = v0
          ∧ r.2.mem (((0 : Dev Cert.SiblingRefIdeal.nD).tc : Thread Cert.SiblingRefIdeal.nD Cert.SiblingRefIdeal.τ).loc Cert.SiblingRefIdeal.main_v17) = v1
          ∧ r.2.mem (((0 : Dev Cert.SiblingRefIdeal.nD).tc : Thread Cert.SiblingRefIdeal.nD Cert.SiblingRefIdeal.τ).loc Cert.SiblingRefIdeal.main_v26) = v2
          ∧ r.2.mem (((0 : Dev Cert.SiblingRefIdeal.nD).tc : Thread Cert.SiblingRefIdeal.nD Cert.SiblingRefIdeal.τ).loc Cert.SiblingRefIdeal.main_v35) = v3
          ∧ r.2.mem (((0 : Dev Cert.SiblingRefIdeal.nD).tc : Thread Cert.SiblingRefIdeal.nD Cert.SiblingRefIdeal.τ).loc Cert.SiblingRefIdeal.main_v44) = v4
          ∧ r.2.mem (((0 : Dev Cert.SiblingRefIdeal.nD).tc : Thread Cert.SiblingRefIdeal.nD Cert.SiblingRefIdeal.τ).loc Cert.SiblingRefIdeal.main_v53) = v5
          ∧ r.2.mem (((0 : Dev Cert.SiblingRefIdeal.nD).tc : Thread Cert.SiblingRefIdeal.nD Cert.SiblingRefIdeal.τ).loc Cert.SiblingRefIdeal.main_v62) = v6
          ∧ r.2.mem (((0 : Dev Cert.SiblingRefIdeal.nD).tc : Thread Cert.SiblingRefIdeal.nD Cert.SiblingRefIdeal.τ).loc Cert.SiblingRefIdeal.main_v71) = v7
          ∧ r.2.mem (((0 : Dev Cert.SiblingRefIdeal.nD).tc : Thread Cert.SiblingRefIdeal.nD Cert.SiblingRefIdeal.τ).loc Cert.SiblingRefIdeal.main_v80) = v8
          ∧ r.2.mem (((0 : Dev Cert.SiblingRefIdeal.nD).tc : Thread Cert.SiblingRefIdeal.nD Cert.SiblingRefIdeal.τ).loc Cert.SiblingRefIdeal.main_arg0) = m' (((0 : Dev Cert.SiblingRefIdeal.nD).tc : Thread Cert.SiblingRefIdeal.nD Cert.SiblingRefIdeal.τ).loc Cert.SiblingRefIdeal.main_arg0)
          ∧ r.2.mem (((0 : Dev Cert.SiblingRefIdeal.nD).tc : Thread Cert.SiblingRefIdeal.nD Cert.SiblingRefIdeal.τ).loc Cert.SiblingRefIdeal.main_arg1) = m' (((0 : Dev Cert.SiblingRefIdeal.nD).tc : Thread Cert.SiblingRefIdeal.nD Cert.SiblingRefIdeal.τ).loc Cert.SiblingRefIdeal.main_arg1)
          ∧ r.2.mem (((0 : Dev Cert.SiblingRefIdeal.nD).tc : Thread Cert.SiblingRefIdeal.nD Cert.SiblingRefIdeal.τ).loc Cert.SiblingRefIdeal.main_arg2) = m' (((0 : Dev Cert.SiblingRefIdeal.nD).tc : Thread Cert.SiblingRefIdeal.nD Cert.SiblingRefIdeal.τ).loc Cert.SiblingRefIdeal.main_arg2)
          ∧ r.2.mem (((0 : Dev Cert.SiblingRefIdeal.nD).tc : Thread Cert.SiblingRefIdeal.nD Cert.SiblingRefIdeal.τ).loc Cert.SiblingRefIdeal.main_arg3) = m' (((0 : Dev Cert.SiblingRefIdeal.nD).tc : Thread Cert.SiblingRefIdeal.nD Cert.SiblingRefIdeal.τ).loc Cert.SiblingRefIdeal.main_arg3)
          ∧ r.2.mem (((0 : Dev Cert.SiblingRefIdeal.nD).tc : Thread Cert.SiblingRefIdeal.nD Cert.SiblingRefIdeal.τ).loc Cert.SiblingRefIdeal.main_arg4) = m' (((0 : Dev Cert.SiblingRefIdeal.nD).tc : Thread Cert.SiblingRefIdeal.nD Cert.SiblingRefIdeal.τ).loc Cert.SiblingRefIdeal.main_arg4)
          ∧ r.2.mem (((0 : Dev Cert.SiblingRefIdeal.nD).tc : Thread Cert.SiblingRefIdeal.nD Cert.SiblingRefIdeal.τ).loc Cert.SiblingRefIdeal.main_arg5) = m' (((0 : Dev Cert.SiblingRefIdeal.nD).tc : Thread Cert.SiblingRefIdeal.nD Cert.SiblingRefIdeal.τ).loc Cert.SiblingRefIdeal.main_arg5)
          ∧ r.2.mem (((0 : Dev Cert.SiblingRefIdeal.nD).tc : Thread Cert.SiblingRefIdeal.nD Cert.SiblingRefIdeal.τ).loc Cert.SiblingRefIdeal.main_arg6) = m' (((0 : Dev Cert.SiblingRefIdeal.nD).tc : Thread Cert.SiblingRefIdeal.nD Cert.SiblingRefIdeal.τ).loc Cert.SiblingRefIdeal.main_arg6)
          ∧ r.2.mem (((0 : Dev Cert.SiblingRefIdeal.nD).tc : Thread Cert.SiblingRefIdeal.nD Cert.SiblingRefIdeal.τ).loc Cert.SiblingRefIdeal.main_arg7) = m' (((0 : Dev Cert.SiblingRefIdeal.nD).tc : Thread Cert.SiblingRefIdeal.nD Cert.SiblingRefIdeal.τ).loc Cert.SiblingRefIdeal.main_arg7)
          ∧ r.2.mem (((0 : Dev Cert.SiblingRefIdeal.nD).tc : Thread Cert.SiblingRefIdeal.nD Cert.SiblingRefIdeal.τ).loc Cert.SiblingRefIdeal.main_arg8) = m' (((0 : Dev Cert.SiblingRefIdeal.nD).tc : Thread Cert.SiblingRefIdeal.nD Cert.SiblingRefIdeal.τ).loc Cert.SiblingRefIdeal.main_arg8))

def preserves_Chips_ChipsIdeal : Prop :=
  True

def bitexact_Chips_ChipsRef [hChips : Cert.Chips.Facts] [hChipsRef : Cert.ChipsRef.Facts] : Prop :=
  ∀ (m : (ℓ : Loc Cert.Chips.nD Cert.Chips.τ Cert.Chips.sig) → Buf (Elt Bits) ℓ) (g : Dev Cert.Chips.nD → PrngReg)
    (m' : (ℓ : Loc Cert.ChipsRef.nD Cert.ChipsRef.τ Cert.ChipsRef.sig) → Buf (Elt Bits) ℓ) (g' : Dev Cert.ChipsRef.nD → PrngReg), Pre_Chips m →
    (∀ c : Dev Cert.Chips.nD,
      m ((c.tc : Thread Cert.Chips.nD Cert.Chips.τ).loc Cert.Chips.main_arg0) = Layout.block ⟨3, ![4, 240, 128]⟩ ⟨3, ![32, 240, 128]⟩ 0 8 c (m' (((0 : Dev Cert.ChipsRef.nD).tc : Thread Cert.ChipsRef.nD Cert.ChipsRef.τ).loc Cert.ChipsRef.main_arg0))
      ∧ m ((c.tc : Thread Cert.Chips.nD Cert.Chips.τ).loc Cert.Chips.main_arg1) = Layout.block ⟨3, ![4, 512, 704]⟩ ⟨3, ![32, 512, 704]⟩ 0 8 c (m' (((0 : Dev Cert.ChipsRef.nD).tc : Thread Cert.ChipsRef.nD Cert.ChipsRef.τ).loc Cert.ChipsRef.main_arg1))
      ∧ m ((c.tc : Thread Cert.Chips.nD Cert.Chips.τ).loc Cert.Chips.main_arg2) = Layout.block ⟨3, ![4, 512, 704]⟩ ⟨3, ![32, 512, 704]⟩ 0 8 c (m' (((0 : Dev Cert.ChipsRef.nD).tc : Thread Cert.ChipsRef.nD Cert.ChipsRef.τ).loc Cert.ChipsRef.main_arg2))
      ∧ m ((c.tc : Thread Cert.Chips.nD Cert.Chips.τ).loc Cert.Chips.main_arg3) = Layout.block ⟨3, ![4, 352, 1024]⟩ ⟨3, ![32, 352, 1024]⟩ 0 8 c (m' (((0 : Dev Cert.ChipsRef.nD).tc : Thread Cert.ChipsRef.nD Cert.ChipsRef.τ).loc Cert.ChipsRef.main_arg3))
      ∧ m ((c.tc : Thread Cert.Chips.nD Cert.Chips.τ).loc Cert.Chips.main_arg4) = Layout.block ⟨3, ![4, 128, 1024]⟩ ⟨3, ![32, 128, 1024]⟩ 0 8 c (m' (((0 : Dev Cert.ChipsRef.nD).tc : Thread Cert.ChipsRef.nD Cert.ChipsRef.τ).loc Cert.ChipsRef.main_arg4))
      ∧ m ((c.tc : Thread Cert.Chips.nD Cert.Chips.τ).loc Cert.Chips.main_arg5) = Layout.block ⟨3, ![4, 128, 1024]⟩ ⟨3, ![32, 128, 1024]⟩ 0 8 c (m' (((0 : Dev Cert.ChipsRef.nD).tc : Thread Cert.ChipsRef.nD Cert.ChipsRef.τ).loc Cert.ChipsRef.main_arg5))
      ∧ m ((c.tc : Thread Cert.Chips.nD Cert.Chips.τ).loc Cert.Chips.main_arg6) = Layout.block ⟨3, ![4, 512, 704]⟩ ⟨3, ![32, 512, 704]⟩ 0 8 c (m' (((0 : Dev Cert.ChipsRef.nD).tc : Thread Cert.ChipsRef.nD Cert.ChipsRef.τ).loc Cert.ChipsRef.main_arg6))
      ∧ m ((c.tc : Thread Cert.Chips.nD Cert.Chips.τ).loc Cert.Chips.main_arg7) = Layout.block ⟨3, ![4, 512, 704]⟩ ⟨3, ![32, 512, 704]⟩ 0 8 c (m' (((0 : Dev Cert.ChipsRef.nD).tc : Thread Cert.ChipsRef.nD Cert.ChipsRef.τ).loc Cert.ChipsRef.main_arg7))
      ∧ m ((c.tc : Thread Cert.Chips.nD Cert.Chips.τ).loc Cert.Chips.main_arg8) = Layout.block ⟨3, ![4, 352, 1024]⟩ ⟨3, ![32, 352, 1024]⟩ 0 8 c (m' (((0 : Dev Cert.ChipsRef.nD).tc : Thread Cert.ChipsRef.nD Cert.ChipsRef.τ).loc Cert.ChipsRef.main_arg8))) →
    ∃ (v0 : Buf (Elt Bits) (((0 : Dev Cert.ChipsRef.nD).tc : Thread Cert.ChipsRef.nD Cert.ChipsRef.τ).loc Cert.ChipsRef.main_v46)) (v1 : Buf (Elt Bits) (((0 : Dev Cert.ChipsRef.nD).tc : Thread Cert.ChipsRef.nD Cert.ChipsRef.τ).loc Cert.ChipsRef.main_v93)) (v2 : Buf (Elt Bits) (((0 : Dev Cert.ChipsRef.nD).tc : Thread Cert.ChipsRef.nD Cert.ChipsRef.τ).loc Cert.ChipsRef.main_v140)) (v3 : Buf (Elt Bits) (((0 : Dev Cert.ChipsRef.nD).tc : Thread Cert.ChipsRef.nD Cert.ChipsRef.τ).loc Cert.ChipsRef.main_v187)) (v4 : Buf (Elt Bits) (((0 : Dev Cert.ChipsRef.nD).tc : Thread Cert.ChipsRef.nD Cert.ChipsRef.τ).loc Cert.ChipsRef.main_v234)) (v5 : Buf (Elt Bits) (((0 : Dev Cert.ChipsRef.nD).tc : Thread Cert.ChipsRef.nD Cert.ChipsRef.τ).loc Cert.ChipsRef.main_v281)) (v6 : Buf (Elt Bits) (((0 : Dev Cert.ChipsRef.nD).tc : Thread Cert.ChipsRef.nD Cert.ChipsRef.τ).loc Cert.ChipsRef.main_v328)) (v7 : Buf (Elt Bits) (((0 : Dev Cert.ChipsRef.nD).tc : Thread Cert.ChipsRef.nD Cert.ChipsRef.τ).loc Cert.ChipsRef.main_v375)) (v8 : Buf (Elt Bits) (((0 : Dev Cert.ChipsRef.nD).tc : Thread Cert.ChipsRef.nD Cert.ChipsRef.τ).loc Cert.ChipsRef.main_v422)),
      θ_run (Cert.Chips.defs (F := Bits)) (onTc (τ := Cert.Chips.τ) (Cert.Chips.main (F := Bits))) ⟨m, fun _ => 0, g⟩ (fun r => ∀ c : Dev Cert.Chips.nD,
          r.2.mem ((c.tc : Thread Cert.Chips.nD Cert.Chips.τ).loc Cert.Chips.main_v1_0) = Layout.block ⟨3, ![3, 240, 128]⟩ ⟨3, ![24, 240, 128]⟩ 0 8 c v0
          ∧ r.2.mem ((c.tc : Thread Cert.Chips.nD Cert.Chips.τ).loc Cert.Chips.main_v1_1) = Layout.block ⟨3, ![3, 512, 704]⟩ ⟨3, ![24, 512, 704]⟩ 0 8 c v1
          ∧ r.2.mem ((c.tc : Thread Cert.Chips.nD Cert.Chips.τ).loc Cert.Chips.main_v1_2) = Layout.block ⟨3, ![3, 512, 704]⟩ ⟨3, ![24, 512, 704]⟩ 0 8 c v2
          ∧ r.2.mem ((c.tc : Thread Cert.Chips.nD Cert.Chips.τ).loc Cert.Chips.main_v1_3) = Layout.block ⟨3, ![3, 352, 1024]⟩ ⟨3, ![24, 352, 1024]⟩ 0 8 c v3
          ∧ r.2.mem ((c.tc : Thread Cert.Chips.nD Cert.Chips.τ).loc Cert.Chips.main_v1_4) = Layout.block ⟨3, ![3, 128, 1024]⟩ ⟨3, ![24, 128, 1024]⟩ 0 8 c v4
          ∧ r.2.mem ((c.tc : Thread Cert.Chips.nD Cert.Chips.τ).loc Cert.Chips.main_v1_5) = Layout.block ⟨3, ![3, 128, 1024]⟩ ⟨3, ![24, 128, 1024]⟩ 0 8 c v5
          ∧ r.2.mem ((c.tc : Thread Cert.Chips.nD Cert.Chips.τ).loc Cert.Chips.main_v1_6) = Layout.block ⟨3, ![3, 512, 704]⟩ ⟨3, ![24, 512, 704]⟩ 0 8 c v6
          ∧ r.2.mem ((c.tc : Thread Cert.Chips.nD Cert.Chips.τ).loc Cert.Chips.main_v1_7) = Layout.block ⟨3, ![3, 512, 704]⟩ ⟨3, ![24, 512, 704]⟩ 0 8 c v7
          ∧ r.2.mem ((c.tc : Thread Cert.Chips.nD Cert.Chips.τ).loc Cert.Chips.main_v1_8) = Layout.block ⟨3, ![3, 352, 1024]⟩ ⟨3, ![24, 352, 1024]⟩ 0 8 c v8
          ∧ r.2.mem ((c.tc : Thread Cert.Chips.nD Cert.Chips.τ).loc Cert.Chips.main_arg0) = m ((c.tc : Thread Cert.Chips.nD Cert.Chips.τ).loc Cert.Chips.main_arg0)
          ∧ r.2.mem ((c.tc : Thread Cert.Chips.nD Cert.Chips.τ).loc Cert.Chips.main_arg1) = m ((c.tc : Thread Cert.Chips.nD Cert.Chips.τ).loc Cert.Chips.main_arg1)
          ∧ r.2.mem ((c.tc : Thread Cert.Chips.nD Cert.Chips.τ).loc Cert.Chips.main_arg2) = m ((c.tc : Thread Cert.Chips.nD Cert.Chips.τ).loc Cert.Chips.main_arg2)
          ∧ r.2.mem ((c.tc : Thread Cert.Chips.nD Cert.Chips.τ).loc Cert.Chips.main_arg3) = m ((c.tc : Thread Cert.Chips.nD Cert.Chips.τ).loc Cert.Chips.main_arg3)
          ∧ r.2.mem ((c.tc : Thread Cert.Chips.nD Cert.Chips.τ).loc Cert.Chips.main_arg4) = m ((c.tc : Thread Cert.Chips.nD Cert.Chips.τ).loc Cert.Chips.main_arg4)
          ∧ r.2.mem ((c.tc : Thread Cert.Chips.nD Cert.Chips.τ).loc Cert.Chips.main_arg5) = m ((c.tc : Thread Cert.Chips.nD Cert.Chips.τ).loc Cert.Chips.main_arg5)
          ∧ r.2.mem ((c.tc : Thread Cert.Chips.nD Cert.Chips.τ).loc Cert.Chips.main_arg6) = m ((c.tc : Thread Cert.Chips.nD Cert.Chips.τ).loc Cert.Chips.main_arg6)
          ∧ r.2.mem ((c.tc : Thread Cert.Chips.nD Cert.Chips.τ).loc Cert.Chips.main_arg7) = m ((c.tc : Thread Cert.Chips.nD Cert.Chips.τ).loc Cert.Chips.main_arg7)
          ∧ r.2.mem ((c.tc : Thread Cert.Chips.nD Cert.Chips.τ).loc Cert.Chips.main_arg8) = m ((c.tc : Thread Cert.Chips.nD Cert.Chips.τ).loc Cert.Chips.main_arg8))
      ∧ θ_run (Cert.ChipsRef.defs (F := Bits)) (onTc (τ := Cert.ChipsRef.τ) (Cert.ChipsRef.main (F := Bits))) ⟨m', fun _ => 0, g'⟩ (fun r =>
          r.2.mem (((0 : Dev Cert.ChipsRef.nD).tc : Thread Cert.ChipsRef.nD Cert.ChipsRef.τ).loc Cert.ChipsRef.main_v46) = v0
          ∧ r.2.mem (((0 : Dev Cert.ChipsRef.nD).tc : Thread Cert.ChipsRef.nD Cert.ChipsRef.τ).loc Cert.ChipsRef.main_v93) = v1
          ∧ r.2.mem (((0 : Dev Cert.ChipsRef.nD).tc : Thread Cert.ChipsRef.nD Cert.ChipsRef.τ).loc Cert.ChipsRef.main_v140) = v2
          ∧ r.2.mem (((0 : Dev Cert.ChipsRef.nD).tc : Thread Cert.ChipsRef.nD Cert.ChipsRef.τ).loc Cert.ChipsRef.main_v187) = v3
          ∧ r.2.mem (((0 : Dev Cert.ChipsRef.nD).tc : Thread Cert.ChipsRef.nD Cert.ChipsRef.τ).loc Cert.ChipsRef.main_v234) = v4
          ∧ r.2.mem (((0 : Dev Cert.ChipsRef.nD).tc : Thread Cert.ChipsRef.nD Cert.ChipsRef.τ).loc Cert.ChipsRef.main_v281) = v5
          ∧ r.2.mem (((0 : Dev Cert.ChipsRef.nD).tc : Thread Cert.ChipsRef.nD Cert.ChipsRef.τ).loc Cert.ChipsRef.main_v328) = v6
          ∧ r.2.mem (((0 : Dev Cert.ChipsRef.nD).tc : Thread Cert.ChipsRef.nD Cert.ChipsRef.τ).loc Cert.ChipsRef.main_v375) = v7
          ∧ r.2.mem (((0 : Dev Cert.ChipsRef.nD).tc : Thread Cert.ChipsRef.nD Cert.ChipsRef.τ).loc Cert.ChipsRef.main_v422) = v8
          ∧ r.2.mem (((0 : Dev Cert.ChipsRef.nD).tc : Thread Cert.ChipsRef.nD Cert.ChipsRef.τ).loc Cert.ChipsRef.main_arg0) = m' (((0 : Dev Cert.ChipsRef.nD).tc : Thread Cert.ChipsRef.nD Cert.ChipsRef.τ).loc Cert.ChipsRef.main_arg0)
          ∧ r.2.mem (((0 : Dev Cert.ChipsRef.nD).tc : Thread Cert.ChipsRef.nD Cert.ChipsRef.τ).loc Cert.ChipsRef.main_arg1) = m' (((0 : Dev Cert.ChipsRef.nD).tc : Thread Cert.ChipsRef.nD Cert.ChipsRef.τ).loc Cert.ChipsRef.main_arg1)
          ∧ r.2.mem (((0 : Dev Cert.ChipsRef.nD).tc : Thread Cert.ChipsRef.nD Cert.ChipsRef.τ).loc Cert.ChipsRef.main_arg2) = m' (((0 : Dev Cert.ChipsRef.nD).tc : Thread Cert.ChipsRef.nD Cert.ChipsRef.τ).loc Cert.ChipsRef.main_arg2)
          ∧ r.2.mem (((0 : Dev Cert.ChipsRef.nD).tc : Thread Cert.ChipsRef.nD Cert.ChipsRef.τ).loc Cert.ChipsRef.main_arg3) = m' (((0 : Dev Cert.ChipsRef.nD).tc : Thread Cert.ChipsRef.nD Cert.ChipsRef.τ).loc Cert.ChipsRef.main_arg3)
          ∧ r.2.mem (((0 : Dev Cert.ChipsRef.nD).tc : Thread Cert.ChipsRef.nD Cert.ChipsRef.τ).loc Cert.ChipsRef.main_arg4) = m' (((0 : Dev Cert.ChipsRef.nD).tc : Thread Cert.ChipsRef.nD Cert.ChipsRef.τ).loc Cert.ChipsRef.main_arg4)
          ∧ r.2.mem (((0 : Dev Cert.ChipsRef.nD).tc : Thread Cert.ChipsRef.nD Cert.ChipsRef.τ).loc Cert.ChipsRef.main_arg5) = m' (((0 : Dev Cert.ChipsRef.nD).tc : Thread Cert.ChipsRef.nD Cert.ChipsRef.τ).loc Cert.ChipsRef.main_arg5)
          ∧ r.2.mem (((0 : Dev Cert.ChipsRef.nD).tc : Thread Cert.ChipsRef.nD Cert.ChipsRef.τ).loc Cert.ChipsRef.main_arg6) = m' (((0 : Dev Cert.ChipsRef.nD).tc : Thread Cert.ChipsRef.nD Cert.ChipsRef.τ).loc Cert.ChipsRef.main_arg6)
          ∧ r.2.mem (((0 : Dev Cert.ChipsRef.nD).tc : Thread Cert.ChipsRef.nD Cert.ChipsRef.τ).loc Cert.ChipsRef.main_arg7) = m' (((0 : Dev Cert.ChipsRef.nD).tc : Thread Cert.ChipsRef.nD Cert.ChipsRef.τ).loc Cert.ChipsRef.main_arg7)
          ∧ r.2.mem (((0 : Dev Cert.ChipsRef.nD).tc : Thread Cert.ChipsRef.nD Cert.ChipsRef.τ).loc Cert.ChipsRef.main_arg8) = m' (((0 : Dev Cert.ChipsRef.nD).tc : Thread Cert.ChipsRef.nD Cert.ChipsRef.τ).loc Cert.ChipsRef.main_arg8))

def algebraic_ChipsIdeal_ChipsRefIdeal [hChipsIdeal : Cert.ChipsIdeal.Facts] [hChipsRefIdeal : Cert.ChipsRefIdeal.Facts] : Prop :=
  ∀ (m : (ℓ : Loc Cert.ChipsIdeal.nD Cert.ChipsIdeal.τ Cert.ChipsIdeal.sig) → Buf (Elt Ideal) ℓ) (g : Dev Cert.ChipsIdeal.nD → PrngReg)
    (m' : (ℓ : Loc Cert.ChipsRefIdeal.nD Cert.ChipsRefIdeal.τ Cert.ChipsRefIdeal.sig) → Buf (Elt Ideal) ℓ) (g' : Dev Cert.ChipsRefIdeal.nD → PrngReg), Pre_ChipsIdeal m →
    (∀ c : Dev Cert.ChipsIdeal.nD,
      m ((c.tc : Thread Cert.ChipsIdeal.nD Cert.ChipsIdeal.τ).loc Cert.ChipsIdeal.main_arg0) = Layout.block ⟨3, ![4, 240, 128]⟩ ⟨3, ![32, 240, 128]⟩ 0 8 c (m' (((0 : Dev Cert.ChipsRefIdeal.nD).tc : Thread Cert.ChipsRefIdeal.nD Cert.ChipsRefIdeal.τ).loc Cert.ChipsRefIdeal.main_arg0))
      ∧ m ((c.tc : Thread Cert.ChipsIdeal.nD Cert.ChipsIdeal.τ).loc Cert.ChipsIdeal.main_arg1) = Layout.block ⟨3, ![4, 512, 704]⟩ ⟨3, ![32, 512, 704]⟩ 0 8 c (m' (((0 : Dev Cert.ChipsRefIdeal.nD).tc : Thread Cert.ChipsRefIdeal.nD Cert.ChipsRefIdeal.τ).loc Cert.ChipsRefIdeal.main_arg1))
      ∧ m ((c.tc : Thread Cert.ChipsIdeal.nD Cert.ChipsIdeal.τ).loc Cert.ChipsIdeal.main_arg2) = Layout.block ⟨3, ![4, 512, 704]⟩ ⟨3, ![32, 512, 704]⟩ 0 8 c (m' (((0 : Dev Cert.ChipsRefIdeal.nD).tc : Thread Cert.ChipsRefIdeal.nD Cert.ChipsRefIdeal.τ).loc Cert.ChipsRefIdeal.main_arg2))
      ∧ m ((c.tc : Thread Cert.ChipsIdeal.nD Cert.ChipsIdeal.τ).loc Cert.ChipsIdeal.main_arg3) = Layout.block ⟨3, ![4, 352, 1024]⟩ ⟨3, ![32, 352, 1024]⟩ 0 8 c (m' (((0 : Dev Cert.ChipsRefIdeal.nD).tc : Thread Cert.ChipsRefIdeal.nD Cert.ChipsRefIdeal.τ).loc Cert.ChipsRefIdeal.main_arg3))
      ∧ m ((c.tc : Thread Cert.ChipsIdeal.nD Cert.ChipsIdeal.τ).loc Cert.ChipsIdeal.main_arg4) = Layout.block ⟨3, ![4, 128, 1024]⟩ ⟨3, ![32, 128, 1024]⟩ 0 8 c (m' (((0 : Dev Cert.ChipsRefIdeal.nD).tc : Thread Cert.ChipsRefIdeal.nD Cert.ChipsRefIdeal.τ).loc Cert.ChipsRefIdeal.main_arg4))
      ∧ m ((c.tc : Thread Cert.ChipsIdeal.nD Cert.ChipsIdeal.τ).loc Cert.ChipsIdeal.main_arg5) = Layout.block ⟨3, ![4, 128, 1024]⟩ ⟨3, ![32, 128, 1024]⟩ 0 8 c (m' (((0 : Dev Cert.ChipsRefIdeal.nD).tc : Thread Cert.ChipsRefIdeal.nD Cert.ChipsRefIdeal.τ).loc Cert.ChipsRefIdeal.main_arg5))
      ∧ m ((c.tc : Thread Cert.ChipsIdeal.nD Cert.ChipsIdeal.τ).loc Cert.ChipsIdeal.main_arg6) = Layout.block ⟨3, ![4, 512, 704]⟩ ⟨3, ![32, 512, 704]⟩ 0 8 c (m' (((0 : Dev Cert.ChipsRefIdeal.nD).tc : Thread Cert.ChipsRefIdeal.nD Cert.ChipsRefIdeal.τ).loc Cert.ChipsRefIdeal.main_arg6))
      ∧ m ((c.tc : Thread Cert.ChipsIdeal.nD Cert.ChipsIdeal.τ).loc Cert.ChipsIdeal.main_arg7) = Layout.block ⟨3, ![4, 512, 704]⟩ ⟨3, ![32, 512, 704]⟩ 0 8 c (m' (((0 : Dev Cert.ChipsRefIdeal.nD).tc : Thread Cert.ChipsRefIdeal.nD Cert.ChipsRefIdeal.τ).loc Cert.ChipsRefIdeal.main_arg7))
      ∧ m ((c.tc : Thread Cert.ChipsIdeal.nD Cert.ChipsIdeal.τ).loc Cert.ChipsIdeal.main_arg8) = Layout.block ⟨3, ![4, 352, 1024]⟩ ⟨3, ![32, 352, 1024]⟩ 0 8 c (m' (((0 : Dev Cert.ChipsRefIdeal.nD).tc : Thread Cert.ChipsRefIdeal.nD Cert.ChipsRefIdeal.τ).loc Cert.ChipsRefIdeal.main_arg8))) →
    ∃ (v0 : Buf (Elt Ideal) (((0 : Dev Cert.ChipsRefIdeal.nD).tc : Thread Cert.ChipsRefIdeal.nD Cert.ChipsRefIdeal.τ).loc Cert.ChipsRefIdeal.main_v46)) (v1 : Buf (Elt Ideal) (((0 : Dev Cert.ChipsRefIdeal.nD).tc : Thread Cert.ChipsRefIdeal.nD Cert.ChipsRefIdeal.τ).loc Cert.ChipsRefIdeal.main_v93)) (v2 : Buf (Elt Ideal) (((0 : Dev Cert.ChipsRefIdeal.nD).tc : Thread Cert.ChipsRefIdeal.nD Cert.ChipsRefIdeal.τ).loc Cert.ChipsRefIdeal.main_v140)) (v3 : Buf (Elt Ideal) (((0 : Dev Cert.ChipsRefIdeal.nD).tc : Thread Cert.ChipsRefIdeal.nD Cert.ChipsRefIdeal.τ).loc Cert.ChipsRefIdeal.main_v187)) (v4 : Buf (Elt Ideal) (((0 : Dev Cert.ChipsRefIdeal.nD).tc : Thread Cert.ChipsRefIdeal.nD Cert.ChipsRefIdeal.τ).loc Cert.ChipsRefIdeal.main_v234)) (v5 : Buf (Elt Ideal) (((0 : Dev Cert.ChipsRefIdeal.nD).tc : Thread Cert.ChipsRefIdeal.nD Cert.ChipsRefIdeal.τ).loc Cert.ChipsRefIdeal.main_v281)) (v6 : Buf (Elt Ideal) (((0 : Dev Cert.ChipsRefIdeal.nD).tc : Thread Cert.ChipsRefIdeal.nD Cert.ChipsRefIdeal.τ).loc Cert.ChipsRefIdeal.main_v328)) (v7 : Buf (Elt Ideal) (((0 : Dev Cert.ChipsRefIdeal.nD).tc : Thread Cert.ChipsRefIdeal.nD Cert.ChipsRefIdeal.τ).loc Cert.ChipsRefIdeal.main_v375)) (v8 : Buf (Elt Ideal) (((0 : Dev Cert.ChipsRefIdeal.nD).tc : Thread Cert.ChipsRefIdeal.nD Cert.ChipsRefIdeal.τ).loc Cert.ChipsRefIdeal.main_v422)),
      θ_run (Cert.ChipsIdeal.defs (F := Ideal)) (onTc (τ := Cert.ChipsIdeal.τ) (Cert.ChipsIdeal.main (F := Ideal))) ⟨m, fun _ => 0, g⟩ (fun r => ∀ c : Dev Cert.ChipsIdeal.nD,
          r.2.mem ((c.tc : Thread Cert.ChipsIdeal.nD Cert.ChipsIdeal.τ).loc Cert.ChipsIdeal.main_v1_0) = Layout.block ⟨3, ![3, 240, 128]⟩ ⟨3, ![24, 240, 128]⟩ 0 8 c v0
          ∧ r.2.mem ((c.tc : Thread Cert.ChipsIdeal.nD Cert.ChipsIdeal.τ).loc Cert.ChipsIdeal.main_v1_1) = Layout.block ⟨3, ![3, 512, 704]⟩ ⟨3, ![24, 512, 704]⟩ 0 8 c v1
          ∧ r.2.mem ((c.tc : Thread Cert.ChipsIdeal.nD Cert.ChipsIdeal.τ).loc Cert.ChipsIdeal.main_v1_2) = Layout.block ⟨3, ![3, 512, 704]⟩ ⟨3, ![24, 512, 704]⟩ 0 8 c v2
          ∧ r.2.mem ((c.tc : Thread Cert.ChipsIdeal.nD Cert.ChipsIdeal.τ).loc Cert.ChipsIdeal.main_v1_3) = Layout.block ⟨3, ![3, 352, 1024]⟩ ⟨3, ![24, 352, 1024]⟩ 0 8 c v3
          ∧ r.2.mem ((c.tc : Thread Cert.ChipsIdeal.nD Cert.ChipsIdeal.τ).loc Cert.ChipsIdeal.main_v1_4) = Layout.block ⟨3, ![3, 128, 1024]⟩ ⟨3, ![24, 128, 1024]⟩ 0 8 c v4
          ∧ r.2.mem ((c.tc : Thread Cert.ChipsIdeal.nD Cert.ChipsIdeal.τ).loc Cert.ChipsIdeal.main_v1_5) = Layout.block ⟨3, ![3, 128, 1024]⟩ ⟨3, ![24, 128, 1024]⟩ 0 8 c v5
          ∧ r.2.mem ((c.tc : Thread Cert.ChipsIdeal.nD Cert.ChipsIdeal.τ).loc Cert.ChipsIdeal.main_v1_6) = Layout.block ⟨3, ![3, 512, 704]⟩ ⟨3, ![24, 512, 704]⟩ 0 8 c v6
          ∧ r.2.mem ((c.tc : Thread Cert.ChipsIdeal.nD Cert.ChipsIdeal.τ).loc Cert.ChipsIdeal.main_v1_7) = Layout.block ⟨3, ![3, 512, 704]⟩ ⟨3, ![24, 512, 704]⟩ 0 8 c v7
          ∧ r.2.mem ((c.tc : Thread Cert.ChipsIdeal.nD Cert.ChipsIdeal.τ).loc Cert.ChipsIdeal.main_v1_8) = Layout.block ⟨3, ![3, 352, 1024]⟩ ⟨3, ![24, 352, 1024]⟩ 0 8 c v8
          ∧ r.2.mem ((c.tc : Thread Cert.ChipsIdeal.nD Cert.ChipsIdeal.τ).loc Cert.ChipsIdeal.main_arg0) = m ((c.tc : Thread Cert.ChipsIdeal.nD Cert.ChipsIdeal.τ).loc Cert.ChipsIdeal.main_arg0)
          ∧ r.2.mem ((c.tc : Thread Cert.ChipsIdeal.nD Cert.ChipsIdeal.τ).loc Cert.ChipsIdeal.main_arg1) = m ((c.tc : Thread Cert.ChipsIdeal.nD Cert.ChipsIdeal.τ).loc Cert.ChipsIdeal.main_arg1)
          ∧ r.2.mem ((c.tc : Thread Cert.ChipsIdeal.nD Cert.ChipsIdeal.τ).loc Cert.ChipsIdeal.main_arg2) = m ((c.tc : Thread Cert.ChipsIdeal.nD Cert.ChipsIdeal.τ).loc Cert.ChipsIdeal.main_arg2)
          ∧ r.2.mem ((c.tc : Thread Cert.ChipsIdeal.nD Cert.ChipsIdeal.τ).loc Cert.ChipsIdeal.main_arg3) = m ((c.tc : Thread Cert.ChipsIdeal.nD Cert.ChipsIdeal.τ).loc Cert.ChipsIdeal.main_arg3)
          ∧ r.2.mem ((c.tc : Thread Cert.ChipsIdeal.nD Cert.ChipsIdeal.τ).loc Cert.ChipsIdeal.main_arg4) = m ((c.tc : Thread Cert.ChipsIdeal.nD Cert.ChipsIdeal.τ).loc Cert.ChipsIdeal.main_arg4)
          ∧ r.2.mem ((c.tc : Thread Cert.ChipsIdeal.nD Cert.ChipsIdeal.τ).loc Cert.ChipsIdeal.main_arg5) = m ((c.tc : Thread Cert.ChipsIdeal.nD Cert.ChipsIdeal.τ).loc Cert.ChipsIdeal.main_arg5)
          ∧ r.2.mem ((c.tc : Thread Cert.ChipsIdeal.nD Cert.ChipsIdeal.τ).loc Cert.ChipsIdeal.main_arg6) = m ((c.tc : Thread Cert.ChipsIdeal.nD Cert.ChipsIdeal.τ).loc Cert.ChipsIdeal.main_arg6)
          ∧ r.2.mem ((c.tc : Thread Cert.ChipsIdeal.nD Cert.ChipsIdeal.τ).loc Cert.ChipsIdeal.main_arg7) = m ((c.tc : Thread Cert.ChipsIdeal.nD Cert.ChipsIdeal.τ).loc Cert.ChipsIdeal.main_arg7)
          ∧ r.2.mem ((c.tc : Thread Cert.ChipsIdeal.nD Cert.ChipsIdeal.τ).loc Cert.ChipsIdeal.main_arg8) = m ((c.tc : Thread Cert.ChipsIdeal.nD Cert.ChipsIdeal.τ).loc Cert.ChipsIdeal.main_arg8))
      ∧ θ_run (Cert.ChipsRefIdeal.defs (F := Ideal)) (onTc (τ := Cert.ChipsRefIdeal.τ) (Cert.ChipsRefIdeal.main (F := Ideal))) ⟨m', fun _ => 0, g'⟩ (fun r =>
          r.2.mem (((0 : Dev Cert.ChipsRefIdeal.nD).tc : Thread Cert.ChipsRefIdeal.nD Cert.ChipsRefIdeal.τ).loc Cert.ChipsRefIdeal.main_v46) = v0
          ∧ r.2.mem (((0 : Dev Cert.ChipsRefIdeal.nD).tc : Thread Cert.ChipsRefIdeal.nD Cert.ChipsRefIdeal.τ).loc Cert.ChipsRefIdeal.main_v93) = v1
          ∧ r.2.mem (((0 : Dev Cert.ChipsRefIdeal.nD).tc : Thread Cert.ChipsRefIdeal.nD Cert.ChipsRefIdeal.τ).loc Cert.ChipsRefIdeal.main_v140) = v2
          ∧ r.2.mem (((0 : Dev Cert.ChipsRefIdeal.nD).tc : Thread Cert.ChipsRefIdeal.nD Cert.ChipsRefIdeal.τ).loc Cert.ChipsRefIdeal.main_v187) = v3
          ∧ r.2.mem (((0 : Dev Cert.ChipsRefIdeal.nD).tc : Thread Cert.ChipsRefIdeal.nD Cert.ChipsRefIdeal.τ).loc Cert.ChipsRefIdeal.main_v234) = v4
          ∧ r.2.mem (((0 : Dev Cert.ChipsRefIdeal.nD).tc : Thread Cert.ChipsRefIdeal.nD Cert.ChipsRefIdeal.τ).loc Cert.ChipsRefIdeal.main_v281) = v5
          ∧ r.2.mem (((0 : Dev Cert.ChipsRefIdeal.nD).tc : Thread Cert.ChipsRefIdeal.nD Cert.ChipsRefIdeal.τ).loc Cert.ChipsRefIdeal.main_v328) = v6
          ∧ r.2.mem (((0 : Dev Cert.ChipsRefIdeal.nD).tc : Thread Cert.ChipsRefIdeal.nD Cert.ChipsRefIdeal.τ).loc Cert.ChipsRefIdeal.main_v375) = v7
          ∧ r.2.mem (((0 : Dev Cert.ChipsRefIdeal.nD).tc : Thread Cert.ChipsRefIdeal.nD Cert.ChipsRefIdeal.τ).loc Cert.ChipsRefIdeal.main_v422) = v8
          ∧ r.2.mem (((0 : Dev Cert.ChipsRefIdeal.nD).tc : Thread Cert.ChipsRefIdeal.nD Cert.ChipsRefIdeal.τ).loc Cert.ChipsRefIdeal.main_arg0) = m' (((0 : Dev Cert.ChipsRefIdeal.nD).tc : Thread Cert.ChipsRefIdeal.nD Cert.ChipsRefIdeal.τ).loc Cert.ChipsRefIdeal.main_arg0)
          ∧ r.2.mem (((0 : Dev Cert.ChipsRefIdeal.nD).tc : Thread Cert.ChipsRefIdeal.nD Cert.ChipsRefIdeal.τ).loc Cert.ChipsRefIdeal.main_arg1) = m' (((0 : Dev Cert.ChipsRefIdeal.nD).tc : Thread Cert.ChipsRefIdeal.nD Cert.ChipsRefIdeal.τ).loc Cert.ChipsRefIdeal.main_arg1)
          ∧ r.2.mem (((0 : Dev Cert.ChipsRefIdeal.nD).tc : Thread Cert.ChipsRefIdeal.nD Cert.ChipsRefIdeal.τ).loc Cert.ChipsRefIdeal.main_arg2) = m' (((0 : Dev Cert.ChipsRefIdeal.nD).tc : Thread Cert.ChipsRefIdeal.nD Cert.ChipsRefIdeal.τ).loc Cert.ChipsRefIdeal.main_arg2)
          ∧ r.2.mem (((0 : Dev Cert.ChipsRefIdeal.nD).tc : Thread Cert.ChipsRefIdeal.nD Cert.ChipsRefIdeal.τ).loc Cert.ChipsRefIdeal.main_arg3) = m' (((0 : Dev Cert.ChipsRefIdeal.nD).tc : Thread Cert.ChipsRefIdeal.nD Cert.ChipsRefIdeal.τ).loc Cert.ChipsRefIdeal.main_arg3)
          ∧ r.2.mem (((0 : Dev Cert.ChipsRefIdeal.nD).tc : Thread Cert.ChipsRefIdeal.nD Cert.ChipsRefIdeal.τ).loc Cert.ChipsRefIdeal.main_arg4) = m' (((0 : Dev Cert.ChipsRefIdeal.nD).tc : Thread Cert.ChipsRefIdeal.nD Cert.ChipsRefIdeal.τ).loc Cert.ChipsRefIdeal.main_arg4)
          ∧ r.2.mem (((0 : Dev Cert.ChipsRefIdeal.nD).tc : Thread Cert.ChipsRefIdeal.nD Cert.ChipsRefIdeal.τ).loc Cert.ChipsRefIdeal.main_arg5) = m' (((0 : Dev Cert.ChipsRefIdeal.nD).tc : Thread Cert.ChipsRefIdeal.nD Cert.ChipsRefIdeal.τ).loc Cert.ChipsRefIdeal.main_arg5)
          ∧ r.2.mem (((0 : Dev Cert.ChipsRefIdeal.nD).tc : Thread Cert.ChipsRefIdeal.nD Cert.ChipsRefIdeal.τ).loc Cert.ChipsRefIdeal.main_arg6) = m' (((0 : Dev Cert.ChipsRefIdeal.nD).tc : Thread Cert.ChipsRefIdeal.nD Cert.ChipsRefIdeal.τ).loc Cert.ChipsRefIdeal.main_arg6)
          ∧ r.2.mem (((0 : Dev Cert.ChipsRefIdeal.nD).tc : Thread Cert.ChipsRefIdeal.nD Cert.ChipsRefIdeal.τ).loc Cert.ChipsRefIdeal.main_arg7) = m' (((0 : Dev Cert.ChipsRefIdeal.nD).tc : Thread Cert.ChipsRefIdeal.nD Cert.ChipsRefIdeal.τ).loc Cert.ChipsRefIdeal.main_arg7)
          ∧ r.2.mem (((0 : Dev Cert.ChipsRefIdeal.nD).tc : Thread Cert.ChipsRefIdeal.nD Cert.ChipsRefIdeal.τ).loc Cert.ChipsRefIdeal.main_arg8) = m' (((0 : Dev Cert.ChipsRefIdeal.nD).tc : Thread Cert.ChipsRefIdeal.nD Cert.ChipsRefIdeal.τ).loc Cert.ChipsRefIdeal.main_arg8))

def preserves_Share_ShareIdeal : Prop :=
  True

def bitexact_Share_ShareRef [hShare : Cert.Share.Facts] [hShareRef : Cert.ShareRef.Facts] : Prop :=
  ∀ (m : (ℓ : Loc Cert.Share.nD Cert.Share.τ Cert.Share.sig) → Buf (Elt Bits) ℓ) (g : Dev Cert.Share.nD → PrngReg)
    (m' : (ℓ : Loc Cert.ShareRef.nD Cert.ShareRef.τ Cert.ShareRef.sig) → Buf (Elt Bits) ℓ) (g' : Dev Cert.ShareRef.nD → PrngReg), Pre_Share m →
    (∀ c : Dev Cert.Share.nD,
      m ((c.tc : Thread Cert.Share.nD Cert.Share.τ).loc Cert.Share.main_arg0) = Layout.block ⟨2, ![240, 128]⟩ ⟨2, ![1920, 128]⟩ 0 8 c (m' (((0 : Dev Cert.ShareRef.nD).tc : Thread Cert.ShareRef.nD Cert.ShareRef.τ).loc Cert.ShareRef.main_arg0))
      ∧ m ((c.tc : Thread Cert.Share.nD Cert.Share.τ).loc Cert.Share.main_arg1) = Layout.block ⟨2, ![512, 704]⟩ ⟨2, ![4096, 704]⟩ 0 8 c (m' (((0 : Dev Cert.ShareRef.nD).tc : Thread Cert.ShareRef.nD Cert.ShareRef.τ).loc Cert.ShareRef.main_arg1))
      ∧ m ((c.tc : Thread Cert.Share.nD Cert.Share.τ).loc Cert.Share.main_arg2) = Layout.block ⟨2, ![512, 704]⟩ ⟨2, ![4096, 704]⟩ 0 8 c (m' (((0 : Dev Cert.ShareRef.nD).tc : Thread Cert.ShareRef.nD Cert.ShareRef.τ).loc Cert.ShareRef.main_arg2))
      ∧ m ((c.tc : Thread Cert.Share.nD Cert.Share.τ).loc Cert.Share.main_arg3) = Layout.block ⟨2, ![352, 1024]⟩ ⟨2, ![2816, 1024]⟩ 0 8 c (m' (((0 : Dev Cert.ShareRef.nD).tc : Thread Cert.ShareRef.nD Cert.ShareRef.τ).loc Cert.ShareRef.main_arg3))
      ∧ m ((c.tc : Thread Cert.Share.nD Cert.Share.τ).loc Cert.Share.main_arg4) = Layout.block ⟨2, ![128, 1024]⟩ ⟨2, ![1024, 1024]⟩ 0 8 c (m' (((0 : Dev Cert.ShareRef.nD).tc : Thread Cert.ShareRef.nD Cert.ShareRef.τ).loc Cert.ShareRef.main_arg4))
      ∧ m ((c.tc : Thread Cert.Share.nD Cert.Share.τ).loc Cert.Share.main_arg5) = Layout.block ⟨2, ![128, 1024]⟩ ⟨2, ![1024, 1024]⟩ 0 8 c (m' (((0 : Dev Cert.ShareRef.nD).tc : Thread Cert.ShareRef.nD Cert.ShareRef.τ).loc Cert.ShareRef.main_arg5))
      ∧ m ((c.tc : Thread Cert.Share.nD Cert.Share.τ).loc Cert.Share.main_arg6) = Layout.block ⟨2, ![512, 704]⟩ ⟨2, ![4096, 704]⟩ 0 8 c (m' (((0 : Dev Cert.ShareRef.nD).tc : Thread Cert.ShareRef.nD Cert.ShareRef.τ).loc Cert.ShareRef.main_arg6))
      ∧ m ((c.tc : Thread Cert.Share.nD Cert.Share.τ).loc Cert.Share.main_arg7) = Layout.block ⟨2, ![512, 704]⟩ ⟨2, ![4096, 704]⟩ 0 8 c (m' (((0 : Dev Cert.ShareRef.nD).tc : Thread Cert.ShareRef.nD Cert.ShareRef.τ).loc Cert.ShareRef.main_arg7))
      ∧ m ((c.tc : Thread Cert.Share.nD Cert.Share.τ).loc Cert.Share.main_arg8) = Layout.block ⟨2, ![352, 1024]⟩ ⟨2, ![2816, 1024]⟩ 0 8 c (m' (((0 : Dev Cert.ShareRef.nD).tc : Thread Cert.ShareRef.nD Cert.ShareRef.τ).loc Cert.ShareRef.main_arg8))) →
    ∃ (v0 : Buf (Elt Bits) (((0 : Dev Cert.ShareRef.nD).tc : Thread Cert.ShareRef.nD Cert.ShareRef.τ).loc Cert.ShareRef.main_v0)) (v1 : Buf (Elt Bits) (((0 : Dev Cert.ShareRef.nD).tc : Thread Cert.ShareRef.nD Cert.ShareRef.τ).loc Cert.ShareRef.main_v1)) (v2 : Buf (Elt Bits) (((0 : Dev Cert.ShareRef.nD).tc : Thread Cert.ShareRef.nD Cert.ShareRef.τ).loc Cert.ShareRef.main_v2)) (v3 : Buf (Elt Bits) (((0 : Dev Cert.ShareRef.nD).tc : Thread Cert.ShareRef.nD Cert.ShareRef.τ).loc Cert.ShareRef.main_v3)) (v4 : Buf (Elt Bits) (((0 : Dev Cert.ShareRef.nD).tc : Thread Cert.ShareRef.nD Cert.ShareRef.τ).loc Cert.ShareRef.main_v4)) (v5 : Buf (Elt Bits) (((0 : Dev Cert.ShareRef.nD).tc : Thread Cert.ShareRef.nD Cert.ShareRef.τ).loc Cert.ShareRef.main_v5)) (v6 : Buf (Elt Bits) (((0 : Dev Cert.ShareRef.nD).tc : Thread Cert.ShareRef.nD Cert.ShareRef.τ).loc Cert.ShareRef.main_v6)) (v7 : Buf (Elt Bits) (((0 : Dev Cert.ShareRef.nD).tc : Thread Cert.ShareRef.nD Cert.ShareRef.τ).loc Cert.ShareRef.main_v7)) (v8 : Buf (Elt Bits) (((0 : Dev Cert.ShareRef.nD).tc : Thread Cert.ShareRef.nD Cert.ShareRef.τ).loc Cert.ShareRef.main_v8)),
      θ_run (Cert.Share.defs (F := Bits)) (onTc (τ := Cert.Share.τ) (Cert.Share.main (F := Bits))) ⟨m, fun _ => 0, g⟩ (fun r => ∀ c : Dev Cert.Share.nD,
          r.2.mem ((c.tc : Thread Cert.Share.nD Cert.Share.τ).loc Cert.Share.main_v1_0) = Layout.blockN ⟨3, ![2, 240, 128]⟩ ⟨3, ![8, 240, 128]⟩ (Layout.meshBlock [2, 2, 2] ![[0, 1], [], []] c) v0
          ∧ r.2.mem ((c.tc : Thread Cert.Share.nD Cert.Share.τ).loc Cert.Share.main_v1_1) = Layout.blockN ⟨3, ![2, 512, 704]⟩ ⟨3, ![8, 512, 704]⟩ (Layout.meshBlock [2, 2, 2] ![[0, 1], [], []] c) v1
          ∧ r.2.mem ((c.tc : Thread Cert.Share.nD Cert.Share.τ).loc Cert.Share.main_v1_2) = Layout.blockN ⟨3, ![2, 512, 704]⟩ ⟨3, ![8, 512, 704]⟩ (Layout.meshBlock [2, 2, 2] ![[0, 1], [], []] c) v2
          ∧ r.2.mem ((c.tc : Thread Cert.Share.nD Cert.Share.τ).loc Cert.Share.main_v1_3) = Layout.blockN ⟨3, ![2, 352, 1024]⟩ ⟨3, ![8, 352, 1024]⟩ (Layout.meshBlock [2, 2, 2] ![[0, 1], [], []] c) v3
          ∧ r.2.mem ((c.tc : Thread Cert.Share.nD Cert.Share.τ).loc Cert.Share.main_v1_4) = Layout.blockN ⟨3, ![2, 128, 1024]⟩ ⟨3, ![8, 128, 1024]⟩ (Layout.meshBlock [2, 2, 2] ![[0, 1], [], []] c) v4
          ∧ r.2.mem ((c.tc : Thread Cert.Share.nD Cert.Share.τ).loc Cert.Share.main_v1_5) = Layout.blockN ⟨3, ![2, 128, 1024]⟩ ⟨3, ![8, 128, 1024]⟩ (Layout.meshBlock [2, 2, 2] ![[0, 1], [], []] c) v5
          ∧ r.2.mem ((c.tc : Thread Cert.Share.nD Cert.Share.τ).loc Cert.Share.main_v1_6) = Layout.blockN ⟨3, ![2, 512, 704]⟩ ⟨3, ![8, 512, 704]⟩ (Layout.meshBlock [2, 2, 2] ![[0, 1], [], []] c) v6
          ∧ r.2.mem ((c.tc : Thread Cert.Share.nD Cert.Share.τ).loc Cert.Share.main_v1_7) = Layout.blockN ⟨3, ![2, 512, 704]⟩ ⟨3, ![8, 512, 704]⟩ (Layout.meshBlock [2, 2, 2] ![[0, 1], [], []] c) v7
          ∧ r.2.mem ((c.tc : Thread Cert.Share.nD Cert.Share.τ).loc Cert.Share.main_v1_8) = Layout.blockN ⟨3, ![2, 352, 1024]⟩ ⟨3, ![8, 352, 1024]⟩ (Layout.meshBlock [2, 2, 2] ![[0, 1], [], []] c) v8
          ∧ r.2.mem ((c.tc : Thread Cert.Share.nD Cert.Share.τ).loc Cert.Share.main_arg0) = m ((c.tc : Thread Cert.Share.nD Cert.Share.τ).loc Cert.Share.main_arg0)
          ∧ r.2.mem ((c.tc : Thread Cert.Share.nD Cert.Share.τ).loc Cert.Share.main_arg1) = m ((c.tc : Thread Cert.Share.nD Cert.Share.τ).loc Cert.Share.main_arg1)
          ∧ r.2.mem ((c.tc : Thread Cert.Share.nD Cert.Share.τ).loc Cert.Share.main_arg2) = m ((c.tc : Thread Cert.Share.nD Cert.Share.τ).loc Cert.Share.main_arg2)
          ∧ r.2.mem ((c.tc : Thread Cert.Share.nD Cert.Share.τ).loc Cert.Share.main_arg3) = m ((c.tc : Thread Cert.Share.nD Cert.Share.τ).loc Cert.Share.main_arg3)
          ∧ r.2.mem ((c.tc : Thread Cert.Share.nD Cert.Share.τ).loc Cert.Share.main_arg4) = m ((c.tc : Thread Cert.Share.nD Cert.Share.τ).loc Cert.Share.main_arg4)
          ∧ r.2.mem ((c.tc : Thread Cert.Share.nD Cert.Share.τ).loc Cert.Share.main_arg5) = m ((c.tc : Thread Cert.Share.nD Cert.Share.τ).loc Cert.Share.main_arg5)
          ∧ r.2.mem ((c.tc : Thread Cert.Share.nD Cert.Share.τ).loc Cert.Share.main_arg6) = m ((c.tc : Thread Cert.Share.nD Cert.Share.τ).loc Cert.Share.main_arg6)
          ∧ r.2.mem ((c.tc : Thread Cert.Share.nD Cert.Share.τ).loc Cert.Share.main_arg7) = m ((c.tc : Thread Cert.Share.nD Cert.Share.τ).loc Cert.Share.main_arg7)
          ∧ r.2.mem ((c.tc : Thread Cert.Share.nD Cert.Share.τ).loc Cert.Share.main_arg8) = m ((c.tc : Thread Cert.Share.nD Cert.Share.τ).loc Cert.Share.main_arg8))
      ∧ θ_run (Cert.ShareRef.defs (F := Bits)) (onTc (τ := Cert.ShareRef.τ) (Cert.ShareRef.main (F := Bits))) ⟨m', fun _ => 0, g'⟩ (fun r =>
          r.2.mem (((0 : Dev Cert.ShareRef.nD).tc : Thread Cert.ShareRef.nD Cert.ShareRef.τ).loc Cert.ShareRef.main_v0) = v0
          ∧ r.2.mem (((0 : Dev Cert.ShareRef.nD).tc : Thread Cert.ShareRef.nD Cert.ShareRef.τ).loc Cert.ShareRef.main_v1) = v1
          ∧ r.2.mem (((0 : Dev Cert.ShareRef.nD).tc : Thread Cert.ShareRef.nD Cert.ShareRef.τ).loc Cert.ShareRef.main_v2) = v2
          ∧ r.2.mem (((0 : Dev Cert.ShareRef.nD).tc : Thread Cert.ShareRef.nD Cert.ShareRef.τ).loc Cert.ShareRef.main_v3) = v3
          ∧ r.2.mem (((0 : Dev Cert.ShareRef.nD).tc : Thread Cert.ShareRef.nD Cert.ShareRef.τ).loc Cert.ShareRef.main_v4) = v4
          ∧ r.2.mem (((0 : Dev Cert.ShareRef.nD).tc : Thread Cert.ShareRef.nD Cert.ShareRef.τ).loc Cert.ShareRef.main_v5) = v5
          ∧ r.2.mem (((0 : Dev Cert.ShareRef.nD).tc : Thread Cert.ShareRef.nD Cert.ShareRef.τ).loc Cert.ShareRef.main_v6) = v6
          ∧ r.2.mem (((0 : Dev Cert.ShareRef.nD).tc : Thread Cert.ShareRef.nD Cert.ShareRef.τ).loc Cert.ShareRef.main_v7) = v7
          ∧ r.2.mem (((0 : Dev Cert.ShareRef.nD).tc : Thread Cert.ShareRef.nD Cert.ShareRef.τ).loc Cert.ShareRef.main_v8) = v8
          ∧ r.2.mem (((0 : Dev Cert.ShareRef.nD).tc : Thread Cert.ShareRef.nD Cert.ShareRef.τ).loc Cert.ShareRef.main_arg0) = m' (((0 : Dev Cert.ShareRef.nD).tc : Thread Cert.ShareRef.nD Cert.ShareRef.τ).loc Cert.ShareRef.main_arg0)
          ∧ r.2.mem (((0 : Dev Cert.ShareRef.nD).tc : Thread Cert.ShareRef.nD Cert.ShareRef.τ).loc Cert.ShareRef.main_arg1) = m' (((0 : Dev Cert.ShareRef.nD).tc : Thread Cert.ShareRef.nD Cert.ShareRef.τ).loc Cert.ShareRef.main_arg1)
          ∧ r.2.mem (((0 : Dev Cert.ShareRef.nD).tc : Thread Cert.ShareRef.nD Cert.ShareRef.τ).loc Cert.ShareRef.main_arg2) = m' (((0 : Dev Cert.ShareRef.nD).tc : Thread Cert.ShareRef.nD Cert.ShareRef.τ).loc Cert.ShareRef.main_arg2)
          ∧ r.2.mem (((0 : Dev Cert.ShareRef.nD).tc : Thread Cert.ShareRef.nD Cert.ShareRef.τ).loc Cert.ShareRef.main_arg3) = m' (((0 : Dev Cert.ShareRef.nD).tc : Thread Cert.ShareRef.nD Cert.ShareRef.τ).loc Cert.ShareRef.main_arg3)
          ∧ r.2.mem (((0 : Dev Cert.ShareRef.nD).tc : Thread Cert.ShareRef.nD Cert.ShareRef.τ).loc Cert.ShareRef.main_arg4) = m' (((0 : Dev Cert.ShareRef.nD).tc : Thread Cert.ShareRef.nD Cert.ShareRef.τ).loc Cert.ShareRef.main_arg4)
          ∧ r.2.mem (((0 : Dev Cert.ShareRef.nD).tc : Thread Cert.ShareRef.nD Cert.ShareRef.τ).loc Cert.ShareRef.main_arg5) = m' (((0 : Dev Cert.ShareRef.nD).tc : Thread Cert.ShareRef.nD Cert.ShareRef.τ).loc Cert.ShareRef.main_arg5)
          ∧ r.2.mem (((0 : Dev Cert.ShareRef.nD).tc : Thread Cert.ShareRef.nD Cert.ShareRef.τ).loc Cert.ShareRef.main_arg6) = m' (((0 : Dev Cert.ShareRef.nD).tc : Thread Cert.ShareRef.nD Cert.ShareRef.τ).loc Cert.ShareRef.main_arg6)
          ∧ r.2.mem (((0 : Dev Cert.ShareRef.nD).tc : Thread Cert.ShareRef.nD Cert.ShareRef.τ).loc Cert.ShareRef.main_arg7) = m' (((0 : Dev Cert.ShareRef.nD).tc : Thread Cert.ShareRef.nD Cert.ShareRef.τ).loc Cert.ShareRef.main_arg7)
          ∧ r.2.mem (((0 : Dev Cert.ShareRef.nD).tc : Thread Cert.ShareRef.nD Cert.ShareRef.τ).loc Cert.ShareRef.main_arg8) = m' (((0 : Dev Cert.ShareRef.nD).tc : Thread Cert.ShareRef.nD Cert.ShareRef.τ).loc Cert.ShareRef.main_arg8))

def algebraic_ShareIdeal_ShareRefIdeal [hShareIdeal : Cert.ShareIdeal.Facts] [hShareRefIdeal : Cert.ShareRefIdeal.Facts] : Prop :=
  ∀ (m : (ℓ : Loc Cert.ShareIdeal.nD Cert.ShareIdeal.τ Cert.ShareIdeal.sig) → Buf (Elt Ideal) ℓ) (g : Dev Cert.ShareIdeal.nD → PrngReg)
    (m' : (ℓ : Loc Cert.ShareRefIdeal.nD Cert.ShareRefIdeal.τ Cert.ShareRefIdeal.sig) → Buf (Elt Ideal) ℓ) (g' : Dev Cert.ShareRefIdeal.nD → PrngReg), Pre_ShareIdeal m →
    (∀ c : Dev Cert.ShareIdeal.nD,
      m ((c.tc : Thread Cert.ShareIdeal.nD Cert.ShareIdeal.τ).loc Cert.ShareIdeal.main_arg0) = Layout.block ⟨2, ![240, 128]⟩ ⟨2, ![1920, 128]⟩ 0 8 c (m' (((0 : Dev Cert.ShareRefIdeal.nD).tc : Thread Cert.ShareRefIdeal.nD Cert.ShareRefIdeal.τ).loc Cert.ShareRefIdeal.main_arg0))
      ∧ m ((c.tc : Thread Cert.ShareIdeal.nD Cert.ShareIdeal.τ).loc Cert.ShareIdeal.main_arg1) = Layout.block ⟨2, ![512, 704]⟩ ⟨2, ![4096, 704]⟩ 0 8 c (m' (((0 : Dev Cert.ShareRefIdeal.nD).tc : Thread Cert.ShareRefIdeal.nD Cert.ShareRefIdeal.τ).loc Cert.ShareRefIdeal.main_arg1))
      ∧ m ((c.tc : Thread Cert.ShareIdeal.nD Cert.ShareIdeal.τ).loc Cert.ShareIdeal.main_arg2) = Layout.block ⟨2, ![512, 704]⟩ ⟨2, ![4096, 704]⟩ 0 8 c (m' (((0 : Dev Cert.ShareRefIdeal.nD).tc : Thread Cert.ShareRefIdeal.nD Cert.ShareRefIdeal.τ).loc Cert.ShareRefIdeal.main_arg2))
      ∧ m ((c.tc : Thread Cert.ShareIdeal.nD Cert.ShareIdeal.τ).loc Cert.ShareIdeal.main_arg3) = Layout.block ⟨2, ![352, 1024]⟩ ⟨2, ![2816, 1024]⟩ 0 8 c (m' (((0 : Dev Cert.ShareRefIdeal.nD).tc : Thread Cert.ShareRefIdeal.nD Cert.ShareRefIdeal.τ).loc Cert.ShareRefIdeal.main_arg3))
      ∧ m ((c.tc : Thread Cert.ShareIdeal.nD Cert.ShareIdeal.τ).loc Cert.ShareIdeal.main_arg4) = Layout.block ⟨2, ![128, 1024]⟩ ⟨2, ![1024, 1024]⟩ 0 8 c (m' (((0 : Dev Cert.ShareRefIdeal.nD).tc : Thread Cert.ShareRefIdeal.nD Cert.ShareRefIdeal.τ).loc Cert.ShareRefIdeal.main_arg4))
      ∧ m ((c.tc : Thread Cert.ShareIdeal.nD Cert.ShareIdeal.τ).loc Cert.ShareIdeal.main_arg5) = Layout.block ⟨2, ![128, 1024]⟩ ⟨2, ![1024, 1024]⟩ 0 8 c (m' (((0 : Dev Cert.ShareRefIdeal.nD).tc : Thread Cert.ShareRefIdeal.nD Cert.ShareRefIdeal.τ).loc Cert.ShareRefIdeal.main_arg5))
      ∧ m ((c.tc : Thread Cert.ShareIdeal.nD Cert.ShareIdeal.τ).loc Cert.ShareIdeal.main_arg6) = Layout.block ⟨2, ![512, 704]⟩ ⟨2, ![4096, 704]⟩ 0 8 c (m' (((0 : Dev Cert.ShareRefIdeal.nD).tc : Thread Cert.ShareRefIdeal.nD Cert.ShareRefIdeal.τ).loc Cert.ShareRefIdeal.main_arg6))
      ∧ m ((c.tc : Thread Cert.ShareIdeal.nD Cert.ShareIdeal.τ).loc Cert.ShareIdeal.main_arg7) = Layout.block ⟨2, ![512, 704]⟩ ⟨2, ![4096, 704]⟩ 0 8 c (m' (((0 : Dev Cert.ShareRefIdeal.nD).tc : Thread Cert.ShareRefIdeal.nD Cert.ShareRefIdeal.τ).loc Cert.ShareRefIdeal.main_arg7))
      ∧ m ((c.tc : Thread Cert.ShareIdeal.nD Cert.ShareIdeal.τ).loc Cert.ShareIdeal.main_arg8) = Layout.block ⟨2, ![352, 1024]⟩ ⟨2, ![2816, 1024]⟩ 0 8 c (m' (((0 : Dev Cert.ShareRefIdeal.nD).tc : Thread Cert.ShareRefIdeal.nD Cert.ShareRefIdeal.τ).loc Cert.ShareRefIdeal.main_arg8))) →
    ∃ (v0 : Buf (Elt Ideal) (((0 : Dev Cert.ShareRefIdeal.nD).tc : Thread Cert.ShareRefIdeal.nD Cert.ShareRefIdeal.τ).loc Cert.ShareRefIdeal.main_v0)) (v1 : Buf (Elt Ideal) (((0 : Dev Cert.ShareRefIdeal.nD).tc : Thread Cert.ShareRefIdeal.nD Cert.ShareRefIdeal.τ).loc Cert.ShareRefIdeal.main_v1)) (v2 : Buf (Elt Ideal) (((0 : Dev Cert.ShareRefIdeal.nD).tc : Thread Cert.ShareRefIdeal.nD Cert.ShareRefIdeal.τ).loc Cert.ShareRefIdeal.main_v2)) (v3 : Buf (Elt Ideal) (((0 : Dev Cert.ShareRefIdeal.nD).tc : Thread Cert.ShareRefIdeal.nD Cert.ShareRefIdeal.τ).loc Cert.ShareRefIdeal.main_v3)) (v4 : Buf (Elt Ideal) (((0 : Dev Cert.ShareRefIdeal.nD).tc : Thread Cert.ShareRefIdeal.nD Cert.ShareRefIdeal.τ).loc Cert.ShareRefIdeal.main_v4)) (v5 : Buf (Elt Ideal) (((0 : Dev Cert.ShareRefIdeal.nD).tc : Thread Cert.ShareRefIdeal.nD Cert.ShareRefIdeal.τ).loc Cert.ShareRefIdeal.main_v5)) (v6 : Buf (Elt Ideal) (((0 : Dev Cert.ShareRefIdeal.nD).tc : Thread Cert.ShareRefIdeal.nD Cert.ShareRefIdeal.τ).loc Cert.ShareRefIdeal.main_v6)) (v7 : Buf (Elt Ideal) (((0 : Dev Cert.ShareRefIdeal.nD).tc : Thread Cert.ShareRefIdeal.nD Cert.ShareRefIdeal.τ).loc Cert.ShareRefIdeal.main_v7)) (v8 : Buf (Elt Ideal) (((0 : Dev Cert.ShareRefIdeal.nD).tc : Thread Cert.ShareRefIdeal.nD Cert.ShareRefIdeal.τ).loc Cert.ShareRefIdeal.main_v8)),
      θ_run (Cert.ShareIdeal.defs (F := Ideal)) (onTc (τ := Cert.ShareIdeal.τ) (Cert.ShareIdeal.main (F := Ideal))) ⟨m, fun _ => 0, g⟩ (fun r => ∀ c : Dev Cert.ShareIdeal.nD,
          r.2.mem ((c.tc : Thread Cert.ShareIdeal.nD Cert.ShareIdeal.τ).loc Cert.ShareIdeal.main_v1_0) = Layout.blockN ⟨3, ![2, 240, 128]⟩ ⟨3, ![8, 240, 128]⟩ (Layout.meshBlock [2, 2, 2] ![[0, 1], [], []] c) v0
          ∧ r.2.mem ((c.tc : Thread Cert.ShareIdeal.nD Cert.ShareIdeal.τ).loc Cert.ShareIdeal.main_v1_1) = Layout.blockN ⟨3, ![2, 512, 704]⟩ ⟨3, ![8, 512, 704]⟩ (Layout.meshBlock [2, 2, 2] ![[0, 1], [], []] c) v1
          ∧ r.2.mem ((c.tc : Thread Cert.ShareIdeal.nD Cert.ShareIdeal.τ).loc Cert.ShareIdeal.main_v1_2) = Layout.blockN ⟨3, ![2, 512, 704]⟩ ⟨3, ![8, 512, 704]⟩ (Layout.meshBlock [2, 2, 2] ![[0, 1], [], []] c) v2
          ∧ r.2.mem ((c.tc : Thread Cert.ShareIdeal.nD Cert.ShareIdeal.τ).loc Cert.ShareIdeal.main_v1_3) = Layout.blockN ⟨3, ![2, 352, 1024]⟩ ⟨3, ![8, 352, 1024]⟩ (Layout.meshBlock [2, 2, 2] ![[0, 1], [], []] c) v3
          ∧ r.2.mem ((c.tc : Thread Cert.ShareIdeal.nD Cert.ShareIdeal.τ).loc Cert.ShareIdeal.main_v1_4) = Layout.blockN ⟨3, ![2, 128, 1024]⟩ ⟨3, ![8, 128, 1024]⟩ (Layout.meshBlock [2, 2, 2] ![[0, 1], [], []] c) v4
          ∧ r.2.mem ((c.tc : Thread Cert.ShareIdeal.nD Cert.ShareIdeal.τ).loc Cert.ShareIdeal.main_v1_5) = Layout.blockN ⟨3, ![2, 128, 1024]⟩ ⟨3, ![8, 128, 1024]⟩ (Layout.meshBlock [2, 2, 2] ![[0, 1], [], []] c) v5
          ∧ r.2.mem ((c.tc : Thread Cert.ShareIdeal.nD Cert.ShareIdeal.τ).loc Cert.ShareIdeal.main_v1_6) = Layout.blockN ⟨3, ![2, 512, 704]⟩ ⟨3, ![8, 512, 704]⟩ (Layout.meshBlock [2, 2, 2] ![[0, 1], [], []] c) v6
          ∧ r.2.mem ((c.tc : Thread Cert.ShareIdeal.nD Cert.ShareIdeal.τ).loc Cert.ShareIdeal.main_v1_7) = Layout.blockN ⟨3, ![2, 512, 704]⟩ ⟨3, ![8, 512, 704]⟩ (Layout.meshBlock [2, 2, 2] ![[0, 1], [], []] c) v7
          ∧ r.2.mem ((c.tc : Thread Cert.ShareIdeal.nD Cert.ShareIdeal.τ).loc Cert.ShareIdeal.main_v1_8) = Layout.blockN ⟨3, ![2, 352, 1024]⟩ ⟨3, ![8, 352, 1024]⟩ (Layout.meshBlock [2, 2, 2] ![[0, 1], [], []] c) v8
          ∧ r.2.mem ((c.tc : Thread Cert.ShareIdeal.nD Cert.ShareIdeal.τ).loc Cert.ShareIdeal.main_arg0) = m ((c.tc : Thread Cert.ShareIdeal.nD Cert.ShareIdeal.τ).loc Cert.ShareIdeal.main_arg0)
          ∧ r.2.mem ((c.tc : Thread Cert.ShareIdeal.nD Cert.ShareIdeal.τ).loc Cert.ShareIdeal.main_arg1) = m ((c.tc : Thread Cert.ShareIdeal.nD Cert.ShareIdeal.τ).loc Cert.ShareIdeal.main_arg1)
          ∧ r.2.mem ((c.tc : Thread Cert.ShareIdeal.nD Cert.ShareIdeal.τ).loc Cert.ShareIdeal.main_arg2) = m ((c.tc : Thread Cert.ShareIdeal.nD Cert.ShareIdeal.τ).loc Cert.ShareIdeal.main_arg2)
          ∧ r.2.mem ((c.tc : Thread Cert.ShareIdeal.nD Cert.ShareIdeal.τ).loc Cert.ShareIdeal.main_arg3) = m ((c.tc : Thread Cert.ShareIdeal.nD Cert.ShareIdeal.τ).loc Cert.ShareIdeal.main_arg3)
          ∧ r.2.mem ((c.tc : Thread Cert.ShareIdeal.nD Cert.ShareIdeal.τ).loc Cert.ShareIdeal.main_arg4) = m ((c.tc : Thread Cert.ShareIdeal.nD Cert.ShareIdeal.τ).loc Cert.ShareIdeal.main_arg4)
          ∧ r.2.mem ((c.tc : Thread Cert.ShareIdeal.nD Cert.ShareIdeal.τ).loc Cert.ShareIdeal.main_arg5) = m ((c.tc : Thread Cert.ShareIdeal.nD Cert.ShareIdeal.τ).loc Cert.ShareIdeal.main_arg5)
          ∧ r.2.mem ((c.tc : Thread Cert.ShareIdeal.nD Cert.ShareIdeal.τ).loc Cert.ShareIdeal.main_arg6) = m ((c.tc : Thread Cert.ShareIdeal.nD Cert.ShareIdeal.τ).loc Cert.ShareIdeal.main_arg6)
          ∧ r.2.mem ((c.tc : Thread Cert.ShareIdeal.nD Cert.ShareIdeal.τ).loc Cert.ShareIdeal.main_arg7) = m ((c.tc : Thread Cert.ShareIdeal.nD Cert.ShareIdeal.τ).loc Cert.ShareIdeal.main_arg7)
          ∧ r.2.mem ((c.tc : Thread Cert.ShareIdeal.nD Cert.ShareIdeal.τ).loc Cert.ShareIdeal.main_arg8) = m ((c.tc : Thread Cert.ShareIdeal.nD Cert.ShareIdeal.τ).loc Cert.ShareIdeal.main_arg8))
      ∧ θ_run (Cert.ShareRefIdeal.defs (F := Ideal)) (onTc (τ := Cert.ShareRefIdeal.τ) (Cert.ShareRefIdeal.main (F := Ideal))) ⟨m', fun _ => 0, g'⟩ (fun r =>
          r.2.mem (((0 : Dev Cert.ShareRefIdeal.nD).tc : Thread Cert.ShareRefIdeal.nD Cert.ShareRefIdeal.τ).loc Cert.ShareRefIdeal.main_v0) = v0
          ∧ r.2.mem (((0 : Dev Cert.ShareRefIdeal.nD).tc : Thread Cert.ShareRefIdeal.nD Cert.ShareRefIdeal.τ).loc Cert.ShareRefIdeal.main_v1) = v1
          ∧ r.2.mem (((0 : Dev Cert.ShareRefIdeal.nD).tc : Thread Cert.ShareRefIdeal.nD Cert.ShareRefIdeal.τ).loc Cert.ShareRefIdeal.main_v2) = v2
          ∧ r.2.mem (((0 : Dev Cert.ShareRefIdeal.nD).tc : Thread Cert.ShareRefIdeal.nD Cert.ShareRefIdeal.τ).loc Cert.ShareRefIdeal.main_v3) = v3
          ∧ r.2.mem (((0 : Dev Cert.ShareRefIdeal.nD).tc : Thread Cert.ShareRefIdeal.nD Cert.ShareRefIdeal.τ).loc Cert.ShareRefIdeal.main_v4) = v4
          ∧ r.2.mem (((0 : Dev Cert.ShareRefIdeal.nD).tc : Thread Cert.ShareRefIdeal.nD Cert.ShareRefIdeal.τ).loc Cert.ShareRefIdeal.main_v5) = v5
          ∧ r.2.mem (((0 : Dev Cert.ShareRefIdeal.nD).tc : Thread Cert.ShareRefIdeal.nD Cert.ShareRefIdeal.τ).loc Cert.ShareRefIdeal.main_v6) = v6
          ∧ r.2.mem (((0 : Dev Cert.ShareRefIdeal.nD).tc : Thread Cert.ShareRefIdeal.nD Cert.ShareRefIdeal.τ).loc Cert.ShareRefIdeal.main_v7) = v7
          ∧ r.2.mem (((0 : Dev Cert.ShareRefIdeal.nD).tc : Thread Cert.ShareRefIdeal.nD Cert.ShareRefIdeal.τ).loc Cert.ShareRefIdeal.main_v8) = v8
          ∧ r.2.mem (((0 : Dev Cert.ShareRefIdeal.nD).tc : Thread Cert.ShareRefIdeal.nD Cert.ShareRefIdeal.τ).loc Cert.ShareRefIdeal.main_arg0) = m' (((0 : Dev Cert.ShareRefIdeal.nD).tc : Thread Cert.ShareRefIdeal.nD Cert.ShareRefIdeal.τ).loc Cert.ShareRefIdeal.main_arg0)
          ∧ r.2.mem (((0 : Dev Cert.ShareRefIdeal.nD).tc : Thread Cert.ShareRefIdeal.nD Cert.ShareRefIdeal.τ).loc Cert.ShareRefIdeal.main_arg1) = m' (((0 : Dev Cert.ShareRefIdeal.nD).tc : Thread Cert.ShareRefIdeal.nD Cert.ShareRefIdeal.τ).loc Cert.ShareRefIdeal.main_arg1)
          ∧ r.2.mem (((0 : Dev Cert.ShareRefIdeal.nD).tc : Thread Cert.ShareRefIdeal.nD Cert.ShareRefIdeal.τ).loc Cert.ShareRefIdeal.main_arg2) = m' (((0 : Dev Cert.ShareRefIdeal.nD).tc : Thread Cert.ShareRefIdeal.nD Cert.ShareRefIdeal.τ).loc Cert.ShareRefIdeal.main_arg2)
          ∧ r.2.mem (((0 : Dev Cert.ShareRefIdeal.nD).tc : Thread Cert.ShareRefIdeal.nD Cert.ShareRefIdeal.τ).loc Cert.ShareRefIdeal.main_arg3) = m' (((0 : Dev Cert.ShareRefIdeal.nD).tc : Thread Cert.ShareRefIdeal.nD Cert.ShareRefIdeal.τ).loc Cert.ShareRefIdeal.main_arg3)
          ∧ r.2.mem (((0 : Dev Cert.ShareRefIdeal.nD).tc : Thread Cert.ShareRefIdeal.nD Cert.ShareRefIdeal.τ).loc Cert.ShareRefIdeal.main_arg4) = m' (((0 : Dev Cert.ShareRefIdeal.nD).tc : Thread Cert.ShareRefIdeal.nD Cert.ShareRefIdeal.τ).loc Cert.ShareRefIdeal.main_arg4)
          ∧ r.2.mem (((0 : Dev Cert.ShareRefIdeal.nD).tc : Thread Cert.ShareRefIdeal.nD Cert.ShareRefIdeal.τ).loc Cert.ShareRefIdeal.main_arg5) = m' (((0 : Dev Cert.ShareRefIdeal.nD).tc : Thread Cert.ShareRefIdeal.nD Cert.ShareRefIdeal.τ).loc Cert.ShareRefIdeal.main_arg5)
          ∧ r.2.mem (((0 : Dev Cert.ShareRefIdeal.nD).tc : Thread Cert.ShareRefIdeal.nD Cert.ShareRefIdeal.τ).loc Cert.ShareRefIdeal.main_arg6) = m' (((0 : Dev Cert.ShareRefIdeal.nD).tc : Thread Cert.ShareRefIdeal.nD Cert.ShareRefIdeal.τ).loc Cert.ShareRefIdeal.main_arg6)
          ∧ r.2.mem (((0 : Dev Cert.ShareRefIdeal.nD).tc : Thread Cert.ShareRefIdeal.nD Cert.ShareRefIdeal.τ).loc Cert.ShareRefIdeal.main_arg7) = m' (((0 : Dev Cert.ShareRefIdeal.nD).tc : Thread Cert.ShareRefIdeal.nD Cert.ShareRefIdeal.τ).loc Cert.ShareRefIdeal.main_arg7)
          ∧ r.2.mem (((0 : Dev Cert.ShareRefIdeal.nD).tc : Thread Cert.ShareRefIdeal.nD Cert.ShareRefIdeal.τ).loc Cert.ShareRefIdeal.main_arg8) = m' (((0 : Dev Cert.ShareRefIdeal.nD).tc : Thread Cert.ShareRefIdeal.nD Cert.ShareRefIdeal.τ).loc Cert.ShareRefIdeal.main_arg8))

def preserves_Gather_GatherIdeal : Prop :=
  True

def bitexact_Gather_GatherRef [hGather : Cert.Gather.Facts] [hGatherRef : Cert.GatherRef.Facts] : Prop :=
  ∀ (m : (ℓ : Loc Cert.Gather.nD Cert.Gather.τ Cert.Gather.sig) → Buf (Elt Bits) ℓ) (g : Dev Cert.Gather.nD → PrngReg)
    (m' : (ℓ : Loc Cert.GatherRef.nD Cert.GatherRef.τ Cert.GatherRef.sig) → Buf (Elt Bits) ℓ) (g' : Dev Cert.GatherRef.nD → PrngReg), Pre_Gather m →
    (∀ c : Dev Cert.Gather.nD,
      m ((c.tc : Thread Cert.Gather.nD Cert.Gather.τ).loc Cert.Gather.main_arg0) = Layout.blockN ⟨3, ![2, 512, 704]⟩ ⟨3, ![8, 512, 704]⟩ (Layout.meshBlock [2, 2, 2] ![[0, 1], [], []] c) (m' (((0 : Dev Cert.GatherRef.nD).tc : Thread Cert.GatherRef.nD Cert.GatherRef.τ).loc Cert.GatherRef.main_arg0))
      ∧ m ((c.tc : Thread Cert.Gather.nD Cert.Gather.τ).loc Cert.Gather.main_arg1) = Layout.blockN ⟨3, ![2, 512, 704]⟩ ⟨3, ![8, 512, 704]⟩ (Layout.meshBlock [2, 2, 2] ![[0, 1], [], []] c) (m' (((0 : Dev Cert.GatherRef.nD).tc : Thread Cert.GatherRef.nD Cert.GatherRef.τ).loc Cert.GatherRef.main_arg1))
      ∧ m ((c.tc : Thread Cert.Gather.nD Cert.Gather.τ).loc Cert.Gather.main_arg2) = Layout.blockN ⟨3, ![2, 352, 1024]⟩ ⟨3, ![8, 352, 1024]⟩ (Layout.meshBlock [2, 2, 2] ![[0, 1], [], []] c) (m' (((0 : Dev Cert.GatherRef.nD).tc : Thread Cert.GatherRef.nD Cert.GatherRef.τ).loc Cert.GatherRef.main_arg2))
      ∧ m ((c.tc : Thread Cert.Gather.nD Cert.Gather.τ).loc Cert.Gather.main_arg3) = Layout.blockN ⟨3, ![2, 128, 1024]⟩ ⟨3, ![8, 128, 1024]⟩ (Layout.meshBlock [2, 2, 2] ![[0, 1], [], []] c) (m' (((0 : Dev Cert.GatherRef.nD).tc : Thread Cert.GatherRef.nD Cert.GatherRef.τ).loc Cert.GatherRef.main_arg3))
      ∧ m ((c.tc : Thread Cert.Gather.nD Cert.Gather.τ).loc Cert.Gather.main_arg4) = Layout.blockN ⟨3, ![2, 128, 1024]⟩ ⟨3, ![8, 128, 1024]⟩ (Layout.meshBlock [2, 2, 2] ![[0, 1], [], []] c) (m' (((0 : Dev Cert.GatherRef.nD).tc : Thread Cert.GatherRef.nD Cert.GatherRef.τ).loc Cert.GatherRef.main_arg4))
      ∧ m ((c.tc : Thread Cert.Gather.nD Cert.Gather.τ).loc Cert.Gather.main_arg5) = Layout.blockN ⟨3, ![2, 512, 704]⟩ ⟨3, ![8, 512, 704]⟩ (Layout.meshBlock [2, 2, 2] ![[0, 1], [], []] c) (m' (((0 : Dev Cert.GatherRef.nD).tc : Thread Cert.GatherRef.nD Cert.GatherRef.τ).loc Cert.GatherRef.main_arg5))
      ∧ m ((c.tc : Thread Cert.Gather.nD Cert.Gather.τ).loc Cert.Gather.main_arg6) = Layout.blockN ⟨3, ![2, 512, 704]⟩ ⟨3, ![8, 512, 704]⟩ (Layout.meshBlock [2, 2, 2] ![[0, 1], [], []] c) (m' (((0 : Dev Cert.GatherRef.nD).tc : Thread Cert.GatherRef.nD Cert.GatherRef.τ).loc Cert.GatherRef.main_arg6))
      ∧ m ((c.tc : Thread Cert.Gather.nD Cert.Gather.τ).loc Cert.Gather.main_arg7) = Layout.blockN ⟨3, ![2, 352, 1024]⟩ ⟨3, ![8, 352, 1024]⟩ (Layout.meshBlock [2, 2, 2] ![[0, 1], [], []] c) (m' (((0 : Dev Cert.GatherRef.nD).tc : Thread Cert.GatherRef.nD Cert.GatherRef.τ).loc Cert.GatherRef.main_arg7))
      ∧ m ((c.tc : Thread Cert.Gather.nD Cert.Gather.τ).loc Cert.Gather.main_arg8) = Layout.blockN ⟨3, ![2, 8, 256]⟩ ⟨3, ![8, 8, 256]⟩ (Layout.meshBlock [2, 2, 2] ![[0, 1], [], []] c) (m' (((0 : Dev Cert.GatherRef.nD).tc : Thread Cert.GatherRef.nD Cert.GatherRef.τ).loc Cert.GatherRef.main_arg8))) →
    ∃ (v0 : Buf (Elt Bits) (((0 : Dev Cert.GatherRef.nD).tc : Thread Cert.GatherRef.nD Cert.GatherRef.τ).loc Cert.GatherRef.main_v0)) (v1 : Buf (Elt Bits) (((0 : Dev Cert.GatherRef.nD).tc : Thread Cert.GatherRef.nD Cert.GatherRef.τ).loc Cert.GatherRef.main_v1)) (v2 : Buf (Elt Bits) (((0 : Dev Cert.GatherRef.nD).tc : Thread Cert.GatherRef.nD Cert.GatherRef.τ).loc Cert.GatherRef.main_v2)) (v3 : Buf (Elt Bits) (((0 : Dev Cert.GatherRef.nD).tc : Thread Cert.GatherRef.nD Cert.GatherRef.τ).loc Cert.GatherRef.main_v3)) (v4 : Buf (Elt Bits) (((0 : Dev Cert.GatherRef.nD).tc : Thread Cert.GatherRef.nD Cert.GatherRef.τ).loc Cert.GatherRef.main_v4)) (v5 : Buf (Elt Bits) (((0 : Dev Cert.GatherRef.nD).tc : Thread Cert.GatherRef.nD Cert.GatherRef.τ).loc Cert.GatherRef.main_v5)) (v6 : Buf (Elt Bits) (((0 : Dev Cert.GatherRef.nD).tc : Thread Cert.GatherRef.nD Cert.GatherRef.τ).loc Cert.GatherRef.main_v6)) (v7 : Buf (Elt Bits) (((0 : Dev Cert.GatherRef.nD).tc : Thread Cert.GatherRef.nD Cert.GatherRef.τ).loc Cert.GatherRef.main_v7)) (v8 : Buf (Elt Bits) (((0 : Dev Cert.GatherRef.nD).tc : Thread Cert.GatherRef.nD Cert.GatherRef.τ).loc Cert.GatherRef.main_v8)),
      θ_run (Cert.Gather.defs (F := Bits)) (onTc (τ := Cert.Gather.τ) (Cert.Gather.main (F := Bits))) ⟨m, fun _ => 0, g⟩ (fun r => ∀ c : Dev Cert.Gather.nD,
          r.2.mem ((c.tc : Thread Cert.Gather.nD Cert.Gather.τ).loc Cert.Gather.main_v1_0) = v0
          ∧ r.2.mem ((c.tc : Thread Cert.Gather.nD Cert.Gather.τ).loc Cert.Gather.main_v1_1) = v1
          ∧ r.2.mem ((c.tc : Thread Cert.Gather.nD Cert.Gather.τ).loc Cert.Gather.main_v1_2) = v2
          ∧ r.2.mem ((c.tc : Thread Cert.Gather.nD Cert.Gather.τ).loc Cert.Gather.main_v1_3) = v3
          ∧ r.2.mem ((c.tc : Thread Cert.Gather.nD Cert.Gather.τ).loc Cert.Gather.main_v1_4) = v4
          ∧ r.2.mem ((c.tc : Thread Cert.Gather.nD Cert.Gather.τ).loc Cert.Gather.main_v1_5) = v5
          ∧ r.2.mem ((c.tc : Thread Cert.Gather.nD Cert.Gather.τ).loc Cert.Gather.main_v1_6) = v6
          ∧ r.2.mem ((c.tc : Thread Cert.Gather.nD Cert.Gather.τ).loc Cert.Gather.main_v1_7) = v7
          ∧ r.2.mem ((c.tc : Thread Cert.Gather.nD Cert.Gather.τ).loc Cert.Gather.main_v1_8) = v8
          ∧ r.2.mem ((c.tc : Thread Cert.Gather.nD Cert.Gather.τ).loc Cert.Gather.main_arg0) = m ((c.tc : Thread Cert.Gather.nD Cert.Gather.τ).loc Cert.Gather.main_arg0)
          ∧ r.2.mem ((c.tc : Thread Cert.Gather.nD Cert.Gather.τ).loc Cert.Gather.main_arg1) = m ((c.tc : Thread Cert.Gather.nD Cert.Gather.τ).loc Cert.Gather.main_arg1)
          ∧ r.2.mem ((c.tc : Thread Cert.Gather.nD Cert.Gather.τ).loc Cert.Gather.main_arg2) = m ((c.tc : Thread Cert.Gather.nD Cert.Gather.τ).loc Cert.Gather.main_arg2)
          ∧ r.2.mem ((c.tc : Thread Cert.Gather.nD Cert.Gather.τ).loc Cert.Gather.main_arg3) = m ((c.tc : Thread Cert.Gather.nD Cert.Gather.τ).loc Cert.Gather.main_arg3)
          ∧ r.2.mem ((c.tc : Thread Cert.Gather.nD Cert.Gather.τ).loc Cert.Gather.main_arg4) = m ((c.tc : Thread Cert.Gather.nD Cert.Gather.τ).loc Cert.Gather.main_arg4)
          ∧ r.2.mem ((c.tc : Thread Cert.Gather.nD Cert.Gather.τ).loc Cert.Gather.main_arg5) = m ((c.tc : Thread Cert.Gather.nD Cert.Gather.τ).loc Cert.Gather.main_arg5)
          ∧ r.2.mem ((c.tc : Thread Cert.Gather.nD Cert.Gather.τ).loc Cert.Gather.main_arg6) = m ((c.tc : Thread Cert.Gather.nD Cert.Gather.τ).loc Cert.Gather.main_arg6)
          ∧ r.2.mem ((c.tc : Thread Cert.Gather.nD Cert.Gather.τ).loc Cert.Gather.main_arg7) = m ((c.tc : Thread Cert.Gather.nD Cert.Gather.τ).loc Cert.Gather.main_arg7)
          ∧ r.2.mem ((c.tc : Thread Cert.Gather.nD Cert.Gather.τ).loc Cert.Gather.main_arg8) = m ((c.tc : Thread Cert.Gather.nD Cert.Gather.τ).loc Cert.Gather.main_arg8))
      ∧ θ_run (Cert.GatherRef.defs (F := Bits)) (onTc (τ := Cert.GatherRef.τ) (Cert.GatherRef.main (F := Bits))) ⟨m', fun _ => 0, g'⟩ (fun r =>
          r.2.mem (((0 : Dev Cert.GatherRef.nD).tc : Thread Cert.GatherRef.nD Cert.GatherRef.τ).loc Cert.GatherRef.main_v0) = v0
          ∧ r.2.mem (((0 : Dev Cert.GatherRef.nD).tc : Thread Cert.GatherRef.nD Cert.GatherRef.τ).loc Cert.GatherRef.main_v1) = v1
          ∧ r.2.mem (((0 : Dev Cert.GatherRef.nD).tc : Thread Cert.GatherRef.nD Cert.GatherRef.τ).loc Cert.GatherRef.main_v2) = v2
          ∧ r.2.mem (((0 : Dev Cert.GatherRef.nD).tc : Thread Cert.GatherRef.nD Cert.GatherRef.τ).loc Cert.GatherRef.main_v3) = v3
          ∧ r.2.mem (((0 : Dev Cert.GatherRef.nD).tc : Thread Cert.GatherRef.nD Cert.GatherRef.τ).loc Cert.GatherRef.main_v4) = v4
          ∧ r.2.mem (((0 : Dev Cert.GatherRef.nD).tc : Thread Cert.GatherRef.nD Cert.GatherRef.τ).loc Cert.GatherRef.main_v5) = v5
          ∧ r.2.mem (((0 : Dev Cert.GatherRef.nD).tc : Thread Cert.GatherRef.nD Cert.GatherRef.τ).loc Cert.GatherRef.main_v6) = v6
          ∧ r.2.mem (((0 : Dev Cert.GatherRef.nD).tc : Thread Cert.GatherRef.nD Cert.GatherRef.τ).loc Cert.GatherRef.main_v7) = v7
          ∧ r.2.mem (((0 : Dev Cert.GatherRef.nD).tc : Thread Cert.GatherRef.nD Cert.GatherRef.τ).loc Cert.GatherRef.main_v8) = v8
          ∧ r.2.mem (((0 : Dev Cert.GatherRef.nD).tc : Thread Cert.GatherRef.nD Cert.GatherRef.τ).loc Cert.GatherRef.main_arg0) = m' (((0 : Dev Cert.GatherRef.nD).tc : Thread Cert.GatherRef.nD Cert.GatherRef.τ).loc Cert.GatherRef.main_arg0)
          ∧ r.2.mem (((0 : Dev Cert.GatherRef.nD).tc : Thread Cert.GatherRef.nD Cert.GatherRef.τ).loc Cert.GatherRef.main_arg1) = m' (((0 : Dev Cert.GatherRef.nD).tc : Thread Cert.GatherRef.nD Cert.GatherRef.τ).loc Cert.GatherRef.main_arg1)
          ∧ r.2.mem (((0 : Dev Cert.GatherRef.nD).tc : Thread Cert.GatherRef.nD Cert.GatherRef.τ).loc Cert.GatherRef.main_arg2) = m' (((0 : Dev Cert.GatherRef.nD).tc : Thread Cert.GatherRef.nD Cert.GatherRef.τ).loc Cert.GatherRef.main_arg2)
          ∧ r.2.mem (((0 : Dev Cert.GatherRef.nD).tc : Thread Cert.GatherRef.nD Cert.GatherRef.τ).loc Cert.GatherRef.main_arg3) = m' (((0 : Dev Cert.GatherRef.nD).tc : Thread Cert.GatherRef.nD Cert.GatherRef.τ).loc Cert.GatherRef.main_arg3)
          ∧ r.2.mem (((0 : Dev Cert.GatherRef.nD).tc : Thread Cert.GatherRef.nD Cert.GatherRef.τ).loc Cert.GatherRef.main_arg4) = m' (((0 : Dev Cert.GatherRef.nD).tc : Thread Cert.GatherRef.nD Cert.GatherRef.τ).loc Cert.GatherRef.main_arg4)
          ∧ r.2.mem (((0 : Dev Cert.GatherRef.nD).tc : Thread Cert.GatherRef.nD Cert.GatherRef.τ).loc Cert.GatherRef.main_arg5) = m' (((0 : Dev Cert.GatherRef.nD).tc : Thread Cert.GatherRef.nD Cert.GatherRef.τ).loc Cert.GatherRef.main_arg5)
          ∧ r.2.mem (((0 : Dev Cert.GatherRef.nD).tc : Thread Cert.GatherRef.nD Cert.GatherRef.τ).loc Cert.GatherRef.main_arg6) = m' (((0 : Dev Cert.GatherRef.nD).tc : Thread Cert.GatherRef.nD Cert.GatherRef.τ).loc Cert.GatherRef.main_arg6)
          ∧ r.2.mem (((0 : Dev Cert.GatherRef.nD).tc : Thread Cert.GatherRef.nD Cert.GatherRef.τ).loc Cert.GatherRef.main_arg7) = m' (((0 : Dev Cert.GatherRef.nD).tc : Thread Cert.GatherRef.nD Cert.GatherRef.τ).loc Cert.GatherRef.main_arg7)
          ∧ r.2.mem (((0 : Dev Cert.GatherRef.nD).tc : Thread Cert.GatherRef.nD Cert.GatherRef.τ).loc Cert.GatherRef.main_arg8) = m' (((0 : Dev Cert.GatherRef.nD).tc : Thread Cert.GatherRef.nD Cert.GatherRef.τ).loc Cert.GatherRef.main_arg8))

def algebraic_GatherIdeal_GatherRefIdeal [hGatherIdeal : Cert.GatherIdeal.Facts] [hGatherRefIdeal : Cert.GatherRefIdeal.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherRefIdeal.nD Cert.GatherRefIdeal.τ Cert.GatherRefIdeal.sig) → Buf (Elt Ideal) ℓ) (g' : Dev Cert.GatherRefIdeal.nD → PrngReg), Pre_GatherIdeal m →
    (∀ c : Dev Cert.GatherIdeal.nD,
      m ((c.tc : Thread Cert.GatherIdeal.nD Cert.GatherIdeal.τ).loc Cert.GatherIdeal.main_arg0) = Layout.blockN ⟨3, ![2, 512, 704]⟩ ⟨3, ![8, 512, 704]⟩ (Layout.meshBlock [2, 2, 2] ![[0, 1], [], []] c) (m' (((0 : Dev Cert.GatherRefIdeal.nD).tc : Thread Cert.GatherRefIdeal.nD Cert.GatherRefIdeal.τ).loc Cert.GatherRefIdeal.main_arg0))
      ∧ m ((c.tc : Thread Cert.GatherIdeal.nD Cert.GatherIdeal.τ).loc Cert.GatherIdeal.main_arg1) = Layout.blockN ⟨3, ![2, 512, 704]⟩ ⟨3, ![8, 512, 704]⟩ (Layout.meshBlock [2, 2, 2] ![[0, 1], [], []] c) (m' (((0 : Dev Cert.GatherRefIdeal.nD).tc : Thread Cert.GatherRefIdeal.nD Cert.GatherRefIdeal.τ).loc Cert.GatherRefIdeal.main_arg1))
      ∧ m ((c.tc : Thread Cert.GatherIdeal.nD Cert.GatherIdeal.τ).loc Cert.GatherIdeal.main_arg2) = Layout.blockN ⟨3, ![2, 352, 1024]⟩ ⟨3, ![8, 352, 1024]⟩ (Layout.meshBlock [2, 2, 2] ![[0, 1], [], []] c) (m' (((0 : Dev Cert.GatherRefIdeal.nD).tc : Thread Cert.GatherRefIdeal.nD Cert.GatherRefIdeal.τ).loc Cert.GatherRefIdeal.main_arg2))
      ∧ m ((c.tc : Thread Cert.GatherIdeal.nD Cert.GatherIdeal.τ).loc Cert.GatherIdeal.main_arg3) = Layout.blockN ⟨3, ![2, 128, 1024]⟩ ⟨3, ![8, 128, 1024]⟩ (Layout.meshBlock [2, 2, 2] ![[0, 1], [], []] c) (m' (((0 : Dev Cert.GatherRefIdeal.nD).tc : Thread Cert.GatherRefIdeal.nD Cert.GatherRefIdeal.τ).loc Cert.GatherRefIdeal.main_arg3))
      ∧ m ((c.tc : Thread Cert.GatherIdeal.nD Cert.GatherIdeal.τ).loc Cert.GatherIdeal.main_arg4) = Layout.blockN ⟨3, ![2, 128, 1024]⟩ ⟨3, ![8, 128, 1024]⟩ (Layout.meshBlock [2, 2, 2] ![[0, 1], [], []] c) (m' (((0 : Dev Cert.GatherRefIdeal.nD).tc : Thread Cert.GatherRefIdeal.nD Cert.GatherRefIdeal.τ).loc Cert.GatherRefIdeal.main_arg4))
      ∧ m ((c.tc : Thread Cert.GatherIdeal.nD Cert.GatherIdeal.τ).loc Cert.GatherIdeal.main_arg5) = Layout.blockN ⟨3, ![2, 512, 704]⟩ ⟨3, ![8, 512, 704]⟩ (Layout.meshBlock [2, 2, 2] ![[0, 1], [], []] c) (m' (((0 : Dev Cert.GatherRefIdeal.nD).tc : Thread Cert.GatherRefIdeal.nD Cert.GatherRefIdeal.τ).loc Cert.GatherRefIdeal.main_arg5))
      ∧ m ((c.tc : Thread Cert.GatherIdeal.nD Cert.GatherIdeal.τ).loc Cert.GatherIdeal.main_arg6) = Layout.blockN ⟨3, ![2, 512, 704]⟩ ⟨3, ![8, 512, 704]⟩ (Layout.meshBlock [2, 2, 2] ![[0, 1], [], []] c) (m' (((0 : Dev Cert.GatherRefIdeal.nD).tc : Thread Cert.GatherRefIdeal.nD Cert.GatherRefIdeal.τ).loc Cert.GatherRefIdeal.main_arg6))
      ∧ m ((c.tc : Thread Cert.GatherIdeal.nD Cert.GatherIdeal.τ).loc Cert.GatherIdeal.main_arg7) = Layout.blockN ⟨3, ![2, 352, 1024]⟩ ⟨3, ![8, 352, 1024]⟩ (Layout.meshBlock [2, 2, 2] ![[0, 1], [], []] c) (m' (((0 : Dev Cert.GatherRefIdeal.nD).tc : Thread Cert.GatherRefIdeal.nD Cert.GatherRefIdeal.τ).loc Cert.GatherRefIdeal.main_arg7))
      ∧ m ((c.tc : Thread Cert.GatherIdeal.nD Cert.GatherIdeal.τ).loc Cert.GatherIdeal.main_arg8) = Layout.blockN ⟨3, ![2, 8, 256]⟩ ⟨3, ![8, 8, 256]⟩ (Layout.meshBlock [2, 2, 2] ![[0, 1], [], []] c) (m' (((0 : Dev Cert.GatherRefIdeal.nD).tc : Thread Cert.GatherRefIdeal.nD Cert.GatherRefIdeal.τ).loc Cert.GatherRefIdeal.main_arg8))) →
    ∃ (v0 : Buf (Elt Ideal) (((0 : Dev Cert.GatherRefIdeal.nD).tc : Thread Cert.GatherRefIdeal.nD Cert.GatherRefIdeal.τ).loc Cert.GatherRefIdeal.main_v0)) (v1 : Buf (Elt Ideal) (((0 : Dev Cert.GatherRefIdeal.nD).tc : Thread Cert.GatherRefIdeal.nD Cert.GatherRefIdeal.τ).loc Cert.GatherRefIdeal.main_v1)) (v2 : Buf (Elt Ideal) (((0 : Dev Cert.GatherRefIdeal.nD).tc : Thread Cert.GatherRefIdeal.nD Cert.GatherRefIdeal.τ).loc Cert.GatherRefIdeal.main_v2)) (v3 : Buf (Elt Ideal) (((0 : Dev Cert.GatherRefIdeal.nD).tc : Thread Cert.GatherRefIdeal.nD Cert.GatherRefIdeal.τ).loc Cert.GatherRefIdeal.main_v3)) (v4 : Buf (Elt Ideal) (((0 : Dev Cert.GatherRefIdeal.nD).tc : Thread Cert.GatherRefIdeal.nD Cert.GatherRefIdeal.τ).loc Cert.GatherRefIdeal.main_v4)) (v5 : Buf (Elt Ideal) (((0 : Dev Cert.GatherRefIdeal.nD).tc : Thread Cert.GatherRefIdeal.nD Cert.GatherRefIdeal.τ).loc Cert.GatherRefIdeal.main_v5)) (v6 : Buf (Elt Ideal) (((0 : Dev Cert.GatherRefIdeal.nD).tc : Thread Cert.GatherRefIdeal.nD Cert.GatherRefIdeal.τ).loc Cert.GatherRefIdeal.main_v6)) (v7 : Buf (Elt Ideal) (((0 : Dev Cert.GatherRefIdeal.nD).tc : Thread Cert.GatherRefIdeal.nD Cert.GatherRefIdeal.τ).loc Cert.GatherRefIdeal.main_v7)) (v8 : Buf (Elt Ideal) (((0 : Dev Cert.GatherRefIdeal.nD).tc : Thread Cert.GatherRefIdeal.nD Cert.GatherRefIdeal.τ).loc Cert.GatherRefIdeal.main_v8)),
      θ_run (Cert.GatherIdeal.defs (F := Ideal)) (onTc (τ := Cert.GatherIdeal.τ) (Cert.GatherIdeal.main (F := Ideal))) ⟨m, fun _ => 0, g⟩ (fun r => ∀ c : Dev Cert.GatherIdeal.nD,
          r.2.mem ((c.tc : Thread Cert.GatherIdeal.nD Cert.GatherIdeal.τ).loc Cert.GatherIdeal.main_v1_0) = v0
          ∧ r.2.mem ((c.tc : Thread Cert.GatherIdeal.nD Cert.GatherIdeal.τ).loc Cert.GatherIdeal.main_v1_1) = v1
          ∧ r.2.mem ((c.tc : Thread Cert.GatherIdeal.nD Cert.GatherIdeal.τ).loc Cert.GatherIdeal.main_v1_2) = v2
          ∧ r.2.mem ((c.tc : Thread Cert.GatherIdeal.nD Cert.GatherIdeal.τ).loc Cert.GatherIdeal.main_v1_3) = v3
          ∧ r.2.mem ((c.tc : Thread Cert.GatherIdeal.nD Cert.GatherIdeal.τ).loc Cert.GatherIdeal.main_v1_4) = v4
          ∧ r.2.mem ((c.tc : Thread Cert.GatherIdeal.nD Cert.GatherIdeal.τ).loc Cert.GatherIdeal.main_v1_5) = v5
          ∧ r.2.mem ((c.tc : Thread Cert.GatherIdeal.nD Cert.GatherIdeal.τ).loc Cert.GatherIdeal.main_v1_6) = v6
          ∧ r.2.mem ((c.tc : Thread Cert.GatherIdeal.nD Cert.GatherIdeal.τ).loc Cert.GatherIdeal.main_v1_7) = v7
          ∧ r.2.mem ((c.tc : Thread Cert.GatherIdeal.nD Cert.GatherIdeal.τ).loc Cert.GatherIdeal.main_v1_8) = v8
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
          ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2)
          ∧ r.2.mem ((c.tc : Thread Cert.GatherIdeal.nD Cert.GatherIdeal.τ).loc Cert.GatherIdeal.main_arg3) = m ((c.tc : Thread Cert.GatherIdeal.nD Cert.GatherIdeal.τ).loc Cert.GatherIdeal.main_arg3)
          ∧ r.2.mem ((c.tc : Thread Cert.GatherIdeal.nD Cert.GatherIdeal.τ).loc Cert.GatherIdeal.main_arg4) = m ((c.tc : Thread Cert.GatherIdeal.nD Cert.GatherIdeal.τ).loc Cert.GatherIdeal.main_arg4)
          ∧ r.2.mem ((c.tc : Thread Cert.GatherIdeal.nD Cert.GatherIdeal.τ).loc Cert.GatherIdeal.main_arg5) = m ((c.tc : Thread Cert.GatherIdeal.nD Cert.GatherIdeal.τ).loc Cert.GatherIdeal.main_arg5)
          ∧ r.2.mem ((c.tc : Thread Cert.GatherIdeal.nD Cert.GatherIdeal.τ).loc Cert.GatherIdeal.main_arg6) = m ((c.tc : Thread Cert.GatherIdeal.nD Cert.GatherIdeal.τ).loc Cert.GatherIdeal.main_arg6)
          ∧ r.2.mem ((c.tc : Thread Cert.GatherIdeal.nD Cert.GatherIdeal.τ).loc Cert.GatherIdeal.main_arg7) = m ((c.tc : Thread Cert.GatherIdeal.nD Cert.GatherIdeal.τ).loc Cert.GatherIdeal.main_arg7)
          ∧ r.2.mem ((c.tc : Thread Cert.GatherIdeal.nD Cert.GatherIdeal.τ).loc Cert.GatherIdeal.main_arg8) = m ((c.tc : Thread Cert.GatherIdeal.nD Cert.GatherIdeal.τ).loc Cert.GatherIdeal.main_arg8))
      ∧ θ_run (Cert.GatherRefIdeal.defs (F := Ideal)) (onTc (τ := Cert.GatherRefIdeal.τ) (Cert.GatherRefIdeal.main (F := Ideal))) ⟨m', fun _ => 0, g'⟩ (fun r =>
          r.2.mem (((0 : Dev Cert.GatherRefIdeal.nD).tc : Thread Cert.GatherRefIdeal.nD Cert.GatherRefIdeal.τ).loc Cert.GatherRefIdeal.main_v0) = v0
          ∧ r.2.mem (((0 : Dev Cert.GatherRefIdeal.nD).tc : Thread Cert.GatherRefIdeal.nD Cert.GatherRefIdeal.τ).loc Cert.GatherRefIdeal.main_v1) = v1
          ∧ r.2.mem (((0 : Dev Cert.GatherRefIdeal.nD).tc : Thread Cert.GatherRefIdeal.nD Cert.GatherRefIdeal.τ).loc Cert.GatherRefIdeal.main_v2) = v2
          ∧ r.2.mem (((0 : Dev Cert.GatherRefIdeal.nD).tc : Thread Cert.GatherRefIdeal.nD Cert.GatherRefIdeal.τ).loc Cert.GatherRefIdeal.main_v3) = v3
          ∧ r.2.mem (((0 : Dev Cert.GatherRefIdeal.nD).tc : Thread Cert.GatherRefIdeal.nD Cert.GatherRefIdeal.τ).loc Cert.GatherRefIdeal.main_v4) = v4
          ∧ r.2.mem (((0 : Dev Cert.GatherRefIdeal.nD).tc : Thread Cert.GatherRefIdeal.nD Cert.GatherRefIdeal.τ).loc Cert.GatherRefIdeal.main_v5) = v5
          ∧ r.2.mem (((0 : Dev Cert.GatherRefIdeal.nD).tc : Thread Cert.GatherRefIdeal.nD Cert.GatherRefIdeal.τ).loc Cert.GatherRefIdeal.main_v6) = v6
          ∧ r.2.mem (((0 : Dev Cert.GatherRefIdeal.nD).tc : Thread Cert.GatherRefIdeal.nD Cert.GatherRefIdeal.τ).loc Cert.GatherRefIdeal.main_v7) = v7
          ∧ r.2.mem (((0 : Dev Cert.GatherRefIdeal.nD).tc : Thread Cert.GatherRefIdeal.nD Cert.GatherRefIdeal.τ).loc Cert.GatherRefIdeal.main_v8) = v8
          ∧ r.2.mem (((0 : Dev Cert.GatherRefIdeal.nD).tc : Thread Cert.GatherRefIdeal.nD Cert.GatherRefIdeal.τ).loc Cert.GatherRefIdeal.main_arg0) = m' (((0 : Dev Cert.GatherRefIdeal.nD).tc : Thread Cert.GatherRefIdeal.nD Cert.GatherRefIdeal.τ).loc Cert.GatherRefIdeal.main_arg0)
          ∧ r.2.mem (((0 : Dev Cert.GatherRefIdeal.nD).tc : Thread Cert.GatherRefIdeal.nD Cert.GatherRefIdeal.τ).loc Cert.GatherRefIdeal.main_arg1) = m' (((0 : Dev Cert.GatherRefIdeal.nD).tc : Thread Cert.GatherRefIdeal.nD Cert.GatherRefIdeal.τ).loc Cert.GatherRefIdeal.main_arg1)
          ∧ r.2.mem (((0 : Dev Cert.GatherRefIdeal.nD).tc : Thread Cert.GatherRefIdeal.nD Cert.GatherRefIdeal.τ).loc Cert.GatherRefIdeal.main_arg2) = m' (((0 : Dev Cert.GatherRefIdeal.nD).tc : Thread Cert.GatherRefIdeal.nD Cert.GatherRefIdeal.τ).loc Cert.GatherRefIdeal.main_arg2)
          ∧ r.2.mem (((0 : Dev Cert.GatherRefIdeal.nD).tc : Thread Cert.GatherRefIdeal.nD Cert.GatherRefIdeal.τ).loc Cert.GatherRefIdeal.main_arg3) = m' (((0 : Dev Cert.GatherRefIdeal.nD).tc : Thread Cert.GatherRefIdeal.nD Cert.GatherRefIdeal.τ).loc Cert.GatherRefIdeal.main_arg3)
          ∧ r.2.mem (((0 : Dev Cert.GatherRefIdeal.nD).tc : Thread Cert.GatherRefIdeal.nD Cert.GatherRefIdeal.τ).loc Cert.GatherRefIdeal.main_arg4) = m' (((0 : Dev Cert.GatherRefIdeal.nD).tc : Thread Cert.GatherRefIdeal.nD Cert.GatherRefIdeal.τ).loc Cert.GatherRefIdeal.main_arg4)
          ∧ r.2.mem (((0 : Dev Cert.GatherRefIdeal.nD).tc : Thread Cert.GatherRefIdeal.nD Cert.GatherRefIdeal.τ).loc Cert.GatherRefIdeal.main_arg5) = m' (((0 : Dev Cert.GatherRefIdeal.nD).tc : Thread Cert.GatherRefIdeal.nD Cert.GatherRefIdeal.τ).loc Cert.GatherRefIdeal.main_arg5)
          ∧ r.2.mem (((0 : Dev Cert.GatherRefIdeal.nD).tc : Thread Cert.GatherRefIdeal.nD Cert.GatherRefIdeal.τ).loc Cert.GatherRefIdeal.main_arg6) = m' (((0 : Dev Cert.GatherRefIdeal.nD).tc : Thread Cert.GatherRefIdeal.nD Cert.GatherRefIdeal.τ).loc Cert.GatherRefIdeal.main_arg6)
          ∧ r.2.mem (((0 : Dev Cert.GatherRefIdeal.nD).tc : Thread Cert.GatherRefIdeal.nD Cert.GatherRefIdeal.τ).loc Cert.GatherRefIdeal.main_arg7) = m' (((0 : Dev Cert.GatherRefIdeal.nD).tc : Thread Cert.GatherRefIdeal.nD Cert.GatherRefIdeal.τ).loc Cert.GatherRefIdeal.main_arg7)
          ∧ r.2.mem (((0 : Dev Cert.GatherRefIdeal.nD).tc : Thread Cert.GatherRefIdeal.nD Cert.GatherRefIdeal.τ).loc Cert.GatherRefIdeal.main_arg8) = m' (((0 : Dev Cert.GatherRefIdeal.nD).tc : Thread Cert.GatherRefIdeal.nD Cert.GatherRefIdeal.τ).loc Cert.GatherRefIdeal.main_arg8))

def preserves_GatherSmall_GatherSmallIdeal : Prop :=
  True

def bitexact_GatherSmall_GatherSmallRef [hGatherSmall : Cert.GatherSmall.Facts] [hGatherSmallRef : Cert.GatherSmallRef.Facts] : Prop :=
  ∀ (m : (ℓ : Loc Cert.GatherSmall.nD Cert.GatherSmall.τ Cert.GatherSmall.sig) → Buf (Elt Bits) ℓ) (g : Dev Cert.GatherSmall.nD → PrngReg)
    (m' : (ℓ : Loc Cert.GatherSmallRef.nD Cert.GatherSmallRef.τ Cert.GatherSmallRef.sig) → Buf (Elt Bits) ℓ) (g' : Dev Cert.GatherSmallRef.nD → PrngReg), Pre_GatherSmall m →
    (∀ c : Dev Cert.GatherSmall.nD,
      m ((c.tc : Thread Cert.GatherSmall.nD Cert.GatherSmall.τ).loc Cert.GatherSmall.main_arg0) = Layout.blockN ⟨3, ![2, 240, 128]⟩ ⟨3, ![8, 240, 128]⟩ (Layout.meshBlock [2, 2, 2] ![[0, 1], [], []] c) (m' (((0 : Dev Cert.GatherSmallRef.nD).tc : Thread Cert.GatherSmallRef.nD Cert.GatherSmallRef.τ).loc Cert.GatherSmallRef.main_arg0))) →
    ∃ (v0 : Buf (Elt Bits) (((0 : Dev Cert.GatherSmallRef.nD).tc : Thread Cert.GatherSmallRef.nD Cert.GatherSmallRef.τ).loc Cert.GatherSmallRef.main_v0)),
      θ_run (Cert.GatherSmall.defs (F := Bits)) (onTc (τ := Cert.GatherSmall.τ) (Cert.GatherSmall.main (F := Bits))) ⟨m, fun _ => 0, g⟩ (fun r => ∀ c : Dev Cert.GatherSmall.nD,
          r.2.mem ((c.tc : Thread Cert.GatherSmall.nD Cert.GatherSmall.τ).loc Cert.GatherSmall.main_v1) = v0
          ∧ r.2.mem ((c.tc : Thread Cert.GatherSmall.nD Cert.GatherSmall.τ).loc Cert.GatherSmall.main_arg0) = m ((c.tc : Thread Cert.GatherSmall.nD Cert.GatherSmall.τ).loc Cert.GatherSmall.main_arg0))
      ∧ θ_run (Cert.GatherSmallRef.defs (F := Bits)) (onTc (τ := Cert.GatherSmallRef.τ) (Cert.GatherSmallRef.main (F := Bits))) ⟨m', fun _ => 0, g'⟩ (fun r =>
          r.2.mem (((0 : Dev Cert.GatherSmallRef.nD).tc : Thread Cert.GatherSmallRef.nD Cert.GatherSmallRef.τ).loc Cert.GatherSmallRef.main_v0) = v0
          ∧ r.2.mem (((0 : Dev Cert.GatherSmallRef.nD).tc : Thread Cert.GatherSmallRef.nD Cert.GatherSmallRef.τ).loc Cert.GatherSmallRef.main_arg0) = m' (((0 : Dev Cert.GatherSmallRef.nD).tc : Thread Cert.GatherSmallRef.nD Cert.GatherSmallRef.τ).loc Cert.GatherSmallRef.main_arg0))

def algebraic_GatherSmallIdeal_GatherSmallRefIdeal [hGatherSmallIdeal : Cert.GatherSmallIdeal.Facts] [hGatherSmallRefIdeal : Cert.GatherSmallRefIdeal.Facts] : Prop :=
  ∀ (m : (ℓ : Loc Cert.GatherSmallIdeal.nD Cert.GatherSmallIdeal.τ Cert.GatherSmallIdeal.sig) → Buf (Elt Ideal) ℓ) (g : Dev Cert.GatherSmallIdeal.nD → PrngReg)
    (m' : (ℓ : Loc Cert.GatherSmallRefIdeal.nD Cert.GatherSmallRefIdeal.τ Cert.GatherSmallRefIdeal.sig) → Buf (Elt Ideal) ℓ) (g' : Dev Cert.GatherSmallRefIdeal.nD → PrngReg), Pre_GatherSmallIdeal m →
    (∀ c : Dev Cert.GatherSmallIdeal.nD,
      m ((c.tc : Thread Cert.GatherSmallIdeal.nD Cert.GatherSmallIdeal.τ).loc Cert.GatherSmallIdeal.main_arg0) = Layout.blockN ⟨3, ![2, 240, 128]⟩ ⟨3, ![8, 240, 128]⟩ (Layout.meshBlock [2, 2, 2] ![[0, 1], [], []] c) (m' (((0 : Dev Cert.GatherSmallRefIdeal.nD).tc : Thread Cert.GatherSmallRefIdeal.nD Cert.GatherSmallRefIdeal.τ).loc Cert.GatherSmallRefIdeal.main_arg0))) →
    ∃ (v0 : Buf (Elt Ideal) (((0 : Dev Cert.GatherSmallRefIdeal.nD).tc : Thread Cert.GatherSmallRefIdeal.nD Cert.GatherSmallRefIdeal.τ).loc Cert.GatherSmallRefIdeal.main_v0)),
      θ_run (Cert.GatherSmallIdeal.defs (F := Ideal)) (onTc (τ := Cert.GatherSmallIdeal.τ) (Cert.GatherSmallIdeal.main (F := Ideal))) ⟨m, fun _ => 0, g⟩ (fun r => ∀ c : Dev Cert.GatherSmallIdeal.nD,
          r.2.mem ((c.tc : Thread Cert.GatherSmallIdeal.nD Cert.GatherSmallIdeal.τ).loc Cert.GatherSmallIdeal.main_v1) = v0
          ∧ r.2.mem ((c.tc : Thread Cert.GatherSmallIdeal.nD Cert.GatherSmallIdeal.τ).loc Cert.GatherSmallIdeal.main_arg0) = m ((c.tc : Thread Cert.GatherSmallIdeal.nD Cert.GatherSmallIdeal.τ).loc Cert.GatherSmallIdeal.main_arg0))
      ∧ θ_run (Cert.GatherSmallRefIdeal.defs (F := Ideal)) (onTc (τ := Cert.GatherSmallRefIdeal.τ) (Cert.GatherSmallRefIdeal.main (F := Ideal))) ⟨m', fun _ => 0, g'⟩ (fun r =>
          r.2.mem (((0 : Dev Cert.GatherSmallRefIdeal.nD).tc : Thread Cert.GatherSmallRefIdeal.nD Cert.GatherSmallRefIdeal.τ).loc Cert.GatherSmallRefIdeal.main_v0) = v0
          ∧ r.2.mem (((0 : Dev Cert.GatherSmallRefIdeal.nD).tc : Thread Cert.GatherSmallRefIdeal.nD Cert.GatherSmallRefIdeal.τ).loc Cert.GatherSmallRefIdeal.main_arg0) = m' (((0 : Dev Cert.GatherSmallRefIdeal.nD).tc : Thread Cert.GatherSmallRefIdeal.nD Cert.GatherSmallRefIdeal.τ).loc Cert.GatherSmallRefIdeal.main_arg0))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v23) = v0 c
          ∧ r.2.mem ((c.tc : Thread Cert.AdamUpRefIdeal.nD Cert.AdamUpRefIdeal.τ).loc Cert.AdamUpRefIdeal.main_v4) = v1 c
          ∧ r.2.mem ((c.tc : Thread Cert.AdamUpRefIdeal.nD Cert.AdamUpRefIdeal.τ).loc Cert.AdamUpRefIdeal.main_v10) = v2 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v23) = v0 c
          ∧ r.2.mem ((c.tc : Thread Cert.AdamDownRefIdeal.nD Cert.AdamDownRefIdeal.τ).loc Cert.AdamDownRefIdeal.main_v4) = v1 c
          ∧ r.2.mem ((c.tc : Thread Cert.AdamDownRefIdeal.nD Cert.AdamDownRefIdeal.τ).loc Cert.AdamDownRefIdeal.main_v10) = v2 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_AdamSquare_AdamSquareIdeal : Prop :=
  True

def algebraic_AdamSquareIdeal_AdamSquareRefIdeal [hAdamSquareIdeal : Cert.AdamSquareIdeal.Facts] [hAdamSquareRefIdeal : Cert.AdamSquareRefIdeal.Facts] : Prop :=
  ∀ (m : (ℓ : Loc Cert.AdamSquareIdeal.nD Cert.AdamSquareIdeal.τ Cert.AdamSquareIdeal.sig) → Buf (Elt Ideal) ℓ) (g : Dev Cert.AdamSquareIdeal.nD → PrngReg)
    (m' : (ℓ : Loc Cert.AdamSquareRefIdeal.nD Cert.AdamSquareRefIdeal.τ Cert.AdamSquareRefIdeal.sig) → Buf (Elt Ideal) ℓ) (g' : Dev Cert.AdamSquareRefIdeal.nD → PrngReg), Pre_AdamSquareIdeal m →
    (∀ c : Dev Cert.AdamSquareIdeal.nD,
      m' ((c.tc : Thread Cert.AdamSquareRefIdeal.nD Cert.AdamSquareRefIdeal.τ).loc Cert.AdamSquareRefIdeal.main_arg0) = m ((c.tc : Thread Cert.AdamSquareIdeal.nD Cert.AdamSquareIdeal.τ).loc Cert.AdamSquareIdeal.main_arg0)
      ∧ m' ((c.tc : Thread Cert.AdamSquareRefIdeal.nD Cert.AdamSquareRefIdeal.τ).loc Cert.AdamSquareRefIdeal.main_arg1) = m ((c.tc : Thread Cert.AdamSquareIdeal.nD Cert.AdamSquareIdeal.τ).loc Cert.AdamSquareIdeal.main_arg1)
      ∧ m' ((c.tc : Thread Cert.AdamSquareRefIdeal.nD Cert.AdamSquareRefIdeal.τ).loc Cert.AdamSquareRefIdeal.main_arg2) = m ((c.tc : Thread Cert.AdamSquareIdeal.nD Cert.AdamSquareIdeal.τ).loc Cert.AdamSquareIdeal.main_arg2)
      ∧ m' ((c.tc : Thread Cert.AdamSquareRefIdeal.nD Cert.AdamSquareRefIdeal.τ).loc Cert.AdamSquareRefIdeal.main_arg3) = m ((c.tc : Thread Cert.AdamSquareIdeal.nD Cert.AdamSquareIdeal.τ).loc Cert.AdamSquareIdeal.main_arg3)) →
    ∃ (v0 : (c : Dev Cert.AdamSquareIdeal.nD) → Buf (Elt Ideal) ((c.tc : Thread Cert.AdamSquareIdeal.nD Cert.AdamSquareIdeal.τ).loc Cert.AdamSquareIdeal.main_v0_0)) (v1 : (c : Dev Cert.AdamSquareIdeal.nD) → Buf (Elt Ideal) ((c.tc : Thread Cert.AdamSquareIdeal.nD Cert.AdamSquareIdeal.τ).loc Cert.AdamSquareIdeal.main_v0_1)) (v2 : (c : Dev Cert.AdamSquareIdeal.nD) → Buf (Elt Ideal) ((c.tc : Thread Cert.AdamSquareIdeal.nD Cert.AdamSquareIdeal.τ).loc Cert.AdamSquareIdeal.main_v0_2)),
      θ_run (Cert.AdamSquareIdeal.defs (F := Ideal)) (onTc (τ := Cert.AdamSquareIdeal.τ) (Cert.AdamSquareIdeal.main (F := Ideal))) ⟨m, fun _ => 0, g⟩ (fun r => ∀ c : Dev Cert.AdamSquareIdeal.nD,
          r.2.mem ((c.tc : Thread Cert.AdamSquareIdeal.nD Cert.AdamSquareIdeal.τ).loc Cert.AdamSquareIdeal.main_v0_0) = v0 c
          ∧ r.2.mem ((c.tc : Thread Cert.AdamSquareIdeal.nD Cert.AdamSquareIdeal.τ).loc Cert.AdamSquareIdeal.main_v0_1) = v1 c
          ∧ r.2.mem ((c.tc : Thread Cert.AdamSquareIdeal.nD Cert.AdamSquareIdeal.τ).loc Cert.AdamSquareIdeal.main_v0_2) = v2 c
          ∧ r.2.mem ((c.tc : Thread Cert.AdamSquareIdeal.nD Cert.AdamSquareIdeal.τ).loc Cert.AdamSquareIdeal.main_arg0) = m ((c.tc : Thread Cert.AdamSquareIdeal.nD Cert.AdamSquareIdeal.τ).loc Cert.AdamSquareIdeal.main_arg0)
          ∧ r.2.mem ((c.tc : Thread Cert.AdamSquareIdeal.nD Cert.AdamSquareIdeal.τ).loc Cert.AdamSquareIdeal.main_arg1) = m ((c.tc : Thread Cert.AdamSquareIdeal.nD Cert.AdamSquareIdeal.τ).loc Cert.AdamSquareIdeal.main_arg1)
          ∧ r.2.mem ((c.tc : Thread Cert.AdamSquareIdeal.nD Cert.AdamSquareIdeal.τ).loc Cert.AdamSquareIdeal.main_arg2) = m ((c.tc : Thread Cert.AdamSquareIdeal.nD Cert.AdamSquareIdeal.τ).loc Cert.AdamSquareIdeal.main_arg2)
          ∧ r.2.mem ((c.tc : Thread Cert.AdamSquareIdeal.nD Cert.AdamSquareIdeal.τ).loc Cert.AdamSquareIdeal.main_arg3) = m ((c.tc : Thread Cert.AdamSquareIdeal.nD Cert.AdamSquareIdeal.τ).loc Cert.AdamSquareIdeal.main_arg3))
      ∧ θ_run (Cert.AdamSquareRefIdeal.defs (F := Ideal)) (onTc (τ := Cert.AdamSquareRefIdeal.τ) (Cert.AdamSquareRefIdeal.main (F := Ideal))) ⟨m', fun _ => 0, g'⟩ (fun r => ∀ c : Dev Cert.AdamSquareRefIdeal.nD,
          r.2.mem ((c.tc : Thread Cert.AdamSquareRefIdeal.nD Cert.AdamSquareRefIdeal.τ).loc Cert.AdamSquareRefIdeal.main_v23) = v0 c
          ∧ r.2.mem ((c.tc : Thread Cert.AdamSquareRefIdeal.nD Cert.AdamSquareRefIdeal.τ).loc Cert.AdamSquareRefIdeal.main_v4) = v1 c
          ∧ r.2.mem ((c.tc : Thread Cert.AdamSquareRefIdeal.nD Cert.AdamSquareRefIdeal.τ).loc Cert.AdamSquareRefIdeal.main_v10) = v2 c
          ∧ r.2.mem ((c.tc : Thread Cert.AdamSquareRefIdeal.nD Cert.AdamSquareRefIdeal.τ).loc Cert.AdamSquareRefIdeal.main_arg0) = m' ((c.tc : Thread Cert.AdamSquareRefIdeal.nD Cert.AdamSquareRefIdeal.τ).loc Cert.AdamSquareRefIdeal.main_arg0)
          ∧ r.2.mem ((c.tc : Thread Cert.AdamSquareRefIdeal.nD Cert.AdamSquareRefIdeal.τ).loc Cert.AdamSquareRefIdeal.main_arg1) = m' ((c.tc : Thread Cert.AdamSquareRefIdeal.nD Cert.AdamSquareRefIdeal.τ).loc Cert.AdamSquareRefIdeal.main_arg1)
          ∧ r.2.mem ((c.tc : Thread Cert.AdamSquareRefIdeal.nD Cert.AdamSquareRefIdeal.τ).loc Cert.AdamSquareRefIdeal.main_arg2) = m' ((c.tc : Thread Cert.AdamSquareRefIdeal.nD Cert.AdamSquareRefIdeal.τ).loc Cert.AdamSquareRefIdeal.main_arg2)
          ∧ r.2.mem ((c.tc : Thread Cert.AdamSquareRefIdeal.nD Cert.AdamSquareRefIdeal.τ).loc Cert.AdamSquareRefIdeal.main_arg3) = m' ((c.tc : Thread Cert.AdamSquareRefIdeal.nD Cert.AdamSquareRefIdeal.τ).loc Cert.AdamSquareRefIdeal.main_arg3))

def preserves_AdamMeta_AdamMetaIdeal : Prop :=
  True

def algebraic_AdamMetaIdeal_AdamMetaRefIdeal [hAdamMetaIdeal : Cert.AdamMetaIdeal.Facts] [hAdamMetaRefIdeal : Cert.AdamMetaRefIdeal.Facts] : Prop :=
  ∀ (m : (ℓ : Loc Cert.AdamMetaIdeal.nD Cert.AdamMetaIdeal.τ Cert.AdamMetaIdeal.sig) → Buf (Elt Ideal) ℓ) (g : Dev Cert.AdamMetaIdeal.nD → PrngReg)
    (m' : (ℓ : Loc Cert.AdamMetaRefIdeal.nD Cert.AdamMetaRefIdeal.τ Cert.AdamMetaRefIdeal.sig) → Buf (Elt Ideal) ℓ) (g' : Dev Cert.AdamMetaRefIdeal.nD → PrngReg), Pre_AdamMetaIdeal m →
    (∀ c : Dev Cert.AdamMetaIdeal.nD,
      m' ((c.tc : Thread Cert.AdamMetaRefIdeal.nD Cert.AdamMetaRefIdeal.τ).loc Cert.AdamMetaRefIdeal.main_arg0) = m ((c.tc : Thread Cert.AdamMetaIdeal.nD Cert.AdamMetaIdeal.τ).loc Cert.AdamMetaIdeal.main_arg0)
      ∧ m' ((c.tc : Thread Cert.AdamMetaRefIdeal.nD Cert.AdamMetaRefIdeal.τ).loc Cert.AdamMetaRefIdeal.main_arg1) = m ((c.tc : Thread Cert.AdamMetaIdeal.nD Cert.AdamMetaIdeal.τ).loc Cert.AdamMetaIdeal.main_arg1)
      ∧ m' ((c.tc : Thread Cert.AdamMetaRefIdeal.nD Cert.AdamMetaRefIdeal.τ).loc Cert.AdamMetaRefIdeal.main_arg2) = m ((c.tc : Thread Cert.AdamMetaIdeal.nD Cert.AdamMetaIdeal.τ).loc Cert.AdamMetaIdeal.main_arg2)
      ∧ m' ((c.tc : Thread Cert.AdamMetaRefIdeal.nD Cert.AdamMetaRefIdeal.τ).loc Cert.AdamMetaRefIdeal.main_arg3) = m ((c.tc : Thread Cert.AdamMetaIdeal.nD Cert.AdamMetaIdeal.τ).loc Cert.AdamMetaIdeal.main_arg3)) →
    ∃ (v0 : (c : Dev Cert.AdamMetaIdeal.nD) → Buf (Elt Ideal) ((c.tc : Thread Cert.AdamMetaIdeal.nD Cert.AdamMetaIdeal.τ).loc Cert.AdamMetaIdeal.main_v0_0)) (v1 : (c : Dev Cert.AdamMetaIdeal.nD) → Buf (Elt Ideal) ((c.tc : Thread Cert.AdamMetaIdeal.nD Cert.AdamMetaIdeal.τ).loc Cert.AdamMetaIdeal.main_v0_1)) (v2 : (c : Dev Cert.AdamMetaIdeal.nD) → Buf (Elt Ideal) ((c.tc : Thread Cert.AdamMetaIdeal.nD Cert.AdamMetaIdeal.τ).loc Cert.AdamMetaIdeal.main_v0_2)),
      θ_run (Cert.AdamMetaIdeal.defs (F := Ideal)) (onTc (τ := Cert.AdamMetaIdeal.τ) (Cert.AdamMetaIdeal.main (F := Ideal))) ⟨m, fun _ => 0, g⟩ (fun r => ∀ c : Dev Cert.AdamMetaIdeal.nD,
          r.2.mem ((c.tc : Thread Cert.AdamMetaIdeal.nD Cert.AdamMetaIdeal.τ).loc Cert.AdamMetaIdeal.main_v0_0) = v0 c
          ∧ r.2.mem ((c.tc : Thread Cert.AdamMetaIdeal.nD Cert.AdamMetaIdeal.τ).loc Cert.AdamMetaIdeal.main_v0_1) = v1 c
          ∧ r.2.mem ((c.tc : Thread Cert.AdamMetaIdeal.nD Cert.AdamMetaIdeal.τ).loc Cert.AdamMetaIdeal.main_v0_2) = v2 c
          ∧ r.2.mem ((c.tc : Thread Cert.AdamMetaIdeal.nD Cert.AdamMetaIdeal.τ).loc Cert.AdamMetaIdeal.main_arg0) = m ((c.tc : Thread Cert.AdamMetaIdeal.nD Cert.AdamMetaIdeal.τ).loc Cert.AdamMetaIdeal.main_arg0)
          ∧ r.2.mem ((c.tc : Thread Cert.AdamMetaIdeal.nD Cert.AdamMetaIdeal.τ).loc Cert.AdamMetaIdeal.main_arg1) = m ((c.tc : Thread Cert.AdamMetaIdeal.nD Cert.AdamMetaIdeal.τ).loc Cert.AdamMetaIdeal.main_arg1)
          ∧ r.2.mem ((c.tc : Thread Cert.AdamMetaIdeal.nD Cert.AdamMetaIdeal.τ).loc Cert.AdamMetaIdeal.main_arg2) = m ((c.tc : Thread Cert.AdamMetaIdeal.nD Cert.AdamMetaIdeal.τ).loc Cert.AdamMetaIdeal.main_arg2)
          ∧ r.2.mem ((c.tc : Thread Cert.AdamMetaIdeal.nD Cert.AdamMetaIdeal.τ).loc Cert.AdamMetaIdeal.main_arg3) = m ((c.tc : Thread Cert.AdamMetaIdeal.nD Cert.AdamMetaIdeal.τ).loc Cert.AdamMetaIdeal.main_arg3))
      ∧ θ_run (Cert.AdamMetaRefIdeal.defs (F := Ideal)) (onTc (τ := Cert.AdamMetaRefIdeal.τ) (Cert.AdamMetaRefIdeal.main (F := Ideal))) ⟨m', fun _ => 0, g'⟩ (fun r => ∀ c : Dev Cert.AdamMetaRefIdeal.nD,
          r.2.mem ((c.tc : Thread Cert.AdamMetaRefIdeal.nD Cert.AdamMetaRefIdeal.τ).loc Cert.AdamMetaRefIdeal.main_v23) = v0 c
          ∧ r.2.mem ((c.tc : Thread Cert.AdamMetaRefIdeal.nD Cert.AdamMetaRefIdeal.τ).loc Cert.AdamMetaRefIdeal.main_v4) = v1 c
          ∧ r.2.mem ((c.tc : Thread Cert.AdamMetaRefIdeal.nD Cert.AdamMetaRefIdeal.τ).loc Cert.AdamMetaRefIdeal.main_v10) = v2 c
          ∧ r.2.mem ((c.tc : Thread Cert.AdamMetaRefIdeal.nD Cert.AdamMetaRefIdeal.τ).loc Cert.AdamMetaRefIdeal.main_arg0) = m' ((c.tc : Thread Cert.AdamMetaRefIdeal.nD Cert.AdamMetaRefIdeal.τ).loc Cert.AdamMetaRefIdeal.main_arg0)
          ∧ r.2.mem ((c.tc : Thread Cert.AdamMetaRefIdeal.nD Cert.AdamMetaRefIdeal.τ).loc Cert.AdamMetaRefIdeal.main_arg1) = m' ((c.tc : Thread Cert.AdamMetaRefIdeal.nD Cert.AdamMetaRefIdeal.τ).loc Cert.AdamMetaRefIdeal.main_arg1)
          ∧ r.2.mem ((c.tc : Thread Cert.AdamMetaRefIdeal.nD Cert.AdamMetaRefIdeal.τ).loc Cert.AdamMetaRefIdeal.main_arg2) = m' ((c.tc : Thread Cert.AdamMetaRefIdeal.nD Cert.AdamMetaRefIdeal.τ).loc Cert.AdamMetaRefIdeal.main_arg2)
          ∧ r.2.mem ((c.tc : Thread Cert.AdamMetaRefIdeal.nD Cert.AdamMetaRefIdeal.τ).loc Cert.AdamMetaRefIdeal.main_arg3) = m' ((c.tc : Thread Cert.AdamMetaRefIdeal.nD Cert.AdamMetaRefIdeal.τ).loc Cert.AdamMetaRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_LossGrad_LossGradIdeal : Prop :=
  True

def algebraic_LossGradIdeal_LossGradRefIdeal [hLossGradIdeal : Cert.LossGradIdeal.Facts] [hLossGradRefIdeal : Cert.LossGradRefIdeal.Facts] : Prop :=
  ∀ (m : (ℓ : Loc Cert.LossGradIdeal.nD Cert.LossGradIdeal.τ Cert.LossGradIdeal.sig) → Buf (Elt Ideal) ℓ) (g : Dev Cert.LossGradIdeal.nD → PrngReg)
    (m' : (ℓ : Loc Cert.LossGradRefIdeal.nD Cert.LossGradRefIdeal.τ Cert.LossGradRefIdeal.sig) → Buf (Elt Ideal) ℓ) (g' : Dev Cert.LossGradRefIdeal.nD → PrngReg), Pre_LossGradIdeal m →
    (∀ c : Dev Cert.LossGradIdeal.nD,
      m' ((c.tc : Thread Cert.LossGradRefIdeal.nD Cert.LossGradRefIdeal.τ).loc Cert.LossGradRefIdeal.main_arg0) = m ((c.tc : Thread Cert.LossGradIdeal.nD Cert.LossGradIdeal.τ).loc Cert.LossGradIdeal.main_arg0)
      ∧ m' ((c.tc : Thread Cert.LossGradRefIdeal.nD Cert.LossGradRefIdeal.τ).loc Cert.LossGradRefIdeal.main_arg1) = m ((c.tc : Thread Cert.LossGradIdeal.nD Cert.LossGradIdeal.τ).loc Cert.LossGradIdeal.main_arg1)) →
    ∃ (v0 : (c : Dev Cert.LossGradIdeal.nD) → Buf (Elt Ideal) ((c.tc : Thread Cert.LossGradIdeal.nD Cert.LossGradIdeal.τ).loc Cert.LossGradIdeal.main_v0_0)) (v1 : (c : Dev Cert.LossGradIdeal.nD) → Buf (Elt Ideal) ((c.tc : Thread Cert.LossGradIdeal.nD Cert.LossGradIdeal.τ).loc Cert.LossGradIdeal.main_v0_1)),
      θ_run (Cert.LossGradIdeal.defs (F := Ideal)) (onTc (τ := Cert.LossGradIdeal.τ) (Cert.LossGradIdeal.main (F := Ideal))) ⟨m, fun _ => 0, g⟩ (fun r => ∀ c : Dev Cert.LossGradIdeal.nD,
          r.2.mem ((c.tc : Thread Cert.LossGradIdeal.nD Cert.LossGradIdeal.τ).loc Cert.LossGradIdeal.main_v0_0) = v0 c
          ∧ r.2.mem ((c.tc : Thread Cert.LossGradIdeal.nD Cert.LossGradIdeal.τ).loc Cert.LossGradIdeal.main_v0_1) = v1 c
          ∧ r.2.mem ((c.tc : Thread Cert.LossGradIdeal.nD Cert.LossGradIdeal.τ).loc Cert.LossGradIdeal.main_arg0) = m ((c.tc : Thread Cert.LossGradIdeal.nD Cert.LossGradIdeal.τ).loc Cert.LossGradIdeal.main_arg0)
          ∧ r.2.mem ((c.tc : Thread Cert.LossGradIdeal.nD Cert.LossGradIdeal.τ).loc Cert.LossGradIdeal.main_arg1) = m ((c.tc : Thread Cert.LossGradIdeal.nD Cert.LossGradIdeal.τ).loc Cert.LossGradIdeal.main_arg1))
      ∧ θ_run (Cert.LossGradRefIdeal.defs (F := Ideal)) (onTc (τ := Cert.LossGradRefIdeal.τ) (Cert.LossGradRefIdeal.main (F := Ideal))) ⟨m', fun _ => 0, g'⟩ (fun r => ∀ c : Dev Cert.LossGradRefIdeal.nD,
          r.2.mem ((c.tc : Thread Cert.LossGradRefIdeal.nD Cert.LossGradRefIdeal.τ).loc Cert.LossGradRefIdeal.main_v7) = v0 c
          ∧ r.2.mem ((c.tc : Thread Cert.LossGradRefIdeal.nD Cert.LossGradRefIdeal.τ).loc Cert.LossGradRefIdeal.main_v10) = v1 c
          ∧ r.2.mem ((c.tc : Thread Cert.LossGradRefIdeal.nD Cert.LossGradRefIdeal.τ).loc Cert.LossGradRefIdeal.main_arg0) = m' ((c.tc : Thread Cert.LossGradRefIdeal.nD Cert.LossGradRefIdeal.τ).loc Cert.LossGradRefIdeal.main_arg0)
          ∧ r.2.mem ((c.tc : Thread Cert.LossGradRefIdeal.nD Cert.LossGradRefIdeal.τ).loc Cert.LossGradRefIdeal.main_arg1) = m' ((c.tc : Thread Cert.LossGradRefIdeal.nD Cert.LossGradRefIdeal.τ).loc Cert.LossGradRefIdeal.main_arg1))

def preserves_TnUp_TnUpIdeal : Prop :=
  True

def algebraic_TnUpIdeal_TnUpRefIdeal [hTnUpIdeal : Cert.TnUpIdeal.Facts] [hTnUpRefIdeal : Cert.TnUpRefIdeal.Facts] : Prop :=
  ∀ (m : (ℓ : Loc Cert.TnUpIdeal.nD Cert.TnUpIdeal.τ Cert.TnUpIdeal.sig) → Buf (Elt Ideal) ℓ) (g : Dev Cert.TnUpIdeal.nD → PrngReg)
    (m' : (ℓ : Loc Cert.TnUpRefIdeal.nD Cert.TnUpRefIdeal.τ Cert.TnUpRefIdeal.sig) → Buf (Elt Ideal) ℓ) (g' : Dev Cert.TnUpRefIdeal.nD → PrngReg), Pre_TnUpIdeal m →
    (∀ c : Dev Cert.TnUpIdeal.nD,
      m' ((c.tc : Thread Cert.TnUpRefIdeal.nD Cert.TnUpRefIdeal.τ).loc Cert.TnUpRefIdeal.main_arg0) = m ((c.tc : Thread Cert.TnUpIdeal.nD Cert.TnUpIdeal.τ).loc Cert.TnUpIdeal.main_arg0)
      ∧ m' ((c.tc : Thread Cert.TnUpRefIdeal.nD Cert.TnUpRefIdeal.τ).loc Cert.TnUpRefIdeal.main_arg1) = m ((c.tc : Thread Cert.TnUpIdeal.nD Cert.TnUpIdeal.τ).loc Cert.TnUpIdeal.main_arg1)) →
    ∃ (v0 : (c : Dev Cert.TnUpIdeal.nD) → Buf (Elt Ideal) ((c.tc : Thread Cert.TnUpIdeal.nD Cert.TnUpIdeal.τ).loc Cert.TnUpIdeal.main_v0)),
      θ_run (Cert.TnUpIdeal.defs (F := Ideal)) (onTc (τ := Cert.TnUpIdeal.τ) (Cert.TnUpIdeal.main (F := Ideal))) ⟨m, fun _ => 0, g⟩ (fun r => ∀ c : Dev Cert.TnUpIdeal.nD,
          r.2.mem ((c.tc : Thread Cert.TnUpIdeal.nD Cert.TnUpIdeal.τ).loc Cert.TnUpIdeal.main_v0) = v0 c
          ∧ r.2.mem ((c.tc : Thread Cert.TnUpIdeal.nD Cert.TnUpIdeal.τ).loc Cert.TnUpIdeal.main_arg0) = m ((c.tc : Thread Cert.TnUpIdeal.nD Cert.TnUpIdeal.τ).loc Cert.TnUpIdeal.main_arg0)
          ∧ r.2.mem ((c.tc : Thread Cert.TnUpIdeal.nD Cert.TnUpIdeal.τ).loc Cert.TnUpIdeal.main_arg1) = m ((c.tc : Thread Cert.TnUpIdeal.nD Cert.TnUpIdeal.τ).loc Cert.TnUpIdeal.main_arg1))
      ∧ θ_run (Cert.TnUpRefIdeal.defs (F := Ideal)) (onTc (τ := Cert.TnUpRefIdeal.τ) (Cert.TnUpRefIdeal.main (F := Ideal))) ⟨m', fun _ => 0, g'⟩ (fun r => ∀ c : Dev Cert.TnUpRefIdeal.nD,
          r.2.mem ((c.tc : Thread Cert.TnUpRefIdeal.nD Cert.TnUpRefIdeal.τ).loc Cert.TnUpRefIdeal.main_v5) = v0 c
          ∧ r.2.mem ((c.tc : Thread Cert.TnUpRefIdeal.nD Cert.TnUpRefIdeal.τ).loc Cert.TnUpRefIdeal.main_arg0) = m' ((c.tc : Thread Cert.TnUpRefIdeal.nD Cert.TnUpRefIdeal.τ).loc Cert.TnUpRefIdeal.main_arg0)
          ∧ r.2.mem ((c.tc : Thread Cert.TnUpRefIdeal.nD Cert.TnUpRefIdeal.τ).loc Cert.TnUpRefIdeal.main_arg1) = m' ((c.tc : Thread Cert.TnUpRefIdeal.nD Cert.TnUpRefIdeal.τ).loc Cert.TnUpRefIdeal.main_arg1))

def preserves_TnDown_TnDownIdeal : Prop :=
  True

def algebraic_TnDownIdeal_TnDownRefIdeal [hTnDownIdeal : Cert.TnDownIdeal.Facts] [hTnDownRefIdeal : Cert.TnDownRefIdeal.Facts] : Prop :=
  ∀ (m : (ℓ : Loc Cert.TnDownIdeal.nD Cert.TnDownIdeal.τ Cert.TnDownIdeal.sig) → Buf (Elt Ideal) ℓ) (g : Dev Cert.TnDownIdeal.nD → PrngReg)
    (m' : (ℓ : Loc Cert.TnDownRefIdeal.nD Cert.TnDownRefIdeal.τ Cert.TnDownRefIdeal.sig) → Buf (Elt Ideal) ℓ) (g' : Dev Cert.TnDownRefIdeal.nD → PrngReg), Pre_TnDownIdeal m →
    (∀ c : Dev Cert.TnDownIdeal.nD,
      m' ((c.tc : Thread Cert.TnDownRefIdeal.nD Cert.TnDownRefIdeal.τ).loc Cert.TnDownRefIdeal.main_arg0) = m ((c.tc : Thread Cert.TnDownIdeal.nD Cert.TnDownIdeal.τ).loc Cert.TnDownIdeal.main_arg0)
      ∧ m' ((c.tc : Thread Cert.TnDownRefIdeal.nD Cert.TnDownRefIdeal.τ).loc Cert.TnDownRefIdeal.main_arg1) = m ((c.tc : Thread Cert.TnDownIdeal.nD Cert.TnDownIdeal.τ).loc Cert.TnDownIdeal.main_arg1)) →
    ∃ (v0 : (c : Dev Cert.TnDownIdeal.nD) → Buf (Elt Ideal) ((c.tc : Thread Cert.TnDownIdeal.nD Cert.TnDownIdeal.τ).loc Cert.TnDownIdeal.main_v0)),
      θ_run (Cert.TnDownIdeal.defs (F := Ideal)) (onTc (τ := Cert.TnDownIdeal.τ) (Cert.TnDownIdeal.main (F := Ideal))) ⟨m, fun _ => 0, g⟩ (fun r => ∀ c : Dev Cert.TnDownIdeal.nD,
          r.2.mem ((c.tc : Thread Cert.TnDownIdeal.nD Cert.TnDownIdeal.τ).loc Cert.TnDownIdeal.main_v0) = v0 c
          ∧ r.2.mem ((c.tc : Thread Cert.TnDownIdeal.nD Cert.TnDownIdeal.τ).loc Cert.TnDownIdeal.main_arg0) = m ((c.tc : Thread Cert.TnDownIdeal.nD Cert.TnDownIdeal.τ).loc Cert.TnDownIdeal.main_arg0)
          ∧ r.2.mem ((c.tc : Thread Cert.TnDownIdeal.nD Cert.TnDownIdeal.τ).loc Cert.TnDownIdeal.main_arg1) = m ((c.tc : Thread Cert.TnDownIdeal.nD Cert.TnDownIdeal.τ).loc Cert.TnDownIdeal.main_arg1))
      ∧ θ_run (Cert.TnDownRefIdeal.defs (F := Ideal)) (onTc (τ := Cert.TnDownRefIdeal.τ) (Cert.TnDownRefIdeal.main (F := Ideal))) ⟨m', fun _ => 0, g'⟩ (fun r => ∀ c : Dev Cert.TnDownRefIdeal.nD,
          r.2.mem ((c.tc : Thread Cert.TnDownRefIdeal.nD Cert.TnDownRefIdeal.τ).loc Cert.TnDownRefIdeal.main_v5) = v0 c
          ∧ r.2.mem ((c.tc : Thread Cert.TnDownRefIdeal.nD Cert.TnDownRefIdeal.τ).loc Cert.TnDownRefIdeal.main_arg0) = m' ((c.tc : Thread Cert.TnDownRefIdeal.nD Cert.TnDownRefIdeal.τ).loc Cert.TnDownRefIdeal.main_arg0)
          ∧ r.2.mem ((c.tc : Thread Cert.TnDownRefIdeal.nD Cert.TnDownRefIdeal.τ).loc Cert.TnDownRefIdeal.main_arg1) = m' ((c.tc : Thread Cert.TnDownRefIdeal.nD Cert.TnDownRefIdeal.τ).loc Cert.TnDownRefIdeal.main_arg1))

def preserves_TnSquare_TnSquareIdeal : Prop :=
  True

def algebraic_TnSquareIdeal_TnSquareRefIdeal [hTnSquareIdeal : Cert.TnSquareIdeal.Facts] [hTnSquareRefIdeal : Cert.TnSquareRefIdeal.Facts] : Prop :=
  ∀ (m : (ℓ : Loc Cert.TnSquareIdeal.nD Cert.TnSquareIdeal.τ Cert.TnSquareIdeal.sig) → Buf (Elt Ideal) ℓ) (g : Dev Cert.TnSquareIdeal.nD → PrngReg)
    (m' : (ℓ : Loc Cert.TnSquareRefIdeal.nD Cert.TnSquareRefIdeal.τ Cert.TnSquareRefIdeal.sig) → Buf (Elt Ideal) ℓ) (g' : Dev Cert.TnSquareRefIdeal.nD → PrngReg), Pre_TnSquareIdeal m →
    (∀ c : Dev Cert.TnSquareIdeal.nD,
      m' ((c.tc : Thread Cert.TnSquareRefIdeal.nD Cert.TnSquareRefIdeal.τ).loc Cert.TnSquareRefIdeal.main_arg0) = m ((c.tc : Thread Cert.TnSquareIdeal.nD Cert.TnSquareIdeal.τ).loc Cert.TnSquareIdeal.main_arg0)
      ∧ m' ((c.tc : Thread Cert.TnSquareRefIdeal.nD Cert.TnSquareRefIdeal.τ).loc Cert.TnSquareRefIdeal.main_arg1) = m ((c.tc : Thread Cert.TnSquareIdeal.nD Cert.TnSquareIdeal.τ).loc Cert.TnSquareIdeal.main_arg1)) →
    ∃ (v0 : (c : Dev Cert.TnSquareIdeal.nD) → Buf (Elt Ideal) ((c.tc : Thread Cert.TnSquareIdeal.nD Cert.TnSquareIdeal.τ).loc Cert.TnSquareIdeal.main_v0)),
      θ_run (Cert.TnSquareIdeal.defs (F := Ideal)) (onTc (τ := Cert.TnSquareIdeal.τ) (Cert.TnSquareIdeal.main (F := Ideal))) ⟨m, fun _ => 0, g⟩ (fun r => ∀ c : Dev Cert.TnSquareIdeal.nD,
          r.2.mem ((c.tc : Thread Cert.TnSquareIdeal.nD Cert.TnSquareIdeal.τ).loc Cert.TnSquareIdeal.main_v0) = v0 c
          ∧ r.2.mem ((c.tc : Thread Cert.TnSquareIdeal.nD Cert.TnSquareIdeal.τ).loc Cert.TnSquareIdeal.main_arg0) = m ((c.tc : Thread Cert.TnSquareIdeal.nD Cert.TnSquareIdeal.τ).loc Cert.TnSquareIdeal.main_arg0)
          ∧ r.2.mem ((c.tc : Thread Cert.TnSquareIdeal.nD Cert.TnSquareIdeal.τ).loc Cert.TnSquareIdeal.main_arg1) = m ((c.tc : Thread Cert.TnSquareIdeal.nD Cert.TnSquareIdeal.τ).loc Cert.TnSquareIdeal.main_arg1))
      ∧ θ_run (Cert.TnSquareRefIdeal.defs (F := Ideal)) (onTc (τ := Cert.TnSquareRefIdeal.τ) (Cert.TnSquareRefIdeal.main (F := Ideal))) ⟨m', fun _ => 0, g'⟩ (fun r => ∀ c : Dev Cert.TnSquareRefIdeal.nD,
          r.2.mem ((c.tc : Thread Cert.TnSquareRefIdeal.nD Cert.TnSquareRefIdeal.τ).loc Cert.TnSquareRefIdeal.main_v5) = v0 c
          ∧ r.2.mem ((c.tc : Thread Cert.TnSquareRefIdeal.nD Cert.TnSquareRefIdeal.τ).loc Cert.TnSquareRefIdeal.main_arg0) = m' ((c.tc : Thread Cert.TnSquareRefIdeal.nD Cert.TnSquareRefIdeal.τ).loc Cert.TnSquareRefIdeal.main_arg0)
          ∧ r.2.mem ((c.tc : Thread Cert.TnSquareRefIdeal.nD Cert.TnSquareRefIdeal.τ).loc Cert.TnSquareRefIdeal.main_arg1) = m' ((c.tc : Thread Cert.TnSquareRefIdeal.nD Cert.TnSquareRefIdeal.τ).loc Cert.TnSquareRefIdeal.main_arg1))

def preserves_FfnFwd_FfnFwdIdeal : Prop :=
  True

def algebraic_FfnFwdIdeal_FfnFwdRefIdeal [hFfnFwdIdeal : Cert.FfnFwdIdeal.Facts] [hFfnFwdRefIdeal : Cert.FfnFwdRefIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)
      ∧ m' ((c.tc : Thread Cert.FfnFwdRefIdeal.nD Cert.FfnFwdRefIdeal.τ).loc Cert.FfnFwdRefIdeal.main_arg3) = m ((c.tc : Thread Cert.FfnFwdIdeal.nD Cert.FfnFwdIdeal.τ).loc Cert.FfnFwdIdeal.main_arg3)
      ∧ m' ((c.tc : Thread Cert.FfnFwdRefIdeal.nD Cert.FfnFwdRefIdeal.τ).loc Cert.FfnFwdRefIdeal.main_arg4) = m ((c.tc : Thread Cert.FfnFwdIdeal.nD Cert.FfnFwdIdeal.τ).loc Cert.FfnFwdIdeal.main_arg4)
      ∧ m' ((c.tc : Thread Cert.FfnFwdRefIdeal.nD Cert.FfnFwdRefIdeal.τ).loc Cert.FfnFwdRefIdeal.main_arg5) = m ((c.tc : Thread Cert.FfnFwdIdeal.nD Cert.FfnFwdIdeal.τ).loc Cert.FfnFwdIdeal.main_arg5)) →
    ∃ (v0 : (c : Dev Cert.FfnFwdIdeal.nD) → Buf (Elt Ideal) ((c.tc : Thread Cert.FfnFwdIdeal.nD Cert.FfnFwdIdeal.τ).loc Cert.FfnFwdIdeal.main_v0_0)) (v1 : (c : Dev Cert.FfnFwdIdeal.nD) → Buf (Elt Ideal) ((c.tc : Thread Cert.FfnFwdIdeal.nD Cert.FfnFwdIdeal.τ).loc Cert.FfnFwdIdeal.main_v0_1)) (v2 : (c : Dev Cert.FfnFwdIdeal.nD) → Buf (Elt Ideal) ((c.tc : Thread Cert.FfnFwdIdeal.nD Cert.FfnFwdIdeal.τ).loc Cert.FfnFwdIdeal.main_v0_2)) (v3 : (c : Dev Cert.FfnFwdIdeal.nD) → Buf (Elt Ideal) ((c.tc : Thread Cert.FfnFwdIdeal.nD Cert.FfnFwdIdeal.τ).loc Cert.FfnFwdIdeal.main_v0_3)) (v4 : (c : Dev Cert.FfnFwdIdeal.nD) → Buf (Elt Ideal) ((c.tc : Thread Cert.FfnFwdIdeal.nD Cert.FfnFwdIdeal.τ).loc Cert.FfnFwdIdeal.main_v0_4)) (v5 : (c : Dev Cert.FfnFwdIdeal.nD) → Buf (Elt Ideal) ((c.tc : Thread Cert.FfnFwdIdeal.nD Cert.FfnFwdIdeal.τ).loc Cert.FfnFwdIdeal.main_v0_5)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v0_0) = v0 c
          ∧ r.2.mem ((c.tc : Thread Cert.FfnFwdIdeal.nD Cert.FfnFwdIdeal.τ).loc Cert.FfnFwdIdeal.main_v0_1) = v1 c
          ∧ r.2.mem ((c.tc : Thread Cert.FfnFwdIdeal.nD Cert.FfnFwdIdeal.τ).loc Cert.FfnFwdIdeal.main_v0_2) = v2 c
          ∧ r.2.mem ((c.tc : Thread Cert.FfnFwdIdeal.nD Cert.FfnFwdIdeal.τ).loc Cert.FfnFwdIdeal.main_v0_3) = v3 c
          ∧ r.2.mem ((c.tc : Thread Cert.FfnFwdIdeal.nD Cert.FfnFwdIdeal.τ).loc Cert.FfnFwdIdeal.main_v0_4) = v4 c
          ∧ r.2.mem ((c.tc : Thread Cert.FfnFwdIdeal.nD Cert.FfnFwdIdeal.τ).loc Cert.FfnFwdIdeal.main_v0_5) = v5 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
          ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4)
          ∧ r.2.mem ((c.tc : Thread Cert.FfnFwdIdeal.nD Cert.FfnFwdIdeal.τ).loc Cert.FfnFwdIdeal.main_arg5) = m ((c.tc : Thread Cert.FfnFwdIdeal.nD Cert.FfnFwdIdeal.τ).loc Cert.FfnFwdIdeal.main_arg5))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v39) = v0 c
          ∧ r.2.mem ((c.tc : Thread Cert.FfnFwdRefIdeal.nD Cert.FfnFwdRefIdeal.τ).loc Cert.FfnFwdRefIdeal.main_v24) = v1 c
          ∧ r.2.mem ((c.tc : Thread Cert.FfnFwdRefIdeal.nD Cert.FfnFwdRefIdeal.τ).loc Cert.FfnFwdRefIdeal.main_v40) = v2 c
          ∧ r.2.mem ((c.tc : Thread Cert.FfnFwdRefIdeal.nD Cert.FfnFwdRefIdeal.τ).loc Cert.FfnFwdRefIdeal.main_v41) = v3 c
          ∧ r.2.mem ((c.tc : Thread Cert.FfnFwdRefIdeal.nD Cert.FfnFwdRefIdeal.τ).loc Cert.FfnFwdRefIdeal.main_v42) = v4 c
          ∧ r.2.mem ((c.tc : Thread Cert.FfnFwdRefIdeal.nD Cert.FfnFwdRefIdeal.τ).loc Cert.FfnFwdRefIdeal.main_v43) = v5 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2)
          ∧ r.2.mem ((c.tc : Thread Cert.FfnFwdRefIdeal.nD Cert.FfnFwdRefIdeal.τ).loc Cert.FfnFwdRefIdeal.main_arg3) = m' ((c.tc : Thread Cert.FfnFwdRefIdeal.nD Cert.FfnFwdRefIdeal.τ).loc Cert.FfnFwdRefIdeal.main_arg3)
          ∧ r.2.mem ((c.tc : Thread Cert.FfnFwdRefIdeal.nD Cert.FfnFwdRefIdeal.τ).loc Cert.FfnFwdRefIdeal.main_arg4) = m' ((c.tc : Thread Cert.FfnFwdRefIdeal.nD Cert.FfnFwdRefIdeal.τ).loc Cert.FfnFwdRefIdeal.main_arg4)
          ∧ r.2.mem ((c.tc : Thread Cert.FfnFwdRefIdeal.nD Cert.FfnFwdRefIdeal.τ).loc Cert.FfnFwdRefIdeal.main_arg5) = m' ((c.tc : Thread Cert.FfnFwdRefIdeal.nD Cert.FfnFwdRefIdeal.τ).loc Cert.FfnFwdRefIdeal.main_arg5))

def preserves_BwdDown_BwdDownIdeal : Prop :=
  True

def algebraic_BwdDownIdeal_BwdDownRefIdeal [hBwdDownIdeal : Cert.BwdDownIdeal.Facts] [hBwdDownRefIdeal : Cert.BwdDownRefIdeal.Facts] : Prop :=
  ∀ (m : (ℓ : Loc Cert.BwdDownIdeal.nD Cert.BwdDownIdeal.τ Cert.BwdDownIdeal.sig) → Buf (Elt Ideal) ℓ) (g : Dev Cert.BwdDownIdeal.nD → PrngReg)
    (m' : (ℓ : Loc Cert.BwdDownRefIdeal.nD Cert.BwdDownRefIdeal.τ Cert.BwdDownRefIdeal.sig) → Buf (Elt Ideal) ℓ) (g' : Dev Cert.BwdDownRefIdeal.nD → PrngReg), Pre_BwdDownIdeal m →
    (∀ c : Dev Cert.BwdDownIdeal.nD,
      m' ((c.tc : Thread Cert.BwdDownRefIdeal.nD Cert.BwdDownRefIdeal.τ).loc Cert.BwdDownRefIdeal.main_arg0) = m ((c.tc : Thread Cert.BwdDownIdeal.nD Cert.BwdDownIdeal.τ).loc Cert.BwdDownIdeal.main_arg0)
      ∧ m' ((c.tc : Thread Cert.BwdDownRefIdeal.nD Cert.BwdDownRefIdeal.τ).loc Cert.BwdDownRefIdeal.main_arg1) = m ((c.tc : Thread Cert.BwdDownIdeal.nD Cert.BwdDownIdeal.τ).loc Cert.BwdDownIdeal.main_arg1)
      ∧ m' ((c.tc : Thread Cert.BwdDownRefIdeal.nD Cert.BwdDownRefIdeal.τ).loc Cert.BwdDownRefIdeal.main_arg2) = m ((c.tc : Thread Cert.BwdDownIdeal.nD Cert.BwdDownIdeal.τ).loc Cert.BwdDownIdeal.main_arg2)
      ∧ m' ((c.tc : Thread Cert.BwdDownRefIdeal.nD Cert.BwdDownRefIdeal.τ).loc Cert.BwdDownRefIdeal.main_arg3) = m ((c.tc : Thread Cert.BwdDownIdeal.nD Cert.BwdDownIdeal.τ).loc Cert.BwdDownIdeal.main_arg3)
      ∧ m' ((c.tc : Thread Cert.BwdDownRefIdeal.nD Cert.BwdDownRefIdeal.τ).loc Cert.BwdDownRefIdeal.main_arg4) = m ((c.tc : Thread Cert.BwdDownIdeal.nD Cert.BwdDownIdeal.τ).loc Cert.BwdDownIdeal.main_arg4)
      ∧ m' ((c.tc : Thread Cert.BwdDownRefIdeal.nD Cert.BwdDownRefIdeal.τ).loc Cert.BwdDownRefIdeal.main_arg5) = m ((c.tc : Thread Cert.BwdDownIdeal.nD Cert.BwdDownIdeal.τ).loc Cert.BwdDownIdeal.main_arg5)) →
    ∃ (v0 : (c : Dev Cert.BwdDownIdeal.nD) → Buf (Elt Ideal) ((c.tc : Thread Cert.BwdDownIdeal.nD Cert.BwdDownIdeal.τ).loc Cert.BwdDownIdeal.main_v0_0)) (v1 : (c : Dev Cert.BwdDownIdeal.nD) → Buf (Elt Ideal) ((c.tc : Thread Cert.BwdDownIdeal.nD Cert.BwdDownIdeal.τ).loc Cert.BwdDownIdeal.main_v0_1)) (v2 : (c : Dev Cert.BwdDownIdeal.nD) → Buf (Elt Ideal) ((c.tc : Thread Cert.BwdDownIdeal.nD Cert.BwdDownIdeal.τ).loc Cert.BwdDownIdeal.main_v0_2)) (v3 : (c : Dev Cert.BwdDownIdeal.nD) → Buf (Elt Ideal) ((c.tc : Thread Cert.BwdDownIdeal.nD Cert.BwdDownIdeal.τ).loc Cert.BwdDownIdeal.main_v0_3)),
      θ_run (Cert.BwdDownIdeal.defs (F := Ideal)) (onTc (τ := Cert.BwdDownIdeal.τ) (Cert.BwdDownIdeal.main (F := Ideal))) ⟨m, fun _ => 0, g⟩ (fun r => ∀ c : Dev Cert.BwdDownIdeal.nD,
          r.2.mem ((c.tc : Thread Cert.BwdDownIdeal.nD Cert.BwdDownIdeal.τ).loc Cert.BwdDownIdeal.main_v0_0) = v0 c
          ∧ r.2.mem ((c.tc : Thread Cert.BwdDownIdeal.nD Cert.BwdDownIdeal.τ).loc Cert.BwdDownIdeal.main_v0_1) = v1 c
          ∧ r.2.mem ((c.tc : Thread Cert.BwdDownIdeal.nD Cert.BwdDownIdeal.τ).loc Cert.BwdDownIdeal.main_v0_2) = v2 c
          ∧ r.2.mem ((c.tc : Thread Cert.BwdDownIdeal.nD Cert.BwdDownIdeal.τ).loc Cert.BwdDownIdeal.main_v0_3) = v3 c
          ∧ r.2.mem ((c.tc : Thread Cert.BwdDownIdeal.nD Cert.BwdDownIdeal.τ).loc Cert.BwdDownIdeal.main_arg0) = m ((c.tc : Thread Cert.BwdDownIdeal.nD Cert.BwdDownIdeal.τ).loc Cert.BwdDownIdeal.main_arg0)
          ∧ r.2.mem ((c.tc : Thread Cert.BwdDownIdeal.nD Cert.BwdDownIdeal.τ).loc Cert.BwdDownIdeal.main_arg1) = m ((c.tc : Thread Cert.BwdDownIdeal.nD Cert.BwdDownIdeal.τ).loc Cert.BwdDownIdeal.main_arg1)
          ∧ r.2.mem ((c.tc : Thread Cert.BwdDownIdeal.nD Cert.BwdDownIdeal.τ).loc Cert.BwdDownIdeal.main_arg2) = m ((c.tc : Thread Cert.BwdDownIdeal.nD Cert.BwdDownIdeal.τ).loc Cert.BwdDownIdeal.main_arg2)
          ∧ r.2.mem ((c.tc : Thread Cert.BwdDownIdeal.nD Cert.BwdDownIdeal.τ).loc Cert.BwdDownIdeal.main_arg3) = m ((c.tc : Thread Cert.BwdDownIdeal.nD Cert.BwdDownIdeal.τ).loc Cert.BwdDownIdeal.main_arg3)
          ∧ r.2.mem ((c.tc : Thread Cert.BwdDownIdeal.nD Cert.BwdDownIdeal.τ).loc Cert.BwdDownIdeal.main_arg4) = m ((c.tc : Thread Cert.BwdDownIdeal.nD Cert.BwdDownIdeal.τ).loc Cert.BwdDownIdeal.main_arg4)
          ∧ r.2.mem ((c.tc : Thread Cert.BwdDownIdeal.nD Cert.BwdDownIdeal.τ).loc Cert.BwdDownIdeal.main_arg5) = m ((c.tc : Thread Cert.BwdDownIdeal.nD Cert.BwdDownIdeal.τ).loc Cert.BwdDownIdeal.main_arg5))
      ∧ θ_run (Cert.BwdDownRefIdeal.defs (F := Ideal)) (onTc (τ := Cert.BwdDownRefIdeal.τ) (Cert.BwdDownRefIdeal.main (F := Ideal))) ⟨m', fun _ => 0, g'⟩ (fun r => ∀ c : Dev Cert.BwdDownRefIdeal.nD,
          r.2.mem ((c.tc : Thread Cert.BwdDownRefIdeal.nD Cert.BwdDownRefIdeal.τ).loc Cert.BwdDownRefIdeal.main_v55) = v0 c
          ∧ r.2.mem ((c.tc : Thread Cert.BwdDownRefIdeal.nD Cert.BwdDownRefIdeal.τ).loc Cert.BwdDownRefIdeal.main_v56) = v1 c
          ∧ r.2.mem ((c.tc : Thread Cert.BwdDownRefIdeal.nD Cert.BwdDownRefIdeal.τ).loc Cert.BwdDownRefIdeal.main_v57) = v2 c
          ∧ r.2.mem ((c.tc : Thread Cert.BwdDownRefIdeal.nD Cert.BwdDownRefIdeal.τ).loc Cert.BwdDownRefIdeal.main_v14) = v3 c
          ∧ r.2.mem ((c.tc : Thread Cert.BwdDownRefIdeal.nD Cert.BwdDownRefIdeal.τ).loc Cert.BwdDownRefIdeal.main_arg0) = m' ((c.tc : Thread Cert.BwdDownRefIdeal.nD Cert.BwdDownRefIdeal.τ).loc Cert.BwdDownRefIdeal.main_arg0)
          ∧ r.2.mem ((c.tc : Thread Cert.BwdDownRefIdeal.nD Cert.BwdDownRefIdeal.τ).loc Cert.BwdDownRefIdeal.main_arg1) = m' ((c.tc : Thread Cert.BwdDownRefIdeal.nD Cert.BwdDownRefIdeal.τ).loc Cert.BwdDownRefIdeal.main_arg1)
          ∧ r.2.mem ((c.tc : Thread Cert.BwdDownRefIdeal.nD Cert.BwdDownRefIdeal.τ).loc Cert.BwdDownRefIdeal.main_arg2) = m' ((c.tc : Thread Cert.BwdDownRefIdeal.nD Cert.BwdDownRefIdeal.τ).loc Cert.BwdDownRefIdeal.main_arg2)
          ∧ r.2.mem ((c.tc : Thread Cert.BwdDownRefIdeal.nD Cert.BwdDownRefIdeal.τ).loc Cert.BwdDownRefIdeal.main_arg3) = m' ((c.tc : Thread Cert.BwdDownRefIdeal.nD Cert.BwdDownRefIdeal.τ).loc Cert.BwdDownRefIdeal.main_arg3)
          ∧ r.2.mem ((c.tc : Thread Cert.BwdDownRefIdeal.nD Cert.BwdDownRefIdeal.τ).loc Cert.BwdDownRefIdeal.main_arg4) = m' ((c.tc : Thread Cert.BwdDownRefIdeal.nD Cert.BwdDownRefIdeal.τ).loc Cert.BwdDownRefIdeal.main_arg4)
          ∧ r.2.mem ((c.tc : Thread Cert.BwdDownRefIdeal.nD Cert.BwdDownRefIdeal.τ).loc Cert.BwdDownRefIdeal.main_arg5) = m' ((c.tc : Thread Cert.BwdDownRefIdeal.nD Cert.BwdDownRefIdeal.τ).loc Cert.BwdDownRefIdeal.main_arg5))

def preserves_BwdUp_BwdUpIdeal : Prop :=
  True

def algebraic_BwdUpIdeal_BwdUpRefIdeal [hBwdUpIdeal : Cert.BwdUpIdeal.Facts] [hBwdUpRefIdeal : Cert.BwdUpRefIdeal.Facts] : Prop :=
  ∀ (m : (ℓ : Loc Cert.BwdUpIdeal.nD Cert.BwdUpIdeal.τ Cert.BwdUpIdeal.sig) → Buf (Elt Ideal) ℓ) (g : Dev Cert.BwdUpIdeal.nD → PrngReg)
    (m' : (ℓ : Loc Cert.BwdUpRefIdeal.nD Cert.BwdUpRefIdeal.τ Cert.BwdUpRefIdeal.sig) → Buf (Elt Ideal) ℓ) (g' : Dev Cert.BwdUpRefIdeal.nD → PrngReg), Pre_BwdUpIdeal m →
    (∀ c : Dev Cert.BwdUpIdeal.nD,
      m' ((c.tc : Thread Cert.BwdUpRefIdeal.nD Cert.BwdUpRefIdeal.τ).loc Cert.BwdUpRefIdeal.main_arg0) = m ((c.tc : Thread Cert.BwdUpIdeal.nD Cert.BwdUpIdeal.τ).loc Cert.BwdUpIdeal.main_arg0)
      ∧ m' ((c.tc : Thread Cert.BwdUpRefIdeal.nD Cert.BwdUpRefIdeal.τ).loc Cert.BwdUpRefIdeal.main_arg1) = m ((c.tc : Thread Cert.BwdUpIdeal.nD Cert.BwdUpIdeal.τ).loc Cert.BwdUpIdeal.main_arg1)
      ∧ m' ((c.tc : Thread Cert.BwdUpRefIdeal.nD Cert.BwdUpRefIdeal.τ).loc Cert.BwdUpRefIdeal.main_arg2) = m ((c.tc : Thread Cert.BwdUpIdeal.nD Cert.BwdUpIdeal.τ).loc Cert.BwdUpIdeal.main_arg2)
      ∧ m' ((c.tc : Thread Cert.BwdUpRefIdeal.nD Cert.BwdUpRefIdeal.τ).loc Cert.BwdUpRefIdeal.main_arg3) = m ((c.tc : Thread Cert.BwdUpIdeal.nD Cert.BwdUpIdeal.τ).loc Cert.BwdUpIdeal.main_arg3)
      ∧ m' ((c.tc : Thread Cert.BwdUpRefIdeal.nD Cert.BwdUpRefIdeal.τ).loc Cert.BwdUpRefIdeal.main_arg4) = m ((c.tc : Thread Cert.BwdUpIdeal.nD Cert.BwdUpIdeal.τ).loc Cert.BwdUpIdeal.main_arg4)
      ∧ m' ((c.tc : Thread Cert.BwdUpRefIdeal.nD Cert.BwdUpRefIdeal.τ).loc Cert.BwdUpRefIdeal.main_arg5) = m ((c.tc : Thread Cert.BwdUpIdeal.nD Cert.BwdUpIdeal.τ).loc Cert.BwdUpIdeal.main_arg5)
      ∧ m' ((c.tc : Thread Cert.BwdUpRefIdeal.nD Cert.BwdUpRefIdeal.τ).loc Cert.BwdUpRefIdeal.main_arg6) = m ((c.tc : Thread Cert.BwdUpIdeal.nD Cert.BwdUpIdeal.τ).loc Cert.BwdUpIdeal.main_arg6)) →
    ∃ (v0 : (c : Dev Cert.BwdUpIdeal.nD) → Buf (Elt Ideal) ((c.tc : Thread Cert.BwdUpIdeal.nD Cert.BwdUpIdeal.τ).loc Cert.BwdUpIdeal.main_v0_0)) (v1 : (c : Dev Cert.BwdUpIdeal.nD) → Buf (Elt Ideal) ((c.tc : Thread Cert.BwdUpIdeal.nD Cert.BwdUpIdeal.τ).loc Cert.BwdUpIdeal.main_v0_1)),
      θ_run (Cert.BwdUpIdeal.defs (F := Ideal)) (onTc (τ := Cert.BwdUpIdeal.τ) (Cert.BwdUpIdeal.main (F := Ideal))) ⟨m, fun _ => 0, g⟩ (fun r => ∀ c : Dev Cert.BwdUpIdeal.nD,
          r.2.mem ((c.tc : Thread Cert.BwdUpIdeal.nD Cert.BwdUpIdeal.τ).loc Cert.BwdUpIdeal.main_v0_0) = v0 c
          ∧ r.2.mem ((c.tc : Thread Cert.BwdUpIdeal.nD Cert.BwdUpIdeal.τ).loc Cert.BwdUpIdeal.main_v0_1) = v1 c
          ∧ r.2.mem ((c.tc : Thread Cert.BwdUpIdeal.nD Cert.BwdUpIdeal.τ).loc Cert.BwdUpIdeal.main_arg0) = m ((c.tc : Thread Cert.BwdUpIdeal.nD Cert.BwdUpIdeal.τ).loc Cert.BwdUpIdeal.main_arg0)
          ∧ r.2.mem ((c.tc : Thread Cert.BwdUpIdeal.nD Cert.BwdUpIdeal.τ).loc Cert.BwdUpIdeal.main_arg1) = m ((c.tc : Thread Cert.BwdUpIdeal.nD Cert.BwdUpIdeal.τ).loc Cert.BwdUpIdeal.main_arg1)
          ∧ r.2.mem ((c.tc : Thread Cert.BwdUpIdeal.nD Cert.BwdUpIdeal.τ).loc Cert.BwdUpIdeal.main_arg2) = m ((c.tc : Thread Cert.BwdUpIdeal.nD Cert.BwdUpIdeal.τ).loc Cert.BwdUpIdeal.main_arg2)
          ∧ r.2.mem ((c.tc : Thread Cert.BwdUpIdeal.nD Cert.BwdUpIdeal.τ).loc Cert.BwdUpIdeal.main_arg3) = m ((c.tc : Thread Cert.BwdUpIdeal.nD Cert.BwdUpIdeal.τ).loc Cert.BwdUpIdeal.main_arg3)
          ∧ r.2.mem ((c.tc : Thread Cert.BwdUpIdeal.nD Cert.BwdUpIdeal.τ).loc Cert.BwdUpIdeal.main_arg4) = m ((c.tc : Thread Cert.BwdUpIdeal.nD Cert.BwdUpIdeal.τ).loc Cert.BwdUpIdeal.main_arg4)
          ∧ r.2.mem ((c.tc : Thread Cert.BwdUpIdeal.nD Cert.BwdUpIdeal.τ).loc Cert.BwdUpIdeal.main_arg5) = m ((c.tc : Thread Cert.BwdUpIdeal.nD Cert.BwdUpIdeal.τ).loc Cert.BwdUpIdeal.main_arg5)
          ∧ r.2.mem ((c.tc : Thread Cert.BwdUpIdeal.nD Cert.BwdUpIdeal.τ).loc Cert.BwdUpIdeal.main_arg6) = m ((c.tc : Thread Cert.BwdUpIdeal.nD Cert.BwdUpIdeal.τ).loc Cert.BwdUpIdeal.main_arg6))
      ∧ θ_run (Cert.BwdUpRefIdeal.defs (F := Ideal)) (onTc (τ := Cert.BwdUpRefIdeal.τ) (Cert.BwdUpRefIdeal.main (F := Ideal))) ⟨m', fun _ => 0, g'⟩ (fun r => ∀ c : Dev Cert.BwdUpRefIdeal.nD,
          r.2.mem ((c.tc : Thread Cert.BwdUpRefIdeal.nD Cert.BwdUpRefIdeal.τ).loc Cert.BwdUpRefIdeal.main_v44) = v0 c
          ∧ r.2.mem ((c.tc : Thread Cert.BwdUpRefIdeal.nD Cert.BwdUpRefIdeal.τ).loc Cert.BwdUpRefIdeal.main_v25) = v1 c
          ∧ r.2.mem ((c.tc : Thread Cert.BwdUpRefIdeal.nD Cert.BwdUpRefIdeal.τ).loc Cert.BwdUpRefIdeal.main_arg0) = m' ((c.tc : Thread Cert.BwdUpRefIdeal.nD Cert.BwdUpRefIdeal.τ).loc Cert.BwdUpRefIdeal.main_arg0)
          ∧ r.2.mem ((c.tc : Thread Cert.BwdUpRefIdeal.nD Cert.BwdUpRefIdeal.τ).loc Cert.BwdUpRefIdeal.main_arg1) = m' ((c.tc : Thread Cert.BwdUpRefIdeal.nD Cert.BwdUpRefIdeal.τ).loc Cert.BwdUpRefIdeal.main_arg1)
          ∧ r.2.mem ((c.tc : Thread Cert.BwdUpRefIdeal.nD Cert.BwdUpRefIdeal.τ).loc Cert.BwdUpRefIdeal.main_arg2) = m' ((c.tc : Thread Cert.BwdUpRefIdeal.nD Cert.BwdUpRefIdeal.τ).loc Cert.BwdUpRefIdeal.main_arg2)
          ∧ r.2.mem ((c.tc : Thread Cert.BwdUpRefIdeal.nD Cert.BwdUpRefIdeal.τ).loc Cert.BwdUpRefIdeal.main_arg3) = m' ((c.tc : Thread Cert.BwdUpRefIdeal.nD Cert.BwdUpRefIdeal.τ).loc Cert.BwdUpRefIdeal.main_arg3)
          ∧ r.2.mem ((c.tc : Thread Cert.BwdUpRefIdeal.nD Cert.BwdUpRefIdeal.τ).loc Cert.BwdUpRefIdeal.main_arg4) = m' ((c.tc : Thread Cert.BwdUpRefIdeal.nD Cert.BwdUpRefIdeal.τ).loc Cert.BwdUpRefIdeal.main_arg4)
          ∧ r.2.mem ((c.tc : Thread Cert.BwdUpRefIdeal.nD Cert.BwdUpRefIdeal.τ).loc Cert.BwdUpRefIdeal.main_arg5) = m' ((c.tc : Thread Cert.BwdUpRefIdeal.nD Cert.BwdUpRefIdeal.τ).loc Cert.BwdUpRefIdeal.main_arg5)
          ∧ r.2.mem ((c.tc : Thread Cert.BwdUpRefIdeal.nD Cert.BwdUpRefIdeal.τ).loc Cert.BwdUpRefIdeal.main_arg6) = m' ((c.tc : Thread Cert.BwdUpRefIdeal.nD Cert.BwdUpRefIdeal.τ).loc Cert.BwdUpRefIdeal.main_arg6))

def preserves_HalfUp_HalfUpIdeal : Prop :=
  True

def algebraic_HalfUpIdeal_HalfUpRefIdeal [hHalfUpIdeal : Cert.HalfUpIdeal.Facts] [hHalfUpRefIdeal : Cert.HalfUpRefIdeal.Facts] [hPre_core_named : Cert.Pre_core_named.Facts] : Prop :=
  ∀ (m : (ℓ : Loc Cert.HalfUpIdeal.nD Cert.HalfUpIdeal.τ Cert.HalfUpIdeal.sig) → Buf (Elt Ideal) ℓ) (g : Dev Cert.HalfUpIdeal.nD → PrngReg)
    (m' : (ℓ : Loc Cert.HalfUpRefIdeal.nD Cert.HalfUpRefIdeal.τ Cert.HalfUpRefIdeal.sig) → Buf (Elt Ideal) ℓ) (g' : Dev Cert.HalfUpRefIdeal.nD → PrngReg), Pre_HalfUpIdeal m →
    (∀ c : Dev Cert.HalfUpIdeal.nD,
      m' ((c.tc : Thread Cert.HalfUpRefIdeal.nD Cert.HalfUpRefIdeal.τ).loc Cert.HalfUpRefIdeal.main_arg0) = m ((c.tc : Thread Cert.HalfUpIdeal.nD Cert.HalfUpIdeal.τ).loc Cert.HalfUpIdeal.main_arg0)
      ∧ m' ((c.tc : Thread Cert.HalfUpRefIdeal.nD Cert.HalfUpRefIdeal.τ).loc Cert.HalfUpRefIdeal.main_arg1) = m ((c.tc : Thread Cert.HalfUpIdeal.nD Cert.HalfUpIdeal.τ).loc Cert.HalfUpIdeal.main_arg1)
      ∧ m' ((c.tc : Thread Cert.HalfUpRefIdeal.nD Cert.HalfUpRefIdeal.τ).loc Cert.HalfUpRefIdeal.main_arg2) = m ((c.tc : Thread Cert.HalfUpIdeal.nD Cert.HalfUpIdeal.τ).loc Cert.HalfUpIdeal.main_arg2)) →
    ∃ (v0 : (c : Dev Cert.HalfUpIdeal.nD) → Buf (Elt Ideal) ((c.tc : Thread Cert.HalfUpIdeal.nD Cert.HalfUpIdeal.τ).loc Cert.HalfUpIdeal.main_v0)),
      θ_run (Cert.HalfUpIdeal.defs (F := Ideal)) (onTc (τ := Cert.HalfUpIdeal.τ) (Cert.HalfUpIdeal.main (F := Ideal))) ⟨m, fun _ => 0, g⟩ (fun r => ∀ c : Dev Cert.HalfUpIdeal.nD,
          r.2.mem ((c.tc : Thread Cert.HalfUpIdeal.nD Cert.HalfUpIdeal.τ).loc Cert.HalfUpIdeal.main_v0) = v0 c
          ∧ r.2.mem ((c.tc : Thread Cert.HalfUpIdeal.nD Cert.HalfUpIdeal.τ).loc Cert.HalfUpIdeal.main_arg0) = m ((c.tc : Thread Cert.HalfUpIdeal.nD Cert.HalfUpIdeal.τ).loc Cert.HalfUpIdeal.main_arg0)
          ∧ r.2.mem ((c.tc : Thread Cert.HalfUpIdeal.nD Cert.HalfUpIdeal.τ).loc Cert.HalfUpIdeal.main_arg1) = m ((c.tc : Thread Cert.HalfUpIdeal.nD Cert.HalfUpIdeal.τ).loc Cert.HalfUpIdeal.main_arg1)
          ∧ r.2.mem ((c.tc : Thread Cert.HalfUpIdeal.nD Cert.HalfUpIdeal.τ).loc Cert.HalfUpIdeal.main_arg2) = m ((c.tc : Thread Cert.HalfUpIdeal.nD Cert.HalfUpIdeal.τ).loc Cert.HalfUpIdeal.main_arg2))
      ∧ θ_run (Cert.HalfUpRefIdeal.defs (F := Ideal)) (onTc (τ := Cert.HalfUpRefIdeal.τ) (Cert.HalfUpRefIdeal.main (F := Ideal))) ⟨m', fun _ => 0, g'⟩ (fun r => ∀ c : Dev Cert.HalfUpRefIdeal.nD,
          r.2.mem ((c.tc : Thread Cert.HalfUpRefIdeal.nD Cert.HalfUpRefIdeal.τ).loc Cert.HalfUpRefIdeal.main_v7) = v0 c
          ∧ r.2.mem ((c.tc : Thread Cert.HalfUpRefIdeal.nD Cert.HalfUpRefIdeal.τ).loc Cert.HalfUpRefIdeal.main_arg0) = m' ((c.tc : Thread Cert.HalfUpRefIdeal.nD Cert.HalfUpRefIdeal.τ).loc Cert.HalfUpRefIdeal.main_arg0)
          ∧ r.2.mem ((c.tc : Thread Cert.HalfUpRefIdeal.nD Cert.HalfUpRefIdeal.τ).loc Cert.HalfUpRefIdeal.main_arg1) = m' ((c.tc : Thread Cert.HalfUpRefIdeal.nD Cert.HalfUpRefIdeal.τ).loc Cert.HalfUpRefIdeal.main_arg1)
          ∧ r.2.mem ((c.tc : Thread Cert.HalfUpRefIdeal.nD Cert.HalfUpRefIdeal.τ).loc Cert.HalfUpRefIdeal.main_arg2) = m' ((c.tc : Thread Cert.HalfUpRefIdeal.nD Cert.HalfUpRefIdeal.τ).loc Cert.HalfUpRefIdeal.main_arg2))

def preserves_AddUp_AddUpIdeal : Prop :=
  True

def algebraic_AddUpIdeal_AddUpRefIdeal [hAddUpIdeal : Cert.AddUpIdeal.Facts] [hAddUpRefIdeal : Cert.AddUpRefIdeal.Facts] [hPre_chip_named : Cert.Pre_chip_named.Facts] : Prop :=
  ∀ (m : (ℓ : Loc Cert.AddUpIdeal.nD Cert.AddUpIdeal.τ Cert.AddUpIdeal.sig) → Buf (Elt Ideal) ℓ) (g : Dev Cert.AddUpIdeal.nD → PrngReg)
    (m' : (ℓ : Loc Cert.AddUpRefIdeal.nD Cert.AddUpRefIdeal.τ Cert.AddUpRefIdeal.sig) → Buf (Elt Ideal) ℓ) (g' : Dev Cert.AddUpRefIdeal.nD → PrngReg), Pre_AddUpIdeal m →
    (∀ c : Dev Cert.AddUpIdeal.nD,
      m' ((c.tc : Thread Cert.AddUpRefIdeal.nD Cert.AddUpRefIdeal.τ).loc Cert.AddUpRefIdeal.main_arg0) = m ((c.tc : Thread Cert.AddUpIdeal.nD Cert.AddUpIdeal.τ).loc Cert.AddUpIdeal.main_arg0)
      ∧ m' ((c.tc : Thread Cert.AddUpRefIdeal.nD Cert.AddUpRefIdeal.τ).loc Cert.AddUpRefIdeal.main_arg1) = m ((c.tc : Thread Cert.AddUpIdeal.nD Cert.AddUpIdeal.τ).loc Cert.AddUpIdeal.main_arg1)
      ∧ m' ((c.tc : Thread Cert.AddUpRefIdeal.nD Cert.AddUpRefIdeal.τ).loc Cert.AddUpRefIdeal.main_arg2) = m ((c.tc : Thread Cert.AddUpIdeal.nD Cert.AddUpIdeal.τ).loc Cert.AddUpIdeal.main_arg2)) →
    ∃ (v0 : (c : Dev Cert.AddUpIdeal.nD) → Buf (Elt Ideal) ((c.tc : Thread Cert.AddUpIdeal.nD Cert.AddUpIdeal.τ).loc Cert.AddUpIdeal.main_v0)),
      θ_run (Cert.AddUpIdeal.defs (F := Ideal)) (onTc (τ := Cert.AddUpIdeal.τ) (Cert.AddUpIdeal.main (F := Ideal))) ⟨m, fun _ => 0, g⟩ (fun r => ∀ c : Dev Cert.AddUpIdeal.nD,
          r.2.mem ((c.tc : Thread Cert.AddUpIdeal.nD Cert.AddUpIdeal.τ).loc Cert.AddUpIdeal.main_v0) = v0 c
          ∧ r.2.mem ((c.tc : Thread Cert.AddUpIdeal.nD Cert.AddUpIdeal.τ).loc Cert.AddUpIdeal.main_arg0) = m ((c.tc : Thread Cert.AddUpIdeal.nD Cert.AddUpIdeal.τ).loc Cert.AddUpIdeal.main_arg0)
          ∧ r.2.mem ((c.tc : Thread Cert.AddUpIdeal.nD Cert.AddUpIdeal.τ).loc Cert.AddUpIdeal.main_arg1) = m ((c.tc : Thread Cert.AddUpIdeal.nD Cert.AddUpIdeal.τ).loc Cert.AddUpIdeal.main_arg1)
          ∧ r.2.mem ((c.tc : Thread Cert.AddUpIdeal.nD Cert.AddUpIdeal.τ).loc Cert.AddUpIdeal.main_arg2) = m ((c.tc : Thread Cert.AddUpIdeal.nD Cert.AddUpIdeal.τ).loc Cert.AddUpIdeal.main_arg2))
      ∧ θ_run (Cert.AddUpRefIdeal.defs (F := Ideal)) (onTc (τ := Cert.AddUpRefIdeal.τ) (Cert.AddUpRefIdeal.main (F := Ideal))) ⟨m', fun _ => 0, g'⟩ (fun r => ∀ c : Dev Cert.AddUpRefIdeal.nD,
          r.2.mem ((c.tc : Thread Cert.AddUpRefIdeal.nD Cert.AddUpRefIdeal.τ).loc Cert.AddUpRefIdeal.main_v23) = v0 c
          ∧ r.2.mem ((c.tc : Thread Cert.AddUpRefIdeal.nD Cert.AddUpRefIdeal.τ).loc Cert.AddUpRefIdeal.main_arg0) = m' ((c.tc : Thread Cert.AddUpRefIdeal.nD Cert.AddUpRefIdeal.τ).loc Cert.AddUpRefIdeal.main_arg0)
          ∧ r.2.mem ((c.tc : Thread Cert.AddUpRefIdeal.nD Cert.AddUpRefIdeal.τ).loc Cert.AddUpRefIdeal.main_arg1) = m' ((c.tc : Thread Cert.AddUpRefIdeal.nD Cert.AddUpRefIdeal.τ).loc Cert.AddUpRefIdeal.main_arg1)
          ∧ r.2.mem ((c.tc : Thread Cert.AddUpRefIdeal.nD Cert.AddUpRefIdeal.τ).loc Cert.AddUpRefIdeal.main_arg2) = m' ((c.tc : Thread Cert.AddUpRefIdeal.nD Cert.AddUpRefIdeal.τ).loc Cert.AddUpRefIdeal.main_arg2))

def Claim : Prop :=
  ∃ (hSibling : Cert.Sibling.Facts) (hSiblingIdeal : Cert.SiblingIdeal.Facts) (hSiblingRefIdeal : Cert.SiblingRefIdeal.Facts) (hSiblingRef : Cert.SiblingRef.Facts) (hChips : Cert.Chips.Facts) (hChipsIdeal : Cert.ChipsIdeal.Facts) (hChipsRefIdeal : Cert.ChipsRefIdeal.Facts) (hChipsRef : Cert.ChipsRef.Facts) (hShare : Cert.Share.Facts) (hShareIdeal : Cert.ShareIdeal.Facts) (hShareRefIdeal : Cert.ShareRefIdeal.Facts) (hShareRef : Cert.ShareRef.Facts) (hGather : Cert.Gather.Facts) (hGatherIdeal : Cert.GatherIdeal.Facts) (hGatherRefIdeal : Cert.GatherRefIdeal.Facts) (hGatherRef : Cert.GatherRef.Facts) (hGatherSmall : Cert.GatherSmall.Facts) (hGatherSmallIdeal : Cert.GatherSmallIdeal.Facts) (hGatherSmallRefIdeal : Cert.GatherSmallRefIdeal.Facts) (hGatherSmallRef : Cert.GatherSmallRef.Facts) (hAdamUp : Cert.AdamUp.Facts) (hAdamUpIdeal : Cert.AdamUpIdeal.Facts) (hAdamUpRefIdeal : Cert.AdamUpRefIdeal.Facts) (hAdamDown : Cert.AdamDown.Facts) (hAdamDownIdeal : Cert.AdamDownIdeal.Facts) (hAdamDownRefIdeal : Cert.AdamDownRefIdeal.Facts) (hAdamSquare : Cert.AdamSquare.Facts) (hAdamSquareIdeal : Cert.AdamSquareIdeal.Facts) (hAdamSquareRefIdeal : Cert.AdamSquareRefIdeal.Facts) (hAdamMeta : Cert.AdamMeta.Facts) (hAdamMetaIdeal : Cert.AdamMetaIdeal.Facts) (hAdamMetaRefIdeal : Cert.AdamMetaRefIdeal.Facts) (hAdamSmall : Cert.AdamSmall.Facts) (hAdamSmallIdeal : Cert.AdamSmallIdeal.Facts) (hAdamSmallRefIdeal : Cert.AdamSmallRefIdeal.Facts) (hLossGrad : Cert.LossGrad.Facts) (hLossGradIdeal : Cert.LossGradIdeal.Facts) (hLossGradRefIdeal : Cert.LossGradRefIdeal.Facts) (hTnUp : Cert.TnUp.Facts) (hTnUpIdeal : Cert.TnUpIdeal.Facts) (hTnUpRefIdeal : Cert.TnUpRefIdeal.Facts) (hTnDown : Cert.TnDown.Facts) (hTnDownIdeal : Cert.TnDownIdeal.Facts) (hTnDownRefIdeal : Cert.TnDownRefIdeal.Facts) (hTnSquare : Cert.TnSquare.Facts) (hTnSquareIdeal : Cert.TnSquareIdeal.Facts) (hTnSquareRefIdeal : Cert.TnSquareRefIdeal.Facts) (hFfnFwd : Cert.FfnFwd.Facts) (hFfnFwdIdeal : Cert.FfnFwdIdeal.Facts) (hFfnFwdRefIdeal : Cert.FfnFwdRefIdeal.Facts) (hBwdDown : Cert.BwdDown.Facts) (hBwdDownIdeal : Cert.BwdDownIdeal.Facts) (hBwdDownRefIdeal : Cert.BwdDownRefIdeal.Facts) (hBwdUp : Cert.BwdUp.Facts) (hBwdUpIdeal : Cert.BwdUpIdeal.Facts) (hBwdUpRefIdeal : Cert.BwdUpRefIdeal.Facts) (hHalfUp : Cert.HalfUp.Facts) (hHalfUpIdeal : Cert.HalfUpIdeal.Facts) (hHalfUpRefIdeal : Cert.HalfUpRefIdeal.Facts) (hAddUp : Cert.AddUp.Facts) (hAddUpIdeal : Cert.AddUpIdeal.Facts) (hAddUpRefIdeal : Cert.AddUpRefIdeal.Facts) (hPre_core_named : Cert.Pre_core_named.Facts) (hPre_chip_named : Cert.Pre_chip_named.Facts),
    quiescent_Sibling (hSibling := hSibling)
    ∧ quiescent_SiblingIdeal (hSiblingIdeal := hSiblingIdeal)
    ∧ quiescent_SiblingRefIdeal (hSiblingRefIdeal := hSiblingRefIdeal)
    ∧ quiescent_SiblingRef (hSiblingRef := hSiblingRef)
    ∧ quiescent_Chips (hChips := hChips)
    ∧ quiescent_ChipsIdeal (hChipsIdeal := hChipsIdeal)
    ∧ quiescent_ChipsRefIdeal (hChipsRefIdeal := hChipsRefIdeal)
    ∧ quiescent_ChipsRef (hChipsRef := hChipsRef)
    ∧ quiescent_Share (hShare := hShare)
    ∧ quiescent_ShareIdeal (hShareIdeal := hShareIdeal)
    ∧ quiescent_ShareRefIdeal (hShareRefIdeal := hShareRefIdeal)
    ∧ quiescent_ShareRef (hShareRef := hShareRef)
    ∧ quiescent_Gather (hGather := hGather)
    ∧ quiescent_GatherIdeal (hGatherIdeal := hGatherIdeal)
    ∧ quiescent_GatherRefIdeal (hGatherRefIdeal := hGatherRefIdeal)
    ∧ quiescent_GatherRef (hGatherRef := hGatherRef)
    ∧ quiescent_GatherSmall (hGatherSmall := hGatherSmall)
    ∧ quiescent_GatherSmallIdeal (hGatherSmallIdeal := hGatherSmallIdeal)
    ∧ quiescent_GatherSmallRefIdeal (hGatherSmallRefIdeal := hGatherSmallRefIdeal)
    ∧ quiescent_GatherSmallRef (hGatherSmallRef := hGatherSmallRef)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamSquare (hAdamSquare := hAdamSquare)
    ∧ quiescent_AdamSquareIdeal (hAdamSquareIdeal := hAdamSquareIdeal)
    ∧ quiescent_AdamSquareRefIdeal (hAdamSquareRefIdeal := hAdamSquareRefIdeal)
    ∧ quiescent_AdamMeta (hAdamMeta := hAdamMeta)
    ∧ quiescent_AdamMetaIdeal (hAdamMetaIdeal := hAdamMetaIdeal)
    ∧ quiescent_AdamMetaRefIdeal (hAdamMetaRefIdeal := hAdamMetaRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_LossGrad (hLossGrad := hLossGrad)
    ∧ quiescent_LossGradIdeal (hLossGradIdeal := hLossGradIdeal)
    ∧ quiescent_LossGradRefIdeal (hLossGradRefIdeal := hLossGradRefIdeal)
    ∧ quiescent_TnUp (hTnUp := hTnUp)
    ∧ quiescent_TnUpIdeal (hTnUpIdeal := hTnUpIdeal)
    ∧ quiescent_TnUpRefIdeal (hTnUpRefIdeal := hTnUpRefIdeal)
    ∧ quiescent_TnDown (hTnDown := hTnDown)
    ∧ quiescent_TnDownIdeal (hTnDownIdeal := hTnDownIdeal)
    ∧ quiescent_TnDownRefIdeal (hTnDownRefIdeal := hTnDownRefIdeal)
    ∧ quiescent_TnSquare (hTnSquare := hTnSquare)
    ∧ quiescent_TnSquareIdeal (hTnSquareIdeal := hTnSquareIdeal)
    ∧ quiescent_TnSquareRefIdeal (hTnSquareRefIdeal := hTnSquareRefIdeal)
    ∧ quiescent_FfnFwd (hFfnFwd := hFfnFwd)
    ∧ quiescent_FfnFwdIdeal (hFfnFwdIdeal := hFfnFwdIdeal)
    ∧ quiescent_FfnFwdRefIdeal (hFfnFwdRefIdeal := hFfnFwdRefIdeal)
    ∧ quiescent_BwdDown (hBwdDown := hBwdDown)
    ∧ quiescent_BwdDownIdeal (hBwdDownIdeal := hBwdDownIdeal)
    ∧ quiescent_BwdDownRefIdeal (hBwdDownRefIdeal := hBwdDownRefIdeal)
    ∧ quiescent_BwdUp (hBwdUp := hBwdUp)
    ∧ quiescent_BwdUpIdeal (hBwdUpIdeal := hBwdUpIdeal)
    ∧ quiescent_BwdUpRefIdeal (hBwdUpRefIdeal := hBwdUpRefIdeal)
    ∧ quiescent_HalfUp (hHalfUp := hHalfUp) (hPre_core_named := hPre_core_named)
    ∧ quiescent_HalfUpIdeal (hHalfUpIdeal := hHalfUpIdeal) (hPre_core_named := hPre_core_named)
    ∧ quiescent_HalfUpRefIdeal (hHalfUpRefIdeal := hHalfUpRefIdeal)
    ∧ quiescent_HalfUpRefIdeal_pre_core_named (hHalfUpRefIdeal := hHalfUpRefIdeal) (hPre_core_named := hPre_core_named)
    ∧ quiescent_AddUp (hAddUp := hAddUp) (hPre_chip_named := hPre_chip_named)
    ∧ quiescent_AddUpIdeal (hAddUpIdeal := hAddUpIdeal) (hPre_chip_named := hPre_chip_named)
    ∧ quiescent_AddUpRefIdeal (hAddUpRefIdeal := hAddUpRefIdeal)
    ∧ quiescent_AddUpRefIdeal_pre_chip_named (hAddUpRefIdeal := hAddUpRefIdeal) (hPre_chip_named := hPre_chip_named)
    ∧ preserves_Sibling_SiblingIdeal
    ∧ bitexact_Sibling_SiblingRef (hSibling := hSibling) (hSiblingRef := hSiblingRef)
    ∧ algebraic_SiblingIdeal_SiblingRefIdeal (hSiblingIdeal := hSiblingIdeal) (hSiblingRefIdeal := hSiblingRefIdeal)
    ∧ preserves_Chips_ChipsIdeal
    ∧ bitexact_Chips_ChipsRef (hChips := hChips) (hChipsRef := hChipsRef)
    ∧ algebraic_ChipsIdeal_ChipsRefIdeal (hChipsIdeal := hChipsIdeal) (hChipsRefIdeal := hChipsRefIdeal)
    ∧ preserves_Share_ShareIdeal
    ∧ bitexact_Share_ShareRef (hShare := hShare) (hShareRef := hShareRef)
    ∧ algebraic_ShareIdeal_ShareRefIdeal (hShareIdeal := hShareIdeal) (hShareRefIdeal := hShareRefIdeal)
    ∧ preserves_Gather_GatherIdeal
    ∧ bitexact_Gather_GatherRef (hGather := hGather) (hGatherRef := hGatherRef)
    ∧ algebraic_GatherIdeal_GatherRefIdeal (hGatherIdeal := hGatherIdeal) (hGatherRefIdeal := hGatherRefIdeal)
    ∧ preserves_GatherSmall_GatherSmallIdeal
    ∧ bitexact_GatherSmall_GatherSmallRef (hGatherSmall := hGatherSmall) (hGatherSmallRef := hGatherSmallRef)
    ∧ algebraic_GatherSmallIdeal_GatherSmallRefIdeal (hGatherSmallIdeal := hGatherSmallIdeal) (hGatherSmallRefIdeal := hGatherSmallRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamSquare_AdamSquareIdeal
    ∧ algebraic_AdamSquareIdeal_AdamSquareRefIdeal (hAdamSquareIdeal := hAdamSquareIdeal) (hAdamSquareRefIdeal := hAdamSquareRefIdeal)
    ∧ preserves_AdamMeta_AdamMetaIdeal
    ∧ algebraic_AdamMetaIdeal_AdamMetaRefIdeal (hAdamMetaIdeal := hAdamMetaIdeal) (hAdamMetaRefIdeal := hAdamMetaRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_LossGrad_LossGradIdeal
    ∧ algebraic_LossGradIdeal_LossGradRefIdeal (hLossGradIdeal := hLossGradIdeal) (hLossGradRefIdeal := hLossGradRefIdeal)
    ∧ preserves_TnUp_TnUpIdeal
    ∧ algebraic_TnUpIdeal_TnUpRefIdeal (hTnUpIdeal := hTnUpIdeal) (hTnUpRefIdeal := hTnUpRefIdeal)
    ∧ preserves_TnDown_TnDownIdeal
    ∧ algebraic_TnDownIdeal_TnDownRefIdeal (hTnDownIdeal := hTnDownIdeal) (hTnDownRefIdeal := hTnDownRefIdeal)
    ∧ preserves_TnSquare_TnSquareIdeal
    ∧ algebraic_TnSquareIdeal_TnSquareRefIdeal (hTnSquareIdeal := hTnSquareIdeal) (hTnSquareRefIdeal := hTnSquareRefIdeal)
    ∧ preserves_FfnFwd_FfnFwdIdeal
    ∧ algebraic_FfnFwdIdeal_FfnFwdRefIdeal (hFfnFwdIdeal := hFfnFwdIdeal) (hFfnFwdRefIdeal := hFfnFwdRefIdeal)
    ∧ preserves_BwdDown_BwdDownIdeal
    ∧ algebraic_BwdDownIdeal_BwdDownRefIdeal (hBwdDownIdeal := hBwdDownIdeal) (hBwdDownRefIdeal := hBwdDownRefIdeal)
    ∧ preserves_BwdUp_BwdUpIdeal
    ∧ algebraic_BwdUpIdeal_BwdUpRefIdeal (hBwdUpIdeal := hBwdUpIdeal) (hBwdUpRefIdeal := hBwdUpRefIdeal)
    ∧ preserves_HalfUp_HalfUpIdeal
    ∧ algebraic_HalfUpIdeal_HalfUpRefIdeal (hHalfUpIdeal := hHalfUpIdeal) (hHalfUpRefIdeal := hHalfUpRefIdeal) (hPre_core_named := hPre_core_named)
    ∧ preserves_AddUp_AddUpIdeal
    ∧ algebraic_AddUpIdeal_AddUpRefIdeal (hAddUpIdeal := hAddUpIdeal) (hAddUpRefIdeal := hAddUpRefIdeal) (hPre_chip_named := hPre_chip_named)
-- ==== Pre_chip_named.lean ====
abbrev S1 : Shape := ⟨1, ![1]⟩
abbrev S4x512x704 : Shape := ⟨3, ![4, 512, 704]⟩
abbrev S3x512x704 : Shape := ⟨3, ![3, 512, 704]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S4x512x704 .f32) (main_arg2 : FVec F S3x512x704 .f32) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 3#32
  let main_v2 : IVec S1 32 := broadcastInDim S1 ![] bcast_S_S1 main_c_0
  let main_v3 : IVec S1 1 := cmpi .sle main_arg0 main_v2
  let main_v4 : IVec S1 1 := andi main_v1 main_v3
  main_v4
-- ==== Pre_core_named.lean ====
abbrev S1 : Shape := ⟨1, ![1]⟩
abbrev S4x2x512x704 : Shape := ⟨4, ![4, 2, 512, 704]⟩
abbrev S4x512x704 : Shape := ⟨3, ![4, 512, 704]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S4x2x512x704 .f32) (main_arg2 : FVec F S4x512x704 .f32) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 1#32
  let main_v2 : IVec S1 32 := broadcastInDim S1 ![] bcast_S_S1 main_c_0
  let main_v3 : IVec S1 1 := cmpi .sle main_arg0 main_v2
  let main_v4 : IVec S1 1 := andi main_v1 main_v3
  main_v4
-- ==== Sibling.lean ====
abbrev S4x2x240x128 : Shape := ⟨4, ![4, 2, 240, 128]⟩
abbrev S4x2x512x704 : Shape := ⟨4, ![4, 2, 512, 704]⟩
abbrev S4x2x352x1024 : Shape := ⟨4, ![4, 2, 352, 1024]⟩
abbrev S4x2x128x1024 : Shape := ⟨4, ![4, 2, 128, 1024]⟩
abbrev S4x240x128 : Shape := ⟨3, ![4, 240, 128]⟩
abbrev S4x512x704 : Shape := ⟨3, ![4, 512, 704]⟩
abbrev S4x352x1024 : Shape := ⟨3, ![4, 352, 1024]⟩
abbrev S4x128x1024 : Shape := ⟨3, ![4, 128, 1024]⟩
abbrev S36 : Shape := ⟨1, ![36]⟩
abbrev S1 : Shape := ⟨1, ![1]⟩
abbrev S_ : Shape := ⟨0, ![]⟩
abbrev S1x240x128 : Shape := ⟨3, ![1, 240, 128]⟩
abbrev S240x128 : Shape := ⟨2, ![240, 128]⟩
abbrev S1x1x240x128 : Shape := ⟨4, ![1, 1, 240, 128]⟩
abbrev S1x512x704 : Shape := ⟨3, ![1, 512, 704]⟩
abbrev S512x704 : Shape := ⟨2, ![512, 704]⟩
abbrev S1x1x512x704 : Shape := ⟨4, ![1, 1, 512, 704]⟩
abbrev S1x352x1024 : Shape := ⟨3, ![1, 352, 1024]⟩
abbrev S352x1024 : Shape := ⟨2, ![352, 1024]⟩
abbrev S1x1x352x1024 : Shape := ⟨4, ![1, 1, 352, 1024]⟩
abbrev S1x128x1024 : Shape := ⟨3, ![1, 128, 1024]⟩
abbrev S128x1024 : Shape := ⟨2, ![128, 1024]⟩
abbrev S1x1x128x1024 : Shape := ⟨4, ![1, 1, 128, 1024]⟩

abbrev nBuf : Space → Nat
  | .hbm => 18
  | .vmem => 0
  | .smem => 0
  | _ => 0

abbrev bufTy : (tb : Table) → Fin (tcTables nBuf tb) → BufTy
  | .hbm, ⟨0, _⟩ => ⟨S4x2x240x128, .f32⟩
  | .hbm, ⟨1, _⟩ => ⟨S4x2x512x704, .f32⟩
  | .hbm, ⟨2, _⟩ => ⟨S4x2x512x704, .f32⟩
  | .hbm, ⟨3, _⟩ => ⟨S4x2x352x1024, .f32⟩
  | .hbm, ⟨4, _⟩ => ⟨S4x2x128x1024, .f32⟩
  | .hbm, ⟨5, _⟩ => ⟨S4x2x128x1024, .f32⟩
  | .hbm, ⟨6, _⟩ => ⟨S4x2x512x704, .f32⟩
  | .hbm, ⟨7, _⟩ => ⟨S4x2x512x704, .f32⟩
  | .hbm, ⟨8, _⟩ => ⟨S4x2x352x1024, .f32⟩
  | .hbm, ⟨9, _⟩ => ⟨S4x240x128, .f32⟩
  | .hbm, ⟨10, _⟩ => ⟨S4x512x704, .f32⟩
  | .hbm, ⟨11, _⟩ => ⟨S4x512x704, .f32⟩
  | .hbm, ⟨12, _⟩ => ⟨S4x352x1024, .f32⟩
  | .hbm, ⟨13, _⟩ => ⟨S4x128x1024, .f32⟩
  | .hbm, ⟨14, _⟩ => ⟨S4x128x1024, .f32⟩
  | .hbm, ⟨15, _⟩ => ⟨S4x512x704, .f32⟩
  | .hbm, ⟨16, _⟩ => ⟨S4x512x704, .f32⟩
  | .hbm, ⟨17, _⟩ => ⟨S4x352x1024, .f32⟩
  | _, _ => ⟨S4x2x240x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev main_v1_4 : Ref sig .tc := ⟨.hbm, 13, rfl⟩
abbrev main_v1_5 : Ref sig .tc := ⟨.hbm, 14, rfl⟩
abbrev main_v1_6 : Ref sig .tc := ⟨.hbm, 15, rfl⟩
abbrev main_v1_7 : Ref sig .tc := ⟨.hbm, 16, rfl⟩
abbrev main_v1_8 : Ref sig .tc := ⟨.hbm, 17, rfl⟩

abbrev nD : Nat := 8
abbrev τ : Topo := Topo.v7x

variable {F : FTy → Type} [FloatOps F]

abbrev grid0 : Pipeline.Grid := .none

def k0_off1 (d0 : Dev nD) : Fin 4 → Nat :=
  let c0_i32 : BitVec 32 := 0#32
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c0_i32_84 : BitVec 32 := 0#32
  let c0_i32_85 : BitVec 32 := 0#32
  ![0, v9.toNat, 0, 0]
def k0_dev1 (d0 : Dev nD) : Nat :=
  let c0_i32_79 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_78 : BitVec 32 := 4#32
  let v81 : BitVec 32 := Scalar.muli v2 c4_i32_78
  let v82 : BitVec 32 := Scalar.addi c0_i32_79 v81
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_80 : BitVec 32 := 2#32
  let v83 : BitVec 32 := Scalar.muli v5 c2_i32_80
  let v84 : BitVec 32 := Scalar.addi v82 v83
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_81 : BitVec 32 := 1#32
  let v85 : BitVec 32 := Scalar.muli v10 c1_i32_81
  let v86 : BitVec 32 := Scalar.addi v84 v85
  v86.toNat
def k0_off2 (d0 : Dev nD) : Fin 4 → Nat :=
  let c1_i32_86 : BitVec 32 := 1#32
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c0_i32_96 : BitVec 32 := 0#32
  let c0_i32_97 : BitVec 32 := 0#32
  ![1, v11.toNat, 0, 0]
def k0_dev2 (d0 : Dev nD) : Nat :=
  let c0_i32_91 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_90 : BitVec 32 := 4#32
  let v95 : BitVec 32 := Scalar.muli v2 c4_i32_90
  let v96 : BitVec 32 := Scalar.addi c0_i32_91 v95
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_92 : BitVec 32 := 2#32
  let v97 : BitVec 32 := Scalar.muli v5 c2_i32_92
  let v98 : BitVec 32 := Scalar.addi v96 v97
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_6 v8
  let c1_i32_93 : BitVec 32 := 1#32
  let v99 : BitVec 32 := Scalar.muli v12 c1_i32_93
  let v100 : BitVec 32 := Scalar.addi v98 v99
  v100.toNat
def k0_off3 (d0 : Dev nD) : Fin 4 → Nat :=
  let c2_i32_98 : BitVec 32 := 2#32
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_7 v8
  let c0_i32_108 : BitVec 32 := 0#32
  let c0_i32_109 : BitVec 32 := 0#32
  ![2, v13.toNat, 0, 0]
def k0_dev3 (d0 : Dev nD) : Nat :=
  let c0_i32_103 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_102 : BitVec 32 := 4#32
  let v109 : BitVec 32 := Scalar.muli v2 c4_i32_102
  let v110 : BitVec 32 := Scalar.addi c0_i32_103 v109
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_104 : BitVec 32 := 2#32
  let v111 : BitVec 32 := Scalar.muli v5 c2_i32_104
  let v112 : BitVec 32 := Scalar.addi v110 v111
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.subi c1_i32_8 v8
  let c1_i32_105 : BitVec 32 := 1#32
  let v113 : BitVec 32 := Scalar.muli v14 c1_i32_105
  let v114 : BitVec 32 := Scalar.addi v112 v113
  v114.toNat
def k0_off4 (d0 : Dev nD) : Fin 4 → Nat :=
  let c3_i32 : BitVec 32 := 3#32
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_9 v8
  let c0_i32_119 : BitVec 32 := 0#32
  let c0_i32_120 : BitVec 32 := 0#32
  ![3, v15.toNat, 0, 0]
def k0_dev4 (d0 : Dev nD) : Nat :=
  let c0_i32_114 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_113 : BitVec 32 := 4#32
  let v123 : BitVec 32 := Scalar.muli v2 c4_i32_113
  let v124 : BitVec 32 := Scalar.addi c0_i32_114 v123
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_115 : BitVec 32 := 2#32
  let v125 : BitVec 32 := Scalar.muli v5 c2_i32_115
  let v126 : BitVec 32 := Scalar.addi v124 v125
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.subi c1_i32_10 v8
  let c1_i32_116 : BitVec 32 := 1#32
  let v127 : BitVec 32 := Scalar.muli v16 c1_i32_116
  let v128 : BitVec 32 := Scalar.addi v126 v127
  v128.toNat
def k0_off5 (d0 : Dev nD) : Fin 4 → Nat :=
  let c0_i32_121 : BitVec 32 := 0#32
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_11 v8
  let c0_i32_131 : BitVec 32 := 0#32
  let c0_i32_132 : BitVec 32 := 0#32
  ![0, v17.toNat, 0, 0]
def k0_dev5 (d0 : Dev nD) : Nat :=
  let c0_i32_126 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_125 : BitVec 32 := 4#32
  let v137 : BitVec 32 := Scalar.muli v2 c4_i32_125
  let v138 : BitVec 32 := Scalar.addi c0_i32_126 v137
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_127 : BitVec 32 := 2#32
  let v139 : BitVec 32 := Scalar.muli v5 c2_i32_127
  let v140 : BitVec 32 := Scalar.addi v138 v139
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_12 v8
  let c1_i32_128 : BitVec 32 := 1#32
  let v141 : BitVec 32 := Scalar.muli v18 c1_i32_128
  let v142 : BitVec 32 := Scalar.addi v140 v141
  v142.toNat
def k0_off6 (d0 : Dev nD) : Fin 4 → Nat :=
  let c1_i32_133 : BitVec 32 := 1#32
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_13 v8
  let c0_i32_142 : BitVec 32 := 0#32
  let c0_i32_143 : BitVec 32 := 0#32
  ![1, v19.toNat, 0, 0]
def k0_dev6 (d0 : Dev nD) : Nat :=
  let c0_i32_137 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_136 : BitVec 32 := 4#32
  let v151 : BitVec 32 := Scalar.muli v2 c4_i32_136
  let v152 : BitVec 32 := Scalar.addi c0_i32_137 v151
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_138 : BitVec 32 := 2#32
  let v153 : BitVec 32 := Scalar.muli v5 c2_i32_138
  let v154 : BitVec 32 := Scalar.addi v152 v153
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_14 v8
  let c1_i32_139 : BitVec 32 := 1#32
  let v155 : BitVec 32 := Scalar.muli v20 c1_i32_139
  let v156 : BitVec 32 := Scalar.addi v154 v155
  v156.toNat
def k0_off7 (d0 : Dev nD) : Fin 4 → Nat :=
  let c2_i32_144 : BitVec 32 := 2#32
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_15 v8
  let c0_i32_153 : BitVec 32 := 0#32
  let c0_i32_154 : BitVec 32 := 0#32
  ![2, v21.toNat, 0, 0]
def k0_dev7 (d0 : Dev nD) : Nat :=
  let c0_i32_148 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_147 : BitVec 32 := 4#32
  let v165 : BitVec 32 := Scalar.muli v2 c4_i32_147
  let v166 : BitVec 32 := Scalar.addi c0_i32_148 v165
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_149 : BitVec 32 := 2#32
  let v167 : BitVec 32 := Scalar.muli v5 c2_i32_149
  let v168 : BitVec 32 := Scalar.addi v166 v167
  let c1_i32_16 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_16 v8
  let c1_i32_150 : BitVec 32 := 1#32
  let v169 : BitVec 32 := Scalar.muli v22 c1_i32_150
  let v170 : BitVec 32 := Scalar.addi v168 v169
  v170.toNat
def k0_off8 (d0 : Dev nD) : Fin 4 → Nat :=
  let c3_i32_155 : BitVec 32 := 3#32
  let c1_i32_17 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v23 : BitVec 32 := Scalar.subi c1_i32_17 v8
  let c0_i32_164 : BitVec 32 := 0#32
  let c0_i32_165 : BitVec 32 := 0#32
  ![3, v23.toNat, 0, 0]
def k0_dev8 (d0 : Dev nD) : Nat :=
  let c0_i32_159 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_158 : BitVec 32 := 4#32
  let v179 : BitVec 32 := Scalar.muli v2 c4_i32_158
  let v180 : BitVec 32 := Scalar.addi c0_i32_159 v179
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_160 : BitVec 32 := 2#32
  let v181 : BitVec 32 := Scalar.muli v5 c2_i32_160
  let v182 : BitVec 32 := Scalar.addi v180 v181
  let c1_i32_18 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_18 v8
  let c1_i32_161 : BitVec 32 := 1#32
  let v183 : BitVec 32 := Scalar.muli v24 c1_i32_161
  let v184 : BitVec 32 := Scalar.addi v182 v183
  v184.toNat
def k0_dev9 (d0 : Dev nD) : Nat :=
  let c0_i32_170 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_169 : BitVec 32 := 4#32
  let v193 : BitVec 32 := Scalar.muli v2 c4_i32_169
  let v194 : BitVec 32 := Scalar.addi c0_i32_170 v193
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_171 : BitVec 32 := 2#32
  let v195 : BitVec 32 := Scalar.muli v5 c2_i32_171
  let v196 : BitVec 32 := Scalar.addi v194 v195
  let c1_i32_20 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v26 : BitVec 32 := Scalar.subi c1_i32_20 v8
  let c1_i32_172 : BitVec 32 := 1#32
  let v197 : BitVec 32 := Scalar.muli v26 c1_i32_172
  let v198 : BitVec 32 := Scalar.addi v196 v197
  v198.toNat
def k0_dev10 (d0 : Dev nD) : Nat :=
  let c0_i32_181 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_180 : BitVec 32 := 4#32
  let v207 : BitVec 32 := Scalar.muli v2 c4_i32_180
  let v208 : BitVec 32 := Scalar.addi c0_i32_181 v207
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_182 : BitVec 32 := 2#32
  let v209 : BitVec 32 := Scalar.muli v5 c2_i32_182
  let v210 : BitVec 32 := Scalar.addi v208 v209
  let c1_i32_22 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v28 : BitVec 32 := Scalar.subi c1_i32_22 v8
  let c1_i32_183 : BitVec 32 := 1#32
  let v211 : BitVec 32 := Scalar.muli v28 c1_i32_183
  let v212 : BitVec 32 := Scalar.addi v210 v211
  v212.toNat
def k0_dev11 (d0 : Dev nD) : Nat :=
  let c0_i32_192 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_191 : BitVec 32 := 4#32
  let v221 : BitVec 32 := Scalar.muli v2 c4_i32_191
  let v222 : BitVec 32 := Scalar.addi c0_i32_192 v221
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_193 : BitVec 32 := 2#32
  let v223 : BitVec 32 := Scalar.muli v5 c2_i32_193
  let v224 : BitVec 32 := Scalar.addi v222 v223
  let c1_i32_24 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v30 : BitVec 32 := Scalar.subi c1_i32_24 v8
  let c1_i32_194 : BitVec 32 := 1#32
  let v225 : BitVec 32 := Scalar.muli v30 c1_i32_194
  let v226 : BitVec 32 := Scalar.addi v224 v225
  v226.toNat
def k0_dev12 (d0 : Dev nD) : Nat :=
  let c0_i32_203 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_202 : BitVec 32 := 4#32
  let v235 : BitVec 32 := Scalar.muli v2 c4_i32_202
  let v236 : BitVec 32 := Scalar.addi c0_i32_203 v235
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_204 : BitVec 32 := 2#32
  let v237 : BitVec 32 := Scalar.muli v5 c2_i32_204
  let v238 : BitVec 32 := Scalar.addi v236 v237
  let c1_i32_26 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.subi c1_i32_26 v8
  let c1_i32_205 : BitVec 32 := 1#32
  let v239 : BitVec 32 := Scalar.muli v32 c1_i32_205
  let v240 : BitVec 32 := Scalar.addi v238 v239
  v240.toNat
def k0_off9 (d0 : Dev nD) : Fin 4 → Nat :=
  let c0_i32_210 : BitVec 32 := 0#32
  let c1_i32_27 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v33 : BitVec 32 := Scalar.subi c1_i32_27 v8
  let c0_i32_219 : BitVec 32 := 0#32
  let c0_i32_220 : BitVec 32 := 0#32
  ![0, v33.toNat, 0, 0]
def k0_dev13 (d0 : Dev nD) : Nat :=
  let c0_i32_214 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_213 : BitVec 32 := 4#32
  let v249 : BitVec 32 := Scalar.muli v2 c4_i32_213
  let v250 : BitVec 32 := Scalar.addi c0_i32_214 v249
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_215 : BitVec 32 := 2#32
  let v251 : BitVec 32 := Scalar.muli v5 c2_i32_215
  let v252 : BitVec 32 := Scalar.addi v250 v251
  let c1_i32_28 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v34 : BitVec 32 := Scalar.subi c1_i32_28 v8
  let c1_i32_216 : BitVec 32 := 1#32
  let v253 : BitVec 32 := Scalar.muli v34 c1_i32_216
  let v254 : BitVec 32 := Scalar.addi v252 v253
  v254.toNat
def k0_off10 (d0 : Dev nD) : Fin 4 → Nat :=
  let c1_i32_221 : BitVec 32 := 1#32
  let c1_i32_29 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.subi c1_i32_29 v8
  let c0_i32_230 : BitVec 32 := 0#32
  let c0_i32_231 : BitVec 32 := 0#32
  ![1, v35.toNat, 0, 0]
def k0_dev14 (d0 : Dev nD) : Nat :=
  let c0_i32_225 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_224 : BitVec 32 := 4#32
  let v263 : BitVec 32 := Scalar.muli v2 c4_i32_224
  let v264 : BitVec 32 := Scalar.addi c0_i32_225 v263
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_226 : BitVec 32 := 2#32
  let v265 : BitVec 32 := Scalar.muli v5 c2_i32_226
  let v266 : BitVec 32 := Scalar.addi v264 v265
  let c1_i32_30 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v36 : BitVec 32 := Scalar.subi c1_i32_30 v8
  let c1_i32_227 : BitVec 32 := 1#32
  let v267 : BitVec 32 := Scalar.muli v36 c1_i32_227
  let v268 : BitVec 32 := Scalar.addi v266 v267
  v268.toNat
def k0_off11 (d0 : Dev nD) : Fin 4 → Nat :=
  let c2_i32_232 : BitVec 32 := 2#32
  let c1_i32_31 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.subi c1_i32_31 v8
  let c0_i32_241 : BitVec 32 := 0#32
  let c0_i32_242 : BitVec 32 := 0#32
  ![2, v37.toNat, 0, 0]
def k0_dev15 (d0 : Dev nD) : Nat :=
  let c0_i32_236 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_235 : BitVec 32 := 4#32
  let v277 : BitVec 32 := Scalar.muli v2 c4_i32_235
  let v278 : BitVec 32 := Scalar.addi c0_i32_236 v277
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_237 : BitVec 32 := 2#32
  let v279 : BitVec 32 := Scalar.muli v5 c2_i32_237
  let v280 : BitVec 32 := Scalar.addi v278 v279
  let c1_i32_32 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v38 : BitVec 32 := Scalar.subi c1_i32_32 v8
  let c1_i32_238 : BitVec 32 := 1#32
  let v281 : BitVec 32 := Scalar.muli v38 c1_i32_238
  let v282 : BitVec 32 := Scalar.addi v280 v281
  v282.toNat
def k0_off12 (d0 : Dev nD) : Fin 4 → Nat :=
  let c3_i32_243 : BitVec 32 := 3#32
  let c1_i32_33 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v39 : BitVec 32 := Scalar.subi c1_i32_33 v8
  let c0_i32_252 : BitVec 32 := 0#32
  let c0_i32_253 : BitVec 32 := 0#32
  ![3, v39.toNat, 0, 0]
def k0_dev16 (d0 : Dev nD) : Nat :=
  let c0_i32_247 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_246 : BitVec 32 := 4#32
  let v291 : BitVec 32 := Scalar.muli v2 c4_i32_246
  let v292 : BitVec 32 := Scalar.addi c0_i32_247 v291
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_248 : BitVec 32 := 2#32
  let v293 : BitVec 32 := Scalar.muli v5 c2_i32_248
  let v294 : BitVec 32 := Scalar.addi v292 v293
  let c1_i32_34 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v40 : BitVec 32 := Scalar.subi c1_i32_34 v8
  let c1_i32_249 : BitVec 32 := 1#32
  let v295 : BitVec 32 := Scalar.muli v40 c1_i32_249
  let v296 : BitVec 32 := Scalar.addi v294 v295
  v296.toNat
def k0_off13 (d0 : Dev nD) : Fin 4 → Nat :=
  let c0_i32_254 : BitVec 32 := 0#32
  let c1_i32_35 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v41 : BitVec 32 := Scalar.subi c1_i32_35 v8
  let c0_i32_263 : BitVec 32 := 0#32
  let c0_i32_264 : BitVec 32 := 0#32
  ![0, v41.toNat, 0, 0]
def k0_dev17 (d0 : Dev nD) : Nat :=
  let c0_i32_258 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_257 : BitVec 32 := 4#32
  let v305 : BitVec 32 := Scalar.muli v2 c4_i32_257
  let v306 : BitVec 32 := Scalar.addi c0_i32_258 v305
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_259 : BitVec 32 := 2#32
  let v307 : BitVec 32 := Scalar.muli v5 c2_i32_259
  let v308 : BitVec 32 := Scalar.addi v306 v307
  let c1_i32_36 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v42 : BitVec 32 := Scalar.subi c1_i32_36 v8
  let c1_i32_260 : BitVec 32 := 1#32
  let v309 : BitVec 32 := Scalar.muli v42 c1_i32_260
  let v310 : BitVec 32 := Scalar.addi v308 v309
  v310.toNat
def k0_off14 (d0 : Dev nD) : Fin 4 → Nat :=
  let c1_i32_265 : BitVec 32 := 1#32
  let c1_i32_37 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v43 : BitVec 32 := Scalar.subi c1_i32_37 v8
  let c0_i32_274 : BitVec 32 := 0#32
  let c0_i32_275 : BitVec 32 := 0#32
  ![1, v43.toNat, 0, 0]
def k0_dev18 (d0 : Dev nD) : Nat :=
  let c0_i32_269 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_268 : BitVec 32 := 4#32
  let v319 : BitVec 32 := Scalar.muli v2 c4_i32_268
  let v320 : BitVec 32 := Scalar.addi c0_i32_269 v319
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_270 : BitVec 32 := 2#32
  let v321 : BitVec 32 := Scalar.muli v5 c2_i32_270
  let v322 : BitVec 32 := Scalar.addi v320 v321
  let c1_i32_38 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v44 : BitVec 32 := Scalar.subi c1_i32_38 v8
  let c1_i32_271 : BitVec 32 := 1#32
  let v323 : BitVec 32 := Scalar.muli v44 c1_i32_271
  let v324 : BitVec 32 := Scalar.addi v322 v323
  v324.toNat
def k0_off15 (d0 : Dev nD) : Fin 4 → Nat :=
  let c2_i32_276 : BitVec 32 := 2#32
  let c1_i32_39 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v45 : BitVec 32 := Scalar.subi c1_i32_39 v8
  let c0_i32_285 : BitVec 32 := 0#32
  let c0_i32_286 : BitVec 32 := 0#32
  ![2, v45.toNat, 0, 0]
def k0_dev19 (d0 : Dev nD) : Nat :=
  let c0_i32_280 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_279 : BitVec 32 := 4#32
  let v333 : BitVec 32 := Scalar.muli v2 c4_i32_279
  let v334 : BitVec 32 := Scalar.addi c0_i32_280 v333
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_281 : BitVec 32 := 2#32
  let v335 : BitVec 32 := Scalar.muli v5 c2_i32_281
  let v336 : BitVec 32 := Scalar.addi v334 v335
  let c1_i32_40 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v46 : BitVec 32 := Scalar.subi c1_i32_40 v8
  let c1_i32_282 : BitVec 32 := 1#32
  let v337 : BitVec 32 := Scalar.muli v46 c1_i32_282
  let v338 : BitVec 32 := Scalar.addi v336 v337
  v338.toNat
def k0_off16 (d0 : Dev nD) : Fin 4 → Nat :=
  let c3_i32_287 : BitVec 32 := 3#32
  let c1_i32_41 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v47 : BitVec 32 := Scalar.subi c1_i32_41 v8
  let c0_i32_296 : BitVec 32 := 0#32
  let c0_i32_297 : BitVec 32 := 0#32
  ![3, v47.toNat, 0, 0]
def k0_dev20 (d0 : Dev nD) : Nat :=
  let c0_i32_291 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_290 : BitVec 32 := 4#32
  let v347 : BitVec 32 := Scalar.muli v2 c4_i32_290
  let v348 : BitVec 32 := Scalar.addi c0_i32_291 v347
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_292 : BitVec 32 := 2#32
  let v349 : BitVec 32 := Scalar.muli v5 c2_i32_292
  let v350 : BitVec 32 := Scalar.addi v348 v349
  let c1_i32_42 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v48 : BitVec 32 := Scalar.subi c1_i32_42 v8
  let c1_i32_293 : BitVec 32 := 1#32
  let v351 : BitVec 32 := Scalar.muli v48 c1_i32_293
  let v352 : BitVec 32 := Scalar.addi v350 v351
  v352.toNat
def k0_dev21 (d0 : Dev nD) : Nat :=
  let c0_i32_302 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_301 : BitVec 32 := 4#32
  let v361 : BitVec 32 := Scalar.muli v2 c4_i32_301
  let v362 : BitVec 32 := Scalar.addi c0_i32_302 v361
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_303 : BitVec 32 := 2#32
  let v363 : BitVec 32 := Scalar.muli v5 c2_i32_303
  let v364 : BitVec 32 := Scalar.addi v362 v363
  let c1_i32_44 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v50 : BitVec 32 := Scalar.subi c1_i32_44 v8
  let c1_i32_304 : BitVec 32 := 1#32
  let v365 : BitVec 32 := Scalar.muli v50 c1_i32_304
  let v366 : BitVec 32 := Scalar.addi v364 v365
  v366.toNat
def k0_dev22 (d0 : Dev nD) : Nat :=
  let c0_i32_313 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_312 : BitVec 32 := 4#32
  let v375 : BitVec 32 := Scalar.muli v2 c4_i32_312
  let v376 : BitVec 32 := Scalar.addi c0_i32_313 v375
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_314 : BitVec 32 := 2#32
  let v377 : BitVec 32 := Scalar.muli v5 c2_i32_314
  let v378 : BitVec 32 := Scalar.addi v376 v377
  let c1_i32_46 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v52 : BitVec 32 := Scalar.subi c1_i32_46 v8
  let c1_i32_315 : BitVec 32 := 1#32
  let v379 : BitVec 32 := Scalar.muli v52 c1_i32_315
  let v380 : BitVec 32 := Scalar.addi v378 v379
  v380.toNat
def k0_dev23 (d0 : Dev nD) : Nat :=
  let c0_i32_324 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_323 : BitVec 32 := 4#32
  let v389 : BitVec 32 := Scalar.muli v2 c4_i32_323
  let v390 : BitVec 32 := Scalar.addi c0_i32_324 v389
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_325 : BitVec 32 := 2#32
  let v391 : BitVec 32 := Scalar.muli v5 c2_i32_325
  let v392 : BitVec 32 := Scalar.addi v390 v391
  let c1_i32_48 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v54 : BitVec 32 := Scalar.subi c1_i32_48 v8
  let c1_i32_326 : BitVec 32 := 1#32
  let v393 : BitVec 32 := Scalar.muli v54 c1_i32_326
  let v394 : BitVec 32 := Scalar.addi v392 v393
  v394.toNat
def k0_dev24 (d0 : Dev nD) : Nat :=
  let c0_i32_335 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_334 : BitVec 32 := 4#32
  let v403 : BitVec 32 := Scalar.muli v2 c4_i32_334
  let v404 : BitVec 32 := Scalar.addi c0_i32_335 v403
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_336 : BitVec 32 := 2#32
  let v405 : BitVec 32 := Scalar.muli v5 c2_i32_336
  let v406 : BitVec 32 := Scalar.addi v404 v405
  let c1_i32_50 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v56 : BitVec 32 := Scalar.subi c1_i32_50 v8
  let c1_i32_337 : BitVec 32 := 1#32
  let v407 : BitVec 32 := Scalar.muli v56 c1_i32_337
  let v408 : BitVec 32 := Scalar.addi v406 v407
  v408.toNat
def k0_dev25 (d0 : Dev nD) : Nat :=
  let c0_i32_346 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_345 : BitVec 32 := 4#32
  let v417 : BitVec 32 := Scalar.muli v2 c4_i32_345
  let v418 : BitVec 32 := Scalar.addi c0_i32_346 v417
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_347 : BitVec 32 := 2#32
  let v419 : BitVec 32 := Scalar.muli v5 c2_i32_347
  let v420 : BitVec 32 := Scalar.addi v418 v419
  let c1_i32_52 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v58 : BitVec 32 := Scalar.subi c1_i32_52 v8
  let c1_i32_348 : BitVec 32 := 1#32
  let v421 : BitVec 32 := Scalar.muli v58 c1_i32_348
  let v422 : BitVec 32 := Scalar.addi v420 v421
  v422.toNat
def k0_dev26 (d0 : Dev nD) : Nat :=
  let c0_i32_357 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_356 : BitVec 32 := 4#32
  let v431 : BitVec 32 := Scalar.muli v2 c4_i32_356
  let v432 : BitVec 32 := Scalar.addi c0_i32_357 v431
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_358 : BitVec 32 := 2#32
  let v433 : BitVec 32 := Scalar.muli v5 c2_i32_358
  let v434 : BitVec 32 := Scalar.addi v432 v433
  let c1_i32_54 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v60 : BitVec 32 := Scalar.subi c1_i32_54 v8
  let c1_i32_359 : BitVec 32 := 1#32
  let v435 : BitVec 32 := Scalar.muli v60 c1_i32_359
  let v436 : BitVec 32 := Scalar.addi v434 v435
  v436.toNat
def k0_dev27 (d0 : Dev nD) : Nat :=
  let c0_i32_368 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_367 : BitVec 32 := 4#32
  let v445 : BitVec 32 := Scalar.muli v2 c4_i32_367
  let v446 : BitVec 32 := Scalar.addi c0_i32_368 v445
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_369 : BitVec 32 := 2#32
  let v447 : BitVec 32 := Scalar.muli v5 c2_i32_369
  let v448 : BitVec 32 := Scalar.addi v446 v447
  let c1_i32_56 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v62 : BitVec 32 := Scalar.subi c1_i32_56 v8
  let c1_i32_370 : BitVec 32 := 1#32
  let v449 : BitVec 32 := Scalar.muli v62 c1_i32_370
  let v450 : BitVec 32 := Scalar.addi v448 v449
  v450.toNat
def k0_dev28 (d0 : Dev nD) : Nat :=
  let c0_i32_379 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_378 : BitVec 32 := 4#32
  let v459 : BitVec 32 := Scalar.muli v2 c4_i32_378
  let v460 : BitVec 32 := Scalar.addi c0_i32_379 v459
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_380 : BitVec 32 := 2#32
  let v461 : BitVec 32 := Scalar.muli v5 c2_i32_380
  let v462 : BitVec 32 := Scalar.addi v460 v461
  let c1_i32_58 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v64 : BitVec 32 := Scalar.subi c1_i32_58 v8
  let c1_i32_381 : BitVec 32 := 1#32
  let v463 : BitVec 32 := Scalar.muli v64 c1_i32_381
  let v464 : BitVec 32 := Scalar.addi v462 v463
  v464.toNat
def k0_dev29 (d0 : Dev nD) : Nat :=
  let c0_i32_390 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_389 : BitVec 32 := 4#32
  let v473 : BitVec 32 := Scalar.muli v2 c4_i32_389
  let v474 : BitVec 32 := Scalar.addi c0_i32_390 v473
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_391 : BitVec 32 := 2#32
  let v475 : BitVec 32 := Scalar.muli v5 c2_i32_391
  let v476 : BitVec 32 := Scalar.addi v474 v475
  let c1_i32_60 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v66 : BitVec 32 := Scalar.subi c1_i32_60 v8
  let c1_i32_392 : BitVec 32 := 1#32
  let v477 : BitVec 32 := Scalar.muli v66 c1_i32_392
  let v478 : BitVec 32 := Scalar.addi v476 v477
  v478.toNat
def k0_dev30 (d0 : Dev nD) : Nat :=
  let c0_i32_401 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_400 : BitVec 32 := 4#32
  let v487 : BitVec 32 := Scalar.muli v2 c4_i32_400
  let v488 : BitVec 32 := Scalar.addi c0_i32_401 v487
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_402 : BitVec 32 := 2#32
  let v489 : BitVec 32 := Scalar.muli v5 c2_i32_402
  let v490 : BitVec 32 := Scalar.addi v488 v489
  let c1_i32_62 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v68 : BitVec 32 := Scalar.subi c1_i32_62 v8
  let c1_i32_403 : BitVec 32 := 1#32
  let v491 : BitVec 32 := Scalar.muli v68 c1_i32_403
  let v492 : BitVec 32 := Scalar.addi v490 v491
  v492.toNat
def k0_dev31 (d0 : Dev nD) : Nat :=
  let c0_i32_412 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_411 : BitVec 32 := 4#32
  let v501 : BitVec 32 := Scalar.muli v2 c4_i32_411
  let v502 : BitVec 32 := Scalar.addi c0_i32_412 v501
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_413 : BitVec 32 := 2#32
  let v503 : BitVec 32 := Scalar.muli v5 c2_i32_413
  let v504 : BitVec 32 := Scalar.addi v502 v503
  let c1_i32_64 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v70 : BitVec 32 := Scalar.subi c1_i32_64 v8
  let c1_i32_414 : BitVec 32 := 1#32
  let v505 : BitVec 32 := Scalar.muli v70 c1_i32_414
  let v506 : BitVec 32 := Scalar.addi v504 v505
  v506.toNat
def k0_dev32 (d0 : Dev nD) : Nat :=
  let c0_i32_423 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_422 : BitVec 32 := 4#32
  let v515 : BitVec 32 := Scalar.muli v2 c4_i32_422
  let v516 : BitVec 32 := Scalar.addi c0_i32_423 v515
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_424 : BitVec 32 := 2#32
  let v517 : BitVec 32 := Scalar.muli v5 c2_i32_424
  let v518 : BitVec 32 := Scalar.addi v516 v517
  let c1_i32_66 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v72 : BitVec 32 := Scalar.subi c1_i32_66 v8
  let c1_i32_425 : BitVec 32 := 1#32
  let v519 : BitVec 32 := Scalar.muli v72 c1_i32_425
  let v520 : BitVec 32 := Scalar.addi v518 v519
  v520.toNat
def k0_dev33 (d0 : Dev nD) : Nat :=
  let c0_i32_434 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_433 : BitVec 32 := 4#32
  let v529 : BitVec 32 := Scalar.muli v2 c4_i32_433
  let v530 : BitVec 32 := Scalar.addi c0_i32_434 v529
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_435 : BitVec 32 := 2#32
  let v531 : BitVec 32 := Scalar.muli v5 c2_i32_435
  let v532 : BitVec 32 := Scalar.addi v530 v531
  let c1_i32_68 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v74 : BitVec 32 := Scalar.subi c1_i32_68 v8
  let c1_i32_436 : BitVec 32 := 1#32
  let v533 : BitVec 32 := Scalar.muli v74 c1_i32_436
  let v534 : BitVec 32 := Scalar.addi v532 v533
  v534.toNat
def k0_dev34 (d0 : Dev nD) : Nat :=
  let c0_i32_445 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_444 : BitVec 32 := 4#32
  let v543 : BitVec 32 := Scalar.muli v2 c4_i32_444
  let v544 : BitVec 32 := Scalar.addi c0_i32_445 v543
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_446 : BitVec 32 := 2#32
  let v545 : BitVec 32 := Scalar.muli v5 c2_i32_446
  let v546 : BitVec 32 := Scalar.addi v544 v545
  let c1_i32_70 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v76 : BitVec 32 := Scalar.subi c1_i32_70 v8
  let c1_i32_447 : BitVec 32 := 1#32
  let v547 : BitVec 32 := Scalar.muli v76 c1_i32_447
  let v548 : BitVec 32 := Scalar.addi v546 v547
  v548.toNat
def k0_dev35 (d0 : Dev nD) : Nat :=
  let c0_i32_456 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_455 : BitVec 32 := 4#32
  let v557 : BitVec 32 := Scalar.muli v2 c4_i32_455
  let v558 : BitVec 32 := Scalar.addi c0_i32_456 v557
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_457 : BitVec 32 := 2#32
  let v559 : BitVec 32 := Scalar.muli v5 c2_i32_457
  let v560 : BitVec 32 := Scalar.addi v558 v559
  let c1_i32_72 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v78 : BitVec 32 := Scalar.subi c1_i32_72 v8
  let c1_i32_458 : BitVec 32 := 1#32
  let v561 : BitVec 32 := Scalar.muli v78 c1_i32_458
  let v562 : BitVec 32 := Scalar.addi v560 v561
  v562.toNat
def k0_dev36 (d0 : Dev nD) : Nat :=
  let c0_i32_467 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_466 : BitVec 32 := 4#32
  let v571 : BitVec 32 := Scalar.muli v2 c4_i32_466
  let v572 : BitVec 32 := Scalar.addi c0_i32_467 v571
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_468 : BitVec 32 := 2#32
  let v573 : BitVec 32 := Scalar.muli v5 c2_i32_468
  let v574 : BitVec 32 := Scalar.addi v572 v573
  let c1_i32_74 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v80 : BitVec 32 := Scalar.subi c1_i32_74 v8
  let c1_i32_469 : BitVec 32 := 1#32
  let v575 : BitVec 32 := Scalar.muli v80 c1_i32_469
  let v576 : BitVec 32 := Scalar.addi v574 v575
  v576.toNat
-- ==== SiblingIdeal.lean ====
abbrev S4x2x240x128 : Shape := ⟨4, ![4, 2, 240, 128]⟩
abbrev S4x2x512x704 : Shape := ⟨4, ![4, 2, 512, 704]⟩
abbrev S4x2x352x1024 : Shape := ⟨4, ![4, 2, 352, 1024]⟩
abbrev S4x2x128x1024 : Shape := ⟨4, ![4, 2, 128, 1024]⟩
abbrev S4x240x128 : Shape := ⟨3, ![4, 240, 128]⟩
abbrev S4x512x704 : Shape := ⟨3, ![4, 512, 704]⟩
abbrev S4x352x1024 : Shape := ⟨3, ![4, 352, 1024]⟩
abbrev S4x128x1024 : Shape := ⟨3, ![4, 128, 1024]⟩
abbrev S36 : Shape := ⟨1, ![36]⟩
abbrev S1 : Shape := ⟨1, ![1]⟩
abbrev S_ : Shape := ⟨0, ![]⟩
abbrev S1x240x128 : Shape := ⟨3, ![1, 240, 128]⟩
abbrev S240x128 : Shape := ⟨2, ![240, 128]⟩
abbrev S1x1x240x128 : Shape := ⟨4, ![1, 1, 240, 128]⟩
abbrev S1x512x704 : Shape := ⟨3, ![1, 512, 704]⟩
abbrev S512x704 : Shape := ⟨2, ![512, 704]⟩
abbrev S1x1x512x704 : Shape := ⟨4, ![1, 1, 512, 704]⟩
abbrev S1x352x1024 : Shape := ⟨3, ![1, 352, 1024]⟩
abbrev S352x1024 : Shape := ⟨2, ![352, 1024]⟩
abbrev S1x1x352x1024 : Shape := ⟨4, ![1, 1, 352, 1024]⟩
abbrev S1x128x1024 : Shape := ⟨3, ![1, 128, 1024]⟩
abbrev S128x1024 : Shape := ⟨2, ![128, 1024]⟩
abbrev S1x1x128x1024 : Shape := ⟨4, ![1, 1, 128, 1024]⟩

abbrev nBuf : Space → Nat
  | .hbm => 18
  | .vmem => 0
  | .smem => 0
  | _ => 0

abbrev bufTy : (tb : Table) → Fin (tcTables nBuf tb) → BufTy
  | .hbm, ⟨0, _⟩ => ⟨S4x2x240x128, .f32⟩
  | .hbm, ⟨1, _⟩ => ⟨S4x2x512x704, .f32⟩
  | .hbm, ⟨2, _⟩ => ⟨S4x2x512x704, .f32⟩
  | .hbm, ⟨3, _⟩ => ⟨S4x2x352x1024, .f32⟩
  | .hbm, ⟨4, _⟩ => ⟨S4x2x128x1024, .f32⟩
  | .hbm, ⟨5, _⟩ => ⟨S4x2x128x1024, .f32⟩
  | .hbm, ⟨6, _⟩ => ⟨S4x2x512x704, .f32⟩
  | .hbm, ⟨7, _⟩ => ⟨S4x2x512x704, .f32⟩
  | .hbm, ⟨8, _⟩ => ⟨S4x2x352x1024, .f32⟩
  | .hbm, ⟨9, _⟩ => ⟨S4x240x128, .f32⟩
  | .hbm, ⟨10, _⟩ => ⟨S4x512x704, .f32⟩
  | .hbm, ⟨11, _⟩ => ⟨S4x512x704, .f32⟩
  | .hbm, ⟨12, _⟩ => ⟨S4x352x1024, .f32⟩
  | .hbm, ⟨13, _⟩ => ⟨S4x128x1024, .f32⟩
  | .hbm, ⟨14, _⟩ => ⟨S4x128x1024, .f32⟩
  | .hbm, ⟨15, _⟩ => ⟨S4x512x704, .f32⟩
  | .hbm, ⟨16, _⟩ => ⟨S4x512x704, .f32⟩
  | .hbm, ⟨17, _⟩ => ⟨S4x352x1024, .f32⟩
  | _, _ => ⟨S4x2x240x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev main_v1_4 : Ref sig .tc := ⟨.hbm, 13, rfl⟩
abbrev main_v1_5 : Ref sig .tc := ⟨.hbm, 14, rfl⟩
abbrev main_v1_6 : Ref sig .tc := ⟨.hbm, 15, rfl⟩
abbrev main_v1_7 : Ref sig .tc := ⟨.hbm, 16, rfl⟩
abbrev main_v1_8 : Ref sig .tc := ⟨.hbm, 17, rfl⟩

abbrev nD : Nat := 8
abbrev τ : Topo := Topo.v7x

variable {F : FTy → Type} [FloatOps F]

abbrev grid0 : Pipeline.Grid := .none

def k0_off1 (d0 : Dev nD) : Fin 4 → Nat :=
  let c0_i32 : BitVec 32 := 0#32
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c0_i32_84 : BitVec 32 := 0#32
  let c0_i32_85 : BitVec 32 := 0#32
  ![0, v9.toNat, 0, 0]
def k0_dev1 (d0 : Dev nD) : Nat :=
  let c0_i32_79 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_78 : BitVec 32 := 4#32
  let v81 : BitVec 32 := Scalar.muli v2 c4_i32_78
  let v82 : BitVec 32 := Scalar.addi c0_i32_79 v81
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_80 : BitVec 32 := 2#32
  let v83 : BitVec 32 := Scalar.muli v5 c2_i32_80
  let v84 : BitVec 32 := Scalar.addi v82 v83
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_81 : BitVec 32 := 1#32
  let v85 : BitVec 32 := Scalar.muli v10 c1_i32_81
  let v86 : BitVec 32 := Scalar.addi v84 v85
  v86.toNat
def k0_off2 (d0 : Dev nD) : Fin 4 → Nat :=
  let c1_i32_86 : BitVec 32 := 1#32
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c0_i32_96 : BitVec 32 := 0#32
  let c0_i32_97 : BitVec 32 := 0#32
  ![1, v11.toNat, 0, 0]
def k0_dev2 (d0 : Dev nD) : Nat :=
  let c0_i32_91 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_90 : BitVec 32 := 4#32
  let v95 : BitVec 32 := Scalar.muli v2 c4_i32_90
  let v96 : BitVec 32 := Scalar.addi c0_i32_91 v95
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_92 : BitVec 32 := 2#32
  let v97 : BitVec 32 := Scalar.muli v5 c2_i32_92
  let v98 : BitVec 32 := Scalar.addi v96 v97
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_6 v8
  let c1_i32_93 : BitVec 32 := 1#32
  let v99 : BitVec 32 := Scalar.muli v12 c1_i32_93
  let v100 : BitVec 32 := Scalar.addi v98 v99
  v100.toNat
def k0_off3 (d0 : Dev nD) : Fin 4 → Nat :=
  let c2_i32_98 : BitVec 32 := 2#32
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_7 v8
  let c0_i32_108 : BitVec 32 := 0#32
  let c0_i32_109 : BitVec 32 := 0#32
  ![2, v13.toNat, 0, 0]
def k0_dev3 (d0 : Dev nD) : Nat :=
  let c0_i32_103 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_102 : BitVec 32 := 4#32
  let v109 : BitVec 32 := Scalar.muli v2 c4_i32_102
  let v110 : BitVec 32 := Scalar.addi c0_i32_103 v109
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_104 : BitVec 32 := 2#32
  let v111 : BitVec 32 := Scalar.muli v5 c2_i32_104
  let v112 : BitVec 32 := Scalar.addi v110 v111
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.subi c1_i32_8 v8
  let c1_i32_105 : BitVec 32 := 1#32
  let v113 : BitVec 32 := Scalar.muli v14 c1_i32_105
  let v114 : BitVec 32 := Scalar.addi v112 v113
  v114.toNat
def k0_off4 (d0 : Dev nD) : Fin 4 → Nat :=
  let c3_i32 : BitVec 32 := 3#32
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_9 v8
  let c0_i32_119 : BitVec 32 := 0#32
  let c0_i32_120 : BitVec 32 := 0#32
  ![3, v15.toNat, 0, 0]
def k0_dev4 (d0 : Dev nD) : Nat :=
  let c0_i32_114 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_113 : BitVec 32 := 4#32
  let v123 : BitVec 32 := Scalar.muli v2 c4_i32_113
  let v124 : BitVec 32 := Scalar.addi c0_i32_114 v123
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_115 : BitVec 32 := 2#32
  let v125 : BitVec 32 := Scalar.muli v5 c2_i32_115
  let v126 : BitVec 32 := Scalar.addi v124 v125
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.subi c1_i32_10 v8
  let c1_i32_116 : BitVec 32 := 1#32
  let v127 : BitVec 32 := Scalar.muli v16 c1_i32_116
  let v128 : BitVec 32 := Scalar.addi v126 v127
  v128.toNat
def k0_off5 (d0 : Dev nD) : Fin 4 → Nat :=
  let c0_i32_121 : BitVec 32 := 0#32
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_11 v8
  let c0_i32_131 : BitVec 32 := 0#32
  let c0_i32_132 : BitVec 32 := 0#32
  ![0, v17.toNat, 0, 0]
def k0_dev5 (d0 : Dev nD) : Nat :=
  let c0_i32_126 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_125 : BitVec 32 := 4#32
  let v137 : BitVec 32 := Scalar.muli v2 c4_i32_125
  let v138 : BitVec 32 := Scalar.addi c0_i32_126 v137
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_127 : BitVec 32 := 2#32
  let v139 : BitVec 32 := Scalar.muli v5 c2_i32_127
  let v140 : BitVec 32 := Scalar.addi v138 v139
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_12 v8
  let c1_i32_128 : BitVec 32 := 1#32
  let v141 : BitVec 32 := Scalar.muli v18 c1_i32_128
  let v142 : BitVec 32 := Scalar.addi v140 v141
  v142.toNat
def k0_off6 (d0 : Dev nD) : Fin 4 → Nat :=
  let c1_i32_133 : BitVec 32 := 1#32
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_13 v8
  let c0_i32_142 : BitVec 32 := 0#32
  let c0_i32_143 : BitVec 32 := 0#32
  ![1, v19.toNat, 0, 0]
def k0_dev6 (d0 : Dev nD) : Nat :=
  let c0_i32_137 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_136 : BitVec 32 := 4#32
  let v151 : BitVec 32 := Scalar.muli v2 c4_i32_136
  let v152 : BitVec 32 := Scalar.addi c0_i32_137 v151
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_138 : BitVec 32 := 2#32
  let v153 : BitVec 32 := Scalar.muli v5 c2_i32_138
  let v154 : BitVec 32 := Scalar.addi v152 v153
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_14 v8
  let c1_i32_139 : BitVec 32 := 1#32
  let v155 : BitVec 32 := Scalar.muli v20 c1_i32_139
  let v156 : BitVec 32 := Scalar.addi v154 v155
  v156.toNat
def k0_off7 (d0 : Dev nD) : Fin 4 → Nat :=
  let c2_i32_144 : BitVec 32 := 2#32
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_15 v8
  let c0_i32_153 : BitVec 32 := 0#32
  let c0_i32_154 : BitVec 32 := 0#32
  ![2, v21.toNat, 0, 0]
def k0_dev7 (d0 : Dev nD) : Nat :=
  let c0_i32_148 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_147 : BitVec 32 := 4#32
  let v165 : BitVec 32 := Scalar.muli v2 c4_i32_147
  let v166 : BitVec 32 := Scalar.addi c0_i32_148 v165
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_149 : BitVec 32 := 2#32
  let v167 : BitVec 32 := Scalar.muli v5 c2_i32_149
  let v168 : BitVec 32 := Scalar.addi v166 v167
  let c1_i32_16 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_16 v8
  let c1_i32_150 : BitVec 32 := 1#32
  let v169 : BitVec 32 := Scalar.muli v22 c1_i32_150
  let v170 : BitVec 32 := Scalar.addi v168 v169
  v170.toNat
def k0_off8 (d0 : Dev nD) : Fin 4 → Nat :=
  let c3_i32_155 : BitVec 32 := 3#32
  let c1_i32_17 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v23 : BitVec 32 := Scalar.subi c1_i32_17 v8
  let c0_i32_164 : BitVec 32 := 0#32
  let c0_i32_165 : BitVec 32 := 0#32
  ![3, v23.toNat, 0, 0]
def k0_dev8 (d0 : Dev nD) : Nat :=
  let c0_i32_159 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_158 : BitVec 32 := 4#32
  let v179 : BitVec 32 := Scalar.muli v2 c4_i32_158
  let v180 : BitVec 32 := Scalar.addi c0_i32_159 v179
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_160 : BitVec 32 := 2#32
  let v181 : BitVec 32 := Scalar.muli v5 c2_i32_160
  let v182 : BitVec 32 := Scalar.addi v180 v181
  let c1_i32_18 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_18 v8
  let c1_i32_161 : BitVec 32 := 1#32
  let v183 : BitVec 32 := Scalar.muli v24 c1_i32_161
  let v184 : BitVec 32 := Scalar.addi v182 v183
  v184.toNat
def k0_dev9 (d0 : Dev nD) : Nat :=
  let c0_i32_170 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_169 : BitVec 32 := 4#32
  let v193 : BitVec 32 := Scalar.muli v2 c4_i32_169
  let v194 : BitVec 32 := Scalar.addi c0_i32_170 v193
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_171 : BitVec 32 := 2#32
  let v195 : BitVec 32 := Scalar.muli v5 c2_i32_171
  let v196 : BitVec 32 := Scalar.addi v194 v195
  let c1_i32_20 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v26 : BitVec 32 := Scalar.subi c1_i32_20 v8
  let c1_i32_172 : BitVec 32 := 1#32
  let v197 : BitVec 32 := Scalar.muli v26 c1_i32_172
  let v198 : BitVec 32 := Scalar.addi v196 v197
  v198.toNat
def k0_dev10 (d0 : Dev nD) : Nat :=
  let c0_i32_181 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_180 : BitVec 32 := 4#32
  let v207 : BitVec 32 := Scalar.muli v2 c4_i32_180
  let v208 : BitVec 32 := Scalar.addi c0_i32_181 v207
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_182 : BitVec 32 := 2#32
  let v209 : BitVec 32 := Scalar.muli v5 c2_i32_182
  let v210 : BitVec 32 := Scalar.addi v208 v209
  let c1_i32_22 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v28 : BitVec 32 := Scalar.subi c1_i32_22 v8
  let c1_i32_183 : BitVec 32 := 1#32
  let v211 : BitVec 32 := Scalar.muli v28 c1_i32_183
  let v212 : BitVec 32 := Scalar.addi v210 v211
  v212.toNat
def k0_dev11 (d0 : Dev nD) : Nat :=
  let c0_i32_192 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_191 : BitVec 32 := 4#32
  let v221 : BitVec 32 := Scalar.muli v2 c4_i32_191
  let v222 : BitVec 32 := Scalar.addi c0_i32_192 v221
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_193 : BitVec 32 := 2#32
  let v223 : BitVec 32 := Scalar.muli v5 c2_i32_193
  let v224 : BitVec 32 := Scalar.addi v222 v223
  let c1_i32_24 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v30 : BitVec 32 := Scalar.subi c1_i32_24 v8
  let c1_i32_194 : BitVec 32 := 1#32
  let v225 : BitVec 32 := Scalar.muli v30 c1_i32_194
  let v226 : BitVec 32 := Scalar.addi v224 v225
  v226.toNat
def k0_dev12 (d0 : Dev nD) : Nat :=
  let c0_i32_203 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_202 : BitVec 32 := 4#32
  let v235 : BitVec 32 := Scalar.muli v2 c4_i32_202
  let v236 : BitVec 32 := Scalar.addi c0_i32_203 v235
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_204 : BitVec 32 := 2#32
  let v237 : BitVec 32 := Scalar.muli v5 c2_i32_204
  let v238 : BitVec 32 := Scalar.addi v236 v237
  let c1_i32_26 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.subi c1_i32_26 v8
  let c1_i32_205 : BitVec 32 := 1#32
  let v239 : BitVec 32 := Scalar.muli v32 c1_i32_205
  let v240 : BitVec 32 := Scalar.addi v238 v239
  v240.toNat
def k0_off9 (d0 : Dev nD) : Fin 4 → Nat :=
  let c0_i32_210 : BitVec 32 := 0#32
  let c1_i32_27 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v33 : BitVec 32 := Scalar.subi c1_i32_27 v8
  let c0_i32_219 : BitVec 32 := 0#32
  let c0_i32_220 : BitVec 32 := 0#32
  ![0, v33.toNat, 0, 0]
def k0_dev13 (d0 : Dev nD) : Nat :=
  let c0_i32_214 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_213 : BitVec 32 := 4#32
  let v249 : BitVec 32 := Scalar.muli v2 c4_i32_213
  let v250 : BitVec 32 := Scalar.addi c0_i32_214 v249
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_215 : BitVec 32 := 2#32
  let v251 : BitVec 32 := Scalar.muli v5 c2_i32_215
  let v252 : BitVec 32 := Scalar.addi v250 v251
  let c1_i32_28 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v34 : BitVec 32 := Scalar.subi c1_i32_28 v8
  let c1_i32_216 : BitVec 32 := 1#32
  let v253 : BitVec 32 := Scalar.muli v34 c1_i32_216
  let v254 : BitVec 32 := Scalar.addi v252 v253
  v254.toNat
def k0_off10 (d0 : Dev nD) : Fin 4 → Nat :=
  let c1_i32_221 : BitVec 32 := 1#32
  let c1_i32_29 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.subi c1_i32_29 v8
  let c0_i32_230 : BitVec 32 := 0#32
  let c0_i32_231 : BitVec 32 := 0#32
  ![1, v35.toNat, 0, 0]
def k0_dev14 (d0 : Dev nD) : Nat :=
  let c0_i32_225 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_224 : BitVec 32 := 4#32
  let v263 : BitVec 32 := Scalar.muli v2 c4_i32_224
  let v264 : BitVec 32 := Scalar.addi c0_i32_225 v263
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_226 : BitVec 32 := 2#32
  let v265 : BitVec 32 := Scalar.muli v5 c2_i32_226
  let v266 : BitVec 32 := Scalar.addi v264 v265
  let c1_i32_30 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v36 : BitVec 32 := Scalar.subi c1_i32_30 v8
  let c1_i32_227 : BitVec 32 := 1#32
  let v267 : BitVec 32 := Scalar.muli v36 c1_i32_227
  let v268 : BitVec 32 := Scalar.addi v266 v267
  v268.toNat
def k0_off11 (d0 : Dev nD) : Fin 4 → Nat :=
  let c2_i32_232 : BitVec 32 := 2#32
  let c1_i32_31 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.subi c1_i32_31 v8
  let c0_i32_241 : BitVec 32 := 0#32
  let c0_i32_242 : BitVec 32 := 0#32
  ![2, v37.toNat, 0, 0]
def k0_dev15 (d0 : Dev nD) : Nat :=
  let c0_i32_236 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_235 : BitVec 32 := 4#32
  let v277 : BitVec 32 := Scalar.muli v2 c4_i32_235
  let v278 : BitVec 32 := Scalar.addi c0_i32_236 v277
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_237 : BitVec 32 := 2#32
  let v279 : BitVec 32 := Scalar.muli v5 c2_i32_237
  let v280 : BitVec 32 := Scalar.addi v278 v279
  let c1_i32_32 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v38 : BitVec 32 := Scalar.subi c1_i32_32 v8
  let c1_i32_238 : BitVec 32 := 1#32
  let v281 : BitVec 32 := Scalar.muli v38 c1_i32_238
  let v282 : BitVec 32 := Scalar.addi v280 v281
  v282.toNat
def k0_off12 (d0 : Dev nD) : Fin 4 → Nat :=
  let c3_i32_243 : BitVec 32 := 3#32
  let c1_i32_33 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v39 : BitVec 32 := Scalar.subi c1_i32_33 v8
  let c0_i32_252 : BitVec 32 := 0#32
  let c0_i32_253 : BitVec 32 := 0#32
  ![3, v39.toNat, 0, 0]
def k0_dev16 (d0 : Dev nD) : Nat :=
  let c0_i32_247 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_246 : BitVec 32 := 4#32
  let v291 : BitVec 32 := Scalar.muli v2 c4_i32_246
  let v292 : BitVec 32 := Scalar.addi c0_i32_247 v291
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_248 : BitVec 32 := 2#32
  let v293 : BitVec 32 := Scalar.muli v5 c2_i32_248
  let v294 : BitVec 32 := Scalar.addi v292 v293
  let c1_i32_34 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v40 : BitVec 32 := Scalar.subi c1_i32_34 v8
  let c1_i32_249 : BitVec 32 := 1#32
  let v295 : BitVec 32 := Scalar.muli v40 c1_i32_249
  let v296 : BitVec 32 := Scalar.addi v294 v295
  v296.toNat
def k0_off13 (d0 : Dev nD) : Fin 4 → Nat :=
  let c0_i32_254 : BitVec 32 := 0#32
  let c1_i32_35 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v41 : BitVec 32 := Scalar.subi c1_i32_35 v8
  let c0_i32_263 : BitVec 32 := 0#32
  let c0_i32_264 : BitVec 32 := 0#32
  ![0, v41.toNat, 0, 0]
def k0_dev17 (d0 : Dev nD) : Nat :=
  let c0_i32_258 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_257 : BitVec 32 := 4#32
  let v305 : BitVec 32 := Scalar.muli v2 c4_i32_257
  let v306 : BitVec 32 := Scalar.addi c0_i32_258 v305
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_259 : BitVec 32 := 2#32
  let v307 : BitVec 32 := Scalar.muli v5 c2_i32_259
  let v308 : BitVec 32 := Scalar.addi v306 v307
  let c1_i32_36 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v42 : BitVec 32 := Scalar.subi c1_i32_36 v8
  let c1_i32_260 : BitVec 32 := 1#32
  let v309 : BitVec 32 := Scalar.muli v42 c1_i32_260
  let v310 : BitVec 32 := Scalar.addi v308 v309
  v310.toNat
def k0_off14 (d0 : Dev nD) : Fin 4 → Nat :=
  let c1_i32_265 : BitVec 32 := 1#32
  let c1_i32_37 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v43 : BitVec 32 := Scalar.subi c1_i32_37 v8
  let c0_i32_274 : BitVec 32 := 0#32
  let c0_i32_275 : BitVec 32 := 0#32
  ![1, v43.toNat, 0, 0]
def k0_dev18 (d0 : Dev nD) : Nat :=
  let c0_i32_269 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_268 : BitVec 32 := 4#32
  let v319 : BitVec 32 := Scalar.muli v2 c4_i32_268
  let v320 : BitVec 32 := Scalar.addi c0_i32_269 v319
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_270 : BitVec 32 := 2#32
  let v321 : BitVec 32 := Scalar.muli v5 c2_i32_270
  let v322 : BitVec 32 := Scalar.addi v320 v321
  let c1_i32_38 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v44 : BitVec 32 := Scalar.subi c1_i32_38 v8
  let c1_i32_271 : BitVec 32 := 1#32
  let v323 : BitVec 32 := Scalar.muli v44 c1_i32_271
  let v324 : BitVec 32 := Scalar.addi v322 v323
  v324.toNat
def k0_off15 (d0 : Dev nD) : Fin 4 → Nat :=
  let c2_i32_276 : BitVec 32 := 2#32
  let c1_i32_39 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v45 : BitVec 32 := Scalar.subi c1_i32_39 v8
  let c0_i32_285 : BitVec 32 := 0#32
  let c0_i32_286 : BitVec 32 := 0#32
  ![2, v45.toNat, 0, 0]
def k0_dev19 (d0 : Dev nD) : Nat :=
  let c0_i32_280 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_279 : BitVec 32 := 4#32
  let v333 : BitVec 32 := Scalar.muli v2 c4_i32_279
  let v334 : BitVec 32 := Scalar.addi c0_i32_280 v333
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_281 : BitVec 32 := 2#32
  let v335 : BitVec 32 := Scalar.muli v5 c2_i32_281
  let v336 : BitVec 32 := Scalar.addi v334 v335
  let c1_i32_40 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v46 : BitVec 32 := Scalar.subi c1_i32_40 v8
  let c1_i32_282 : BitVec 32 := 1#32
  let v337 : BitVec 32 := Scalar.muli v46 c1_i32_282
  let v338 : BitVec 32 := Scalar.addi v336 v337
  v338.toNat
def k0_off16 (d0 : Dev nD) : Fin 4 → Nat :=
  let c3_i32_287 : BitVec 32 := 3#32
  let c1_i32_41 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v47 : BitVec 32 := Scalar.subi c1_i32_41 v8
  let c0_i32_296 : BitVec 32 := 0#32
  let c0_i32_297 : BitVec 32 := 0#32
  ![3, v47.toNat, 0, 0]
def k0_dev20 (d0 : Dev nD) : Nat :=
  let c0_i32_291 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_290 : BitVec 32 := 4#32
  let v347 : BitVec 32 := Scalar.muli v2 c4_i32_290
  let v348 : BitVec 32 := Scalar.addi c0_i32_291 v347
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_292 : BitVec 32 := 2#32
  let v349 : BitVec 32 := Scalar.muli v5 c2_i32_292
  let v350 : BitVec 32 := Scalar.addi v348 v349
  let c1_i32_42 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v48 : BitVec 32 := Scalar.subi c1_i32_42 v8
  let c1_i32_293 : BitVec 32 := 1#32
  let v351 : BitVec 32 := Scalar.muli v48 c1_i32_293
  let v352 : BitVec 32 := Scalar.addi v350 v351
  v352.toNat
def k0_dev21 (d0 : Dev nD) : Nat :=
  let c0_i32_302 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_301 : BitVec 32 := 4#32
  let v361 : BitVec 32 := Scalar.muli v2 c4_i32_301
  let v362 : BitVec 32 := Scalar.addi c0_i32_302 v361
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_303 : BitVec 32 := 2#32
  let v363 : BitVec 32 := Scalar.muli v5 c2_i32_303
  let v364 : BitVec 32 := Scalar.addi v362 v363
  let c1_i32_44 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v50 : BitVec 32 := Scalar.subi c1_i32_44 v8
  let c1_i32_304 : BitVec 32 := 1#32
  let v365 : BitVec 32 := Scalar.muli v50 c1_i32_304
  let v366 : BitVec 32 := Scalar.addi v364 v365
  v366.toNat
def k0_dev22 (d0 : Dev nD) : Nat :=
  let c0_i32_313 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_312 : BitVec 32 := 4#32
  let v375 : BitVec 32 := Scalar.muli v2 c4_i32_312
  let v376 : BitVec 32 := Scalar.addi c0_i32_313 v375
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_314 : BitVec 32 := 2#32
  let v377 : BitVec 32 := Scalar.muli v5 c2_i32_314
  let v378 : BitVec 32 := Scalar.addi v376 v377
  let c1_i32_46 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v52 : BitVec 32 := Scalar.subi c1_i32_46 v8
  let c1_i32_315 : BitVec 32 := 1#32
  let v379 : BitVec 32 := Scalar.muli v52 c1_i32_315
  let v380 : BitVec 32 := Scalar.addi v378 v379
  v380.toNat
def k0_dev23 (d0 : Dev nD) : Nat :=
  let c0_i32_324 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_323 : BitVec 32 := 4#32
  let v389 : BitVec 32 := Scalar.muli v2 c4_i32_323
  let v390 : BitVec 32 := Scalar.addi c0_i32_324 v389
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_325 : BitVec 32 := 2#32
  let v391 : BitVec 32 := Scalar.muli v5 c2_i32_325
  let v392 : BitVec 32 := Scalar.addi v390 v391
  let c1_i32_48 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v54 : BitVec 32 := Scalar.subi c1_i32_48 v8
  let c1_i32_326 : BitVec 32 := 1#32
  let v393 : BitVec 32 := Scalar.muli v54 c1_i32_326
  let v394 : BitVec 32 := Scalar.addi v392 v393
  v394.toNat
def k0_dev24 (d0 : Dev nD) : Nat :=
  let c0_i32_335 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_334 : BitVec 32 := 4#32
  let v403 : BitVec 32 := Scalar.muli v2 c4_i32_334
  let v404 : BitVec 32 := Scalar.addi c0_i32_335 v403
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_336 : BitVec 32 := 2#32
  let v405 : BitVec 32 := Scalar.muli v5 c2_i32_336
  let v406 : BitVec 32 := Scalar.addi v404 v405
  let c1_i32_50 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v56 : BitVec 32 := Scalar.subi c1_i32_50 v8
  let c1_i32_337 : BitVec 32 := 1#32
  let v407 : BitVec 32 := Scalar.muli v56 c1_i32_337
  let v408 : BitVec 32 := Scalar.addi v406 v407
  v408.toNat
def k0_dev25 (d0 : Dev nD) : Nat :=
  let c0_i32_346 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_345 : BitVec 32 := 4#32
  let v417 : BitVec 32 := Scalar.muli v2 c4_i32_345
  let v418 : BitVec 32 := Scalar.addi c0_i32_346 v417
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_347 : BitVec 32 := 2#32
  let v419 : BitVec 32 := Scalar.muli v5 c2_i32_347
  let v420 : BitVec 32 := Scalar.addi v418 v419
  let c1_i32_52 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v58 : BitVec 32 := Scalar.subi c1_i32_52 v8
  let c1_i32_348 : BitVec 32 := 1#32
  let v421 : BitVec 32 := Scalar.muli v58 c1_i32_348
  let v422 : BitVec 32 := Scalar.addi v420 v421
  v422.toNat
def k0_dev26 (d0 : Dev nD) : Nat :=
  let c0_i32_357 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_356 : BitVec 32 := 4#32
  let v431 : BitVec 32 := Scalar.muli v2 c4_i32_356
  let v432 : BitVec 32 := Scalar.addi c0_i32_357 v431
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_358 : BitVec 32 := 2#32
  let v433 : BitVec 32 := Scalar.muli v5 c2_i32_358
  let v434 : BitVec 32 := Scalar.addi v432 v433
  let c1_i32_54 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v60 : BitVec 32 := Scalar.subi c1_i32_54 v8
  let c1_i32_359 : BitVec 32 := 1#32
  let v435 : BitVec 32 := Scalar.muli v60 c1_i32_359
  let v436 : BitVec 32 := Scalar.addi v434 v435
  v436.toNat
def k0_dev27 (d0 : Dev nD) : Nat :=
  let c0_i32_368 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_367 : BitVec 32 := 4#32
  let v445 : BitVec 32 := Scalar.muli v2 c4_i32_367
  let v446 : BitVec 32 := Scalar.addi c0_i32_368 v445
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_369 : BitVec 32 := 2#32
  let v447 : BitVec 32 := Scalar.muli v5 c2_i32_369
  let v448 : BitVec 32 := Scalar.addi v446 v447
  let c1_i32_56 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v62 : BitVec 32 := Scalar.subi c1_i32_56 v8
  let c1_i32_370 : BitVec 32 := 1#32
  let v449 : BitVec 32 := Scalar.muli v62 c1_i32_370
  let v450 : BitVec 32 := Scalar.addi v448 v449
  v450.toNat
def k0_dev28 (d0 : Dev nD) : Nat :=
  let c0_i32_379 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_378 : BitVec 32 := 4#32
  let v459 : BitVec 32 := Scalar.muli v2 c4_i32_378
  let v460 : BitVec 32 := Scalar.addi c0_i32_379 v459
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_380 : BitVec 32 := 2#32
  let v461 : BitVec 32 := Scalar.muli v5 c2_i32_380
  let v462 : BitVec 32 := Scalar.addi v460 v461
  let c1_i32_58 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v64 : BitVec 32 := Scalar.subi c1_i32_58 v8
  let c1_i32_381 : BitVec 32 := 1#32
  let v463 : BitVec 32 := Scalar.muli v64 c1_i32_381
  let v464 : BitVec 32 := Scalar.addi v462 v463
  v464.toNat
def k0_dev29 (d0 : Dev nD) : Nat :=
  let c0_i32_390 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_389 : BitVec 32 := 4#32
  let v473 : BitVec 32 := Scalar.muli v2 c4_i32_389
  let v474 : BitVec 32 := Scalar.addi c0_i32_390 v473
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_391 : BitVec 32 := 2#32
  let v475 : BitVec 32 := Scalar.muli v5 c2_i32_391
  let v476 : BitVec 32 := Scalar.addi v474 v475
  let c1_i32_60 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v66 : BitVec 32 := Scalar.subi c1_i32_60 v8
  let c1_i32_392 : BitVec 32 := 1#32
  let v477 : BitVec 32 := Scalar.muli v66 c1_i32_392
  let v478 : BitVec 32 := Scalar.addi v476 v477
  v478.toNat
def k0_dev30 (d0 : Dev nD) : Nat :=
  let c0_i32_401 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_400 : BitVec 32 := 4#32
  let v487 : BitVec 32 := Scalar.muli v2 c4_i32_400
  let v488 : BitVec 32 := Scalar.addi c0_i32_401 v487
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_402 : BitVec 32 := 2#32
  let v489 : BitVec 32 := Scalar.muli v5 c2_i32_402
  let v490 : BitVec 32 := Scalar.addi v488 v489
  let c1_i32_62 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v68 : BitVec 32 := Scalar.subi c1_i32_62 v8
  let c1_i32_403 : BitVec 32 := 1#32
  let v491 : BitVec 32 := Scalar.muli v68 c1_i32_403
  let v492 : BitVec 32 := Scalar.addi v490 v491
  v492.toNat
def k0_dev31 (d0 : Dev nD) : Nat :=
  let c0_i32_412 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_411 : BitVec 32 := 4#32
  let v501 : BitVec 32 := Scalar.muli v2 c4_i32_411
  let v502 : BitVec 32 := Scalar.addi c0_i32_412 v501
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_413 : BitVec 32 := 2#32
  let v503 : BitVec 32 := Scalar.muli v5 c2_i32_413
  let v504 : BitVec 32 := Scalar.addi v502 v503
  let c1_i32_64 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v70 : BitVec 32 := Scalar.subi c1_i32_64 v8
  let c1_i32_414 : BitVec 32 := 1#32
  let v505 : BitVec 32 := Scalar.muli v70 c1_i32_414
  let v506 : BitVec 32 := Scalar.addi v504 v505
  v506.toNat
def k0_dev32 (d0 : Dev nD) : Nat :=
  let c0_i32_423 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_422 : BitVec 32 := 4#32
  let v515 : BitVec 32 := Scalar.muli v2 c4_i32_422
  let v516 : BitVec 32 := Scalar.addi c0_i32_423 v515
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_424 : BitVec 32 := 2#32
  let v517 : BitVec 32 := Scalar.muli v5 c2_i32_424
  let v518 : BitVec 32 := Scalar.addi v516 v517
  let c1_i32_66 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v72 : BitVec 32 := Scalar.subi c1_i32_66 v8
  let c1_i32_425 : BitVec 32 := 1#32
  let v519 : BitVec 32 := Scalar.muli v72 c1_i32_425
  let v520 : BitVec 32 := Scalar.addi v518 v519
  v520.toNat
def k0_dev33 (d0 : Dev nD) : Nat :=
  let c0_i32_434 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_433 : BitVec 32 := 4#32
  let v529 : BitVec 32 := Scalar.muli v2 c4_i32_433
  let v530 : BitVec 32 := Scalar.addi c0_i32_434 v529
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_435 : BitVec 32 := 2#32
  let v531 : BitVec 32 := Scalar.muli v5 c2_i32_435
  let v532 : BitVec 32 := Scalar.addi v530 v531
  let c1_i32_68 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v74 : BitVec 32 := Scalar.subi c1_i32_68 v8
  let c1_i32_436 : BitVec 32 := 1#32
  let v533 : BitVec 32 := Scalar.muli v74 c1_i32_436
  let v534 : BitVec 32 := Scalar.addi v532 v533
  v534.toNat
def k0_dev34 (d0 : Dev nD) : Nat :=
  let c0_i32_445 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_444 : BitVec 32 := 4#32
  let v543 : BitVec 32 := Scalar.muli v2 c4_i32_444
  let v544 : BitVec 32 := Scalar.addi c0_i32_445 v543
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_446 : BitVec 32 := 2#32
  let v545 : BitVec 32 := Scalar.muli v5 c2_i32_446
  let v546 : BitVec 32 := Scalar.addi v544 v545
  let c1_i32_70 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v76 : BitVec 32 := Scalar.subi c1_i32_70 v8
  let c1_i32_447 : BitVec 32 := 1#32
  let v547 : BitVec 32 := Scalar.muli v76 c1_i32_447
  let v548 : BitVec 32 := Scalar.addi v546 v547
  v548.toNat
def k0_dev35 (d0 : Dev nD) : Nat :=
  let c0_i32_456 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_455 : BitVec 32 := 4#32
  let v557 : BitVec 32 := Scalar.muli v2 c4_i32_455
  let v558 : BitVec 32 := Scalar.addi c0_i32_456 v557
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_457 : BitVec 32 := 2#32
  let v559 : BitVec 32 := Scalar.muli v5 c2_i32_457
  let v560 : BitVec 32 := Scalar.addi v558 v559
  let c1_i32_72 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v78 : BitVec 32 := Scalar.subi c1_i32_72 v8
  let c1_i32_458 : BitVec 32 := 1#32
  let v561 : BitVec 32 := Scalar.muli v78 c1_i32_458
  let v562 : BitVec 32 := Scalar.addi v560 v561
  v562.toNat
def k0_dev36 (d0 : Dev nD) : Nat :=
  let c0_i32_467 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_466 : BitVec 32 := 4#32
  let v571 : BitVec 32 := Scalar.muli v2 c4_i32_466
  let v572 : BitVec 32 := Scalar.addi c0_i32_467 v571
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_468 : BitVec 32 := 2#32
  let v573 : BitVec 32 := Scalar.muli v5 c2_i32_468
  let v574 : BitVec 32 := Scalar.addi v572 v573
  let c1_i32_74 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v80 : BitVec 32 := Scalar.subi c1_i32_74 v8
  let c1_i32_469 : BitVec 32 := 1#32
  let v575 : BitVec 32 := Scalar.muli v80 c1_i32_469
  let v576 : BitVec 32 := Scalar.addi v574 v575
  v576.toNat
-- ==== SiblingRef.lean ====
abbrev S32x2x240x128 : Shape := ⟨4, ![32, 2, 240, 128]⟩
abbrev S32x2x512x704 : Shape := ⟨4, ![32, 2, 512, 704]⟩
abbrev S32x2x352x1024 : Shape := ⟨4, ![32, 2, 352, 1024]⟩
abbrev S32x2x128x1024 : Shape := ⟨4, ![32, 2, 128, 1024]⟩
abbrev S4x2x4x2x240x128 : Shape := ⟨6, ![4, 2, 4, 2, 240, 128]⟩
abbrev S4x1x4x1x240x128 : Shape := ⟨6, ![4, 1, 4, 1, 240, 128]⟩
abbrev S4x4x240x128 : Shape := ⟨4, ![4, 4, 240, 128]⟩
abbrev S4x1x4x240x128 : Shape := ⟨5, ![4, 1, 4, 240, 128]⟩
abbrev S4x2x4x240x128 : Shape := ⟨5, ![4, 2, 4, 240, 128]⟩
abbrev S32x240x128 : Shape := ⟨3, ![32, 240, 128]⟩
abbrev S4x2x4x2x512x704 : Shape := ⟨6, ![4, 2, 4, 2, 512, 704]⟩
abbrev S4x1x4x1x512x704 : Shape := ⟨6, ![4, 1, 4, 1, 512, 704]⟩
abbrev S4x4x512x704 : Shape := ⟨4, ![4, 4, 512, 704]⟩
abbrev S4x1x4x512x704 : Shape := ⟨5, ![4, 1, 4, 512, 704]⟩
abbrev S4x2x4x512x704 : Shape := ⟨5, ![4, 2, 4, 512, 704]⟩
abbrev S32x512x704 : Shape := ⟨3, ![32, 512, 704]⟩
abbrev S4x2x4x2x352x1024 : Shape := ⟨6, ![4, 2, 4, 2, 352, 1024]⟩
abbrev S4x1x4x1x352x1024 : Shape := ⟨6, ![4, 1, 4, 1, 352, 1024]⟩
abbrev S4x4x352x1024 : Shape := ⟨4, ![4, 4, 352, 1024]⟩
abbrev S4x1x4x352x1024 : Shape := ⟨5, ![4, 1, 4, 352, 1024]⟩
abbrev S4x2x4x352x1024 : Shape := ⟨5, ![4, 2, 4, 352, 1024]⟩
abbrev S32x352x1024 : Shape := ⟨3, ![32, 352, 1024]⟩
abbrev S4x2x4x2x128x1024 : Shape := ⟨6, ![4, 2, 4, 2, 128, 1024]⟩
abbrev S4x1x4x1x128x1024 : Shape := ⟨6, ![4, 1, 4, 1, 128, 1024]⟩
abbrev S4x4x128x1024 : Shape := ⟨4, ![4, 4, 128, 1024]⟩
abbrev S4x1x4x128x1024 : Shape := ⟨5, ![4, 1, 4, 128, 1024]⟩
abbrev S4x2x4x128x1024 : Shape := ⟨5, ![4, 2, 4, 128, 1024]⟩
abbrev S32x128x1024 : Shape := ⟨3, ![32, 128, 1024]⟩

abbrev nBuf : Space → Nat
  | .hbm => 90
  | .vmem => 0
  | .smem => 0
  | _ => 0

abbrev bufTy : (tb : Table) → Fin (tcTables nBuf tb) → BufTy
  | .hbm, ⟨0, _⟩ => ⟨S32x2x240x128, .f32⟩
  | .hbm, ⟨1, _⟩ => ⟨S32x2x512x704, .f32⟩
  | .hbm, ⟨2, _⟩ => ⟨S32x2x512x704, .f32⟩
  | .hbm, ⟨3, _⟩ => ⟨S32x2x352x1024, .f32⟩
  | .hbm, ⟨4, _⟩ => ⟨S32x2x128x1024, .f32⟩
  | .hbm, ⟨5, _⟩ => ⟨S32x2x128x1024, .f32⟩
  | .hbm, ⟨6, _⟩ => ⟨S32x2x512x704, .f32⟩
  | .hbm, ⟨7, _⟩ => ⟨S32x2x512x704, .f32⟩
  | .hbm, ⟨8, _⟩ => ⟨S32x2x352x1024, .f32⟩
  | .hbm, ⟨9, _⟩ => ⟨S4x2x4x2x240x128, .f32⟩
  | .hbm, ⟨10, _⟩ => ⟨S4x1x4x1x240x128, .f32⟩
  | .hbm, ⟨11, _⟩ => ⟨S4x4x240x128, .f32⟩
  | .hbm, ⟨12, _⟩ => ⟨S4x1x4x1x240x128, .f32⟩
  | .hbm, ⟨13, _⟩ => ⟨S4x4x240x128, .f32⟩
  | .hbm, ⟨14, _⟩ => ⟨S4x1x4x240x128, .f32⟩
  | .hbm, ⟨15, _⟩ => ⟨S4x1x4x240x128, .f32⟩
  | .hbm, ⟨16, _⟩ => ⟨S4x2x4x240x128, .f32⟩
  | .hbm, ⟨17, _⟩ => ⟨S32x240x128, .f32⟩
  | .hbm, ⟨18, _⟩ => ⟨S4x2x4x2x512x704, .f32⟩
  | .hbm, ⟨19, _⟩ => ⟨S4x1x4x1x512x704, .f32⟩
  | .hbm, ⟨20, _⟩ => ⟨S4x4x512x704, .f32⟩
  | .hbm, ⟨21, _⟩ => ⟨S4x1x4x1x512x704, .f32⟩
  | .hbm, ⟨22, _⟩ => ⟨S4x4x512x704, .f32⟩
  | .hbm, ⟨23, _⟩ => ⟨S4x1x4x512x704, .f32⟩
  | .hbm, ⟨24, _⟩ => ⟨S4x1x4x512x704, .f32⟩
  | .hbm, ⟨25, _⟩ => ⟨S4x2x4x512x704, .f32⟩
  | .hbm, ⟨26, _⟩ => ⟨S32x512x704, .f32⟩
  | .hbm, ⟨27, _⟩ => ⟨S4x2x4x2x512x704, .f32⟩
  | .hbm, ⟨28, _⟩ => ⟨S4x1x4x1x512x704, .f32⟩
  | .hbm, ⟨29, _⟩ => ⟨S4x4x512x704, .f32⟩
  | .hbm, ⟨30, _⟩ => ⟨S4x1x4x1x512x704, .f32⟩
  | .hbm, ⟨31, _⟩ => ⟨S4x4x512x704, .f32⟩
  | .hbm, ⟨32, _⟩ => ⟨S4x1x4x512x704, .f32⟩
  | .hbm, ⟨33, _⟩ => ⟨S4x1x4x512x704, .f32⟩
  | .hbm, ⟨34, _⟩ => ⟨S4x2x4x512x704, .f32⟩
  | .hbm, ⟨35, _⟩ => ⟨S32x512x704, .f32⟩
  | .hbm, ⟨36, _⟩ => ⟨S4x2x4x2x352x1024, .f32⟩
  | .hbm, ⟨37, _⟩ => ⟨S4x1x4x1x352x1024, .f32⟩
  | .hbm, ⟨38, _⟩ => ⟨S4x4x352x1024, .f32⟩
  | .hbm, ⟨39, _⟩ => ⟨S4x1x4x1x352x1024, .f32⟩
  | .hbm, ⟨40, _⟩ => ⟨S4x4x352x1024, .f32⟩
  | .hbm, ⟨41, _⟩ => ⟨S4x1x4x352x1024, .f32⟩
  | .hbm, ⟨42, _⟩ => ⟨S4x1x4x352x1024, .f32⟩
  | .hbm, ⟨43, _⟩ => ⟨S4x2x4x352x1024, .f32⟩
  | .hbm, ⟨44, _⟩ => ⟨S32x352x1024, .f32⟩
  | .hbm, ⟨45, _⟩ => ⟨S4x2x4x2x128x1024, .f32⟩
  | .hbm, ⟨46, _⟩ => ⟨S4x1x4x1x128x1024, .f32⟩
  | .hbm, ⟨47, _⟩ => ⟨S4x4x128x1024, .f32⟩
  | .hbm, ⟨48, _⟩ => ⟨S4x1x4x1x128x1024, .f32⟩
  | .hbm, ⟨49, _⟩ => ⟨S4x4x128x1024, .f32⟩
  | .hbm, ⟨50, _⟩ => ⟨S4x1x4x128x1024, .f32⟩
  | .hbm, ⟨51, _⟩ => ⟨S4x1x4x128x1024, .f32⟩
  | .hbm, ⟨52, _⟩ => ⟨S4x2x4x128x1024, .f32⟩
  | .hbm, ⟨53, _⟩ => ⟨S32x128x1024, .f32⟩
  | .hbm, ⟨54, _⟩ => ⟨S4x2x4x2x128x1024, .f32⟩
  | .hbm, ⟨55, _⟩ => ⟨S4x1x4x1x128x1024, .f32⟩
  | .hbm, ⟨56, _⟩ => ⟨S4x4x128x1024, .f32⟩
  | .hbm, ⟨57, _⟩ => ⟨S4x1x4x1x128x1024, .f32⟩
  | .hbm, ⟨58, _⟩ => ⟨S4x4x128x1024, .f32⟩
  | .hbm, ⟨59, _⟩ => ⟨S4x1x4x128x1024, .f32⟩
  | .hbm, ⟨60, _⟩ => ⟨S4x1x4x128x1024, .f32⟩
  | .hbm, ⟨61, _⟩ => ⟨S4x2x4x128x1024, .f32⟩
  | .hbm, ⟨62, _⟩ => ⟨S32x128x1024, .f32⟩
  | .hbm, ⟨63, _⟩ => ⟨S4x2x4x2x512x704, .f32⟩
  | .hbm, ⟨64, _⟩ => ⟨S4x1x4x1x512x704, .f32⟩
  | .hbm, ⟨65, _⟩ => ⟨S4x4x512x704, .f32⟩
  | .hbm, ⟨66, _⟩ => ⟨S4x1x4x1x512x704, .f32⟩
  | .hbm, ⟨67, _⟩ => ⟨S4x4x512x704, .f32⟩
  | .hbm, ⟨68, _⟩ => ⟨S4x1x4x512x704, .f32⟩
  | .hbm, ⟨69, _⟩ => ⟨S4x1x4x512x704, .f32⟩
  | .hbm, ⟨70, _⟩ => ⟨S4x2x4x512x704, .f32⟩
  | .hbm, ⟨71, _⟩ => ⟨S32x512x704, .f32⟩
  | .hbm, ⟨72, _⟩ => ⟨S4x2x4x2x512x704, .f32⟩
  | .hbm, ⟨73, _⟩ => ⟨S4x1x4x1x512x704, .f32⟩
  | .hbm, ⟨74, _⟩ => ⟨S4x4x512x704, .f32⟩
  | .hbm, ⟨75, _⟩ => ⟨S4x1x4x1x512x704, .f32⟩
  | .hbm, ⟨76, _⟩ => ⟨S4x4x512x704, .f32⟩
  | .hbm, ⟨77, _⟩ => ⟨S4x1x4x512x704, .f32⟩
  | .hbm, ⟨78, _⟩ => ⟨S4x1x4x512x704, .f32⟩
  | .hbm, ⟨79, _⟩ => ⟨S4x2x4x512x704, .f32⟩
  | .hbm, ⟨80, _⟩ => ⟨S32x512x704, .f32⟩
  | .hbm, ⟨81, _⟩ => ⟨S4x2x4x2x352x1024, .f32⟩
  | .hbm, ⟨82, _⟩ => ⟨S4x1x4x1x352x1024, .f32⟩
  | .hbm, ⟨83, _⟩ => ⟨S4x4x352x1024, .f32⟩
  | .hbm, ⟨84, _⟩ => ⟨S4x1x4x1x352x1024, .f32⟩
  | .hbm, ⟨85, _⟩ => ⟨S4x4x352x1024, .f32⟩
  | .hbm, ⟨86, _⟩ => ⟨S4x1x4x352x1024, .f32⟩
  | .hbm, ⟨87, _⟩ => ⟨S4x1x4x352x1024, .f32⟩
  | .hbm, ⟨88, _⟩ => ⟨S4x2x4x352x1024, .f32⟩
  | .hbm, ⟨89, _⟩ => ⟨S32x352x1024, .f32⟩
  | _, _ => ⟨S32x2x240x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩

abbrev nD : Nat := 1
abbrev τ : Topo := Topo.v7x

variable {F : FTy → Type} [FloatOps F]
-- ==== Chips.lean ====
abbrev S4x240x128 : Shape := ⟨3, ![4, 240, 128]⟩
abbrev S4x512x704 : Shape := ⟨3, ![4, 512, 704]⟩
abbrev S4x352x1024 : Shape := ⟨3, ![4, 352, 1024]⟩
abbrev S4x128x1024 : Shape := ⟨3, ![4, 128, 1024]⟩
abbrev S3x240x128 : Shape := ⟨3, ![3, 240, 128]⟩
abbrev S3x512x704 : Shape := ⟨3, ![3, 512, 704]⟩
abbrev S3x352x1024 : Shape := ⟨3, ![3, 352, 1024]⟩
abbrev S3x128x1024 : Shape := ⟨3, ![3, 128, 1024]⟩
abbrev S27 : Shape := ⟨1, ![27]⟩
abbrev S1 : Shape := ⟨1, ![1]⟩
abbrev S_ : Shape := ⟨0, ![]⟩
abbrev S1x240x128 : Shape := ⟨3, ![1, 240, 128]⟩
abbrev S240x128 : Shape := ⟨2, ![240, 128]⟩
abbrev S1x512x704 : Shape := ⟨3, ![1, 512, 704]⟩
abbrev S512x704 : Shape := ⟨2, ![512, 704]⟩
abbrev S1x352x1024 : Shape := ⟨3, ![1, 352, 1024]⟩
abbrev S352x1024 : Shape := ⟨2, ![352, 1024]⟩
abbrev S1x128x1024 : Shape := ⟨3, ![1, 128, 1024]⟩
abbrev S128x1024 : Shape := ⟨2, ![128, 1024]⟩

abbrev nBuf : Space → Nat
  | .hbm => 18
  | .vmem => 0
  | .smem => 0
  | _ => 0

abbrev bufTy : (tb : Table) → Fin (tcTables nBuf tb) → BufTy
  | .hbm, ⟨0, _⟩ => ⟨S4x240x128, .f32⟩
  | .hbm, ⟨1, _⟩ => ⟨S4x512x704, .f32⟩
  | .hbm, ⟨2, _⟩ => ⟨S4x512x704, .f32⟩
  | .hbm, ⟨3, _⟩ => ⟨S4x352x1024, .f32⟩
  | .hbm, ⟨4, _⟩ => ⟨S4x128x1024, .f32⟩
  | .hbm, ⟨5, _⟩ => ⟨S4x128x1024, .f32⟩
  | .hbm, ⟨6, _⟩ => ⟨S4x512x704, .f32⟩
  | .hbm, ⟨7, _⟩ => ⟨S4x512x704, .f32⟩
  | .hbm, ⟨8, _⟩ => ⟨S4x352x1024, .f32⟩
  | .hbm, ⟨9, _⟩ => ⟨S3x240x128, .f32⟩
  | .hbm, ⟨10, _⟩ => ⟨S3x512x704, .f32⟩
  | .hbm, ⟨11, _⟩ => ⟨S3x512x704, .f32⟩
  | .hbm, ⟨12, _⟩ => ⟨S3x352x1024, .f32⟩
  | .hbm, ⟨13, _⟩ => ⟨S3x128x1024, .f32⟩
  | .hbm, ⟨14, _⟩ => ⟨S3x128x1024, .f32⟩
  | .hbm, ⟨15, _⟩ => ⟨S3x512x704, .f32⟩
  | .hbm, ⟨16, _⟩ => ⟨S3x512x704, .f32⟩
  | .hbm, ⟨17, _⟩ => ⟨S3x352x1024, .f32⟩
  | _, _ => ⟨S4x240x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev main_v1_4 : Ref sig .tc := ⟨.hbm, 13, rfl⟩
abbrev main_v1_5 : Ref sig .tc := ⟨.hbm, 14, rfl⟩
abbrev main_v1_6 : Ref sig .tc := ⟨.hbm, 15, rfl⟩
abbrev main_v1_7 : Ref sig .tc := ⟨.hbm, 16, rfl⟩
abbrev main_v1_8 : Ref sig .tc := ⟨.hbm, 17, rfl⟩

abbrev nD : Nat := 8
abbrev τ : Topo := Topo.v7x

variable {F : FTy → Type} [FloatOps F]

abbrev grid0 : Pipeline.Grid := .none

def k0_off1 (d0 : Dev nD) : Fin 3 → Nat :=
  let c2_i32_7 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v13 : BitVec 32 := Scalar.muli c2_i32_7 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32_42 : BitVec 32 := 0#32
  let c0_i32_43 : BitVec 32 := 0#32
  ![v14.toNat, 0, 0]
def k0_dev1 (d0 : Dev nD) : Nat :=
  let c0_i32_37 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_36 : BitVec 32 := 4#32
  let v67 : BitVec 32 := Scalar.muli v9 c4_i32_36
  let v68 : BitVec 32 := Scalar.addi c0_i32_37 v67
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_38 : BitVec 32 := 2#32
  let v69 : BitVec 32 := Scalar.muli v5 c2_i32_38
  let v70 : BitVec 32 := Scalar.addi v68 v69
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_39 : BitVec 32 := 1#32
  let v71 : BitVec 32 := Scalar.muli v8 c1_i32_39
  let v72 : BitVec 32 := Scalar.addi v70 v71
  v72.toNat
def k0_off2 (d0 : Dev nD) : Fin 3 → Nat :=
  let c2_i32_8 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.muli c2_i32_8 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v16 : BitVec 32 := Scalar.addi v15 v10
  let c0_i32_53 : BitVec 32 := 0#32
  let c0_i32_54 : BitVec 32 := 0#32
  ![v16.toNat, 0, 0]
def k0_dev2 (d0 : Dev nD) : Nat :=
  let c0_i32_48 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_47 : BitVec 32 := 4#32
  let v81 : BitVec 32 := Scalar.muli v2 c4_i32_47
  let v82 : BitVec 32 := Scalar.addi c0_i32_48 v81
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_49 : BitVec 32 := 2#32
  let v83 : BitVec 32 := Scalar.muli v10 c2_i32_49
  let v84 : BitVec 32 := Scalar.addi v82 v83
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_50 : BitVec 32 := 1#32
  let v85 : BitVec 32 := Scalar.muli v8 c1_i32_50
  let v86 : BitVec 32 := Scalar.addi v84 v85
  v86.toNat
def k0_off3 (d0 : Dev nD) : Fin 3 → Nat :=
  let c2_i32_9 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v17 : BitVec 32 := Scalar.muli c2_i32_9 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v18 : BitVec 32 := Scalar.addi v17 v12
  let c0_i32_64 : BitVec 32 := 0#32
  let c0_i32_65 : BitVec 32 := 0#32
  ![v18.toNat, 0, 0]
def k0_dev3 (d0 : Dev nD) : Nat :=
  let c0_i32_59 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_58 : BitVec 32 := 4#32
  let v95 : BitVec 32 := Scalar.muli v11 c4_i32_58
  let v96 : BitVec 32 := Scalar.addi c0_i32_59 v95
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_60 : BitVec 32 := 2#32
  let v97 : BitVec 32 := Scalar.muli v12 c2_i32_60
  let v98 : BitVec 32 := Scalar.addi v96 v97
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_61 : BitVec 32 := 1#32
  let v99 : BitVec 32 := Scalar.muli v8 c1_i32_61
  let v100 : BitVec 32 := Scalar.addi v98 v99
  v100.toNat
def k0_off4 (d0 : Dev nD) : Fin 3 → Nat :=
  let c2_i32_10 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v19 : BitVec 32 := Scalar.muli c2_i32_10 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.addi v19 v5
  let c0_i32_74 : BitVec 32 := 0#32
  let c0_i32_75 : BitVec 32 := 0#32
  ![v20.toNat, 0, 0]
def k0_dev4 (d0 : Dev nD) : Nat :=
  let c0_i32_69 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_68 : BitVec 32 := 4#32
  let v109 : BitVec 32 := Scalar.muli v9 c4_i32_68
  let v110 : BitVec 32 := Scalar.addi c0_i32_69 v109
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_70 : BitVec 32 := 2#32
  let v111 : BitVec 32 := Scalar.muli v5 c2_i32_70
  let v112 : BitVec 32 := Scalar.addi v110 v111
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_71 : BitVec 32 := 1#32
  let v113 : BitVec 32 := Scalar.muli v8 c1_i32_71
  let v114 : BitVec 32 := Scalar.addi v112 v113
  v114.toNat
def k0_off5 (d0 : Dev nD) : Fin 3 → Nat :=
  let c2_i32_11 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.muli c2_i32_11 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v22 : BitVec 32 := Scalar.addi v21 v10
  let c0_i32_85 : BitVec 32 := 0#32
  let c0_i32_86 : BitVec 32 := 0#32
  ![v22.toNat, 0, 0]
def k0_dev5 (d0 : Dev nD) : Nat :=
  let c0_i32_80 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_79 : BitVec 32 := 4#32
  let v123 : BitVec 32 := Scalar.muli v2 c4_i32_79
  let v124 : BitVec 32 := Scalar.addi c0_i32_80 v123
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_81 : BitVec 32 := 2#32
  let v125 : BitVec 32 := Scalar.muli v10 c2_i32_81
  let v126 : BitVec 32 := Scalar.addi v124 v125
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_82 : BitVec 32 := 1#32
  let v127 : BitVec 32 := Scalar.muli v8 c1_i32_82
  let v128 : BitVec 32 := Scalar.addi v126 v127
  v128.toNat
def k0_off6 (d0 : Dev nD) : Fin 3 → Nat :=
  let c2_i32_12 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v23 : BitVec 32 := Scalar.muli c2_i32_12 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v24 : BitVec 32 := Scalar.addi v23 v12
  let c0_i32_95 : BitVec 32 := 0#32
  let c0_i32_96 : BitVec 32 := 0#32
  ![v24.toNat, 0, 0]
def k0_dev6 (d0 : Dev nD) : Nat :=
  let c0_i32_90 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_89 : BitVec 32 := 4#32
  let v137 : BitVec 32 := Scalar.muli v11 c4_i32_89
  let v138 : BitVec 32 := Scalar.addi c0_i32_90 v137
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_91 : BitVec 32 := 2#32
  let v139 : BitVec 32 := Scalar.muli v12 c2_i32_91
  let v140 : BitVec 32 := Scalar.addi v138 v139
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_92 : BitVec 32 := 1#32
  let v141 : BitVec 32 := Scalar.muli v8 c1_i32_92
  let v142 : BitVec 32 := Scalar.addi v140 v141
  v142.toNat
def k0_dev7 (d0 : Dev nD) : Nat :=
  let c0_i32_100 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_99 : BitVec 32 := 4#32
  let v151 : BitVec 32 := Scalar.muli v9 c4_i32_99
  let v152 : BitVec 32 := Scalar.addi c0_i32_100 v151
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_101 : BitVec 32 := 2#32
  let v153 : BitVec 32 := Scalar.muli v5 c2_i32_101
  let v154 : BitVec 32 := Scalar.addi v152 v153
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_102 : BitVec 32 := 1#32
  let v155 : BitVec 32 := Scalar.muli v8 c1_i32_102
  let v156 : BitVec 32 := Scalar.addi v154 v155
  v156.toNat
def k0_dev8 (d0 : Dev nD) : Nat :=
  let c0_i32_110 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_109 : BitVec 32 := 4#32
  let v165 : BitVec 32 := Scalar.muli v2 c4_i32_109
  let v166 : BitVec 32 := Scalar.addi c0_i32_110 v165
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_111 : BitVec 32 := 2#32
  let v167 : BitVec 32 := Scalar.muli v10 c2_i32_111
  let v168 : BitVec 32 := Scalar.addi v166 v167
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_112 : BitVec 32 := 1#32
  let v169 : BitVec 32 := Scalar.muli v8 c1_i32_112
  let v170 : BitVec 32 := Scalar.addi v168 v169
  v170.toNat
def k0_dev9 (d0 : Dev nD) : Nat :=
  let c0_i32_120 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_119 : BitVec 32 := 4#32
  let v179 : BitVec 32 := Scalar.muli v11 c4_i32_119
  let v180 : BitVec 32 := Scalar.addi c0_i32_120 v179
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_121 : BitVec 32 := 2#32
  let v181 : BitVec 32 := Scalar.muli v12 c2_i32_121
  let v182 : BitVec 32 := Scalar.addi v180 v181
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_122 : BitVec 32 := 1#32
  let v183 : BitVec 32 := Scalar.muli v8 c1_i32_122
  let v184 : BitVec 32 := Scalar.addi v182 v183
  v184.toNat
def k0_off7 (d0 : Dev nD) : Fin 3 → Nat :=
  let c2_i32_16 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v31 : BitVec 32 := Scalar.muli c2_i32_16 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v32 : BitVec 32 := Scalar.addi v31 v5
  let c0_i32_135 : BitVec 32 := 0#32
  let c0_i32_136 : BitVec 32 := 0#32
  ![v32.toNat, 0, 0]
def k0_dev10 (d0 : Dev nD) : Nat :=
  let c0_i32_130 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_129 : BitVec 32 := 4#32
  let v193 : BitVec 32 := Scalar.muli v9 c4_i32_129
  let v194 : BitVec 32 := Scalar.addi c0_i32_130 v193
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_131 : BitVec 32 := 2#32
  let v195 : BitVec 32 := Scalar.muli v5 c2_i32_131
  let v196 : BitVec 32 := Scalar.addi v194 v195
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_132 : BitVec 32 := 1#32
  let v197 : BitVec 32 := Scalar.muli v8 c1_i32_132
  let v198 : BitVec 32 := Scalar.addi v196 v197
  v198.toNat
def k0_off8 (d0 : Dev nD) : Fin 3 → Nat :=
  let c2_i32_17 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v33 : BitVec 32 := Scalar.muli c2_i32_17 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v34 : BitVec 32 := Scalar.addi v33 v10
  let c0_i32_145 : BitVec 32 := 0#32
  let c0_i32_146 : BitVec 32 := 0#32
  ![v34.toNat, 0, 0]
def k0_dev11 (d0 : Dev nD) : Nat :=
  let c0_i32_140 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_139 : BitVec 32 := 4#32
  let v207 : BitVec 32 := Scalar.muli v2 c4_i32_139
  let v208 : BitVec 32 := Scalar.addi c0_i32_140 v207
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_141 : BitVec 32 := 2#32
  let v209 : BitVec 32 := Scalar.muli v10 c2_i32_141
  let v210 : BitVec 32 := Scalar.addi v208 v209
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_142 : BitVec 32 := 1#32
  let v211 : BitVec 32 := Scalar.muli v8 c1_i32_142
  let v212 : BitVec 32 := Scalar.addi v210 v211
  v212.toNat
def k0_off9 (d0 : Dev nD) : Fin 3 → Nat :=
  let c2_i32_18 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v35 : BitVec 32 := Scalar.muli c2_i32_18 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v36 : BitVec 32 := Scalar.addi v35 v12
  let c0_i32_155 : BitVec 32 := 0#32
  let c0_i32_156 : BitVec 32 := 0#32
  ![v36.toNat, 0, 0]
def k0_dev12 (d0 : Dev nD) : Nat :=
  let c0_i32_150 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_149 : BitVec 32 := 4#32
  let v221 : BitVec 32 := Scalar.muli v11 c4_i32_149
  let v222 : BitVec 32 := Scalar.addi c0_i32_150 v221
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_151 : BitVec 32 := 2#32
  let v223 : BitVec 32 := Scalar.muli v12 c2_i32_151
  let v224 : BitVec 32 := Scalar.addi v222 v223
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_152 : BitVec 32 := 1#32
  let v225 : BitVec 32 := Scalar.muli v8 c1_i32_152
  let v226 : BitVec 32 := Scalar.addi v224 v225
  v226.toNat
def k0_off10 (d0 : Dev nD) : Fin 3 → Nat :=
  let c2_i32_19 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v37 : BitVec 32 := Scalar.muli c2_i32_19 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v38 : BitVec 32 := Scalar.addi v37 v5
  let c0_i32_165 : BitVec 32 := 0#32
  let c0_i32_166 : BitVec 32 := 0#32
  ![v38.toNat, 0, 0]
def k0_dev13 (d0 : Dev nD) : Nat :=
  let c0_i32_160 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_159 : BitVec 32 := 4#32
  let v235 : BitVec 32 := Scalar.muli v9 c4_i32_159
  let v236 : BitVec 32 := Scalar.addi c0_i32_160 v235
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_161 : BitVec 32 := 2#32
  let v237 : BitVec 32 := Scalar.muli v5 c2_i32_161
  let v238 : BitVec 32 := Scalar.addi v236 v237
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_162 : BitVec 32 := 1#32
  let v239 : BitVec 32 := Scalar.muli v8 c1_i32_162
  let v240 : BitVec 32 := Scalar.addi v238 v239
  v240.toNat
def k0_off11 (d0 : Dev nD) : Fin 3 → Nat :=
  let c2_i32_20 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v39 : BitVec 32 := Scalar.muli c2_i32_20 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v40 : BitVec 32 := Scalar.addi v39 v10
  let c0_i32_175 : BitVec 32 := 0#32
  let c0_i32_176 : BitVec 32 := 0#32
  ![v40.toNat, 0, 0]
def k0_dev14 (d0 : Dev nD) : Nat :=
  let c0_i32_170 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_169 : BitVec 32 := 4#32
  let v249 : BitVec 32 := Scalar.muli v2 c4_i32_169
  let v250 : BitVec 32 := Scalar.addi c0_i32_170 v249
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_171 : BitVec 32 := 2#32
  let v251 : BitVec 32 := Scalar.muli v10 c2_i32_171
  let v252 : BitVec 32 := Scalar.addi v250 v251
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_172 : BitVec 32 := 1#32
  let v253 : BitVec 32 := Scalar.muli v8 c1_i32_172
  let v254 : BitVec 32 := Scalar.addi v252 v253
  v254.toNat
def k0_off12 (d0 : Dev nD) : Fin 3 → Nat :=
  let c2_i32_21 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v41 : BitVec 32 := Scalar.muli c2_i32_21 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v42 : BitVec 32 := Scalar.addi v41 v12
  let c0_i32_185 : BitVec 32 := 0#32
  let c0_i32_186 : BitVec 32 := 0#32
  ![v42.toNat, 0, 0]
def k0_dev15 (d0 : Dev nD) : Nat :=
  let c0_i32_180 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_179 : BitVec 32 := 4#32
  let v263 : BitVec 32 := Scalar.muli v11 c4_i32_179
  let v264 : BitVec 32 := Scalar.addi c0_i32_180 v263
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_181 : BitVec 32 := 2#32
  let v265 : BitVec 32 := Scalar.muli v12 c2_i32_181
  let v266 : BitVec 32 := Scalar.addi v264 v265
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_182 : BitVec 32 := 1#32
  let v267 : BitVec 32 := Scalar.muli v8 c1_i32_182
  let v268 : BitVec 32 := Scalar.addi v266 v267
  v268.toNat
def k0_dev16 (d0 : Dev nD) : Nat :=
  let c0_i32_190 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_189 : BitVec 32 := 4#32
  let v277 : BitVec 32 := Scalar.muli v9 c4_i32_189
  let v278 : BitVec 32 := Scalar.addi c0_i32_190 v277
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_191 : BitVec 32 := 2#32
  let v279 : BitVec 32 := Scalar.muli v5 c2_i32_191
  let v280 : BitVec 32 := Scalar.addi v278 v279
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_192 : BitVec 32 := 1#32
  let v281 : BitVec 32 := Scalar.muli v8 c1_i32_192
  let v282 : BitVec 32 := Scalar.addi v280 v281
  v282.toNat
def k0_dev17 (d0 : Dev nD) : Nat :=
  let c0_i32_200 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_199 : BitVec 32 := 4#32
  let v291 : BitVec 32 := Scalar.muli v2 c4_i32_199
  let v292 : BitVec 32 := Scalar.addi c0_i32_200 v291
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_201 : BitVec 32 := 2#32
  let v293 : BitVec 32 := Scalar.muli v10 c2_i32_201
  let v294 : BitVec 32 := Scalar.addi v292 v293
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_202 : BitVec 32 := 1#32
  let v295 : BitVec 32 := Scalar.muli v8 c1_i32_202
  let v296 : BitVec 32 := Scalar.addi v294 v295
  v296.toNat
def k0_dev18 (d0 : Dev nD) : Nat :=
  let c0_i32_210 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_209 : BitVec 32 := 4#32
  let v305 : BitVec 32 := Scalar.muli v11 c4_i32_209
  let v306 : BitVec 32 := Scalar.addi c0_i32_210 v305
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_211 : BitVec 32 := 2#32
  let v307 : BitVec 32 := Scalar.muli v12 c2_i32_211
  let v308 : BitVec 32 := Scalar.addi v306 v307
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_212 : BitVec 32 := 1#32
  let v309 : BitVec 32 := Scalar.muli v8 c1_i32_212
  let v310 : BitVec 32 := Scalar.addi v308 v309
  v310.toNat
def k0_dev19 (d0 : Dev nD) : Nat :=
  let c0_i32_220 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_219 : BitVec 32 := 4#32
  let v319 : BitVec 32 := Scalar.muli v9 c4_i32_219
  let v320 : BitVec 32 := Scalar.addi c0_i32_220 v319
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_221 : BitVec 32 := 2#32
  let v321 : BitVec 32 := Scalar.muli v5 c2_i32_221
  let v322 : BitVec 32 := Scalar.addi v320 v321
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_222 : BitVec 32 := 1#32
  let v323 : BitVec 32 := Scalar.muli v8 c1_i32_222
  let v324 : BitVec 32 := Scalar.addi v322 v323
  v324.toNat
def k0_dev20 (d0 : Dev nD) : Nat :=
  let c0_i32_230 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_229 : BitVec 32 := 4#32
  let v333 : BitVec 32 := Scalar.muli v2 c4_i32_229
  let v334 : BitVec 32 := Scalar.addi c0_i32_230 v333
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_231 : BitVec 32 := 2#32
  let v335 : BitVec 32 := Scalar.muli v10 c2_i32_231
  let v336 : BitVec 32 := Scalar.addi v334 v335
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_232 : BitVec 32 := 1#32
  let v337 : BitVec 32 := Scalar.muli v8 c1_i32_232
  let v338 : BitVec 32 := Scalar.addi v336 v337
  v338.toNat
def k0_dev21 (d0 : Dev nD) : Nat :=
  let c0_i32_240 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_239 : BitVec 32 := 4#32
  let v347 : BitVec 32 := Scalar.muli v11 c4_i32_239
  let v348 : BitVec 32 := Scalar.addi c0_i32_240 v347
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_241 : BitVec 32 := 2#32
  let v349 : BitVec 32 := Scalar.muli v12 c2_i32_241
  let v350 : BitVec 32 := Scalar.addi v348 v349
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_242 : BitVec 32 := 1#32
  let v351 : BitVec 32 := Scalar.muli v8 c1_i32_242
  let v352 : BitVec 32 := Scalar.addi v350 v351
  v352.toNat
def k0_dev22 (d0 : Dev nD) : Nat :=
  let c0_i32_250 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_249 : BitVec 32 := 4#32
  let v361 : BitVec 32 := Scalar.muli v9 c4_i32_249
  let v362 : BitVec 32 := Scalar.addi c0_i32_250 v361
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_251 : BitVec 32 := 2#32
  let v363 : BitVec 32 := Scalar.muli v5 c2_i32_251
  let v364 : BitVec 32 := Scalar.addi v362 v363
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_252 : BitVec 32 := 1#32
  let v365 : BitVec 32 := Scalar.muli v8 c1_i32_252
  let v366 : BitVec 32 := Scalar.addi v364 v365
  v366.toNat
def k0_dev23 (d0 : Dev nD) : Nat :=
  let c0_i32_260 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_259 : BitVec 32 := 4#32
  let v375 : BitVec 32 := Scalar.muli v2 c4_i32_259
  let v376 : BitVec 32 := Scalar.addi c0_i32_260 v375
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_261 : BitVec 32 := 2#32
  let v377 : BitVec 32 := Scalar.muli v10 c2_i32_261
  let v378 : BitVec 32 := Scalar.addi v376 v377
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_262 : BitVec 32 := 1#32
  let v379 : BitVec 32 := Scalar.muli v8 c1_i32_262
  let v380 : BitVec 32 := Scalar.addi v378 v379
  v380.toNat
def k0_dev24 (d0 : Dev nD) : Nat :=
  let c0_i32_270 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_269 : BitVec 32 := 4#32
  let v389 : BitVec 32 := Scalar.muli v11 c4_i32_269
  let v390 : BitVec 32 := Scalar.addi c0_i32_270 v389
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_271 : BitVec 32 := 2#32
  let v391 : BitVec 32 := Scalar.muli v12 c2_i32_271
  let v392 : BitVec 32 := Scalar.addi v390 v391
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_272 : BitVec 32 := 1#32
  let v393 : BitVec 32 := Scalar.muli v8 c1_i32_272
  let v394 : BitVec 32 := Scalar.addi v392 v393
  v394.toNat
def k0_dev25 (d0 : Dev nD) : Nat :=
  let c0_i32_280 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_279 : BitVec 32 := 4#32
  let v403 : BitVec 32 := Scalar.muli v9 c4_i32_279
  let v404 : BitVec 32 := Scalar.addi c0_i32_280 v403
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_281 : BitVec 32 := 2#32
  let v405 : BitVec 32 := Scalar.muli v5 c2_i32_281
  let v406 : BitVec 32 := Scalar.addi v404 v405
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_282 : BitVec 32 := 1#32
  let v407 : BitVec 32 := Scalar.muli v8 c1_i32_282
  let v408 : BitVec 32 := Scalar.addi v406 v407
  v408.toNat
def k0_dev26 (d0 : Dev nD) : Nat :=
  let c0_i32_290 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_289 : BitVec 32 := 4#32
  let v417 : BitVec 32 := Scalar.muli v2 c4_i32_289
  let v418 : BitVec 32 := Scalar.addi c0_i32_290 v417
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_291 : BitVec 32 := 2#32
  let v419 : BitVec 32 := Scalar.muli v10 c2_i32_291
  let v420 : BitVec 32 := Scalar.addi v418 v419
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_292 : BitVec 32 := 1#32
  let v421 : BitVec 32 := Scalar.muli v8 c1_i32_292
  let v422 : BitVec 32 := Scalar.addi v420 v421
  v422.toNat
def k0_dev27 (d0 : Dev nD) : Nat :=
  let c0_i32_300 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_299 : BitVec 32 := 4#32
  let v431 : BitVec 32 := Scalar.muli v11 c4_i32_299
  let v432 : BitVec 32 := Scalar.addi c0_i32_300 v431
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_301 : BitVec 32 := 2#32
  let v433 : BitVec 32 := Scalar.muli v12 c2_i32_301
  let v434 : BitVec 32 := Scalar.addi v432 v433
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_302 : BitVec 32 := 1#32
  let v435 : BitVec 32 := Scalar.muli v8 c1_i32_302
  let v436 : BitVec 32 := Scalar.addi v434 v435
  v436.toNat
-- ==== ChipsIdeal.lean ====
abbrev S4x240x128 : Shape := ⟨3, ![4, 240, 128]⟩
abbrev S4x512x704 : Shape := ⟨3, ![4, 512, 704]⟩
abbrev S4x352x1024 : Shape := ⟨3, ![4, 352, 1024]⟩
abbrev S4x128x1024 : Shape := ⟨3, ![4, 128, 1024]⟩
abbrev S3x240x128 : Shape := ⟨3, ![3, 240, 128]⟩
abbrev S3x512x704 : Shape := ⟨3, ![3, 512, 704]⟩
abbrev S3x352x1024 : Shape := ⟨3, ![3, 352, 1024]⟩
abbrev S3x128x1024 : Shape := ⟨3, ![3, 128, 1024]⟩
abbrev S27 : Shape := ⟨1, ![27]⟩
abbrev S1 : Shape := ⟨1, ![1]⟩
abbrev S_ : Shape := ⟨0, ![]⟩
abbrev S1x240x128 : Shape := ⟨3, ![1, 240, 128]⟩
abbrev S240x128 : Shape := ⟨2, ![240, 128]⟩
abbrev S1x512x704 : Shape := ⟨3, ![1, 512, 704]⟩
abbrev S512x704 : Shape := ⟨2, ![512, 704]⟩
abbrev S1x352x1024 : Shape := ⟨3, ![1, 352, 1024]⟩
abbrev S352x1024 : Shape := ⟨2, ![352, 1024]⟩
abbrev S1x128x1024 : Shape := ⟨3, ![1, 128, 1024]⟩
abbrev S128x1024 : Shape := ⟨2, ![128, 1024]⟩

abbrev nBuf : Space → Nat
  | .hbm => 18
  | .vmem => 0
  | .smem => 0
  | _ => 0

abbrev bufTy : (tb : Table) → Fin (tcTables nBuf tb) → BufTy
  | .hbm, ⟨0, _⟩ => ⟨S4x240x128, .f32⟩
  | .hbm, ⟨1, _⟩ => ⟨S4x512x704, .f32⟩
  | .hbm, ⟨2, _⟩ => ⟨S4x512x704, .f32⟩
  | .hbm, ⟨3, _⟩ => ⟨S4x352x1024, .f32⟩
  | .hbm, ⟨4, _⟩ => ⟨S4x128x1024, .f32⟩
  | .hbm, ⟨5, _⟩ => ⟨S4x128x1024, .f32⟩
  | .hbm, ⟨6, _⟩ => ⟨S4x512x704, .f32⟩
  | .hbm, ⟨7, _⟩ => ⟨S4x512x704, .f32⟩
  | .hbm, ⟨8, _⟩ => ⟨S4x352x1024, .f32⟩
  | .hbm, ⟨9, _⟩ => ⟨S3x240x128, .f32⟩
  | .hbm, ⟨10, _⟩ => ⟨S3x512x704, .f32⟩
  | .hbm, ⟨11, _⟩ => ⟨S3x512x704, .f32⟩
  | .hbm, ⟨12, _⟩ => ⟨S3x352x1024, .f32⟩
  | .hbm, ⟨13, _⟩ => ⟨S3x128x1024, .f32⟩
  | .hbm, ⟨14, _⟩ => ⟨S3x128x1024, .f32⟩
  | .hbm, ⟨15, _⟩ => ⟨S3x512x704, .f32⟩
  | .hbm, ⟨16, _⟩ => ⟨S3x512x704, .f32⟩
  | .hbm, ⟨17, _⟩ => ⟨S3x352x1024, .f32⟩
  | _, _ => ⟨S4x240x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev main_v1_4 : Ref sig .tc := ⟨.hbm, 13, rfl⟩
abbrev main_v1_5 : Ref sig .tc := ⟨.hbm, 14, rfl⟩
abbrev main_v1_6 : Ref sig .tc := ⟨.hbm, 15, rfl⟩
abbrev main_v1_7 : Ref sig .tc := ⟨.hbm, 16, rfl⟩
abbrev main_v1_8 : Ref sig .tc := ⟨.hbm, 17, rfl⟩

abbrev nD : Nat := 8
abbrev τ : Topo := Topo.v7x

variable {F : FTy → Type} [FloatOps F]

abbrev grid0 : Pipeline.Grid := .none

def k0_off1 (d0 : Dev nD) : Fin 3 → Nat :=
  let c2_i32_7 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v13 : BitVec 32 := Scalar.muli c2_i32_7 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32_42 : BitVec 32 := 0#32
  let c0_i32_43 : BitVec 32 := 0#32
  ![v14.toNat, 0, 0]
def k0_dev1 (d0 : Dev nD) : Nat :=
  let c0_i32_37 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_36 : BitVec 32 := 4#32
  let v67 : BitVec 32 := Scalar.muli v9 c4_i32_36
  let v68 : BitVec 32 := Scalar.addi c0_i32_37 v67
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_38 : BitVec 32 := 2#32
  let v69 : BitVec 32 := Scalar.muli v5 c2_i32_38
  let v70 : BitVec 32 := Scalar.addi v68 v69
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_39 : BitVec 32 := 1#32
  let v71 : BitVec 32 := Scalar.muli v8 c1_i32_39
  let v72 : BitVec 32 := Scalar.addi v70 v71
  v72.toNat
def k0_off2 (d0 : Dev nD) : Fin 3 → Nat :=
  let c2_i32_8 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.muli c2_i32_8 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v16 : BitVec 32 := Scalar.addi v15 v10
  let c0_i32_53 : BitVec 32 := 0#32
  let c0_i32_54 : BitVec 32 := 0#32
  ![v16.toNat, 0, 0]
def k0_dev2 (d0 : Dev nD) : Nat :=
  let c0_i32_48 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_47 : BitVec 32 := 4#32
  let v81 : BitVec 32 := Scalar.muli v2 c4_i32_47
  let v82 : BitVec 32 := Scalar.addi c0_i32_48 v81
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_49 : BitVec 32 := 2#32
  let v83 : BitVec 32 := Scalar.muli v10 c2_i32_49
  let v84 : BitVec 32 := Scalar.addi v82 v83
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_50 : BitVec 32 := 1#32
  let v85 : BitVec 32 := Scalar.muli v8 c1_i32_50
  let v86 : BitVec 32 := Scalar.addi v84 v85
  v86.toNat
def k0_off3 (d0 : Dev nD) : Fin 3 → Nat :=
  let c2_i32_9 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v17 : BitVec 32 := Scalar.muli c2_i32_9 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v18 : BitVec 32 := Scalar.addi v17 v12
  let c0_i32_64 : BitVec 32 := 0#32
  let c0_i32_65 : BitVec 32 := 0#32
  ![v18.toNat, 0, 0]
def k0_dev3 (d0 : Dev nD) : Nat :=
  let c0_i32_59 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_58 : BitVec 32 := 4#32
  let v95 : BitVec 32 := Scalar.muli v11 c4_i32_58
  let v96 : BitVec 32 := Scalar.addi c0_i32_59 v95
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_60 : BitVec 32 := 2#32
  let v97 : BitVec 32 := Scalar.muli v12 c2_i32_60
  let v98 : BitVec 32 := Scalar.addi v96 v97
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_61 : BitVec 32 := 1#32
  let v99 : BitVec 32 := Scalar.muli v8 c1_i32_61
  let v100 : BitVec 32 := Scalar.addi v98 v99
  v100.toNat
def k0_off4 (d0 : Dev nD) : Fin 3 → Nat :=
  let c2_i32_10 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v19 : BitVec 32 := Scalar.muli c2_i32_10 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.addi v19 v5
  let c0_i32_74 : BitVec 32 := 0#32
  let c0_i32_75 : BitVec 32 := 0#32
  ![v20.toNat, 0, 0]
def k0_dev4 (d0 : Dev nD) : Nat :=
  let c0_i32_69 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_68 : BitVec 32 := 4#32
  let v109 : BitVec 32 := Scalar.muli v9 c4_i32_68
  let v110 : BitVec 32 := Scalar.addi c0_i32_69 v109
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_70 : BitVec 32 := 2#32
  let v111 : BitVec 32 := Scalar.muli v5 c2_i32_70
  let v112 : BitVec 32 := Scalar.addi v110 v111
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_71 : BitVec 32 := 1#32
  let v113 : BitVec 32 := Scalar.muli v8 c1_i32_71
  let v114 : BitVec 32 := Scalar.addi v112 v113
  v114.toNat
def k0_off5 (d0 : Dev nD) : Fin 3 → Nat :=
  let c2_i32_11 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.muli c2_i32_11 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v22 : BitVec 32 := Scalar.addi v21 v10
  let c0_i32_85 : BitVec 32 := 0#32
  let c0_i32_86 : BitVec 32 := 0#32
  ![v22.toNat, 0, 0]
def k0_dev5 (d0 : Dev nD) : Nat :=
  let c0_i32_80 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_79 : BitVec 32 := 4#32
  let v123 : BitVec 32 := Scalar.muli v2 c4_i32_79
  let v124 : BitVec 32 := Scalar.addi c0_i32_80 v123
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_81 : BitVec 32 := 2#32
  let v125 : BitVec 32 := Scalar.muli v10 c2_i32_81
  let v126 : BitVec 32 := Scalar.addi v124 v125
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_82 : BitVec 32 := 1#32
  let v127 : BitVec 32 := Scalar.muli v8 c1_i32_82
  let v128 : BitVec 32 := Scalar.addi v126 v127
  v128.toNat
def k0_off6 (d0 : Dev nD) : Fin 3 → Nat :=
  let c2_i32_12 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v23 : BitVec 32 := Scalar.muli c2_i32_12 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v24 : BitVec 32 := Scalar.addi v23 v12
  let c0_i32_95 : BitVec 32 := 0#32
  let c0_i32_96 : BitVec 32 := 0#32
  ![v24.toNat, 0, 0]
def k0_dev6 (d0 : Dev nD) : Nat :=
  let c0_i32_90 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_89 : BitVec 32 := 4#32
  let v137 : BitVec 32 := Scalar.muli v11 c4_i32_89
  let v138 : BitVec 32 := Scalar.addi c0_i32_90 v137
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_91 : BitVec 32 := 2#32
  let v139 : BitVec 32 := Scalar.muli v12 c2_i32_91
  let v140 : BitVec 32 := Scalar.addi v138 v139
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_92 : BitVec 32 := 1#32
  let v141 : BitVec 32 := Scalar.muli v8 c1_i32_92
  let v142 : BitVec 32 := Scalar.addi v140 v141
  v142.toNat
def k0_dev7 (d0 : Dev nD) : Nat :=
  let c0_i32_100 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_99 : BitVec 32 := 4#32
  let v151 : BitVec 32 := Scalar.muli v9 c4_i32_99
  let v152 : BitVec 32 := Scalar.addi c0_i32_100 v151
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_101 : BitVec 32 := 2#32
  let v153 : BitVec 32 := Scalar.muli v5 c2_i32_101
  let v154 : BitVec 32 := Scalar.addi v152 v153
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_102 : BitVec 32 := 1#32
  let v155 : BitVec 32 := Scalar.muli v8 c1_i32_102
  let v156 : BitVec 32 := Scalar.addi v154 v155
  v156.toNat
def k0_dev8 (d0 : Dev nD) : Nat :=
  let c0_i32_110 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_109 : BitVec 32 := 4#32
  let v165 : BitVec 32 := Scalar.muli v2 c4_i32_109
  let v166 : BitVec 32 := Scalar.addi c0_i32_110 v165
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_111 : BitVec 32 := 2#32
  let v167 : BitVec 32 := Scalar.muli v10 c2_i32_111
  let v168 : BitVec 32 := Scalar.addi v166 v167
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_112 : BitVec 32 := 1#32
  let v169 : BitVec 32 := Scalar.muli v8 c1_i32_112
  let v170 : BitVec 32 := Scalar.addi v168 v169
  v170.toNat
def k0_dev9 (d0 : Dev nD) : Nat :=
  let c0_i32_120 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_119 : BitVec 32 := 4#32
  let v179 : BitVec 32 := Scalar.muli v11 c4_i32_119
  let v180 : BitVec 32 := Scalar.addi c0_i32_120 v179
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_121 : BitVec 32 := 2#32
  let v181 : BitVec 32 := Scalar.muli v12 c2_i32_121
  let v182 : BitVec 32 := Scalar.addi v180 v181
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_122 : BitVec 32 := 1#32
  let v183 : BitVec 32 := Scalar.muli v8 c1_i32_122
  let v184 : BitVec 32 := Scalar.addi v182 v183
  v184.toNat
def k0_off7 (d0 : Dev nD) : Fin 3 → Nat :=
  let c2_i32_16 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v31 : BitVec 32 := Scalar.muli c2_i32_16 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v32 : BitVec 32 := Scalar.addi v31 v5
  let c0_i32_135 : BitVec 32 := 0#32
  let c0_i32_136 : BitVec 32 := 0#32
  ![v32.toNat, 0, 0]
def k0_dev10 (d0 : Dev nD) : Nat :=
  let c0_i32_130 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_129 : BitVec 32 := 4#32
  let v193 : BitVec 32 := Scalar.muli v9 c4_i32_129
  let v194 : BitVec 32 := Scalar.addi c0_i32_130 v193
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_131 : BitVec 32 := 2#32
  let v195 : BitVec 32 := Scalar.muli v5 c2_i32_131
  let v196 : BitVec 32 := Scalar.addi v194 v195
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_132 : BitVec 32 := 1#32
  let v197 : BitVec 32 := Scalar.muli v8 c1_i32_132
  let v198 : BitVec 32 := Scalar.addi v196 v197
  v198.toNat
def k0_off8 (d0 : Dev nD) : Fin 3 → Nat :=
  let c2_i32_17 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v33 : BitVec 32 := Scalar.muli c2_i32_17 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v34 : BitVec 32 := Scalar.addi v33 v10
  let c0_i32_145 : BitVec 32 := 0#32
  let c0_i32_146 : BitVec 32 := 0#32
  ![v34.toNat, 0, 0]
def k0_dev11 (d0 : Dev nD) : Nat :=
  let c0_i32_140 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_139 : BitVec 32 := 4#32
  let v207 : BitVec 32 := Scalar.muli v2 c4_i32_139
  let v208 : BitVec 32 := Scalar.addi c0_i32_140 v207
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_141 : BitVec 32 := 2#32
  let v209 : BitVec 32 := Scalar.muli v10 c2_i32_141
  let v210 : BitVec 32 := Scalar.addi v208 v209
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_142 : BitVec 32 := 1#32
  let v211 : BitVec 32 := Scalar.muli v8 c1_i32_142
  let v212 : BitVec 32 := Scalar.addi v210 v211
  v212.toNat
def k0_off9 (d0 : Dev nD) : Fin 3 → Nat :=
  let c2_i32_18 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v35 : BitVec 32 := Scalar.muli c2_i32_18 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v36 : BitVec 32 := Scalar.addi v35 v12
  let c0_i32_155 : BitVec 32 := 0#32
  let c0_i32_156 : BitVec 32 := 0#32
  ![v36.toNat, 0, 0]
def k0_dev12 (d0 : Dev nD) : Nat :=
  let c0_i32_150 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_149 : BitVec 32 := 4#32
  let v221 : BitVec 32 := Scalar.muli v11 c4_i32_149
  let v222 : BitVec 32 := Scalar.addi c0_i32_150 v221
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_151 : BitVec 32 := 2#32
  let v223 : BitVec 32 := Scalar.muli v12 c2_i32_151
  let v224 : BitVec 32 := Scalar.addi v222 v223
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_152 : BitVec 32 := 1#32
  let v225 : BitVec 32 := Scalar.muli v8 c1_i32_152
  let v226 : BitVec 32 := Scalar.addi v224 v225
  v226.toNat
def k0_off10 (d0 : Dev nD) : Fin 3 → Nat :=
  let c2_i32_19 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v37 : BitVec 32 := Scalar.muli c2_i32_19 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v38 : BitVec 32 := Scalar.addi v37 v5
  let c0_i32_165 : BitVec 32 := 0#32
  let c0_i32_166 : BitVec 32 := 0#32
  ![v38.toNat, 0, 0]
def k0_dev13 (d0 : Dev nD) : Nat :=
  let c0_i32_160 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_159 : BitVec 32 := 4#32
  let v235 : BitVec 32 := Scalar.muli v9 c4_i32_159
  let v236 : BitVec 32 := Scalar.addi c0_i32_160 v235
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_161 : BitVec 32 := 2#32
  let v237 : BitVec 32 := Scalar.muli v5 c2_i32_161
  let v238 : BitVec 32 := Scalar.addi v236 v237
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_162 : BitVec 32 := 1#32
  let v239 : BitVec 32 := Scalar.muli v8 c1_i32_162
  let v240 : BitVec 32 := Scalar.addi v238 v239
  v240.toNat
def k0_off11 (d0 : Dev nD) : Fin 3 → Nat :=
  let c2_i32_20 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v39 : BitVec 32 := Scalar.muli c2_i32_20 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v40 : BitVec 32 := Scalar.addi v39 v10
  let c0_i32_175 : BitVec 32 := 0#32
  let c0_i32_176 : BitVec 32 := 0#32
  ![v40.toNat, 0, 0]
def k0_dev14 (d0 : Dev nD) : Nat :=
  let c0_i32_170 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_169 : BitVec 32 := 4#32
  let v249 : BitVec 32 := Scalar.muli v2 c4_i32_169
  let v250 : BitVec 32 := Scalar.addi c0_i32_170 v249
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_171 : BitVec 32 := 2#32
  let v251 : BitVec 32 := Scalar.muli v10 c2_i32_171
  let v252 : BitVec 32 := Scalar.addi v250 v251
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_172 : BitVec 32 := 1#32
  let v253 : BitVec 32 := Scalar.muli v8 c1_i32_172
  let v254 : BitVec 32 := Scalar.addi v252 v253
  v254.toNat
def k0_off12 (d0 : Dev nD) : Fin 3 → Nat :=
  let c2_i32_21 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v41 : BitVec 32 := Scalar.muli c2_i32_21 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v42 : BitVec 32 := Scalar.addi v41 v12
  let c0_i32_185 : BitVec 32 := 0#32
  let c0_i32_186 : BitVec 32 := 0#32
  ![v42.toNat, 0, 0]
def k0_dev15 (d0 : Dev nD) : Nat :=
  let c0_i32_180 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_179 : BitVec 32 := 4#32
  let v263 : BitVec 32 := Scalar.muli v11 c4_i32_179
  let v264 : BitVec 32 := Scalar.addi c0_i32_180 v263
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_181 : BitVec 32 := 2#32
  let v265 : BitVec 32 := Scalar.muli v12 c2_i32_181
  let v266 : BitVec 32 := Scalar.addi v264 v265
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_182 : BitVec 32 := 1#32
  let v267 : BitVec 32 := Scalar.muli v8 c1_i32_182
  let v268 : BitVec 32 := Scalar.addi v266 v267
  v268.toNat
def k0_dev16 (d0 : Dev nD) : Nat :=
  let c0_i32_190 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_189 : BitVec 32 := 4#32
  let v277 : BitVec 32 := Scalar.muli v9 c4_i32_189
  let v278 : BitVec 32 := Scalar.addi c0_i32_190 v277
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_191 : BitVec 32 := 2#32
  let v279 : BitVec 32 := Scalar.muli v5 c2_i32_191
  let v280 : BitVec 32 := Scalar.addi v278 v279
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_192 : BitVec 32 := 1#32
  let v281 : BitVec 32 := Scalar.muli v8 c1_i32_192
  let v282 : BitVec 32 := Scalar.addi v280 v281
  v282.toNat
def k0_dev17 (d0 : Dev nD) : Nat :=
  let c0_i32_200 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_199 : BitVec 32 := 4#32
  let v291 : BitVec 32 := Scalar.muli v2 c4_i32_199
  let v292 : BitVec 32 := Scalar.addi c0_i32_200 v291
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_201 : BitVec 32 := 2#32
  let v293 : BitVec 32 := Scalar.muli v10 c2_i32_201
  let v294 : BitVec 32 := Scalar.addi v292 v293
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_202 : BitVec 32 := 1#32
  let v295 : BitVec 32 := Scalar.muli v8 c1_i32_202
  let v296 : BitVec 32 := Scalar.addi v294 v295
  v296.toNat
def k0_dev18 (d0 : Dev nD) : Nat :=
  let c0_i32_210 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_209 : BitVec 32 := 4#32
  let v305 : BitVec 32 := Scalar.muli v11 c4_i32_209
  let v306 : BitVec 32 := Scalar.addi c0_i32_210 v305
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_211 : BitVec 32 := 2#32
  let v307 : BitVec 32 := Scalar.muli v12 c2_i32_211
  let v308 : BitVec 32 := Scalar.addi v306 v307
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_212 : BitVec 32 := 1#32
  let v309 : BitVec 32 := Scalar.muli v8 c1_i32_212
  let v310 : BitVec 32 := Scalar.addi v308 v309
  v310.toNat
def k0_dev19 (d0 : Dev nD) : Nat :=
  let c0_i32_220 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_219 : BitVec 32 := 4#32
  let v319 : BitVec 32 := Scalar.muli v9 c4_i32_219
  let v320 : BitVec 32 := Scalar.addi c0_i32_220 v319
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_221 : BitVec 32 := 2#32
  let v321 : BitVec 32 := Scalar.muli v5 c2_i32_221
  let v322 : BitVec 32 := Scalar.addi v320 v321
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_222 : BitVec 32 := 1#32
  let v323 : BitVec 32 := Scalar.muli v8 c1_i32_222
  let v324 : BitVec 32 := Scalar.addi v322 v323
  v324.toNat
def k0_dev20 (d0 : Dev nD) : Nat :=
  let c0_i32_230 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_229 : BitVec 32 := 4#32
  let v333 : BitVec 32 := Scalar.muli v2 c4_i32_229
  let v334 : BitVec 32 := Scalar.addi c0_i32_230 v333
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_231 : BitVec 32 := 2#32
  let v335 : BitVec 32 := Scalar.muli v10 c2_i32_231
  let v336 : BitVec 32 := Scalar.addi v334 v335
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_232 : BitVec 32 := 1#32
  let v337 : BitVec 32 := Scalar.muli v8 c1_i32_232
  let v338 : BitVec 32 := Scalar.addi v336 v337
  v338.toNat
def k0_dev21 (d0 : Dev nD) : Nat :=
  let c0_i32_240 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_239 : BitVec 32 := 4#32
  let v347 : BitVec 32 := Scalar.muli v11 c4_i32_239
  let v348 : BitVec 32 := Scalar.addi c0_i32_240 v347
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_241 : BitVec 32 := 2#32
  let v349 : BitVec 32 := Scalar.muli v12 c2_i32_241
  let v350 : BitVec 32 := Scalar.addi v348 v349
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_242 : BitVec 32 := 1#32
  let v351 : BitVec 32 := Scalar.muli v8 c1_i32_242
  let v352 : BitVec 32 := Scalar.addi v350 v351
  v352.toNat
def k0_dev22 (d0 : Dev nD) : Nat :=
  let c0_i32_250 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_249 : BitVec 32 := 4#32
  let v361 : BitVec 32 := Scalar.muli v9 c4_i32_249
  let v362 : BitVec 32 := Scalar.addi c0_i32_250 v361
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_251 : BitVec 32 := 2#32
  let v363 : BitVec 32 := Scalar.muli v5 c2_i32_251
  let v364 : BitVec 32 := Scalar.addi v362 v363
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_252 : BitVec 32 := 1#32
  let v365 : BitVec 32 := Scalar.muli v8 c1_i32_252
  let v366 : BitVec 32 := Scalar.addi v364 v365
  v366.toNat
def k0_dev23 (d0 : Dev nD) : Nat :=
  let c0_i32_260 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_259 : BitVec 32 := 4#32
  let v375 : BitVec 32 := Scalar.muli v2 c4_i32_259
  let v376 : BitVec 32 := Scalar.addi c0_i32_260 v375
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_261 : BitVec 32 := 2#32
  let v377 : BitVec 32 := Scalar.muli v10 c2_i32_261
  let v378 : BitVec 32 := Scalar.addi v376 v377
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_262 : BitVec 32 := 1#32
  let v379 : BitVec 32 := Scalar.muli v8 c1_i32_262
  let v380 : BitVec 32 := Scalar.addi v378 v379
  v380.toNat
def k0_dev24 (d0 : Dev nD) : Nat :=
  let c0_i32_270 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_269 : BitVec 32 := 4#32
  let v389 : BitVec 32 := Scalar.muli v11 c4_i32_269
  let v390 : BitVec 32 := Scalar.addi c0_i32_270 v389
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_271 : BitVec 32 := 2#32
  let v391 : BitVec 32 := Scalar.muli v12 c2_i32_271
  let v392 : BitVec 32 := Scalar.addi v390 v391
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_272 : BitVec 32 := 1#32
  let v393 : BitVec 32 := Scalar.muli v8 c1_i32_272
  let v394 : BitVec 32 := Scalar.addi v392 v393
  v394.toNat
def k0_dev25 (d0 : Dev nD) : Nat :=
  let c0_i32_280 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_279 : BitVec 32 := 4#32
  let v403 : BitVec 32 := Scalar.muli v9 c4_i32_279
  let v404 : BitVec 32 := Scalar.addi c0_i32_280 v403
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_281 : BitVec 32 := 2#32
  let v405 : BitVec 32 := Scalar.muli v5 c2_i32_281
  let v406 : BitVec 32 := Scalar.addi v404 v405
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_282 : BitVec 32 := 1#32
  let v407 : BitVec 32 := Scalar.muli v8 c1_i32_282
  let v408 : BitVec 32 := Scalar.addi v406 v407
  v408.toNat
def k0_dev26 (d0 : Dev nD) : Nat :=
  let c0_i32_290 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_289 : BitVec 32 := 4#32
  let v417 : BitVec 32 := Scalar.muli v2 c4_i32_289
  let v418 : BitVec 32 := Scalar.addi c0_i32_290 v417
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_291 : BitVec 32 := 2#32
  let v419 : BitVec 32 := Scalar.muli v10 c2_i32_291
  let v420 : BitVec 32 := Scalar.addi v418 v419
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_292 : BitVec 32 := 1#32
  let v421 : BitVec 32 := Scalar.muli v8 c1_i32_292
  let v422 : BitVec 32 := Scalar.addi v420 v421
  v422.toNat
def k0_dev27 (d0 : Dev nD) : Nat :=
  let c0_i32_300 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_299 : BitVec 32 := 4#32
  let v431 : BitVec 32 := Scalar.muli v11 c4_i32_299
  let v432 : BitVec 32 := Scalar.addi c0_i32_300 v431
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_301 : BitVec 32 := 2#32
  let v433 : BitVec 32 := Scalar.muli v12 c2_i32_301
  let v434 : BitVec 32 := Scalar.addi v432 v433
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_302 : BitVec 32 := 1#32
  let v435 : BitVec 32 := Scalar.muli v8 c1_i32_302
  let v436 : BitVec 32 := Scalar.addi v434 v435
  v436.toNat
-- ==== ChipsRef.lean ====
abbrev S32x240x128 : Shape := ⟨3, ![32, 240, 128]⟩
abbrev S32x512x704 : Shape := ⟨3, ![32, 512, 704]⟩
abbrev S32x352x1024 : Shape := ⟨3, ![32, 352, 1024]⟩
abbrev S32x128x1024 : Shape := ⟨3, ![32, 128, 1024]⟩
abbrev S4x2x4x240x128 : Shape := ⟨5, ![4, 2, 4, 240, 128]⟩
abbrev S1x2x1x240x128 : Shape := ⟨5, ![1, 2, 1, 240, 128]⟩
abbrev S2x240x128 : Shape := ⟨3, ![2, 240, 128]⟩
abbrev S2x1x240x128 : Shape := ⟨4, ![2, 1, 240, 128]⟩
abbrev S2x3x240x128 : Shape := ⟨4, ![2, 3, 240, 128]⟩
abbrev S1x2x3x240x128 : Shape := ⟨5, ![1, 2, 3, 240, 128]⟩
abbrev S4x2x3x240x128 : Shape := ⟨5, ![4, 2, 3, 240, 128]⟩
abbrev S24x240x128 : Shape := ⟨3, ![24, 240, 128]⟩
abbrev S4x2x4x512x704 : Shape := ⟨5, ![4, 2, 4, 512, 704]⟩
abbrev S1x2x1x512x704 : Shape := ⟨5, ![1, 2, 1, 512, 704]⟩
abbrev S2x512x704 : Shape := ⟨3, ![2, 512, 704]⟩
abbrev S2x1x512x704 : Shape := ⟨4, ![2, 1, 512, 704]⟩
abbrev S2x3x512x704 : Shape := ⟨4, ![2, 3, 512, 704]⟩
abbrev S1x2x3x512x704 : Shape := ⟨5, ![1, 2, 3, 512, 704]⟩
abbrev S4x2x3x512x704 : Shape := ⟨5, ![4, 2, 3, 512, 704]⟩
abbrev S24x512x704 : Shape := ⟨3, ![24, 512, 704]⟩
abbrev S4x2x4x352x1024 : Shape := ⟨5, ![4, 2, 4, 352, 1024]⟩
abbrev S1x2x1x352x1024 : Shape := ⟨5, ![1, 2, 1, 352, 1024]⟩
abbrev S2x352x1024 : Shape := ⟨3, ![2, 352, 1024]⟩
abbrev S2x1x352x1024 : Shape := ⟨4, ![2, 1, 352, 1024]⟩
abbrev S2x3x352x1024 : Shape := ⟨4, ![2, 3, 352, 1024]⟩
abbrev S1x2x3x352x1024 : Shape := ⟨5, ![1, 2, 3, 352, 1024]⟩
abbrev S4x2x3x352x1024 : Shape := ⟨5, ![4, 2, 3, 352, 1024]⟩
abbrev S24x352x1024 : Shape := ⟨3, ![24, 352, 1024]⟩
abbrev S4x2x4x128x1024 : Shape := ⟨5, ![4, 2, 4, 128, 1024]⟩
abbrev S1x2x1x128x1024 : Shape := ⟨5, ![1, 2, 1, 128, 1024]⟩
abbrev S2x128x1024 : Shape := ⟨3, ![2, 128, 1024]⟩
abbrev S2x1x128x1024 : Shape := ⟨4, ![2, 1, 128, 1024]⟩
abbrev S2x3x128x1024 : Shape := ⟨4, ![2, 3, 128, 1024]⟩
abbrev S1x2x3x128x1024 : Shape := ⟨5, ![1, 2, 3, 128, 1024]⟩
abbrev S4x2x3x128x1024 : Shape := ⟨5, ![4, 2, 3, 128, 1024]⟩
abbrev S24x128x1024 : Shape := ⟨3, ![24, 128, 1024]⟩

abbrev nBuf : Space → Nat
  | .hbm => 432
  | .vmem => 0
  | .smem => 0
  | _ => 0

abbrev hbmTy0_0 (i : Nat) : BufTy := match i % 128 with
  | 0 => ⟨S32x240x128, .f32⟩
  | 1 => ⟨S32x512x704, .f32⟩
  | 2 => ⟨S32x512x704, .f32⟩
  | 3 => ⟨S32x352x1024, .f32⟩
  | 4 => ⟨S32x128x1024, .f32⟩
  | 5 => ⟨S32x128x1024, .f32⟩
  | 6 => ⟨S32x512x704, .f32⟩
  | 7 => ⟨S32x512x704, .f32⟩
  | 8 => ⟨S32x352x1024, .f32⟩
  | 9 => ⟨S4x2x4x240x128, .f32⟩
  | 10 => ⟨S1x2x1x240x128, .f32⟩
  | 11 => ⟨S2x240x128, .f32⟩
  | 12 => ⟨S1x2x1x240x128, .f32⟩
  | 13 => ⟨S2x240x128, .f32⟩
  | 14 => ⟨S1x2x1x240x128, .f32⟩
  | 15 => ⟨S2x240x128, .f32⟩
  | 16 => ⟨S2x1x240x128, .f32⟩
  | 17 => ⟨S2x1x240x128, .f32⟩
  | 18 => ⟨S2x1x240x128, .f32⟩
  | 19 => ⟨S2x3x240x128, .f32⟩
  | 20 => ⟨S1x2x1x240x128, .f32⟩
  | 21 => ⟨S2x240x128, .f32⟩
  | 22 => ⟨S1x2x1x240x128, .f32⟩
  | 23 => ⟨S2x240x128, .f32⟩
  | 24 => ⟨S1x2x1x240x128, .f32⟩
  | 25 => ⟨S2x240x128, .f32⟩
  | 26 => ⟨S2x1x240x128, .f32⟩
  | 27 => ⟨S2x1x240x128, .f32⟩
  | 28 => ⟨S2x1x240x128, .f32⟩
  | 29 => ⟨S2x3x240x128, .f32⟩
  | 30 => ⟨S1x2x1x240x128, .f32⟩
  | 31 => ⟨S2x240x128, .f32⟩
  | 32 => ⟨S1x2x1x240x128, .f32⟩
  | 33 => ⟨S2x240x128, .f32⟩
  | 34 => ⟨S1x2x1x240x128, .f32⟩
  | 35 => ⟨S2x240x128, .f32⟩
  | 36 => ⟨S2x1x240x128, .f32⟩
  | 37 => ⟨S2x1x240x128, .f32⟩
  | 38 => ⟨S2x1x240x128, .f32⟩
  | 39 => ⟨S2x3x240x128, .f32⟩
  | 40 => ⟨S1x2x1x240x128, .f32⟩
  | 41 => ⟨S2x240x128, .f32⟩
  | 42 => ⟨S1x2x1x240x128, .f32⟩
  | 43 => ⟨S2x240x128, .f32⟩
  | 44 => ⟨S1x2x1x240x128, .f32⟩
  | 45 => ⟨S2x240x128, .f32⟩
  | 46 => ⟨S2x1x240x128, .f32⟩
  | 47 => ⟨S2x1x240x128, .f32⟩
  | 48 => ⟨S2x1x240x128, .f32⟩
  | 49 => ⟨S2x3x240x128, .f32⟩
  | 50 => ⟨S1x2x3x240x128, .f32⟩
  | 51 => ⟨S1x2x3x240x128, .f32⟩
  | 52 => ⟨S1x2x3x240x128, .f32⟩
  | 53 => ⟨S1x2x3x240x128, .f32⟩
  | 54 => ⟨S4x2x3x240x128, .f32⟩
  | 55 => ⟨S24x240x128, .f32⟩
  | 56 => ⟨S4x2x4x512x704, .f32⟩
  | 57 => ⟨S1x2x1x512x704, .f32⟩
  | 58 => ⟨S2x512x704, .f32⟩
  | 59 => ⟨S1x2x1x512x704, .f32⟩
  | 60 => ⟨S2x512x704, .f32⟩
  | 61 => ⟨S1x2x1x512x704, .f32⟩
  | 62 => ⟨S2x512x704, .f32⟩
  | 63 => ⟨S2x1x512x704, .f32⟩
  | 64 => ⟨S2x1x512x704, .f32⟩
  | 65 => ⟨S2x1x512x704, .f32⟩
  | 66 => ⟨S2x3x512x704, .f32⟩
  | 67 => ⟨S1x2x1x512x704, .f32⟩
  | 68 => ⟨S2x512x704, .f32⟩
  | 69 => ⟨S1x2x1x512x704, .f32⟩
  | 70 => ⟨S2x512x704, .f32⟩
  | 71 => ⟨S1x2x1x512x704, .f32⟩
  | 72 => ⟨S2x512x704, .f32⟩
  | 73 => ⟨S2x1x512x704, .f32⟩
  | 74 => ⟨S2x1x512x704, .f32⟩
  | 75 => ⟨S2x1x512x704, .f32⟩
  | 76 => ⟨S2x3x512x704, .f32⟩
  | 77 => ⟨S1x2x1x512x704, .f32⟩
  | 78 => ⟨S2x512x704, .f32⟩
  | 79 => ⟨S1x2x1x512x704, .f32⟩
  | 80 => ⟨S2x512x704, .f32⟩
  | 81 => ⟨S1x2x1x512x704, .f32⟩
  | 82 => ⟨S2x512x704, .f32⟩
  | 83 => ⟨S2x1x512x704, .f32⟩
  | 84 => ⟨S2x1x512x704, .f32⟩
  | 85 => ⟨S2x1x512x704, .f32⟩
  | 86 => ⟨S2x3x512x704, .f32⟩
  | 87 => ⟨S1x2x1x512x704, .f32⟩
  | 88 => ⟨S2x512x704, .f32⟩
  | 89 => ⟨S1x2x1x512x704, .f32⟩
  | 90 => ⟨S2x512x704, .f32⟩
  | 91 => ⟨S1x2x1x512x704, .f32⟩
  | 92 => ⟨S2x512x704, .f32⟩
  | 93 => ⟨S2x1x512x704, .f32⟩
  | 94 => ⟨S2x1x512x704, .f32⟩
  | 95 => ⟨S2x1x512x704, .f32⟩
  | 96 => ⟨S2x3x512x704, .f32⟩
  | 97 => ⟨S1x2x3x512x704, .f32⟩
  | 98 => ⟨S1x2x3x512x704, .f32⟩
  | 99 => ⟨S1x2x3x512x704, .f32⟩
  | 100 => ⟨S1x2x3x512x704, .f32⟩
  | 101 => ⟨S4x2x3x512x704, .f32⟩
  | 102 => ⟨S24x512x704, .f32⟩
  | 103 => ⟨S4x2x4x512x704, .f32⟩
  | 104 => ⟨S1x2x1x512x704, .f32⟩
  | 105 => ⟨S2x512x704, .f32⟩
  | 106 => ⟨S1x2x1x512x704, .f32⟩
  | 107 => ⟨S2x512x704, .f32⟩
  | 108 => ⟨S1x2x1x512x704, .f32⟩
  | 109 => ⟨S2x512x704, .f32⟩
  | 110 => ⟨S2x1x512x704, .f32⟩
  | 111 => ⟨S2x1x512x704, .f32⟩
  | 112 => ⟨S2x1x512x704, .f32⟩
  | 113 => ⟨S2x3x512x704, .f32⟩
  | 114 => ⟨S1x2x1x512x704, .f32⟩
  | 115 => ⟨S2x512x704, .f32⟩
  | 116 => ⟨S1x2x1x512x704, .f32⟩
  | 117 => ⟨S2x512x704, .f32⟩
  | 118 => ⟨S1x2x1x512x704, .f32⟩
  | 119 => ⟨S2x512x704, .f32⟩
  | 120 => ⟨S2x1x512x704, .f32⟩
  | 121 => ⟨S2x1x512x704, .f32⟩
  | 122 => ⟨S2x1x512x704, .f32⟩
  | 123 => ⟨S2x3x512x704, .f32⟩
  | 124 => ⟨S1x2x1x512x704, .f32⟩
  | 125 => ⟨S2x512x704, .f32⟩
  | 126 => ⟨S1x2x1x512x704, .f32⟩
  | 127 => ⟨S2x512x704, .f32⟩
  | _ => ⟨S32x240x128, .f32⟩

abbrev hbmTy0_1 (i : Nat) : BufTy := match i % 128 with
  | 0 => ⟨S1x2x1x512x704, .f32⟩
  | 1 => ⟨S2x512x704, .f32⟩
  | 2 => ⟨S2x1x512x704, .f32⟩
  | 3 => ⟨S2x1x512x704, .f32⟩
  | 4 => ⟨S2x1x512x704, .f32⟩
  | 5 => ⟨S2x3x512x704, .f32⟩
  | 6 => ⟨S1x2x1x512x704, .f32⟩
  | 7 => ⟨S2x512x704, .f32⟩
  | 8 => ⟨S1x2x1x512x704, .f32⟩
  | 9 => ⟨S2x512x704, .f32⟩
  | 10 => ⟨S1x2x1x512x704, .f32⟩
  | 11 => ⟨S2x512x704, .f32⟩
  | 12 => ⟨S2x1x512x704, .f32⟩
  | 13 => ⟨S2x1x512x704, .f32⟩
  | 14 => ⟨S2x1x512x704, .f32⟩
  | 15 => ⟨S2x3x512x704, .f32⟩
  | 16 => ⟨S1x2x3x512x704, .f32⟩
  | 17 => ⟨S1x2x3x512x704, .f32⟩
  | 18 => ⟨S1x2x3x512x704, .f32⟩
  | 19 => ⟨S1x2x3x512x704, .f32⟩
  | 20 => ⟨S4x2x3x512x704, .f32⟩
  | 21 => ⟨S24x512x704, .f32⟩
  | 22 => ⟨S4x2x4x352x1024, .f32⟩
  | 23 => ⟨S1x2x1x352x1024, .f32⟩
  | 24 => ⟨S2x352x1024, .f32⟩
  | 25 => ⟨S1x2x1x352x1024, .f32⟩
  | 26 => ⟨S2x352x1024, .f32⟩
  | 27 => ⟨S1x2x1x352x1024, .f32⟩
  | 28 => ⟨S2x352x1024, .f32⟩
  | 29 => ⟨S2x1x352x1024, .f32⟩
  | 30 => ⟨S2x1x352x1024, .f32⟩
  | 31 => ⟨S2x1x352x1024, .f32⟩
  | 32 => ⟨S2x3x352x1024, .f32⟩
  | 33 => ⟨S1x2x1x352x1024, .f32⟩
  | 34 => ⟨S2x352x1024, .f32⟩
  | 35 => ⟨S1x2x1x352x1024, .f32⟩
  | 36 => ⟨S2x352x1024, .f32⟩
  | 37 => ⟨S1x2x1x352x1024, .f32⟩
  | 38 => ⟨S2x352x1024, .f32⟩
  | 39 => ⟨S2x1x352x1024, .f32⟩
  | 40 => ⟨S2x1x352x1024, .f32⟩
  | 41 => ⟨S2x1x352x1024, .f32⟩
  | 42 => ⟨S2x3x352x1024, .f32⟩
  | 43 => ⟨S1x2x1x352x1024, .f32⟩
  | 44 => ⟨S2x352x1024, .f32⟩
  | 45 => ⟨S1x2x1x352x1024, .f32⟩
  | 46 => ⟨S2x352x1024, .f32⟩
  | 47 => ⟨S1x2x1x352x1024, .f32⟩
  | 48 => ⟨S2x352x1024, .f32⟩
  | 49 => ⟨S2x1x352x1024, .f32⟩
  | 50 => ⟨S2x1x352x1024, .f32⟩
  | 51 => ⟨S2x1x352x1024, .f32⟩
  | 52 => ⟨S2x3x352x1024, .f32⟩
  | 53 => ⟨S1x2x1x352x1024, .f32⟩
  | 54 => ⟨S2x352x1024, .f32⟩
  | 55 => ⟨S1x2x1x352x1024, .f32⟩
  | 56 => ⟨S2x352x1024, .f32⟩
  | 57 => ⟨S1x2x1x352x1024, .f32⟩
  | 58 => ⟨S2x352x1024, .f32⟩
  | 59 => ⟨S2x1x352x1024, .f32⟩
  | 60 => ⟨S2x1x352x1024, .f32⟩
  | 61 => ⟨S2x1x352x1024, .f32⟩
  | 62 => ⟨S2x3x352x1024, .f32⟩
  | 63 => ⟨S1x2x3x352x1024, .f32⟩
  | 64 => ⟨S1x2x3x352x1024, .f32⟩
  | 65 => ⟨S1x2x3x352x1024, .f32⟩
  | 66 => ⟨S1x2x3x352x1024, .f32⟩
  | 67 => ⟨S4x2x3x352x1024, .f32⟩
  | 68 => ⟨S24x352x1024, .f32⟩
  | 69 => ⟨S4x2x4x128x1024, .f32⟩
  | 70 => ⟨S1x2x1x128x1024, .f32⟩
  | 71 => ⟨S2x128x1024, .f32⟩
  | 72 => ⟨S1x2x1x128x1024, .f32⟩
  | 73 => ⟨S2x128x1024, .f32⟩
  | 74 => ⟨S1x2x1x128x1024, .f32⟩
  | 75 => ⟨S2x128x1024, .f32⟩
  | 76 => ⟨S2x1x128x1024, .f32⟩
  | 77 => ⟨S2x1x128x1024, .f32⟩
  | 78 => ⟨S2x1x128x1024, .f32⟩
  | 79 => ⟨S2x3x128x1024, .f32⟩
  | 80 => ⟨S1x2x1x128x1024, .f32⟩
  | 81 => ⟨S2x128x1024, .f32⟩
  | 82 => ⟨S1x2x1x128x1024, .f32⟩
  | 83 => ⟨S2x128x1024, .f32⟩
  | 84 => ⟨S1x2x1x128x1024, .f32⟩
  | 85 => ⟨S2x128x1024, .f32⟩
  | 86 => ⟨S2x1x128x1024, .f32⟩
  | 87 => ⟨S2x1x128x1024, .f32⟩
  | 88 => ⟨S2x1x128x1024, .f32⟩
  | 89 => ⟨S2x3x128x1024, .f32⟩
  | 90 => ⟨S1x2x1x128x1024, .f32⟩
  | 91 => ⟨S2x128x1024, .f32⟩
  | 92 => ⟨S1x2x1x128x1024, .f32⟩
  | 93 => ⟨S2x128x1024, .f32⟩
  | 94 => ⟨S1x2x1x128x1024, .f32⟩
  | 95 => ⟨S2x128x1024, .f32⟩
  | 96 => ⟨S2x1x128x1024, .f32⟩
  | 97 => ⟨S2x1x128x1024, .f32⟩
  | 98 => ⟨S2x1x128x1024, .f32⟩
  | 99 => ⟨S2x3x128x1024, .f32⟩
  | 100 => ⟨S1x2x1x128x1024, .f32⟩
  | 101 => ⟨S2x128x1024, .f32⟩
  | 102 => ⟨S1x2x1x128x1024, .f32⟩
  | 103 => ⟨S2x128x1024, .f32⟩
  | 104 => ⟨S1x2x1x128x1024, .f32⟩
  | 105 => ⟨S2x128x1024, .f32⟩
  | 106 => ⟨S2x1x128x1024, .f32⟩
  | 107 => ⟨S2x1x128x1024, .f32⟩
  | 108 => ⟨S2x1x128x1024, .f32⟩
  | 109 => ⟨S2x3x128x1024, .f32⟩
  | 110 => ⟨S1x2x3x128x1024, .f32⟩
  | 111 => ⟨S1x2x3x128x1024, .f32⟩
  | 112 => ⟨S1x2x3x128x1024, .f32⟩
  | 113 => ⟨S1x2x3x128x1024, .f32⟩
  | 114 => ⟨S4x2x3x128x1024, .f32⟩
  | 115 => ⟨S24x128x1024, .f32⟩
  | 116 => ⟨S4x2x4x128x1024, .f32⟩
  | 117 => ⟨S1x2x1x128x1024, .f32⟩
  | 118 => ⟨S2x128x1024, .f32⟩
  | 119 => ⟨S1x2x1x128x1024, .f32⟩
  | 120 => ⟨S2x128x1024, .f32⟩
  | 121 => ⟨S1x2x1x128x1024, .f32⟩
  | 122 => ⟨S2x128x1024, .f32⟩
  | 123 => ⟨S2x1x128x1024, .f32⟩
  | 124 => ⟨S2x1x128x1024, .f32⟩
  | 125 => ⟨S2x1x128x1024, .f32⟩
  | 126 => ⟨S2x3x128x1024, .f32⟩
  | 127 => ⟨S1x2x1x128x1024, .f32⟩
  | _ => ⟨S32x240x128, .f32⟩

abbrev hbmTy0_2 (i : Nat) : BufTy := match i % 128 with
  | 0 => ⟨S2x128x1024, .f32⟩
  | 1 => ⟨S1x2x1x128x1024, .f32⟩
  | 2 => ⟨S2x128x1024, .f32⟩
  | 3 => ⟨S1x2x1x128x1024, .f32⟩
  | 4 => ⟨S2x128x1024, .f32⟩
  | 5 => ⟨S2x1x128x1024, .f32⟩
  | 6 => ⟨S2x1x128x1024, .f32⟩
  | 7 => ⟨S2x1x128x1024, .f32⟩
  | 8 => ⟨S2x3x128x1024, .f32⟩
  | 9 => ⟨S1x2x1x128x1024, .f32⟩
  | 10 => ⟨S2x128x1024, .f32⟩
  | 11 => ⟨S1x2x1x128x1024, .f32⟩
  | 12 => ⟨S2x128x1024, .f32⟩
  | 13 => ⟨S1x2x1x128x1024, .f32⟩
  | 14 => ⟨S2x128x1024, .f32⟩
  | 15 => ⟨S2x1x128x1024, .f32⟩
  | 16 => ⟨S2x1x128x1024, .f32⟩
  | 17 => ⟨S2x1x128x1024, .f32⟩
  | 18 => ⟨S2x3x128x1024, .f32⟩
  | 19 => ⟨S1x2x1x128x1024, .f32⟩
  | 20 => ⟨S2x128x1024, .f32⟩
  | 21 => ⟨S1x2x1x128x1024, .f32⟩
  | 22 => ⟨S2x128x1024, .f32⟩
  | 23 => ⟨S1x2x1x128x1024, .f32⟩
  | 24 => ⟨S2x128x1024, .f32⟩
  | 25 => ⟨S2x1x128x1024, .f32⟩
  | 26 => ⟨S2x1x128x1024, .f32⟩
  | 27 => ⟨S2x1x128x1024, .f32⟩
  | 28 => ⟨S2x3x128x1024, .f32⟩
  | 29 => ⟨S1x2x3x128x1024, .f32⟩
  | 30 => ⟨S1x2x3x128x1024, .f32⟩
  | 31 => ⟨S1x2x3x128x1024, .f32⟩
  | 32 => ⟨S1x2x3x128x1024, .f32⟩
  | 33 => ⟨S4x2x3x128x1024, .f32⟩
  | 34 => ⟨S24x128x1024, .f32⟩
  | 35 => ⟨S4x2x4x512x704, .f32⟩
  | 36 => ⟨S1x2x1x512x704, .f32⟩
  | 37 => ⟨S2x512x704, .f32⟩
  | 38 => ⟨S1x2x1x512x704, .f32⟩
  | 39 => ⟨S2x512x704, .f32⟩
  | 40 => ⟨S1x2x1x512x704, .f32⟩
  | 41 => ⟨S2x512x704, .f32⟩
  | 42 => ⟨S2x1x512x704, .f32⟩
  | 43 => ⟨S2x1x512x704, .f32⟩
  | 44 => ⟨S2x1x512x704, .f32⟩
  | 45 => ⟨S2x3x512x704, .f32⟩
  | 46 => ⟨S1x2x1x512x704, .f32⟩
  | 47 => ⟨S2x512x704, .f32⟩
  | 48 => ⟨S1x2x1x512x704, .f32⟩
  | 49 => ⟨S2x512x704, .f32⟩
  | 50 => ⟨S1x2x1x512x704, .f32⟩
  | 51 => ⟨S2x512x704, .f32⟩
  | 52 => ⟨S2x1x512x704, .f32⟩
  | 53 => ⟨S2x1x512x704, .f32⟩
  | 54 => ⟨S2x1x512x704, .f32⟩
  | 55 => ⟨S2x3x512x704, .f32⟩
  | 56 => ⟨S1x2x1x512x704, .f32⟩
  | 57 => ⟨S2x512x704, .f32⟩
  | 58 => ⟨S1x2x1x512x704, .f32⟩
  | 59 => ⟨S2x512x704, .f32⟩
  | 60 => ⟨S1x2x1x512x704, .f32⟩
  | 61 => ⟨S2x512x704, .f32⟩
  | 62 => ⟨S2x1x512x704, .f32⟩
  | 63 => ⟨S2x1x512x704, .f32⟩
  | 64 => ⟨S2x1x512x704, .f32⟩
  | 65 => ⟨S2x3x512x704, .f32⟩
  | 66 => ⟨S1x2x1x512x704, .f32⟩
  | 67 => ⟨S2x512x704, .f32⟩
  | 68 => ⟨S1x2x1x512x704, .f32⟩
  | 69 => ⟨S2x512x704, .f32⟩
  | 70 => ⟨S1x2x1x512x704, .f32⟩
  | 71 => ⟨S2x512x704, .f32⟩
  | 72 => ⟨S2x1x512x704, .f32⟩
  | 73 => ⟨S2x1x512x704, .f32⟩
  | 74 => ⟨S2x1x512x704, .f32⟩
  | 75 => ⟨S2x3x512x704, .f32⟩
  | 76 => ⟨S1x2x3x512x704, .f32⟩
  | 77 => ⟨S1x2x3x512x704, .f32⟩
  | 78 => ⟨S1x2x3x512x704, .f32⟩
  | 79 => ⟨S1x2x3x512x704, .f32⟩
  | 80 => ⟨S4x2x3x512x704, .f32⟩
  | 81 => ⟨S24x512x704, .f32⟩
  | 82 => ⟨S4x2x4x512x704, .f32⟩
  | 83 => ⟨S1x2x1x512x704, .f32⟩
  | 84 => ⟨S2x512x704, .f32⟩
  | 85 => ⟨S1x2x1x512x704, .f32⟩
  | 86 => ⟨S2x512x704, .f32⟩
  | 87 => ⟨S1x2x1x512x704, .f32⟩
  | 88 => ⟨S2x512x704, .f32⟩
  | 89 => ⟨S2x1x512x704, .f32⟩
  | 90 => ⟨S2x1x512x704, .f32⟩
  | 91 => ⟨S2x1x512x704, .f32⟩
  | 92 => ⟨S2x3x512x704, .f32⟩
  | 93 => ⟨S1x2x1x512x704, .f32⟩
  | 94 => ⟨S2x512x704, .f32⟩
  | 95 => ⟨S1x2x1x512x704, .f32⟩
  | 96 => ⟨S2x512x704, .f32⟩
  | 97 => ⟨S1x2x1x512x704, .f32⟩
  | 98 => ⟨S2x512x704, .f32⟩
  | 99 => ⟨S2x1x512x704, .f32⟩
  | 100 => ⟨S2x1x512x704, .f32⟩
  | 101 => ⟨S2x1x512x704, .f32⟩
  | 102 => ⟨S2x3x512x704, .f32⟩
  | 103 => ⟨S1x2x1x512x704, .f32⟩
  | 104 => ⟨S2x512x704, .f32⟩
  | 105 => ⟨S1x2x1x512x704, .f32⟩
  | 106 => ⟨S2x512x704, .f32⟩
  | 107 => ⟨S1x2x1x512x704, .f32⟩
  | 108 => ⟨S2x512x704, .f32⟩
  | 109 => ⟨S2x1x512x704, .f32⟩
  | 110 => ⟨S2x1x512x704, .f32⟩
  | 111 => ⟨S2x1x512x704, .f32⟩
  | 112 => ⟨S2x3x512x704, .f32⟩
  | 113 => ⟨S1x2x1x512x704, .f32⟩
  | 114 => ⟨S2x512x704, .f32⟩
  | 115 => ⟨S1x2x1x512x704, .f32⟩
  | 116 => ⟨S2x512x704, .f32⟩
  | 117 => ⟨S1x2x1x512x704, .f32⟩
  | 118 => ⟨S2x512x704, .f32⟩
  | 119 => ⟨S2x1x512x704, .f32⟩
  | 120 => ⟨S2x1x512x704, .f32⟩
  | 121 => ⟨S2x1x512x704, .f32⟩
  | 122 => ⟨S2x3x512x704, .f32⟩
  | 123 => ⟨S1x2x3x512x704, .f32⟩
  | 124 => ⟨S1x2x3x512x704, .f32⟩
  | 125 => ⟨S1x2x3x512x704, .f32⟩
  | 126 => ⟨S1x2x3x512x704, .f32⟩
  | 127 => ⟨S4x2x3x512x704, .f32⟩
  | _ => ⟨S32x240x128, .f32⟩

abbrev hbmTy0_3 (i : Nat) : BufTy := match i % 128 with
  | 0 => ⟨S24x512x704, .f32⟩
  | 1 => ⟨S4x2x4x352x1024, .f32⟩
  | 2 => ⟨S1x2x1x352x1024, .f32⟩
  | 3 => ⟨S2x352x1024, .f32⟩
  | 4 => ⟨S1x2x1x352x1024, .f32⟩
  | 5 => ⟨S2x352x1024, .f32⟩
  | 6 => ⟨S1x2x1x352x1024, .f32⟩
  | 7 => ⟨S2x352x1024, .f32⟩
  | 8 => ⟨S2x1x352x1024, .f32⟩
  | 9 => ⟨S2x1x352x1024, .f32⟩
  | 10 => ⟨S2x1x352x1024, .f32⟩
  | 11 => ⟨S2x3x352x1024, .f32⟩
  | 12 => ⟨S1x2x1x352x1024, .f32⟩
  | 13 => ⟨S2x352x1024, .f32⟩
  | 14 => ⟨S1x2x1x352x1024, .f32⟩
  | 15 => ⟨S2x352x1024, .f32⟩
  | 16 => ⟨S1x2x1x352x1024, .f32⟩
  | 17 => ⟨S2x352x1024, .f32⟩
  | 18 => ⟨S2x1x352x1024, .f32⟩
  | 19 => ⟨S2x1x352x1024, .f32⟩
  | 20 => ⟨S2x1x352x1024, .f32⟩
  | 21 => ⟨S2x3x352x1024, .f32⟩
  | 22 => ⟨S1x2x1x352x1024, .f32⟩
  | 23 => ⟨S2x352x1024, .f32⟩
  | 24 => ⟨S1x2x1x352x1024, .f32⟩
  | 25 => ⟨S2x352x1024, .f32⟩
  | 26 => ⟨S1x2x1x352x1024, .f32⟩
  | 27 => ⟨S2x352x1024, .f32⟩
  | 28 => ⟨S2x1x352x1024, .f32⟩
  | 29 => ⟨S2x1x352x1024, .f32⟩
  | 30 => ⟨S2x1x352x1024, .f32⟩
  | 31 => ⟨S2x3x352x1024, .f32⟩
  | 32 => ⟨S1x2x1x352x1024, .f32⟩
  | 33 => ⟨S2x352x1024, .f32⟩
  | 34 => ⟨S1x2x1x352x1024, .f32⟩
  | 35 => ⟨S2x352x1024, .f32⟩
  | 36 => ⟨S1x2x1x352x1024, .f32⟩
  | 37 => ⟨S2x352x1024, .f32⟩
  | 38 => ⟨S2x1x352x1024, .f32⟩
  | 39 => ⟨S2x1x352x1024, .f32⟩
  | 40 => ⟨S2x1x352x1024, .f32⟩
  | 41 => ⟨S2x3x352x1024, .f32⟩
  | 42 => ⟨S1x2x3x352x1024, .f32⟩
  | 43 => ⟨S1x2x3x352x1024, .f32⟩
  | 44 => ⟨S1x2x3x352x1024, .f32⟩
  | 45 => ⟨S1x2x3x352x1024, .f32⟩
  | 46 => ⟨S4x2x3x352x1024, .f32⟩
  | 47 => ⟨S24x352x1024, .f32⟩
  | _ => ⟨S32x240x128, .f32⟩

abbrev hbmTy (i : Nat) : BufTy := match i / 128 with
  | 0 => hbmTy0_0 i
  | 1 => hbmTy0_1 i
  | 2 => hbmTy0_2 i
  | 3 => hbmTy0_3 i
  | _ => ⟨S32x240x128, .f32⟩

abbrev bufTy : (tb : Table) → Fin (tcTables nBuf tb) → BufTy
  | .hbm, ⟨i, _⟩ => hbmTy i
  | _, _ => ⟨S32x240x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_v170 : Ref sig .tc := ⟨.hbm, 179, rfl⟩
abbrev main_v171 : Ref sig .tc := ⟨.hbm, 180, rfl⟩
abbrev main_v172 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_v176 : Ref sig .tc := ⟨.hbm, 185, rfl⟩
abbrev main_v177 : Ref sig .tc := ⟨.hbm, 186, rfl⟩
abbrev main_v178 : Ref sig .tc := ⟨.hbm, 187, rfl⟩
abbrev main_v179 : Ref sig .tc := ⟨.hbm, 188, rfl⟩
abbrev main_v180 : Ref sig .tc := ⟨.hbm, 189, rfl⟩
abbrev main_v181 : Ref sig .tc := ⟨.hbm, 190, rfl⟩
abbrev main_v182 : Ref sig .tc := ⟨.hbm, 191, rfl⟩
abbrev main_v183 : Ref sig .tc := ⟨.hbm, 192, rfl⟩
abbrev main_v184 : Ref sig .tc := ⟨.hbm, 193, rfl⟩
abbrev main_v185 : Ref sig .tc := ⟨.hbm, 194, rfl⟩
abbrev main_v186 : Ref sig .tc := ⟨.hbm, 195, rfl⟩
abbrev main_v187 : Ref sig .tc := ⟨.hbm, 196, rfl⟩
abbrev main_v188 : Ref sig .tc := ⟨.hbm, 197, rfl⟩
abbrev main_v189 : Ref sig .tc := ⟨.hbm, 198, rfl⟩
abbrev main_v190 : Ref sig .tc := ⟨.hbm, 199, rfl⟩
abbrev main_v191 : Ref sig .tc := ⟨.hbm, 200, rfl⟩
abbrev main_v192 : Ref sig .tc := ⟨.hbm, 201, rfl⟩
abbrev main_v193 : Ref sig .tc := ⟨.hbm, 202, rfl⟩
abbrev main_v194 : Ref sig .tc := ⟨.hbm, 203, rfl⟩
abbrev main_v195 : Ref sig .tc := ⟨.hbm, 204, rfl⟩
abbrev main_v196 : Ref sig .tc := ⟨.hbm, 205, rfl⟩
abbrev main_v197 : Ref sig .tc := ⟨.hbm, 206, rfl⟩
abbrev main_v198 : Ref sig .tc := ⟨.hbm, 207, rfl⟩
abbrev main_v199 : Ref sig .tc := ⟨.hbm, 208, rfl⟩
abbrev main_v200 : Ref sig .tc := ⟨.hbm, 209, rfl⟩
abbrev main_v201 : Ref sig .tc := ⟨.hbm, 210, rfl⟩
abbrev main_v202 : Ref sig .tc := ⟨.hbm, 211, rfl⟩
abbrev main_v203 : Ref sig .tc := ⟨.hbm, 212, rfl⟩
abbrev main_v204 : Ref sig .tc := ⟨.hbm, 213, rfl⟩
abbrev main_v205 : Ref sig .tc := ⟨.hbm, 214, rfl⟩
abbrev main_v206 : Ref sig .tc := ⟨.hbm, 215, rfl⟩
abbrev main_v207 : Ref sig .tc := ⟨.hbm, 216, rfl⟩
abbrev main_v208 : Ref sig .tc := ⟨.hbm, 217, rfl⟩
abbrev main_v209 : Ref sig .tc := ⟨.hbm, 218, rfl⟩
abbrev main_v210 : Ref sig .tc := ⟨.hbm, 219, rfl⟩
abbrev main_v211 : Ref sig .tc := ⟨.hbm, 220, rfl⟩
abbrev main_v212 : Ref sig .tc := ⟨.hbm, 221, rfl⟩
abbrev main_v213 : Ref sig .tc := ⟨.hbm, 222, rfl⟩
abbrev main_v214 : Ref sig .tc := ⟨.hbm, 223, rfl⟩
abbrev main_v215 : Ref sig .tc := ⟨.hbm, 224, rfl⟩
abbrev main_v216 : Ref sig .tc := ⟨.hbm, 225, rfl⟩
abbrev main_v217 : Ref sig .tc := ⟨.hbm, 226, rfl⟩
abbrev main_v218 : Ref sig .tc := ⟨.hbm, 227, rfl⟩
abbrev main_v219 : Ref sig .tc := ⟨.hbm, 228, rfl⟩
abbrev main_v220 : Ref sig .tc := ⟨.hbm, 229, rfl⟩
abbrev main_v221 : Ref sig .tc := ⟨.hbm, 230, rfl⟩
abbrev main_v222 : Ref sig .tc := ⟨.hbm, 231, rfl⟩
abbrev main_v223 : Ref sig .tc := ⟨.hbm, 232, rfl⟩
abbrev main_v224 : Ref sig .tc := ⟨.hbm, 233, rfl⟩
abbrev main_v225 : Ref sig .tc := ⟨.hbm, 234, rfl⟩
abbrev main_v226 : Ref sig .tc := ⟨.hbm, 235, rfl⟩
abbrev main_v227 : Ref sig .tc := ⟨.hbm, 236, rfl⟩
abbrev main_v228 : Ref sig .tc := ⟨.hbm, 237, rfl⟩
abbrev main_v229 : Ref sig .tc := ⟨.hbm, 238, rfl⟩
abbrev main_v230 : Ref sig .tc := ⟨.hbm, 239, rfl⟩
abbrev main_v231 : Ref sig .tc := ⟨.hbm, 240, rfl⟩
abbrev main_v232 : Ref sig .tc := ⟨.hbm, 241, rfl⟩
abbrev main_v233 : Ref sig .tc := ⟨.hbm, 242, rfl⟩
abbrev main_v234 : Ref sig .tc := ⟨.hbm, 243, rfl⟩
abbrev main_v235 : Ref sig .tc := ⟨.hbm, 244, rfl⟩
abbrev main_v236 : Ref sig .tc := ⟨.hbm, 245, rfl⟩
abbrev main_v237 : Ref sig .tc := ⟨.hbm, 246, rfl⟩
abbrev main_v238 : Ref sig .tc := ⟨.hbm, 247, rfl⟩
abbrev main_v239 : Ref sig .tc := ⟨.hbm, 248, rfl⟩
abbrev main_v240 : Ref sig .tc := ⟨.hbm, 249, rfl⟩
abbrev main_v241 : Ref sig .tc := ⟨.hbm, 250, rfl⟩
abbrev main_v242 : Ref sig .tc := ⟨.hbm, 251, rfl⟩
abbrev main_v243 : Ref sig .tc := ⟨.hbm, 252, rfl⟩
abbrev main_v244 : Ref sig .tc := ⟨.hbm, 253, rfl⟩
abbrev main_v245 : Ref sig .tc := ⟨.hbm, 254, rfl⟩
abbrev main_v246 : Ref sig .tc := ⟨.hbm, 255, rfl⟩
abbrev main_v247 : Ref sig .tc := ⟨.hbm, 256, rfl⟩
abbrev main_v248 : Ref sig .tc := ⟨.hbm, 257, rfl⟩
abbrev main_v249 : Ref sig .tc := ⟨.hbm, 258, rfl⟩
abbrev main_v250 : Ref sig .tc := ⟨.hbm, 259, rfl⟩
abbrev main_v251 : Ref sig .tc := ⟨.hbm, 260, rfl⟩
abbrev main_v252 : Ref sig .tc := ⟨.hbm, 261, rfl⟩
abbrev main_v253 : Ref sig .tc := ⟨.hbm, 262, rfl⟩
abbrev main_v254 : Ref sig .tc := ⟨.hbm, 263, rfl⟩
abbrev main_v255 : Ref sig .tc := ⟨.hbm, 264, rfl⟩
abbrev main_v256 : Ref sig .tc := ⟨.hbm, 265, rfl⟩
abbrev main_v257 : Ref sig .tc := ⟨.hbm, 266, rfl⟩
abbrev main_v258 : Ref sig .tc := ⟨.hbm, 267, rfl⟩
abbrev main_v259 : Ref sig .tc := ⟨.hbm, 268, rfl⟩
abbrev main_v260 : Ref sig .tc := ⟨.hbm, 269, rfl⟩
abbrev main_v261 : Ref sig .tc := ⟨.hbm, 270, rfl⟩
abbrev main_v262 : Ref sig .tc := ⟨.hbm, 271, rfl⟩
abbrev main_v263 : Ref sig .tc := ⟨.hbm, 272, rfl⟩
abbrev main_v264 : Ref sig .tc := ⟨.hbm, 273, rfl⟩
abbrev main_v265 : Ref sig .tc := ⟨.hbm, 274, rfl⟩
abbrev main_v266 : Ref sig .tc := ⟨.hbm, 275, rfl⟩
abbrev main_v267 : Ref sig .tc := ⟨.hbm, 276, rfl⟩
abbrev main_v268 : Ref sig .tc := ⟨.hbm, 277, rfl⟩
abbrev main_v269 : Ref sig .tc := ⟨.hbm, 278, rfl⟩
abbrev main_v270 : Ref sig .tc := ⟨.hbm, 279, rfl⟩
abbrev main_v271 : Ref sig .tc := ⟨.hbm, 280, rfl⟩
abbrev main_v272 : Ref sig .tc := ⟨.hbm, 281, rfl⟩
abbrev main_v273 : Ref sig .tc := ⟨.hbm, 282, rfl⟩
abbrev main_v274 : Ref sig .tc := ⟨.hbm, 283, rfl⟩
abbrev main_v275 : Ref sig .tc := ⟨.hbm, 284, rfl⟩
abbrev main_v276 : Ref sig .tc := ⟨.hbm, 285, rfl⟩
abbrev main_v277 : Ref sig .tc := ⟨.hbm, 286, rfl⟩
abbrev main_v278 : Ref sig .tc := ⟨.hbm, 287, rfl⟩
abbrev main_v279 : Ref sig .tc := ⟨.hbm, 288, rfl⟩
abbrev main_v280 : Ref sig .tc := ⟨.hbm, 289, rfl⟩
abbrev main_v281 : Ref sig .tc := ⟨.hbm, 290, rfl⟩
abbrev main_v282 : Ref sig .tc := ⟨.hbm, 291, rfl⟩
abbrev main_v283 : Ref sig .tc := ⟨.hbm, 292, rfl⟩
abbrev main_v284 : Ref sig .tc := ⟨.hbm, 293, rfl⟩
abbrev main_v285 : Ref sig .tc := ⟨.hbm, 294, rfl⟩
abbrev main_v286 : Ref sig .tc := ⟨.hbm, 295, rfl⟩
abbrev main_v287 : Ref sig .tc := ⟨.hbm, 296, rfl⟩
abbrev main_v288 : Ref sig .tc := ⟨.hbm, 297, rfl⟩
abbrev main_v289 : Ref sig .tc := ⟨.hbm, 298, rfl⟩
abbrev main_v290 : Ref sig .tc := ⟨.hbm, 299, rfl⟩
abbrev main_v291 : Ref sig .tc := ⟨.hbm, 300, rfl⟩
abbrev main_v292 : Ref sig .tc := ⟨.hbm, 301, rfl⟩
abbrev main_v293 : Ref sig .tc := ⟨.hbm, 302, rfl⟩
abbrev main_v294 : Ref sig .tc := ⟨.hbm, 303, rfl⟩
abbrev main_v295 : Ref sig .tc := ⟨.hbm, 304, rfl⟩
abbrev main_v296 : Ref sig .tc := ⟨.hbm, 305, rfl⟩
abbrev main_v297 : Ref sig .tc := ⟨.hbm, 306, rfl⟩
abbrev main_v298 : Ref sig .tc := ⟨.hbm, 307, rfl⟩
abbrev main_v299 : Ref sig .tc := ⟨.hbm, 308, rfl⟩
abbrev main_v300 : Ref sig .tc := ⟨.hbm, 309, rfl⟩
abbrev main_v301 : Ref sig .tc := ⟨.hbm, 310, rfl⟩
abbrev main_v302 : Ref sig .tc := ⟨.hbm, 311, rfl⟩
abbrev main_v303 : Ref sig .tc := ⟨.hbm, 312, rfl⟩
abbrev main_v304 : Ref sig .tc := ⟨.hbm, 313, rfl⟩
abbrev main_v305 : Ref sig .tc := ⟨.hbm, 314, rfl⟩
abbrev main_v306 : Ref sig .tc := ⟨.hbm, 315, rfl⟩
abbrev main_v307 : Ref sig .tc := ⟨.hbm, 316, rfl⟩
abbrev main_v308 : Ref sig .tc := ⟨.hbm, 317, rfl⟩
abbrev main_v309 : Ref sig .tc := ⟨.hbm, 318, rfl⟩
abbrev main_v310 : Ref sig .tc := ⟨.hbm, 319, rfl⟩
abbrev main_v311 : Ref sig .tc := ⟨.hbm, 320, rfl⟩
abbrev main_v312 : Ref sig .tc := ⟨.hbm, 321, rfl⟩
abbrev main_v313 : Ref sig .tc := ⟨.hbm, 322, rfl⟩
abbrev main_v314 : Ref sig .tc := ⟨.hbm, 323, rfl⟩
abbrev main_v315 : Ref sig .tc := ⟨.hbm, 324, rfl⟩
abbrev main_v316 : Ref sig .tc := ⟨.hbm, 325, rfl⟩
abbrev main_v317 : Ref sig .tc := ⟨.hbm, 326, rfl⟩
abbrev main_v318 : Ref sig .tc := ⟨.hbm, 327, rfl⟩
abbrev main_v319 : Ref sig .tc := ⟨.hbm, 328, rfl⟩
abbrev main_v320 : Ref sig .tc := ⟨.hbm, 329, rfl⟩
abbrev main_v321 : Ref sig .tc := ⟨.hbm, 330, rfl⟩
abbrev main_v322 : Ref sig .tc := ⟨.hbm, 331, rfl⟩
abbrev main_v323 : Ref sig .tc := ⟨.hbm, 332, rfl⟩
abbrev main_v324 : Ref sig .tc := ⟨.hbm, 333, rfl⟩
abbrev main_v325 : Ref sig .tc := ⟨.hbm, 334, rfl⟩
abbrev main_v326 : Ref sig .tc := ⟨.hbm, 335, rfl⟩
abbrev main_v327 : Ref sig .tc := ⟨.hbm, 336, rfl⟩
abbrev main_v328 : Ref sig .tc := ⟨.hbm, 337, rfl⟩
abbrev main_v329 : Ref sig .tc := ⟨.hbm, 338, rfl⟩
abbrev main_v330 : Ref sig .tc := ⟨.hbm, 339, rfl⟩
abbrev main_v331 : Ref sig .tc := ⟨.hbm, 340, rfl⟩
abbrev main_v332 : Ref sig .tc := ⟨.hbm, 341, rfl⟩
abbrev main_v333 : Ref sig .tc := ⟨.hbm, 342, rfl⟩
abbrev main_v334 : Ref sig .tc := ⟨.hbm, 343, rfl⟩
abbrev main_v335 : Ref sig .tc := ⟨.hbm, 344, rfl⟩
abbrev main_v336 : Ref sig .tc := ⟨.hbm, 345, rfl⟩
abbrev main_v337 : Ref sig .tc := ⟨.hbm, 346, rfl⟩
abbrev main_v338 : Ref sig .tc := ⟨.hbm, 347, rfl⟩
abbrev main_v339 : Ref sig .tc := ⟨.hbm, 348, rfl⟩
abbrev main_v340 : Ref sig .tc := ⟨.hbm, 349, rfl⟩
abbrev main_v341 : Ref sig .tc := ⟨.hbm, 350, rfl⟩
abbrev main_v342 : Ref sig .tc := ⟨.hbm, 351, rfl⟩
abbrev main_v343 : Ref sig .tc := ⟨.hbm, 352, rfl⟩
abbrev main_v344 : Ref sig .tc := ⟨.hbm, 353, rfl⟩
abbrev main_v345 : Ref sig .tc := ⟨.hbm, 354, rfl⟩
abbrev main_v346 : Ref sig .tc := ⟨.hbm, 355, rfl⟩
abbrev main_v347 : Ref sig .tc := ⟨.hbm, 356, rfl⟩
abbrev main_v348 : Ref sig .tc := ⟨.hbm, 357, rfl⟩
abbrev main_v349 : Ref sig .tc := ⟨.hbm, 358, rfl⟩
abbrev main_v350 : Ref sig .tc := ⟨.hbm, 359, rfl⟩
abbrev main_v351 : Ref sig .tc := ⟨.hbm, 360, rfl⟩
abbrev main_v352 : Ref sig .tc := ⟨.hbm, 361, rfl⟩
abbrev main_v353 : Ref sig .tc := ⟨.hbm, 362, rfl⟩
abbrev main_v354 : Ref sig .tc := ⟨.hbm, 363, rfl⟩
abbrev main_v355 : Ref sig .tc := ⟨.hbm, 364, rfl⟩
abbrev main_v356 : Ref sig .tc := ⟨.hbm, 365, rfl⟩
abbrev main_v357 : Ref sig .tc := ⟨.hbm, 366, rfl⟩
abbrev main_v358 : Ref sig .tc := ⟨.hbm, 367, rfl⟩
abbrev main_v359 : Ref sig .tc := ⟨.hbm, 368, rfl⟩
abbrev main_v360 : Ref sig .tc := ⟨.hbm, 369, rfl⟩
abbrev main_v361 : Ref sig .tc := ⟨.hbm, 370, rfl⟩
abbrev main_v362 : Ref sig .tc := ⟨.hbm, 371, rfl⟩
abbrev main_v363 : Ref sig .tc := ⟨.hbm, 372, rfl⟩
abbrev main_v364 : Ref sig .tc := ⟨.hbm, 373, rfl⟩
abbrev main_v365 : Ref sig .tc := ⟨.hbm, 374, rfl⟩
abbrev main_v366 : Ref sig .tc := ⟨.hbm, 375, rfl⟩
abbrev main_v367 : Ref sig .tc := ⟨.hbm, 376, rfl⟩
abbrev main_v368 : Ref sig .tc := ⟨.hbm, 377, rfl⟩
abbrev main_v369 : Ref sig .tc := ⟨.hbm, 378, rfl⟩
abbrev main_v370 : Ref sig .tc := ⟨.hbm, 379, rfl⟩
abbrev main_v371 : Ref sig .tc := ⟨.hbm, 380, rfl⟩
abbrev main_v372 : Ref sig .tc := ⟨.hbm, 381, rfl⟩
abbrev main_v373 : Ref sig .tc := ⟨.hbm, 382, rfl⟩
abbrev main_v374 : Ref sig .tc := ⟨.hbm, 383, rfl⟩
abbrev main_v375 : Ref sig .tc := ⟨.hbm, 384, rfl⟩
abbrev main_v376 : Ref sig .tc := ⟨.hbm, 385, rfl⟩
abbrev main_v377 : Ref sig .tc := ⟨.hbm, 386, rfl⟩
abbrev main_v378 : Ref sig .tc := ⟨.hbm, 387, rfl⟩
abbrev main_v379 : Ref sig .tc := ⟨.hbm, 388, rfl⟩
abbrev main_v380 : Ref sig .tc := ⟨.hbm, 389, rfl⟩
abbrev main_v381 : Ref sig .tc := ⟨.hbm, 390, rfl⟩
abbrev main_v382 : Ref sig .tc := ⟨.hbm, 391, rfl⟩
abbrev main_v383 : Ref sig .tc := ⟨.hbm, 392, rfl⟩
abbrev main_v384 : Ref sig .tc := ⟨.hbm, 393, rfl⟩
abbrev main_v385 : Ref sig .tc := ⟨.hbm, 394, rfl⟩
abbrev main_v386 : Ref sig .tc := ⟨.hbm, 395, rfl⟩
abbrev main_v387 : Ref sig .tc := ⟨.hbm, 396, rfl⟩
abbrev main_v388 : Ref sig .tc := ⟨.hbm, 397, rfl⟩
abbrev main_v389 : Ref sig .tc := ⟨.hbm, 398, rfl⟩
abbrev main_v390 : Ref sig .tc := ⟨.hbm, 399, rfl⟩
abbrev main_v391 : Ref sig .tc := ⟨.hbm, 400, rfl⟩
abbrev main_v392 : Ref sig .tc := ⟨.hbm, 401, rfl⟩
abbrev main_v393 : Ref sig .tc := ⟨.hbm, 402, rfl⟩
abbrev main_v394 : Ref sig .tc := ⟨.hbm, 403, rfl⟩
abbrev main_v395 : Ref sig .tc := ⟨.hbm, 404, rfl⟩
abbrev main_v396 : Ref sig .tc := ⟨.hbm, 405, rfl⟩
abbrev main_v397 : Ref sig .tc := ⟨.hbm, 406, rfl⟩
abbrev main_v398 : Ref sig .tc := ⟨.hbm, 407, rfl⟩
abbrev main_v399 : Ref sig .tc := ⟨.hbm, 408, rfl⟩
abbrev main_v400 : Ref sig .tc := ⟨.hbm, 409, rfl⟩
abbrev main_v401 : Ref sig .tc := ⟨.hbm, 410, rfl⟩
abbrev main_v402 : Ref sig .tc := ⟨.hbm, 411, rfl⟩
abbrev main_v403 : Ref sig .tc := ⟨.hbm, 412, rfl⟩
abbrev main_v404 : Ref sig .tc := ⟨.hbm, 413, rfl⟩
abbrev main_v405 : Ref sig .tc := ⟨.hbm, 414, rfl⟩
abbrev main_v406 : Ref sig .tc := ⟨.hbm, 415, rfl⟩
abbrev main_v407 : Ref sig .tc := ⟨.hbm, 416, rfl⟩
abbrev main_v408 : Ref sig .tc := ⟨.hbm, 417, rfl⟩
abbrev main_v409 : Ref sig .tc := ⟨.hbm, 418, rfl⟩
abbrev main_v410 : Ref sig .tc := ⟨.hbm, 419, rfl⟩
abbrev main_v411 : Ref sig .tc := ⟨.hbm, 420, rfl⟩
abbrev main_v412 : Ref sig .tc := ⟨.hbm, 421, rfl⟩
abbrev main_v413 : Ref sig .tc := ⟨.hbm, 422, rfl⟩
abbrev main_v414 : Ref sig .tc := ⟨.hbm, 423, rfl⟩
abbrev main_v415 : Ref sig .tc := ⟨.hbm, 424, rfl⟩
abbrev main_v416 : Ref sig .tc := ⟨.hbm, 425, rfl⟩
abbrev main_v417 : Ref sig .tc := ⟨.hbm, 426, rfl⟩
abbrev main_v418 : Ref sig .tc := ⟨.hbm, 427, rfl⟩
abbrev main_v419 : Ref sig .tc := ⟨.hbm, 428, rfl⟩
abbrev main_v420 : Ref sig .tc := ⟨.hbm, 429, rfl⟩
abbrev main_v421 : Ref sig .tc := ⟨.hbm, 430, rfl⟩
abbrev main_v422 : Ref sig .tc := ⟨.hbm, 431, rfl⟩

abbrev nD : Nat := 1
abbrev τ : Topo := Topo.v7x

variable {F : FTy → Type} [FloatOps F]
-- ==== Share.lean ====
abbrev S240x128 : Shape := ⟨2, ![240, 128]⟩
abbrev S512x704 : Shape := ⟨2, ![512, 704]⟩
abbrev S352x1024 : Shape := ⟨2, ![352, 1024]⟩
abbrev S128x1024 : Shape := ⟨2, ![128, 1024]⟩
abbrev S2x240x128 : Shape := ⟨3, ![2, 240, 128]⟩
abbrev S2x512x704 : Shape := ⟨3, ![2, 512, 704]⟩
abbrev S2x352x1024 : Shape := ⟨3, ![2, 352, 1024]⟩
abbrev S2x128x1024 : Shape := ⟨3, ![2, 128, 1024]⟩
abbrev S9 : Shape := ⟨1, ![9]⟩
abbrev S1 : Shape := ⟨1, ![1]⟩
abbrev S_ : Shape := ⟨0, ![]⟩
abbrev S1x240x128 : Shape := ⟨3, ![1, 240, 128]⟩
abbrev S1x512x704 : Shape := ⟨3, ![1, 512, 704]⟩
abbrev S1x352x1024 : Shape := ⟨3, ![1, 352, 1024]⟩
abbrev S1x128x1024 : Shape := ⟨3, ![1, 128, 1024]⟩

abbrev nBuf : Space → Nat
  | .hbm => 18
  | .vmem => 0
  | .smem => 0
  | _ => 0

abbrev bufTy : (tb : Table) → Fin (tcTables nBuf tb) → BufTy
  | .hbm, ⟨0, _⟩ => ⟨S240x128, .f32⟩
  | .hbm, ⟨1, _⟩ => ⟨S512x704, .f32⟩
  | .hbm, ⟨2, _⟩ => ⟨S512x704, .f32⟩
  | .hbm, ⟨3, _⟩ => ⟨S352x1024, .f32⟩
  | .hbm, ⟨4, _⟩ => ⟨S128x1024, .f32⟩
  | .hbm, ⟨5, _⟩ => ⟨S128x1024, .f32⟩
  | .hbm, ⟨6, _⟩ => ⟨S512x704, .f32⟩
  | .hbm, ⟨7, _⟩ => ⟨S512x704, .f32⟩
  | .hbm, ⟨8, _⟩ => ⟨S352x1024, .f32⟩
  | .hbm, ⟨9, _⟩ => ⟨S2x240x128, .f32⟩
  | .hbm, ⟨10, _⟩ => ⟨S2x512x704, .f32⟩
  | .hbm, ⟨11, _⟩ => ⟨S2x512x704, .f32⟩
  | .hbm, ⟨12, _⟩ => ⟨S2x352x1024, .f32⟩
  | .hbm, ⟨13, _⟩ => ⟨S2x128x1024, .f32⟩
  | .hbm, ⟨14, _⟩ => ⟨S2x128x1024, .f32⟩
  | .hbm, ⟨15, _⟩ => ⟨S2x512x704, .f32⟩
  | .hbm, ⟨16, _⟩ => ⟨S2x512x704, .f32⟩
  | .hbm, ⟨17, _⟩ => ⟨S2x352x1024, .f32⟩
  | _, _ => ⟨S240x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev main_v1_4 : Ref sig .tc := ⟨.hbm, 13, rfl⟩
abbrev main_v1_5 : Ref sig .tc := ⟨.hbm, 14, rfl⟩
abbrev main_v1_6 : Ref sig .tc := ⟨.hbm, 15, rfl⟩
abbrev main_v1_7 : Ref sig .tc := ⟨.hbm, 16, rfl⟩
abbrev main_v1_8 : Ref sig .tc := ⟨.hbm, 17, rfl⟩

abbrev nD : Nat := 8
abbrev τ : Topo := Topo.v7x

variable {F : FTy → Type} [FloatOps F]

abbrev grid0 : Pipeline.Grid := .none

def k0_off1 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_12 : BitVec 32 := 0#32
  let c0_i32_13 : BitVec 32 := 0#32
  ![v8.toNat, 0, 0]
def k0_off2 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_15 : BitVec 32 := 0#32
  let c0_i32_16 : BitVec 32 := 0#32
  ![v8.toNat, 0, 0]
def k0_off3 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_20 : BitVec 32 := 0#32
  let c0_i32_21 : BitVec 32 := 0#32
  ![v8.toNat, 0, 0]
def k0_off4 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_23 : BitVec 32 := 0#32
  let c0_i32_24 : BitVec 32 := 0#32
  ![v8.toNat, 0, 0]
def k0_dev1 (d0 : Dev nD) : Nat :=
  let c0_i32_36 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_35 : BitVec 32 := 4#32
  let v54 : BitVec 32 := Scalar.muli v2 c4_i32_35
  let v55 : BitVec 32 := Scalar.addi c0_i32_36 v54
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_37 : BitVec 32 := 2#32
  let v56 : BitVec 32 := Scalar.muli v5 c2_i32_37
  let v57 : BitVec 32 := Scalar.addi v55 v56
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_38 : BitVec 32 := 1#32
  let v58 : BitVec 32 := Scalar.muli v9 c1_i32_38
  let v59 : BitVec 32 := Scalar.addi v57 v58
  v59.toNat
def k0_dev2 (d0 : Dev nD) : Nat :=
  let c0_i32_44 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_43 : BitVec 32 := 4#32
  let v66 : BitVec 32 := Scalar.muli v2 c4_i32_43
  let v67 : BitVec 32 := Scalar.addi c0_i32_44 v66
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_45 : BitVec 32 := 2#32
  let v68 : BitVec 32 := Scalar.muli v5 c2_i32_45
  let v69 : BitVec 32 := Scalar.addi v67 v68
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_46 : BitVec 32 := 1#32
  let v70 : BitVec 32 := Scalar.muli v10 c1_i32_46
  let v71 : BitVec 32 := Scalar.addi v69 v70
  v71.toNat
def k0_dev3 (d0 : Dev nD) : Nat :=
  let c0_i32_52 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_51 : BitVec 32 := 4#32
  let v78 : BitVec 32 := Scalar.muli v2 c4_i32_51
  let v79 : BitVec 32 := Scalar.addi c0_i32_52 v78
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_53 : BitVec 32 := 2#32
  let v80 : BitVec 32 := Scalar.muli v5 c2_i32_53
  let v81 : BitVec 32 := Scalar.addi v79 v80
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_54 : BitVec 32 := 1#32
  let v82 : BitVec 32 := Scalar.muli v11 c1_i32_54
  let v83 : BitVec 32 := Scalar.addi v81 v82
  v83.toNat
def k0_dev4 (d0 : Dev nD) : Nat :=
  let c0_i32_60 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_59 : BitVec 32 := 4#32
  let v90 : BitVec 32 := Scalar.muli v2 c4_i32_59
  let v91 : BitVec 32 := Scalar.addi c0_i32_60 v90
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_61 : BitVec 32 := 2#32
  let v92 : BitVec 32 := Scalar.muli v5 c2_i32_61
  let v93 : BitVec 32 := Scalar.addi v91 v92
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_6 v8
  let c1_i32_62 : BitVec 32 := 1#32
  let v94 : BitVec 32 := Scalar.muli v12 c1_i32_62
  let v95 : BitVec 32 := Scalar.addi v93 v94
  v95.toNat
def k0_dev5 (d0 : Dev nD) : Nat :=
  let c0_i32_68 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_67 : BitVec 32 := 4#32
  let v102 : BitVec 32 := Scalar.muli v2 c4_i32_67
  let v103 : BitVec 32 := Scalar.addi c0_i32_68 v102
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_69 : BitVec 32 := 2#32
  let v104 : BitVec 32 := Scalar.muli v5 c2_i32_69
  let v105 : BitVec 32 := Scalar.addi v103 v104
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_7 v8
  let c1_i32_70 : BitVec 32 := 1#32
  let v106 : BitVec 32 := Scalar.muli v13 c1_i32_70
  let v107 : BitVec 32 := Scalar.addi v105 v106
  v107.toNat
def k0_dev6 (d0 : Dev nD) : Nat :=
  let c0_i32_76 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_75 : BitVec 32 := 4#32
  let v114 : BitVec 32 := Scalar.muli v2 c4_i32_75
  let v115 : BitVec 32 := Scalar.addi c0_i32_76 v114
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_77 : BitVec 32 := 2#32
  let v116 : BitVec 32 := Scalar.muli v5 c2_i32_77
  let v117 : BitVec 32 := Scalar.addi v115 v116
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.subi c1_i32_8 v8
  let c1_i32_78 : BitVec 32 := 1#32
  let v118 : BitVec 32 := Scalar.muli v14 c1_i32_78
  let v119 : BitVec 32 := Scalar.addi v117 v118
  v119.toNat
def k0_dev7 (d0 : Dev nD) : Nat :=
  let c0_i32_84 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_83 : BitVec 32 := 4#32
  let v126 : BitVec 32 := Scalar.muli v2 c4_i32_83
  let v127 : BitVec 32 := Scalar.addi c0_i32_84 v126
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_85 : BitVec 32 := 2#32
  let v128 : BitVec 32 := Scalar.muli v5 c2_i32_85
  let v129 : BitVec 32 := Scalar.addi v127 v128
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_9 v8
  let c1_i32_86 : BitVec 32 := 1#32
  let v130 : BitVec 32 := Scalar.muli v15 c1_i32_86
  let v131 : BitVec 32 := Scalar.addi v129 v130
  v131.toNat
def k0_dev8 (d0 : Dev nD) : Nat :=
  let c0_i32_92 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_91 : BitVec 32 := 4#32
  let v138 : BitVec 32 := Scalar.muli v2 c4_i32_91
  let v139 : BitVec 32 := Scalar.addi c0_i32_92 v138
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_93 : BitVec 32 := 2#32
  let v140 : BitVec 32 := Scalar.muli v5 c2_i32_93
  let v141 : BitVec 32 := Scalar.addi v139 v140
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.subi c1_i32_10 v8
  let c1_i32_94 : BitVec 32 := 1#32
  let v142 : BitVec 32 := Scalar.muli v16 c1_i32_94
  let v143 : BitVec 32 := Scalar.addi v141 v142
  v143.toNat
def k0_dev9 (d0 : Dev nD) : Nat :=
  let c0_i32_100 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_99 : BitVec 32 := 4#32
  let v150 : BitVec 32 := Scalar.muli v2 c4_i32_99
  let v151 : BitVec 32 := Scalar.addi c0_i32_100 v150
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_101 : BitVec 32 := 2#32
  let v152 : BitVec 32 := Scalar.muli v5 c2_i32_101
  let v153 : BitVec 32 := Scalar.addi v151 v152
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_11 v8
  let c1_i32_102 : BitVec 32 := 1#32
  let v154 : BitVec 32 := Scalar.muli v17 c1_i32_102
  let v155 : BitVec 32 := Scalar.addi v153 v154
  v155.toNat
def k0_off5 (d0 : Dev nD) : Fin 3 → Nat :=
  let c1_i32_105 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v162 : BitVec 32 := Scalar.subi c1_i32_105 v8
  let c0_i32_113 : BitVec 32 := 0#32
  let c0_i32_114 : BitVec 32 := 0#32
  ![v162.toNat, 0, 0]
def k0_off6 (d0 : Dev nD) : Fin 3 → Nat :=
  let c1_i32_117 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v176 : BitVec 32 := Scalar.subi c1_i32_117 v8
  let c0_i32_125 : BitVec 32 := 0#32
  let c0_i32_126 : BitVec 32 := 0#32
  ![v176.toNat, 0, 0]
def k0_off7 (d0 : Dev nD) : Fin 3 → Nat :=
  let c1_i32_141 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v204 : BitVec 32 := Scalar.subi c1_i32_141 v8
  let c0_i32_149 : BitVec 32 := 0#32
  let c0_i32_150 : BitVec 32 := 0#32
  ![v204.toNat, 0, 0]
def k0_off8 (d0 : Dev nD) : Fin 3 → Nat :=
  let c1_i32_153 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v218 : BitVec 32 := Scalar.subi c1_i32_153 v8
  let c0_i32_161 : BitVec 32 := 0#32
  let c0_i32_162 : BitVec 32 := 0#32
  ![v218.toNat, 0, 0]
-- ==== ShareIdeal.lean ====
abbrev S240x128 : Shape := ⟨2, ![240, 128]⟩
abbrev S512x704 : Shape := ⟨2, ![512, 704]⟩
abbrev S352x1024 : Shape := ⟨2, ![352, 1024]⟩
abbrev S128x1024 : Shape := ⟨2, ![128, 1024]⟩
abbrev S2x240x128 : Shape := ⟨3, ![2, 240, 128]⟩
abbrev S2x512x704 : Shape := ⟨3, ![2, 512, 704]⟩
abbrev S2x352x1024 : Shape := ⟨3, ![2, 352, 1024]⟩
abbrev S2x128x1024 : Shape := ⟨3, ![2, 128, 1024]⟩
abbrev S9 : Shape := ⟨1, ![9]⟩
abbrev S1 : Shape := ⟨1, ![1]⟩
abbrev S_ : Shape := ⟨0, ![]⟩
abbrev S1x240x128 : Shape := ⟨3, ![1, 240, 128]⟩
abbrev S1x512x704 : Shape := ⟨3, ![1, 512, 704]⟩
abbrev S1x352x1024 : Shape := ⟨3, ![1, 352, 1024]⟩
abbrev S1x128x1024 : Shape := ⟨3, ![1, 128, 1024]⟩

abbrev nBuf : Space → Nat
  | .hbm => 18
  | .vmem => 0
  | .smem => 0
  | _ => 0

abbrev bufTy : (tb : Table) → Fin (tcTables nBuf tb) → BufTy
  | .hbm, ⟨0, _⟩ => ⟨S240x128, .f32⟩
  | .hbm, ⟨1, _⟩ => ⟨S512x704, .f32⟩
  | .hbm, ⟨2, _⟩ => ⟨S512x704, .f32⟩
  | .hbm, ⟨3, _⟩ => ⟨S352x1024, .f32⟩
  | .hbm, ⟨4, _⟩ => ⟨S128x1024, .f32⟩
  | .hbm, ⟨5, _⟩ => ⟨S128x1024, .f32⟩
  | .hbm, ⟨6, _⟩ => ⟨S512x704, .f32⟩
  | .hbm, ⟨7, _⟩ => ⟨S512x704, .f32⟩
  | .hbm, ⟨8, _⟩ => ⟨S352x1024, .f32⟩
  | .hbm, ⟨9, _⟩ => ⟨S2x240x128, .f32⟩
  | .hbm, ⟨10, _⟩ => ⟨S2x512x704, .f32⟩
  | .hbm, ⟨11, _⟩ => ⟨S2x512x704, .f32⟩
  | .hbm, ⟨12, _⟩ => ⟨S2x352x1024, .f32⟩
  | .hbm, ⟨13, _⟩ => ⟨S2x128x1024, .f32⟩
  | .hbm, ⟨14, _⟩ => ⟨S2x128x1024, .f32⟩
  | .hbm, ⟨15, _⟩ => ⟨S2x512x704, .f32⟩
  | .hbm, ⟨16, _⟩ => ⟨S2x512x704, .f32⟩
  | .hbm, ⟨17, _⟩ => ⟨S2x352x1024, .f32⟩
  | _, _ => ⟨S240x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev main_v1_4 : Ref sig .tc := ⟨.hbm, 13, rfl⟩
abbrev main_v1_5 : Ref sig .tc := ⟨.hbm, 14, rfl⟩
abbrev main_v1_6 : Ref sig .tc := ⟨.hbm, 15, rfl⟩
abbrev main_v1_7 : Ref sig .tc := ⟨.hbm, 16, rfl⟩
abbrev main_v1_8 : Ref sig .tc := ⟨.hbm, 17, rfl⟩

abbrev nD : Nat := 8
abbrev τ : Topo := Topo.v7x

variable {F : FTy → Type} [FloatOps F]

abbrev grid0 : Pipeline.Grid := .none

def k0_off1 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_12 : BitVec 32 := 0#32
  let c0_i32_13 : BitVec 32 := 0#32
  ![v8.toNat, 0, 0]
def k0_off2 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_15 : BitVec 32 := 0#32
  let c0_i32_16 : BitVec 32 := 0#32
  ![v8.toNat, 0, 0]
def k0_off3 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_20 : BitVec 32 := 0#32
  let c0_i32_21 : BitVec 32 := 0#32
  ![v8.toNat, 0, 0]
def k0_off4 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_23 : BitVec 32 := 0#32
  let c0_i32_24 : BitVec 32 := 0#32
  ![v8.toNat, 0, 0]
def k0_dev1 (d0 : Dev nD) : Nat :=
  let c0_i32_36 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_35 : BitVec 32 := 4#32
  let v54 : BitVec 32 := Scalar.muli v2 c4_i32_35
  let v55 : BitVec 32 := Scalar.addi c0_i32_36 v54
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_37 : BitVec 32 := 2#32
  let v56 : BitVec 32 := Scalar.muli v5 c2_i32_37
  let v57 : BitVec 32 := Scalar.addi v55 v56
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_38 : BitVec 32 := 1#32
  let v58 : BitVec 32 := Scalar.muli v9 c1_i32_38
  let v59 : BitVec 32 := Scalar.addi v57 v58
  v59.toNat
def k0_dev2 (d0 : Dev nD) : Nat :=
  let c0_i32_44 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_43 : BitVec 32 := 4#32
  let v66 : BitVec 32 := Scalar.muli v2 c4_i32_43
  let v67 : BitVec 32 := Scalar.addi c0_i32_44 v66
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_45 : BitVec 32 := 2#32
  let v68 : BitVec 32 := Scalar.muli v5 c2_i32_45
  let v69 : BitVec 32 := Scalar.addi v67 v68
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_46 : BitVec 32 := 1#32
  let v70 : BitVec 32 := Scalar.muli v10 c1_i32_46
  let v71 : BitVec 32 := Scalar.addi v69 v70
  v71.toNat
def k0_dev3 (d0 : Dev nD) : Nat :=
  let c0_i32_52 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_51 : BitVec 32 := 4#32
  let v78 : BitVec 32 := Scalar.muli v2 c4_i32_51
  let v79 : BitVec 32 := Scalar.addi c0_i32_52 v78
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_53 : BitVec 32 := 2#32
  let v80 : BitVec 32 := Scalar.muli v5 c2_i32_53
  let v81 : BitVec 32 := Scalar.addi v79 v80
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_54 : BitVec 32 := 1#32
  let v82 : BitVec 32 := Scalar.muli v11 c1_i32_54
  let v83 : BitVec 32 := Scalar.addi v81 v82
  v83.toNat
def k0_dev4 (d0 : Dev nD) : Nat :=
  let c0_i32_60 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_59 : BitVec 32 := 4#32
  let v90 : BitVec 32 := Scalar.muli v2 c4_i32_59
  let v91 : BitVec 32 := Scalar.addi c0_i32_60 v90
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_61 : BitVec 32 := 2#32
  let v92 : BitVec 32 := Scalar.muli v5 c2_i32_61
  let v93 : BitVec 32 := Scalar.addi v91 v92
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_6 v8
  let c1_i32_62 : BitVec 32 := 1#32
  let v94 : BitVec 32 := Scalar.muli v12 c1_i32_62
  let v95 : BitVec 32 := Scalar.addi v93 v94
  v95.toNat
def k0_dev5 (d0 : Dev nD) : Nat :=
  let c0_i32_68 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_67 : BitVec 32 := 4#32
  let v102 : BitVec 32 := Scalar.muli v2 c4_i32_67
  let v103 : BitVec 32 := Scalar.addi c0_i32_68 v102
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_69 : BitVec 32 := 2#32
  let v104 : BitVec 32 := Scalar.muli v5 c2_i32_69
  let v105 : BitVec 32 := Scalar.addi v103 v104
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_7 v8
  let c1_i32_70 : BitVec 32 := 1#32
  let v106 : BitVec 32 := Scalar.muli v13 c1_i32_70
  let v107 : BitVec 32 := Scalar.addi v105 v106
  v107.toNat
def k0_dev6 (d0 : Dev nD) : Nat :=
  let c0_i32_76 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_75 : BitVec 32 := 4#32
  let v114 : BitVec 32 := Scalar.muli v2 c4_i32_75
  let v115 : BitVec 32 := Scalar.addi c0_i32_76 v114
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_77 : BitVec 32 := 2#32
  let v116 : BitVec 32 := Scalar.muli v5 c2_i32_77
  let v117 : BitVec 32 := Scalar.addi v115 v116
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.subi c1_i32_8 v8
  let c1_i32_78 : BitVec 32 := 1#32
  let v118 : BitVec 32 := Scalar.muli v14 c1_i32_78
  let v119 : BitVec 32 := Scalar.addi v117 v118
  v119.toNat
def k0_dev7 (d0 : Dev nD) : Nat :=
  let c0_i32_84 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_83 : BitVec 32 := 4#32
  let v126 : BitVec 32 := Scalar.muli v2 c4_i32_83
  let v127 : BitVec 32 := Scalar.addi c0_i32_84 v126
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_85 : BitVec 32 := 2#32
  let v128 : BitVec 32 := Scalar.muli v5 c2_i32_85
  let v129 : BitVec 32 := Scalar.addi v127 v128
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_9 v8
  let c1_i32_86 : BitVec 32 := 1#32
  let v130 : BitVec 32 := Scalar.muli v15 c1_i32_86
  let v131 : BitVec 32 := Scalar.addi v129 v130
  v131.toNat
def k0_dev8 (d0 : Dev nD) : Nat :=
  let c0_i32_92 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_91 : BitVec 32 := 4#32
  let v138 : BitVec 32 := Scalar.muli v2 c4_i32_91
  let v139 : BitVec 32 := Scalar.addi c0_i32_92 v138
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_93 : BitVec 32 := 2#32
  let v140 : BitVec 32 := Scalar.muli v5 c2_i32_93
  let v141 : BitVec 32 := Scalar.addi v139 v140
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.subi c1_i32_10 v8
  let c1_i32_94 : BitVec 32 := 1#32
  let v142 : BitVec 32 := Scalar.muli v16 c1_i32_94
  let v143 : BitVec 32 := Scalar.addi v141 v142
  v143.toNat
def k0_dev9 (d0 : Dev nD) : Nat :=
  let c0_i32_100 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_99 : BitVec 32 := 4#32
  let v150 : BitVec 32 := Scalar.muli v2 c4_i32_99
  let v151 : BitVec 32 := Scalar.addi c0_i32_100 v150
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_101 : BitVec 32 := 2#32
  let v152 : BitVec 32 := Scalar.muli v5 c2_i32_101
  let v153 : BitVec 32 := Scalar.addi v151 v152
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_11 v8
  let c1_i32_102 : BitVec 32 := 1#32
  let v154 : BitVec 32 := Scalar.muli v17 c1_i32_102
  let v155 : BitVec 32 := Scalar.addi v153 v154
  v155.toNat
def k0_off5 (d0 : Dev nD) : Fin 3 → Nat :=
  let c1_i32_105 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v162 : BitVec 32 := Scalar.subi c1_i32_105 v8
  let c0_i32_113 : BitVec 32 := 0#32
  let c0_i32_114 : BitVec 32 := 0#32
  ![v162.toNat, 0, 0]
def k0_off6 (d0 : Dev nD) : Fin 3 → Nat :=
  let c1_i32_117 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v176 : BitVec 32 := Scalar.subi c1_i32_117 v8
  let c0_i32_125 : BitVec 32 := 0#32
  let c0_i32_126 : BitVec 32 := 0#32
  ![v176.toNat, 0, 0]
def k0_off7 (d0 : Dev nD) : Fin 3 → Nat :=
  let c1_i32_141 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v204 : BitVec 32 := Scalar.subi c1_i32_141 v8
  let c0_i32_149 : BitVec 32 := 0#32
  let c0_i32_150 : BitVec 32 := 0#32
  ![v204.toNat, 0, 0]
def k0_off8 (d0 : Dev nD) : Fin 3 → Nat :=
  let c1_i32_153 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v218 : BitVec 32 := Scalar.subi c1_i32_153 v8
  let c0_i32_161 : BitVec 32 := 0#32
  let c0_i32_162 : BitVec 32 := 0#32
  ![v218.toNat, 0, 0]
-- ==== ShareRef.lean ====
abbrev S1920x128 : Shape := ⟨2, ![1920, 128]⟩
abbrev S4096x704 : Shape := ⟨2, ![4096, 704]⟩
abbrev S2816x1024 : Shape := ⟨2, ![2816, 1024]⟩
abbrev S1024x1024 : Shape := ⟨2, ![1024, 1024]⟩
abbrev S8x240x128 : Shape := ⟨3, ![8, 240, 128]⟩
abbrev S8x512x704 : Shape := ⟨3, ![8, 512, 704]⟩
abbrev S8x352x1024 : Shape := ⟨3, ![8, 352, 1024]⟩
abbrev S8x128x1024 : Shape := ⟨3, ![8, 128, 1024]⟩

abbrev nBuf : Space → Nat
  | .hbm => 18
  | .vmem => 0
  | .smem => 0
  | _ => 0

abbrev bufTy : (tb : Table) → Fin (tcTables nBuf tb) → BufTy
  | .hbm, ⟨0, _⟩ => ⟨S1920x128, .f32⟩
  | .hbm, ⟨1, _⟩ => ⟨S4096x704, .f32⟩
  | .hbm, ⟨2, _⟩ => ⟨S4096x704, .f32⟩
  | .hbm, ⟨3, _⟩ => ⟨S2816x1024, .f32⟩
  | .hbm, ⟨4, _⟩ => ⟨S1024x1024, .f32⟩
  | .hbm, ⟨5, _⟩ => ⟨S1024x1024, .f32⟩
  | .hbm, ⟨6, _⟩ => ⟨S4096x704, .f32⟩
  | .hbm, ⟨7, _⟩ => ⟨S4096x704, .f32⟩
  | .hbm, ⟨8, _⟩ => ⟨S2816x1024, .f32⟩
  | .hbm, ⟨9, _⟩ => ⟨S8x240x128, .f32⟩
  | .hbm, ⟨10, _⟩ => ⟨S8x512x704, .f32⟩
  | .hbm, ⟨11, _⟩ => ⟨S8x512x704, .f32⟩
  | .hbm, ⟨12, _⟩ => ⟨S8x352x1024, .f32⟩
  | .hbm, ⟨13, _⟩ => ⟨S8x128x1024, .f32⟩
  | .hbm, ⟨14, _⟩ => ⟨S8x128x1024, .f32⟩
  | .hbm, ⟨15, _⟩ => ⟨S8x512x704, .f32⟩
  | .hbm, ⟨16, _⟩ => ⟨S8x512x704, .f32⟩
  | .hbm, ⟨17, _⟩ => ⟨S8x352x1024, .f32⟩
  | _, _ => ⟨S1920x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩

abbrev nD : Nat := 1
abbrev τ : Topo := Topo.v7x

variable {F : FTy → Type} [FloatOps F]
-- ==== Gather.lean ====
abbrev S2x512x704 : Shape := ⟨3, ![2, 512, 704]⟩
abbrev S2x352x1024 : Shape := ⟨3, ![2, 352, 1024]⟩
abbrev S2x128x1024 : Shape := ⟨3, ![2, 128, 1024]⟩
abbrev S2x8x256 : Shape := ⟨3, ![2, 8, 256]⟩
abbrev S4x2x512x704 : Shape := ⟨4, ![4, 2, 512, 704]⟩
abbrev S4x2x352x1024 : Shape := ⟨4, ![4, 2, 352, 1024]⟩
abbrev S4x2x128x1024 : Shape := ⟨4, ![4, 2, 128, 1024]⟩
abbrev S4x2x8x256 : Shape := ⟨4, ![4, 2, 8, 256]⟩
abbrev S54 : Shape := ⟨1, ![54]⟩
abbrev S9 : Shape := ⟨1, ![9]⟩
abbrev S1 : Shape := ⟨1, ![1]⟩
abbrev S_ : Shape := ⟨0, ![]⟩
abbrev S1x2x512x704 : Shape := ⟨4, ![1, 2, 512, 704]⟩
abbrev S1x2x352x1024 : Shape := ⟨4, ![1, 2, 352, 1024]⟩
abbrev S1x2x128x1024 : Shape := ⟨4, ![1, 2, 128, 1024]⟩
abbrev S1x2x8x256 : Shape := ⟨4, ![1, 2, 8, 256]⟩
abbrev S1x1x512x704 : Shape := ⟨4, ![1, 1, 512, 704]⟩
abbrev S512x704 : Shape := ⟨2, ![512, 704]⟩
abbrev S1x512x704 : Shape := ⟨3, ![1, 512, 704]⟩
abbrev S1x1x352x1024 : Shape := ⟨4, ![1, 1, 352, 1024]⟩
abbrev S352x1024 : Shape := ⟨2, ![352, 1024]⟩
abbrev S1x352x1024 : Shape := ⟨3, ![1, 352, 1024]⟩
abbrev S1x1x128x1024 : Shape := ⟨4, ![1, 1, 128, 1024]⟩
abbrev S128x1024 : Shape := ⟨2, ![128, 1024]⟩
abbrev S1x128x1024 : Shape := ⟨3, ![1, 128, 1024]⟩
abbrev S1x1x8x256 : Shape := ⟨4, ![1, 1, 8, 256]⟩
abbrev S8x256 : Shape := ⟨2, ![8, 256]⟩
abbrev S1x8x256 : Shape := ⟨3, ![1, 8, 256]⟩

abbrev nBuf : Space → Nat
  | .hbm => 18
  | .vmem => 0
  | .smem => 0
  | _ => 0

abbrev bufTy : (tb : Table) → Fin (tcTables nBuf tb) → BufTy
  | .hbm, ⟨0, _⟩ => ⟨S2x512x704, .bf16⟩
  | .hbm, ⟨1, _⟩ => ⟨S2x512x704, .bf16⟩
  | .hbm, ⟨2, _⟩ => ⟨S2x352x1024, .bf16⟩
  | .hbm, ⟨3, _⟩ => ⟨S2x128x1024, .bf16⟩
  | .hbm, ⟨4, _⟩ => ⟨S2x128x1024, .bf16⟩
  | .hbm, ⟨5, _⟩ => ⟨S2x512x704, .bf16⟩
  | .hbm, ⟨6, _⟩ => ⟨S2x512x704, .bf16⟩
  | .hbm, ⟨7, _⟩ => ⟨S2x352x1024, .bf16⟩
  | .hbm, ⟨8, _⟩ => ⟨S2x8x256, .f32⟩
  | .hbm, ⟨9, _⟩ => ⟨S4x2x512x704, .bf16⟩
  | .hbm, ⟨10, _⟩ => ⟨S4x2x512x704, .bf16⟩
  | .hbm, ⟨11, _⟩ => ⟨S4x2x352x1024, .bf16⟩
  | .hbm, ⟨12, _⟩ => ⟨S4x2x128x1024, .bf16⟩
  | .hbm, ⟨13, _⟩ => ⟨S4x2x128x1024, .bf16⟩
  | .hbm, ⟨14, _⟩ => ⟨S4x2x512x704, .bf16⟩
  | .hbm, ⟨15, _⟩ => ⟨S4x2x512x704, .bf16⟩
  | .hbm, ⟨16, _⟩ => ⟨S4x2x352x1024, .bf16⟩
  | .hbm, ⟨17, _⟩ => ⟨S4x2x8x256, .f32⟩
  | _, _ => ⟨S2x512x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 117 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | _ => false

abbrev sig : RefSig :=
  ofTc nBuf bufTy 0 117 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev main_v1_4 : Ref sig .tc := ⟨.hbm, 13, rfl⟩
abbrev main_v1_5 : Ref sig .tc := ⟨.hbm, 14, rfl⟩
abbrev main_v1_6 : Ref sig .tc := ⟨.hbm, 15, rfl⟩
abbrev main_v1_7 : Ref sig .tc := ⟨.hbm, 16, rfl⟩
abbrev main_v1_8 : Ref sig .tc := ⟨.hbm, 17, rfl⟩

abbrev nD : Nat := 8
abbrev τ : Topo := Topo.v7x

variable {F : FTy → Type} [FloatOps F]

abbrev grid0 : Pipeline.Grid := .none

def k0_off1 (d0 : Dev nD) : Fin 4 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32_9 : BitVec 32 := 0#32
  let c0_i32_10 : BitVec 32 := 0#32
  let c0_i32_11 : BitVec 32 := 0#32
  ![v14.toNat, 0, 0, 0]
def k0_off2 (d0 : Dev nD) : Fin 4 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32_17 : BitVec 32 := 0#32
  let c0_i32_18 : BitVec 32 := 0#32
  let c0_i32_19 : BitVec 32 := 0#32
  ![v14.toNat, 0, 0, 0]
def k0_off3 (d0 : Dev nD) : Fin 4 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32_20 : BitVec 32 := 0#32
  let c0_i32_21 : BitVec 32 := 0#32
  let c0_i32_22 : BitVec 32 := 0#32
  ![v14.toNat, 0, 0, 0]
def k0_off4 (d0 : Dev nD) : Fin 4 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32_36 : BitVec 32 := 0#32
  let c0_i32_37 : BitVec 32 := 0#32
  let c0_i32_38 : BitVec 32 := 0#32
  ![v14.toNat, 0, 0, 0]
def k0_off5 (d0 : Dev nD) : Fin 4 → Nat :=
  let c2_i32_39 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v52 : BitVec 32 := Scalar.muli c2_i32_39 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v53 : BitVec 32 := Scalar.addi v52 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_72 : BitVec 32 := 0#32
  let c0_i32_73 : BitVec 32 := 0#32
  ![v53.toNat, v8.toNat, 0, 0]
def k0_off6 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_74 : BitVec 32 := 0#32
  let c0_i32_75 : BitVec 32 := 0#32
  ![v8.toNat, 0, 0]
def k0_dev1 (d0 : Dev nD) : Nat :=
  let c0_i32_69 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_68 : BitVec 32 := 4#32
  let v106 : BitVec 32 := Scalar.muli v9 c4_i32_68
  let v107 : BitVec 32 := Scalar.addi c0_i32_69 v106
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_70 : BitVec 32 := 2#32
  let v108 : BitVec 32 := Scalar.muli v5 c2_i32_70
  let v109 : BitVec 32 := Scalar.addi v107 v108
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_71 : BitVec 32 := 1#32
  let v110 : BitVec 32 := Scalar.muli v8 c1_i32_71
  let v111 : BitVec 32 := Scalar.addi v109 v110
  v111.toNat
def k0_dev2 (d0 : Dev nD) : Nat :=
  let c0_i32_79 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_78 : BitVec 32 := 4#32
  let v120 : BitVec 32 := Scalar.muli v2 c4_i32_78
  let v121 : BitVec 32 := Scalar.addi c0_i32_79 v120
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_80 : BitVec 32 := 2#32
  let v122 : BitVec 32 := Scalar.muli v10 c2_i32_80
  let v123 : BitVec 32 := Scalar.addi v121 v122
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_81 : BitVec 32 := 1#32
  let v124 : BitVec 32 := Scalar.muli v8 c1_i32_81
  let v125 : BitVec 32 := Scalar.addi v123 v124
  v125.toNat
def k0_dev3 (d0 : Dev nD) : Nat :=
  let c0_i32_89 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_88 : BitVec 32 := 4#32
  let v134 : BitVec 32 := Scalar.muli v11 c4_i32_88
  let v135 : BitVec 32 := Scalar.addi c0_i32_89 v134
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_90 : BitVec 32 := 2#32
  let v136 : BitVec 32 := Scalar.muli v12 c2_i32_90
  let v137 : BitVec 32 := Scalar.addi v135 v136
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_91 : BitVec 32 := 1#32
  let v138 : BitVec 32 := Scalar.muli v8 c1_i32_91
  let v139 : BitVec 32 := Scalar.addi v137 v138
  v139.toNat
def k0_dev4 (d0 : Dev nD) : Nat :=
  let c0_i32_99 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_98 : BitVec 32 := 4#32
  let v148 : BitVec 32 := Scalar.muli v9 c4_i32_98
  let v149 : BitVec 32 := Scalar.addi c0_i32_99 v148
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_100 : BitVec 32 := 2#32
  let v150 : BitVec 32 := Scalar.muli v5 c2_i32_100
  let v151 : BitVec 32 := Scalar.addi v149 v150
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_101 : BitVec 32 := 1#32
  let v152 : BitVec 32 := Scalar.muli v8 c1_i32_101
  let v153 : BitVec 32 := Scalar.addi v151 v152
  v153.toNat
def k0_dev5 (d0 : Dev nD) : Nat :=
  let c0_i32_109 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_108 : BitVec 32 := 4#32
  let v162 : BitVec 32 := Scalar.muli v2 c4_i32_108
  let v163 : BitVec 32 := Scalar.addi c0_i32_109 v162
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_110 : BitVec 32 := 2#32
  let v164 : BitVec 32 := Scalar.muli v10 c2_i32_110
  let v165 : BitVec 32 := Scalar.addi v163 v164
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_111 : BitVec 32 := 1#32
  let v166 : BitVec 32 := Scalar.muli v8 c1_i32_111
  let v167 : BitVec 32 := Scalar.addi v165 v166
  v167.toNat
def k0_dev6 (d0 : Dev nD) : Nat :=
  let c0_i32_119 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_118 : BitVec 32 := 4#32
  let v176 : BitVec 32 := Scalar.muli v11 c4_i32_118
  let v177 : BitVec 32 := Scalar.addi c0_i32_119 v176
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_120 : BitVec 32 := 2#32
  let v178 : BitVec 32 := Scalar.muli v12 c2_i32_120
  let v179 : BitVec 32 := Scalar.addi v177 v178
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_121 : BitVec 32 := 1#32
  let v180 : BitVec 32 := Scalar.muli v8 c1_i32_121
  let v181 : BitVec 32 := Scalar.addi v179 v180
  v181.toNat
def k0_off7 (d0 : Dev nD) : Fin 4 → Nat :=
  let c2_i32_45 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v64 : BitVec 32 := Scalar.muli c2_i32_45 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v65 : BitVec 32 := Scalar.addi v64 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_131 : BitVec 32 := 0#32
  let c0_i32_132 : BitVec 32 := 0#32
  ![v65.toNat, v8.toNat, 0, 0]
def k0_off8 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_133 : BitVec 32 := 0#32
  let c0_i32_134 : BitVec 32 := 0#32
  ![v8.toNat, 0, 0]
def k0_dev7 (d0 : Dev nD) : Nat :=
  let c0_i32_128 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_127 : BitVec 32 := 4#32
  let v190 : BitVec 32 := Scalar.muli v9 c4_i32_127
  let v191 : BitVec 32 := Scalar.addi c0_i32_128 v190
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_129 : BitVec 32 := 2#32
  let v192 : BitVec 32 := Scalar.muli v5 c2_i32_129
  let v193 : BitVec 32 := Scalar.addi v191 v192
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_130 : BitVec 32 := 1#32
  let v194 : BitVec 32 := Scalar.muli v8 c1_i32_130
  let v195 : BitVec 32 := Scalar.addi v193 v194
  v195.toNat
def k0_dev8 (d0 : Dev nD) : Nat :=
  let c0_i32_137 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_136 : BitVec 32 := 4#32
  let v204 : BitVec 32 := Scalar.muli v2 c4_i32_136
  let v205 : BitVec 32 := Scalar.addi c0_i32_137 v204
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_138 : BitVec 32 := 2#32
  let v206 : BitVec 32 := Scalar.muli v10 c2_i32_138
  let v207 : BitVec 32 := Scalar.addi v205 v206
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_139 : BitVec 32 := 1#32
  let v208 : BitVec 32 := Scalar.muli v8 c1_i32_139
  let v209 : BitVec 32 := Scalar.addi v207 v208
  v209.toNat
def k0_dev9 (d0 : Dev nD) : Nat :=
  let c0_i32_146 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_145 : BitVec 32 := 4#32
  let v218 : BitVec 32 := Scalar.muli v11 c4_i32_145
  let v219 : BitVec 32 := Scalar.addi c0_i32_146 v218
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_147 : BitVec 32 := 2#32
  let v220 : BitVec 32 := Scalar.muli v12 c2_i32_147
  let v221 : BitVec 32 := Scalar.addi v219 v220
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_148 : BitVec 32 := 1#32
  let v222 : BitVec 32 := Scalar.muli v8 c1_i32_148
  let v223 : BitVec 32 := Scalar.addi v221 v222
  v223.toNat
def k0_off9 (d0 : Dev nD) : Fin 4 → Nat :=
  let c2_i32_48 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v70 : BitVec 32 := Scalar.muli c2_i32_48 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v71 : BitVec 32 := Scalar.addi v70 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_158 : BitVec 32 := 0#32
  let c0_i32_159 : BitVec 32 := 0#32
  ![v71.toNat, v8.toNat, 0, 0]
def k0_off10 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_160 : BitVec 32 := 0#32
  let c0_i32_161 : BitVec 32 := 0#32
  ![v8.toNat, 0, 0]
def k0_dev10 (d0 : Dev nD) : Nat :=
  let c0_i32_155 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_154 : BitVec 32 := 4#32
  let v232 : BitVec 32 := Scalar.muli v9 c4_i32_154
  let v233 : BitVec 32 := Scalar.addi c0_i32_155 v232
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_156 : BitVec 32 := 2#32
  let v234 : BitVec 32 := Scalar.muli v5 c2_i32_156
  let v235 : BitVec 32 := Scalar.addi v233 v234
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_157 : BitVec 32 := 1#32
  let v236 : BitVec 32 := Scalar.muli v8 c1_i32_157
  let v237 : BitVec 32 := Scalar.addi v235 v236
  v237.toNat
def k0_dev11 (d0 : Dev nD) : Nat :=
  let c0_i32_164 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_163 : BitVec 32 := 4#32
  let v246 : BitVec 32 := Scalar.muli v2 c4_i32_163
  let v247 : BitVec 32 := Scalar.addi c0_i32_164 v246
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_165 : BitVec 32 := 2#32
  let v248 : BitVec 32 := Scalar.muli v10 c2_i32_165
  let v249 : BitVec 32 := Scalar.addi v247 v248
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_166 : BitVec 32 := 1#32
  let v250 : BitVec 32 := Scalar.muli v8 c1_i32_166
  let v251 : BitVec 32 := Scalar.addi v249 v250
  v251.toNat
def k0_dev12 (d0 : Dev nD) : Nat :=
  let c0_i32_173 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_172 : BitVec 32 := 4#32
  let v260 : BitVec 32 := Scalar.muli v11 c4_i32_172
  let v261 : BitVec 32 := Scalar.addi c0_i32_173 v260
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_174 : BitVec 32 := 2#32
  let v262 : BitVec 32 := Scalar.muli v12 c2_i32_174
  let v263 : BitVec 32 := Scalar.addi v261 v262
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_175 : BitVec 32 := 1#32
  let v264 : BitVec 32 := Scalar.muli v8 c1_i32_175
  let v265 : BitVec 32 := Scalar.addi v263 v264
  v265.toNat
def k0_dev13 (d0 : Dev nD) : Nat :=
  let c0_i32_182 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_181 : BitVec 32 := 4#32
  let v274 : BitVec 32 := Scalar.muli v9 c4_i32_181
  let v275 : BitVec 32 := Scalar.addi c0_i32_182 v274
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_183 : BitVec 32 := 2#32
  let v276 : BitVec 32 := Scalar.muli v5 c2_i32_183
  let v277 : BitVec 32 := Scalar.addi v275 v276
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_184 : BitVec 32 := 1#32
  let v278 : BitVec 32 := Scalar.muli v8 c1_i32_184
  let v279 : BitVec 32 := Scalar.addi v277 v278
  v279.toNat
def k0_dev14 (d0 : Dev nD) : Nat :=
  let c0_i32_191 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_190 : BitVec 32 := 4#32
  let v288 : BitVec 32 := Scalar.muli v2 c4_i32_190
  let v289 : BitVec 32 := Scalar.addi c0_i32_191 v288
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_192 : BitVec 32 := 2#32
  let v290 : BitVec 32 := Scalar.muli v10 c2_i32_192
  let v291 : BitVec 32 := Scalar.addi v289 v290
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_193 : BitVec 32 := 1#32
  let v292 : BitVec 32 := Scalar.muli v8 c1_i32_193
  let v293 : BitVec 32 := Scalar.addi v291 v292
  v293.toNat
def k0_dev15 (d0 : Dev nD) : Nat :=
  let c0_i32_200 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_199 : BitVec 32 := 4#32
  let v302 : BitVec 32 := Scalar.muli v11 c4_i32_199
  let v303 : BitVec 32 := Scalar.addi c0_i32_200 v302
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_201 : BitVec 32 := 2#32
  let v304 : BitVec 32 := Scalar.muli v12 c2_i32_201
  let v305 : BitVec 32 := Scalar.addi v303 v304
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_202 : BitVec 32 := 1#32
  let v306 : BitVec 32 := Scalar.muli v8 c1_i32_202
  let v307 : BitVec 32 := Scalar.addi v305 v306
  v307.toNat
def k0_dev16 (d0 : Dev nD) : Nat :=
  let c0_i32_209 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_208 : BitVec 32 := 4#32
  let v316 : BitVec 32 := Scalar.muli v9 c4_i32_208
  let v317 : BitVec 32 := Scalar.addi c0_i32_209 v316
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_210 : BitVec 32 := 2#32
  let v318 : BitVec 32 := Scalar.muli v5 c2_i32_210
  let v319 : BitVec 32 := Scalar.addi v317 v318
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_211 : BitVec 32 := 1#32
  let v320 : BitVec 32 := Scalar.muli v8 c1_i32_211
  let v321 : BitVec 32 := Scalar.addi v319 v320
  v321.toNat
def k0_dev17 (d0 : Dev nD) : Nat :=
  let c0_i32_218 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_217 : BitVec 32 := 4#32
  let v330 : BitVec 32 := Scalar.muli v2 c4_i32_217
  let v331 : BitVec 32 := Scalar.addi c0_i32_218 v330
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_219 : BitVec 32 := 2#32
  let v332 : BitVec 32 := Scalar.muli v10 c2_i32_219
  let v333 : BitVec 32 := Scalar.addi v331 v332
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_220 : BitVec 32 := 1#32
  let v334 : BitVec 32 := Scalar.muli v8 c1_i32_220
  let v335 : BitVec 32 := Scalar.addi v333 v334
  v335.toNat
def k0_dev18 (d0 : Dev nD) : Nat :=
  let c0_i32_227 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_226 : BitVec 32 := 4#32
  let v344 : BitVec 32 := Scalar.muli v11 c4_i32_226
  let v345 : BitVec 32 := Scalar.addi c0_i32_227 v344
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_228 : BitVec 32 := 2#32
  let v346 : BitVec 32 := Scalar.muli v12 c2_i32_228
  let v347 : BitVec 32 := Scalar.addi v345 v346
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_229 : BitVec 32 := 1#32
  let v348 : BitVec 32 := Scalar.muli v8 c1_i32_229
  let v349 : BitVec 32 := Scalar.addi v347 v348
  v349.toNat
def k0_dev19 (d0 : Dev nD) : Nat :=
  let c0_i32_236 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_235 : BitVec 32 := 4#32
  let v358 : BitVec 32 := Scalar.muli v9 c4_i32_235
  let v359 : BitVec 32 := Scalar.addi c0_i32_236 v358
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_237 : BitVec 32 := 2#32
  let v360 : BitVec 32 := Scalar.muli v5 c2_i32_237
  let v361 : BitVec 32 := Scalar.addi v359 v360
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_238 : BitVec 32 := 1#32
  let v362 : BitVec 32 := Scalar.muli v8 c1_i32_238
  let v363 : BitVec 32 := Scalar.addi v361 v362
  v363.toNat
def k0_dev20 (d0 : Dev nD) : Nat :=
  let c0_i32_245 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_244 : BitVec 32 := 4#32
  let v372 : BitVec 32 := Scalar.muli v2 c4_i32_244
  let v373 : BitVec 32 := Scalar.addi c0_i32_245 v372
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_246 : BitVec 32 := 2#32
  let v374 : BitVec 32 := Scalar.muli v10 c2_i32_246
  let v375 : BitVec 32 := Scalar.addi v373 v374
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_247 : BitVec 32 := 1#32
  let v376 : BitVec 32 := Scalar.muli v8 c1_i32_247
  let v377 : BitVec 32 := Scalar.addi v375 v376
  v377.toNat
def k0_dev21 (d0 : Dev nD) : Nat :=
  let c0_i32_254 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_253 : BitVec 32 := 4#32
  let v386 : BitVec 32 := Scalar.muli v11 c4_i32_253
  let v387 : BitVec 32 := Scalar.addi c0_i32_254 v386
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_255 : BitVec 32 := 2#32
  let v388 : BitVec 32 := Scalar.muli v12 c2_i32_255
  let v389 : BitVec 32 := Scalar.addi v387 v388
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_256 : BitVec 32 := 1#32
  let v390 : BitVec 32 := Scalar.muli v8 c1_i32_256
  let v391 : BitVec 32 := Scalar.addi v389 v390
  v391.toNat
def k0_dev22 (d0 : Dev nD) : Nat :=
  let c0_i32_263 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_262 : BitVec 32 := 4#32
  let v400 : BitVec 32 := Scalar.muli v9 c4_i32_262
  let v401 : BitVec 32 := Scalar.addi c0_i32_263 v400
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_264 : BitVec 32 := 2#32
  let v402 : BitVec 32 := Scalar.muli v5 c2_i32_264
  let v403 : BitVec 32 := Scalar.addi v401 v402
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_265 : BitVec 32 := 1#32
  let v404 : BitVec 32 := Scalar.muli v8 c1_i32_265
  let v405 : BitVec 32 := Scalar.addi v403 v404
  v405.toNat
def k0_dev23 (d0 : Dev nD) : Nat :=
  let c0_i32_272 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_271 : BitVec 32 := 4#32
  let v414 : BitVec 32 := Scalar.muli v2 c4_i32_271
  let v415 : BitVec 32 := Scalar.addi c0_i32_272 v414
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_273 : BitVec 32 := 2#32
  let v416 : BitVec 32 := Scalar.muli v10 c2_i32_273
  let v417 : BitVec 32 := Scalar.addi v415 v416
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_274 : BitVec 32 := 1#32
  let v418 : BitVec 32 := Scalar.muli v8 c1_i32_274
  let v419 : BitVec 32 := Scalar.addi v417 v418
  v419.toNat
def k0_dev24 (d0 : Dev nD) : Nat :=
  let c0_i32_281 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_280 : BitVec 32 := 4#32
  let v428 : BitVec 32 := Scalar.muli v11 c4_i32_280
  let v429 : BitVec 32 := Scalar.addi c0_i32_281 v428
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_282 : BitVec 32 := 2#32
  let v430 : BitVec 32 := Scalar.muli v12 c2_i32_282
  let v431 : BitVec 32 := Scalar.addi v429 v430
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_283 : BitVec 32 := 1#32
  let v432 : BitVec 32 := Scalar.muli v8 c1_i32_283
  let v433 : BitVec 32 := Scalar.addi v431 v432
  v433.toNat
def k0_off11 (d0 : Dev nD) : Fin 4 → Nat :=
  let c2_i32_63 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v100 : BitVec 32 := Scalar.muli c2_i32_63 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v101 : BitVec 32 := Scalar.addi v100 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_293 : BitVec 32 := 0#32
  let c0_i32_294 : BitVec 32 := 0#32
  ![v101.toNat, v8.toNat, 0, 0]
def k0_off12 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_295 : BitVec 32 := 0#32
  let c0_i32_296 : BitVec 32 := 0#32
  ![v8.toNat, 0, 0]
def k0_dev25 (d0 : Dev nD) : Nat :=
  let c0_i32_290 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_289 : BitVec 32 := 4#32
  let v442 : BitVec 32 := Scalar.muli v9 c4_i32_289
  let v443 : BitVec 32 := Scalar.addi c0_i32_290 v442
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_291 : BitVec 32 := 2#32
  let v444 : BitVec 32 := Scalar.muli v5 c2_i32_291
  let v445 : BitVec 32 := Scalar.addi v443 v444
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_292 : BitVec 32 := 1#32
  let v446 : BitVec 32 := Scalar.muli v8 c1_i32_292
  let v447 : BitVec 32 := Scalar.addi v445 v446
  v447.toNat
def k0_dev26 (d0 : Dev nD) : Nat :=
  let c0_i32_299 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_298 : BitVec 32 := 4#32
  let v456 : BitVec 32 := Scalar.muli v2 c4_i32_298
  let v457 : BitVec 32 := Scalar.addi c0_i32_299 v456
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_300 : BitVec 32 := 2#32
  let v458 : BitVec 32 := Scalar.muli v10 c2_i32_300
  let v459 : BitVec 32 := Scalar.addi v457 v458
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_301 : BitVec 32 := 1#32
  let v460 : BitVec 32 := Scalar.muli v8 c1_i32_301
  let v461 : BitVec 32 := Scalar.addi v459 v460
  v461.toNat
def k0_dev27 (d0 : Dev nD) : Nat :=
  let c0_i32_308 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_307 : BitVec 32 := 4#32
  let v470 : BitVec 32 := Scalar.muli v11 c4_i32_307
  let v471 : BitVec 32 := Scalar.addi c0_i32_308 v470
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_309 : BitVec 32 := 2#32
  let v472 : BitVec 32 := Scalar.muli v12 c2_i32_309
  let v473 : BitVec 32 := Scalar.addi v471 v472
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_310 : BitVec 32 := 1#32
  let v474 : BitVec 32 := Scalar.muli v8 c1_i32_310
  let v475 : BitVec 32 := Scalar.addi v473 v474
  v475.toNat
def k0_off13 (d0 : Dev nD) : Fin 4 → Nat :=
  let c2_i32_315 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v484 : BitVec 32 := Scalar.muli c2_i32_315 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v485 : BitVec 32 := Scalar.addi v484 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_322 : BitVec 32 := 0#32
  let c0_i32_323 : BitVec 32 := 0#32
  ![v485.toNat, v8.toNat, 0, 0]
def k0_dev28 (d0 : Dev nD) : Nat :=
  let c0_i32_331 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_330 : BitVec 32 := 4#32
  let v502 : BitVec 32 := Scalar.muli v2 c4_i32_330
  let v503 : BitVec 32 := Scalar.addi c0_i32_331 v502
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_332 : BitVec 32 := 2#32
  let v504 : BitVec 32 := Scalar.muli v5 c2_i32_332
  let v505 : BitVec 32 := Scalar.addi v503 v504
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_333 : BitVec 32 := 1#32
  let v506 : BitVec 32 := Scalar.muli v15 c1_i32_333
  let v507 : BitVec 32 := Scalar.addi v505 v506
  v507.toNat
def k0_off14 (d0 : Dev nD) : Fin 4 → Nat :=
  let c2_i32_338 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v516 : BitVec 32 := Scalar.muli c2_i32_338 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v517 : BitVec 32 := Scalar.addi v516 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_345 : BitVec 32 := 0#32
  let c0_i32_346 : BitVec 32 := 0#32
  ![v517.toNat, v8.toNat, 0, 0]
def k0_dev29 (d0 : Dev nD) : Nat :=
  let c0_i32_354 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_353 : BitVec 32 := 4#32
  let v534 : BitVec 32 := Scalar.muli v2 c4_i32_353
  let v535 : BitVec 32 := Scalar.addi c0_i32_354 v534
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_355 : BitVec 32 := 2#32
  let v536 : BitVec 32 := Scalar.muli v5 c2_i32_355
  let v537 : BitVec 32 := Scalar.addi v535 v536
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_356 : BitVec 32 := 1#32
  let v538 : BitVec 32 := Scalar.muli v15 c1_i32_356
  let v539 : BitVec 32 := Scalar.addi v537 v538
  v539.toNat
def k0_off15 (d0 : Dev nD) : Fin 4 → Nat :=
  let c2_i32_361 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v548 : BitVec 32 := Scalar.muli c2_i32_361 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v549 : BitVec 32 := Scalar.addi v548 v12
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_368 : BitVec 32 := 0#32
  let c0_i32_369 : BitVec 32 := 0#32
  ![v549.toNat, v8.toNat, 0, 0]
def k0_dev30 (d0 : Dev nD) : Nat :=
  let c0_i32_377 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_376 : BitVec 32 := 4#32
  let v566 : BitVec 32 := Scalar.muli v2 c4_i32_376
  let v567 : BitVec 32 := Scalar.addi c0_i32_377 v566
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_378 : BitVec 32 := 2#32
  let v568 : BitVec 32 := Scalar.muli v5 c2_i32_378
  let v569 : BitVec 32 := Scalar.addi v567 v568
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_379 : BitVec 32 := 1#32
  let v570 : BitVec 32 := Scalar.muli v15 c1_i32_379
  let v571 : BitVec 32 := Scalar.addi v569 v570
  v571.toNat
def k0_dev31 (d0 : Dev nD) : Nat :=
  let c0_i32_399 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_398 : BitVec 32 := 4#32
  let v598 : BitVec 32 := Scalar.muli v2 c4_i32_398
  let v599 : BitVec 32 := Scalar.addi c0_i32_399 v598
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_400 : BitVec 32 := 2#32
  let v600 : BitVec 32 := Scalar.muli v5 c2_i32_400
  let v601 : BitVec 32 := Scalar.addi v599 v600
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_401 : BitVec 32 := 1#32
  let v602 : BitVec 32 := Scalar.muli v15 c1_i32_401
  let v603 : BitVec 32 := Scalar.addi v601 v602
  v603.toNat
def k0_dev32 (d0 : Dev nD) : Nat :=
  let c0_i32_421 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_420 : BitVec 32 := 4#32
  let v630 : BitVec 32 := Scalar.muli v2 c4_i32_420
  let v631 : BitVec 32 := Scalar.addi c0_i32_421 v630
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_422 : BitVec 32 := 2#32
  let v632 : BitVec 32 := Scalar.muli v5 c2_i32_422
  let v633 : BitVec 32 := Scalar.addi v631 v632
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_423 : BitVec 32 := 1#32
  let v634 : BitVec 32 := Scalar.muli v15 c1_i32_423
  let v635 : BitVec 32 := Scalar.addi v633 v634
  v635.toNat
def k0_dev33 (d0 : Dev nD) : Nat :=
  let c0_i32_443 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_442 : BitVec 32 := 4#32
  let v662 : BitVec 32 := Scalar.muli v2 c4_i32_442
  let v663 : BitVec 32 := Scalar.addi c0_i32_443 v662
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_444 : BitVec 32 := 2#32
  let v664 : BitVec 32 := Scalar.muli v5 c2_i32_444
  let v665 : BitVec 32 := Scalar.addi v663 v664
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_445 : BitVec 32 := 1#32
  let v666 : BitVec 32 := Scalar.muli v15 c1_i32_445
  let v667 : BitVec 32 := Scalar.addi v665 v666
  v667.toNat
def k0_off16 (d0 : Dev nD) : Fin 4 → Nat :=
  let c2_i32_450 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v676 : BitVec 32 := Scalar.muli c2_i32_450 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v677 : BitVec 32 := Scalar.addi v676 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_457 : BitVec 32 := 0#32
  let c0_i32_458 : BitVec 32 := 0#32
  ![v677.toNat, v8.toNat, 0, 0]
def k0_dev34 (d0 : Dev nD) : Nat :=
  let c0_i32_465 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_464 : BitVec 32 := 4#32
  let v694 : BitVec 32 := Scalar.muli v2 c4_i32_464
  let v695 : BitVec 32 := Scalar.addi c0_i32_465 v694
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_466 : BitVec 32 := 2#32
  let v696 : BitVec 32 := Scalar.muli v5 c2_i32_466
  let v697 : BitVec 32 := Scalar.addi v695 v696
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_467 : BitVec 32 := 1#32
  let v698 : BitVec 32 := Scalar.muli v15 c1_i32_467
  let v699 : BitVec 32 := Scalar.addi v697 v698
  v699.toNat
def k0_off17 (d0 : Dev nD) : Fin 4 → Nat :=
  let c2_i32_472 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v708 : BitVec 32 := Scalar.muli c2_i32_472 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v709 : BitVec 32 := Scalar.addi v708 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_479 : BitVec 32 := 0#32
  let c0_i32_480 : BitVec 32 := 0#32
  ![v709.toNat, v8.toNat, 0, 0]
def k0_dev35 (d0 : Dev nD) : Nat :=
  let c0_i32_487 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_486 : BitVec 32 := 4#32
  let v726 : BitVec 32 := Scalar.muli v2 c4_i32_486
  let v727 : BitVec 32 := Scalar.addi c0_i32_487 v726
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_488 : BitVec 32 := 2#32
  let v728 : BitVec 32 := Scalar.muli v5 c2_i32_488
  let v729 : BitVec 32 := Scalar.addi v727 v728
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_489 : BitVec 32 := 1#32
  let v730 : BitVec 32 := Scalar.muli v15 c1_i32_489
  let v731 : BitVec 32 := Scalar.addi v729 v730
  v731.toNat
def k0_off18 (d0 : Dev nD) : Fin 4 → Nat :=
  let c2_i32_494 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v740 : BitVec 32 := Scalar.muli c2_i32_494 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v741 : BitVec 32 := Scalar.addi v740 v12
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_501 : BitVec 32 := 0#32
  let c0_i32_502 : BitVec 32 := 0#32
  ![v741.toNat, v8.toNat, 0, 0]
def k0_dev36 (d0 : Dev nD) : Nat :=
  let c0_i32_509 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_508 : BitVec 32 := 4#32
  let v758 : BitVec 32 := Scalar.muli v2 c4_i32_508
  let v759 : BitVec 32 := Scalar.addi c0_i32_509 v758
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_510 : BitVec 32 := 2#32
  let v760 : BitVec 32 := Scalar.muli v5 c2_i32_510
  let v761 : BitVec 32 := Scalar.addi v759 v760
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_511 : BitVec 32 := 1#32
  let v762 : BitVec 32 := Scalar.muli v15 c1_i32_511
  let v763 : BitVec 32 := Scalar.addi v761 v762
  v763.toNat
def k0_off19 (d0 : Dev nD) : Fin 4 → Nat :=
  let c2_i32_516 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v772 : BitVec 32 := Scalar.muli c2_i32_516 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v773 : BitVec 32 := Scalar.addi v772 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_523 : BitVec 32 := 0#32
  let c0_i32_524 : BitVec 32 := 0#32
  ![v773.toNat, v8.toNat, 0, 0]
def k0_dev37 (d0 : Dev nD) : Nat :=
  let c0_i32_531 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_530 : BitVec 32 := 4#32
  let v790 : BitVec 32 := Scalar.muli v2 c4_i32_530
  let v791 : BitVec 32 := Scalar.addi c0_i32_531 v790
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_532 : BitVec 32 := 2#32
  let v792 : BitVec 32 := Scalar.muli v5 c2_i32_532
  let v793 : BitVec 32 := Scalar.addi v791 v792
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_533 : BitVec 32 := 1#32
  let v794 : BitVec 32 := Scalar.muli v15 c1_i32_533
  let v795 : BitVec 32 := Scalar.addi v793 v794
  v795.toNat
def k0_off20 (d0 : Dev nD) : Fin 4 → Nat :=
  let c2_i32_538 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v804 : BitVec 32 := Scalar.muli c2_i32_538 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v805 : BitVec 32 := Scalar.addi v804 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_545 : BitVec 32 := 0#32
  let c0_i32_546 : BitVec 32 := 0#32
  ![v805.toNat, v8.toNat, 0, 0]
def k0_dev38 (d0 : Dev nD) : Nat :=
  let c0_i32_553 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_552 : BitVec 32 := 4#32
  let v822 : BitVec 32 := Scalar.muli v2 c4_i32_552
  let v823 : BitVec 32 := Scalar.addi c0_i32_553 v822
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_554 : BitVec 32 := 2#32
  let v824 : BitVec 32 := Scalar.muli v5 c2_i32_554
  let v825 : BitVec 32 := Scalar.addi v823 v824
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_555 : BitVec 32 := 1#32
  let v826 : BitVec 32 := Scalar.muli v15 c1_i32_555
  let v827 : BitVec 32 := Scalar.addi v825 v826
  v827.toNat
def k0_off21 (d0 : Dev nD) : Fin 4 → Nat :=
  let c2_i32_560 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v836 : BitVec 32 := Scalar.muli c2_i32_560 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v837 : BitVec 32 := Scalar.addi v836 v12
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_567 : BitVec 32 := 0#32
  let c0_i32_568 : BitVec 32 := 0#32
  ![v837.toNat, v8.toNat, 0, 0]
def k0_dev39 (d0 : Dev nD) : Nat :=
  let c0_i32_575 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_574 : BitVec 32 := 4#32
  let v854 : BitVec 32 := Scalar.muli v2 c4_i32_574
  let v855 : BitVec 32 := Scalar.addi c0_i32_575 v854
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_576 : BitVec 32 := 2#32
  let v856 : BitVec 32 := Scalar.muli v5 c2_i32_576
  let v857 : BitVec 32 := Scalar.addi v855 v856
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_577 : BitVec 32 := 1#32
  let v858 : BitVec 32 := Scalar.muli v15 c1_i32_577
  let v859 : BitVec 32 := Scalar.addi v857 v858
  v859.toNat
def k0_dev40 (d0 : Dev nD) : Nat :=
  let c0_i32_597 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_596 : BitVec 32 := 4#32
  let v886 : BitVec 32 := Scalar.muli v2 c4_i32_596
  let v887 : BitVec 32 := Scalar.addi c0_i32_597 v886
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_598 : BitVec 32 := 2#32
  let v888 : BitVec 32 := Scalar.muli v5 c2_i32_598
  let v889 : BitVec 32 := Scalar.addi v887 v888
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_599 : BitVec 32 := 1#32
  let v890 : BitVec 32 := Scalar.muli v15 c1_i32_599
  let v891 : BitVec 32 := Scalar.addi v889 v890
  v891.toNat
def k0_dev41 (d0 : Dev nD) : Nat :=
  let c0_i32_619 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_618 : BitVec 32 := 4#32
  let v918 : BitVec 32 := Scalar.muli v2 c4_i32_618
  let v919 : BitVec 32 := Scalar.addi c0_i32_619 v918
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_620 : BitVec 32 := 2#32
  let v920 : BitVec 32 := Scalar.muli v5 c2_i32_620
  let v921 : BitVec 32 := Scalar.addi v919 v920
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_621 : BitVec 32 := 1#32
  let v922 : BitVec 32 := Scalar.muli v15 c1_i32_621
  let v923 : BitVec 32 := Scalar.addi v921 v922
  v923.toNat
def k0_dev42 (d0 : Dev nD) : Nat :=
  let c0_i32_641 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_640 : BitVec 32 := 4#32
  let v950 : BitVec 32 := Scalar.muli v2 c4_i32_640
  let v951 : BitVec 32 := Scalar.addi c0_i32_641 v950
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_642 : BitVec 32 := 2#32
  let v952 : BitVec 32 := Scalar.muli v5 c2_i32_642
  let v953 : BitVec 32 := Scalar.addi v951 v952
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_643 : BitVec 32 := 1#32
  let v954 : BitVec 32 := Scalar.muli v15 c1_i32_643
  let v955 : BitVec 32 := Scalar.addi v953 v954
  v955.toNat
def k0_dev43 (d0 : Dev nD) : Nat :=
  let c0_i32_663 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_662 : BitVec 32 := 4#32
  let v982 : BitVec 32 := Scalar.muli v2 c4_i32_662
  let v983 : BitVec 32 := Scalar.addi c0_i32_663 v982
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_664 : BitVec 32 := 2#32
  let v984 : BitVec 32 := Scalar.muli v5 c2_i32_664
  let v985 : BitVec 32 := Scalar.addi v983 v984
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_665 : BitVec 32 := 1#32
  let v986 : BitVec 32 := Scalar.muli v15 c1_i32_665
  let v987 : BitVec 32 := Scalar.addi v985 v986
  v987.toNat
def k0_dev44 (d0 : Dev nD) : Nat :=
  let c0_i32_685 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_684 : BitVec 32 := 4#32
  let v1014 : BitVec 32 := Scalar.muli v2 c4_i32_684
  let v1015 : BitVec 32 := Scalar.addi c0_i32_685 v1014
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_686 : BitVec 32 := 2#32
  let v1016 : BitVec 32 := Scalar.muli v5 c2_i32_686
  let v1017 : BitVec 32 := Scalar.addi v1015 v1016
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_687 : BitVec 32 := 1#32
  let v1018 : BitVec 32 := Scalar.muli v15 c1_i32_687
  let v1019 : BitVec 32 := Scalar.addi v1017 v1018
  v1019.toNat
def k0_dev45 (d0 : Dev nD) : Nat :=
  let c0_i32_707 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_706 : BitVec 32 := 4#32
  let v1046 : BitVec 32 := Scalar.muli v2 c4_i32_706
  let v1047 : BitVec 32 := Scalar.addi c0_i32_707 v1046
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_708 : BitVec 32 := 2#32
  let v1048 : BitVec 32 := Scalar.muli v5 c2_i32_708
  let v1049 : BitVec 32 := Scalar.addi v1047 v1048
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_709 : BitVec 32 := 1#32
  let v1050 : BitVec 32 := Scalar.muli v15 c1_i32_709
  let v1051 : BitVec 32 := Scalar.addi v1049 v1050
  v1051.toNat
def k0_dev46 (d0 : Dev nD) : Nat :=
  let c0_i32_729 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_728 : BitVec 32 := 4#32
  let v1078 : BitVec 32 := Scalar.muli v2 c4_i32_728
  let v1079 : BitVec 32 := Scalar.addi c0_i32_729 v1078
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_730 : BitVec 32 := 2#32
  let v1080 : BitVec 32 := Scalar.muli v5 c2_i32_730
  let v1081 : BitVec 32 := Scalar.addi v1079 v1080
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_731 : BitVec 32 := 1#32
  let v1082 : BitVec 32 := Scalar.muli v15 c1_i32_731
  let v1083 : BitVec 32 := Scalar.addi v1081 v1082
  v1083.toNat
def k0_dev47 (d0 : Dev nD) : Nat :=
  let c0_i32_751 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_750 : BitVec 32 := 4#32
  let v1110 : BitVec 32 := Scalar.muli v2 c4_i32_750
  let v1111 : BitVec 32 := Scalar.addi c0_i32_751 v1110
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_752 : BitVec 32 := 2#32
  let v1112 : BitVec 32 := Scalar.muli v5 c2_i32_752
  let v1113 : BitVec 32 := Scalar.addi v1111 v1112
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_753 : BitVec 32 := 1#32
  let v1114 : BitVec 32 := Scalar.muli v15 c1_i32_753
  let v1115 : BitVec 32 := Scalar.addi v1113 v1114
  v1115.toNat
def k0_dev48 (d0 : Dev nD) : Nat :=
  let c0_i32_773 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_772 : BitVec 32 := 4#32
  let v1142 : BitVec 32 := Scalar.muli v2 c4_i32_772
  let v1143 : BitVec 32 := Scalar.addi c0_i32_773 v1142
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_774 : BitVec 32 := 2#32
  let v1144 : BitVec 32 := Scalar.muli v5 c2_i32_774
  let v1145 : BitVec 32 := Scalar.addi v1143 v1144
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_775 : BitVec 32 := 1#32
  let v1146 : BitVec 32 := Scalar.muli v15 c1_i32_775
  let v1147 : BitVec 32 := Scalar.addi v1145 v1146
  v1147.toNat
def k0_dev49 (d0 : Dev nD) : Nat :=
  let c0_i32_795 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_794 : BitVec 32 := 4#32
  let v1174 : BitVec 32 := Scalar.muli v2 c4_i32_794
  let v1175 : BitVec 32 := Scalar.addi c0_i32_795 v1174
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_796 : BitVec 32 := 2#32
  let v1176 : BitVec 32 := Scalar.muli v5 c2_i32_796
  let v1177 : BitVec 32 := Scalar.addi v1175 v1176
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_797 : BitVec 32 := 1#32
  let v1178 : BitVec 32 := Scalar.muli v15 c1_i32_797
  let v1179 : BitVec 32 := Scalar.addi v1177 v1178
  v1179.toNat
def k0_dev50 (d0 : Dev nD) : Nat :=
  let c0_i32_817 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_816 : BitVec 32 := 4#32
  let v1206 : BitVec 32 := Scalar.muli v2 c4_i32_816
  let v1207 : BitVec 32 := Scalar.addi c0_i32_817 v1206
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_818 : BitVec 32 := 2#32
  let v1208 : BitVec 32 := Scalar.muli v5 c2_i32_818
  let v1209 : BitVec 32 := Scalar.addi v1207 v1208
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_819 : BitVec 32 := 1#32
  let v1210 : BitVec 32 := Scalar.muli v15 c1_i32_819
  let v1211 : BitVec 32 := Scalar.addi v1209 v1210
  v1211.toNat
def k0_dev51 (d0 : Dev nD) : Nat :=
  let c0_i32_839 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_838 : BitVec 32 := 4#32
  let v1238 : BitVec 32 := Scalar.muli v2 c4_i32_838
  let v1239 : BitVec 32 := Scalar.addi c0_i32_839 v1238
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_840 : BitVec 32 := 2#32
  let v1240 : BitVec 32 := Scalar.muli v5 c2_i32_840
  let v1241 : BitVec 32 := Scalar.addi v1239 v1240
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_841 : BitVec 32 := 1#32
  let v1242 : BitVec 32 := Scalar.muli v15 c1_i32_841
  let v1243 : BitVec 32 := Scalar.addi v1241 v1242
  v1243.toNat
def k0_off22 (d0 : Dev nD) : Fin 4 → Nat :=
  let c2_i32_846 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v1252 : BitVec 32 := Scalar.muli c2_i32_846 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1253 : BitVec 32 := Scalar.addi v1252 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_853 : BitVec 32 := 0#32
  let c0_i32_854 : BitVec 32 := 0#32
  ![v1253.toNat, v8.toNat, 0, 0]
def k0_dev52 (d0 : Dev nD) : Nat :=
  let c0_i32_861 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_860 : BitVec 32 := 4#32
  let v1270 : BitVec 32 := Scalar.muli v2 c4_i32_860
  let v1271 : BitVec 32 := Scalar.addi c0_i32_861 v1270
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_862 : BitVec 32 := 2#32
  let v1272 : BitVec 32 := Scalar.muli v5 c2_i32_862
  let v1273 : BitVec 32 := Scalar.addi v1271 v1272
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_863 : BitVec 32 := 1#32
  let v1274 : BitVec 32 := Scalar.muli v15 c1_i32_863
  let v1275 : BitVec 32 := Scalar.addi v1273 v1274
  v1275.toNat
def k0_off23 (d0 : Dev nD) : Fin 4 → Nat :=
  let c2_i32_868 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1284 : BitVec 32 := Scalar.muli c2_i32_868 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v1285 : BitVec 32 := Scalar.addi v1284 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_875 : BitVec 32 := 0#32
  let c0_i32_876 : BitVec 32 := 0#32
  ![v1285.toNat, v8.toNat, 0, 0]
def k0_dev53 (d0 : Dev nD) : Nat :=
  let c0_i32_883 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_882 : BitVec 32 := 4#32
  let v1302 : BitVec 32 := Scalar.muli v2 c4_i32_882
  let v1303 : BitVec 32 := Scalar.addi c0_i32_883 v1302
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_884 : BitVec 32 := 2#32
  let v1304 : BitVec 32 := Scalar.muli v5 c2_i32_884
  let v1305 : BitVec 32 := Scalar.addi v1303 v1304
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_885 : BitVec 32 := 1#32
  let v1306 : BitVec 32 := Scalar.muli v15 c1_i32_885
  let v1307 : BitVec 32 := Scalar.addi v1305 v1306
  v1307.toNat
def k0_off24 (d0 : Dev nD) : Fin 4 → Nat :=
  let c2_i32_890 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v1316 : BitVec 32 := Scalar.muli c2_i32_890 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v1317 : BitVec 32 := Scalar.addi v1316 v12
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_897 : BitVec 32 := 0#32
  let c0_i32_898 : BitVec 32 := 0#32
  ![v1317.toNat, v8.toNat, 0, 0]
def k0_dev54 (d0 : Dev nD) : Nat :=
  let c0_i32_905 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_904 : BitVec 32 := 4#32
  let v1334 : BitVec 32 := Scalar.muli v2 c4_i32_904
  let v1335 : BitVec 32 := Scalar.addi c0_i32_905 v1334
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_906 : BitVec 32 := 2#32
  let v1336 : BitVec 32 := Scalar.muli v5 c2_i32_906
  let v1337 : BitVec 32 := Scalar.addi v1335 v1336
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_907 : BitVec 32 := 1#32
  let v1338 : BitVec 32 := Scalar.muli v15 c1_i32_907
  let v1339 : BitVec 32 := Scalar.addi v1337 v1338
  v1339.toNat
def k0_off25 (d0 : Dev nD) : Fin 4 → Nat :=
  let c2_i32_912 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v1348 : BitVec 32 := Scalar.muli c2_i32_912 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1349 : BitVec 32 := Scalar.addi v1348 v5
  let c1_i32_913 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1350 : BitVec 32 := Scalar.subi c1_i32_913 v8
  let c0_i32_920 : BitVec 32 := 0#32
  let c0_i32_921 : BitVec 32 := 0#32
  ![v1349.toNat, v1350.toNat, 0, 0]
def k0_off26 (d0 : Dev nD) : Fin 4 → Nat :=
  let c2_i32_924 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1363 : BitVec 32 := Scalar.muli c2_i32_924 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v1364 : BitVec 32 := Scalar.addi v1363 v10
  let c1_i32_925 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1365 : BitVec 32 := Scalar.subi c1_i32_925 v8
  let c0_i32_932 : BitVec 32 := 0#32
  let c0_i32_933 : BitVec 32 := 0#32
  ![v1364.toNat, v1365.toNat, 0, 0]
def k0_off27 (d0 : Dev nD) : Fin 4 → Nat :=
  let c2_i32_936 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v1378 : BitVec 32 := Scalar.muli c2_i32_936 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v1379 : BitVec 32 := Scalar.addi v1378 v12
  let c1_i32_937 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1380 : BitVec 32 := Scalar.subi c1_i32_937 v8
  let c0_i32_944 : BitVec 32 := 0#32
  let c0_i32_945 : BitVec 32 := 0#32
  ![v1379.toNat, v1380.toNat, 0, 0]
def k0_off28 (d0 : Dev nD) : Fin 4 → Nat :=
  let c2_i32_984 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v1438 : BitVec 32 := Scalar.muli c2_i32_984 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1439 : BitVec 32 := Scalar.addi v1438 v5
  let c1_i32_985 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1440 : BitVec 32 := Scalar.subi c1_i32_985 v8
  let c0_i32_992 : BitVec 32 := 0#32
  let c0_i32_993 : BitVec 32 := 0#32
  ![v1439.toNat, v1440.toNat, 0, 0]
def k0_off29 (d0 : Dev nD) : Fin 4 → Nat :=
  let c2_i32_996 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1453 : BitVec 32 := Scalar.muli c2_i32_996 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v1454 : BitVec 32 := Scalar.addi v1453 v10
  let c1_i32_997 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1455 : BitVec 32 := Scalar.subi c1_i32_997 v8
  let c0_i32_1004 : BitVec 32 := 0#32
  let c0_i32_1005 : BitVec 32 := 0#32
  ![v1454.toNat, v1455.toNat, 0, 0]
def k0_off30 (d0 : Dev nD) : Fin 4 → Nat :=
  let c2_i32_1008 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v1468 : BitVec 32 := Scalar.muli c2_i32_1008 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v1469 : BitVec 32 := Scalar.addi v1468 v12
  let c1_i32_1009 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1470 : BitVec 32 := Scalar.subi c1_i32_1009 v8
  let c0_i32_1016 : BitVec 32 := 0#32
  let c0_i32_1017 : BitVec 32 := 0#32
  ![v1469.toNat, v1470.toNat, 0, 0]
def k0_off31 (d0 : Dev nD) : Fin 4 → Nat :=
  let c2_i32_1020 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v1483 : BitVec 32 := Scalar.muli c2_i32_1020 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1484 : BitVec 32 := Scalar.addi v1483 v5
  let c1_i32_1021 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1485 : BitVec 32 := Scalar.subi c1_i32_1021 v8
  let c0_i32_1028 : BitVec 32 := 0#32
  let c0_i32_1029 : BitVec 32 := 0#32
  ![v1484.toNat, v1485.toNat, 0, 0]
def k0_off32 (d0 : Dev nD) : Fin 4 → Nat :=
  let c2_i32_1032 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1498 : BitVec 32 := Scalar.muli c2_i32_1032 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v1499 : BitVec 32 := Scalar.addi v1498 v10
  let c1_i32_1033 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1500 : BitVec 32 := Scalar.subi c1_i32_1033 v8
  let c0_i32_1040 : BitVec 32 := 0#32
  let c0_i32_1041 : BitVec 32 := 0#32
  ![v1499.toNat, v1500.toNat, 0, 0]
def k0_off33 (d0 : Dev nD) : Fin 4 → Nat :=
  let c2_i32_1044 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v1513 : BitVec 32 := Scalar.muli c2_i32_1044 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v1514 : BitVec 32 := Scalar.addi v1513 v12
  let c1_i32_1045 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1515 : BitVec 32 := Scalar.subi c1_i32_1045 v8
  let c0_i32_1052 : BitVec 32 := 0#32
  let c0_i32_1053 : BitVec 32 := 0#32
  ![v1514.toNat, v1515.toNat, 0, 0]
def k0_off34 (d0 : Dev nD) : Fin 4 → Nat :=
  let c2_i32_1200 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v1708 : BitVec 32 := Scalar.muli c2_i32_1200 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1709 : BitVec 32 := Scalar.addi v1708 v5
  let c1_i32_1201 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1710 : BitVec 32 := Scalar.subi c1_i32_1201 v8
  let c0_i32_1208 : BitVec 32 := 0#32
  let c0_i32_1209 : BitVec 32 := 0#32
  ![v1709.toNat, v1710.toNat, 0, 0]
def k0_off35 (d0 : Dev nD) : Fin 4 → Nat :=
  let c2_i32_1212 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1723 : BitVec 32 := Scalar.muli c2_i32_1212 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v1724 : BitVec 32 := Scalar.addi v1723 v10
  let c1_i32_1213 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1725 : BitVec 32 := Scalar.subi c1_i32_1213 v8
  let c0_i32_1220 : BitVec 32 := 0#32
  let c0_i32_1221 : BitVec 32 := 0#32
  ![v1724.toNat, v1725.toNat, 0, 0]
def k0_off36 (d0 : Dev nD) : Fin 4 → Nat :=
  let c2_i32_1224 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v1738 : BitVec 32 := Scalar.muli c2_i32_1224 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v1739 : BitVec 32 := Scalar.addi v1738 v12
  let c1_i32_1225 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1740 : BitVec 32 := Scalar.subi c1_i32_1225 v8
  let c0_i32_1232 : BitVec 32 := 0#32
  let c0_i32_1233 : BitVec 32 := 0#32
  ![v1739.toNat, v1740.toNat, 0, 0]
-- ==== GatherIdeal.lean ====
abbrev S2x512x704 : Shape := ⟨3, ![2, 512, 704]⟩
abbrev S2x352x1024 : Shape := ⟨3, ![2, 352, 1024]⟩
abbrev S2x128x1024 : Shape := ⟨3, ![2, 128, 1024]⟩
abbrev S2x8x256 : Shape := ⟨3, ![2, 8, 256]⟩
abbrev S4x2x512x704 : Shape := ⟨4, ![4, 2, 512, 704]⟩
abbrev S4x2x352x1024 : Shape := ⟨4, ![4, 2, 352, 1024]⟩
abbrev S4x2x128x1024 : Shape := ⟨4, ![4, 2, 128, 1024]⟩
abbrev S4x2x8x256 : Shape := ⟨4, ![4, 2, 8, 256]⟩
abbrev S54 : Shape := ⟨1, ![54]⟩
abbrev S9 : Shape := ⟨1, ![9]⟩
abbrev S1 : Shape := ⟨1, ![1]⟩
abbrev S_ : Shape := ⟨0, ![]⟩
abbrev S1x2x512x704 : Shape := ⟨4, ![1, 2, 512, 704]⟩
abbrev S1x2x352x1024 : Shape := ⟨4, ![1, 2, 352, 1024]⟩
abbrev S1x2x128x1024 : Shape := ⟨4, ![1, 2, 128, 1024]⟩
abbrev S1x2x8x256 : Shape := ⟨4, ![1, 2, 8, 256]⟩
abbrev S1x1x512x704 : Shape := ⟨4, ![1, 1, 512, 704]⟩
abbrev S512x704 : Shape := ⟨2, ![512, 704]⟩
abbrev S1x512x704 : Shape := ⟨3, ![1, 512, 704]⟩
abbrev S1x1x352x1024 : Shape := ⟨4, ![1, 1, 352, 1024]⟩
abbrev S352x1024 : Shape := ⟨2, ![352, 1024]⟩
abbrev S1x352x1024 : Shape := ⟨3, ![1, 352, 1024]⟩
abbrev S1x1x128x1024 : Shape := ⟨4, ![1, 1, 128, 1024]⟩
abbrev S128x1024 : Shape := ⟨2, ![128, 1024]⟩
abbrev S1x128x1024 : Shape := ⟨3, ![1, 128, 1024]⟩
abbrev S1x1x8x256 : Shape := ⟨4, ![1, 1, 8, 256]⟩
abbrev S8x256 : Shape := ⟨2, ![8, 256]⟩
abbrev S1x8x256 : Shape := ⟨3, ![1, 8, 256]⟩

abbrev nBuf : Space → Nat
  | .hbm => 18
  | .vmem => 0
  | .smem => 0
  | _ => 0

abbrev bufTy : (tb : Table) → Fin (tcTables nBuf tb) → BufTy
  | .hbm, ⟨0, _⟩ => ⟨S2x512x704, .bf16⟩
  | .hbm, ⟨1, _⟩ => ⟨S2x512x704, .bf16⟩
  | .hbm, ⟨2, _⟩ => ⟨S2x352x1024, .bf16⟩
  | .hbm, ⟨3, _⟩ => ⟨S2x128x1024, .bf16⟩
  | .hbm, ⟨4, _⟩ => ⟨S2x128x1024, .bf16⟩
  | .hbm, ⟨5, _⟩ => ⟨S2x512x704, .bf16⟩
  | .hbm, ⟨6, _⟩ => ⟨S2x512x704, .bf16⟩
  | .hbm, ⟨7, _⟩ => ⟨S2x352x1024, .bf16⟩
  | .hbm, ⟨8, _⟩ => ⟨S2x8x256, .f32⟩
  | .hbm, ⟨9, _⟩ => ⟨S4x2x512x704, .bf16⟩
  | .hbm, ⟨10, _⟩ => ⟨S4x2x512x704, .bf16⟩
  | .hbm, ⟨11, _⟩ => ⟨S4x2x352x1024, .bf16⟩
  | .hbm, ⟨12, _⟩ => ⟨S4x2x128x1024, .bf16⟩
  | .hbm, ⟨13, _⟩ => ⟨S4x2x128x1024, .bf16⟩
  | .hbm, ⟨14, _⟩ => ⟨S4x2x512x704, .bf16⟩
  | .hbm, ⟨15, _⟩ => ⟨S4x2x512x704, .bf16⟩
  | .hbm, ⟨16, _⟩ => ⟨S4x2x352x1024, .bf16⟩
  | .hbm, ⟨17, _⟩ => ⟨S4x2x8x256, .f32⟩
  | _, _ => ⟨S2x512x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 117 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | _ => false

abbrev sig : RefSig :=
  ofTc nBuf bufTy 0 117 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev main_v1_4 : Ref sig .tc := ⟨.hbm, 13, rfl⟩
abbrev main_v1_5 : Ref sig .tc := ⟨.hbm, 14, rfl⟩
abbrev main_v1_6 : Ref sig .tc := ⟨.hbm, 15, rfl⟩
abbrev main_v1_7 : Ref sig .tc := ⟨.hbm, 16, rfl⟩
abbrev main_v1_8 : Ref sig .tc := ⟨.hbm, 17, rfl⟩

abbrev nD : Nat := 8
abbrev τ : Topo := Topo.v7x

variable {F : FTy → Type} [FloatOps F]

abbrev grid0 : Pipeline.Grid := .none

def k0_off1 (d0 : Dev nD) : Fin 4 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32_9 : BitVec 32 := 0#32
  let c0_i32_10 : BitVec 32 := 0#32
  let c0_i32_11 : BitVec 32 := 0#32
  ![v14.toNat, 0, 0, 0]
def k0_off2 (d0 : Dev nD) : Fin 4 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32_17 : BitVec 32 := 0#32
  let c0_i32_18 : BitVec 32 := 0#32
  let c0_i32_19 : BitVec 32 := 0#32
  ![v14.toNat, 0, 0, 0]
def k0_off3 (d0 : Dev nD) : Fin 4 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32_20 : BitVec 32 := 0#32
  let c0_i32_21 : BitVec 32 := 0#32
  let c0_i32_22 : BitVec 32 := 0#32
  ![v14.toNat, 0, 0, 0]
def k0_off4 (d0 : Dev nD) : Fin 4 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32_36 : BitVec 32 := 0#32
  let c0_i32_37 : BitVec 32 := 0#32
  let c0_i32_38 : BitVec 32 := 0#32
  ![v14.toNat, 0, 0, 0]
def k0_off5 (d0 : Dev nD) : Fin 4 → Nat :=
  let c2_i32_39 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v52 : BitVec 32 := Scalar.muli c2_i32_39 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v53 : BitVec 32 := Scalar.addi v52 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_72 : BitVec 32 := 0#32
  let c0_i32_73 : BitVec 32 := 0#32
  ![v53.toNat, v8.toNat, 0, 0]
def k0_off6 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_74 : BitVec 32 := 0#32
  let c0_i32_75 : BitVec 32 := 0#32
  ![v8.toNat, 0, 0]
def k0_dev1 (d0 : Dev nD) : Nat :=
  let c0_i32_69 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_68 : BitVec 32 := 4#32
  let v106 : BitVec 32 := Scalar.muli v9 c4_i32_68
  let v107 : BitVec 32 := Scalar.addi c0_i32_69 v106
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_70 : BitVec 32 := 2#32
  let v108 : BitVec 32 := Scalar.muli v5 c2_i32_70
  let v109 : BitVec 32 := Scalar.addi v107 v108
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_71 : BitVec 32 := 1#32
  let v110 : BitVec 32 := Scalar.muli v8 c1_i32_71
  let v111 : BitVec 32 := Scalar.addi v109 v110
  v111.toNat
def k0_dev2 (d0 : Dev nD) : Nat :=
  let c0_i32_79 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_78 : BitVec 32 := 4#32
  let v120 : BitVec 32 := Scalar.muli v2 c4_i32_78
  let v121 : BitVec 32 := Scalar.addi c0_i32_79 v120
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_80 : BitVec 32 := 2#32
  let v122 : BitVec 32 := Scalar.muli v10 c2_i32_80
  let v123 : BitVec 32 := Scalar.addi v121 v122
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_81 : BitVec 32 := 1#32
  let v124 : BitVec 32 := Scalar.muli v8 c1_i32_81
  let v125 : BitVec 32 := Scalar.addi v123 v124
  v125.toNat
def k0_dev3 (d0 : Dev nD) : Nat :=
  let c0_i32_89 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_88 : BitVec 32 := 4#32
  let v134 : BitVec 32 := Scalar.muli v11 c4_i32_88
  let v135 : BitVec 32 := Scalar.addi c0_i32_89 v134
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_90 : BitVec 32 := 2#32
  let v136 : BitVec 32 := Scalar.muli v12 c2_i32_90
  let v137 : BitVec 32 := Scalar.addi v135 v136
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_91 : BitVec 32 := 1#32
  let v138 : BitVec 32 := Scalar.muli v8 c1_i32_91
  let v139 : BitVec 32 := Scalar.addi v137 v138
  v139.toNat
def k0_dev4 (d0 : Dev nD) : Nat :=
  let c0_i32_99 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_98 : BitVec 32 := 4#32
  let v148 : BitVec 32 := Scalar.muli v9 c4_i32_98
  let v149 : BitVec 32 := Scalar.addi c0_i32_99 v148
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_100 : BitVec 32 := 2#32
  let v150 : BitVec 32 := Scalar.muli v5 c2_i32_100
  let v151 : BitVec 32 := Scalar.addi v149 v150
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_101 : BitVec 32 := 1#32
  let v152 : BitVec 32 := Scalar.muli v8 c1_i32_101
  let v153 : BitVec 32 := Scalar.addi v151 v152
  v153.toNat
def k0_dev5 (d0 : Dev nD) : Nat :=
  let c0_i32_109 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_108 : BitVec 32 := 4#32
  let v162 : BitVec 32 := Scalar.muli v2 c4_i32_108
  let v163 : BitVec 32 := Scalar.addi c0_i32_109 v162
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_110 : BitVec 32 := 2#32
  let v164 : BitVec 32 := Scalar.muli v10 c2_i32_110
  let v165 : BitVec 32 := Scalar.addi v163 v164
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_111 : BitVec 32 := 1#32
  let v166 : BitVec 32 := Scalar.muli v8 c1_i32_111
  let v167 : BitVec 32 := Scalar.addi v165 v166
  v167.toNat
def k0_dev6 (d0 : Dev nD) : Nat :=
  let c0_i32_119 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_118 : BitVec 32 := 4#32
  let v176 : BitVec 32 := Scalar.muli v11 c4_i32_118
  let v177 : BitVec 32 := Scalar.addi c0_i32_119 v176
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_120 : BitVec 32 := 2#32
  let v178 : BitVec 32 := Scalar.muli v12 c2_i32_120
  let v179 : BitVec 32 := Scalar.addi v177 v178
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_121 : BitVec 32 := 1#32
  let v180 : BitVec 32 := Scalar.muli v8 c1_i32_121
  let v181 : BitVec 32 := Scalar.addi v179 v180
  v181.toNat
def k0_off7 (d0 : Dev nD) : Fin 4 → Nat :=
  let c2_i32_45 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v64 : BitVec 32 := Scalar.muli c2_i32_45 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v65 : BitVec 32 := Scalar.addi v64 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_131 : BitVec 32 := 0#32
  let c0_i32_132 : BitVec 32 := 0#32
  ![v65.toNat, v8.toNat, 0, 0]
def k0_off8 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_133 : BitVec 32 := 0#32
  let c0_i32_134 : BitVec 32 := 0#32
  ![v8.toNat, 0, 0]
def k0_dev7 (d0 : Dev nD) : Nat :=
  let c0_i32_128 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_127 : BitVec 32 := 4#32
  let v190 : BitVec 32 := Scalar.muli v9 c4_i32_127
  let v191 : BitVec 32 := Scalar.addi c0_i32_128 v190
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_129 : BitVec 32 := 2#32
  let v192 : BitVec 32 := Scalar.muli v5 c2_i32_129
  let v193 : BitVec 32 := Scalar.addi v191 v192
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_130 : BitVec 32 := 1#32
  let v194 : BitVec 32 := Scalar.muli v8 c1_i32_130
  let v195 : BitVec 32 := Scalar.addi v193 v194
  v195.toNat
def k0_dev8 (d0 : Dev nD) : Nat :=
  let c0_i32_137 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_136 : BitVec 32 := 4#32
  let v204 : BitVec 32 := Scalar.muli v2 c4_i32_136
  let v205 : BitVec 32 := Scalar.addi c0_i32_137 v204
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_138 : BitVec 32 := 2#32
  let v206 : BitVec 32 := Scalar.muli v10 c2_i32_138
  let v207 : BitVec 32 := Scalar.addi v205 v206
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_139 : BitVec 32 := 1#32
  let v208 : BitVec 32 := Scalar.muli v8 c1_i32_139
  let v209 : BitVec 32 := Scalar.addi v207 v208
  v209.toNat
def k0_dev9 (d0 : Dev nD) : Nat :=
  let c0_i32_146 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_145 : BitVec 32 := 4#32
  let v218 : BitVec 32 := Scalar.muli v11 c4_i32_145
  let v219 : BitVec 32 := Scalar.addi c0_i32_146 v218
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_147 : BitVec 32 := 2#32
  let v220 : BitVec 32 := Scalar.muli v12 c2_i32_147
  let v221 : BitVec 32 := Scalar.addi v219 v220
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_148 : BitVec 32 := 1#32
  let v222 : BitVec 32 := Scalar.muli v8 c1_i32_148
  let v223 : BitVec 32 := Scalar.addi v221 v222
  v223.toNat
def k0_off9 (d0 : Dev nD) : Fin 4 → Nat :=
  let c2_i32_48 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v70 : BitVec 32 := Scalar.muli c2_i32_48 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v71 : BitVec 32 := Scalar.addi v70 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_158 : BitVec 32 := 0#32
  let c0_i32_159 : BitVec 32 := 0#32
  ![v71.toNat, v8.toNat, 0, 0]
def k0_off10 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_160 : BitVec 32 := 0#32
  let c0_i32_161 : BitVec 32 := 0#32
  ![v8.toNat, 0, 0]
def k0_dev10 (d0 : Dev nD) : Nat :=
  let c0_i32_155 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_154 : BitVec 32 := 4#32
  let v232 : BitVec 32 := Scalar.muli v9 c4_i32_154
  let v233 : BitVec 32 := Scalar.addi c0_i32_155 v232
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_156 : BitVec 32 := 2#32
  let v234 : BitVec 32 := Scalar.muli v5 c2_i32_156
  let v235 : BitVec 32 := Scalar.addi v233 v234
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_157 : BitVec 32 := 1#32
  let v236 : BitVec 32 := Scalar.muli v8 c1_i32_157
  let v237 : BitVec 32 := Scalar.addi v235 v236
  v237.toNat
def k0_dev11 (d0 : Dev nD) : Nat :=
  let c0_i32_164 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_163 : BitVec 32 := 4#32
  let v246 : BitVec 32 := Scalar.muli v2 c4_i32_163
  let v247 : BitVec 32 := Scalar.addi c0_i32_164 v246
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_165 : BitVec 32 := 2#32
  let v248 : BitVec 32 := Scalar.muli v10 c2_i32_165
  let v249 : BitVec 32 := Scalar.addi v247 v248
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_166 : BitVec 32 := 1#32
  let v250 : BitVec 32 := Scalar.muli v8 c1_i32_166
  let v251 : BitVec 32 := Scalar.addi v249 v250
  v251.toNat
def k0_dev12 (d0 : Dev nD) : Nat :=
  let c0_i32_173 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_172 : BitVec 32 := 4#32
  let v260 : BitVec 32 := Scalar.muli v11 c4_i32_172
  let v261 : BitVec 32 := Scalar.addi c0_i32_173 v260
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_174 : BitVec 32 := 2#32
  let v262 : BitVec 32 := Scalar.muli v12 c2_i32_174
  let v263 : BitVec 32 := Scalar.addi v261 v262
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_175 : BitVec 32 := 1#32
  let v264 : BitVec 32 := Scalar.muli v8 c1_i32_175
  let v265 : BitVec 32 := Scalar.addi v263 v264
  v265.toNat
def k0_dev13 (d0 : Dev nD) : Nat :=
  let c0_i32_182 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_181 : BitVec 32 := 4#32
  let v274 : BitVec 32 := Scalar.muli v9 c4_i32_181
  let v275 : BitVec 32 := Scalar.addi c0_i32_182 v274
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_183 : BitVec 32 := 2#32
  let v276 : BitVec 32 := Scalar.muli v5 c2_i32_183
  let v277 : BitVec 32 := Scalar.addi v275 v276
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_184 : BitVec 32 := 1#32
  let v278 : BitVec 32 := Scalar.muli v8 c1_i32_184
  let v279 : BitVec 32 := Scalar.addi v277 v278
  v279.toNat
def k0_dev14 (d0 : Dev nD) : Nat :=
  let c0_i32_191 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_190 : BitVec 32 := 4#32
  let v288 : BitVec 32 := Scalar.muli v2 c4_i32_190
  let v289 : BitVec 32 := Scalar.addi c0_i32_191 v288
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_192 : BitVec 32 := 2#32
  let v290 : BitVec 32 := Scalar.muli v10 c2_i32_192
  let v291 : BitVec 32 := Scalar.addi v289 v290
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_193 : BitVec 32 := 1#32
  let v292 : BitVec 32 := Scalar.muli v8 c1_i32_193
  let v293 : BitVec 32 := Scalar.addi v291 v292
  v293.toNat
def k0_dev15 (d0 : Dev nD) : Nat :=
  let c0_i32_200 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_199 : BitVec 32 := 4#32
  let v302 : BitVec 32 := Scalar.muli v11 c4_i32_199
  let v303 : BitVec 32 := Scalar.addi c0_i32_200 v302
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_201 : BitVec 32 := 2#32
  let v304 : BitVec 32 := Scalar.muli v12 c2_i32_201
  let v305 : BitVec 32 := Scalar.addi v303 v304
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_202 : BitVec 32 := 1#32
  let v306 : BitVec 32 := Scalar.muli v8 c1_i32_202
  let v307 : BitVec 32 := Scalar.addi v305 v306
  v307.toNat
def k0_dev16 (d0 : Dev nD) : Nat :=
  let c0_i32_209 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_208 : BitVec 32 := 4#32
  let v316 : BitVec 32 := Scalar.muli v9 c4_i32_208
  let v317 : BitVec 32 := Scalar.addi c0_i32_209 v316
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_210 : BitVec 32 := 2#32
  let v318 : BitVec 32 := Scalar.muli v5 c2_i32_210
  let v319 : BitVec 32 := Scalar.addi v317 v318
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_211 : BitVec 32 := 1#32
  let v320 : BitVec 32 := Scalar.muli v8 c1_i32_211
  let v321 : BitVec 32 := Scalar.addi v319 v320
  v321.toNat
def k0_dev17 (d0 : Dev nD) : Nat :=
  let c0_i32_218 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_217 : BitVec 32 := 4#32
  let v330 : BitVec 32 := Scalar.muli v2 c4_i32_217
  let v331 : BitVec 32 := Scalar.addi c0_i32_218 v330
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_219 : BitVec 32 := 2#32
  let v332 : BitVec 32 := Scalar.muli v10 c2_i32_219
  let v333 : BitVec 32 := Scalar.addi v331 v332
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_220 : BitVec 32 := 1#32
  let v334 : BitVec 32 := Scalar.muli v8 c1_i32_220
  let v335 : BitVec 32 := Scalar.addi v333 v334
  v335.toNat
def k0_dev18 (d0 : Dev nD) : Nat :=
  let c0_i32_227 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_226 : BitVec 32 := 4#32
  let v344 : BitVec 32 := Scalar.muli v11 c4_i32_226
  let v345 : BitVec 32 := Scalar.addi c0_i32_227 v344
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_228 : BitVec 32 := 2#32
  let v346 : BitVec 32 := Scalar.muli v12 c2_i32_228
  let v347 : BitVec 32 := Scalar.addi v345 v346
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_229 : BitVec 32 := 1#32
  let v348 : BitVec 32 := Scalar.muli v8 c1_i32_229
  let v349 : BitVec 32 := Scalar.addi v347 v348
  v349.toNat
def k0_dev19 (d0 : Dev nD) : Nat :=
  let c0_i32_236 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_235 : BitVec 32 := 4#32
  let v358 : BitVec 32 := Scalar.muli v9 c4_i32_235
  let v359 : BitVec 32 := Scalar.addi c0_i32_236 v358
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_237 : BitVec 32 := 2#32
  let v360 : BitVec 32 := Scalar.muli v5 c2_i32_237
  let v361 : BitVec 32 := Scalar.addi v359 v360
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_238 : BitVec 32 := 1#32
  let v362 : BitVec 32 := Scalar.muli v8 c1_i32_238
  let v363 : BitVec 32 := Scalar.addi v361 v362
  v363.toNat
def k0_dev20 (d0 : Dev nD) : Nat :=
  let c0_i32_245 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_244 : BitVec 32 := 4#32
  let v372 : BitVec 32 := Scalar.muli v2 c4_i32_244
  let v373 : BitVec 32 := Scalar.addi c0_i32_245 v372
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_246 : BitVec 32 := 2#32
  let v374 : BitVec 32 := Scalar.muli v10 c2_i32_246
  let v375 : BitVec 32 := Scalar.addi v373 v374
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_247 : BitVec 32 := 1#32
  let v376 : BitVec 32 := Scalar.muli v8 c1_i32_247
  let v377 : BitVec 32 := Scalar.addi v375 v376
  v377.toNat
def k0_dev21 (d0 : Dev nD) : Nat :=
  let c0_i32_254 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_253 : BitVec 32 := 4#32
  let v386 : BitVec 32 := Scalar.muli v11 c4_i32_253
  let v387 : BitVec 32 := Scalar.addi c0_i32_254 v386
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_255 : BitVec 32 := 2#32
  let v388 : BitVec 32 := Scalar.muli v12 c2_i32_255
  let v389 : BitVec 32 := Scalar.addi v387 v388
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_256 : BitVec 32 := 1#32
  let v390 : BitVec 32 := Scalar.muli v8 c1_i32_256
  let v391 : BitVec 32 := Scalar.addi v389 v390
  v391.toNat
def k0_dev22 (d0 : Dev nD) : Nat :=
  let c0_i32_263 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_262 : BitVec 32 := 4#32
  let v400 : BitVec 32 := Scalar.muli v9 c4_i32_262
  let v401 : BitVec 32 := Scalar.addi c0_i32_263 v400
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_264 : BitVec 32 := 2#32
  let v402 : BitVec 32 := Scalar.muli v5 c2_i32_264
  let v403 : BitVec 32 := Scalar.addi v401 v402
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_265 : BitVec 32 := 1#32
  let v404 : BitVec 32 := Scalar.muli v8 c1_i32_265
  let v405 : BitVec 32 := Scalar.addi v403 v404
  v405.toNat
def k0_dev23 (d0 : Dev nD) : Nat :=
  let c0_i32_272 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_271 : BitVec 32 := 4#32
  let v414 : BitVec 32 := Scalar.muli v2 c4_i32_271
  let v415 : BitVec 32 := Scalar.addi c0_i32_272 v414
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_273 : BitVec 32 := 2#32
  let v416 : BitVec 32 := Scalar.muli v10 c2_i32_273
  let v417 : BitVec 32 := Scalar.addi v415 v416
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_274 : BitVec 32 := 1#32
  let v418 : BitVec 32 := Scalar.muli v8 c1_i32_274
  let v419 : BitVec 32 := Scalar.addi v417 v418
  v419.toNat
def k0_dev24 (d0 : Dev nD) : Nat :=
  let c0_i32_281 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_280 : BitVec 32 := 4#32
  let v428 : BitVec 32 := Scalar.muli v11 c4_i32_280
  let v429 : BitVec 32 := Scalar.addi c0_i32_281 v428
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_282 : BitVec 32 := 2#32
  let v430 : BitVec 32 := Scalar.muli v12 c2_i32_282
  let v431 : BitVec 32 := Scalar.addi v429 v430
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_283 : BitVec 32 := 1#32
  let v432 : BitVec 32 := Scalar.muli v8 c1_i32_283
  let v433 : BitVec 32 := Scalar.addi v431 v432
  v433.toNat
def k0_off11 (d0 : Dev nD) : Fin 4 → Nat :=
  let c2_i32_63 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v100 : BitVec 32 := Scalar.muli c2_i32_63 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v101 : BitVec 32 := Scalar.addi v100 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_293 : BitVec 32 := 0#32
  let c0_i32_294 : BitVec 32 := 0#32
  ![v101.toNat, v8.toNat, 0, 0]
def k0_off12 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_295 : BitVec 32 := 0#32
  let c0_i32_296 : BitVec 32 := 0#32
  ![v8.toNat, 0, 0]
def k0_dev25 (d0 : Dev nD) : Nat :=
  let c0_i32_290 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_289 : BitVec 32 := 4#32
  let v442 : BitVec 32 := Scalar.muli v9 c4_i32_289
  let v443 : BitVec 32 := Scalar.addi c0_i32_290 v442
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_291 : BitVec 32 := 2#32
  let v444 : BitVec 32 := Scalar.muli v5 c2_i32_291
  let v445 : BitVec 32 := Scalar.addi v443 v444
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_292 : BitVec 32 := 1#32
  let v446 : BitVec 32 := Scalar.muli v8 c1_i32_292
  let v447 : BitVec 32 := Scalar.addi v445 v446
  v447.toNat
def k0_dev26 (d0 : Dev nD) : Nat :=
  let c0_i32_299 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_298 : BitVec 32 := 4#32
  let v456 : BitVec 32 := Scalar.muli v2 c4_i32_298
  let v457 : BitVec 32 := Scalar.addi c0_i32_299 v456
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_300 : BitVec 32 := 2#32
  let v458 : BitVec 32 := Scalar.muli v10 c2_i32_300
  let v459 : BitVec 32 := Scalar.addi v457 v458
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_301 : BitVec 32 := 1#32
  let v460 : BitVec 32 := Scalar.muli v8 c1_i32_301
  let v461 : BitVec 32 := Scalar.addi v459 v460
  v461.toNat
def k0_dev27 (d0 : Dev nD) : Nat :=
  let c0_i32_308 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_307 : BitVec 32 := 4#32
  let v470 : BitVec 32 := Scalar.muli v11 c4_i32_307
  let v471 : BitVec 32 := Scalar.addi c0_i32_308 v470
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_309 : BitVec 32 := 2#32
  let v472 : BitVec 32 := Scalar.muli v12 c2_i32_309
  let v473 : BitVec 32 := Scalar.addi v471 v472
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_310 : BitVec 32 := 1#32
  let v474 : BitVec 32 := Scalar.muli v8 c1_i32_310
  let v475 : BitVec 32 := Scalar.addi v473 v474
  v475.toNat
def k0_off13 (d0 : Dev nD) : Fin 4 → Nat :=
  let c2_i32_315 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v484 : BitVec 32 := Scalar.muli c2_i32_315 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v485 : BitVec 32 := Scalar.addi v484 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_322 : BitVec 32 := 0#32
  let c0_i32_323 : BitVec 32 := 0#32
  ![v485.toNat, v8.toNat, 0, 0]
def k0_dev28 (d0 : Dev nD) : Nat :=
  let c0_i32_331 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_330 : BitVec 32 := 4#32
  let v502 : BitVec 32 := Scalar.muli v2 c4_i32_330
  let v503 : BitVec 32 := Scalar.addi c0_i32_331 v502
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_332 : BitVec 32 := 2#32
  let v504 : BitVec 32 := Scalar.muli v5 c2_i32_332
  let v505 : BitVec 32 := Scalar.addi v503 v504
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_333 : BitVec 32 := 1#32
  let v506 : BitVec 32 := Scalar.muli v15 c1_i32_333
  let v507 : BitVec 32 := Scalar.addi v505 v506
  v507.toNat
def k0_off14 (d0 : Dev nD) : Fin 4 → Nat :=
  let c2_i32_338 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v516 : BitVec 32 := Scalar.muli c2_i32_338 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v517 : BitVec 32 := Scalar.addi v516 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_345 : BitVec 32 := 0#32
  let c0_i32_346 : BitVec 32 := 0#32
  ![v517.toNat, v8.toNat, 0, 0]
def k0_dev29 (d0 : Dev nD) : Nat :=
  let c0_i32_354 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_353 : BitVec 32 := 4#32
  let v534 : BitVec 32 := Scalar.muli v2 c4_i32_353
  let v535 : BitVec 32 := Scalar.addi c0_i32_354 v534
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_355 : BitVec 32 := 2#32
  let v536 : BitVec 32 := Scalar.muli v5 c2_i32_355
  let v537 : BitVec 32 := Scalar.addi v535 v536
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_356 : BitVec 32 := 1#32
  let v538 : BitVec 32 := Scalar.muli v15 c1_i32_356
  let v539 : BitVec 32 := Scalar.addi v537 v538
  v539.toNat
def k0_off15 (d0 : Dev nD) : Fin 4 → Nat :=
  let c2_i32_361 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v548 : BitVec 32 := Scalar.muli c2_i32_361 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v549 : BitVec 32 := Scalar.addi v548 v12
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_368 : BitVec 32 := 0#32
  let c0_i32_369 : BitVec 32 := 0#32
  ![v549.toNat, v8.toNat, 0, 0]
def k0_dev30 (d0 : Dev nD) : Nat :=
  let c0_i32_377 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_376 : BitVec 32 := 4#32
  let v566 : BitVec 32 := Scalar.muli v2 c4_i32_376
  let v567 : BitVec 32 := Scalar.addi c0_i32_377 v566
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_378 : BitVec 32 := 2#32
  let v568 : BitVec 32 := Scalar.muli v5 c2_i32_378
  let v569 : BitVec 32 := Scalar.addi v567 v568
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_379 : BitVec 32 := 1#32
  let v570 : BitVec 32 := Scalar.muli v15 c1_i32_379
  let v571 : BitVec 32 := Scalar.addi v569 v570
  v571.toNat
def k0_dev31 (d0 : Dev nD) : Nat :=
  let c0_i32_399 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_398 : BitVec 32 := 4#32
  let v598 : BitVec 32 := Scalar.muli v2 c4_i32_398
  let v599 : BitVec 32 := Scalar.addi c0_i32_399 v598
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_400 : BitVec 32 := 2#32
  let v600 : BitVec 32 := Scalar.muli v5 c2_i32_400
  let v601 : BitVec 32 := Scalar.addi v599 v600
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_401 : BitVec 32 := 1#32
  let v602 : BitVec 32 := Scalar.muli v15 c1_i32_401
  let v603 : BitVec 32 := Scalar.addi v601 v602
  v603.toNat
def k0_dev32 (d0 : Dev nD) : Nat :=
  let c0_i32_421 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_420 : BitVec 32 := 4#32
  let v630 : BitVec 32 := Scalar.muli v2 c4_i32_420
  let v631 : BitVec 32 := Scalar.addi c0_i32_421 v630
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_422 : BitVec 32 := 2#32
  let v632 : BitVec 32 := Scalar.muli v5 c2_i32_422
  let v633 : BitVec 32 := Scalar.addi v631 v632
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_423 : BitVec 32 := 1#32
  let v634 : BitVec 32 := Scalar.muli v15 c1_i32_423
  let v635 : BitVec 32 := Scalar.addi v633 v634
  v635.toNat
def k0_dev33 (d0 : Dev nD) : Nat :=
  let c0_i32_443 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_442 : BitVec 32 := 4#32
  let v662 : BitVec 32 := Scalar.muli v2 c4_i32_442
  let v663 : BitVec 32 := Scalar.addi c0_i32_443 v662
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_444 : BitVec 32 := 2#32
  let v664 : BitVec 32 := Scalar.muli v5 c2_i32_444
  let v665 : BitVec 32 := Scalar.addi v663 v664
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_445 : BitVec 32 := 1#32
  let v666 : BitVec 32 := Scalar.muli v15 c1_i32_445
  let v667 : BitVec 32 := Scalar.addi v665 v666
  v667.toNat
def k0_off16 (d0 : Dev nD) : Fin 4 → Nat :=
  let c2_i32_450 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v676 : BitVec 32 := Scalar.muli c2_i32_450 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v677 : BitVec 32 := Scalar.addi v676 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_457 : BitVec 32 := 0#32
  let c0_i32_458 : BitVec 32 := 0#32
  ![v677.toNat, v8.toNat, 0, 0]
def k0_dev34 (d0 : Dev nD) : Nat :=
  let c0_i32_465 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_464 : BitVec 32 := 4#32
  let v694 : BitVec 32 := Scalar.muli v2 c4_i32_464
  let v695 : BitVec 32 := Scalar.addi c0_i32_465 v694
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_466 : BitVec 32 := 2#32
  let v696 : BitVec 32 := Scalar.muli v5 c2_i32_466
  let v697 : BitVec 32 := Scalar.addi v695 v696
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_467 : BitVec 32 := 1#32
  let v698 : BitVec 32 := Scalar.muli v15 c1_i32_467
  let v699 : BitVec 32 := Scalar.addi v697 v698
  v699.toNat
def k0_off17 (d0 : Dev nD) : Fin 4 → Nat :=
  let c2_i32_472 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v708 : BitVec 32 := Scalar.muli c2_i32_472 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v709 : BitVec 32 := Scalar.addi v708 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_479 : BitVec 32 := 0#32
  let c0_i32_480 : BitVec 32 := 0#32
  ![v709.toNat, v8.toNat, 0, 0]
def k0_dev35 (d0 : Dev nD) : Nat :=
  let c0_i32_487 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_486 : BitVec 32 := 4#32
  let v726 : BitVec 32 := Scalar.muli v2 c4_i32_486
  let v727 : BitVec 32 := Scalar.addi c0_i32_487 v726
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_488 : BitVec 32 := 2#32
  let v728 : BitVec 32 := Scalar.muli v5 c2_i32_488
  let v729 : BitVec 32 := Scalar.addi v727 v728
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_489 : BitVec 32 := 1#32
  let v730 : BitVec 32 := Scalar.muli v15 c1_i32_489
  let v731 : BitVec 32 := Scalar.addi v729 v730
  v731.toNat
def k0_off18 (d0 : Dev nD) : Fin 4 → Nat :=
  let c2_i32_494 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v740 : BitVec 32 := Scalar.muli c2_i32_494 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v741 : BitVec 32 := Scalar.addi v740 v12
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_501 : BitVec 32 := 0#32
  let c0_i32_502 : BitVec 32 := 0#32
  ![v741.toNat, v8.toNat, 0, 0]
def k0_dev36 (d0 : Dev nD) : Nat :=
  let c0_i32_509 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_508 : BitVec 32 := 4#32
  let v758 : BitVec 32 := Scalar.muli v2 c4_i32_508
  let v759 : BitVec 32 := Scalar.addi c0_i32_509 v758
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_510 : BitVec 32 := 2#32
  let v760 : BitVec 32 := Scalar.muli v5 c2_i32_510
  let v761 : BitVec 32 := Scalar.addi v759 v760
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_511 : BitVec 32 := 1#32
  let v762 : BitVec 32 := Scalar.muli v15 c1_i32_511
  let v763 : BitVec 32 := Scalar.addi v761 v762
  v763.toNat
def k0_off19 (d0 : Dev nD) : Fin 4 → Nat :=
  let c2_i32_516 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v772 : BitVec 32 := Scalar.muli c2_i32_516 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v773 : BitVec 32 := Scalar.addi v772 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_523 : BitVec 32 := 0#32
  let c0_i32_524 : BitVec 32 := 0#32
  ![v773.toNat, v8.toNat, 0, 0]
def k0_dev37 (d0 : Dev nD) : Nat :=
  let c0_i32_531 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_530 : BitVec 32 := 4#32
  let v790 : BitVec 32 := Scalar.muli v2 c4_i32_530
  let v791 : BitVec 32 := Scalar.addi c0_i32_531 v790
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_532 : BitVec 32 := 2#32
  let v792 : BitVec 32 := Scalar.muli v5 c2_i32_532
  let v793 : BitVec 32 := Scalar.addi v791 v792
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_533 : BitVec 32 := 1#32
  let v794 : BitVec 32 := Scalar.muli v15 c1_i32_533
  let v795 : BitVec 32 := Scalar.addi v793 v794
  v795.toNat
def k0_off20 (d0 : Dev nD) : Fin 4 → Nat :=
  let c2_i32_538 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v804 : BitVec 32 := Scalar.muli c2_i32_538 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v805 : BitVec 32 := Scalar.addi v804 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_545 : BitVec 32 := 0#32
  let c0_i32_546 : BitVec 32 := 0#32
  ![v805.toNat, v8.toNat, 0, 0]
def k0_dev38 (d0 : Dev nD) : Nat :=
  let c0_i32_553 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_552 : BitVec 32 := 4#32
  let v822 : BitVec 32 := Scalar.muli v2 c4_i32_552
  let v823 : BitVec 32 := Scalar.addi c0_i32_553 v822
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_554 : BitVec 32 := 2#32
  let v824 : BitVec 32 := Scalar.muli v5 c2_i32_554
  let v825 : BitVec 32 := Scalar.addi v823 v824
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_555 : BitVec 32 := 1#32
  let v826 : BitVec 32 := Scalar.muli v15 c1_i32_555
  let v827 : BitVec 32 := Scalar.addi v825 v826
  v827.toNat
def k0_off21 (d0 : Dev nD) : Fin 4 → Nat :=
  let c2_i32_560 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v836 : BitVec 32 := Scalar.muli c2_i32_560 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v837 : BitVec 32 := Scalar.addi v836 v12
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_567 : BitVec 32 := 0#32
  let c0_i32_568 : BitVec 32 := 0#32
  ![v837.toNat, v8.toNat, 0, 0]
def k0_dev39 (d0 : Dev nD) : Nat :=
  let c0_i32_575 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_574 : BitVec 32 := 4#32
  let v854 : BitVec 32 := Scalar.muli v2 c4_i32_574
  let v855 : BitVec 32 := Scalar.addi c0_i32_575 v854
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_576 : BitVec 32 := 2#32
  let v856 : BitVec 32 := Scalar.muli v5 c2_i32_576
  let v857 : BitVec 32 := Scalar.addi v855 v856
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_577 : BitVec 32 := 1#32
  let v858 : BitVec 32 := Scalar.muli v15 c1_i32_577
  let v859 : BitVec 32 := Scalar.addi v857 v858
  v859.toNat
def k0_dev40 (d0 : Dev nD) : Nat :=
  let c0_i32_597 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_596 : BitVec 32 := 4#32
  let v886 : BitVec 32 := Scalar.muli v2 c4_i32_596
  let v887 : BitVec 32 := Scalar.addi c0_i32_597 v886
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_598 : BitVec 32 := 2#32
  let v888 : BitVec 32 := Scalar.muli v5 c2_i32_598
  let v889 : BitVec 32 := Scalar.addi v887 v888
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_599 : BitVec 32 := 1#32
  let v890 : BitVec 32 := Scalar.muli v15 c1_i32_599
  let v891 : BitVec 32 := Scalar.addi v889 v890
  v891.toNat
def k0_dev41 (d0 : Dev nD) : Nat :=
  let c0_i32_619 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_618 : BitVec 32 := 4#32
  let v918 : BitVec 32 := Scalar.muli v2 c4_i32_618
  let v919 : BitVec 32 := Scalar.addi c0_i32_619 v918
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_620 : BitVec 32 := 2#32
  let v920 : BitVec 32 := Scalar.muli v5 c2_i32_620
  let v921 : BitVec 32 := Scalar.addi v919 v920
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_621 : BitVec 32 := 1#32
  let v922 : BitVec 32 := Scalar.muli v15 c1_i32_621
  let v923 : BitVec 32 := Scalar.addi v921 v922
  v923.toNat
def k0_dev42 (d0 : Dev nD) : Nat :=
  let c0_i32_641 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_640 : BitVec 32 := 4#32
  let v950 : BitVec 32 := Scalar.muli v2 c4_i32_640
  let v951 : BitVec 32 := Scalar.addi c0_i32_641 v950
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_642 : BitVec 32 := 2#32
  let v952 : BitVec 32 := Scalar.muli v5 c2_i32_642
  let v953 : BitVec 32 := Scalar.addi v951 v952
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_643 : BitVec 32 := 1#32
  let v954 : BitVec 32 := Scalar.muli v15 c1_i32_643
  let v955 : BitVec 32 := Scalar.addi v953 v954
  v955.toNat
def k0_dev43 (d0 : Dev nD) : Nat :=
  let c0_i32_663 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_662 : BitVec 32 := 4#32
  let v982 : BitVec 32 := Scalar.muli v2 c4_i32_662
  let v983 : BitVec 32 := Scalar.addi c0_i32_663 v982
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_664 : BitVec 32 := 2#32
  let v984 : BitVec 32 := Scalar.muli v5 c2_i32_664
  let v985 : BitVec 32 := Scalar.addi v983 v984
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_665 : BitVec 32 := 1#32
  let v986 : BitVec 32 := Scalar.muli v15 c1_i32_665
  let v987 : BitVec 32 := Scalar.addi v985 v986
  v987.toNat
def k0_dev44 (d0 : Dev nD) : Nat :=
  let c0_i32_685 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_684 : BitVec 32 := 4#32
  let v1014 : BitVec 32 := Scalar.muli v2 c4_i32_684
  let v1015 : BitVec 32 := Scalar.addi c0_i32_685 v1014
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_686 : BitVec 32 := 2#32
  let v1016 : BitVec 32 := Scalar.muli v5 c2_i32_686
  let v1017 : BitVec 32 := Scalar.addi v1015 v1016
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_687 : BitVec 32 := 1#32
  let v1018 : BitVec 32 := Scalar.muli v15 c1_i32_687
  let v1019 : BitVec 32 := Scalar.addi v1017 v1018
  v1019.toNat
def k0_dev45 (d0 : Dev nD) : Nat :=
  let c0_i32_707 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_706 : BitVec 32 := 4#32
  let v1046 : BitVec 32 := Scalar.muli v2 c4_i32_706
  let v1047 : BitVec 32 := Scalar.addi c0_i32_707 v1046
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_708 : BitVec 32 := 2#32
  let v1048 : BitVec 32 := Scalar.muli v5 c2_i32_708
  let v1049 : BitVec 32 := Scalar.addi v1047 v1048
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_709 : BitVec 32 := 1#32
  let v1050 : BitVec 32 := Scalar.muli v15 c1_i32_709
  let v1051 : BitVec 32 := Scalar.addi v1049 v1050
  v1051.toNat
def k0_dev46 (d0 : Dev nD) : Nat :=
  let c0_i32_729 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_728 : BitVec 32 := 4#32
  let v1078 : BitVec 32 := Scalar.muli v2 c4_i32_728
  let v1079 : BitVec 32 := Scalar.addi c0_i32_729 v1078
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_730 : BitVec 32 := 2#32
  let v1080 : BitVec 32 := Scalar.muli v5 c2_i32_730
  let v1081 : BitVec 32 := Scalar.addi v1079 v1080
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_731 : BitVec 32 := 1#32
  let v1082 : BitVec 32 := Scalar.muli v15 c1_i32_731
  let v1083 : BitVec 32 := Scalar.addi v1081 v1082
  v1083.toNat
def k0_dev47 (d0 : Dev nD) : Nat :=
  let c0_i32_751 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_750 : BitVec 32 := 4#32
  let v1110 : BitVec 32 := Scalar.muli v2 c4_i32_750
  let v1111 : BitVec 32 := Scalar.addi c0_i32_751 v1110
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_752 : BitVec 32 := 2#32
  let v1112 : BitVec 32 := Scalar.muli v5 c2_i32_752
  let v1113 : BitVec 32 := Scalar.addi v1111 v1112
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_753 : BitVec 32 := 1#32
  let v1114 : BitVec 32 := Scalar.muli v15 c1_i32_753
  let v1115 : BitVec 32 := Scalar.addi v1113 v1114
  v1115.toNat
def k0_dev48 (d0 : Dev nD) : Nat :=
  let c0_i32_773 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_772 : BitVec 32 := 4#32
  let v1142 : BitVec 32 := Scalar.muli v2 c4_i32_772
  let v1143 : BitVec 32 := Scalar.addi c0_i32_773 v1142
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_774 : BitVec 32 := 2#32
  let v1144 : BitVec 32 := Scalar.muli v5 c2_i32_774
  let v1145 : BitVec 32 := Scalar.addi v1143 v1144
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_775 : BitVec 32 := 1#32
  let v1146 : BitVec 32 := Scalar.muli v15 c1_i32_775
  let v1147 : BitVec 32 := Scalar.addi v1145 v1146
  v1147.toNat
def k0_dev49 (d0 : Dev nD) : Nat :=
  let c0_i32_795 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_794 : BitVec 32 := 4#32
  let v1174 : BitVec 32 := Scalar.muli v2 c4_i32_794
  let v1175 : BitVec 32 := Scalar.addi c0_i32_795 v1174
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_796 : BitVec 32 := 2#32
  let v1176 : BitVec 32 := Scalar.muli v5 c2_i32_796
  let v1177 : BitVec 32 := Scalar.addi v1175 v1176
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_797 : BitVec 32 := 1#32
  let v1178 : BitVec 32 := Scalar.muli v15 c1_i32_797
  let v1179 : BitVec 32 := Scalar.addi v1177 v1178
  v1179.toNat
def k0_dev50 (d0 : Dev nD) : Nat :=
  let c0_i32_817 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_816 : BitVec 32 := 4#32
  let v1206 : BitVec 32 := Scalar.muli v2 c4_i32_816
  let v1207 : BitVec 32 := Scalar.addi c0_i32_817 v1206
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_818 : BitVec 32 := 2#32
  let v1208 : BitVec 32 := Scalar.muli v5 c2_i32_818
  let v1209 : BitVec 32 := Scalar.addi v1207 v1208
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_819 : BitVec 32 := 1#32
  let v1210 : BitVec 32 := Scalar.muli v15 c1_i32_819
  let v1211 : BitVec 32 := Scalar.addi v1209 v1210
  v1211.toNat
def k0_dev51 (d0 : Dev nD) : Nat :=
  let c0_i32_839 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_838 : BitVec 32 := 4#32
  let v1238 : BitVec 32 := Scalar.muli v2 c4_i32_838
  let v1239 : BitVec 32 := Scalar.addi c0_i32_839 v1238
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_840 : BitVec 32 := 2#32
  let v1240 : BitVec 32 := Scalar.muli v5 c2_i32_840
  let v1241 : BitVec 32 := Scalar.addi v1239 v1240
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_841 : BitVec 32 := 1#32
  let v1242 : BitVec 32 := Scalar.muli v15 c1_i32_841
  let v1243 : BitVec 32 := Scalar.addi v1241 v1242
  v1243.toNat
def k0_off22 (d0 : Dev nD) : Fin 4 → Nat :=
  let c2_i32_846 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v1252 : BitVec 32 := Scalar.muli c2_i32_846 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1253 : BitVec 32 := Scalar.addi v1252 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_853 : BitVec 32 := 0#32
  let c0_i32_854 : BitVec 32 := 0#32
  ![v1253.toNat, v8.toNat, 0, 0]
def k0_dev52 (d0 : Dev nD) : Nat :=
  let c0_i32_861 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_860 : BitVec 32 := 4#32
  let v1270 : BitVec 32 := Scalar.muli v2 c4_i32_860
  let v1271 : BitVec 32 := Scalar.addi c0_i32_861 v1270
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_862 : BitVec 32 := 2#32
  let v1272 : BitVec 32 := Scalar.muli v5 c2_i32_862
  let v1273 : BitVec 32 := Scalar.addi v1271 v1272
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_863 : BitVec 32 := 1#32
  let v1274 : BitVec 32 := Scalar.muli v15 c1_i32_863
  let v1275 : BitVec 32 := Scalar.addi v1273 v1274
  v1275.toNat
def k0_off23 (d0 : Dev nD) : Fin 4 → Nat :=
  let c2_i32_868 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1284 : BitVec 32 := Scalar.muli c2_i32_868 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v1285 : BitVec 32 := Scalar.addi v1284 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_875 : BitVec 32 := 0#32
  let c0_i32_876 : BitVec 32 := 0#32
  ![v1285.toNat, v8.toNat, 0, 0]
def k0_dev53 (d0 : Dev nD) : Nat :=
  let c0_i32_883 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_882 : BitVec 32 := 4#32
  let v1302 : BitVec 32 := Scalar.muli v2 c4_i32_882
  let v1303 : BitVec 32 := Scalar.addi c0_i32_883 v1302
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_884 : BitVec 32 := 2#32
  let v1304 : BitVec 32 := Scalar.muli v5 c2_i32_884
  let v1305 : BitVec 32 := Scalar.addi v1303 v1304
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_885 : BitVec 32 := 1#32
  let v1306 : BitVec 32 := Scalar.muli v15 c1_i32_885
  let v1307 : BitVec 32 := Scalar.addi v1305 v1306
  v1307.toNat
def k0_off24 (d0 : Dev nD) : Fin 4 → Nat :=
  let c2_i32_890 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v1316 : BitVec 32 := Scalar.muli c2_i32_890 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v1317 : BitVec 32 := Scalar.addi v1316 v12
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_897 : BitVec 32 := 0#32
  let c0_i32_898 : BitVec 32 := 0#32
  ![v1317.toNat, v8.toNat, 0, 0]
def k0_dev54 (d0 : Dev nD) : Nat :=
  let c0_i32_905 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_904 : BitVec 32 := 4#32
  let v1334 : BitVec 32 := Scalar.muli v2 c4_i32_904
  let v1335 : BitVec 32 := Scalar.addi c0_i32_905 v1334
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_906 : BitVec 32 := 2#32
  let v1336 : BitVec 32 := Scalar.muli v5 c2_i32_906
  let v1337 : BitVec 32 := Scalar.addi v1335 v1336
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_907 : BitVec 32 := 1#32
  let v1338 : BitVec 32 := Scalar.muli v15 c1_i32_907
  let v1339 : BitVec 32 := Scalar.addi v1337 v1338
  v1339.toNat
def k0_off25 (d0 : Dev nD) : Fin 4 → Nat :=
  let c2_i32_912 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v1348 : BitVec 32 := Scalar.muli c2_i32_912 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1349 : BitVec 32 := Scalar.addi v1348 v5
  let c1_i32_913 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1350 : BitVec 32 := Scalar.subi c1_i32_913 v8
  let c0_i32_920 : BitVec 32 := 0#32
  let c0_i32_921 : BitVec 32 := 0#32
  ![v1349.toNat, v1350.toNat, 0, 0]
def k0_off26 (d0 : Dev nD) : Fin 4 → Nat :=
  let c2_i32_924 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1363 : BitVec 32 := Scalar.muli c2_i32_924 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v1364 : BitVec 32 := Scalar.addi v1363 v10
  let c1_i32_925 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1365 : BitVec 32 := Scalar.subi c1_i32_925 v8
  let c0_i32_932 : BitVec 32 := 0#32
  let c0_i32_933 : BitVec 32 := 0#32
  ![v1364.toNat, v1365.toNat, 0, 0]
def k0_off27 (d0 : Dev nD) : Fin 4 → Nat :=
  let c2_i32_936 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v1378 : BitVec 32 := Scalar.muli c2_i32_936 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v1379 : BitVec 32 := Scalar.addi v1378 v12
  let c1_i32_937 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1380 : BitVec 32 := Scalar.subi c1_i32_937 v8
  let c0_i32_944 : BitVec 32 := 0#32
  let c0_i32_945 : BitVec 32 := 0#32
  ![v1379.toNat, v1380.toNat, 0, 0]
def k0_off28 (d0 : Dev nD) : Fin 4 → Nat :=
  let c2_i32_984 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v1438 : BitVec 32 := Scalar.muli c2_i32_984 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1439 : BitVec 32 := Scalar.addi v1438 v5
  let c1_i32_985 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1440 : BitVec 32 := Scalar.subi c1_i32_985 v8
  let c0_i32_992 : BitVec 32 := 0#32
  let c0_i32_993 : BitVec 32 := 0#32
  ![v1439.toNat, v1440.toNat, 0, 0]
def k0_off29 (d0 : Dev nD) : Fin 4 → Nat :=
  let c2_i32_996 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1453 : BitVec 32 := Scalar.muli c2_i32_996 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v1454 : BitVec 32 := Scalar.addi v1453 v10
  let c1_i32_997 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1455 : BitVec 32 := Scalar.subi c1_i32_997 v8
  let c0_i32_1004 : BitVec 32 := 0#32
  let c0_i32_1005 : BitVec 32 := 0#32
  ![v1454.toNat, v1455.toNat, 0, 0]
def k0_off30 (d0 : Dev nD) : Fin 4 → Nat :=
  let c2_i32_1008 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v1468 : BitVec 32 := Scalar.muli c2_i32_1008 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v1469 : BitVec 32 := Scalar.addi v1468 v12
  let c1_i32_1009 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1470 : BitVec 32 := Scalar.subi c1_i32_1009 v8
  let c0_i32_1016 : BitVec 32 := 0#32
  let c0_i32_1017 : BitVec 32 := 0#32
  ![v1469.toNat, v1470.toNat, 0, 0]
def k0_off31 (d0 : Dev nD) : Fin 4 → Nat :=
  let c2_i32_1020 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v1483 : BitVec 32 := Scalar.muli c2_i32_1020 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1484 : BitVec 32 := Scalar.addi v1483 v5
  let c1_i32_1021 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1485 : BitVec 32 := Scalar.subi c1_i32_1021 v8
  let c0_i32_1028 : BitVec 32 := 0#32
  let c0_i32_1029 : BitVec 32 := 0#32
  ![v1484.toNat, v1485.toNat, 0, 0]
def k0_off32 (d0 : Dev nD) : Fin 4 → Nat :=
  let c2_i32_1032 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1498 : BitVec 32 := Scalar.muli c2_i32_1032 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v1499 : BitVec 32 := Scalar.addi v1498 v10
  let c1_i32_1033 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1500 : BitVec 32 := Scalar.subi c1_i32_1033 v8
  let c0_i32_1040 : BitVec 32 := 0#32
  let c0_i32_1041 : BitVec 32 := 0#32
  ![v1499.toNat, v1500.toNat, 0, 0]
def k0_off33 (d0 : Dev nD) : Fin 4 → Nat :=
  let c2_i32_1044 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v1513 : BitVec 32 := Scalar.muli c2_i32_1044 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v1514 : BitVec 32 := Scalar.addi v1513 v12
  let c1_i32_1045 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1515 : BitVec 32 := Scalar.subi c1_i32_1045 v8
  let c0_i32_1052 : BitVec 32 := 0#32
  let c0_i32_1053 : BitVec 32 := 0#32
  ![v1514.toNat, v1515.toNat, 0, 0]
def k0_off34 (d0 : Dev nD) : Fin 4 → Nat :=
  let c2_i32_1200 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v1708 : BitVec 32 := Scalar.muli c2_i32_1200 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1709 : BitVec 32 := Scalar.addi v1708 v5
  let c1_i32_1201 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1710 : BitVec 32 := Scalar.subi c1_i32_1201 v8
  let c0_i32_1208 : BitVec 32 := 0#32
  let c0_i32_1209 : BitVec 32 := 0#32
  ![v1709.toNat, v1710.toNat, 0, 0]
def k0_off35 (d0 : Dev nD) : Fin 4 → Nat :=
  let c2_i32_1212 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1723 : BitVec 32 := Scalar.muli c2_i32_1212 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v1724 : BitVec 32 := Scalar.addi v1723 v10
  let c1_i32_1213 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1725 : BitVec 32 := Scalar.subi c1_i32_1213 v8
  let c0_i32_1220 : BitVec 32 := 0#32
  let c0_i32_1221 : BitVec 32 := 0#32
  ![v1724.toNat, v1725.toNat, 0, 0]
def k0_off36 (d0 : Dev nD) : Fin 4 → Nat :=
  let c2_i32_1224 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v1738 : BitVec 32 := Scalar.muli c2_i32_1224 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v1739 : BitVec 32 := Scalar.addi v1738 v12
  let c1_i32_1225 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1740 : BitVec 32 := Scalar.subi c1_i32_1225 v8
  let c0_i32_1232 : BitVec 32 := 0#32
  let c0_i32_1233 : BitVec 32 := 0#32
  ![v1739.toNat, v1740.toNat, 0, 0]
-- ==== GatherRefIdeal.lean ====
abbrev S8x512x704 : Shape := ⟨3, ![8, 512, 704]⟩
abbrev S8x352x1024 : Shape := ⟨3, ![8, 352, 1024]⟩
abbrev S8x128x1024 : Shape := ⟨3, ![8, 128, 1024]⟩
abbrev S8x8x256 : Shape := ⟨3, ![8, 8, 256]⟩
abbrev S4x2x512x704 : Shape := ⟨4, ![4, 2, 512, 704]⟩
abbrev S4x2x352x1024 : Shape := ⟨4, ![4, 2, 352, 1024]⟩
abbrev S4x2x128x1024 : Shape := ⟨4, ![4, 2, 128, 1024]⟩
abbrev S4x2x8x256 : Shape := ⟨4, ![4, 2, 8, 256]⟩

abbrev nBuf : Space → Nat
  | .hbm => 18
  | .vmem => 0
  | .smem => 0
  | _ => 0

abbrev bufTy : (tb : Table) → Fin (tcTables nBuf tb) → BufTy
  | .hbm, ⟨0, _⟩ => ⟨S8x512x704, .bf16⟩
  | .hbm, ⟨1, _⟩ => ⟨S8x512x704, .bf16⟩
  | .hbm, ⟨2, _⟩ => ⟨S8x352x1024, .bf16⟩
  | .hbm, ⟨3, _⟩ => ⟨S8x128x1024, .bf16⟩
  | .hbm, ⟨4, _⟩ => ⟨S8x128x1024, .bf16⟩
  | .hbm, ⟨5, _⟩ => ⟨S8x512x704, .bf16⟩
  | .hbm, ⟨6, _⟩ => ⟨S8x512x704, .bf16⟩
  | .hbm, ⟨7, _⟩ => ⟨S8x352x1024, .bf16⟩
  | .hbm, ⟨8, _⟩ => ⟨S8x8x256, .f32⟩
  | .hbm, ⟨9, _⟩ => ⟨S4x2x512x704, .bf16⟩
  | .hbm, ⟨10, _⟩ => ⟨S4x2x512x704, .bf16⟩
  | .hbm, ⟨11, _⟩ => ⟨S4x2x352x1024, .bf16⟩
  | .hbm, ⟨12, _⟩ => ⟨S4x2x128x1024, .bf16⟩
  | .hbm, ⟨13, _⟩ => ⟨S4x2x128x1024, .bf16⟩
  | .hbm, ⟨14, _⟩ => ⟨S4x2x512x704, .bf16⟩
  | .hbm, ⟨15, _⟩ => ⟨S4x2x512x704, .bf16⟩
  | .hbm, ⟨16, _⟩ => ⟨S4x2x352x1024, .bf16⟩
  | .hbm, ⟨17, _⟩ => ⟨S4x2x8x256, .f32⟩
  | _, _ => ⟨S8x512x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩

abbrev nD : Nat := 1
abbrev τ : Topo := Topo.v7x

variable {F : FTy → Type} [FloatOps F]
-- ==== GatherRef.lean ====
abbrev S8x512x704 : Shape := ⟨3, ![8, 512, 704]⟩
abbrev S8x352x1024 : Shape := ⟨3, ![8, 352, 1024]⟩
abbrev S8x128x1024 : Shape := ⟨3, ![8, 128, 1024]⟩
abbrev S8x8x256 : Shape := ⟨3, ![8, 8, 256]⟩
abbrev S4x2x512x704 : Shape := ⟨4, ![4, 2, 512, 704]⟩
abbrev S4x2x352x1024 : Shape := ⟨4, ![4, 2, 352, 1024]⟩
abbrev S4x2x128x1024 : Shape := ⟨4, ![4, 2, 128, 1024]⟩
abbrev S4x2x8x256 : Shape := ⟨4, ![4, 2, 8, 256]⟩

abbrev nBuf : Space → Nat
  | .hbm => 18
  | .vmem => 0
  | .smem => 0
  | _ => 0

abbrev bufTy : (tb : Table) → Fin (tcTables nBuf tb) → BufTy
  | .hbm, ⟨0, _⟩ => ⟨S8x512x704, .bf16⟩
  | .hbm, ⟨1, _⟩ => ⟨S8x512x704, .bf16⟩
  | .hbm, ⟨2, _⟩ => ⟨S8x352x1024, .bf16⟩
  | .hbm, ⟨3, _⟩ => ⟨S8x128x1024, .bf16⟩
  | .hbm, ⟨4, _⟩ => ⟨S8x128x1024, .bf16⟩
  | .hbm, ⟨5, _⟩ => ⟨S8x512x704, .bf16⟩
  | .hbm, ⟨6, _⟩ => ⟨S8x512x704, .bf16⟩
  | .hbm, ⟨7, _⟩ => ⟨S8x352x1024, .bf16⟩
  | .hbm, ⟨8, _⟩ => ⟨S8x8x256, .f32⟩
  | .hbm, ⟨9, _⟩ => ⟨S4x2x512x704, .bf16⟩
  | .hbm, ⟨10, _⟩ => ⟨S4x2x512x704, .bf16⟩
  | .hbm, ⟨11, _⟩ => ⟨S4x2x352x1024, .bf16⟩
  | .hbm, ⟨12, _⟩ => ⟨S4x2x128x1024, .bf16⟩
  | .hbm, ⟨13, _⟩ => ⟨S4x2x128x1024, .bf16⟩
  | .hbm, ⟨14, _⟩ => ⟨S4x2x512x704, .bf16⟩
  | .hbm, ⟨15, _⟩ => ⟨S4x2x512x704, .bf16⟩
  | .hbm, ⟨16, _⟩ => ⟨S4x2x352x1024, .bf16⟩
  | .hbm, ⟨17, _⟩ => ⟨S4x2x8x256, .f32⟩
  | _, _ => ⟨S8x512x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩

abbrev nD : Nat := 1
abbrev τ : Topo := Topo.v7x

variable {F : FTy → Type} [FloatOps F]
-- ==== GatherSmall.lean ====
abbrev S2x240x128 : Shape := ⟨3, ![2, 240, 128]⟩
abbrev S4x2x240x128 : Shape := ⟨4, ![4, 2, 240, 128]⟩
abbrev S6 : Shape := ⟨1, ![6]⟩
abbrev S1 : Shape := ⟨1, ![1]⟩
abbrev S_ : Shape := ⟨0, ![]⟩
abbrev S1x2x240x128 : Shape := ⟨4, ![1, 2, 240, 128]⟩
abbrev S1x1x240x128 : Shape := ⟨4, ![1, 1, 240, 128]⟩
abbrev S240x128 : Shape := ⟨2, ![240, 128]⟩
abbrev S1x240x128 : Shape := ⟨3, ![1, 240, 128]⟩

abbrev nBuf : Space → Nat
  | .hbm => 2
  | .vmem => 0
  | .smem => 0
  | _ => 0

abbrev bufTy : (tb : Table) → Fin (tcTables nBuf tb) → BufTy
  | .hbm, ⟨0, _⟩ => ⟨S2x240x128, .f32⟩
  | .hbm, ⟨1, _⟩ => ⟨S4x2x240x128, .f32⟩
  | _, _ => ⟨S2x240x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 4 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32_9 : BitVec 32 := 0#32
  let c0_i32_10 : BitVec 32 := 0#32
  let c0_i32_11 : BitVec 32 := 0#32
  ![v14.toNat, 0, 0, 0]
def k0_off2 (d0 : Dev nD) : Fin 4 → Nat :=
  let c2_i32_12 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.muli c2_i32_12 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v21 : BitVec 32 := Scalar.addi v20 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_21 : BitVec 32 := 0#32
  let c0_i32_22 : BitVec 32 := 0#32
  ![v21.toNat, v8.toNat, 0, 0]
def k0_off3 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_23 : BitVec 32 := 0#32
  let c0_i32_24 : BitVec 32 := 0#32
  ![v8.toNat, 0, 0]
def k0_dev1 (d0 : Dev nD) : Nat :=
  let c0_i32_18 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_17 : BitVec 32 := 4#32
  let v26 : BitVec 32 := Scalar.muli v9 c4_i32_17
  let v27 : BitVec 32 := Scalar.addi c0_i32_18 v26
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_19 : BitVec 32 := 2#32
  let v28 : BitVec 32 := Scalar.muli v5 c2_i32_19
  let v29 : BitVec 32 := Scalar.addi v27 v28
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_20 : BitVec 32 := 1#32
  let v30 : BitVec 32 := Scalar.muli v8 c1_i32_20
  let v31 : BitVec 32 := Scalar.addi v29 v30
  v31.toNat
def k0_dev2 (d0 : Dev nD) : Nat :=
  let c0_i32_28 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_27 : BitVec 32 := 4#32
  let v40 : BitVec 32 := Scalar.muli v2 c4_i32_27
  let v41 : BitVec 32 := Scalar.addi c0_i32_28 v40
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_29 : BitVec 32 := 2#32
  let v42 : BitVec 32 := Scalar.muli v10 c2_i32_29
  let v43 : BitVec 32 := Scalar.addi v41 v42
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_30 : BitVec 32 := 1#32
  let v44 : BitVec 32 := Scalar.muli v8 c1_i32_30
  let v45 : BitVec 32 := Scalar.addi v43 v44
  v45.toNat
def k0_dev3 (d0 : Dev nD) : Nat :=
  let c0_i32_38 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_37 : BitVec 32 := 4#32
  let v54 : BitVec 32 := Scalar.muli v11 c4_i32_37
  let v55 : BitVec 32 := Scalar.addi c0_i32_38 v54
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_39 : BitVec 32 := 2#32
  let v56 : BitVec 32 := Scalar.muli v12 c2_i32_39
  let v57 : BitVec 32 := Scalar.addi v55 v56
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_40 : BitVec 32 := 1#32
  let v58 : BitVec 32 := Scalar.muli v8 c1_i32_40
  let v59 : BitVec 32 := Scalar.addi v57 v58
  v59.toNat
def k0_off4 (d0 : Dev nD) : Fin 4 → Nat :=
  let c2_i32_45 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v68 : BitVec 32 := Scalar.muli c2_i32_45 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v69 : BitVec 32 := Scalar.addi v68 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_52 : BitVec 32 := 0#32
  let c0_i32_53 : BitVec 32 := 0#32
  ![v69.toNat, v8.toNat, 0, 0]
def k0_dev4 (d0 : Dev nD) : Nat :=
  let c0_i32_60 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_59 : BitVec 32 := 4#32
  let v86 : BitVec 32 := Scalar.muli v2 c4_i32_59
  let v87 : BitVec 32 := Scalar.addi c0_i32_60 v86
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_61 : BitVec 32 := 2#32
  let v88 : BitVec 32 := Scalar.muli v5 c2_i32_61
  let v89 : BitVec 32 := Scalar.addi v87 v88
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_62 : BitVec 32 := 1#32
  let v90 : BitVec 32 := Scalar.muli v15 c1_i32_62
  let v91 : BitVec 32 := Scalar.addi v89 v90
  v91.toNat
def k0_off5 (d0 : Dev nD) : Fin 4 → Nat :=
  let c2_i32_67 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v100 : BitVec 32 := Scalar.muli c2_i32_67 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v101 : BitVec 32 := Scalar.addi v100 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_74 : BitVec 32 := 0#32
  let c0_i32_75 : BitVec 32 := 0#32
  ![v101.toNat, v8.toNat, 0, 0]
def k0_dev5 (d0 : Dev nD) : Nat :=
  let c0_i32_83 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_82 : BitVec 32 := 4#32
  let v118 : BitVec 32 := Scalar.muli v2 c4_i32_82
  let v119 : BitVec 32 := Scalar.addi c0_i32_83 v118
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_84 : BitVec 32 := 2#32
  let v120 : BitVec 32 := Scalar.muli v5 c2_i32_84
  let v121 : BitVec 32 := Scalar.addi v119 v120
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_85 : BitVec 32 := 1#32
  let v122 : BitVec 32 := Scalar.muli v15 c1_i32_85
  let v123 : BitVec 32 := Scalar.addi v121 v122
  v123.toNat
def k0_off6 (d0 : Dev nD) : Fin 4 → Nat :=
  let c2_i32_90 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v132 : BitVec 32 := Scalar.muli c2_i32_90 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v133 : BitVec 32 := Scalar.addi v132 v12
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_97 : BitVec 32 := 0#32
  let c0_i32_98 : BitVec 32 := 0#32
  ![v133.toNat, v8.toNat, 0, 0]
def k0_dev6 (d0 : Dev nD) : Nat :=
  let c0_i32_105 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_104 : BitVec 32 := 4#32
  let v150 : BitVec 32 := Scalar.muli v2 c4_i32_104
  let v151 : BitVec 32 := Scalar.addi c0_i32_105 v150
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_106 : BitVec 32 := 2#32
  let v152 : BitVec 32 := Scalar.muli v5 c2_i32_106
  let v153 : BitVec 32 := Scalar.addi v151 v152
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_107 : BitVec 32 := 1#32
  let v154 : BitVec 32 := Scalar.muli v15 c1_i32_107
  let v155 : BitVec 32 := Scalar.addi v153 v154
  v155.toNat
def k0_off7 (d0 : Dev nD) : Fin 4 → Nat :=
  let c2_i32_112 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v164 : BitVec 32 := Scalar.muli c2_i32_112 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v165 : BitVec 32 := Scalar.addi v164 v5
  let c1_i32_113 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v166 : BitVec 32 := Scalar.subi c1_i32_113 v8
  let c0_i32_120 : BitVec 32 := 0#32
  let c0_i32_121 : BitVec 32 := 0#32
  ![v165.toNat, v166.toNat, 0, 0]
def k0_off8 (d0 : Dev nD) : Fin 4 → Nat :=
  let c2_i32_124 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v179 : BitVec 32 := Scalar.muli c2_i32_124 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v180 : BitVec 32 := Scalar.addi v179 v10
  let c1_i32_125 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v181 : BitVec 32 := Scalar.subi c1_i32_125 v8
  let c0_i32_132 : BitVec 32 := 0#32
  let c0_i32_133 : BitVec 32 := 0#32
  ![v180.toNat, v181.toNat, 0, 0]
def k0_off9 (d0 : Dev nD) : Fin 4 → Nat :=
  let c2_i32_136 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v194 : BitVec 32 := Scalar.muli c2_i32_136 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v195 : BitVec 32 := Scalar.addi v194 v12
  let c1_i32_137 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v196 : BitVec 32 := Scalar.subi c1_i32_137 v8
  let c0_i32_144 : BitVec 32 := 0#32
  let c0_i32_145 : BitVec 32 := 0#32
  ![v195.toNat, v196.toNat, 0, 0]
-- ==== GatherSmallIdeal.lean ====
abbrev S2x240x128 : Shape := ⟨3, ![2, 240, 128]⟩
abbrev S4x2x240x128 : Shape := ⟨4, ![4, 2, 240, 128]⟩
abbrev S6 : Shape := ⟨1, ![6]⟩
abbrev S1 : Shape := ⟨1, ![1]⟩
abbrev S_ : Shape := ⟨0, ![]⟩
abbrev S1x2x240x128 : Shape := ⟨4, ![1, 2, 240, 128]⟩
abbrev S1x1x240x128 : Shape := ⟨4, ![1, 1, 240, 128]⟩
abbrev S240x128 : Shape := ⟨2, ![240, 128]⟩
abbrev S1x240x128 : Shape := ⟨3, ![1, 240, 128]⟩

abbrev nBuf : Space → Nat
  | .hbm => 2
  | .vmem => 0
  | .smem => 0
  | _ => 0

abbrev bufTy : (tb : Table) → Fin (tcTables nBuf tb) → BufTy
  | .hbm, ⟨0, _⟩ => ⟨S2x240x128, .f32⟩
  | .hbm, ⟨1, _⟩ => ⟨S4x2x240x128, .f32⟩
  | _, _ => ⟨S2x240x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 4 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32_9 : BitVec 32 := 0#32
  let c0_i32_10 : BitVec 32 := 0#32
  let c0_i32_11 : BitVec 32 := 0#32
  ![v14.toNat, 0, 0, 0]
def k0_off2 (d0 : Dev nD) : Fin 4 → Nat :=
  let c2_i32_12 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.muli c2_i32_12 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v21 : BitVec 32 := Scalar.addi v20 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_21 : BitVec 32 := 0#32
  let c0_i32_22 : BitVec 32 := 0#32
  ![v21.toNat, v8.toNat, 0, 0]
def k0_off3 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_23 : BitVec 32 := 0#32
  let c0_i32_24 : BitVec 32 := 0#32
  ![v8.toNat, 0, 0]
def k0_dev1 (d0 : Dev nD) : Nat :=
  let c0_i32_18 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_17 : BitVec 32 := 4#32
  let v26 : BitVec 32 := Scalar.muli v9 c4_i32_17
  let v27 : BitVec 32 := Scalar.addi c0_i32_18 v26
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_19 : BitVec 32 := 2#32
  let v28 : BitVec 32 := Scalar.muli v5 c2_i32_19
  let v29 : BitVec 32 := Scalar.addi v27 v28
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_20 : BitVec 32 := 1#32
  let v30 : BitVec 32 := Scalar.muli v8 c1_i32_20
  let v31 : BitVec 32 := Scalar.addi v29 v30
  v31.toNat
def k0_dev2 (d0 : Dev nD) : Nat :=
  let c0_i32_28 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_27 : BitVec 32 := 4#32
  let v40 : BitVec 32 := Scalar.muli v2 c4_i32_27
  let v41 : BitVec 32 := Scalar.addi c0_i32_28 v40
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_29 : BitVec 32 := 2#32
  let v42 : BitVec 32 := Scalar.muli v10 c2_i32_29
  let v43 : BitVec 32 := Scalar.addi v41 v42
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_30 : BitVec 32 := 1#32
  let v44 : BitVec 32 := Scalar.muli v8 c1_i32_30
  let v45 : BitVec 32 := Scalar.addi v43 v44
  v45.toNat
def k0_dev3 (d0 : Dev nD) : Nat :=
  let c0_i32_38 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_37 : BitVec 32 := 4#32
  let v54 : BitVec 32 := Scalar.muli v11 c4_i32_37
  let v55 : BitVec 32 := Scalar.addi c0_i32_38 v54
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_39 : BitVec 32 := 2#32
  let v56 : BitVec 32 := Scalar.muli v12 c2_i32_39
  let v57 : BitVec 32 := Scalar.addi v55 v56
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_40 : BitVec 32 := 1#32
  let v58 : BitVec 32 := Scalar.muli v8 c1_i32_40
  let v59 : BitVec 32 := Scalar.addi v57 v58
  v59.toNat
def k0_off4 (d0 : Dev nD) : Fin 4 → Nat :=
  let c2_i32_45 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v68 : BitVec 32 := Scalar.muli c2_i32_45 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v69 : BitVec 32 := Scalar.addi v68 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_52 : BitVec 32 := 0#32
  let c0_i32_53 : BitVec 32 := 0#32
  ![v69.toNat, v8.toNat, 0, 0]
def k0_dev4 (d0 : Dev nD) : Nat :=
  let c0_i32_60 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_59 : BitVec 32 := 4#32
  let v86 : BitVec 32 := Scalar.muli v2 c4_i32_59
  let v87 : BitVec 32 := Scalar.addi c0_i32_60 v86
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_61 : BitVec 32 := 2#32
  let v88 : BitVec 32 := Scalar.muli v5 c2_i32_61
  let v89 : BitVec 32 := Scalar.addi v87 v88
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_62 : BitVec 32 := 1#32
  let v90 : BitVec 32 := Scalar.muli v15 c1_i32_62
  let v91 : BitVec 32 := Scalar.addi v89 v90
  v91.toNat
def k0_off5 (d0 : Dev nD) : Fin 4 → Nat :=
  let c2_i32_67 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v100 : BitVec 32 := Scalar.muli c2_i32_67 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v101 : BitVec 32 := Scalar.addi v100 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_74 : BitVec 32 := 0#32
  let c0_i32_75 : BitVec 32 := 0#32
  ![v101.toNat, v8.toNat, 0, 0]
def k0_dev5 (d0 : Dev nD) : Nat :=
  let c0_i32_83 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_82 : BitVec 32 := 4#32
  let v118 : BitVec 32 := Scalar.muli v2 c4_i32_82
  let v119 : BitVec 32 := Scalar.addi c0_i32_83 v118
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_84 : BitVec 32 := 2#32
  let v120 : BitVec 32 := Scalar.muli v5 c2_i32_84
  let v121 : BitVec 32 := Scalar.addi v119 v120
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_85 : BitVec 32 := 1#32
  let v122 : BitVec 32 := Scalar.muli v15 c1_i32_85
  let v123 : BitVec 32 := Scalar.addi v121 v122
  v123.toNat
def k0_off6 (d0 : Dev nD) : Fin 4 → Nat :=
  let c2_i32_90 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v132 : BitVec 32 := Scalar.muli c2_i32_90 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v133 : BitVec 32 := Scalar.addi v132 v12
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_97 : BitVec 32 := 0#32
  let c0_i32_98 : BitVec 32 := 0#32
  ![v133.toNat, v8.toNat, 0, 0]
def k0_dev6 (d0 : Dev nD) : Nat :=
  let c0_i32_105 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_104 : BitVec 32 := 4#32
  let v150 : BitVec 32 := Scalar.muli v2 c4_i32_104
  let v151 : BitVec 32 := Scalar.addi c0_i32_105 v150
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_106 : BitVec 32 := 2#32
  let v152 : BitVec 32 := Scalar.muli v5 c2_i32_106
  let v153 : BitVec 32 := Scalar.addi v151 v152
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_107 : BitVec 32 := 1#32
  let v154 : BitVec 32 := Scalar.muli v15 c1_i32_107
  let v155 : BitVec 32 := Scalar.addi v153 v154
  v155.toNat
def k0_off7 (d0 : Dev nD) : Fin 4 → Nat :=
  let c2_i32_112 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v164 : BitVec 32 := Scalar.muli c2_i32_112 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v165 : BitVec 32 := Scalar.addi v164 v5
  let c1_i32_113 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v166 : BitVec 32 := Scalar.subi c1_i32_113 v8
  let c0_i32_120 : BitVec 32 := 0#32
  let c0_i32_121 : BitVec 32 := 0#32
  ![v165.toNat, v166.toNat, 0, 0]
def k0_off8 (d0 : Dev nD) : Fin 4 → Nat :=
  let c2_i32_124 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v179 : BitVec 32 := Scalar.muli c2_i32_124 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v180 : BitVec 32 := Scalar.addi v179 v10
  let c1_i32_125 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v181 : BitVec 32 := Scalar.subi c1_i32_125 v8
  let c0_i32_132 : BitVec 32 := 0#32
  let c0_i32_133 : BitVec 32 := 0#32
  ![v180.toNat, v181.toNat, 0, 0]
def k0_off9 (d0 : Dev nD) : Fin 4 → Nat :=
  let c2_i32_136 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v194 : BitVec 32 := Scalar.muli c2_i32_136 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v195 : BitVec 32 := Scalar.addi v194 v12
  let c1_i32_137 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v196 : BitVec 32 := Scalar.subi c1_i32_137 v8
  let c0_i32_144 : BitVec 32 := 0#32
  let c0_i32_145 : BitVec 32 := 0#32
  ![v195.toNat, v196.toNat, 0, 0]
-- ==== GatherSmallRef.lean ====
abbrev S8x240x128 : Shape := ⟨3, ![8, 240, 128]⟩
abbrev S4x2x240x128 : Shape := ⟨4, ![4, 2, 240, 128]⟩

abbrev nBuf : Space → Nat
  | .hbm => 2
  | .vmem => 0
  | .smem => 0
  | _ => 0

abbrev bufTy : (tb : Table) → Fin (tcTables nBuf tb) → BufTy
  | .hbm, ⟨0, _⟩ => ⟨S8x240x128, .f32⟩
  | .hbm, ⟨1, _⟩ => ⟨S4x2x240x128, .f32⟩
  | _, _ => ⟨S8x240x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== AdamUp.lean ====
abbrev S1024x704 : Shape := ⟨2, ![1024, 704]⟩
abbrev S512x704 : Shape := ⟨2, ![512, 704]⟩

abbrev nBuf : Space → Nat
  | .hbm => 7
  | .vmem => 14
  | .smem => 0
  | _ => 0

abbrev bufTy : (tb : Table) → Fin (tcTables nBuf tb) → BufTy
  | .hbm, ⟨0, _⟩ => ⟨S1024x704, .f32⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S1024x704, .f32⟩
  | .hbm, ⟨5, _⟩ => ⟨S1024x704, .f32⟩
  | .hbm, ⟨6, _⟩ => ⟨S1024x704, .f32⟩
  | .local _ .vmem, ⟨0, _⟩ => ⟨S512x704, .f32⟩
  | .local _ .vmem, ⟨1, _⟩ => ⟨S512x704, .f32⟩
  | .local _ .vmem, ⟨2, _⟩ => ⟨S512x704, .f32⟩
  | .local _ .vmem, ⟨3, _⟩ => ⟨S512x704, .f32⟩
  | .local _ .vmem, ⟨4, _⟩ => ⟨S512x704, .f32⟩
  | .local _ .vmem, ⟨5, _⟩ => ⟨S512x704, .f32⟩
  | .local _ .vmem, ⟨6, _⟩ => ⟨S512x704, .f32⟩
  | .local _ .vmem, ⟨7, _⟩ => ⟨S512x704, .f32⟩
  | .local _ .vmem, ⟨8, _⟩ => ⟨S512x704, .f32⟩
  | .local _ .vmem, ⟨9, _⟩ => ⟨S512x704, .f32⟩
  | .local _ .vmem, ⟨10, _⟩ => ⟨S512x704, .f32⟩
  | .local _ .vmem, ⟨11, _⟩ => ⟨S512x704, .f32⟩
  | .local _ .vmem, ⟨12, _⟩ => ⟨S512x704, .f32⟩
  | .local _ .vmem, ⟨13, _⟩ => ⟨S512x704, .f32⟩
  | _, _ => ⟨S1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamUpIdeal.lean ====
abbrev S1024x704 : Shape := ⟨2, ![1024, 704]⟩
abbrev S512x704 : Shape := ⟨2, ![512, 704]⟩

abbrev nBuf : Space → Nat
  | .hbm => 7
  | .vmem => 14
  | .smem => 0
  | _ => 0

abbrev bufTy : (tb : Table) → Fin (tcTables nBuf tb) → BufTy
  | .hbm, ⟨0, _⟩ => ⟨S1024x704, .f32⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S1024x704, .f32⟩
  | .hbm, ⟨5, _⟩ => ⟨S1024x704, .f32⟩
  | .hbm, ⟨6, _⟩ => ⟨S1024x704, .f32⟩
  | .local _ .vmem, ⟨0, _⟩ => ⟨S512x704, .f32⟩
  | .local _ .vmem, ⟨1, _⟩ => ⟨S512x704, .f32⟩
  | .local _ .vmem, ⟨2, _⟩ => ⟨S512x704, .f32⟩
  | .local _ .vmem, ⟨3, _⟩ => ⟨S512x704, .f32⟩
  | .local _ .vmem, ⟨4, _⟩ => ⟨S512x704, .f32⟩
  | .local _ .vmem, ⟨5, _⟩ => ⟨S512x704, .f32⟩
  | .local _ .vmem, ⟨6, _⟩ => ⟨S512x704, .f32⟩
  | .local _ .vmem, ⟨7, _⟩ => ⟨S512x704, .f32⟩
  | .local _ .vmem, ⟨8, _⟩ => ⟨S512x704, .f32⟩
  | .local _ .vmem, ⟨9, _⟩ => ⟨S512x704, .f32⟩
  | .local _ .vmem, ⟨10, _⟩ => ⟨S512x704, .f32⟩
  | .local _ .vmem, ⟨11, _⟩ => ⟨S512x704, .f32⟩
  | .local _ .vmem, ⟨12, _⟩ => ⟨S512x704, .f32⟩
  | .local _ .vmem, ⟨13, _⟩ => ⟨S512x704, .f32⟩
  | _, _ => ⟨S1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamUpRefIdeal.lean ====
abbrev S1024x704 : Shape := ⟨2, ![1024, 704]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x704, .f32⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S_, .f32⟩
  | .hbm, ⟨5, _⟩ => ⟨S1024x704, .f32⟩
  | .hbm, ⟨6, _⟩ => ⟨S1024x704, .f32⟩
  | .hbm, ⟨7, _⟩ => ⟨S_, .f32⟩
  | .hbm, ⟨8, _⟩ => ⟨S1024x704, .f32⟩
  | .hbm, ⟨9, _⟩ => ⟨S1024x704, .f32⟩
  | .hbm, ⟨10, _⟩ => ⟨S1024x704, .f32⟩
  | .hbm, ⟨11, _⟩ => ⟨S_, .f32⟩
  | .hbm, ⟨12, _⟩ => ⟨S1024x704, .f32⟩
  | .hbm, ⟨13, _⟩ => ⟨S1024x704, .f32⟩
  | .hbm, ⟨14, _⟩ => ⟨S1024x704, .f32⟩
  | .hbm, ⟨15, _⟩ => ⟨S_, .f32⟩
  | .hbm, ⟨16, _⟩ => ⟨S1024x704, .f32⟩
  | .hbm, ⟨17, _⟩ => ⟨S1024x704, .f32⟩
  | .hbm, ⟨18, _⟩ => ⟨S1024x704, .f32⟩
  | .hbm, ⟨19, _⟩ => ⟨S_, .f32⟩
  | .hbm, ⟨20, _⟩ => ⟨S1024x704, .f32⟩
  | .hbm, ⟨21, _⟩ => ⟨S1024x704, .f32⟩
  | .hbm, ⟨22, _⟩ => ⟨S_, .f32⟩
  | .hbm, ⟨23, _⟩ => ⟨S1024x704, .f32⟩
  | .hbm, ⟨24, _⟩ => ⟨S1024x704, .f32⟩
  | .hbm, ⟨25, _⟩ => ⟨S1024x704, .f32⟩
  | .hbm, ⟨26, _⟩ => ⟨S_, .f32⟩
  | .hbm, ⟨27, _⟩ => ⟨S1024x704, .f32⟩
  | .hbm, ⟨28, _⟩ => ⟨S1024x704, .f32⟩
  | .hbm, ⟨29, _⟩ => ⟨S1024x704, .f32⟩
  | .hbm, ⟨30, _⟩ => ⟨S_, .f32⟩
  | .hbm, ⟨31, _⟩ => ⟨S1024x704, .f32⟩
  | .hbm, ⟨32, _⟩ => ⟨S1024x704, .f32⟩
  | .hbm, ⟨33, _⟩ => ⟨S1024x704, .f32⟩
  | .hbm, ⟨34, _⟩ => ⟨S_, .f32⟩
  | .hbm, ⟨35, _⟩ => ⟨S1024x704, .f32⟩
  | .hbm, ⟨36, _⟩ => ⟨S1024x704, .f32⟩
  | _, _ => ⟨S1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamDown.lean ====
abbrev S704x1024 : Shape := ⟨2, ![704, 1024]⟩
abbrev S352x1024 : Shape := ⟨2, ![352, 1024]⟩

abbrev nBuf : Space → Nat
  | .hbm => 7
  | .vmem => 14
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDownIdeal.lean ====
abbrev S704x1024 : Shape := ⟨2, ![704, 1024]⟩
abbrev S352x1024 : Shape := ⟨2, ![352, 1024]⟩

abbrev nBuf : Space → Nat
  | .hbm => 7
  | .vmem => 14
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDownRefIdeal.lean ====
abbrev S704x1024 : Shape := ⟨2, ![704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S_, .f32⟩
  | .hbm, ⟨5, _⟩ => ⟨S704x1024, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S_, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSquare.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSquareIdeal.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSquareRefIdeal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamMeta.lean ====
abbrev S16x256 : Shape := ⟨2, ![16, 256]⟩

abbrev nBuf : Space → Nat
  | .hbm => 7
  | .vmem => 7
  | .smem => 0
  | _ => 0

abbrev bufTy : (tb : Table) → Fin (tcTables nBuf tb) → BufTy
  | .hbm, ⟨0, _⟩ => ⟨S16x256, .f32⟩
  | .hbm, ⟨1, _⟩ => ⟨S16x256, .f32⟩
  | .hbm, ⟨2, _⟩ => ⟨S16x256, .f32⟩
  | .hbm, ⟨3, _⟩ => ⟨S16x256, .f32⟩
  | .hbm, ⟨4, _⟩ => ⟨S16x256, .f32⟩
  | .hbm, ⟨5, _⟩ => ⟨S16x256, .f32⟩
  | .hbm, ⟨6, _⟩ => ⟨S16x256, .f32⟩
  | .local _ .vmem, ⟨0, _⟩ => ⟨S16x256, .f32⟩
  | .local _ .vmem, ⟨1, _⟩ => ⟨S16x256, .f32⟩
  | .local _ .vmem, ⟨2, _⟩ => ⟨S16x256, .f32⟩
  | .local _ .vmem, ⟨3, _⟩ => ⟨S16x256, .f32⟩
  | .local _ .vmem, ⟨4, _⟩ => ⟨S16x256, .f32⟩
  | .local _ .vmem, ⟨5, _⟩ => ⟨S16x256, .f32⟩
  | .local _ .vmem, ⟨6, _⟩ => ⟨S16x256, .f32⟩
  | _, _ => ⟨S16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamMetaIdeal.lean ====
abbrev S16x256 : Shape := ⟨2, ![16, 256]⟩

abbrev nBuf : Space → Nat
  | .hbm => 7
  | .vmem => 7
  | .smem => 0
  | _ => 0

abbrev bufTy : (tb : Table) → Fin (tcTables nBuf tb) → BufTy
  | .hbm, ⟨0, _⟩ => ⟨S16x256, .f32⟩
  | .hbm, ⟨1, _⟩ => ⟨S16x256, .f32⟩
  | .hbm, ⟨2, _⟩ => ⟨S16x256, .f32⟩
  | .hbm, ⟨3, _⟩ => ⟨S16x256, .f32⟩
  | .hbm, ⟨4, _⟩ => ⟨S16x256, .f32⟩
  | .hbm, ⟨5, _⟩ => ⟨S16x256, .f32⟩
  | .hbm, ⟨6, _⟩ => ⟨S16x256, .f32⟩
  | .local _ .vmem, ⟨0, _⟩ => ⟨S16x256, .f32⟩
  | .local _ .vmem, ⟨1, _⟩ => ⟨S16x256, .f32⟩
  | .local _ .vmem, ⟨2, _⟩ => ⟨S16x256, .f32⟩
  | .local _ .vmem, ⟨3, _⟩ => ⟨S16x256, .f32⟩
  | .local _ .vmem, ⟨4, _⟩ => ⟨S16x256, .f32⟩
  | .local _ .vmem, ⟨5, _⟩ => ⟨S16x256, .f32⟩
  | .local _ .vmem, ⟨6, _⟩ => ⟨S16x256, .f32⟩
  | _, _ => ⟨S16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamMetaRefIdeal.lean ====
abbrev S16x256 : Shape := ⟨2, ![16, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S16x256, .f32⟩
  | .hbm, ⟨1, _⟩ => ⟨S16x256, .f32⟩
  | .hbm, ⟨2, _⟩ => ⟨S16x256, .f32⟩
  | .hbm, ⟨3, _⟩ => ⟨S16x256, .f32⟩
  | .hbm, ⟨4, _⟩ => ⟨S_, .f32⟩
  | .hbm, ⟨5, _⟩ => ⟨S16x256, .f32⟩
  | .hbm, ⟨6, _⟩ => ⟨S16x256, .f32⟩
  | .hbm, ⟨7, _⟩ => ⟨S_, .f32⟩
  | .hbm, ⟨8, _⟩ => ⟨S16x256, .f32⟩
  | .hbm, ⟨9, _⟩ => ⟨S16x256, .f32⟩
  | .hbm, ⟨10, _⟩ => ⟨S16x256, .f32⟩
  | .hbm, ⟨11, _⟩ => ⟨S_, .f32⟩
  | .hbm, ⟨12, _⟩ => ⟨S16x256, .f32⟩
  | .hbm, ⟨13, _⟩ => ⟨S16x256, .f32⟩
  | .hbm, ⟨14, _⟩ => ⟨S16x256, .f32⟩
  | .hbm, ⟨15, _⟩ => ⟨S_, .f32⟩
  | .hbm, ⟨16, _⟩ => ⟨S16x256, .f32⟩
  | .hbm, ⟨17, _⟩ => ⟨S16x256, .f32⟩
  | .hbm, ⟨18, _⟩ => ⟨S16x256, .f32⟩
  | .hbm, ⟨19, _⟩ => ⟨S_, .f32⟩
  | .hbm, ⟨20, _⟩ => ⟨S16x256, .f32⟩
  | .hbm, ⟨21, _⟩ => ⟨S16x256, .f32⟩
  | .hbm, ⟨22, _⟩ => ⟨S_, .f32⟩
  | .hbm, ⟨23, _⟩ => ⟨S16x256, .f32⟩
  | .hbm, ⟨24, _⟩ => ⟨S16x256, .f32⟩
  | .hbm, ⟨25, _⟩ => ⟨S16x256, .f32⟩
  | .hbm, ⟨26, _⟩ => ⟨S_, .f32⟩
  | .hbm, ⟨27, _⟩ => ⟨S16x256, .f32⟩
  | .hbm, ⟨28, _⟩ => ⟨S16x256, .f32⟩
  | .hbm, ⟨29, _⟩ => ⟨S16x256, .f32⟩
  | .hbm, ⟨30, _⟩ => ⟨S_, .f32⟩
  | .hbm, ⟨31, _⟩ => ⟨S16x256, .f32⟩
  | .hbm, ⟨32, _⟩ => ⟨S16x256, .f32⟩
  | .hbm, ⟨33, _⟩ => ⟨S16x256, .f32⟩
  | .hbm, ⟨34, _⟩ => ⟨S_, .f32⟩
  | .hbm, ⟨35, _⟩ => ⟨S16x256, .f32⟩
  | .hbm, ⟨36, _⟩ => ⟨S16x256, .f32⟩
  | _, _ => ⟨S16x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmall.lean ====
abbrev S1920x128 : Shape := ⟨2, ![1920, 128]⟩
abbrev S128x128 : Shape := ⟨2, ![128, 128]⟩

abbrev nBuf : Space → Nat
  | .hbm => 7
  | .vmem => 14
  | .smem => 0
  | _ => 0

abbrev bufTy : (tb : Table) → Fin (tcTables nBuf tb) → BufTy
  | .hbm, ⟨0, _⟩ => ⟨S1920x128, .f32⟩
  | .hbm, ⟨1, _⟩ => ⟨S1920x128, .f32⟩
  | .hbm, ⟨2, _⟩ => ⟨S1920x128, .f32⟩
  | .hbm, ⟨3, _⟩ => ⟨S1920x128, .f32⟩
  | .hbm, ⟨4, _⟩ => ⟨S1920x128, .f32⟩
  | .hbm, ⟨5, _⟩ => ⟨S1920x128, .f32⟩
  | .hbm, ⟨6, _⟩ => ⟨S1920x128, .f32⟩
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | _, _ => ⟨S1920x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![15], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSmallIdeal.lean ====
abbrev S1920x128 : Shape := ⟨2, ![1920, 128]⟩
abbrev S128x128 : Shape := ⟨2, ![128, 128]⟩

abbrev nBuf : Space → Nat
  | .hbm => 7
  | .vmem => 14
  | .smem => 0
  | _ => 0

abbrev bufTy : (tb : Table) → Fin (tcTables nBuf tb) → BufTy
  | .hbm, ⟨0, _⟩ => ⟨S1920x128, .f32⟩
  | .hbm, ⟨1, _⟩ => ⟨S1920x128, .f32⟩
  | .hbm, ⟨2, _⟩ => ⟨S1920x128, .f32⟩
  | .hbm, ⟨3, _⟩ => ⟨S1920x128, .f32⟩
  | .hbm, ⟨4, _⟩ => ⟨S1920x128, .f32⟩
  | .hbm, ⟨5, _⟩ => ⟨S1920x128, .f32⟩
  | .hbm, ⟨6, _⟩ => ⟨S1920x128, .f32⟩
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | _, _ => ⟨S1920x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![15], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSmallRefIdeal.lean ====
abbrev S1920x128 : Shape := ⟨2, ![1920, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1920x128, .f32⟩
  | .hbm, ⟨1, _⟩ => ⟨S1920x128, .f32⟩
  | .hbm, ⟨2, _⟩ => ⟨S1920x128, .f32⟩
  | .hbm, ⟨3, _⟩ => ⟨S1920x128, .f32⟩
  | .hbm, ⟨4, _⟩ => ⟨S_, .f32⟩
  | .hbm, ⟨5, _⟩ => ⟨S1920x128, .f32⟩
  | .hbm, ⟨6, _⟩ => ⟨S1920x128, .f32⟩
  | .hbm, ⟨7, _⟩ => ⟨S_, .f32⟩
  | .hbm, ⟨8, _⟩ => ⟨S1920x128, .f32⟩
  | .hbm, ⟨9, _⟩ => ⟨S1920x128, .f32⟩
  | .hbm, ⟨10, _⟩ => ⟨S1920x128, .f32⟩
  | .hbm, ⟨11, _⟩ => ⟨S_, .f32⟩
  | .hbm, ⟨12, _⟩ => ⟨S1920x128, .f32⟩
  | .hbm, ⟨13, _⟩ => ⟨S1920x128, .f32⟩
  | .hbm, ⟨14, _⟩ => ⟨S1920x128, .f32⟩
  | .hbm, ⟨15, _⟩ => ⟨S_, .f32⟩
  | .hbm, ⟨16, _⟩ => ⟨S1920x128, .f32⟩
  | .hbm, ⟨17, _⟩ => ⟨S1920x128, .f32⟩
  | .hbm, ⟨18, _⟩ => ⟨S1920x128, .f32⟩
  | .hbm, ⟨19, _⟩ => ⟨S_, .f32⟩
  | .hbm, ⟨20, _⟩ => ⟨S1920x128, .f32⟩
  | .hbm, ⟨21, _⟩ => ⟨S1920x128, .f32⟩
  | .hbm, ⟨22, _⟩ => ⟨S_, .f32⟩
  | .hbm, ⟨23, _⟩ => ⟨S1920x128, .f32⟩
  | .hbm, ⟨24, _⟩ => ⟨S1920x128, .f32⟩
  | .hbm, ⟨25, _⟩ => ⟨S1920x128, .f32⟩
  | .hbm, ⟨26, _⟩ => ⟨S_, .f32⟩
  | .hbm, ⟨27, _⟩ => ⟨S1920x128, .f32⟩
  | .hbm, ⟨28, _⟩ => ⟨S1920x128, .f32⟩
  | .hbm, ⟨29, _⟩ => ⟨S1920x128, .f32⟩
  | .hbm, ⟨30, _⟩ => ⟨S_, .f32⟩
  | .hbm, ⟨31, _⟩ => ⟨S1920x128, .f32⟩
  | .hbm, ⟨32, _⟩ => ⟨S1920x128, .f32⟩
  | .hbm, ⟨33, _⟩ => ⟨S1920x128, .f32⟩
  | .hbm, ⟨34, _⟩ => ⟨S_, .f32⟩
  | .hbm, ⟨35, _⟩ => ⟨S1920x128, .f32⟩
  | .hbm, ⟨36, _⟩ => ⟨S1920x128, .f32⟩
  | _, _ => ⟨S1920x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== LossGrad.lean ====
abbrev S8208x1024 : Shape := ⟨2, ![8208, 1024]⟩
abbrev S1x1024 : Shape := ⟨2, ![1, 1024]⟩
abbrev S432x1024 : Shape := ⟨2, ![432, 1024]⟩
abbrev S1024 : Shape := ⟨1, ![1024]⟩

abbrev nBuf : Space → Nat
  | .hbm => 4
  | .vmem => 7
  | .smem => 0
  | _ => 0

abbrev bufTy : (tb : Table) → Fin (tcTables nBuf tb) → BufTy
  | .hbm, ⟨0, _⟩ => ⟨S8208x1024, .f32⟩
  | .hbm, ⟨1, _⟩ => ⟨S8208x1024, .f32⟩
  | .hbm, ⟨2, _⟩ => ⟨S8208x1024, .f32⟩
  | .hbm, ⟨3, _⟩ => ⟨S1x1024, .f32⟩
  | .local _ .vmem, ⟨0, _⟩ => ⟨S432x1024, .f32⟩
  | .local _ .vmem, ⟨1, _⟩ => ⟨S432x1024, .f32⟩
  | .local _ .vmem, ⟨2, _⟩ => ⟨S432x1024, .f32⟩
  | .local _ .vmem, ⟨3, _⟩ => ⟨S432x1024, .f32⟩
  | .local _ .vmem, ⟨4, _⟩ => ⟨S432x1024, .f32⟩
  | .local _ .vmem, ⟨5, _⟩ => ⟨S432x1024, .f32⟩
  | .local _ .vmem, ⟨6, _⟩ => ⟨S1x1024, .f32⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![19], ![false]⟩

def k0_cond1 (i : grid0.Coords) : BitVec 1 :=
  let arg0 : BitVec 32 := BitVec.ofNat 32 (i 0).val
  let c0_i32 : BitVec 32 := 0#32
  let v17 : BitVec 1 := Scalar.cmpi .eq arg0 c0_i32
  let v18 : BitVec 32 := Scalar.extui v17
  let c0_i32_7 : BitVec 32 := 0#32
  let v19 : BitVec 1 := Scalar.cmpi .ne v18 c0_i32_7
  v19

def k0_cond2 (i : grid0.Coords) : BitVec 1 :=
  let arg0 : BitVec 32 := BitVec.ofNat 32 (i 0).val
  let c0_i32 : BitVec 32 := 0#32
  let v17 : BitVec 1 := Scalar.cmpi .eq arg0 c0_i32
  let v_true : BitVec 1 := 1#1
  let v20 : BitVec 1 := Scalar.xori v17 v_true
  let v21 : BitVec 32 := Scalar.extui v20
  let c0_i32_8 : BitVec 32 := 0#32
  let v22 : BitVec 1 := Scalar.cmpi .ne v21 c0_i32_8
  v22

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S432x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S432x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S432x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossGradIdeal.lean ====
abbrev S8208x1024 : Shape := ⟨2, ![8208, 1024]⟩
abbrev S1x1024 : Shape := ⟨2, ![1, 1024]⟩
abbrev S432x1024 : Shape := ⟨2, ![432, 1024]⟩
abbrev S1024 : Shape := ⟨1, ![1024]⟩

abbrev nBuf : Space → Nat
  | .hbm => 4
  | .vmem => 7
  | .smem => 0
  | _ => 0

abbrev bufTy : (tb : Table) → Fin (tcTables nBuf tb) → BufTy
  | .hbm, ⟨0, _⟩ => ⟨S8208x1024, .f32⟩
  | .hbm, ⟨1, _⟩ => ⟨S8208x1024, .f32⟩
  | .hbm, ⟨2, _⟩ => ⟨S8208x1024, .f32⟩
  | .hbm, ⟨3, _⟩ => ⟨S1x1024, .f32⟩
  | .local _ .vmem, ⟨0, _⟩ => ⟨S432x1024, .f32⟩
  | .local _ .vmem, ⟨1, _⟩ => ⟨S432x1024, .f32⟩
  | .local _ .vmem, ⟨2, _⟩ => ⟨S432x1024, .f32⟩
  | .local _ .vmem, ⟨3, _⟩ => ⟨S432x1024, .f32⟩
  | .local _ .vmem, ⟨4, _⟩ => ⟨S432x1024, .f32⟩
  | .local _ .vmem, ⟨5, _⟩ => ⟨S432x1024, .f32⟩
  | .local _ .vmem, ⟨6, _⟩ => ⟨S1x1024, .f32⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![19], ![false]⟩

def k0_cond1 (i : grid0.Coords) : BitVec 1 :=
  let arg0 : BitVec 32 := BitVec.ofNat 32 (i 0).val
  let c0_i32 : BitVec 32 := 0#32
  let v17 : BitVec 1 := Scalar.cmpi .eq arg0 c0_i32
  let v18 : BitVec 32 := Scalar.extui v17
  let c0_i32_7 : BitVec 32 := 0#32
  let v19 : BitVec 1 := Scalar.cmpi .ne v18 c0_i32_7
  v19

def k0_cond2 (i : grid0.Coords) : BitVec 1 :=
  let arg0 : BitVec 32 := BitVec.ofNat 32 (i 0).val
  let c0_i32 : BitVec 32 := 0#32
  let v17 : BitVec 1 := Scalar.cmpi .eq arg0 c0_i32
  let v_true : BitVec 1 := 1#1
  let v20 : BitVec 1 := Scalar.xori v17 v_true
  let v21 : BitVec 32 := Scalar.extui v20
  let c0_i32_8 : BitVec 32 := 0#32
  let v22 : BitVec 1 := Scalar.cmpi .ne v21 c0_i32_8
  v22

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S432x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S432x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S432x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossGradRefIdeal.lean ====
abbrev S8208x1024 : Shape := ⟨2, ![8208, 1024]⟩
abbrev S8208 : Shape := ⟨1, ![8208]⟩
abbrev S8208x1 : Shape := ⟨2, ![8208, 1]⟩
abbrev S_ : Shape := ⟨0, ![]⟩
abbrev S1024 : Shape := ⟨1, ![1024]⟩
abbrev S1x1024 : Shape := ⟨2, ![1, 1024]⟩

abbrev nBuf : Space → Nat
  | .hbm => 20
  | .vmem => 0
  | .smem => 0
  | _ => 0

abbrev bufTy : (tb : Table) → Fin (tcTables nBuf tb) → BufTy
  | .hbm, ⟨0, _⟩ => ⟨S8208x1024, .f32⟩
  | .hbm, ⟨1, _⟩ => ⟨S8208x1024, .f32⟩
  | .hbm, ⟨2, _⟩ => ⟨S8208, .i32⟩
  | .hbm, ⟨3, _⟩ => ⟨S8208x1, .i32⟩
  | .hbm, ⟨4, _⟩ => ⟨S_, .i32⟩
  | .hbm, ⟨5, _⟩ => ⟨S8208x1, .i32⟩
  | .hbm, ⟨6, _⟩ => ⟨S8208x1, .i1⟩
  | .hbm, ⟨7, _⟩ => ⟨S8208x1024, .f32⟩
  | .hbm, ⟨8, _⟩ => ⟨S_, .f32⟩
  | .hbm, ⟨9, _⟩ => ⟨S_, .f32⟩
  | .hbm, ⟨10, _⟩ => ⟨S8208x1024, .i1⟩
  | .hbm, ⟨11, _⟩ => ⟨S8208x1024, .f32⟩
  | .hbm, ⟨12, _⟩ => ⟨S8208x1024, .f32⟩
  | .hbm, ⟨13, _⟩ => ⟨S_, .f32⟩
  | .hbm, ⟨14, _⟩ => ⟨S8208x1024, .f32⟩
  | .hbm, ⟨15, _⟩ => ⟨S8208x1024, .f32⟩
  | .hbm, ⟨16, _⟩ => ⟨S8208x1024, .f32⟩
  | .hbm, ⟨17, _⟩ => ⟨S_, .f32⟩
  | .hbm, ⟨18, _⟩ => ⟨S1024, .f32⟩
  | .hbm, ⟨19, _⟩ => ⟨S1x1024, .f32⟩
  | _, _ => ⟨S8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩

abbrev nD : Nat := 1
abbrev τ : Topo := Topo.v7x

variable {F : FTy → Type} [FloatOps F]
-- ==== TnUp.lean ====
abbrev S8208x1024 : Shape := ⟨2, ![8208, 1024]⟩
abbrev S8208x2816 : Shape := ⟨2, ![8208, 2816]⟩
abbrev S1x2x1024x1408 : Shape := ⟨4, ![1, 2, 1024, 1408]⟩
abbrev S912x1024 : Shape := ⟨2, ![912, 1024]⟩
abbrev S912x1408 : Shape := ⟨2, ![912, 1408]⟩
abbrev S1x1x1024x1408 : Shape := ⟨4, ![1, 1, 1024, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8208x1024, .bf16⟩
  | .hbm, ⟨1, _⟩ => ⟨S8208x2816, .bf16⟩
  | .hbm, ⟨2, _⟩ => ⟨S1x2x1024x1408, .f32⟩
  | .local _ .vmem, ⟨0, _⟩ => ⟨S912x1024, .bf16⟩
  | .local _ .vmem, ⟨1, _⟩ => ⟨S912x1024, .bf16⟩
  | .local _ .vmem, ⟨2, _⟩ => ⟨S912x1408, .bf16⟩
  | .local _ .vmem, ⟨3, _⟩ => ⟨S912x1408, .bf16⟩
  | .local _ .vmem, ⟨4, _⟩ => ⟨S1x1x1024x1408, .f32⟩
  | .local _ .vmem, ⟨5, _⟩ => ⟨S1x1x1024x1408, .f32⟩
  | _, _ => ⟨S8208x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 9], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32 : BitVec 32 := 0#32
  let v3 : BitVec 1 := Scalar.cmpi .eq arg2 c0_i32
  let v_true : BitVec 1 := 1#1
  let v6 : BitVec 1 := Scalar.xori v3 v_true
  let v7 : BitVec 32 := Scalar.extui v6
  let c0_i32_4 : BitVec 32 := 0#32
  let v8 : BitVec 1 := Scalar.cmpi .ne v7 c0_i32_4
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S912x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S912x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== TnUpIdeal.lean ====
abbrev S8208x1024 : Shape := ⟨2, ![8208, 1024]⟩
abbrev S8208x2816 : Shape := ⟨2, ![8208, 2816]⟩
abbrev S1x2x1024x1408 : Shape := ⟨4, ![1, 2, 1024, 1408]⟩
abbrev S912x1024 : Shape := ⟨2, ![912, 1024]⟩
abbrev S912x1408 : Shape := ⟨2, ![912, 1408]⟩
abbrev S1x1x1024x1408 : Shape := ⟨4, ![1, 1, 1024, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8208x1024, .bf16⟩
  | .hbm, ⟨1, _⟩ => ⟨S8208x2816, .bf16⟩
  | .hbm, ⟨2, _⟩ => ⟨S1x2x1024x1408, .f32⟩
  | .local _ .vmem, ⟨0, _⟩ => ⟨S912x1024, .bf16⟩
  | .local _ .vmem, ⟨1, _⟩ => ⟨S912x1024, .bf16⟩
  | .local _ .vmem, ⟨2, _⟩ => ⟨S912x1408, .bf16⟩
  | .local _ .vmem, ⟨3, _⟩ => ⟨S912x1408, .bf16⟩
  | .local _ .vmem, ⟨4, _⟩ => ⟨S1x1x1024x1408, .f32⟩
  | .local _ .vmem, ⟨5, _⟩ => ⟨S1x1x1024x1408, .f32⟩
  | _, _ => ⟨S8208x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 9], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32 : BitVec 32 := 0#32
  let v3 : BitVec 1 := Scalar.cmpi .eq arg2 c0_i32
  let v_true : BitVec 1 := 1#1
  let v6 : BitVec 1 := Scalar.xori v3 v_true
  let v7 : BitVec 32 := Scalar.extui v6
  let c0_i32_4 : BitVec 32 := 0#32
  let v8 : BitVec 1 := Scalar.cmpi .ne v7 c0_i32_4
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S912x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S912x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== TnUpRefIdeal.lean ====
abbrev S8208x1024 : Shape := ⟨2, ![8208, 1024]⟩
abbrev S8208x2816 : Shape := ⟨2, ![8208, 2816]⟩
abbrev S1024x8208 : Shape := ⟨2, ![1024, 8208]⟩
abbrev S1024x2816 : Shape := ⟨2, ![1024, 2816]⟩
abbrev S1x1024x2x1408 : Shape := ⟨4, ![1, 1024, 2, 1408]⟩
abbrev S1x2x1024x1408 : Shape := ⟨4, ![1, 2, 1024, 1408]⟩

abbrev nBuf : Space → Nat
  | .hbm => 8
  | .vmem => 0
  | .smem => 0
  | _ => 0

abbrev bufTy : (tb : Table) → Fin (tcTables nBuf tb) → BufTy
  | .hbm, ⟨0, _⟩ => ⟨S8208x1024, .bf16⟩
  | .hbm, ⟨1, _⟩ => ⟨S8208x2816, .bf16⟩
  | .hbm, ⟨2, _⟩ => ⟨S8208x1024, .f32⟩
  | .hbm, ⟨3, _⟩ => ⟨S1024x8208, .f32⟩
  | .hbm, ⟨4, _⟩ => ⟨S8208x2816, .f32⟩
  | .hbm, ⟨5, _⟩ => ⟨S1024x2816, .f32⟩
  | .hbm, ⟨6, _⟩ => ⟨S1x1024x2x1408, .f32⟩
  | .hbm, ⟨7, _⟩ => ⟨S1x2x1024x1408, .f32⟩
  | _, _ => ⟨S8208x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== TnDown.lean ====
abbrev S8208x2816 : Shape := ⟨2, ![8208, 2816]⟩
abbrev S8208x1024 : Shape := ⟨2, ![8208, 1024]⟩
abbrev S2x1x1408x1024 : Shape := ⟨4, ![2, 1, 1408, 1024]⟩
abbrev S912x1408 : Shape := ⟨2, ![912, 1408]⟩
abbrev S912x1024 : Shape := ⟨2, ![912, 1024]⟩
abbrev S1x1x1408x1024 : Shape := ⟨4, ![1, 1, 1408, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8208x2816, .bf16⟩
  | .hbm, ⟨1, _⟩ => ⟨S8208x1024, .bf16⟩
  | .hbm, ⟨2, _⟩ => ⟨S2x1x1408x1024, .f32⟩
  | .local _ .vmem, ⟨0, _⟩ => ⟨S912x1408, .bf16⟩
  | .local _ .vmem, ⟨1, _⟩ => ⟨S912x1408, .bf16⟩
  | .local _ .vmem, ⟨2, _⟩ => ⟨S912x1024, .bf16⟩
  | .local _ .vmem, ⟨3, _⟩ => ⟨S912x1024, .bf16⟩
  | .local _ .vmem, ⟨4, _⟩ => ⟨S1x1x1408x1024, .f32⟩
  | .local _ .vmem, ⟨5, _⟩ => ⟨S1x1x1408x1024, .f32⟩
  | _, _ => ⟨S8208x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 9], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32 : BitVec 32 := 0#32
  let v3 : BitVec 1 := Scalar.cmpi .eq arg2 c0_i32
  let v_true : BitVec 1 := 1#1
  let v6 : BitVec 1 := Scalar.xori v3 v_true
  let v7 : BitVec 32 := Scalar.extui v6
  let c0_i32_4 : BitVec 32 := 0#32
  let v8 : BitVec 1 := Scalar.cmpi .ne v7 c0_i32_4
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S912x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S912x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== TnDownIdeal.lean ====
abbrev S8208x2816 : Shape := ⟨2, ![8208, 2816]⟩
abbrev S8208x1024 : Shape := ⟨2, ![8208, 1024]⟩
abbrev S2x1x1408x1024 : Shape := ⟨4, ![2, 1, 1408, 1024]⟩
abbrev S912x1408 : Shape := ⟨2, ![912, 1408]⟩
abbrev S912x1024 : Shape := ⟨2, ![912, 1024]⟩
abbrev S1x1x1408x1024 : Shape := ⟨4, ![1, 1, 1408, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8208x2816, .bf16⟩
  | .hbm, ⟨1, _⟩ => ⟨S8208x1024, .bf16⟩
  | .hbm, ⟨2, _⟩ => ⟨S2x1x1408x1024, .f32⟩
  | .local _ .vmem, ⟨0, _⟩ => ⟨S912x1408, .bf16⟩
  | .local _ .vmem, ⟨1, _⟩ => ⟨S912x1408, .bf16⟩
  | .local _ .vmem, ⟨2, _⟩ => ⟨S912x1024, .bf16⟩
  | .local _ .vmem, ⟨3, _⟩ => ⟨S912x1024, .bf16⟩
  | .local _ .vmem, ⟨4, _⟩ => ⟨S1x1x1408x1024, .f32⟩
  | .local _ .vmem, ⟨5, _⟩ => ⟨S1x1x1408x1024, .f32⟩
  | _, _ => ⟨S8208x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 9], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32 : BitVec 32 := 0#32
  let v3 : BitVec 1 := Scalar.cmpi .eq arg2 c0_i32
  let v_true : BitVec 1 := 1#1
  let v6 : BitVec 1 := Scalar.xori v3 v_true
  let v7 : BitVec 32 := Scalar.extui v6
  let c0_i32_4 : BitVec 32 := 0#32
  let v8 : BitVec 1 := Scalar.cmpi .ne v7 c0_i32_4
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S912x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S912x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== TnDownRefIdeal.lean ====
abbrev S8208x2816 : Shape := ⟨2, ![8208, 2816]⟩
abbrev S8208x1024 : Shape := ⟨2, ![8208, 1024]⟩
abbrev S2816x8208 : Shape := ⟨2, ![2816, 8208]⟩
abbrev S2816x1024 : Shape := ⟨2, ![2816, 1024]⟩
abbrev S2x1408x1x1024 : Shape := ⟨4, ![2, 1408, 1, 1024]⟩
abbrev S2x1x1408x1024 : Shape := ⟨4, ![2, 1, 1408, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8208x2816, .bf16⟩
  | .hbm, ⟨1, _⟩ => ⟨S8208x1024, .bf16⟩
  | .hbm, ⟨2, _⟩ => ⟨S8208x2816, .f32⟩
  | .hbm, ⟨3, _⟩ => ⟨S2816x8208, .f32⟩
  | .hbm, ⟨4, _⟩ => ⟨S8208x1024, .f32⟩
  | .hbm, ⟨5, _⟩ => ⟨S2816x1024, .f32⟩
  | .hbm, ⟨6, _⟩ => ⟨S2x1408x1x1024, .f32⟩
  | .hbm, ⟨7, _⟩ => ⟨S2x1x1408x1024, .f32⟩
  | _, _ => ⟨S8208x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== TnSquare.lean ====
abbrev S8208x1024 : Shape := ⟨2, ![8208, 1024]⟩
abbrev S1x1x1024x1024 : Shape := ⟨4, ![1, 1, 1024, 1024]⟩
abbrev S912x1024 : Shape := ⟨2, ![912, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8208x1024, .bf16⟩
  | .hbm, ⟨1, _⟩ => ⟨S8208x1024, .bf16⟩
  | .hbm, ⟨2, _⟩ => ⟨S1x1x1024x1024, .f32⟩
  | .local _ .vmem, ⟨0, _⟩ => ⟨S912x1024, .bf16⟩
  | .local _ .vmem, ⟨1, _⟩ => ⟨S912x1024, .bf16⟩
  | .local _ .vmem, ⟨2, _⟩ => ⟨S912x1024, .bf16⟩
  | .local _ .vmem, ⟨3, _⟩ => ⟨S912x1024, .bf16⟩
  | .local _ .vmem, ⟨4, _⟩ => ⟨S1x1x1024x1024, .f32⟩
  | _, _ => ⟨S8208x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 9], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32 : BitVec 32 := 0#32
  let v3 : BitVec 1 := Scalar.cmpi .eq arg2 c0_i32
  let v_true : BitVec 1 := 1#1
  let v6 : BitVec 1 := Scalar.xori v3 v_true
  let v7 : BitVec 32 := Scalar.extui v6
  let c0_i32_4 : BitVec 32 := 0#32
  let v8 : BitVec 1 := Scalar.cmpi .ne v7 c0_i32_4
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S912x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S912x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== TnSquareRefIdeal.lean ====
abbrev S8208x1024 : Shape := ⟨2, ![8208, 1024]⟩
abbrev S1024x8208 : Shape := ⟨2, ![1024, 8208]⟩
abbrev S1024x1024 : Shape := ⟨2, ![1024, 1024]⟩
abbrev S1x1024x1x1024 : Shape := ⟨4, ![1, 1024, 1, 1024]⟩
abbrev S1x1x1024x1024 : Shape := ⟨4, ![1, 1, 1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8208x1024, .bf16⟩
  | .hbm, ⟨1, _⟩ => ⟨S8208x1024, .bf16⟩
  | .hbm, ⟨2, _⟩ => ⟨S8208x1024, .f32⟩
  | .hbm, ⟨3, _⟩ => ⟨S1024x8208, .f32⟩
  | .hbm, ⟨4, _⟩ => ⟨S8208x1024, .f32⟩
  | .hbm, ⟨5, _⟩ => ⟨S1024x1024, .f32⟩
  | .hbm, ⟨6, _⟩ => ⟨S1x1024x1x1024, .f32⟩
  | .hbm, ⟨7, _⟩ => ⟨S1x1x1024x1024, .f32⟩
  | _, _ => ⟨S8208x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== FfnFwd.lean ====
abbrev S8208x1024 : Shape := ⟨2, ![8208, 1024]⟩
abbrev S1x1024 : Shape := ⟨2, ![1, 1024]⟩
abbrev S2x1024x1408 : Shape := ⟨3, ![2, 1024, 1408]⟩
abbrev S2x1408x1024 : Shape := ⟨3, ![2, 1408, 1024]⟩
abbrev S8208x2816 : Shape := ⟨2, ![8208, 2816]⟩
abbrev S432x1024 : Shape := ⟨2, ![432, 1024]⟩
abbrev S432x2816 : Shape := ⟨2, ![432, 2816]⟩
abbrev S3 : Shape := ⟨1, ![3]⟩
abbrev S1 : Shape := ⟨1, ![1]⟩
abbrev S_ : Shape := ⟨0, ![]⟩
abbrev S432 : Shape := ⟨1, ![432]⟩
abbrev S432x1 : Shape := ⟨2, ![432, 1]⟩
abbrev S1x1024x1408 : Shape := ⟨3, ![1, 1024, 1408]⟩
abbrev S1024x1408 : Shape := ⟨2, ![1024, 1408]⟩
abbrev S432x1408 : Shape := ⟨2, ![432, 1408]⟩
abbrev S1x1408x1024 : Shape := ⟨3, ![1, 1408, 1024]⟩
abbrev S1408x1024 : Shape := ⟨2, ![1408, 1024]⟩

abbrev nBuf : Space → Nat
  | .hbm => 12
  | .vmem => 19
  | .smem => 0
  | _ => 0

abbrev bufTy : (tb : Table) → Fin (tcTables nBuf tb) → BufTy
  | .hbm, ⟨0, _⟩ => ⟨S8208x1024, .f32⟩
  | .hbm, ⟨1, _⟩ => ⟨S1x1024, .f32⟩
  | .hbm, ⟨2, _⟩ => ⟨S1x1024, .f32⟩
  | .hbm, ⟨3, _⟩ => ⟨S2x1024x1408, .bf16⟩
  | .hbm, ⟨4, _⟩ => ⟨S2x1024x1408, .bf16⟩
  | .hbm, ⟨5, _⟩ => ⟨S2x1408x1024, .bf16⟩
  | .hbm, ⟨6, _⟩ => ⟨S8208x1024, .f32⟩
  | .hbm, ⟨7, _⟩ => ⟨S8208x1024, .f32⟩
  | .hbm, ⟨8, _⟩ => ⟨S8208x2816, .bf16⟩
  | .hbm, ⟨9, _⟩ => ⟨S8208x2816, .bf16⟩
  | .hbm, ⟨10, _⟩ => ⟨S8208x2816, .bf16⟩
  | .hbm, ⟨11, _⟩ => ⟨S8208x1024, .bf16⟩
  | .local _ .vmem, ⟨0, _⟩ => ⟨S432x1024, .f32⟩
  | .local _ .vmem, ⟨1, _⟩ => ⟨S432x1024, .f32⟩
  | .local _ .vmem, ⟨2, _⟩ => ⟨S1x1024, .f32⟩
  | .local _ .vmem, ⟨3, _⟩ => ⟨S1x1024, .f32⟩
  | .local _ .vmem, ⟨4, _⟩ => ⟨S432x1024, .f32⟩
  | .local _ .vmem, ⟨5, _⟩ => ⟨S432x1024, .f32⟩
  | .local _ .vmem, ⟨6, _⟩ => ⟨S432x1024, .f32⟩
  | .local _ .vmem, ⟨7, _⟩ => ⟨S432x1024, .f32⟩
  | .local _ .vmem, ⟨8, _⟩ => ⟨S432x2816, .bf16⟩
  | .local _ .vmem, ⟨9, _⟩ => ⟨S432x2816, .bf16⟩
  | .local _ .vmem, ⟨10, _⟩ => ⟨S432x2816, .bf16⟩
  | .local _ .vmem, ⟨11, _⟩ => ⟨S432x2816, .bf16⟩
  | .local _ .vmem, ⟨12, _⟩ => ⟨S432x2816, .bf16⟩
  | .local _ .vmem, ⟨13, _⟩ => ⟨S432x2816, .bf16⟩
  | .local _ .vmem, ⟨14, _⟩ => ⟨S432x1024, .bf16⟩
  | .local _ .vmem, ⟨15, _⟩ => ⟨S432x1024, .bf16⟩
  | .local _ .vmem, ⟨16, _⟩ => ⟨S2x1024x1408, .bf16⟩
  | .local _ .vmem, ⟨17, _⟩ => ⟨S2x1024x1408, .bf16⟩
  | .local _ .vmem, ⟨18, _⟩ => ⟨S2x1408x1024, .bf16⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![19], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S432x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S432x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S432x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S432x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S432x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S432x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S432x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnFwdIdeal.lean ====
abbrev S8208x1024 : Shape := ⟨2, ![8208, 1024]⟩
abbrev S1x1024 : Shape := ⟨2, ![1, 1024]⟩
abbrev S2x1024x1408 : Shape := ⟨3, ![2, 1024, 1408]⟩
abbrev S2x1408x1024 : Shape := ⟨3, ![2, 1408, 1024]⟩
abbrev S8208x2816 : Shape := ⟨2, ![8208, 2816]⟩
abbrev S432x1024 : Shape := ⟨2, ![432, 1024]⟩
abbrev S432x2816 : Shape := ⟨2, ![432, 2816]⟩
abbrev S3 : Shape := ⟨1, ![3]⟩
abbrev S1 : Shape := ⟨1, ![1]⟩
abbrev S_ : Shape := ⟨0, ![]⟩
abbrev S432 : Shape := ⟨1, ![432]⟩
abbrev S432x1 : Shape := ⟨2, ![432, 1]⟩
abbrev S1x1024x1408 : Shape := ⟨3, ![1, 1024, 1408]⟩
abbrev S1024x1408 : Shape := ⟨2, ![1024, 1408]⟩
abbrev S432x1408 : Shape := ⟨2, ![432, 1408]⟩
abbrev S1x1408x1024 : Shape := ⟨3, ![1, 1408, 1024]⟩
abbrev S1408x1024 : Shape := ⟨2, ![1408, 1024]⟩

abbrev nBuf : Space → Nat
  | .hbm => 12
  | .vmem => 19
  | .smem => 0
  | _ => 0

abbrev bufTy : (tb : Table) → Fin (tcTables nBuf tb) → BufTy
  | .hbm, ⟨0, _⟩ => ⟨S8208x1024, .f32⟩
  | .hbm, ⟨1, _⟩ => ⟨S1x1024, .f32⟩
  | .hbm, ⟨2, _⟩ => ⟨S1x1024, .f32⟩
  | .hbm, ⟨3, _⟩ => ⟨S2x1024x1408, .bf16⟩
  | .hbm, ⟨4, _⟩ => ⟨S2x1024x1408, .bf16⟩
  | .hbm, ⟨5, _⟩ => ⟨S2x1408x1024, .bf16⟩
  | .hbm, ⟨6, _⟩ => ⟨S8208x1024, .f32⟩
  | .hbm, ⟨7, _⟩ => ⟨S8208x1024, .f32⟩
  | .hbm, ⟨8, _⟩ => ⟨S8208x2816, .bf16⟩
  | .hbm, ⟨9, _⟩ => ⟨S8208x2816, .bf16⟩
  | .hbm, ⟨10, _⟩ => ⟨S8208x2816, .bf16⟩
  | .hbm, ⟨11, _⟩ => ⟨S8208x1024, .bf16⟩
  | .local _ .vmem, ⟨0, _⟩ => ⟨S432x1024, .f32⟩
  | .local _ .vmem, ⟨1, _⟩ => ⟨S432x1024, .f32⟩
  | .local _ .vmem, ⟨2, _⟩ => ⟨S1x1024, .f32⟩
  | .local _ .vmem, ⟨3, _⟩ => ⟨S1x1024, .f32⟩
  | .local _ .vmem, ⟨4, _⟩ => ⟨S432x1024, .f32⟩
  | .local _ .vmem, ⟨5, _⟩ => ⟨S432x1024, .f32⟩
  | .local _ .vmem, ⟨6, _⟩ => ⟨S432x1024, .f32⟩
  | .local _ .vmem, ⟨7, _⟩ => ⟨S432x1024, .f32⟩
  | .local _ .vmem, ⟨8, _⟩ => ⟨S432x2816, .bf16⟩
  | .local _ .vmem, ⟨9, _⟩ => ⟨S432x2816, .bf16⟩
  | .local _ .vmem, ⟨10, _⟩ => ⟨S432x2816, .bf16⟩
  | .local _ .vmem, ⟨11, _⟩ => ⟨S432x2816, .bf16⟩
  | .local _ .vmem, ⟨12, _⟩ => ⟨S432x2816, .bf16⟩
  | .local _ .vmem, ⟨13, _⟩ => ⟨S432x2816, .bf16⟩
  | .local _ .vmem, ⟨14, _⟩ => ⟨S432x1024, .bf16⟩
  | .local _ .vmem, ⟨15, _⟩ => ⟨S432x1024, .bf16⟩
  | .local _ .vmem, ⟨16, _⟩ => ⟨S2x1024x1408, .bf16⟩
  | .local _ .vmem, ⟨17, _⟩ => ⟨S2x1024x1408, .bf16⟩
  | .local _ .vmem, ⟨18, _⟩ => ⟨S2x1408x1024, .bf16⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![19], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S432x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S432x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S432x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S432x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S432x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S432x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S432x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnFwdRefIdeal.lean ====
abbrev S8208x1024 : Shape := ⟨2, ![8208, 1024]⟩
abbrev S1x1024 : Shape := ⟨2, ![1, 1024]⟩
abbrev S2x1024x1408 : Shape := ⟨3, ![2, 1024, 1408]⟩
abbrev S2x1408x1024 : Shape := ⟨3, ![2, 1408, 1024]⟩
abbrev S_ : Shape := ⟨0, ![]⟩
abbrev S8208 : Shape := ⟨1, ![8208]⟩
abbrev S8208x1 : Shape := ⟨2, ![8208, 1]⟩
abbrev S1024x2x1408 : Shape := ⟨3, ![1024, 2, 1408]⟩
abbrev S1024x2816 : Shape := ⟨2, ![1024, 2816]⟩
abbrev S8208x2816 : Shape := ⟨2, ![8208, 2816]⟩
abbrev S2816x1024 : Shape := ⟨2, ![2816, 1024]⟩

abbrev nBuf : Space → Nat
  | .hbm => 65
  | .vmem => 0
  | .smem => 0
  | _ => 0

abbrev bufTy : (tb : Table) → Fin (tcTables nBuf tb) → BufTy
  | .hbm, ⟨0, _⟩ => ⟨S8208x1024, .f32⟩
  | .hbm, ⟨1, _⟩ => ⟨S1x1024, .f32⟩
  | .hbm, ⟨2, _⟩ => ⟨S1x1024, .f32⟩
  | .hbm, ⟨3, _⟩ => ⟨S2x1024x1408, .bf16⟩
  | .hbm, ⟨4, _⟩ => ⟨S2x1024x1408, .bf16⟩
  | .hbm, ⟨5, _⟩ => ⟨S2x1408x1024, .bf16⟩
  | .hbm, ⟨6, _⟩ => ⟨S8208x1024, .f32⟩
  | .hbm, ⟨7, _⟩ => ⟨S_, .f32⟩
  | .hbm, ⟨8, _⟩ => ⟨S8208, .f32⟩
  | .hbm, ⟨9, _⟩ => ⟨S8208x1, .f32⟩
  | .hbm, ⟨10, _⟩ => ⟨S_, .f32⟩
  | .hbm, ⟨11, _⟩ => ⟨S8208x1, .f32⟩
  | .hbm, ⟨12, _⟩ => ⟨S8208x1, .f32⟩
  | .hbm, ⟨13, _⟩ => ⟨S_, .f32⟩
  | .hbm, ⟨14, _⟩ => ⟨S8208x1, .f32⟩
  | .hbm, ⟨15, _⟩ => ⟨S8208x1, .f32⟩
  | .hbm, ⟨16, _⟩ => ⟨S8208x1, .f32⟩
  | .hbm, ⟨17, _⟩ => ⟨S8208x1024, .f32⟩
  | .hbm, ⟨18, _⟩ => ⟨S8208x1024, .f32⟩
  | .hbm, ⟨19, _⟩ => ⟨S8208x1024, .f32⟩
  | .hbm, ⟨20, _⟩ => ⟨S8208x1024, .f32⟩
  | .hbm, ⟨21, _⟩ => ⟨S2x1024x1408, .f32⟩
  | .hbm, ⟨22, _⟩ => ⟨S1024x2x1408, .f32⟩
  | .hbm, ⟨23, _⟩ => ⟨S1024x2816, .f32⟩
  | .hbm, ⟨24, _⟩ => ⟨S8208x2816, .f32⟩
  | .hbm, ⟨25, _⟩ => ⟨S2x1024x1408, .f32⟩
  | .hbm, ⟨26, _⟩ => ⟨S1024x2x1408, .f32⟩
  | .hbm, ⟨27, _⟩ => ⟨S1024x2816, .f32⟩
  | .hbm, ⟨28, _⟩ => ⟨S8208x2816, .f32⟩
  | .hbm, ⟨29, _⟩ => ⟨S8208x2816, .f32⟩
  | .hbm, ⟨30, _⟩ => ⟨S8208x2816, .f32⟩
  | .hbm, ⟨31, _⟩ => ⟨S_, .f32⟩
  | .hbm, ⟨32, _⟩ => ⟨S8208x2816, .f32⟩
  | .hbm, ⟨33, _⟩ => ⟨S8208x2816, .f32⟩
  | .hbm, ⟨34, _⟩ => ⟨S_, .f32⟩
  | .hbm, ⟨35, _⟩ => ⟨S8208x2816, .f32⟩
  | .hbm, ⟨36, _⟩ => ⟨S8208x2816, .f32⟩
  | .hbm, ⟨37, _⟩ => ⟨S8208x2816, .f32⟩
  | .hbm, ⟨38, _⟩ => ⟨S8208x2816, .f32⟩
  | .hbm, ⟨39, _⟩ => ⟨S2x1408x1024, .f32⟩
  | .hbm, ⟨40, _⟩ => ⟨S2816x1024, .f32⟩
  | .hbm, ⟨41, _⟩ => ⟨S8208x1024, .f32⟩
  | .hbm, ⟨42, _⟩ => ⟨S8208x1024, .f32⟩
  | .hbm, ⟨43, _⟩ => ⟨S_, .f32⟩
  | .hbm, ⟨44, _⟩ => ⟨S8208, .f32⟩
  | .hbm, ⟨45, _⟩ => ⟨S8208x1, .f32⟩
  | .hbm, ⟨46, _⟩ => ⟨S_, .f32⟩
  | .hbm, ⟨47, _⟩ => ⟨S8208x1, .f32⟩
  | .hbm, ⟨48, _⟩ => ⟨S8208x1, .f32⟩
  | .hbm, ⟨49, _⟩ => ⟨S_, .f32⟩
  | .hbm, ⟨50, _⟩ => ⟨S8208x1, .f32⟩
  | .hbm, ⟨51, _⟩ => ⟨S8208x1, .f32⟩
  | .hbm, ⟨52, _⟩ => ⟨S8208x1, .f32⟩
  | .hbm, ⟨53, _⟩ => ⟨S8208x1024, .f32⟩
  | .hbm, ⟨54, _⟩ => ⟨S8208x1024, .f32⟩
  | .hbm, ⟨55, _⟩ => ⟨S8208x1024, .f32⟩
  | .hbm, ⟨56, _⟩ => ⟨S8208x1024, .f32⟩
  | .hbm, ⟨57, _⟩ => ⟨S_, .f32⟩
  | .hbm, ⟨58, _⟩ => ⟨S8208x1024, .f32⟩
  | .hbm, ⟨59, _⟩ => ⟨S8208x1024, .f32⟩
  | .hbm, ⟨60, _⟩ => ⟨S8208x1024, .f32⟩
  | .hbm, ⟨61, _⟩ => ⟨S8208x2816, .bf16⟩
  | .hbm, ⟨62, _⟩ => ⟨S8208x2816, .bf16⟩
  | .hbm, ⟨63, _⟩ => ⟨S8208x2816, .bf16⟩
  | .hbm, ⟨64, _⟩ => ⟨S8208x1024, .bf16⟩
  | _, _ => ⟨S8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_2 : Ref sig .tc := ⟨.hbm, 43, rfl⟩
abbrev main_v26 : Ref sig .tc := ⟨.hbm, 44, rfl⟩
abbrev main_v27 : Ref sig .tc := ⟨.hbm, 45, rfl⟩
abbrev main_cst_3 : Ref sig .tc := ⟨.hbm, 46, rfl⟩
abbrev main_v28 : Ref sig .tc := ⟨.hbm, 47, rfl⟩
abbrev main_v29 : Ref sig .tc := ⟨.hbm, 48, rfl⟩
abbrev main_cst_4 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_5 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩

abbrev nD : Nat := 1
abbrev τ : Topo := Topo.v7x

variable {F : FTy → Type} [FloatOps F]
-- ==== BwdDown.lean ====
abbrev S8208x1024 : Shape := ⟨2, ![8208, 1024]⟩
abbrev S8208x2816 : Shape := ⟨2, ![8208, 2816]⟩
abbrev S1x1024 : Shape := ⟨2, ![1, 1024]⟩
abbrev S2x1408x1024 : Shape := ⟨3, ![2, 1408, 1024]⟩
abbrev S432x1024 : Shape := ⟨2, ![432, 1024]⟩
abbrev S432x2816 : Shape := ⟨2, ![432, 2816]⟩
abbrev S1 : Shape := ⟨1, ![1]⟩
abbrev S_ : Shape := ⟨0, ![]⟩
abbrev S432 : Shape := ⟨1, ![432]⟩
abbrev S432x1 : Shape := ⟨2, ![432, 1]⟩
abbrev S1024 : Shape := ⟨1, ![1024]⟩
abbrev S1x1408x1024 : Shape := ⟨3, ![1, 1408, 1024]⟩
abbrev S1408x1024 : Shape := ⟨2, ![1408, 1024]⟩
abbrev S432x1408 : Shape := ⟨2, ![432, 1408]⟩

abbrev nBuf : Space → Nat
  | .hbm => 10
  | .vmem => 17
  | .smem => 0
  | _ => 0

abbrev bufTy : (tb : Table) → Fin (tcTables nBuf tb) → BufTy
  | .hbm, ⟨0, _⟩ => ⟨S8208x1024, .f32⟩
  | .hbm, ⟨1, _⟩ => ⟨S8208x1024, .f32⟩
  | .hbm, ⟨2, _⟩ => ⟨S8208x2816, .bf16⟩
  | .hbm, ⟨3, _⟩ => ⟨S8208x2816, .bf16⟩
  | .hbm, ⟨4, _⟩ => ⟨S1x1024, .f32⟩
  | .hbm, ⟨5, _⟩ => ⟨S2x1408x1024, .bf16⟩
  | .hbm, ⟨6, _⟩ => ⟨S8208x2816, .bf16⟩
  | .hbm, ⟨7, _⟩ => ⟨S8208x2816, .bf16⟩
  | .hbm, ⟨8, _⟩ => ⟨S8208x1024, .bf16⟩
  | .hbm, ⟨9, _⟩ => ⟨S1x1024, .f32⟩
  | .local _ .vmem, ⟨0, _⟩ => ⟨S432x1024, .f32⟩
  | .local _ .vmem, ⟨1, _⟩ => ⟨S432x1024, .f32⟩
  | .local _ .vmem, ⟨2, _⟩ => ⟨S432x1024, .f32⟩
  | .local _ .vmem, ⟨3, _⟩ => ⟨S432x1024, .f32⟩
  | .local _ .vmem, ⟨4, _⟩ => ⟨S432x2816, .bf16⟩
  | .local _ .vmem, ⟨5, _⟩ => ⟨S432x2816, .bf16⟩
  | .local _ .vmem, ⟨6, _⟩ => ⟨S432x2816, .bf16⟩
  | .local _ .vmem, ⟨7, _⟩ => ⟨S432x2816, .bf16⟩
  | .local _ .vmem, ⟨8, _⟩ => ⟨S1x1024, .f32⟩
  | .local _ .vmem, ⟨9, _⟩ => ⟨S432x2816, .bf16⟩
  | .local _ .vmem, ⟨10, _⟩ => ⟨S432x2816, .bf16⟩
  | .local _ .vmem, ⟨11, _⟩ => ⟨S432x2816, .bf16⟩
  | .local _ .vmem, ⟨12, _⟩ => ⟨S432x2816, .bf16⟩
  | .local _ .vmem, ⟨13, _⟩ => ⟨S432x1024, .bf16⟩
  | .local _ .vmem, ⟨14, _⟩ => ⟨S432x1024, .bf16⟩
  | .local _ .vmem, ⟨15, _⟩ => ⟨S1x1024, .f32⟩
  | .local _ .vmem, ⟨16, _⟩ => ⟨S2x1408x1024, .bf16⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![19], ![false]⟩

def k0_cond2 (i : grid0.Coords) : BitVec 1 :=
  let arg0 : BitVec 32 := BitVec.ofNat 32 (i 0).val
  let c0_i32_12 : BitVec 32 := 0#32
  let v33 : BitVec 1 := Scalar.cmpi .eq arg0 c0_i32_12
  let v34 : BitVec 32 := Scalar.extui v33
  let c0_i32_13 : BitVec 32 := 0#32
  let v35 : BitVec 1 := Scalar.cmpi .ne v34 c0_i32_13
  v35

def k0_cond3 (i : grid0.Coords) : BitVec 1 :=
  let arg0 : BitVec 32 := BitVec.ofNat 32 (i 0).val
  let c0_i32_12 : BitVec 32 := 0#32
  let v33 : BitVec 1 := Scalar.cmpi .eq arg0 c0_i32_12
  let v_true : BitVec 1 := 1#1
  let v36 : BitVec 1 := Scalar.xori v33 v_true
  let v37 : BitVec 32 := Scalar.extui v36
  let c0_i32_14 : BitVec 32 := 0#32
  let v38 : BitVec 1 := Scalar.cmpi .ne v37 c0_i32_14
  v38

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S432x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S432x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S432x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S432x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S432x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S432x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S432x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== BwdDownIdeal.lean ====
abbrev S8208x1024 : Shape := ⟨2, ![8208, 1024]⟩
abbrev S8208x2816 : Shape := ⟨2, ![8208, 2816]⟩
abbrev S1x1024 : Shape := ⟨2, ![1, 1024]⟩
abbrev S2x1408x1024 : Shape := ⟨3, ![2, 1408, 1024]⟩
abbrev S432x1024 : Shape := ⟨2, ![432, 1024]⟩
abbrev S432x2816 : Shape := ⟨2, ![432, 2816]⟩
abbrev S1 : Shape := ⟨1, ![1]⟩
abbrev S_ : Shape := ⟨0, ![]⟩
abbrev S432 : Shape := ⟨1, ![432]⟩
abbrev S432x1 : Shape := ⟨2, ![432, 1]⟩
abbrev S1024 : Shape := ⟨1, ![1024]⟩
abbrev S1x1408x1024 : Shape := ⟨3, ![1, 1408, 1024]⟩
abbrev S1408x1024 : Shape := ⟨2, ![1408, 1024]⟩
abbrev S432x1408 : Shape := ⟨2, ![432, 1408]⟩

abbrev nBuf : Space → Nat
  | .hbm => 10
  | .vmem => 17
  | .smem => 0
  | _ => 0

abbrev bufTy : (tb : Table) → Fin (tcTables nBuf tb) → BufTy
  | .hbm, ⟨0, _⟩ => ⟨S8208x1024, .f32⟩
  | .hbm, ⟨1, _⟩ => ⟨S8208x1024, .f32⟩
  | .hbm, ⟨2, _⟩ => ⟨S8208x2816, .bf16⟩
  | .hbm, ⟨3, _⟩ => ⟨S8208x2816, .bf16⟩
  | .hbm, ⟨4, _⟩ => ⟨S1x1024, .f32⟩
  | .hbm, ⟨5, _⟩ => ⟨S2x1408x1024, .bf16⟩
  | .hbm, ⟨6, _⟩ => ⟨S8208x2816, .bf16⟩
  | .hbm, ⟨7, _⟩ => ⟨S8208x2816, .bf16⟩
  | .hbm, ⟨8, _⟩ => ⟨S8208x1024, .bf16⟩
  | .hbm, ⟨9, _⟩ => ⟨S1x1024, .f32⟩
  | .local _ .vmem, ⟨0, _⟩ => ⟨S432x1024, .f32⟩
  | .local _ .vmem, ⟨1, _⟩ => ⟨S432x1024, .f32⟩
  | .local _ .vmem, ⟨2, _⟩ => ⟨S432x1024, .f32⟩
  | .local _ .vmem, ⟨3, _⟩ => ⟨S432x1024, .f32⟩
  | .local _ .vmem, ⟨4, _⟩ => ⟨S432x2816, .bf16⟩
  | .local _ .vmem, ⟨5, _⟩ => ⟨S432x2816, .bf16⟩
  | .local _ .vmem, ⟨6, _⟩ => ⟨S432x2816, .bf16⟩
  | .local _ .vmem, ⟨7, _⟩ => ⟨S432x2816, .bf16⟩
  | .local _ .vmem, ⟨8, _⟩ => ⟨S1x1024, .f32⟩
  | .local _ .vmem, ⟨9, _⟩ => ⟨S432x2816, .bf16⟩
  | .local _ .vmem, ⟨10, _⟩ => ⟨S432x2816, .bf16⟩
  | .local _ .vmem, ⟨11, _⟩ => ⟨S432x2816, .bf16⟩
  | .local _ .vmem, ⟨12, _⟩ => ⟨S432x2816, .bf16⟩
  | .local _ .vmem, ⟨13, _⟩ => ⟨S432x1024, .bf16⟩
  | .local _ .vmem, ⟨14, _⟩ => ⟨S432x1024, .bf16⟩
  | .local _ .vmem, ⟨15, _⟩ => ⟨S1x1024, .f32⟩
  | .local _ .vmem, ⟨16, _⟩ => ⟨S2x1408x1024, .bf16⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![19], ![false]⟩

def k0_cond2 (i : grid0.Coords) : BitVec 1 :=
  let arg0 : BitVec 32 := BitVec.ofNat 32 (i 0).val
  let c0_i32_12 : BitVec 32 := 0#32
  let v33 : BitVec 1 := Scalar.cmpi .eq arg0 c0_i32_12
  let v34 : BitVec 32 := Scalar.extui v33
  let c0_i32_13 : BitVec 32 := 0#32
  let v35 : BitVec 1 := Scalar.cmpi .ne v34 c0_i32_13
  v35

def k0_cond3 (i : grid0.Coords) : BitVec 1 :=
  let arg0 : BitVec 32 := BitVec.ofNat 32 (i 0).val
  let c0_i32_12 : BitVec 32 := 0#32
  let v33 : BitVec 1 := Scalar.cmpi .eq arg0 c0_i32_12
  let v_true : BitVec 1 := 1#1
  let v36 : BitVec 1 := Scalar.xori v33 v_true
  let v37 : BitVec 32 := Scalar.extui v36
  let c0_i32_14 : BitVec 32 := 0#32
  let v38 : BitVec 1 := Scalar.cmpi .ne v37 c0_i32_14
  v38

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S432x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S432x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S432x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S432x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S432x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S432x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S432x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== BwdDownRefIdeal.lean ====
abbrev S8208x1024 : Shape := ⟨2, ![8208, 1024]⟩
abbrev S8208x2816 : Shape := ⟨2, ![8208, 2816]⟩
abbrev S1x1024 : Shape := ⟨2, ![1, 1024]⟩
abbrev S2x1408x1024 : Shape := ⟨3, ![2, 1408, 1024]⟩
abbrev S_ : Shape := ⟨0, ![]⟩
abbrev S8208 : Shape := ⟨1, ![8208]⟩
abbrev S8208x1 : Shape := ⟨2, ![8208, 1]⟩
abbrev S1024 : Shape := ⟨1, ![1024]⟩
abbrev S2816x1024 : Shape := ⟨2, ![2816, 1024]⟩
abbrev S1024x2816 : Shape := ⟨2, ![1024, 2816]⟩

abbrev nBuf : Space → Nat
  | .hbm => 75
  | .vmem => 0
  | .smem => 0
  | _ => 0

abbrev bufTy : (tb : Table) → Fin (tcTables nBuf tb) → BufTy
  | .hbm, ⟨0, _⟩ => ⟨S8208x1024, .f32⟩
  | .hbm, ⟨1, _⟩ => ⟨S8208x1024, .f32⟩
  | .hbm, ⟨2, _⟩ => ⟨S8208x2816, .bf16⟩
  | .hbm, ⟨3, _⟩ => ⟨S8208x2816, .bf16⟩
  | .hbm, ⟨4, _⟩ => ⟨S1x1024, .f32⟩
  | .hbm, ⟨5, _⟩ => ⟨S2x1408x1024, .bf16⟩
  | .hbm, ⟨6, _⟩ => ⟨S8208x1024, .f32⟩
  | .hbm, ⟨7, _⟩ => ⟨S_, .f32⟩
  | .hbm, ⟨8, _⟩ => ⟨S8208, .f32⟩
  | .hbm, ⟨9, _⟩ => ⟨S8208x1, .f32⟩
  | .hbm, ⟨10, _⟩ => ⟨S_, .f32⟩
  | .hbm, ⟨11, _⟩ => ⟨S8208x1, .f32⟩
  | .hbm, ⟨12, _⟩ => ⟨S8208x1, .f32⟩
  | .hbm, ⟨13, _⟩ => ⟨S_, .f32⟩
  | .hbm, ⟨14, _⟩ => ⟨S8208x1, .f32⟩
  | .hbm, ⟨15, _⟩ => ⟨S8208x1, .f32⟩
  | .hbm, ⟨16, _⟩ => ⟨S8208x1, .f32⟩
  | .hbm, ⟨17, _⟩ => ⟨S_, .f32⟩
  | .hbm, ⟨18, _⟩ => ⟨S8208x1024, .f32⟩
  | .hbm, ⟨19, _⟩ => ⟨S8208x1024, .f32⟩
  | .hbm, ⟨20, _⟩ => ⟨S8208x1024, .f32⟩
  | .hbm, ⟨21, _⟩ => ⟨S8208x1024, .f32⟩
  | .hbm, ⟨22, _⟩ => ⟨S8208x1024, .f32⟩
  | .hbm, ⟨23, _⟩ => ⟨S_, .f32⟩
  | .hbm, ⟨24, _⟩ => ⟨S1024, .f32⟩
  | .hbm, ⟨25, _⟩ => ⟨S1x1024, .f32⟩
  | .hbm, ⟨26, _⟩ => ⟨S8208x1024, .f32⟩
  | .hbm, ⟨27, _⟩ => ⟨S8208x1024, .f32⟩
  | .hbm, ⟨28, _⟩ => ⟨S8208x1024, .f32⟩
  | .hbm, ⟨29, _⟩ => ⟨S8208x1024, .f32⟩
  | .hbm, ⟨30, _⟩ => ⟨S8208x1024, .f32⟩
  | .hbm, ⟨31, _⟩ => ⟨S8208x1024, .f32⟩
  | .hbm, ⟨32, _⟩ => ⟨S8208x1024, .f32⟩
  | .hbm, ⟨33, _⟩ => ⟨S8208x1024, .f32⟩
  | .hbm, ⟨34, _⟩ => ⟨S8208x1024, .f32⟩
  | .hbm, ⟨35, _⟩ => ⟨S_, .f32⟩
  | .hbm, ⟨36, _⟩ => ⟨S8208, .f32⟩
  | .hbm, ⟨37, _⟩ => ⟨S8208x1, .f32⟩
  | .hbm, ⟨38, _⟩ => ⟨S_, .f32⟩
  | .hbm, ⟨39, _⟩ => ⟨S8208x1, .f32⟩
  | .hbm, ⟨40, _⟩ => ⟨S8208x1, .f32⟩
  | .hbm, ⟨41, _⟩ => ⟨S8208x1024, .f32⟩
  | .hbm, ⟨42, _⟩ => ⟨S8208x1024, .f32⟩
  | .hbm, ⟨43, _⟩ => ⟨S8208x1024, .f32⟩
  | .hbm, ⟨44, _⟩ => ⟨S8208x1024, .f32⟩
  | .hbm, ⟨45, _⟩ => ⟨S8208x1024, .f32⟩
  | .hbm, ⟨46, _⟩ => ⟨S2x1408x1024, .f32⟩
  | .hbm, ⟨47, _⟩ => ⟨S2816x1024, .f32⟩
  | .hbm, ⟨48, _⟩ => ⟨S1024x2816, .f32⟩
  | .hbm, ⟨49, _⟩ => ⟨S8208x2816, .f32⟩
  | .hbm, ⟨50, _⟩ => ⟨S8208x2816, .f32⟩
  | .hbm, ⟨51, _⟩ => ⟨S8208x2816, .f32⟩
  | .hbm, ⟨52, _⟩ => ⟨S8208x2816, .f32⟩
  | .hbm, ⟨53, _⟩ => ⟨S8208x2816, .f32⟩
  | .hbm, ⟨54, _⟩ => ⟨S_, .f32⟩
  | .hbm, ⟨55, _⟩ => ⟨S8208x2816, .f32⟩
  | .hbm, ⟨56, _⟩ => ⟨S8208x2816, .f32⟩
  | .hbm, ⟨57, _⟩ => ⟨S_, .f32⟩
  | .hbm, ⟨58, _⟩ => ⟨S8208x2816, .f32⟩
  | .hbm, ⟨59, _⟩ => ⟨S8208x2816, .f32⟩
  | .hbm, ⟨60, _⟩ => ⟨S8208x2816, .f32⟩
  | .hbm, ⟨61, _⟩ => ⟨S_, .f32⟩
  | .hbm, ⟨62, _⟩ => ⟨S8208x2816, .f32⟩
  | .hbm, ⟨63, _⟩ => ⟨S8208x2816, .f32⟩
  | .hbm, ⟨64, _⟩ => ⟨S8208x2816, .f32⟩
  | .hbm, ⟨65, _⟩ => ⟨S_, .f32⟩
  | .hbm, ⟨66, _⟩ => ⟨S8208x2816, .f32⟩
  | .hbm, ⟨67, _⟩ => ⟨S8208x2816, .f32⟩
  | .hbm, ⟨68, _⟩ => ⟨S8208x2816, .f32⟩
  | .hbm, ⟨69, _⟩ => ⟨S8208x2816, .f32⟩
  | .hbm, ⟨70, _⟩ => ⟨S8208x2816, .f32⟩
  | .hbm, ⟨71, _⟩ => ⟨S8208x2816, .f32⟩
  | .hbm, ⟨72, _⟩ => ⟨S8208x2816, .bf16⟩
  | .hbm, ⟨73, _⟩ => ⟨S8208x2816, .bf16⟩
  | .hbm, ⟨74, _⟩ => ⟨S8208x1024, .bf16⟩
  | _, _ => ⟨S8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_6 : Ref sig .tc := ⟨.hbm, 54, rfl⟩
abbrev main_v41 : Ref sig .tc := ⟨.hbm, 55, rfl⟩
abbrev main_v42 : Ref sig .tc := ⟨.hbm, 56, rfl⟩
abbrev main_cst_7 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_8 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_9 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩

abbrev nD : Nat := 1
abbrev τ : Topo := Topo.v7x

variable {F : FTy → Type} [FloatOps F]
-- ==== BwdUp.lean ====
abbrev S8208x2816 : Shape := ⟨2, ![8208, 2816]⟩
abbrev S8208x1024 : Shape := ⟨2, ![8208, 1024]⟩
abbrev S1x1024 : Shape := ⟨2, ![1, 1024]⟩
abbrev S2x1024x1408 : Shape := ⟨3, ![2, 1024, 1408]⟩
abbrev S432x2816 : Shape := ⟨2, ![432, 2816]⟩
abbrev S432x1024 : Shape := ⟨2, ![432, 1024]⟩
abbrev S2 : Shape := ⟨1, ![2]⟩
abbrev S1 : Shape := ⟨1, ![1]⟩
abbrev S_ : Shape := ⟨0, ![]⟩
abbrev S432x1408 : Shape := ⟨2, ![432, 1408]⟩
abbrev S1x1024x1408 : Shape := ⟨3, ![1, 1024, 1408]⟩
abbrev S1024x1408 : Shape := ⟨2, ![1024, 1408]⟩
abbrev S432 : Shape := ⟨1, ![432]⟩
abbrev S432x1 : Shape := ⟨2, ![432, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S8208x2816, .bf16⟩
  | .hbm, ⟨1, _⟩ => ⟨S8208x2816, .bf16⟩
  | .hbm, ⟨2, _⟩ => ⟨S8208x1024, .f32⟩
  | .hbm, ⟨3, _⟩ => ⟨S8208x1024, .f32⟩
  | .hbm, ⟨4, _⟩ => ⟨S1x1024, .f32⟩
  | .hbm, ⟨5, _⟩ => ⟨S2x1024x1408, .bf16⟩
  | .hbm, ⟨6, _⟩ => ⟨S2x1024x1408, .bf16⟩
  | .hbm, ⟨7, _⟩ => ⟨S8208x1024, .f32⟩
  | .hbm, ⟨8, _⟩ => ⟨S1x1024, .f32⟩
  | .local _ .vmem, ⟨0, _⟩ => ⟨S432x2816, .bf16⟩
  | .local _ .vmem, ⟨1, _⟩ => ⟨S432x2816, .bf16⟩
  | .local _ .vmem, ⟨2, _⟩ => ⟨S432x2816, .bf16⟩
  | .local _ .vmem, ⟨3, _⟩ => ⟨S432x2816, .bf16⟩
  | .local _ .vmem, ⟨4, _⟩ => ⟨S432x1024, .f32⟩
  | .local _ .vmem, ⟨5, _⟩ => ⟨S432x1024, .f32⟩
  | .local _ .vmem, ⟨6, _⟩ => ⟨S432x1024, .f32⟩
  | .local _ .vmem, ⟨7, _⟩ => ⟨S432x1024, .f32⟩
  | .local _ .vmem, ⟨8, _⟩ => ⟨S1x1024, .f32⟩
  | .local _ .vmem, ⟨9, _⟩ => ⟨S432x1024, .f32⟩
  | .local _ .vmem, ⟨10, _⟩ => ⟨S432x1024, .f32⟩
  | .local _ .vmem, ⟨11, _⟩ => ⟨S1x1024, .f32⟩
  | .local _ .vmem, ⟨12, _⟩ => ⟨S2x1024x1408, .bf16⟩
  | .local _ .vmem, ⟨13, _⟩ => ⟨S2x1024x1408, .bf16⟩
  | _, _ => ⟨S8208x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![19], ![false]⟩

def k0_cond2 (i : grid0.Coords) : BitVec 1 :=
  let arg0 : BitVec 32 := BitVec.ofNat 32 (i 0).val
  let c0_i32_32 : BitVec 32 := 0#32
  let v51 : BitVec 1 := Scalar.cmpi .eq arg0 c0_i32_32
  let v52 : BitVec 32 := Scalar.extui v51
  let c0_i32_33 : BitVec 32 := 0#32
  let v53 : BitVec 1 := Scalar.cmpi .ne v52 c0_i32_33
  v53

def k0_cond3 (i : grid0.Coords) : BitVec 1 :=
  let arg0 : BitVec 32 := BitVec.ofNat 32 (i 0).val
  let c0_i32_32 : BitVec 32 := 0#32
  let v51 : BitVec 1 := Scalar.cmpi .eq arg0 c0_i32_32
  let v_true : BitVec 1 := 1#1
  let v54 : BitVec 1 := Scalar.xori v51 v_true
  let v55 : BitVec 32 := Scalar.extui v54
  let c0_i32_34 : BitVec 32 := 0#32
  let v56 : BitVec 1 := Scalar.cmpi .ne v55 c0_i32_34
  v56

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S432x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S432x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S432x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S432x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S432x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== BwdUpRefIdeal.lean ====
abbrev S8208x2816 : Shape := ⟨2, ![8208, 2816]⟩
abbrev S8208x1024 : Shape := ⟨2, ![8208, 1024]⟩
abbrev S1x1024 : Shape := ⟨2, ![1, 1024]⟩
abbrev S2x1024x1408 : Shape := ⟨3, ![2, 1024, 1408]⟩
abbrev S1024x2x1408 : Shape := ⟨3, ![1024, 2, 1408]⟩
abbrev S1024x2816 : Shape := ⟨2, ![1024, 2816]⟩
abbrev S2816x1024 : Shape := ⟨2, ![2816, 1024]⟩
abbrev S_ : Shape := ⟨0, ![]⟩
abbrev S8208 : Shape := ⟨1, ![8208]⟩
abbrev S8208x1 : Shape := ⟨2, ![8208, 1]⟩
abbrev S1024 : Shape := ⟨1, ![1024]⟩

abbrev nBuf : Space → Nat
  | .hbm => 58
  | .vmem => 0
  | .smem => 0
  | _ => 0

abbrev bufTy : (tb : Table) → Fin (tcTables nBuf tb) → BufTy
  | .hbm, ⟨0, _⟩ => ⟨S8208x2816, .bf16⟩
  | .hbm, ⟨1, _⟩ => ⟨S8208x2816, .bf16⟩
  | .hbm, ⟨2, _⟩ => ⟨S8208x1024, .f32⟩
  | .hbm, ⟨3, _⟩ => ⟨S8208x1024, .f32⟩
  | .hbm, ⟨4, _⟩ => ⟨S1x1024, .f32⟩
  | .hbm, ⟨5, _⟩ => ⟨S2x1024x1408, .bf16⟩
  | .hbm, ⟨6, _⟩ => ⟨S2x1024x1408, .bf16⟩
  | .hbm, ⟨7, _⟩ => ⟨S8208x2816, .f32⟩
  | .hbm, ⟨8, _⟩ => ⟨S2x1024x1408, .f32⟩
  | .hbm, ⟨9, _⟩ => ⟨S1024x2x1408, .f32⟩
  | .hbm, ⟨10, _⟩ => ⟨S1024x2816, .f32⟩
  | .hbm, ⟨11, _⟩ => ⟨S2816x1024, .f32⟩
  | .hbm, ⟨12, _⟩ => ⟨S8208x1024, .f32⟩
  | .hbm, ⟨13, _⟩ => ⟨S8208x2816, .f32⟩
  | .hbm, ⟨14, _⟩ => ⟨S2x1024x1408, .f32⟩
  | .hbm, ⟨15, _⟩ => ⟨S1024x2x1408, .f32⟩
  | .hbm, ⟨16, _⟩ => ⟨S1024x2816, .f32⟩
  | .hbm, ⟨17, _⟩ => ⟨S2816x1024, .f32⟩
  | .hbm, ⟨18, _⟩ => ⟨S8208x1024, .f32⟩
  | .hbm, ⟨19, _⟩ => ⟨S8208x1024, .f32⟩
  | .hbm, ⟨20, _⟩ => ⟨S8208x1024, .f32⟩
  | .hbm, ⟨21, _⟩ => ⟨S_, .f32⟩
  | .hbm, ⟨22, _⟩ => ⟨S8208, .f32⟩
  | .hbm, ⟨23, _⟩ => ⟨S8208x1, .f32⟩
  | .hbm, ⟨24, _⟩ => ⟨S_, .f32⟩
  | .hbm, ⟨25, _⟩ => ⟨S8208x1, .f32⟩
  | .hbm, ⟨26, _⟩ => ⟨S8208x1, .f32⟩
  | .hbm, ⟨27, _⟩ => ⟨S_, .f32⟩
  | .hbm, ⟨28, _⟩ => ⟨S8208x1, .f32⟩
  | .hbm, ⟨29, _⟩ => ⟨S8208x1, .f32⟩
  | .hbm, ⟨30, _⟩ => ⟨S8208x1, .f32⟩
  | .hbm, ⟨31, _⟩ => ⟨S8208x1024, .f32⟩
  | .hbm, ⟨32, _⟩ => ⟨S8208x1024, .f32⟩
  | .hbm, ⟨33, _⟩ => ⟨S8208x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S8208x1024, .f32⟩
  | .hbm, ⟨38, _⟩ => ⟨S8208x1024, .f32⟩
  | .hbm, ⟨39, _⟩ => ⟨S8208x1024, .f32⟩
  | .hbm, ⟨40, _⟩ => ⟨S8208x1024, .f32⟩
  | .hbm, ⟨41, _⟩ => ⟨S8208x1024, .f32⟩
  | .hbm, ⟨42, _⟩ => ⟨S8208x1024, .f32⟩
  | .hbm, ⟨43, _⟩ => ⟨S8208x1024, .f32⟩
  | .hbm, ⟨44, _⟩ => ⟨S8208x1024, .f32⟩
  | .hbm, ⟨45, _⟩ => ⟨S8208x1024, .f32⟩
  | .hbm, ⟨46, _⟩ => ⟨S_, .f32⟩
  | .hbm, ⟨47, _⟩ => ⟨S8208, .f32⟩
  | .hbm, ⟨48, _⟩ => ⟨S8208x1, .f32⟩
  | .hbm, ⟨49, _⟩ => ⟨S_, .f32⟩
  | .hbm, ⟨50, _⟩ => ⟨S8208x1, .f32⟩
  | .hbm, ⟨51, _⟩ => ⟨S8208x1, .f32⟩
  | .hbm, ⟨52, _⟩ => ⟨S8208x1024, .f32⟩
  | .hbm, ⟨53, _⟩ => ⟨S8208x1024, .f32⟩
  | .hbm, ⟨54, _⟩ => ⟨S8208x1024, .f32⟩
  | .hbm, ⟨55, _⟩ => ⟨S8208x1024, .f32⟩
  | .hbm, ⟨56, _⟩ => ⟨S8208x1024, .f32⟩
  | .hbm, ⟨57, _⟩ => ⟨S8208x1024, .f32⟩
  | _, _ => ⟨S8208x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_3 : Ref sig .tc := ⟨.hbm, 46, rfl⟩
abbrev main_v35 : Ref sig .tc := ⟨.hbm, 47, rfl⟩
abbrev main_v36 : Ref sig .tc := ⟨.hbm, 48, rfl⟩
abbrev main_cst_4 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩

abbrev nD : Nat := 1
abbrev τ : Topo := Topo.v7x

variable {F : FTy → Type} [FloatOps F]
-- ==== HalfUp.lean ====
abbrev S1 : Shape := ⟨1, ![1]⟩
abbrev S4x2x512x704 : Shape := ⟨4, ![4, 2, 512, 704]⟩
abbrev S4x512x704 : Shape := ⟨3, ![4, 512, 704]⟩
abbrev S1x1x512x704 : Shape := ⟨4, ![1, 1, 512, 704]⟩
abbrev S1x512x704 : Shape := ⟨3, ![1, 512, 704]⟩
abbrev S512x704 : Shape := ⟨2, ![512, 704]⟩

abbrev nBuf : Space → Nat
  | .hbm => 3
  | .vmem => 6
  | .smem => 1
  | _ => 0

abbrev bufTy : (tb : Table) → Fin (tcTables nBuf tb) → BufTy
  | .hbm, ⟨0, _⟩ => ⟨S4x2x512x704, .f32⟩
  | .hbm, ⟨1, _⟩ => ⟨S4x512x704, .f32⟩
  | .hbm, ⟨2, _⟩ => ⟨S4x512x704, .f32⟩
  | .local _ .vmem, ⟨0, _⟩ => ⟨S1x1x512x704, .f32⟩
  | .local _ .vmem, ⟨1, _⟩ => ⟨S1x1x512x704, .f32⟩
  | .local _ .vmem, ⟨2, _⟩ => ⟨S1x512x704, .f32⟩
  | .local _ .vmem, ⟨3, _⟩ => ⟨S1x512x704, .f32⟩
  | .local _ .vmem, ⟨4, _⟩ => ⟨S1x512x704, .f32⟩
  | .local _ .vmem, ⟨5, _⟩ => ⟨S1x512x704, .f32⟩
  | .local _ .smem, ⟨0, _⟩ => ⟨S1, .i32⟩
  | _, _ => ⟨S4x2x512x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 1], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![arg0.toNat, v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x512x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== HalfUpRefIdeal.lean ====
abbrev S1 : Shape := ⟨1, ![1]⟩
abbrev S4x2x512x704 : Shape := ⟨4, ![4, 2, 512, 704]⟩
abbrev S4x512x704 : Shape := ⟨3, ![4, 512, 704]⟩
abbrev S_ : Shape := ⟨0, ![]⟩
abbrev S4x1x512x704 : Shape := ⟨4, ![4, 1, 512, 704]⟩

abbrev nBuf : Space → Nat
  | .hbm => 12
  | .vmem => 0
  | .smem => 0
  | _ => 0

abbrev bufTy : (tb : Table) → Fin (tcTables nBuf tb) → BufTy
  | .hbm, ⟨0, _⟩ => ⟨S1, .i32⟩
  | .hbm, ⟨1, _⟩ => ⟨S4x2x512x704, .f32⟩
  | .hbm, ⟨2, _⟩ => ⟨S4x512x704, .f32⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S4x1x512x704, .f32⟩
  | .hbm, ⟨7, _⟩ => ⟨S4x512x704, .f32⟩
  | .hbm, ⟨8, _⟩ => ⟨S4x1x512x704, .f32⟩
  | .hbm, ⟨9, _⟩ => ⟨S4x512x704, .f32⟩
  | .hbm, ⟨10, _⟩ => ⟨S4x512x704, .f32⟩
  | .hbm, ⟨11, _⟩ => ⟨S4x512x704, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== AddUp.lean ====
abbrev S1 : Shape := ⟨1, ![1]⟩
abbrev S4x512x704 : Shape := ⟨3, ![4, 512, 704]⟩
abbrev S3x512x704 : Shape := ⟨3, ![3, 512, 704]⟩
abbrev S512x704 : Shape := ⟨2, ![512, 704]⟩
abbrev S1x512x704 : Shape := ⟨3, ![1, 512, 704]⟩

abbrev nBuf : Space → Nat
  | .hbm => 3
  | .vmem => 3
  | .smem => 1
  | _ => 0

abbrev bufTy : (tb : Table) → Fin (tcTables nBuf tb) → BufTy
  | .hbm, ⟨0, _⟩ => ⟨S4x512x704, .f32⟩
  | .hbm, ⟨1, _⟩ => ⟨S3x512x704, .f32⟩
  | .hbm, ⟨2, _⟩ => ⟨S512x704, .f32⟩
  | .local _ .vmem, ⟨0, _⟩ => ⟨S1x512x704, .f32⟩
  | .local _ .vmem, ⟨1, _⟩ => ⟨S3x512x704, .f32⟩
  | .local _ .vmem, ⟨2, _⟩ => ⟨S512x704, .f32⟩
  | .local _ .smem, ⟨0, _⟩ => ⟨S1, .i32⟩
  | _, _ => ⟨S4x512x704, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x512x704 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x512x704 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x704 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== AddUpRefIdeal.lean ====
abbrev S1 : Shape := ⟨1, ![1]⟩
abbrev S4x512x704 : Shape := ⟨3, ![4, 512, 704]⟩
abbrev S3x512x704 : Shape := ⟨3, ![3, 512, 704]⟩
abbrev S_ : Shape := ⟨0, ![]⟩
abbrev S1x512x704 : Shape := ⟨3, ![1, 512, 704]⟩
abbrev S512x704 : Shape := ⟨2, ![512, 704]⟩

abbrev nBuf : Space → Nat
  | .hbm => 30
  | .vmem => 0
  | .smem => 0
  | _ => 0

abbrev bufTy : (tb : Table) → Fin (tcTables nBuf tb) → BufTy
  | .hbm, ⟨0, _⟩ => ⟨S1, .i32⟩
  | .hbm, ⟨1, _⟩ => ⟨S4x512x704, .f32⟩
  | .hbm, ⟨2, _⟩ => ⟨S3x512x704, .f32⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S_, .i32⟩
  | .hbm, ⟨7, _⟩ => ⟨S_, .i1⟩
  | .hbm, ⟨8, _⟩ => ⟨S1x512x704, .f32⟩
  | .hbm, ⟨9, _⟩ => ⟨S512x704, .f32⟩
  | .hbm, ⟨10, _⟩ => ⟨S1x512x704, .f32⟩
  | .hbm, ⟨11, _⟩ => ⟨S512x704, .f32⟩
  | .hbm, ⟨12, _⟩ => ⟨S512x704, .f32⟩
  | .hbm, ⟨13, _⟩ => ⟨S_, .i32⟩
  | .hbm, ⟨14, _⟩ => ⟨S_, .i1⟩
  | .hbm, ⟨15, _⟩ => ⟨S1x512x704, .f32⟩
  | .hbm, ⟨16, _⟩ => ⟨S512x704, .f32⟩
  | .hbm, ⟨17, _⟩ => ⟨S1x512x704, .f32⟩
  | .hbm, ⟨18, _⟩ => ⟨S512x704, .f32⟩
  | .hbm, ⟨19, _⟩ => ⟨S512x704, .f32⟩
  | .hbm, ⟨20, _⟩ => ⟨S512x704, .f32⟩
  | .hbm, ⟨21, _⟩ => ⟨S1x512x704, .f32⟩
  | .hbm, ⟨22, _⟩ => ⟨S512x704, .f32⟩
  | .hbm, ⟨23, _⟩ => ⟨S512x704, .f32⟩
  | .hbm, ⟨24, _⟩ => ⟨S1x512x704, .f32⟩
  | .hbm, ⟨25, _⟩ => ⟨S512x704, .f32⟩
  | .hbm, ⟨26, _⟩ => ⟨S512x704, .f32⟩
  | .hbm, ⟨27, _⟩ => ⟨S1x512x704, .f32⟩
  | .hbm, ⟨28, _⟩ => ⟨S512x704, .f32⟩
  | .hbm, ⟨29, _⟩ => ⟨S512x704, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== Proof.Launch.lean ====
/-
# Running one call that has no window

A collective that leaves every operand in place is one call without a window: no block is staged, and the body runs
once. Its remote copies write the buffers of other devices, and no device announces itself before the first copy
lands. So a sender must hold the part of its target's buffer that it writes from the very start. The launch theorem
here hands the own semaphores AND the unscoped buffers of all devices to one global step, which deals them out.
-/
module

public import Idealize.ShloMosaic.Lib.Pipeline.Launch
public import Idealize.ShloMosaic.Lib.Pipeline.Kit
public import Idealize.ShloMosaic.Lib.Quiescent
public import Idealize.ShloMosaic.Lib.Tactic

@[expose] public section

noncomputable section

namespace Cert.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : Nat} {τ : Topo} {sig : RefSig} {Val : EltTy → Type} {Λ₀ : Labels} {U : Type} [URA U]

local notation "𝕄" => MT nD τ sig Unit Val ℕ U ℕ

section Call

variable (cfgs : Fin 1 → Cfg sig Λ₀) [hW : ∀ p, IsEmpty (Fin (cfgs p).W)]

/-- The proof data of a call without a window: `Start` before the only point and `Done` after it, with the tallies
    `O₀` owed before and none owed after. -/
def callDat (O₀ : Dev nD → CellTallies nD τ sig Unit) (Start Done : Dev nD → sProp 𝕄) (p : Fin 1) (c : Dev nD) :
    Dat τ Val Unit ℕ U ℕ (cfgs p) c where
  A w := (hW p).elim w
  after w := (hW p).elim w
  Φ t := if t.val = 0 then Start c else Done c
  q w := (hW p).elim w
  owed t := if t.val = 0 then O₀ c else 0

/-- A separating conjunction over the windows of a call without a window is empty. -/
theorem bigSep_noWindow (p : Fin 1) (Φ : Fin (cfgs p).W → sProp 𝕄) : bigSep Finset.univ Φ = BI.emp := by
  rw [Finset.univ_eq_empty, BI.bigSep_empty]

/-- The obligation of the call's body, from its triple. -/
theorem call_body {O₀ : Dev nD → CellTallies nD τ sig Unit} {Start Done : Dev nD → sProp 𝕄} {defs₀ : Defs nD τ sig Val Λ₀}
    (hN : (cfgs 0).N = 1) (c : Dev nD)
    (hbody : ∀ (t : Fin (cfgs 0).N) (W : Finset (SemLoc sig × Unit)), (iprop(Start c ∗ owes (c.tc : Thread nD τ) (O₀ c) W) : sProp 𝕄)
      ⊢ wp frame (wpE defs₀ Variants.none (c.tc : Thread nD τ) none) Set.univ (defs₀ .tc (cfgs 0).body ((cfgs 0).bodyArgs t ((cfgs 0).slots t)))
          fun _ => iprop(Done c ∗ ∃ W', owes (c.tc : Thread nD τ) (0 : CellTallies nD τ sig Unit) W')) :
    BodyObligation (callDat (U := U) cfgs O₀ Start Done 0 c) defs₀ Variants.none () Set.univ := fun t => by
  rw [bigSep_noWindow]
  have ht : t.val = 0 := by have := t.isLt; omega
  have h0 : (callDat (U := U) cfgs O₀ Start Done 0 c).Φ t.castSucc = Start c := if_pos ht
  have h1 : (callDat (U := U) cfgs O₀ Start Done 0 c).Φ t.succ = Done c := by simp [callDat]
  have h2 : (callDat (U := U) cfgs O₀ Start Done 0 c).owed t.castSucc = O₀ c := if_pos ht
  have h3 : (callDat (U := U) cfgs O₀ Start Done 0 c).owed t.succ = 0 := by simp [callDat]
  unfold Dat.owesAt
  rw [h0, h1, h2, h3]
  unfold owesWithin
  iintro ⟨HS, ⟨%W, -, HO⟩, -⟩
  iapply (wp_wand frame (wpE defs₀ Variants.none (c.tc : Thread nD τ) none) Set.univ
    (Q := fun _ => iprop(Done c ∗ ∃ W', owes (c.tc : Thread nD τ) (0 : CellTallies nD τ sig Unit) W'))) $$ [HS HO]
  · iapply (hbody t W)
    isplitl [HS] <;> iassumption
  · iintro %a ⟨HD, ⟨%W', HO⟩⟩
    isplitl [HD]; · iexact HD
    isplitl [HO]
    · iexists W'
      isplitr
      · ipureintro
        exact fun x _ => Or.inl (Set.mem_univ x)
      iexact HO
    iapply (Entails.of_eq (bigSep_noWindow cfgs 0 _).symm)
    iempintro

/-- The cells of the TensorCores, and the one index their units are counted at. -/
def tcIx (g : GSem nD τ sig) : Finset Unit := if g.1.2 = .tc then {()} else ∅

/-- The levels of all cells, assigned once for the machine. -/
theorem levels_assign (lv : GSem nD τ sig → Unit → ℕ) :
    (bigSep Finset.univ fun c : Dev nD => levels0 (Ix := Unit) (Val := Val) (Name := ℕ) (U := U) (Lvl := ℕ) (τ := τ) (sig := sig) c)
      ⊢ (|==> levAts tcIx lv : sProp 𝕄) := by
  refine ((bigSep_mono fun c _ => lev_assign_cells (c.tc : Thread nD τ) tcIx lv).trans (BI.bigSep_bupd _ _)).trans (BI.bupd_mono ?_)
  have hother : (bigSep Finset.univ fun d : Dev nD => bigSep (Finset.univ.erase Proc.tc) fun q => (coreLevAts ((d, q) : Thread nD τ) tcIx lv : sProp 𝕄)) = BI.emp := by
    refine (bigSep_congr (Ψ := fun _ : Dev nD => (BI.emp : sProp 𝕄)) fun d _ => ?_).trans (BI.bigSep_emp_const _)
    refine (bigSep_congr (Ψ := fun _ : Proc τ => (BI.emp : sProp 𝕄)) fun q hq => ?_).trans (BI.bigSep_emp_const _)
    unfold coreLevAts
    refine (bigSep_congr (Ψ := fun _ : SemLoc sig => (BI.emp : sProp 𝕄)) fun sm _ => ?_).trans (BI.bigSep_emp_const _)
    rw [show tcIx (((d, q) : Thread nD τ), sm) = ∅ from if_neg (Finset.ne_of_mem_erase hq), BI.bigSep_empty]
  rw [show (levAts tcIx lv : sProp 𝕄) = bigSep Finset.univ fun c : Thread nD τ => coreLevAts c tcIx lv
      from bigSep_univ_prod fun g : GSem nD τ sig => bigSep (tcIx g) fun ι => levAt g ι (lv g ι),
    bigSep_threads (fun c : Thread nD τ => coreLevAts c tcIx lv), hother, bigSep_sep']
  exact (show iprop((bigSep Finset.univ fun c : Dev nD => bigSep Finset.univ fun sm : SemLoc sig => levels ((c.tc : Thread nD τ), sm) (tcIx ((c.tc : Thread nD τ), sm)))
      ∗ bigSep Finset.univ fun c : Dev nD => coreLevAts (c.tc : Thread nD τ) tcIx lv) ⊢ (_ : sProp 𝕄) from by
    iintro ⟨-, H⟩
    isplitl [H]; · iexact H
    iempintro)

/-- A program that is one call without a window and declares no scoped buffer, run from any memory with zero counters.
    `hstart` is the global step: from the scoped semaphores of all devices at zero, their unscoped buffers at the
    launch's contents, their launch credit and the levels, it makes what each device's body starts from. `hbody` is the
    body's triple: it hands the scoped semaphores back at zero and owes nothing. `hY` reads the final memory. -/
theorem run_call [∀ e, Nonempty (Val e)]
    (phinj : Function.Injective (cellOf (nD := nD) (τ := τ) cfgs)) (hN : (cfgs 0).N = 1)
    (hnobuf : ∀ b : Ref sig .tc, b.isScoped = false)
    (EP : Emb (URounds (GSem nD τ sig) Unit) 𝕄) (defs₀ : Defs nD τ sig Val Λ₀)
    (m : (ℓ : Loc nD τ sig) → Buf Val ℓ) (g : Dev nD → PrngReg)
    (main : Dev nD → Prog (TpuEff nD τ sig Val (Pipeline.Sig Λ₀ (Fin 1) fun p => ((cfgs p).toPCfg (Val := Val)).Adm) .tc) PUnit)
    (hmain : ∀ c, main c = .op (.customCall (entry 0) ()) fun _ => .ret ⟨⟩)
    (O₀ : Dev nD → CellTallies nD τ sig Unit) (lv : GSem nD τ sig → Unit → ℕ) (Start Done : Dev nD → sProp 𝕄)
    (hbody : ∀ c (t : Fin (cfgs 0).N) (W : Finset (SemLoc sig × Unit)), (iprop(Start c ∗ owes (c.tc : Thread nD τ) (O₀ c) W) : sProp 𝕄)
      ⊢ wp frame (wpE defs₀ Variants.none (c.tc : Thread nD τ) none) Set.univ (defs₀ .tc (cfgs 0).body ((cfgs 0).bodyArgs t ((cfgs 0).slots t)))
          fun _ => iprop((Done c ∗ scopedSems0 (c.tc : Thread nD τ)) ∗ ∃ W', owes (c.tc : Thread nD τ) (0 : CellTallies nD τ sig Unit) W'))
    (u₀ : U)
    (hstart : iprop(ownU u₀ ∗ levAts tcIx lv
        ∗ (bigSep Finset.univ fun c : Dev nD => scopedSems0 (c.tc : Thread nD τ))
        ∗ (bigSep Finset.univ fun c : Dev nD => unscopedBufs c (fun b => m ((c.tc : Thread nD τ).loc b)))
        ∗ (bigSep Finset.univ fun c : Dev nD => launchCred O₀ c))
      ⊢ |={Set.univ}=> bigSep Finset.univ Start)
    (QY : Dev nD → MemSt nD τ sig Val → Prop)
    (hY : ∀ c (s' : Phys nD τ sig Val), iprop(Done c ∗ SI s') ⊢ |={Set.univ}=> iprop(⌜QY c s'.mem⌝ ∗ SI s')) :
    θ_run (Pipeline.defs (fun p => (cfgs p).toPCfg) defs₀) (onTc main) ⟨m, fun _ => 0, g⟩
      (fun r => (∀ c, QY c r.2) ∧ ∀ g' : GSem nD τ sig, (g'.1.2 ≠ .tc ∨ g'.2.isScoped .tc = true) → r.2.sem g' = 0) := by
  classical
  let pcs : Fin 1 → PCfg sig Λ₀ Val := fun p => (cfgs p).toPCfg
  let dats := callDat (U := U) cfgs O₀ Start (fun c => iprop(Done c ∗ scopedSems0 (c.tc : Thread nD τ)))
  have hsb (c : Dev nD) : (scopedBufs (c.tc : Thread nD τ) : sProp 𝕄) = BI.emp := by
    rw [show (scopedBufs (c.tc : Thread nD τ) : sProp 𝕄) = _ from scopedBufs_tc c,
      Finset.filter_false_of_mem (fun b _ => by rw [hnobuf b]; decide), BI.bigSep_empty]
  let fin : Dev nD → sProp 𝕄 := fun c => iprop(Done c ∗ scopedSems0 (c.tc : Thread nD τ))
  refine (θ_run (Pipeline.defs pcs defs₀) _ _).mono
    (Q := fun r => (∀ c : Dev nD, QY c r.2 ∧ ∀ sm : SemLoc sig, sm.isScoped .tc = true → r.2.sem ((c.tc : Thread nD τ), sm) = 0)
      ∧ ∀ g' : GSem nD τ sig, g'.1.2 ≠ .tc → r.2.sem g' = 0)
    (fun r hr => ⟨fun c => (hr.1 c).1, sems_of_reads (fun c => (hr.1 c).2) hr.2⟩)
    (adequate_tpu (Pipeline.defs pcs defs₀) _ _ _
      (reflect_intro_fupd_tc_sems (X := Unit) (Variants.lift Variants.none) (owing O₀) 0 (noBookings fun _ => le_rfl) (owing_of_ne O₀) u₀
        (fun _ c => iprop(Start c ∗ owes (c.tc : Thread nD τ) (O₀ c) ∅)) (fun _ => fin) (fun _ => iprop(emp)) Set.univ ?_ (fun _ c => ?_) fun _ => ?_))
  · have hcore (c : Dev nD) :
        coreInit (Ix := Unit) (Name := ℕ) (U := U) (Lvl := ℕ) (owing O₀) 0 (⟨m, fun _ => 0, g⟩ : MemSt nD τ sig Val) (c.tc : Thread nD τ)
          ⊢ iprop(scopedSems0 (c.tc : Thread nD τ) ∗ unscopedBufs c (fun b => m ((c.tc : Thread nD τ).loc b))
              ∗ owes (c.tc : Thread nD τ) (O₀ c) ∅ ∗ levels0 c ∗ launchCred O₀ c) :=
      (coreInit_boundary_owing O₀ m g c).trans (by
        unfold boundary
        iintro ⟨⟨-, Hs, -⟩, Hub, -, HL, Hlv, -, Hcr⟩
        isplitl [Hs]; · iexact Hs
        isplitl [Hub]; · iexact Hub
        isplitl [HL]; · iexact HL
        isplitl [Hlv] <;> iassumption)
    have hcores : (bigSep Finset.univ fun c : Dev nD =>
          coreInit (Ix := Unit) (Name := ℕ) (U := U) (Lvl := ℕ) (owing O₀) 0 (⟨m, fun _ => 0, g⟩ : MemSt nD τ sig Val) (c.tc : Thread nD τ))
        ⊢ iprop((bigSep Finset.univ fun c : Dev nD => scopedSems0 (c.tc : Thread nD τ))
          ∗ (bigSep Finset.univ fun c : Dev nD => unscopedBufs c (fun b => m ((c.tc : Thread nD τ).loc b)))
          ∗ (bigSep Finset.univ fun c : Dev nD => owes (c.tc : Thread nD τ) (O₀ c) ∅)
          ∗ (bigSep Finset.univ fun c : Dev nD => levels0 c)
          ∗ (bigSep Finset.univ fun c : Dev nD => launchCred O₀ c)) := by
      refine (bigSep_mono fun c _ => hcore c).trans ?_
      simp only [bigSep_sep']
      exact BI.Entails.refl _
    simp only [bigSep_sep']
    iintro ⟨Hcores, Hu⟩
    ihave Hc := hcores $$ Hcores
    icases Hc with ⟨Hs, Hub, HL, Hlv, Hcr⟩
    imod (levels_assign lv) $$ Hlv with Hla
    imod hstart $$ [Hu Hla Hs Hub Hcr] with HS
    · isplitl [Hu]; · iexact Hu
      isplitl [Hla]; · iexact Hla
      isplitl [Hs]; · iexact Hs
      isplitl [Hub] <;> iassumption
    imodintro
    iexists ()
    isplitl [HS HL]
    · isplitl [HS] <;> iassumption
    · iempintro
  · rw [hmain c]
    iintro ⟨HS, HL⟩
    iapply (PerCore.wp_customCall_entry_frame pcs (fun _ p => (cfgs p).toPCfg_adm) dats () EP (fun _ => 0) phinj 0 defs₀ Variants.none
        (fun _ => fullShare.right) c Set.univ (fun _ _ => Set.mem_univ _) (call_body cfgs hN c (hbody c)).loose (fun w => (hW 0).elim w) none
        (fun u h => nomatch h) (X := Start c) (Y := Done c) (R := iprop(emp)) (I := iprop(emp)) ?_ ?_ ?_
        (k := fun _ => .ret ⟨⟩) (Q := fun _ => post (liftTc fin BI.emp) (c.tc : Thread nD τ))) $$ [HS HL]
    · rw [hsb c]
      unfold Dat.staging
      iintro -
      isplitr
      · iapply (Entails.of_eq (bigSep_noWindow cfgs 0 _).symm); iempintro
      · iempintro
    · iintro ⟨HS, -, -⟩
      iapply (Entails.of_eq (show Start c = (dats 0 c).Φ 0 from by simp [dats, callDat]))
      iexact HS
    · iintro ⟨HD, -, -, -⟩
      ihave H := (Entails.of_eq (show (dats 0 c).Φ (Fin.last (cfgs 0).N) = iprop(Done c ∗ scopedSems0 (c.tc : Thread nD τ)) from
        if_neg (by rw [Fin.val_last, hN]; exact Nat.one_ne_zero))) $$ HD
      rw [hsb c]
      icases H with ⟨HD, Hs⟩
      isplitl [HD]; · iexact HD
      isplitl [Hs]; · iexact Hs
      iempintro
    · isplitl [HL]
      · unfold PerCore.EntryPre Dat.owesAt owesWithin
        isplitr; · iapply (Entails.of_eq (show (BI.emp : sProp 𝕄) = ((dats 0 c).arrays fun x => (dats 0 c).arrAt x 0) from (bigSep_noWindow cfgs 0 _).symm)); iempintro
        isplitl [HL]
        · iexists ∅
          isplitr; · ipureintro; rw [Finset.coe_empty]; exact Set.empty_subset _
          iapply (Entails.of_eq (show owes (c.tc : Thread nD τ) (O₀ c) ∅ = owes (c.tc : Thread nD τ) ((dats 0 c).owed 0) ∅ from by simp [dats, callDat]))
          iexact HL
        isplitr; · iapply (Entails.of_eq (show (BI.emp : sProp 𝕄) = (PerCore.cellsWaits (pinD pcs fun _ p => (cfgs p).toPCfg_adm) dats () 0 c) from (bigSep_noWindow cfgs 0 _).symm)); iempintro
        isplitr; · iapply (Entails.of_eq (show (BI.emp : sProp 𝕄) = (PerCore.cellsInit (pinD pcs fun _ p => (cfgs p).toPCfg_adm) dats EP (fun _ => 0) 0 c) from (bigSep_noWindow cfgs 0 _).symm)); iempintro
        iapply (Entails.of_eq (show (BI.emp : sProp 𝕄) = (PerCore.toksInit (pinD pcs fun _ p => (cfgs p).toPCfg_adm) EP 0 c) from (bigSep_noWindow cfgs 0 _).symm)); iempintro
      isplitr
      · unfold prefHeld
        iapply (Entails.of_eq (show BI.emp = bigSep (Finset.univ : Finset (Fin 0)) _ from by rw [Finset.univ_eq_empty, BI.bigSep_empty])); iempintro
      isplitl [HS]; · iexact HS
      isplitr; · iempintro
      rw [hsb c]; iempintro
    iintro ⟨Hpost, HD, Hs, -⟩
    rw [wp_ret]; imodintro
    unfold post; simp only [liftTc_tc, fin]
    isplitl [HD Hs]
    · isplitl [HD] <;> iassumption
    unfold PerCore.EntryPost
    unfold Dat.owesAt owesWithin
    icases Hpost with ⟨-, ⟨%W, -, Ho⟩⟩
    iexists W
    iapply (Entails.of_eq (show owes (c.tc : Thread nD τ) ((dats 0 c).owed (Fin.last (cfgs 0).N)) W = owes (c.tc : Thread nD τ) 0 W from by simp [dats, callDat, hN]))
    iexact Ho
  · iintro ⟨H, -, Hsc⟩ %s' HSI
    ihave %hsc := (scSems_read_zero m g s') $$ [Hsc HSI]
    · isplitl [Hsc] <;> iassumption
    imod (posts_fupd (Φ := fin) (q := fun c s' => QY c s'.mem ∧ ∀ sm : SemLoc sig, sm.isScoped .tc = true → s'.mem.sem ((c.tc : Thread nD τ), sm) = 0)
      Finset.univ (fun c s' => ?_) s') $$ [H HSI] with %h
    · iintro ⟨⟨HD, Hs⟩, HSI⟩
      ihave %hz := (tcScoped_read_pers c s') $$ [Hs HSI]
      · isplitl [Hs] <;> iassumption
      imod (hY c s') $$ [HD HSI] with ⟨%hy, HSI⟩
      · isplitl [HD] <;> iassumption
      imodintro
      isplitr; · ipureintro; exact ⟨hy, hz⟩
      iexact HSI
    · isplitl [H] <;> iassumption
    imodintro
    ipureintro
    exact ⟨fun c => h c (Finset.mem_univ c), hsc⟩

end Call

end Cert.Exchange

end
-- ==== Proof.Copies.lean ====
/-
# Exchanges in which every semaphore is used once

An exchange call starts local copies and remote copies, waits for each of them, and ends. Every copy has semaphores of
its own: a local copy one, a remote copy one for the sender and one for the receiver. `Net` records the copies of all
devices, and `Net.body` is the program of one device: the local copies, the first remote copies, then pairs of a wait for
an arrival and a remote copy that passes the arrived piece on, then the remaining waits.

The protocol has one duty per semaphore. The duty of a receive semaphore hands its owner the piece that the copy wrote,
at the contents `fin`, the memory after the call. The duty of a send semaphore hands back nothing: a sender keeps a share
of its operands apart. A sender holds the piece of its target that it writes from the start, since no device announces
itself before the first copy lands.
-/
module

public import proofs.«01_k».proof.Proof.Launch
public import Idealize.ShloMosaic.Lib.Pipeline.BigSepL

@[expose] public section

noncomputable section

namespace Cert.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

/-! ## Copies and waits -/

/-- A remote copy of a TensorCore: `src` here to `dst` on device `tgt`. -/
structure Remote (nD : Nat) (τ : Topo) (sig : RefSig) where
  sp : Space
  sp' : Space
  s : Shape
  e : EltTy
  src : Memref sig .tc sp s e
  dst : Memref sig .tc sp' s e
  tgt : Dev nD
  sendSem : DmaSem sig
  recvSem : DmaSem sig
  hsrc : src.view.WordExact
  hdst : dst.view.WordExact
  hsc : dst.view.ref.isScScratch = false
  hsem : DmaTarget.Typed (nD := nD) (τ := τ) (p := .tc) sp (.dma recvSem) (.remote (Dev.tc tgt : Thread nD τ) dst (.dma sendSem) hsc)

/-- A local copy of a TensorCore. -/
structure Local (nD : Nat) (τ : Topo) (sig : RefSig) where
  sp : Space
  sp' : Space
  s : Shape
  e : EltTy
  src : Memref sig .tc sp s e
  dst : Memref sig .tc sp' s e
  sem : DmaSem sig
  hsrc : src.view.WordExact
  hdst : dst.view.WordExact
  hsem : DmaTarget.Typed (nD := nD) (τ := τ) (p := .tc) sp (.dma sem) (.here dst)

/-- A wait of a TensorCore on a DMA semaphore. -/
structure Await (sig : RefSig) where
  sem : DmaSem sig
  b : Ref sig .tc
  s : Shape
  e : EltTy
  h : b.HasMemref s e

variable {nD : Nat} {τ : Topo} {sig : RefSig} {Val : EltTy → Type} {Λ : Labels} {J JL : Type}

/-- The operation of a remote copy. -/
abbrev Remote.op (r : Remote nD τ sig) : TpuEff nD τ sig Val Λ .tc PUnit :=
  .enqueueDma r.src (.remote (Dev.tc r.tgt : Thread nD τ) r.dst (.dma r.sendSem) r.hsc) (.dma r.recvSem) r.hsrc r.hdst r.hsem

/-- The operation of a local copy. -/
abbrev Local.op (r : Local nD τ sig) : TpuEff nD τ sig Val Λ .tc PUnit :=
  .enqueueDma r.src (.here r.dst) (.dma r.sem) r.hsrc r.hdst r.hsem

/-- The operation of a wait. -/
abbrev Await.op (w : Await sig) : TpuEff nD τ sig Val Λ .tc PUnit := .waitDma w.sem w.b w.s w.e (.inr w.h)

/-- The copies and waits of an exchange. Remote copies are indexed by `J`, local copies by `JL`; a semaphore is the send
    or the receive semaphore of a remote copy or the semaphore of a local copy, and `cells` says which. Copy `j` goes
    from device `c` to device `perm j c`. -/
structure Net (nD : Nat) (τ : Topo) (sig : RefSig) (J JL : Type) where
  rem : Dev nD → J → Remote nD τ sig
  loc : Dev nD → JL → Local nD τ sig
  wait : Dev nD → (J ⊕ J) ⊕ JL → Await sig
  perm : J → Equiv.Perm (Dev nD)
  cells : ((J ⊕ J) ⊕ JL) ≃ SemLoc sig
  amt : J → ℕ
  amtL : JL → ℕ
  to_eq : ∀ c j, (rem c j).tgt = perm j c
  send_eq : ∀ c j, .dma (rem c j).sendSem = cells (.inl (.inl j))
  recv_eq : ∀ c j, .dma (rem c j).recvSem = cells (.inl (.inr j))
  loc_eq : ∀ c l, .dma (loc c l).sem = cells (.inr l)
  wait_eq : ∀ c k, .dma (wait c k).sem = cells k
  amt_eq : ∀ c j, (rem c j).dst.view.dmaCredit = amt j
  amtL_eq : ∀ c l, (loc c l).dst.view.dmaCredit = amtL l
  amt_pos : ∀ j, 0 < amt j
  amtL_pos : ∀ l, 0 < amtL l
  wait_amt : ∀ c k, (wait c k).b.dmaCredit (wait c k).s (wait c k).e = (match k with | .inl (.inl j) => amt j | .inl (.inr j) => amt j | .inr l => amtL l)

namespace Net

variable (X : Net nD τ sig J JL)

/-- The credit of a semaphore's copy. -/
def amtK : (J ⊕ J) ⊕ JL → ℕ
  | .inl (.inl j) => X.amt j
  | .inl (.inr j) => X.amt j
  | .inr l => X.amtL l

theorem amtK_pos (k : (J ⊕ J) ⊕ JL) : 0 < X.amtK k := by
  rcases k with (j | j) | l
  exacts [X.amt_pos j, X.amt_pos j, X.amtL_pos l]

theorem wait_amtK (c : Dev nD) (k : (J ⊕ J) ⊕ JL) : (X.wait c k).b.dmaCredit (X.wait c k).s (X.wait c k).e = X.amtK k := by
  rw [X.wait_amt]; rcases k with (j | j) | l <;> rfl

/-- The cell of index `k` on device `c`. -/
abbrev cell (c : Dev nD) (k : (J ⊕ J) ⊕ JL) : GSem nD τ sig := ((c.tc : Thread nD τ), X.cells k)

/-- Device `c` starts the local copies of a list, then goes on. -/
def locals (c : Dev nD) : List JL → Prog (TpuEff nD τ sig Val Λ .tc) PUnit → Prog (TpuEff nD τ sig Val Λ .tc) PUnit
  | [], k => k
  | l :: ls, k => .op (X.loc c l).op fun _ => locals c ls k

/-- Device `c` starts the remote copies of a list, then goes on. -/
def sends (c : Dev nD) : List J → Prog (TpuEff nD τ sig Val Λ .tc) PUnit → Prog (TpuEff nD τ sig Val Λ .tc) PUnit
  | [], k => k
  | j :: js, k => .op (X.rem c j).op fun _ => sends c js k

/-- For each pair of a list device `c` waits for the arrival of the first copy and starts the second, then goes on. -/
def passes (c : Dev nD) : List (J × J) → Prog (TpuEff nD τ sig Val Λ .tc) PUnit → Prog (TpuEff nD τ sig Val Λ .tc) PUnit
  | [], k => k
  | p :: ps, k => .op (X.wait c (.inl (.inr p.1))).op fun _ => .op (X.rem c p.2).op fun _ => passes c ps k

/-- Device `c` waits for the semaphores of a list, then goes on. -/
def waits (c : Dev nD) : List ((J ⊕ J) ⊕ JL) → Prog (TpuEff nD τ sig Val Λ .tc) PUnit → Prog (TpuEff nD τ sig Val Λ .tc) PUnit
  | [], k => k
  | w :: ws, k => .op (X.wait c w).op fun _ => waits c ws k

/-- The program of device `c`: local copies, first remote copies, passed-on copies, waits. -/
def body (c : Dev nD) (ll : List JL) (ls : List J) (lp : List (J × J)) (lw : List ((J ⊕ J) ⊕ JL)) : Prog (TpuEff nD τ sig Val Λ .tc) PUnit :=
  X.locals c ll (X.sends c ls (X.passes c lp (X.waits c lw (.ret ⟨⟩))))

end Net

/-! ## The protocol -/

/-- The ghost state of an exchange is that of its rounds. -/
abbrev UX (nD : Nat) (τ : Topo) (sig : RefSig) : Type := URounds (GSem nD τ sig) Unit

local notation "𝕄" => MT nD τ sig Unit Val ℕ (UX nD τ sig) ℕ

/-- The rounds' ghost state in the logic's. -/
def EX : Emb (UX nD τ sig) (MT nD τ sig Unit Val ℕ (UX nD τ sig) ℕ) :=
  (Emb.refl _).trans (uEmb (nD := nD) (sig := sig) (Ix := Unit) (Val := Val) (Name := ℕ) (U := UX nD τ sig) (Lvl := ℕ)).toEmb

instance EX_landsIn : (EX : Emb (UX nD τ sig) 𝕄).LandsIn (upEmb : UEmb _ 𝕄) := by unfold EX; infer_instance

namespace Net

variable (X : Net nD τ sig J JL)
variable (m fin : (ℓ : Loc nD τ sig) → Buf Val ℓ)

/-- The piece that copy `j` from device `e` writes on device `d`, at the contents of memory `v` and share `q`. -/
def piece (v : (ℓ : Loc nD τ sig) → Buf Val ℓ) (q : PosShare TreeShare) (e d : Dev nD) (j : J) : sProp 𝕄 :=
  (X.rem e j).dst.view.loc (d.tc : Thread nD τ) ↦[(X.rem e j).dst.view.set]{q} v _

/-- The piece that local copy `l` writes on device `d`, at the contents of memory `v` and share `q`. -/
def pieceL (v : (ℓ : Loc nD τ sig) → Buf Val ℓ) (q : PosShare TreeShare) (d : Dev nD) (l : JL) : sProp 𝕄 :=
  (X.loc d l).dst.view.loc (d.tc : Thread nD τ) ↦[(X.loc d l).dst.view.set]{q} v _

/-- The elements that copy `j` of device `c` reads, at the contents of memory `v` and some share. -/
def source (v : (ℓ : Loc nD τ sig) → Buf Val ℓ) (c : Dev nD) (j : J) : sProp 𝕄 :=
  iprop(∃ q : PosShare TreeShare, (X.rem c j).src.view.loc (c.tc : Thread nD τ) ↦[(X.rem c j).src.view.set]{q} v _)

/-- The elements that local copy `l` of device `c` reads, at the contents of memory `v` and some share. -/
def sourceL (v : (ℓ : Loc nD τ sig) → Buf Val ℓ) (c : Dev nD) (l : JL) : sProp 𝕄 :=
  iprop(∃ q : PosShare TreeShare, (X.loc c l).src.view.loc (c.tc : Thread nD τ) ↦[(X.loc c l).src.view.set]{q} v _)

/-- What arrives on device `d` by copy `j`. -/
def got (d : Dev nD) (j : J) : sProp 𝕄 := X.piece fin fullShare ((X.perm j).symm d) d j

/-- What the duty of the semaphore of index `k` hands its owner, device `d`. -/
def pay (d : Dev nD) : (J ⊕ J) ⊕ JL → sProp 𝕄
  | .inl (.inl _) => iprop(emp)
  | .inl (.inr j) => X.got fin d j
  | .inr l => X.pieceL fin fullShare d l

instance pay_storable (d : Dev nD) (k : (J ⊕ J) ⊕ JL) : BI.Storable (upEmb : UEmb _ 𝕄) (X.pay fin d k) := by
  rcases k with (j | j) | l
  · show BI.Storable upEmb (iprop(emp) : sProp 𝕄); infer_instance
  · show BI.Storable upEmb (X.got fin d j); unfold got piece; infer_instance
  · show BI.Storable upEmb (X.pieceL fin fullShare d l); unfold pieceL; infer_instance

/-- The schedule: one duty per semaphore of a TensorCore, in round 0. -/
def sched : Schedule (GSem nD τ sig) Unit 𝕄 where
  duties g r := if r = 0 ∧ g.1.2 = .tc then {()} else ∅
  amount g _ _ := X.amtK (X.cells.symm g.2)
  payload g _ _ := X.pay fin g.1.1 (X.cells.symm g.2)
  amount_pos g _ _ _ := X.amtK_pos _

instance sched_storable (g : GSem nD τ sig) (r : ℕ) (d : Unit) : BI.Storable (upEmb : UEmb _ 𝕄) ((X.sched fin).payload g r d) := by
  show BI.Storable upEmb (X.pay fin g.1.1 (X.cells.symm g.2)); infer_instance

theorem duties_zero (c : Dev nD) (sm : SemLoc sig) : (X.sched fin).duties ((c.tc : Thread nD τ), sm) 0 = {()} := by
  dsimp only [sched]; exact if_pos ⟨rfl, rfl⟩
theorem duties_later (g : GSem nD τ sig) (r : ℕ) (h : 1 ≤ r) : (X.sched fin).duties g r = ∅ := by
  dsimp only [sched]; exact if_neg fun h' => by omega
theorem amount_cell (c : Dev nD) (k : (J ⊕ J) ⊕ JL) (u : Unit) : (X.sched fin).amount (X.cell c k) 0 u = X.amtK k := by
  show X.amtK (X.cells.symm (X.cells k)) = _; rw [Equiv.symm_apply_apply]
theorem payload_cell (c : Dev nD) (k : (J ⊕ J) ⊕ JL) (u : Unit) : (X.sched fin).payload (X.cell c k) 0 u = X.pay fin c k := by
  show X.pay fin c (X.cells.symm (X.cells k)) = _; rw [Equiv.symm_apply_apply]
theorem expect_cell (c : Dev nD) (k : (J ⊕ J) ⊕ JL) : (X.sched fin).expect (X.cell c k) 0 = X.amtK k := by
  unfold Schedule.expect Schedule.amountOf; rw [duties_zero, Finset.sum_singleton, amount_cell]
theorem rest_cell (c : Dev nD) (k : (J ⊕ J) ⊕ JL) :
    bigSep ((X.sched fin).duties (X.cell c k) 0 \ ∅) (fun u => (X.sched fin).payload (X.cell c k) 0 u) = X.pay fin c k := by
  rw [Finset.sdiff_empty, duties_zero, bigSep_singleton, payload_cell]

/-- The records of all cells: the invariant of each, at the name `κ` gives it, and that its round 0 is reached. -/
def recs (κ : GSem nD τ sig → ℕ) : sProp 𝕄 :=
  iprop((bigSep Finset.univ fun ck : Dev nD × SemLoc sig => cellInv EX (X.sched fin) (κ ((ck.1.tc : Thread nD τ), ck.2)) ((ck.1.tc : Thread nD τ), ck.2))
    ∗ bigSep Finset.univ fun ck : Dev nD × SemLoc sig => reached EX ((ck.1.tc : Thread nD τ), ck.2) 0)

instance recs_persistent (κ : GSem nD τ sig → ℕ) : BI.Persistent (X.recs fin κ) := by unfold recs; infer_instance

theorem recs_inv (κ : GSem nD τ sig → ℕ) (c : Dev nD) (sm : SemLoc sig) :
    X.recs fin κ ⊢ (cellInv EX (X.sched fin) (κ ((c.tc : Thread nD τ), sm)) ((c.tc : Thread nD τ), sm) : sProp 𝕄) := by
  have h := bigSep_elim (Φ := fun ck : Dev nD × SemLoc sig => (cellInv EX (X.sched fin) (κ ((ck.1.tc : Thread nD τ), ck.2)) ((ck.1.tc : Thread nD τ), ck.2) : sProp 𝕄))
    (Finset.mem_univ (c, sm))
  unfold recs
  exact BI.BIBase.Entails.trans sep_elim_left h

theorem recs_reached (κ : GSem nD τ sig → ℕ) (c : Dev nD) (sm : SemLoc sig) :
    X.recs fin κ ⊢ (reached EX ((c.tc : Thread nD τ), sm) 0 : sProp 𝕄) := by
  have h := bigSep_elim (Φ := fun ck : Dev nD × SemLoc sig => (reached EX ((ck.1.tc : Thread nD τ), ck.2) 0 : sProp 𝕄)) (Finset.mem_univ (c, sm))
  unfold recs
  exact BI.BIBase.Entails.trans sep_elim_right h

/-! ## What a device owes -/

/-- What copy `j` of device `c` owes: its credit at the receive semaphore of its target. -/
def due (c : Dev nD) (j : J) : CellTallies nD τ sig Unit := tallyAt (X.cell (X.perm j c) (.inl (.inr j))) () (X.amt j)

/-- What the copies of a list owe. -/
def dues (c : Dev nD) : List J → CellTallies nD τ sig Unit
  | [] => 0
  | j :: js => dues c js + X.due c j

theorem dues_append (c : Dev nD) (l l' : List J) : X.dues c (l ++ l') = X.dues c l' + X.dues c l := by
  induction l with
  | nil => show _ = X.dues c l' + 0; rw [add_zero]; rfl
  | cons j l ih => show X.dues c (l ++ l') + X.due c j = X.dues c l' + (X.dues c l + X.due c j); rw [ih, add_assoc]

theorem dues_pos (c : Dev nD) (l : List J) (g : GSem nD τ sig) (i : Unit) (h : 0 < X.dues c l g i) :
    ∃ j ∈ l, g = X.cell (X.perm j c) (.inl (.inr j)) := by
  induction l with
  | nil => exact absurd h (Nat.lt_irrefl 0)
  | cons j l ih =>
    have h' : 0 < X.dues c l g i + X.due c j g i := h
    by_cases hl : 0 < X.dues c l g i
    · obtain ⟨j', hj', e⟩ := ih hl; exact ⟨j', List.mem_cons_of_mem _ hj', e⟩
    · have hd : 0 < X.due c j g i := by omega
      unfold due at hd
      rw [tallyAt_apply] at hd
      by_cases hg : g = X.cell (X.perm j c) (.inl (.inr j)) ∧ i = ()
      · exact ⟨j, List.mem_cons_self, hg.1⟩
      · rw [if_neg hg] at hd; exact absurd hd (Nat.lt_irrefl 0)

/-- The level of a cell: `rank j` for the receive semaphore of copy `j`. -/
def lev (rank : J → ℕ) (g : GSem nD τ sig) (_ : Unit) : ℕ :=
  match X.cells.symm g.2 with
  | .inl (.inr j) => rank j
  | _ => 0

theorem lev_recv (rank : J → ℕ) (c : Dev nD) (j : J) : X.lev rank (X.cell c (.inl (.inr j))) () = rank j := by
  unfold lev; simp only [Equiv.symm_apply_apply]

/-- Device `c` may wait for the arrival of copy `j` while it owes copies of higher rank. -/
theorem mayWait (rank : J → ℕ) (c : Dev nD) (j : J) (l : List J) (h : ∀ j' ∈ l, rank j < rank j') :
    (levAts tcIx (X.lev rank) : sProp 𝕄) ⊢ MayWait (c.tc : Thread nD τ) (X.cells (.inl (.inr j))) () (X.dues c l) :=
  mayWait_of_levAts (L := tcIx) (lev := X.lev rank) (by unfold tcIx; rw [if_pos rfl]; exact Finset.mem_singleton_self _)
    fun g i hg => by
      obtain ⟨j', hj', rfl⟩ := X.dues_pos c l g i hg
      refine ⟨by unfold tcIx; rw [if_pos rfl]; exact Finset.mem_singleton_self _, ?_⟩
      have h1 := X.lev_recv rank c j
      have h2 := X.lev_recv rank (X.perm j' c) j'
      rw [show i = () from rfl, h1, h2]
      exact h j' hj'

/-! ## One step each -/

section Steps

variable {α : Type} {defs : Defs nD τ sig Val Λ}

/-- The tokens of a remote copy: of its send semaphore and of its receive semaphore. -/
def toks (c : Dev nD) (j : J) : sProp 𝕄 :=
  iprop(dutyTok EX (X.cell c (.inl (.inl j))) 0 () ∗ dutyTok EX (X.cell (X.perm j c) (.inl (.inr j))) 0 ())

/-- The credit for the wait on the semaphore of index `k`. -/
def credK (c : Dev nD) (k : (J ⊕ J) ⊕ JL) : sProp 𝕄 := cred (tallyAt (X.cell c k) () (X.amtK k))

/-- The owner's place at the start of the semaphore of index `k`, and after its only round. -/
def at0 (c : Dev nD) (k : (J ⊕ J) ⊕ JL) : sProp 𝕄 := atPos EX (X.cell c k) 0 ∅ 0
def at1 (c : Dev nD) (k : (J ⊕ J) ⊕ JL) : sProp 𝕄 := atPos EX (X.cell c k) 1 ∅ 0

/-- Starting a remote copy: the sender gives a share of the source, the piece of the target, both tokens and pays what it
    owes for the copy; it gets the credit of its send semaphore. -/
theorem send_step (base : J → (ℓ : Loc nD τ sig) → Buf Val ℓ) (κ : GSem nD τ sig → ℕ) (c : Dev nD) (j : J)
    (hval : ∀ i ∈ (X.rem c j).dst.view.set,
      (X.rem c j).dst.view.write Val (m ((X.rem c j).dst.view.loc ((X.perm j c).tc : Thread nD τ)))
        ((X.rem c j).src.view.read Val (base j ((X.rem c j).src.view.loc (c.tc : Thread nD τ)))) Finset.univ i
        = fin ((X.rem c j).dst.view.loc ((X.perm j c).tc : Thread nD τ)) i)
    (O : CellTallies nD τ sig Unit) (W : Finset (SemLoc sig × Unit)) (k : PUnit → Prog (TpuEff nD τ sig Val Λ .tc) α) (Q : α → sProp 𝕄) :
    (iprop(X.recs fin κ ∗ X.source (base j) c j ∗ X.piece m fullShare c (X.perm j c) j ∗ X.toks c j ∗ owes (c.tc : Thread nD τ) (O + X.due c j) W) : sProp 𝕄)
      ⊢ iprop(((X.credK c (.inl (.inl j)) ∗ owes (c.tc : Thread nD τ) O W) -∗ wp frame (wpE defs Variants.none (c.tc : Thread nD τ) none) Set.univ (k ⟨⟩) Q)
          -∗ wp frame (wpE defs Variants.none (c.tc : Thread nD τ) none) Set.univ (.op (X.rem c j).op k) Q) := by
  have hS := X.send_eq c j
  have hR := X.recv_eq c j
  have hA := X.amt_eq c j
  have hT := X.to_eq c j
  have hgot : (X.piece fin fullShare c (X.perm j c) j : sProp 𝕄) = X.got fin (X.perm j c) j := by
    unfold got; rw [Equiv.symm_apply_apply]
  have h0 : ∀ R : sProp 𝕄, R ⊢ (iprop(emp) : sProp 𝕄) := fun R => by iintro -; iempintro
  unfold source toks piece credK
  unfold piece at hgot
  generalize X.rem c j = r at hval hS hR hA hT hgot ⊢
  obtain ⟨sp, sp', s, e, src, dst, tgt, sS, sR, hsrc, hdst, hsc, hsem⟩ := r
  dsimp only at hval hS hR hA hT hgot ⊢
  subst hT
  have hd1 : () ∈ (X.sched fin).duties ((c.tc : Thread nD τ), .dma sS) 0 := by rw [duties_zero]; exact Finset.mem_singleton_self _
  have hd2 : () ∈ (X.sched fin).duties (((X.perm j c).tc : Thread nD τ), .dma sR) 0 := by rw [duties_zero]; exact Finset.mem_singleton_self _
  have hk1 : (X.sched fin).amount ((c.tc : Thread nD τ), .dma sS) 0 () = X.amt j := by rw [hS]; exact X.amount_cell fin c _ _
  have hk2 : (X.sched fin).amount (((X.perm j c).tc : Thread nD τ), .dma sR) 0 () = X.amt j := by rw [hR]; exact X.amount_cell fin _ _ _
  have hO : O + X.due c j = O + tallyAt (((X.perm j c).tc : Thread nD τ), .dma sR) () (X.amt j) := by rw [hR]; rfl
  have hp1 : (X.sched fin).payload ((c.tc : Thread nD τ), .dma sS) 0 () = (iprop(emp) : sProp 𝕄) := by rw [hS]; exact X.payload_cell fin c _ _
  have hp2 : (X.sched fin).payload (((X.perm j c).tc : Thread nD τ), .dma sR) 0 () = X.got fin (X.perm j c) j := by
    rw [hR]; exact X.payload_cell fin _ _ _
  have rule := fun q : PosShare TreeShare => (Rounds.wp_send_pointsTo Variants.none EX (X.sched fin) (c.tc : Thread nD τ) none
    (κ₁ := κ ((c.tc : Thread nD τ), .dma sS)) (κ₂ := κ (((X.perm j c).tc : Thread nD τ), .dma sR)) (r₁ := 0) (r₂ := 0) (d₁ := ()) (d₂ := ())
    hd1 hd2 () () (X.amt j) ((View.amount_dma _ _).trans hA) hk1 hk2 O hO (W := W)
    (BI.BIBase.Entails.trans (h0 _) (Entails.of_eq hp1.symm))
    (BI.BIBase.Entails.trans (Entails.of_eq (pointsTo_congr hval)) (Entails.of_eq (hgot.trans hp2.symm)))
    (by simp) (q := q) (k := k) (Q := Q) (defs := defs) (hsrc := hsrc) (hdst := hdst) (hsem := hsem) (Es := Set.univ) (Γ := []))
  iintro ⟨#HI, ⟨%q, Hsrc⟩, Hdst, ⟨Ht1, Ht2⟩, HO⟩ Hk
  iapply (rule q) $$ [Hsrc Hdst Ht1 Ht2 HO]
  · isplitr; · iapply (X.recs_inv fin κ c (.dma sS)); iexact HI
    isplitr; · iapply (X.recs_inv fin κ (X.perm j c) (.dma sR)); iexact HI
    isplitl [Hsrc]; · iexact Hsrc
    isplitl [Hdst]; · iexact Hdst
    isplitl [HO]; · iexact HO
    isplitl [Ht1]; · rw [hS]; iexact Ht1
    isplitr; · iapply (X.recs_reached fin κ c (.dma sS)); iexact HI
    isplitl [Ht2]; · rw [hR]; iexact Ht2
    iapply (X.recs_reached fin κ (X.perm j c) (.dma sR)); iexact HI
  iintro ⟨Hc, HO⟩
  iapply Hk
  isplitl [Hc]
  · rw [hS]; iexact Hc
  iexact HO

/-- Starting a local copy. -/
theorem local_step (κ : GSem nD τ sig → ℕ) (c : Dev nD) (l : JL)
    (hval : ∀ i ∈ (X.loc c l).dst.view.set,
      (X.loc c l).dst.view.write Val (m ((X.loc c l).dst.view.loc (c.tc : Thread nD τ)))
        ((X.loc c l).src.view.read Val (m ((X.loc c l).src.view.loc (c.tc : Thread nD τ)))) Finset.univ i
        = fin ((X.loc c l).dst.view.loc (c.tc : Thread nD τ)) i)
    (k : PUnit → Prog (TpuEff nD τ sig Val Λ .tc) α) (Q : α → sProp 𝕄) :
    (iprop(X.recs fin κ ∗ X.sourceL m c l ∗ X.pieceL m fullShare c l ∗ dutyTok EX (X.cell c (.inr l)) 0 ()) : sProp 𝕄)
      ⊢ iprop((X.credK c (.inr l) -∗ wp frame (wpE defs Variants.none (c.tc : Thread nD τ) none) Set.univ (k ⟨⟩) Q)
          -∗ wp frame (wpE defs Variants.none (c.tc : Thread nD τ) none) Set.univ (.op (X.loc c l).op k) Q) := by
  have hS := X.loc_eq c l
  have hA := X.amtL_eq c l
  have hgot : X.pay fin c (.inr l) = X.pieceL fin fullShare c l := rfl
  unfold sourceL credK pieceL
  unfold pieceL at hgot
  generalize X.loc c l = r at hval hS hA hgot ⊢
  obtain ⟨sp, sp', s, e, src, dst, sS, hsrc, hdst, hsem⟩ := r
  dsimp only at hval hS hA hgot ⊢
  have hd : () ∈ (X.sched fin).duties ((c.tc : Thread nD τ), .dma sS) 0 := by rw [duties_zero]; exact Finset.mem_singleton_self _
  have hk : (X.sched fin).amount ((c.tc : Thread nD τ), .dma sS) 0 () = X.amtL l := by rw [hS]; exact X.amount_cell fin c _ _
  have hp' : (X.sched fin).payload ((c.tc : Thread nD τ), .dma sS) 0 () = ((dst.view.loc (c.tc : Thread nD τ) ↦[dst.view.set]{fullShare} fin (dst.view.loc (c.tc : Thread nD τ))) : sProp 𝕄) := by
    rw [hS]; exact (X.payload_cell fin c (.inr l) ()).trans hgot
  iintro ⟨#HI, ⟨%q, Hsrc⟩, Hdst, Ht⟩ Hk
  iapply (Rounds.wp_copy_pointsTo Variants.none EX (X.sched fin) (c.tc : Thread nD τ) none
    (κ := κ ((c.tc : Thread nD τ), .dma sS)) (r := 0) (d := ())
    hd () (X.amtL l) ((View.amount_dma _ _).trans hA) hk
    (BI.BIBase.Entails.trans sep_elim_left (BI.BIBase.Entails.trans (Entails.of_eq (pointsTo_congr hval)) (Entails.of_eq hp'.symm)))) $$ [Hsrc Hdst Ht]
  · isplitr; · iapply (X.recs_inv fin κ c (.dma sS)); iexact HI
    isplitl [Hsrc]; · iexact Hsrc
    isplitl [Hdst]; · iexact Hdst
    isplitl [Ht]; · rw [hS]; iexact Ht
    iapply (X.recs_reached fin κ c (.dma sS)); iexact HI
  iintro Hc
  iapply Hk
  rw [hS]; iexact Hc

/-- Waiting on the semaphore of index `k`: the payload of its duty. -/
theorem wait_step (κ : GSem nD τ sig → ℕ) (c : Dev nD) (w : (J ⊕ J) ⊕ JL)
    (O : CellTallies nD τ sig Unit) (W : Finset (SemLoc sig × Unit)) (k : PUnit → Prog (TpuEff nD τ sig Val Λ .tc) α) (Q : α → sProp 𝕄) :
    (iprop(X.recs fin κ ∗ X.credK c w ∗ X.at0 c w ∗ owes (c.tc : Thread nD τ) O W ∗ MayWait (c.tc : Thread nD τ) (X.cells w) () O) : sProp 𝕄)
      ⊢ iprop(((X.at1 c w ∗ X.pay fin c w ∗ ∃ W' : Finset (SemLoc sig × Unit), owes (c.tc : Thread nD τ) O W')
            -∗ wp frame (wpE defs Variants.none (c.tc : Thread nD τ) none) Set.univ (k ⟨⟩) Q)
          -∗ wp frame (wpE defs Variants.none (c.tc : Thread nD τ) none) Set.univ (.op (X.wait c w).op k) Q) := by
  have hS := X.wait_eq c w
  have hA := X.wait_amtK c w
  unfold credK at0 at1
  generalize X.wait c w = r at hS hA ⊢
  obtain ⟨sm, b, s, e, h⟩ := r
  dsimp only at hS hA ⊢
  have hw : ∀ K : PUnit → sProp 𝕄, wpE defs Variants.none (c.tc : Thread nD τ) none Set.univ (Await.op (Val := Val) (Λ := Λ) ⟨sm, b, s, e, h⟩) K
      = waitSpec (c.tc : Thread nD τ) Set.univ (X.cells w) (X.amtK w) K := fun K => by rw [← hS, ← hA]; rfl
  have rule := (Rounds.wp_wait_rest_token Variants.none EX (X.sched fin) (c.tc : Thread nD τ) none (κ := κ (X.cell c w)) (sm := X.cells w) (k' := X.amtK w)
    hw (Set.mem_univ _) () (O := O) (W := W) (R := 0) (m := 0) (T := ∅)
    (by rw [Nat.zero_add]; exact (X.expect_cell fin c w).symm) (k := k) (Q := Q) (defs := defs) (Γ := []))
  iintro ⟨#HI, Hc, Hat, HO, HM⟩ Hk
  iapply rule $$ [Hc Hat HO HM]
  · isplitr; · iapply (X.recs_inv fin κ c (X.cells w)); iexact HI
    isplitl [Hc]; · iexact Hc
    isplitl [HO]; · iexact HO
    isplitl [HM]; · iexact HM
    iexact Hat
  iintro ⟨HO, Hat, -, Hpay⟩
  iapply Hk
  isplitl [Hat]; · iexact Hat
  isplitl [Hpay]
  · iapply (Entails.of_eq (X.rest_cell fin c w)); iexact Hpay
  iexists _; iexact HO

end Steps

end Net

end Cert.Exchange

end
-- ==== Proof.Body.lean ====
/-
# The program of one device of an exchange

The phases of `Net.body`, one lemma each by induction over the list of copies or waits, and `Net.body_wp`: from a
device's share of the launch the program ends with every piece at its final contents and every semaphore at zero.
-/
module

public import proofs.«01_k».proof.Proof.Copies
public import Idealize.ShloMosaic.Lib.Pipeline.BigSepL
public import Idealize.ShloMosaic.Lib.Pipeline.TalkSched

@[expose] public section

noncomputable section

namespace Cert.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : Nat} {τ : Topo} {sig : RefSig} {Val : EltTy → Type} {Λ : Labels} {J JL : Type}

local notation "𝕄" => MT nD τ sig Unit Val ℕ (UX nD τ sig) ℕ

namespace Net

variable (X : Net nD τ sig J JL)
variable (m fin : (ℓ : Loc nD τ sig) → Buf Val ℓ)

/-- The weakest precondition of a program of device `c`. -/
abbrev wpc (defs : Defs nD τ sig Val Λ) (c : Dev nD) (p : Prog (TpuEff nD τ sig Val Λ .tc) PUnit) (Q : PUnit → sProp 𝕄) : sProp 𝕄 :=
  wp frame (wpE defs Variants.none (c.tc : Thread nD τ) none) Set.univ p Q

/-- The copies write what `fin` says: a first remote copy and a local copy from the memory `m`, a passed-on copy from `fin`. -/
def SendVal (base : (ℓ : Loc nD τ sig) → Buf Val ℓ) (c : Dev nD) (j : J) : Prop :=
  ∀ i ∈ (X.rem c j).dst.view.set,
    (X.rem c j).dst.view.write Val (m ((X.rem c j).dst.view.loc ((X.perm j c).tc : Thread nD τ)))
      ((X.rem c j).src.view.read Val (base ((X.rem c j).src.view.loc (c.tc : Thread nD τ)))) Finset.univ i
      = fin ((X.rem c j).dst.view.loc ((X.perm j c).tc : Thread nD τ)) i

def LocalVal (c : Dev nD) (l : JL) : Prop :=
  ∀ i ∈ (X.loc c l).dst.view.set,
    (X.loc c l).dst.view.write Val (m ((X.loc c l).dst.view.loc (c.tc : Thread nD τ)))
      ((X.loc c l).src.view.read Val (m ((X.loc c l).src.view.loc (c.tc : Thread nD τ)))) Finset.univ i
      = fin ((X.loc c l).dst.view.loc (c.tc : Thread nD τ)) i

/-- What a local copy needs, a first remote copy needs, a passed-on copy needs besides its source. -/
def needL (c : Dev nD) (l : JL) : sProp 𝕄 := iprop(X.sourceL m c l ∗ X.pieceL m fullShare c l ∗ dutyTok EX (X.cell c (.inr l)) 0 ())
def need (c : Dev nD) (j : J) : sProp 𝕄 := iprop(X.piece m fullShare c (X.perm j c) j ∗ X.toks c j)

/-- What arrived by copy `j`, and what a local copy wrote, at some share. -/
def have' (c : Dev nD) (j : J) : sProp 𝕄 := iprop(∃ q : PosShare TreeShare, X.piece fin q ((X.perm j).symm c) c j)
def haveL (c : Dev nD) (l : JL) : sProp 𝕄 := iprop(∃ q : PosShare TreeShare, X.pieceL fin q c l)

variable {defs : Defs nD τ sig Val Λ}

theorem locals_wp (κ : GSem nD τ sig → ℕ) (c : Dev nD) (Q : PUnit → sProp 𝕄) (k : Prog (TpuEff nD τ sig Val Λ .tc) PUnit) (ll : List JL)
    (h : ∀ l ∈ ll, X.LocalVal m fin c l) :
    (iprop(X.recs fin κ ∗ bigSepL ll (X.needL m c)) : sProp 𝕄)
      ⊢ iprop((bigSepL ll (fun l => X.credK c (.inr l)) -∗ wpc defs c k Q) -∗ wpc defs c (X.locals c ll k) Q) := by
  induction ll with
  | nil =>
    simp only [bigSepL_nil]
    iintro ⟨-, -⟩ Hk
    iapply Hk
    iempintro
  | cons l ll ih =>
    rw [show X.locals c (l :: ll) k = .op (X.loc c l).op fun _ => X.locals c ll k from rfl]
    rw [bigSepL_cons', bigSepL_cons']
    unfold needL
    iintro ⟨#HI, ⟨Hs, Hd, Ht⟩, Hr⟩ Hk
    iapply (X.local_step m fin κ c l (h l List.mem_cons_self) (fun _ => X.locals c ll k) Q) $$ [Hs Hd Ht]
    · isplitr; · iexact HI
      isplitl [Hs]; · iexact Hs
      isplitl [Hd]; · iexact Hd
      iexact Ht
    iintro Hc
    iapply (ih fun l' hl' => h l' (List.mem_cons_of_mem _ hl')) $$ [Hr]
    · isplitr; · iexact HI
      unfold needL
      iexact Hr
    iintro Hcs
    iapply Hk
    isplitl [Hc]; · iexact Hc
    iexact Hcs

theorem sends_wp (κ : GSem nD τ sig → ℕ) (c : Dev nD) (Q : PUnit → sProp 𝕄) (k : Prog (TpuEff nD τ sig Val Λ .tc) PUnit) (O : CellTallies nD τ sig Unit)
    (ls : List J) (h : ∀ j ∈ ls, X.SendVal m fin m c j) (W : Finset (SemLoc sig × Unit)) :
    (iprop(X.recs fin κ ∗ bigSepL ls (X.source m c) ∗ bigSepL ls (X.need m c) ∗ owes (c.tc : Thread nD τ) (O + X.dues c ls) W) : sProp 𝕄)
      ⊢ iprop(((bigSepL ls (fun j => X.credK c (.inl (.inl j))) ∗ owes (c.tc : Thread nD τ) O W) -∗ wpc defs c k Q)
          -∗ wpc defs c (X.sends c ls k) Q) := by
  induction ls with
  | nil =>
    simp only [bigSepL_nil]
    iintro ⟨-, -, -, HO⟩ Hk
    iapply Hk
    isplitr
    · iempintro
    · rw [show O + X.dues c [] = O from add_zero O]; iexact HO
  | cons j ls ih =>
    rw [show X.sends c (j :: ls) k = .op (X.rem c j).op fun _ => X.sends c ls k from rfl]
    rw [bigSepL_cons', bigSepL_cons', bigSepL_cons', show O + X.dues c (j :: ls) = O + X.dues c ls + X.due c j from (add_assoc _ _ _).symm]
    unfold need
    iintro ⟨#HI, ⟨Hs, Hss⟩, ⟨⟨Hd, Ht⟩, Hr⟩, HO⟩ Hk
    iapply (X.send_step m fin (fun _ => m) κ c j (h j List.mem_cons_self) (O + X.dues c ls) W (fun _ => X.sends c ls k) Q) $$ [Hs Hd Ht HO]
    · isplitr; · iexact HI
      isplitl [Hs]; · iexact Hs
      isplitl [Hd]; · iexact Hd
      isplitl [Ht]; · iexact Ht
      iexact HO
    iintro ⟨Hc, HO⟩
    iapply (ih fun l' hl' => h l' (List.mem_cons_of_mem _ hl')) $$ [Hss Hr HO]
    · isplitr; · iexact HI
      isplitl [Hss]; · iexact Hss
      isplitl [Hr]; · unfold need; iexact Hr
      iexact HO
    iintro ⟨Hcs, HO⟩
    iapply Hk
    isplitl [Hc Hcs]
    · isplitl [Hc]; · iexact Hc
      iexact Hcs
    iexact HO

/-- What the pair `(j, j')` of a wait and a passed-on copy leaves. -/
def passed (c : Dev nD) (p : J × J) : sProp 𝕄 := iprop(X.at1 c (.inl (.inr p.1)) ∗ X.have' fin c p.1 ∗ X.credK c (.inl (.inl p.2)))

theorem passes_wp (κ : GSem nD τ sig → ℕ) (rank : J → ℕ) (c : Dev nD) (Q : PUnit → sProp 𝕄) (k : Prog (TpuEff nD τ sig Val Λ .tc) PUnit)
    (lp : List (J × J)) (h : ∀ p ∈ lp, X.SendVal m fin fin c p.2)
    (hsrc : ∀ p ∈ lp, ∀ q : PosShare TreeShare, (X.piece fin q ((X.perm p.1).symm c) c p.1 : sProp 𝕄) ⊢ X.source fin c p.2)
    (hrank : ∀ p ∈ lp, ∀ p' ∈ lp, rank p.1 < rank p'.2) (W : Finset (SemLoc sig × Unit)) :
    (iprop(X.recs fin κ ∗ levAts tcIx (X.lev rank) ∗ bigSepL lp (fun p => iprop(X.credK c (.inl (.inr p.1)) ∗ X.at0 c (.inl (.inr p.1)) ∗ X.need m c p.2))
        ∗ owes (c.tc : Thread nD τ) (X.dues c (lp.map Prod.snd)) W) : sProp 𝕄)
      ⊢ iprop(((bigSepL lp (X.passed fin c) ∗ ∃ W' : Finset (SemLoc sig × Unit), owes (c.tc : Thread nD τ) (0 : CellTallies nD τ sig Unit) W') -∗ wpc defs c k Q)
          -∗ wpc defs c (X.passes c lp k) Q) := by
  induction lp generalizing W with
  | nil =>
    simp only [bigSepL_nil]
    iintro ⟨-, -, -, HO⟩ Hk
    iapply Hk
    isplitr
    · iempintro
    · iexists W; iexact HO
  | cons p lp ih =>
    rw [show X.passes c (p :: lp) k = .op (X.wait c (.inl (.inr p.1))).op fun _ => .op (X.rem c p.2).op fun _ => X.passes c lp k from rfl]
    rw [bigSepL_cons', bigSepL_cons']
    iintro ⟨#HI, #HL, ⟨⟨Hc, Hat, Hn⟩, Hr⟩, HO⟩ Hk
    iapply (X.wait_step fin κ c (.inl (.inr p.1)) (X.dues c ((p :: lp).map Prod.snd)) W (fun _ => .op (X.rem c p.2).op fun _ => X.passes c lp k) Q) $$ [Hc Hat HO]
    · isplitr; · iexact HI
      isplitl [Hc]; · iexact Hc
      isplitl [Hat]; · iexact Hat
      isplitl [HO]; · iexact HO
      iapply (X.mayWait rank c p.1 ((p :: lp).map Prod.snd) fun j' hj' => by
        obtain ⟨p', hp', rfl⟩ := List.mem_map.mp hj'
        exact hrank p List.mem_cons_self p' hp')
      iexact HL
    iintro ⟨Hat, Hpay, ⟨%W', HO⟩⟩
    have hsplit : (X.pay fin c (.inl (.inr p.1)) : sProp 𝕄) ⊢ iprop(X.have' fin c p.1 ∗ X.source fin c p.2) := by
      obtain ⟨q₁, q₂, hq⟩ : ∃ q₁ q₂ : PosShare TreeShare, fullShare ∈ PCS.op q₁ q₂ := ⟨_, _, PosShare.mem_left_op_right fullShare⟩
      show X.piece fin fullShare ((X.perm p.1).symm c) c p.1 ⊢ _
      have h1 : (X.piece fin fullShare ((X.perm p.1).symm c) c p.1 : sProp 𝕄)
          ⊢ iprop(X.piece fin q₁ ((X.perm p.1).symm c) c p.1 ∗ X.piece fin q₂ ((X.perm p.1).symm c) c p.1) := by
        unfold piece; exact (pointsTo_share hq).1
      refine BI.BIBase.Entails.trans h1 (BIClass.sep_mono ?_ (hsrc p List.mem_cons_self q₂))
      unfold have'
      iintro H; iexists q₁; iexact H
    ihave Hp := hsplit $$ Hpay
    icases Hp with ⟨Hh, Hs⟩
    unfold need
    icases Hn with ⟨Hd, Ht⟩
    iapply (X.send_step m fin (fun _ => fin) κ c p.2 (h p List.mem_cons_self) (X.dues c (lp.map Prod.snd)) W' (fun _ => X.passes c lp k) Q) $$ [Hs Hd Ht HO]
    · isplitr; · iexact HI
      isplitl [Hs]; · iexact Hs
      isplitl [Hd]; · iexact Hd
      isplitl [Ht]; · iexact Ht
      iexact HO
    iintro ⟨Hc, HO⟩
    iapply (ih (fun l' hl' => h l' (List.mem_cons_of_mem _ hl')) (fun l' hl' => hsrc l' (List.mem_cons_of_mem _ hl'))
      (fun p' hp' p'' hp'' => hrank p' (List.mem_cons_of_mem _ hp') p'' (List.mem_cons_of_mem _ hp'')) W') $$ [Hr HO]
    · isplitr; · iexact HI
      isplitr; · iexact HL
      isplitl [Hr]; · unfold need; iexact Hr
      iexact HO
    iintro ⟨Hps, HO⟩
    iapply Hk
    isplitl [Hat Hh Hc Hps]
    · isplitl [Hat Hh Hc]
      · unfold passed
        isplitl [Hat]; · iexact Hat
        isplitl [Hh]; · iexact Hh
        iexact Hc
      iexact Hps
    iexact HO

theorem waits_wp (κ : GSem nD τ sig → ℕ) (c : Dev nD) (Q : PUnit → sProp 𝕄) (k : Prog (TpuEff nD τ sig Val Λ .tc) PUnit)
    (lw : List ((J ⊕ J) ⊕ JL)) (W : Finset (SemLoc sig × Unit)) :
    (iprop(X.recs fin κ ∗ bigSepL lw (X.credK c) ∗ bigSepL lw (X.at0 c) ∗ owes (c.tc : Thread nD τ) (0 : CellTallies nD τ sig Unit) W) : sProp 𝕄)
      ⊢ iprop(((bigSepL lw (X.at1 c) ∗ bigSepL lw (X.pay fin c) ∗ ∃ W' : Finset (SemLoc sig × Unit), owes (c.tc : Thread nD τ) (0 : CellTallies nD τ sig Unit) W')
            -∗ wpc defs c k Q)
          -∗ wpc defs c (X.waits c lw k) Q) := by
  induction lw generalizing W with
  | nil =>
    simp only [bigSepL_nil]
    iintro ⟨-, -, -, HO⟩ Hk
    iapply Hk
    isplitr
    · iempintro
    isplitr
    · iempintro
    iexists W; iexact HO
  | cons w lw ih =>
    rw [show X.waits c (w :: lw) k = .op (X.wait c w).op fun _ => X.waits c lw k from rfl]
    rw [bigSepL_cons', bigSepL_cons', bigSepL_cons', bigSepL_cons']
    iintro ⟨#HI, ⟨Hc, Hcs⟩, ⟨Hat, Hats⟩, HO⟩ Hk
    iapply (X.wait_step fin κ c w 0 W (fun _ => X.waits c lw k) Q) $$ [Hc Hat HO]
    · isplitr; · iexact HI
      isplitl [Hc]; · iexact Hc
      isplitl [Hat]; · iexact Hat
      isplitl [HO]; · iexact HO
      rw [MayWait_zero]; iempintro
    iintro ⟨Hat, Hpay, ⟨%W', HO⟩⟩
    iapply (ih W') $$ [Hcs Hats HO]
    · isplitr; · iexact HI
      isplitl [Hcs]; · iexact Hcs
      isplitl [Hats]; · iexact Hats
      iexact HO
    iintro ⟨Hat1, Hpays, HO⟩
    iapply Hk
    isplitl [Hat Hat1]
    · isplitl [Hat]; · iexact Hat
      iexact Hat1
    isplitl [Hpay Hpays]
    · isplitl [Hpay]; · iexact Hpay
      iexact Hpays
    iexact HO

/-- An order of the copies and waits of a device in which every copy is started once and every semaphore waited for once:
    the local copies `ll`, the first remote copies `ls`, the pairs `lp` of an arrival and a passed-on copy, and the waits
    `lw`, the arrivals among which are `lr`. A wait for an arrival before the last copy starts needs that the copy awaited
    has lower `rank` than the copies not yet started. -/
structure Plan (J JL : Type) [Fintype J] [Fintype JL] [DecidableEq J] [DecidableEq JL] where
  ll : List JL
  ls : List J
  lp : List (J × J)
  lr : List J
  lw : List ((J ⊕ J) ⊕ JL)
  rank : J → ℕ
  all_l : Finset.univ = ll.toFinset
  nodup_l : ll.Nodup
  all_s : Finset.univ = (ls ++ lp.map Prod.snd).toFinset
  nodup_s : (ls ++ lp.map Prod.snd).Nodup
  all_r : Finset.univ = (lp.map Prod.fst ++ lr).toFinset
  nodup_r : (lp.map Prod.fst ++ lr).Nodup
  perm_w : lw.Perm (ll.map .inr ++ ((ls ++ lp.map Prod.snd).map (fun j => .inl (.inl j)) ++ lr.map (fun j => .inl (.inr j))))
  nodup_w : lw.Nodup
  rank_lt : ∀ p ∈ lp, ∀ p' ∈ lp, rank p.1 < rank p'.2

section Body

variable [Fintype J] [Fintype JL] [DecidableEq J] [DecidableEq JL]

theorem bigSepL_waits (pl : Plan J JL) (Φ : (J ⊕ J) ⊕ JL → sProp 𝕄) :
    bigSepL pl.lw Φ = iprop((bigSepL pl.ll fun l => Φ (.inr l))
      ∗ ((bigSepL pl.ls fun j => Φ (.inl (.inl j))) ∗ bigSepL (pl.lp.map Prod.snd) fun j => Φ (.inl (.inl j))) ∗ bigSepL pl.lr fun j => Φ (.inl (.inr j))) := by
  rw [TalkSites.bigSepL_perm pl.perm_w pl.nodup_w, bigSepL_append, bigSepL_append, bigSepL_map, bigSepL_map, bigSepL_map, bigSepL_append]

theorem bigSep_sends (pl : Plan J JL) (Φ : J → sProp 𝕄) :
    bigSep Finset.univ Φ = iprop(bigSepL pl.ls Φ ∗ bigSepL (pl.lp.map Prod.snd) Φ) := by
  rw [bigSep_univ_eq_bigSepL _ pl.all_s pl.nodup_s, bigSepL_append]

theorem bigSep_arrivals (pl : Plan J JL) (Φ : J → sProp 𝕄) :
    bigSep Finset.univ Φ = iprop(bigSepL (pl.lp.map Prod.fst) Φ ∗ bigSepL pl.lr Φ) := by
  rw [bigSep_univ_eq_bigSepL _ pl.all_r pl.nodup_r, bigSepL_append]

theorem bigSep_locals (pl : Plan J JL) (Φ : JL → sProp 𝕄) : bigSep Finset.univ Φ = bigSepL pl.ll Φ :=
  bigSep_univ_eq_bigSepL _ pl.all_l pl.nodup_l Φ

theorem bigSepL_sep {I : Type} (l : List I) (Φ Ψ : I → sProp 𝕄) :
    bigSepL l (fun i => iprop(Φ i ∗ Ψ i)) = iprop(bigSepL l Φ ∗ bigSepL l Ψ) := by
  induction l with
  | nil => simp only [bigSepL_nil]; exact (BI.equiv_iff.mp emp_sep).symm
  | cons i l ih =>
    rw [bigSepL_cons', bigSepL_cons', bigSepL_cons', ih]
    refine BI.equiv_iff.mp ⟨?_, ?_⟩
    · show iprop((Φ i ∗ Ψ i) ∗ (bigSepL l Φ ∗ bigSepL l Ψ)) ⊢ iprop((Φ i ∗ bigSepL l Φ) ∗ (Ψ i ∗ bigSepL l Ψ))
      iintro ⟨⟨H1, H2⟩, ⟨H3, H4⟩⟩
      isplitl [H1 H3]
      · isplitl [H1] <;> iassumption
      · isplitl [H2] <;> iassumption
    · show iprop((Φ i ∗ bigSepL l Φ) ∗ (Ψ i ∗ bigSepL l Ψ)) ⊢ iprop((Φ i ∗ Ψ i) ∗ (bigSepL l Φ ∗ bigSepL l Ψ))
      iintro ⟨⟨H1, H3⟩, ⟨H2, H4⟩⟩
      isplitl [H1 H2]
      · isplitl [H1] <;> iassumption
      · isplitl [H3] <;> iassumption

theorem bigSep_cells (Φ : (J ⊕ J) ⊕ JL → sProp 𝕄) : bigSep Finset.univ Φ
    = iprop(((bigSep Finset.univ fun j => Φ (.inl (.inl j))) ∗ bigSep Finset.univ fun j => Φ (.inl (.inr j))) ∗ bigSep Finset.univ fun l => Φ (.inr l)) := by
  rw [BI.bigSep_univ_sum, BI.bigSep_univ_sum]; rfl

/-- A device's share of the launch, but for what it owes. -/
def start (pl : Plan J JL) (c : Dev nD) : sProp 𝕄 :=
  iprop(∃ κ : GSem nD τ sig → ℕ, X.recs fin κ ∗ levAts tcIx (X.lev pl.rank)
    ∗ (((bigSep Finset.univ fun j => X.at0 c (.inl (.inl j))) ∗ bigSep Finset.univ fun j => X.at0 c (.inl (.inr j))) ∗ bigSep Finset.univ fun l => X.at0 c (.inr l))
    ∗ (bigSep Finset.univ fun j => X.credK c (.inl (.inr j)))
    ∗ (bigSep Finset.univ (X.need m c)) ∗ (bigSep Finset.univ (X.needL m c)) ∗ bigSepL pl.ls (X.source m c))

/-- What a device holds at the end, but for its semaphores: what arrived and what its local copies wrote. -/
def final (c : Dev nD) : sProp 𝕄 := iprop(bigSep Finset.univ (X.have' fin c) ∗ bigSep Finset.univ (X.haveL fin c))

/-- The cells of a device after their only round, closed: its semaphores at zero. -/
theorem close_cells (κ : GSem nD τ sig → ℕ) (hall : ∀ sm : SemLoc sig, sm.isScoped .tc = true) (c : Dev nD) :
    (iprop(X.recs fin κ ∗ ((bigSep Finset.univ fun j => X.at1 c (.inl (.inl j))) ∗ bigSep Finset.univ fun j => X.at1 c (.inl (.inr j)))
        ∗ bigSep Finset.univ fun l => X.at1 c (.inr l)) : sProp 𝕄)
      ⊢ |={Set.univ}=> scopedSems0 (c.tc : Thread nD τ) := by
  have h1 : ∀ k, (iprop(X.recs fin κ ∗ X.at1 c k) : sProp 𝕄) ⊢ |={Set.univ}=> semVal (X.cell c k) 0 := fun k => by
    have h := Rounds.cell_close EX (X.sched fin) (Set.mem_univ (κ (X.cell c k))) (fun h => h) (X.duties_later fin (X.cell c k))
    refine BI.BIBase.Entails.trans ?_ h
    unfold at1
    iintro ⟨#HI, H⟩
    isplitr; · iapply (X.recs_inv fin κ c (X.cells k)); iexact HI
    iexact H
  have h2 : (iprop(X.recs fin κ ∗ bigSep Finset.univ (X.at1 c)) : sProp 𝕄) ⊢ |={Set.univ}=> bigSep Finset.univ fun k => semVal (X.cell c k) 0 := by
    refine BI.BIBase.Entails.trans ?_ (bigSep_fupd Finset.univ fun k : (J ⊕ J) ⊕ JL => semVal (X.cell c k) 0)
    refine BI.BIBase.Entails.trans (sep_mono_left (BI.bigSep_of_persistent (Finset.univ : Finset ((J ⊕ J) ⊕ JL)) (X.recs fin κ))) ?_
    rw [← bigSep_sep']
    exact bigSep_mono fun k _ => h1 k
  have h3 : (bigSep Finset.univ fun k => (semVal (X.cell c k) 0 : sProp 𝕄)) = scopedSems0 (c.tc : Thread nD τ) := by
    rw [show (scopedSems0 (c.tc : Thread nD τ) : sProp 𝕄) = _ from scopedSems0_tc c,
      show (Finset.univ.filter fun sm : SemLoc sig => sm.isScoped .tc) = Finset.univ from Finset.filter_true_of_mem fun sm _ => hall sm,
      bigSep_univ_equiv X.cells (fun sm => (semVal ((c.tc : Thread nD τ), sm) 0 : sProp 𝕄))]
  rw [← h3]
  rw [bigSep_cells] at h2
  exact h2

/-- The program of device `c`: from its share of the launch, every piece at its final contents and its semaphores at
    zero, owing nothing. -/
theorem body_wp (pl : Plan J JL) (hall : ∀ sm : SemLoc sig, sm.isScoped .tc = true) (c : Dev nD)
    (hsend : ∀ j ∈ pl.ls, X.SendVal m fin m c j) (hpass : ∀ p ∈ pl.lp, X.SendVal m fin fin c p.2) (hloc : ∀ l ∈ pl.ll, X.LocalVal m fin c l)
    (hsrc : ∀ p ∈ pl.lp, ∀ q : PosShare TreeShare, (X.piece fin q ((X.perm p.1).symm c) c p.1 : sProp 𝕄) ⊢ X.source fin c p.2)
    (W : Finset (SemLoc sig × Unit)) :
    (iprop(X.start m fin pl c ∗ owes (c.tc : Thread nD τ) (X.dues c (pl.ls ++ pl.lp.map Prod.snd)) W) : sProp 𝕄)
      ⊢ wpc defs c (X.body c pl.ll pl.ls pl.lp pl.lw) fun _ =>
          iprop((X.final fin c ∗ scopedSems0 (c.tc : Thread nD τ)) ∗ ∃ W' : Finset (SemLoc sig × Unit), owes (c.tc : Thread nD τ) (0 : CellTallies nD τ sig Unit) W') := by
  unfold start final body
  rw [dues_append]
  rw [bigSep_locals pl (X.needL m c), bigSep_sends pl (X.need m c), bigSep_arrivals pl fun j => X.credK c (.inl (.inr j)),
    bigSep_sends pl fun j => X.at0 c (.inl (.inl j)), bigSep_arrivals pl fun j => X.at0 c (.inl (.inr j)), bigSep_locals pl fun l => X.at0 c (.inr l)]
  simp only [bigSepL_map]
  iintro ⟨⟨%κ, #HI, #HL, ⟨⟨⟨HaS, HaP⟩, ⟨HaQ, HaR⟩⟩, HaL⟩, ⟨HcQ, HcR⟩, ⟨HnS, HnP⟩, HnL, Hsrc⟩, HO⟩
  iapply (X.locals_wp m fin κ c _ _ pl.ll hloc) $$ [HnL]
  · isplitr; · iexact HI
    iexact HnL
  iintro HcL
  iapply (X.sends_wp m fin κ c _ _ (X.dues c (pl.lp.map Prod.snd)) pl.ls hsend W) $$ [Hsrc HnS HO]
  · isplitr; · iexact HI
    isplitl [Hsrc]; · iexact Hsrc
    isplitl [HnS]; · iexact HnS
    iexact HO
  iintro ⟨HcS, HO⟩
  iapply (X.passes_wp m fin κ pl.rank c _ _ pl.lp hpass hsrc pl.rank_lt W) $$ [HcQ HaQ HnP HO]
  · isplitr; · iexact HI
    isplitr; · iexact HL
    isplitr [HO]
    · rw [bigSepL_sep, bigSepL_sep]
      isplitl [HcQ]; · iexact HcQ
      isplitl [HaQ]; · iexact HaQ
      iexact HnP
    iexact HO
  unfold passed
  rw [bigSepL_sep, bigSepL_sep]
  iintro ⟨⟨H1Q, HhQ, HcP⟩, ⟨%W', HO⟩⟩
  iapply (X.waits_wp fin κ c _ _ pl.lw W') $$ [HcL HcS HcP HcR HaL HaS HaP HaR HO]
  · isplitr; · iexact HI
    rw [bigSepL_waits pl, bigSepL_waits pl]
    simp only [bigSepL_map]
    isplitl [HcL HcS HcP HcR]
    · isplitl [HcL]; · iexact HcL
      isplitl [HcS HcP]
      · isplitl [HcS]; · iexact HcS
        iexact HcP
      iexact HcR
    isplitl [HaL HaS HaP HaR]
    · isplitl [HaL]; · iexact HaL
      isplitl [HaS HaP]
      · isplitl [HaS]; · iexact HaS
        iexact HaP
      iexact HaR
    iexact HO
  rw [bigSepL_waits pl, bigSepL_waits pl]
  simp only [bigSepL_map]
  iintro ⟨⟨H1L, ⟨H1S, H1P⟩, H1R⟩, ⟨HpL, -, HpR⟩, HO⟩
  imod (X.close_cells fin κ hall c) $$ [H1L H1S H1P H1R H1Q] with Hz
  · isplitr; · iexact HI
    rw [bigSep_sends pl, bigSep_arrivals pl, bigSep_locals pl]
    simp only [bigSepL_map]
    isplitr [H1L]
    · isplitl [H1S H1P]
      · isplitl [H1S]; · iexact H1S
        iexact H1P
      · isplitl [H1Q]; · iexact H1Q
        iexact H1R
    iexact H1L
  have hR : (bigSepL pl.lr (fun j => X.pay fin c (.inl (.inr j))) : sProp 𝕄) ⊢ bigSepL pl.lr (X.have' fin c) :=
    bigSepL_mono fun j _ => by
      show X.piece fin fullShare ((X.perm j).symm c) c j ⊢ _
      unfold have'
      iintro H; iexists fullShare; iexact H
  have hL : (bigSepL pl.ll (fun l => X.pay fin c (.inr l)) : sProp 𝕄) ⊢ bigSepL pl.ll (X.haveL fin c) :=
    bigSepL_mono fun l _ => by
      show X.pieceL fin fullShare c l ⊢ _
      unfold haveL
      iintro H; iexists fullShare; iexact H
  ihave HpR := hR $$ HpR
  ihave HpL := hL $$ HpL
  rw [wp_ret]
  imodintro
  rw [bigSep_arrivals pl, bigSep_locals pl]
  simp only [bigSepL_map]
  isplitr [HO]
  · isplitr [Hz]
    · isplitr [HpL]
      · isplitl [HhQ]; · iexact HhQ
        iexact HpR
      iexact HpL
    iexact Hz
  iexact HO

end Body

end Net

end Cert.Exchange

end
-- ==== Proof.Run.lean ====
/-
# The run of an exchange

`Net.run`: an @main that is one exchange call, started on all devices with every semaphore at zero, terminates without a
fault; afterwards the buffers kept are as before, every piece written by a copy holds its final contents, and every
scoped semaphore is at zero.
-/
module

public import proofs.«01_k».proof.Proof.Body
public import Idealize.ShloMosaic.Lib.Pipeline.BigSepL
public import Idealize.ShloMosaic.Lib.Pipeline.TalkSched

@[expose] public section

noncomputable section

namespace Cert.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : Nat} {τ : Topo} {sig : RefSig} {Val : EltTy → Type} {Λ₀ : Labels} {J JL : Type}

local notation "𝕄" => MT nD τ sig Unit Val ℕ (UX nD τ sig) ℕ

/-- A family of assertions, each of which says something of the memory, says all of it. -/
theorem read_family {I : Type} [DecidableEq I] (s' : Phys nD τ sig Val) (Φ : I → sProp 𝕄) (P : I → Prop)
    (h : ∀ i, iprop(Φ i ∗ SI s') ⊢ (iprop(⌜P i⌝ ∗ SI s') : sProp 𝕄)) (S : Finset I) :
    iprop(bigSep S Φ ∗ SI s') ⊢ (iprop(⌜∀ i ∈ S, P i⌝ ∗ SI s') : sProp 𝕄) := by
  induction S using Finset.induction_on with
  | empty =>
    iintro ⟨-, HSI⟩
    isplitr; · ipureintro; simp
    iexact HSI
  | insert i S hi ih =>
    rw [show bigSep (insert i S) Φ = iprop(Φ i ∗ bigSep S Φ) from bigSep_insert hi]
    iintro ⟨⟨Hi, HS⟩, HSI⟩
    ihave H := (h i) $$ [Hi HSI]
    · isplitl [Hi] <;> iassumption
    icases H with ⟨%hP, HSI⟩
    ihave H := ih $$ [HS HSI]
    · isplitl [HS] <;> iassumption
    icases H with ⟨%hS, HSI⟩
    isplitr
    · ipureintro
      intro j hj
      rcases Finset.mem_insert.mp hj with rfl | hj
      exacts [hP, hS j hj]
    · iexact HSI

/-- A points-to at some share says what the memory holds. -/
theorem read_share (s' : Phys nD τ sig Val) (ℓ : Loc nD τ sig) (I : Finset (Idx ℓ)) (f : Buf Val ℓ) :
    iprop((∃ q : PosShare TreeShare, ℓ ↦[I]{q} f) ∗ SI s') ⊢ (iprop(⌜∀ i ∈ I, s'.mem.mem ℓ i = f i⌝ ∗ SI s') : sProp 𝕄) := by
  iintro ⟨⟨%q, Hi⟩, HSI⟩
  icombine HSI Hi gives %h
  isplitr
  · ipureintro; exact h
  · iexact HSI

/-- Some share of each buffer of a set, on device `c`, at the contents of the memory `m`. -/
def keeps (m : (ℓ : Loc nD τ sig) → Buf Val ℓ) (A : Finset (Ref sig .tc)) (c : Dev nD) : sProp 𝕄 :=
  bigSep A fun b => iprop(∃ q : PosShare TreeShare, ((c.tc : Thread nD τ).loc b) ↦{q} m _)

namespace Net

variable (X : Net nD τ sig J JL)
variable (m fin : (ℓ : Loc nD τ sig) → Buf Val ℓ)
variable [Fintype J] [Fintype JL] [DecidableEq J] [DecidableEq JL]

/-- The cells of all devices, and their tokens. -/
def cellSet : Finset (GSem nD τ sig) :=
  Finset.univ.map ⟨fun ck : Dev nD × SemLoc sig => ((ck.1.tc : Thread nD τ), ck.2), fun a b h => Prod.ext (congrArg (fun g : GSem nD τ sig => g.1.1) h) (congrArg (fun g : GSem nD τ sig => g.2) h)⟩
def tokSet : Finset (GSem nD τ sig × ℕ × Unit) :=
  Finset.univ.map ⟨fun ck : Dev nD × SemLoc sig => (((ck.1.tc : Thread nD τ), ck.2), 0, ()),
    fun a b h => Prod.ext (congrArg (fun g : GSem nD τ sig × ℕ × Unit => g.1.1.1) h) (congrArg (fun g : GSem nD τ sig × ℕ × Unit => g.1.2) h)⟩

/-- A family over the cells, device by device and index by index. -/
theorem bigSep_cellSet (Φ : GSem nD τ sig → sProp 𝕄) :
    bigSep cellSet Φ = bigSep Finset.univ fun c : Dev nD => bigSep Finset.univ fun k => Φ (X.cell c k) := by
  unfold cellSet; rw [bigSep_map, bigSep_univ_prod]
  exact bigSep_congr fun c _ => bigSep_univ_equiv X.cells (fun sm => Φ ((c.tc : Thread nD τ), sm))

theorem bigSep_tokSet (Φ : GSem nD τ sig × ℕ × Unit → sProp 𝕄) :
    bigSep tokSet Φ = bigSep Finset.univ fun c : Dev nD => bigSep Finset.univ fun k => Φ (X.cell c k, 0, ()) := by
  unfold tokSet; rw [bigSep_map, bigSep_univ_prod]
  exact bigSep_congr fun c _ => bigSep_univ_equiv X.cells (fun sm => Φ (((c.tc : Thread nD τ), sm), 0, ()))

/-- A family over devices and remote copies, indexed by the target, indexed by the sender instead. -/
theorem bigSep_perm (Φ : Dev nD → J → sProp 𝕄) :
    (bigSep Finset.univ fun c : Dev nD => bigSep Finset.univ fun j => Φ c j) = bigSep Finset.univ fun c : Dev nD => bigSep Finset.univ fun j => Φ (X.perm j c) j := by
  rw [BI.bigSep_univ_comm, bigSep_congr (s := Finset.univ) fun j _ => bigSep_univ_equiv (X.perm j) (fun c => Φ c j), BI.bigSep_univ_comm]

theorem dues_eq_sum (c : Dev nD) (l : List J) (hl : l.Nodup) : X.dues c l = ∑ j ∈ l.toFinset, X.due c j := by
  induction l with
  | nil => rfl
  | cons j l ih =>
    obtain ⟨h1, h2⟩ := List.nodup_cons.mp hl
    rw [List.toFinset_cons, Finset.sum_insert (by rwa [List.mem_toFinset]), ← ih h2, add_comm]; rfl

/-- The launch deals each device the credit for each arrival. -/
theorem arrivals_credit (pl : Plan J JL) (c : Dev nD) :
    (launchCred (fun d => X.dues d (pl.ls ++ pl.lp.map Prod.snd)) c : sProp 𝕄) ⊢ bigSep Finset.univ fun j => X.credK c (.inl (.inr j)) := by
  rw [show (fun d => X.dues d (pl.ls ++ pl.lp.map Prod.snd)) = fun d => ∑ j ∈ Finset.univ, X.due d j from
    funext fun d => by rw [X.dues_eq_sum d _ pl.nodup_s, ← pl.all_s], launchCred_sum]
  refine bigSep_mono fun j _ => ?_
  exact launchCred_tallyAt (X.cells (.inl (.inr j))) (X.perm j) (X.perm j).symm (fun c => (X.perm j).apply_symm_apply c) (fun c => (X.perm j).symm_apply_apply c) () (X.amt j) c

/-- What the buffers of a device are dealt as: some share of the buffers of `A`, the sources of the first copies, and the
    pieces the copies to this device write. -/
def Deal (A : Finset (Ref sig .tc)) (pl : Plan J JL) : Prop :=
  ∀ c : Dev nD, (unscopedBufs c (fun b => m ((c.tc : Thread nD τ).loc b)) : sProp 𝕄)
    ⊢ iprop(keeps m A c ∗ bigSepL pl.ls (X.source m c) ∗ bigSep Finset.univ (X.sourceL m c) ∗ bigSep Finset.univ (X.pieceL m fullShare c)
      ∗ bigSep Finset.univ fun j => X.piece m fullShare ((X.perm j).symm c) c j)

/-- The launch, dealt: every device its start. -/
theorem deal_start (A : Finset (Ref sig .tc)) (pl : Plan J JL) (hdeal : X.Deal m A pl) (hall : ∀ sm : SemLoc sig, sm.isScoped .tc = true) :
    (iprop(ownU (launchOf cellSet ∅ tokSet) ∗ levAts tcIx (X.lev pl.rank) ∗ (bigSep Finset.univ fun c : Dev nD => scopedSems0 (c.tc : Thread nD τ))
        ∗ (bigSep Finset.univ fun c : Dev nD => unscopedBufs c (fun b => m ((c.tc : Thread nD τ).loc b)))
        ∗ (bigSep Finset.univ fun c : Dev nD => launchCred (fun d => X.dues d (pl.ls ++ pl.lp.map Prod.snd)) c)) : sProp 𝕄)
      ⊢ |={Set.univ}=> bigSep Finset.univ fun c => iprop(keeps m A c ∗ X.start m fin pl c) := by
  have hsems : (bigSep Finset.univ fun c : Dev nD => (scopedSems0 (c.tc : Thread nD τ) : sProp 𝕄)) = bigSep cellSet fun g => semVal g 0 := by
    rw [X.bigSep_cellSet]
    refine bigSep_congr fun c _ => ?_
    rw [show (scopedSems0 (c.tc : Thread nD τ) : sProp 𝕄) = _ from scopedSems0_tc c,
      show (Finset.univ.filter fun sm : SemLoc sig => sm.isScoped .tc) = Finset.univ from Finset.filter_true_of_mem fun sm _ => hall sm,
      bigSep_univ_equiv X.cells (fun sm => (semVal ((c.tc : Thread nD τ), sm) 0 : sProp 𝕄))]
  have hbufs : (bigSep Finset.univ fun c : Dev nD => (unscopedBufs c (fun b => m ((c.tc : Thread nD τ).loc b)) : sProp 𝕄))
      ⊢ iprop((bigSep Finset.univ fun c : Dev nD => keeps m A c) ∗ (bigSep Finset.univ fun c : Dev nD => bigSepL pl.ls (X.source m c))
        ∗ (bigSep Finset.univ fun c : Dev nD => bigSep Finset.univ (X.sourceL m c)) ∗ (bigSep Finset.univ fun c : Dev nD => bigSep Finset.univ (X.pieceL m fullShare c))
        ∗ bigSep Finset.univ fun c : Dev nD => bigSep Finset.univ fun j => X.piece m fullShare c (X.perm j c) j) := by
    refine BI.BIBase.Entails.trans (bigSep_mono fun c _ => hdeal c) ?_
    rw [bigSep_sep', bigSep_sep', bigSep_sep', bigSep_sep', X.bigSep_perm fun c j => X.piece m fullShare ((X.perm j).symm c) c j]
    simp only [Equiv.symm_apply_apply]
    exact BI.Entails.refl _
  have hcred : (bigSep Finset.univ fun c : Dev nD => (launchCred (fun d => X.dues d (pl.ls ++ pl.lp.map Prod.snd)) c : sProp 𝕄))
      ⊢ bigSep Finset.univ fun c : Dev nD => bigSep Finset.univ fun j => X.credK c (.inl (.inr j)) := bigSep_mono fun c _ => X.arrivals_credit pl c
  have htoks : (bigSep tokSet fun x => (dutyTok EX x.1 x.2.1 x.2.2 : sProp 𝕄))
      = iprop((bigSep Finset.univ fun c : Dev nD => bigSep Finset.univ fun j => X.toks c j)
        ∗ bigSep Finset.univ fun c : Dev nD => bigSep Finset.univ fun l => dutyTok EX (X.cell c (.inr l)) 0 ()) := by
    rw [X.bigSep_tokSet]
    simp only [bigSep_cells (J := J) (JL := JL)]
    rw [bigSep_sep', bigSep_sep', X.bigSep_perm fun c j => dutyTok EX (X.cell c (.inl (.inr j))) 0 (), ← bigSep_sep']
    congr 1
    refine bigSep_congr fun c _ => ?_
    rw [← bigSep_sep']
    rfl
  have hownU : (ownU (launchOf cellSet ∅ tokSet) : sProp 𝕄) ⊢ BI.own (EX (launchOf cellSet ∅ tokSet)) := BI.Entails.refl _
  rw [hsems]
  iintro ⟨Hu, #HL, Hz, Hb, Hc⟩
  ihave Hu := hownU $$ Hu
  imod (Rounds.fund_launch EX (X.sched fin) (S := cellSet) (Sd := ∅) (Finset.disjoint_empty_right _) (fun g hg => absurd hg (Finset.notMem_empty g)) tokSet) $$ [Hz Hu] with ⟨%κ, -, Hinv, Hr, Hat, -, Htok⟩
  · isplitl [Hz]; · iexact Hz
    iexact Hu
  imodintro
  ihave Hb := hbufs $$ Hb
  ihave Hc := hcred $$ Hc
  ihave Htok := (Entails.of_eq htoks) $$ Htok
  icases Hb with ⟨Hk, Hs, HsL, HpL, Hp⟩
  icases Htok with ⟨HtJ, HtL⟩
  have hrecs : (iprop((bigSep (cellSet ∪ ∅) fun g => cellInv EX (X.sched fin) (κ g) g) ∗ bigSep cellSet fun g => reached EX g 0) : sProp 𝕄) = X.recs fin κ := by
    unfold recs cellSet; rw [Finset.union_empty, bigSep_map, bigSep_map]; rfl
  ihave HI := (Entails.of_eq hrecs) $$ [Hinv Hr]
  · isplitl [Hinv] <;> iassumption
  icases HI with #HI
  have hfinal : ∀ c : Dev nD, (iprop((X.recs fin κ ∗ levAts tcIx (X.lev pl.rank)) ∗ keeps m A c ∗ bigSep Finset.univ (X.at0 c)
      ∗ (bigSep Finset.univ fun j => X.credK c (.inl (.inr j))) ∗ (bigSep Finset.univ fun j => X.piece m fullShare c (X.perm j c) j)
      ∗ (bigSep Finset.univ fun j => X.toks c j) ∗ bigSep Finset.univ (X.sourceL m c) ∗ bigSep Finset.univ (X.pieceL m fullShare c)
      ∗ (bigSep Finset.univ fun l => dutyTok EX (X.cell c (.inr l)) 0 ()) ∗ bigSepL pl.ls (X.source m c)) : sProp 𝕄)
      ⊢ iprop(keeps m A c ∗ X.start m fin pl c) := fun c => by
    unfold start need needL
    rw [bigSep_cells (X.at0 c), bigSep_sep', bigSep_sep', bigSep_sep']
    iintro ⟨⟨#HI, #HL⟩, Hk, Hat, Hc, Hp, Ht, HsL, HpL, HtL, Hs⟩
    isplitl [Hk]; · iexact Hk
    iexists κ
    isplitr; · iexact HI
    isplitr; · iexact HL
    isplitl [Hat]; · iexact Hat
    isplitl [Hc]; · iexact Hc
    isplitl [Hp Ht]
    · isplitl [Hp] <;> iassumption
    isplitl [HsL HpL HtL]
    · isplitl [HsL]; · iexact HsL
      isplitl [HpL] <;> iassumption
    iexact Hs
  have hpers := (sep_mono_left (BI.bigSep_of_persistent (Finset.univ : Finset (Dev nD)) (iprop(X.recs fin κ ∗ levAts tcIx (X.lev pl.rank)) : sProp 𝕄)) :
    iprop((X.recs fin κ ∗ levAts tcIx (X.lev pl.rank)) ∗ bigSep Finset.univ fun c : Dev nD => (iprop(keeps m A c ∗ bigSep Finset.univ (X.at0 c)
      ∗ (bigSep Finset.univ fun j => X.credK c (.inl (.inr j))) ∗ (bigSep Finset.univ fun j => X.piece m fullShare c (X.perm j c) j)
      ∗ (bigSep Finset.univ fun j => X.toks c j) ∗ bigSep Finset.univ (X.sourceL m c) ∗ bigSep Finset.univ (X.pieceL m fullShare c)
      ∗ (bigSep Finset.univ fun l => dutyTok EX (X.cell c (.inr l)) 0 ()) ∗ bigSepL pl.ls (X.source m c)) : sProp 𝕄)) ⊢ _)
  rw [← bigSep_sep'] at hpers
  iapply (BI.BIBase.Entails.trans hpers (bigSep_mono fun c _ => hfinal c))
  isplitr
  · isplitr; · iexact HI
    iexact HL
  rw [bigSep_sep', bigSep_sep', bigSep_sep', bigSep_sep', bigSep_sep', bigSep_sep', bigSep_sep', bigSep_sep']
  isplitl [Hk]; · iexact Hk
  isplitl [Hat]
  · iapply (Entails.of_eq (X.bigSep_cellSet fun g => (atPos EX g 0 ∅ 0 : sProp 𝕄))); iexact Hat
  isplitl [Hc]; · iexact Hc
  isplitl [Hp]; · iexact Hp
  isplitl [HtJ]; · iexact HtJ
  isplitl [HsL]; · iexact HsL
  isplitl [HpL]; · iexact HpL
  isplitl [HtL]; · iexact HtL
  iexact Hs

/-- What the memory holds of an arrived piece, and of the piece of a local copy. -/
theorem read_have (c : Dev nD) (s' : Phys nD τ sig Val) (j : J) :
    iprop(X.have' fin c j ∗ SI s') ⊢ (iprop(⌜∀ i ∈ (X.rem ((X.perm j).symm c) j).dst.view.set,
        s'.mem.mem ((X.rem ((X.perm j).symm c) j).dst.view.loc (c.tc : Thread nD τ)) i = fin ((X.rem ((X.perm j).symm c) j).dst.view.loc (c.tc : Thread nD τ)) i⌝
      ∗ SI s') : sProp 𝕄) := by
  unfold have' piece
  exact read_share s' _ _ _

theorem read_haveL (c : Dev nD) (s' : Phys nD τ sig Val) (l : JL) :
    iprop(X.haveL fin c l ∗ SI s') ⊢ (iprop(⌜∀ i ∈ (X.loc c l).dst.view.set,
        s'.mem.mem ((X.loc c l).dst.view.loc (c.tc : Thread nD τ)) i = fin ((X.loc c l).dst.view.loc (c.tc : Thread nD τ)) i⌝
      ∗ SI s') : sProp 𝕄) := by
  unfold haveL pieceL
  exact read_share s' _ _ _

/-- The run of an exchange. The copies write what `fin` says (`hsend`, `hpass`, `hloc`), a passed-on copy reads what
    arrived (`hsrc`), and the buffers at the launch can be dealt to the copies (`hdeal`). -/
theorem run (cfgs : Fin 1 → Cfg sig Λ₀) [hW : ∀ p, IsEmpty (Fin (cfgs p).W)] [∀ e, Nonempty (Val e)]
    (phinj : Function.Injective (cellOf (nD := nD) (τ := τ) cfgs)) (hN : (cfgs 0).N = 1) (hnobuf : ∀ b : Ref sig .tc, b.isScoped = false)
    (hall : ∀ sm : SemLoc sig, sm.isScoped .tc = true) (defs₀ : Defs nD τ sig Val Λ₀) (g : Dev nD → PrngReg)
    (main : Dev nD → Prog (TpuEff nD τ sig Val (Pipeline.Sig Λ₀ (Fin 1) fun p => ((cfgs p).toPCfg (Val := Val)).Adm) .tc) PUnit)
    (hmain : ∀ c, main c = .op (.customCall (entry 0) ()) fun _ => .ret ⟨⟩)
    (pl : Plan J JL)
    (hbody : ∀ (c : Dev nD) (t : Fin (cfgs 0).N) (Q : sProp 𝕄), wpc defs₀ c (X.body c pl.ll pl.ls pl.lp pl.lw) (fun _ => Q)
      ⊢ wp frame (wpE defs₀ Variants.none (c.tc : Thread nD τ) none) Set.univ (defs₀ .tc (cfgs 0).body ((cfgs 0).bodyArgs t ((cfgs 0).slots t))) fun _ => Q)
    (hsend : ∀ c, ∀ j ∈ pl.ls, X.SendVal m fin m c j) (hpass : ∀ c, ∀ p ∈ pl.lp, X.SendVal m fin fin c p.2) (hloc : ∀ c, ∀ l ∈ pl.ll, X.LocalVal m fin c l)
    (hsrc : ∀ c, ∀ p ∈ pl.lp, ∀ q : PosShare TreeShare, (X.piece fin q ((X.perm p.1).symm c) c p.1 : sProp 𝕄) ⊢ X.source fin c p.2)
    (A : Finset (Ref sig .tc)) (hdeal : X.Deal m A pl) :
    θ_run (Pipeline.defs (fun p => (cfgs p).toPCfg) defs₀) (onTc main) ⟨m, fun _ => 0, g⟩
      (fun r => (∀ c : Dev nD, (∀ b ∈ A, r.2.mem ((c.tc : Thread nD τ).loc b) = m ((c.tc : Thread nD τ).loc b))
          ∧ (∀ j, ∀ i ∈ (X.rem ((X.perm j).symm c) j).dst.view.set,
              r.2.mem ((X.rem ((X.perm j).symm c) j).dst.view.loc (c.tc : Thread nD τ)) i = fin ((X.rem ((X.perm j).symm c) j).dst.view.loc (c.tc : Thread nD τ)) i)
          ∧ (∀ l, ∀ i ∈ (X.loc c l).dst.view.set,
              r.2.mem ((X.loc c l).dst.view.loc (c.tc : Thread nD τ)) i = fin ((X.loc c l).dst.view.loc (c.tc : Thread nD τ)) i))
        ∧ ∀ g' : GSem nD τ sig, (g'.1.2 ≠ .tc ∨ g'.2.isScoped .tc = true) → r.2.sem g' = 0) := by
  refine run_call cfgs phinj hN hnobuf EX defs₀ m g main hmain (fun d => X.dues d (pl.ls ++ pl.lp.map Prod.snd)) (X.lev pl.rank)
    (fun c => iprop(keeps m A c ∗ X.start m fin pl c)) (fun c => iprop(keeps m A c ∗ X.final fin c)) ?_ (launchOf cellSet ∅ tokSet)
    (X.deal_start m fin A pl hdeal hall) (fun c mem => (∀ b ∈ A, mem.mem ((c.tc : Thread nD τ).loc b) = m ((c.tc : Thread nD τ).loc b))
          ∧ (∀ j, ∀ i ∈ (X.rem ((X.perm j).symm c) j).dst.view.set,
              mem.mem ((X.rem ((X.perm j).symm c) j).dst.view.loc (c.tc : Thread nD τ)) i = fin ((X.rem ((X.perm j).symm c) j).dst.view.loc (c.tc : Thread nD τ)) i)
          ∧ (∀ l, ∀ i ∈ (X.loc c l).dst.view.set,
              mem.mem ((X.loc c l).dst.view.loc (c.tc : Thread nD τ)) i = fin ((X.loc c l).dst.view.loc (c.tc : Thread nD τ)) i)) ?_
  · intro c t W
    refine BI.BIBase.Entails.trans ?_ (hbody c t _)
    have h := X.body_wp m fin (defs := defs₀) pl hall c (hsend c) (hpass c) (hloc c) (hsrc c) W
    have h' : (iprop(keeps m A c ∗ X.start m fin pl c ∗ owes (c.tc : Thread nD τ) (X.dues c (pl.ls ++ pl.lp.map Prod.snd)) W) : sProp 𝕄)
        ⊢ wpc defs₀ c (X.body c pl.ll pl.ls pl.lp pl.lw) fun _ => iprop(keeps m A c ∗ ((X.final fin c ∗ scopedSems0 (c.tc : Thread nD τ))
          ∗ ∃ W' : Finset (SemLoc sig × Unit), owes (c.tc : Thread nD τ) (0 : CellTallies nD τ sig Unit) W')) :=
      BI.BIBase.Entails.trans (sep_mono_right h) (wp_frame_l _ _ _)
    have h'' := BI.BIBase.Entails.trans h' (wp_mono _ _ _ (Q' := fun _ => iprop(((keeps m A c ∗ X.final fin c) ∗ scopedSems0 (c.tc : Thread nD τ))
          ∗ ∃ W' : Finset (SemLoc sig × Unit), owes (c.tc : Thread nD τ) (0 : CellTallies nD τ sig Unit) W')) fun _ => by
        iintro ⟨Hk, ⟨Hf, Hz⟩, HO⟩
        isplitr [HO]
        · isplitr [Hz]
          · isplitl [Hk] <;> iassumption
          iexact Hz
        iexact HO)
    refine BI.BIBase.Entails.trans ?_ h''
    iintro ⟨⟨Hk, Hs⟩, HO⟩
    isplitl [Hk]; · iexact Hk
    isplitl [Hs] <;> iassumption
  · intro c s'
    unfold keeps final
    have h1 := read_family s' (fun b : Ref sig .tc => iprop(∃ q : PosShare TreeShare, ((c.tc : Thread nD τ).loc b) ↦{q} m _))
      (fun b => s'.mem.mem ((c.tc : Thread nD τ).loc b) = m ((c.tc : Thread nD τ).loc b))
      (fun b => BI.BIBase.Entails.trans (read_share s' _ Finset.univ _) (sep_mono_left (BI.pure_mono fun h => Buf.eq_of_forall_mem_univ h))) A
    have h2 := read_family s' (X.have' fin c) (fun j => ∀ i ∈ (X.rem ((X.perm j).symm c) j).dst.view.set,
        s'.mem.mem ((X.rem ((X.perm j).symm c) j).dst.view.loc (c.tc : Thread nD τ)) i = fin ((X.rem ((X.perm j).symm c) j).dst.view.loc (c.tc : Thread nD τ)) i)
      (X.read_have fin c s') Finset.univ
    have h3 := read_family s' (X.haveL fin c) (fun l => ∀ i ∈ (X.loc c l).dst.view.set,
        s'.mem.mem ((X.loc c l).dst.view.loc (c.tc : Thread nD τ)) i = fin ((X.loc c l).dst.view.loc (c.tc : Thread nD τ)) i)
      (X.read_haveL fin c s') Finset.univ
    iintro ⟨⟨Hk, ⟨Hj, Hl⟩⟩, HSI⟩
    ihave H := h1 $$ [Hk HSI]
    · isplitl [Hk] <;> iassumption
    icases H with ⟨%e1, HSI⟩
    ihave H := h2 $$ [Hj HSI]
    · isplitl [Hj] <;> iassumption
    icases H with ⟨%e2, HSI⟩
    ihave H := h3 $$ [Hl HSI]
    · isplitl [Hl] <;> iassumption
    icases H with ⟨%e3, HSI⟩
    imodintro
    isplitr
    · ipureintro; exact ⟨e1, fun j => e2 j (Finset.mem_univ j), fun l => e3 l (Finset.mem_univ l)⟩
    · iexact HSI

end Net

end Cert.Exchange

end
-- ==== Proof.Flat.lean ====
/-
# Blocks of an array in row-major order

Every piece that an exchange moves is a run of consecutive elements of an array in row-major order. `FlatAt v o` says
that the view `v` is such a run, starting at element `o`. Rectangles that keep the trailing axes whole are runs, and so
is a run indexed by another shape.
-/
module

public import proofs.«01_k».proof.Proof.Run
public import Idealize.ShloMosaic.Lib.Pipeline.ValueKit.Geometry

@[expose] public section

noncomputable section

namespace Cert.Exchange

open Idealize.ShloMosaic Idealize.ShloMosaic.TcCoe

variable {sig : RefSig} {κ : Kind} {sp : Space} {s : Shape} {e : EltTy}

/-- The view is a run of consecutive elements of its buffer, starting at element `o`. -/
def FlatAt (v : View sig κ sp s e) (o : ℕ) : Prop :=
  ∀ x : s.Idx, (v.ty.shape.rowMajor (v.emb x)).val = o + (s.rowMajor x).val

theorem flat_whole (b : Ref sig κ) : FlatAt (View.whole b : View sig κ _ _ _) 0 := fun x => (Nat.zero_add _).symm

theorem flat_isWhole {m : Memref sig κ sp s e} (h : m.IsWhole) : FlatAt m.view 0 := by
  obtain ⟨b, rfl, rfl, rfl, h⟩ := h
  cases h
  exact flat_whole b

theorem FlatAt.reshape {v : View sig κ sp s e} {o : ℕ} (h : FlatAt v o) (s' : Shape) (hs : s'.numel = s.numel) : FlatAt (v.reshape s' hs) o := by
  intro x
  refine (h (Shape.reshapeEquiv hs x)).trans ?_
  rw [Shape.rowMajor_reshapeEquiv]

theorem FlatAt.slice {v : View sig κ sp s e} {o k : ℕ} (h : FlatAt v o) (r : Rect s)
    (hr : ∀ y : r.shape.Idx, (s.rowMajor (r.emb y)).val = k + (r.shape.rowMajor y).val) : FlatAt (v.slice r) (o + k) := by
  intro x
  refine (h (r.emb x)).trans ?_
  rw [hr x]
  omega

/-- Some leading rows of an array of rank three. -/
theorem rect_three {K L R C k : ℕ} (off : Fin 3 → ℕ) (hoff : off = ![k, 0, 0])
    (inb : ∀ a, off a + (![L, R, C] : Fin 3 → ℕ) a ≤ (⟨3, ![K, R, C]⟩ : Shape).size a)
    (y : (Rect.unit (s := ⟨3, ![K, R, C]⟩) off ![L, R, C] inb).shape.Idx) :
    ((⟨3, ![K, R, C]⟩ : Shape).rowMajor ((Rect.unit (s := ⟨3, ![K, R, C]⟩) off ![L, R, C] inb).emb y)).val
      = k * (R * C) + ((Rect.unit (s := ⟨3, ![K, R, C]⟩) off ![L, R, C] inb).shape.rowMajor y).val := by
  subst hoff
  rw [Shape.rowMajor_val_three, show ((Rect.unit (s := ⟨3, ![K, R, C]⟩) ![k, 0, 0] ![L, R, C] inb).shape.rowMajor y).val = _ from Shape.rowMajor_val_three (d := ![L, R, C]) y]
  rw [ValueKit.rect_emb_unit_val, ValueKit.rect_emb_unit_val, ValueKit.rect_emb_unit_val]
  show ((k + (y 0).val) * R + (0 + (y 1).val)) * C + (0 + (y 2).val) = k * (R * C) + (((y 0).val * R + (y 1).val) * C + (y 2).val)
  simp only [Nat.add_mul, Nat.mul_assoc, Nat.zero_add, Nat.add_assoc]

/-- Some rows, from the second axis on, of one row of an array of rank four. -/
theorem rect_four {K H L R C k h : ℕ} (off : Fin 4 → ℕ) (hoff : off = ![k, h, 0, 0])
    (inb : ∀ a, off a + (![1, L, R, C] : Fin 4 → ℕ) a ≤ (⟨4, ![K, H, R, C]⟩ : Shape).size a)
    (y : (Rect.unit (s := ⟨4, ![K, H, R, C]⟩) off ![1, L, R, C] inb).shape.Idx) :
    ((⟨4, ![K, H, R, C]⟩ : Shape).rowMajor ((Rect.unit (s := ⟨4, ![K, H, R, C]⟩) off ![1, L, R, C] inb).emb y)).val
      = (k * H + h) * (R * C) + ((Rect.unit (s := ⟨4, ![K, H, R, C]⟩) off ![1, L, R, C] inb).shape.rowMajor y).val := by
  subst hoff
  rw [Shape.rowMajor_val_four, show ((Rect.unit (s := ⟨4, ![K, H, R, C]⟩) ![k, h, 0, 0] ![1, L, R, C] inb).shape.rowMajor y).val = _ from Shape.rowMajor_val_four (d := ![1, L, R, C]) y]
  rw [ValueKit.rect_emb_unit_val, ValueKit.rect_emb_unit_val, ValueKit.rect_emb_unit_val, ValueKit.rect_emb_unit_val]
  have h0 : (y 0).val = 0 := by have : (y 0).val < 1 := (y 0).isLt; omega
  show (((k + (y 0).val) * H + (h + (y 1).val)) * R + (0 + (y 2).val)) * C + (0 + (y 3).val) = (k * H + h) * (R * C) + ((((y 0).val * L + (y 1).val) * R + (y 2).val) * C + (y 3).val)
  rw [h0]
  simp only [Nat.add_mul, Nat.mul_assoc, Nat.zero_add, Nat.add_assoc, Nat.zero_mul, Nat.add_zero]

/-! ## The elements of a run -/

/-- The elements from `lo` to `hi` of a buffer. -/
def run (b : Ref sig κ) (lo hi : ℕ) : Finset b.ty.shape.Idx := Finset.univ.filter fun i => lo ≤ (b.ty.shape.rowMajor i).val ∧ (b.ty.shape.rowMajor i).val < hi

theorem mem_run {b : Ref sig κ} {lo hi : ℕ} {i : b.ty.shape.Idx} : i ∈ run b lo hi ↔ lo ≤ (b.ty.shape.rowMajor i).val ∧ (b.ty.shape.rowMajor i).val < hi := by simp [run]

theorem disjoint_run {b : Ref sig κ} {lo hi lo' hi' : ℕ} (h : hi ≤ lo' ∨ hi' ≤ lo) : Disjoint (run b lo hi) (run b lo' hi') := by
  rw [Finset.disjoint_left]
  intro i h1 h2
  rw [mem_run] at h1 h2
  omega

theorem FlatAt.set {v : View sig κ sp s e} {o : ℕ} (h : FlatAt v o) : v.set = run v.ref o (o + s.numel) := by
  ext i
  rw [mem_run]
  constructor
  · intro hi
    obtain ⟨x, rfl⟩ := View.exists_emb_of_mem_set _ hi
    rw [show (v.ref.ty.shape.rowMajor (v.emb x)).val = _ from h x]
    have := (s.rowMajor x).isLt
    omega
  · rintro ⟨h1, h2⟩
    have hx := h (s.rowMajor.symm ⟨(v.ref.ty.shape.rowMajor i).val - o, by omega⟩)
    rw [Equiv.apply_symm_apply] at hx
    have e : v.emb (s.rowMajor.symm ⟨(v.ref.ty.shape.rowMajor i).val - o, by omega⟩) = i := by
      apply v.ty.shape.rowMajor.injective
      apply Fin.ext
      rw [hx]
      show o + ((v.ref.ty.shape.rowMajor i).val - o) = (v.ref.ty.shape.rowMajor i).val
      omega
    rw [← e]
    exact View.emb_mem_set _ _

/-! ## Elements by row-major position -/

variable {nD : Nat} {τ : Topo} {Val : EltTy → Type} [∀ e, Nonempty (Val e)]

/-- The element at a row-major position of a buffer's contents. -/
def pick {t : BufTy} (f : t.Contents Val) (k : ℕ) : Val t.elt :=
  if h : k < t.shape.numel then f (t.shape.rowMajor.symm ⟨k, h⟩) else Classical.ofNonempty

theorem pick_rowMajor {t : BufTy} (f : t.Contents Val) (i : t.Idx) : pick f (t.shape.rowMajor i).val = f i := by
  unfold pick
  rw [dif_pos (t.shape.rowMajor i).isLt]
  congr 1
  exact t.shape.rowMajor.symm_apply_apply i

/-- A memory that holds given contents in given buffers, whose names are apart. -/
theorem exists_memory {A : Type} (m : (ℓ : Loc nD τ sig) → Buf Val ℓ) (out : A → Ref sig .tc) (inj : Function.Injective out)
    (f : (d : Dev nD) → (a : A) → Buf Val ((d.tc : Thread nD τ).loc (out a))) :
    ∃ fin : (ℓ : Loc nD τ sig) → Buf Val ℓ, ∀ (d : Dev nD) (a : A), fin ((d.tc : Thread nD τ).loc (out a)) = f d a := by
  have h : ∀ ℓ : Loc nD τ sig, ∃ g : Buf Val ℓ, ∀ (d : Dev nD) (a : A) (h : ((d.tc : Thread nD τ).loc (out a)) = ℓ), HEq g (f d a) := by
    intro ℓ
    by_cases hℓ : ∃ (d : Dev nD) (a : A), ((d.tc : Thread nD τ).loc (out a)) = ℓ
    · obtain ⟨d, a, rfl⟩ := hℓ
      refine ⟨f d a, fun d' a' h' => ?_⟩
      have hd : d' = d := congrArg Prod.fst h'
      have ha : a' = a := inj (Proc.devRef_injective (.tc : Proc τ) (congrArg Prod.snd h'))
      subst hd; subst ha; rfl
    · exact ⟨m ℓ, fun d a h => absurd ⟨d, a, h⟩ hℓ⟩
  choose g hg using h
  exact ⟨g, fun d a => eq_of_heq (hg _ d a rfl)⟩

end Cert.Exchange

end
-- ==== Proof.Table.lean ====
/-
# Exchanges of blocks of arrays

An exchange over a family `A` of arrays does the same to each array: it has the same copies, given by `K` and `KL`, and
every copy moves whole blocks of the array. `Pattern` says, without the arrays, which block every copy reads and writes
and on which device, and where each block of a result comes from. `Table` says that the copies of a `Net` are those of
the pattern. `Table.run` is the result: the inputs stay as they were, and every block of every output is the block of an
input that the pattern names.
-/
module

public import proofs.«01_k».proof.Proof.Flat

@[expose] public section

noncomputable section

namespace Cert.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

/-- Which blocks move where. Copy `k` of device `c` goes to device `pm k c`, reads block `ks c k` and writes block
    `kd c k`; it reads the output when `fwd k`, the input otherwise. A local copy reads `len l` blocks of the input from
    block `ksL c l` on and writes them from block `kdL c l` on. Block `q` of the output of device `d`, of `Q` blocks,
    is block `(org d q).2` of the input of device `(org d q).1`. -/
structure Pattern (nD : ℕ) (K KL : Type) where
  pm : K → Equiv.Perm (Dev nD)
  fwd : K → Bool
  ks : Dev nD → K → ℕ
  kd : Dev nD → K → ℕ
  ksL : Dev nD → KL → ℕ
  kdL : Dev nD → KL → ℕ
  len : KL → ℕ
  Q : ℕ
  org : Dev nD → ℕ → Dev nD × ℕ
  kd_lt : ∀ c k, kd c k < Q
  org_send : ∀ c k, fwd k = false → org (pm k c) (kd c k) = (c, ks c k)
  org_pass : ∀ c k, fwd k = true → ks c k < Q ∧ org (pm k c) (kd c k) = org c (ks c k)
  org_local : ∀ c l, ∀ t < len l, kdL c l + t < Q ∧ org c (kdL c l + t) = (c, ksL c l + t)
  disj : ∀ d k k', k ≠ k' → kd ((pm k).symm d) k ≠ kd ((pm k').symm d) k'
  disj_l : ∀ d k l, kd ((pm k).symm d) k < kdL d l ∨ kdL d l + len l ≤ kd ((pm k).symm d) k
  disj_ll : ∀ d l l', l ≠ l' → kdL d l + len l ≤ kdL d l' ∨ kdL d l' + len l' ≤ kdL d l
  cover : ∀ d, ∀ q < Q, (∃ k, kd ((pm k).symm d) k = q) ∨ ∃ l, kdL d l ≤ q ∧ q < kdL d l + len l

variable {nD : Nat} {τ : Topo} {sig : RefSig} {Val : EltTy → Type} {Λ₀ : Labels} {A K KL : Type}

local notation "𝕄" => MT nD τ sig Unit Val ℕ (UX nD τ sig) ℕ

/-- The copies of `X` are those of the pattern, on inputs `inp a` and outputs `out a` with blocks of `n a` elements. -/
structure Table (X : Net nD τ sig (A × K) (A × KL)) (P : Pattern nD K KL) where
  inp : A → Ref sig .tc
  out : A → Ref sig .tc
  n : A → ℕ
  n_pos : ∀ a, 0 < n a
  out_inj : Function.Injective out
  out_inp : ∀ a a', out a ≠ inp a'
  elt_eq : ∀ a, (out a).ty.elt = (inp a).ty.elt
  numel : ∀ a, (out a).ty.shape.numel = P.Q * n a
  perm_eq : ∀ a k, X.perm (a, k) = P.pm k
  dst_ref : ∀ c a k, (X.rem c (a, k)).dst.view.ref = out a
  dst_flat : ∀ c a k, FlatAt (X.rem c (a, k)).dst.view (P.kd c k * n a)
  src_ref : ∀ c a k, (X.rem c (a, k)).src.view.ref = if P.fwd k = true then out a else inp a
  src_flat : ∀ c a k, FlatAt (X.rem c (a, k)).src.view (P.ks c k * n a)
  size : ∀ c a k, (X.rem c (a, k)).s.numel = n a
  dst_refL : ∀ c a l, (X.loc c (a, l)).dst.view.ref = out a
  dst_flatL : ∀ c a l, FlatAt (X.loc c (a, l)).dst.view (P.kdL c l * n a)
  src_refL : ∀ c a l, (X.loc c (a, l)).src.view.ref = inp a
  src_flatL : ∀ c a l, FlatAt (X.loc c (a, l)).src.view (P.ksL c l * n a)
  sizeL : ∀ c a l, (X.loc c (a, l)).s.numel = P.len l * n a

/-! ## Views as runs -/

/-- The points-to of a view that is a run of `b` is that of the run. -/
theorem view_run {sp : Space} {s : Shape} {e : EltTy} (v : View sig .tc sp s e) {b : Ref sig .tc} {o n : ℕ} (hb : v.ref = b) (hf : FlatAt v o) (hn : s.numel = n)
    (d : Dev nD) (q : PosShare TreeShare) (f : (ℓ : Loc nD τ sig) → Buf Val ℓ) :
    ((v.loc (d.tc : Thread nD τ) ↦[v.set]{q} f _) : sProp 𝕄) = (((d.tc : Thread nD τ).loc b) ↦[run b o (o + n)]{q} f _) := by
  subst hb; subst hn
  rw [hf.set]

/-- Memories that agree on a view that is a run of `b` agree on the run. -/
theorem view_agree {sp : Space} {s : Shape} {e : EltTy} (v : View sig .tc sp s e) {b : Ref sig .tc} {o n : ℕ} (hb : v.ref = b) (hf : FlatAt v o) (hn : s.numel = n)
    (d : Dev nD) (f g : (ℓ : Loc nD τ sig) → Buf Val ℓ)
    (h : ∀ i ∈ v.set, f (v.loc (d.tc : Thread nD τ)) i = g (v.loc (d.tc : Thread nD τ)) i) :
    ∀ i ∈ run b o (o + n), f ((d.tc : Thread nD τ).loc b) i = g ((d.tc : Thread nD τ).loc b) i := by
  subst hb; subst hn
  rw [← hf.set]; exact h

section Values

variable [∀ e, Nonempty (Val e)]

theorem pick_congr (f : (ℓ : Loc nD τ sig) → Buf Val ℓ) (d : Dev nD) {b b' : Ref sig .tc} (h : b = b') (k : ℕ) :
    HEq (pick (f ((d.tc : Thread nD τ).loc b)) k) (pick (f ((d.tc : Thread nD τ).loc b')) k) := by subst h; rfl

/-- A copy between two runs writes, at each element, the element of its source at the same place of the run. -/
theorem copy_value {sp sp' : Space} {s : Shape} {e : EltTy} (src : View sig .tc sp s e) (dst : View sig .tc sp' s e) {b b' : Ref sig .tc} {o o' : ℕ}
    (hb : src.ref = b) (hf : FlatAt src o) (hb' : dst.ref = b') (hf' : FlatAt dst o')
    (base old fin : (ℓ : Loc nD τ sig) → Buf Val ℓ) (c d : Dev nD)
    (h : ∀ t < s.numel, HEq (pick (fin ((d.tc : Thread nD τ).loc b')) (o' + t)) (pick (base ((c.tc : Thread nD τ).loc b)) (o + t))) :
    ∀ i ∈ dst.set, dst.write Val (old (dst.loc (d.tc : Thread nD τ))) (src.read Val (base (src.loc (c.tc : Thread nD τ)))) Finset.univ i
      = fin (dst.loc (d.tc : Thread nD τ)) i := by
  intro i hi
  subst hb; subst hb'
  obtain ⟨x, rfl⟩ := View.exists_emb_of_mem_set _ hi
  rw [View.write_emb_of_mem _ _ (Finset.mem_univ x), View.read_apply]
  apply eq_of_heq
  refine (cast_heq _ _).trans ((cast_heq _ _).trans ?_)
  have h1 := h (s.rowMajor x).val (s.rowMajor x).isLt
  rw [← hf x, ← hf' x] at h1
  have e1 : pick (base ((c.tc : Thread nD τ).loc src.ref)) (src.ty.shape.rowMajor (src.emb x)).val = base ((c.tc : Thread nD τ).loc src.ref) (src.emb x) :=
    pick_rowMajor (t := src.ref.ty) _ _
  have e2 : pick (fin ((d.tc : Thread nD τ).loc dst.ref)) (dst.ty.shape.rowMajor (dst.emb x)).val = fin ((d.tc : Thread nD τ).loc dst.ref) (dst.emb x) :=
    pick_rowMajor (t := dst.ref.ty) _ _
  rw [e1, e2] at h1
  exact h1.symm

end Values

/-! ## Dealing -/

/-- What yields a copy of each member of a family yields the family. -/
theorem dup_list {I : Type} (R : sProp 𝕄) (Φ : I → sProp 𝕄) (l : List I) (h : ∀ i ∈ l, R ⊢ (iprop(R ∗ Φ i) : sProp 𝕄)) :
    R ⊢ (iprop(R ∗ bigSepL l Φ) : sProp 𝕄) := by
  induction l with
  | nil =>
    simp only [bigSepL_nil]
    iintro H
    isplitl [H]; · iexact H
    iempintro
  | cons i l ih =>
    rw [bigSepL_cons']
    refine BI.BIBase.Entails.trans (h i List.mem_cons_self) ?_
    refine BI.BIBase.Entails.trans (sep_mono_left (ih fun j hj => h j (List.mem_cons_of_mem _ hj))) ?_
    iintro ⟨⟨H1, H2⟩, H3⟩
    isplitl [H1]; · iexact H1
    isplitl [H3] <;> iassumption

theorem dup_set {I : Type} [DecidableEq I] (R : sProp 𝕄) (Φ : I → sProp 𝕄) (S : Finset I) (h : ∀ i, R ⊢ (iprop(R ∗ Φ i) : sProp 𝕄)) :
    R ⊢ (iprop(R ∗ bigSep S Φ) : sProp 𝕄) := by
  induction S using Finset.induction_on with
  | empty =>
    simp only [bigSep_empty]
    iintro H
    isplitl [H]; · iexact H
    iempintro
  | insert i S hi ih =>
    rw [show bigSep (insert i S) Φ = iprop(Φ i ∗ bigSep S Φ) from bigSep_insert hi]
    refine BI.BIBase.Entails.trans (h i) ?_
    refine BI.BIBase.Entails.trans (sep_mono_left ih) ?_
    iintro ⟨⟨H1, H2⟩, H3⟩
    isplitl [H1]; · iexact H1
    isplitl [H3] <;> iassumption

/-- A share of a buffer, split in two shares, the second of some elements only. -/
theorem share_part (ℓ : Loc nD τ sig) (I : Finset (Idx ℓ)) (f : Buf Val ℓ) :
    iprop(∃ q : PosShare TreeShare, ℓ ↦{q} f) ⊢ (iprop((∃ q : PosShare TreeShare, ℓ ↦{q} f) ∗ ∃ q : PosShare TreeShare, ℓ ↦[I]{q} f) : sProp 𝕄) := by
  iintro ⟨%q, H⟩
  ihave H := (pointsTo_share (PosShare.mem_left_op_right q)).1 $$ H
  icases H with ⟨H1, H2⟩
  isplitl [H1]
  · iexists _; iexact H1
  iexists q.right
  ihave H := (pointsTo_split_subset (Finset.subset_univ I)).1 $$ H2
  icases H with ⟨H, -⟩
  iexact H

theorem keeps_part (m : (ℓ : Loc nD τ sig) → Buf Val ℓ) (S : Finset (Ref sig .tc)) (c : Dev nD) {sp : Space} {s : Shape} {e : EltTy} (v : View sig .tc sp s e)
    (hv : v.ref ∈ S) :
    keeps m S c ⊢ (iprop(keeps m S c ∗ ∃ q : PosShare TreeShare, v.loc (c.tc : Thread nD τ) ↦[v.set]{q} m _) : sProp 𝕄) := by
  unfold keeps
  have h := share_part (Val := Val) ((c.tc : Thread nD τ).loc v.ref) v.set (m _)
  rw [show bigSep S (fun b : Ref sig .tc => (iprop(∃ q : PosShare TreeShare, ((c.tc : Thread nD τ).loc b) ↦{q} m _) : sProp 𝕄))
    = iprop((∃ q : PosShare TreeShare, ((c.tc : Thread nD τ).loc v.ref) ↦{q} m _)
      ∗ bigSep (S.erase v.ref) fun b : Ref sig .tc => (iprop(∃ q : PosShare TreeShare, ((c.tc : Thread nD τ).loc b) ↦{q} m _) : sProp 𝕄)) from bigSep_erase hv]
  refine BI.BIBase.Entails.trans (sep_mono_left h) ?_
  iintro ⟨⟨H1, H2⟩, H3⟩
  isplitl [H1 H3]
  · isplitl [H1] <;> iassumption
  iexact H2

namespace Table

variable {X : Net nD τ sig (A × K) (A × KL)} {P : Pattern nD K KL} (T : Table X P)
variable [Fintype A] [Fintype K] [Fintype KL] [DecidableEq A] [DecidableEq K] [DecidableEq KL]

/-- The elements of output `a` of device `d` that one copy to it writes. -/
def part (d : Dev nD) (a : A) : K ⊕ KL → Finset (T.out a).ty.shape.Idx
  | .inl k => run (T.out a) (P.kd ((P.pm k).symm d) k * T.n a) (P.kd ((P.pm k).symm d) k * T.n a + T.n a)
  | .inr l => run (T.out a) (P.kdL d l * T.n a) (P.kdL d l * T.n a + P.len l * T.n a)

theorem part_disjoint (d : Dev nD) (a : A) (x y : K ⊕ KL) (h : x ≠ y) : Disjoint (T.part d a x) (T.part d a y) := by
  have one : ∀ p q : ℕ, p + 1 ≤ q → p * T.n a + T.n a ≤ q * T.n a := fun p q hpq => by
    have := Nat.mul_le_mul_right (T.n a) hpq; rw [Nat.add_mul, Nat.one_mul] at this; exact this
  have many : ∀ p r q : ℕ, p + r ≤ q → p * T.n a + r * T.n a ≤ q * T.n a := fun p r q hpq => by
    have := Nat.mul_le_mul_right (T.n a) hpq; rw [Nat.add_mul] at this; exact this
  rcases x with k | l <;> rcases y with k' | l'
  · have hk := P.disj d k k' fun e => h (by rw [e])
    apply disjoint_run
    rcases Nat.lt_or_gt_of_ne hk with hk | hk
    exacts [Or.inl (one _ _ hk), Or.inr (one _ _ hk)]
  · apply disjoint_run
    rcases P.disj_l d k l' with hk | hk
    exacts [Or.inl (one _ _ hk), Or.inr (many _ _ _ hk)]
  · apply disjoint_run
    rcases P.disj_l d k' l with hk | hk
    exacts [Or.inr (one _ _ hk), Or.inl (many _ _ _ hk)]
  · apply disjoint_run
    rcases P.disj_ll d l l' fun e => h (by rw [e]) with hk | hk
    exacts [Or.inl (many _ _ _ hk), Or.inr (many _ _ _ hk)]

theorem part_cover (d : Dev nD) (a : A) (i : (T.out a).ty.shape.Idx) : ∃ x, i ∈ T.part d a x := by
  have hi := ((T.out a).ty.shape.rowMajor i).isLt
  replace hi := lt_of_lt_of_eq hi (T.numel a)
  have hn := T.n_pos a
  have hq : ((T.out a).ty.shape.rowMajor i).val / T.n a < P.Q := Nat.div_lt_of_lt_mul (by rw [Nat.mul_comm]; exact hi)
  have e := Nat.div_add_mod' ((T.out a).ty.shape.rowMajor i).val (T.n a)
  have hm := Nat.mod_lt ((T.out a).ty.shape.rowMajor i).val hn
  rcases P.cover d _ hq with ⟨k, hk⟩ | ⟨l, h1, h2⟩
  · refine ⟨.inl k, mem_run.mpr ?_⟩
    rw [hk]; omega
  · refine ⟨.inr l, mem_run.mpr ?_⟩
    have b1 := Nat.mul_le_mul_right (T.n a) h1
    have b2 := Nat.mul_le_mul_right (T.n a) (show ((T.out a).ty.shape.rowMajor i).val / T.n a + 1 ≤ P.kdL d l + P.len l by omega)
    rw [Nat.add_mul, Nat.add_mul, Nat.one_mul] at b2
    omega

theorem piece_run (m : (ℓ : Loc nD τ sig) → Buf Val ℓ) (q : PosShare TreeShare) (d : Dev nD) (a : A) (k : K) :
    (X.piece m q ((X.perm (a, k)).symm d) d (a, k) : sProp 𝕄) = (((d.tc : Thread nD τ).loc (T.out a)) ↦[T.part d a (.inl k)]{q} m _) := by
  rw [T.perm_eq]
  exact view_run _ (T.dst_ref _ a k) (T.dst_flat _ a k) (T.size _ a k) d q m

theorem pieceL_run (m : (ℓ : Loc nD τ sig) → Buf Val ℓ) (q : PosShare TreeShare) (d : Dev nD) (a : A) (l : KL) :
    (X.pieceL m q d (a, l) : sProp 𝕄) = (((d.tc : Thread nD τ).loc (T.out a)) ↦[T.part d a (.inr l)]{q} m _) :=
  view_run _ (T.dst_refL _ a l) (T.dst_flatL _ a l) (T.sizeL _ a l) d q m

/-- An output, cut into the parts that the copies to it write. -/
theorem carve (m : (ℓ : Loc nD τ sig) → Buf Val ℓ) (d : Dev nD) (a : A) :
    ((((d.tc : Thread nD τ).loc (T.out a)) ↦{fullShare} m _) : sProp 𝕄)
      ⊢ iprop((bigSep Finset.univ fun k => X.piece m fullShare ((X.perm (a, k)).symm d) d (a, k)) ∗ bigSep Finset.univ fun l => X.pieceL m fullShare d (a, l)) := by
  have hu : (Finset.univ : Finset (Idx ((d.tc : Thread nD τ).loc (T.out a)))) = Finset.univ.biUnion (T.part d a) := by
    symm; rw [Finset.eq_univ_iff_forall]
    intro i
    obtain ⟨x, hx⟩ := T.part_cover d a i
    exact Finset.mem_biUnion.mpr ⟨x, Finset.mem_univ x, hx⟩
  have h := pointsTo_biUnion (nD := nD) (τ := τ) (sig := sig) (Ix := Unit) (Val := Val) (Name := ℕ) (U := UX nD τ sig) (Lvl := ℕ)
    (ℓ := (d.tc : Thread nD τ).loc (T.out a)) (q := fullShare) (f := m _) (Finset.univ : Finset (K ⊕ KL)) (T.part d a)
    fun x _ y _ hxy => T.part_disjoint d a x y hxy
  rw [← hu, BI.bigSep_univ_sum] at h
  refine Entails.of_eq (h.trans ?_)
  congr 1
  · exact bigSep_congr fun k _ => (T.piece_run m fullShare d a k).symm
  · exact bigSep_congr fun l _ => (T.pieceL_run m fullShare d a l).symm

/-- The inputs. -/
def inputs : Finset (Ref sig .tc) := Finset.univ.image T.inp

theorem inp_mem (a : A) : T.inp a ∈ T.inputs := Finset.mem_image_of_mem _ (Finset.mem_univ a)

theorem deal (m : (ℓ : Loc nD τ sig) → Buf Val ℓ) (hnobuf : ∀ b : Ref sig .tc, b.isScoped = false) (pl : Net.Plan (A × K) (A × KL))
    (hls : ∀ j ∈ pl.ls, P.fwd j.2 = false) : X.Deal m T.inputs pl := by
  intro c
  have h1 : (unscopedBufs c (fun b => m ((c.tc : Thread nD τ).loc b)) : sProp 𝕄)
      ⊢ iprop(keeps m T.inputs c ∗ bigSep Finset.univ fun a => ((c.tc : Thread nD τ).loc (T.out a)) ↦{fullShare} m _) := by
    unfold unscopedBufs
    have hsub : T.inputs ∪ Finset.univ.image T.out ⊆ (Finset.univ.filter fun b : Ref sig .tc => ¬ b.isScoped) := fun b _ =>
      Finset.mem_filter.mpr ⟨Finset.mem_univ b, by rw [hnobuf b]; exact Bool.false_ne_true⟩
    have hdis : Disjoint T.inputs (Finset.univ.image T.out) := by
      rw [Finset.disjoint_left]
      intro b hb hb'
      obtain ⟨a, -, rfl⟩ := Finset.mem_image.mp hb
      obtain ⟨a', -, e⟩ := Finset.mem_image.mp hb'
      exact T.out_inp a' a e
    refine BI.BIBase.Entails.trans (BI.bigSep_subset hsub) ?_
    refine BI.BIBase.Entails.trans (Entails.of_eq (BI.bigSep_union hdis)) ?_
    refine BI.BIBase.Entails.trans (sep_mono_right (Entails.of_eq (bigSep_image_of_injOn (fun a _ a' _ e => T.out_inj e) _))) ?_
    refine sep_mono_left ?_
    unfold keeps
    exact bigSep_mono fun b _ => by
      have hb : ((((c.tc : Thread nD τ).loc b) ↦{fullShare} m _) : sProp 𝕄) ⊢ iprop(∃ q : PosShare TreeShare, ((c.tc : Thread nD τ).loc b) ↦{q} m _) := by
        iintro H
        iexists fullShare; iexact H
      exact hb
  have h2 : keeps m T.inputs c ⊢ (iprop(keeps m T.inputs c ∗ bigSepL pl.ls (X.source m c)) : sProp 𝕄) :=
    dup_list _ _ _ fun j hj => by
      obtain ⟨a, k⟩ := j
      refine keeps_part m T.inputs c (X.rem c (a, k)).src.view ?_
      rw [T.src_ref, hls _ hj, if_neg Bool.false_ne_true]
      exact T.inp_mem a
  have h3 : keeps m T.inputs c ⊢ (iprop(keeps m T.inputs c ∗ bigSep Finset.univ (X.sourceL m c)) : sProp 𝕄) :=
    dup_set _ _ _ fun l => by
      obtain ⟨a, l⟩ := l
      refine keeps_part m T.inputs c (X.loc c (a, l)).src.view ?_
      rw [T.src_refL]
      exact T.inp_mem a
  have h4 : (bigSep Finset.univ fun a => ((((c.tc : Thread nD τ).loc (T.out a)) ↦{fullShare} m _) : sProp 𝕄))
      ⊢ iprop(bigSep Finset.univ (X.pieceL m fullShare c) ∗ bigSep Finset.univ fun j => X.piece m fullShare ((X.perm j).symm c) c j) := by
    refine BI.BIBase.Entails.trans (bigSep_mono fun a _ => T.carve m c a) ?_
    rw [bigSep_sep', ← BI.bigSep_univ_prod (fun j : A × K => X.piece m fullShare ((X.perm j).symm c) c j),
      ← BI.bigSep_univ_prod (fun j : A × KL => X.pieceL m fullShare c j)]
    iintro ⟨H1, H2⟩
    isplitl [H2] <;> iassumption
  refine BI.BIBase.Entails.trans h1 ?_
  refine BI.BIBase.Entails.trans (BIClass.sep_mono h2 h4) ?_
  refine BI.BIBase.Entails.trans (sep_mono_left (sep_mono_left h3)) ?_
  iintro ⟨⟨⟨H1, H2⟩, H3⟩, H4, H5⟩
  isplitl [H1]; · iexact H1
  isplitl [H3]; · iexact H3
  isplitl [H2]; · iexact H2
  isplitl [H4] <;> iassumption

/-! ## The result -/

variable [∀ e, Nonempty (Val e)]

/-- Output `a` of device `d` holds, in `f`, the blocks of the inputs in `m` that the pattern names. -/
def Holds (m f : (ℓ : Loc nD τ sig) → Buf Val ℓ) (d : Dev nD) (a : A) : Prop :=
  ∀ q < P.Q, ∀ t < T.n a, HEq (pick (f ((d.tc : Thread nD τ).loc (T.out a))) (q * T.n a + t))
    (pick (m (((P.org d q).1.tc : Thread nD τ).loc (T.inp a))) ((P.org d q).2 * T.n a + t))

theorem exists_final (m : (ℓ : Loc nD τ sig) → Buf Val ℓ) : ∃ fin : (ℓ : Loc nD τ sig) → Buf Val ℓ, ∀ d a, T.Holds m fin d a := by
  obtain ⟨fin, hfin⟩ := exists_memory m T.out T.out_inj fun d a => fun i =>
    _root_.cast (congrArg Val (T.elt_eq a).symm) (pick (m (((P.org d (((T.out a).ty.shape.rowMajor i).val / T.n a)).1.tc : Thread nD τ).loc (T.inp a)))
      ((P.org d (((T.out a).ty.shape.rowMajor i).val / T.n a)).2 * T.n a + ((T.out a).ty.shape.rowMajor i).val % T.n a))
  refine ⟨fin, fun d a q hq t ht => ?_⟩
  rw [hfin d a]
  have hlt : q * T.n a + t < (T.out a).ty.shape.numel := by
    rw [T.numel a]
    have := Nat.mul_le_mul_right (T.n a) (show q + 1 ≤ P.Q from hq)
    rw [Nat.add_mul, Nat.one_mul] at this
    omega
  unfold pick
  rw [dif_pos (show q * T.n a + t < ((d.tc : Thread nD τ).loc (T.out a)).ty.shape.numel from hlt)]
  refine (cast_heq _ _).trans ?_
  have e : ((T.out a).ty.shape.rowMajor ((T.out a).ty.shape.rowMajor.symm ⟨q * T.n a + t, hlt⟩)).val = q * T.n a + t := by rw [Equiv.apply_symm_apply]
  have e1 : (q * T.n a + t) / T.n a = q := by
    rw [Nat.mul_comm, Nat.mul_add_div (T.n_pos a), Nat.div_eq_of_lt ht, Nat.add_zero]
  have e2 : (q * T.n a + t) % T.n a = t := by
    rw [Nat.mul_comm, Nat.mul_add_mod, Nat.mod_eq_of_lt ht]
  have key : ∀ r, r = q * T.n a + t → HEq (pick (m (((P.org d (r / T.n a)).1.tc : Thread nD τ).loc (T.inp a))) ((P.org d (r / T.n a)).2 * T.n a + r % T.n a))
      (pick (m (((P.org d q).1.tc : Thread nD τ).loc (T.inp a))) ((P.org d q).2 * T.n a + t)) := by
    rintro r rfl
    rw [e1, e2]
  exact key _ e

/-- Equal memories at an output hold the same. -/
theorem Holds.congr {m f g : (ℓ : Loc nD τ sig) → Buf Val ℓ} {d : Dev nD} {a : A} (h : T.Holds m f d a)
    (e : ∀ i, g ((d.tc : Thread nD τ).loc (T.out a)) i = f ((d.tc : Thread nD τ).loc (T.out a)) i) : T.Holds m g d a := by
  have e' : g ((d.tc : Thread nD τ).loc (T.out a)) = f ((d.tc : Thread nD τ).loc (T.out a)) := funext e
  unfold Holds; rw [e']; exact h

theorem send_val (m fin : (ℓ : Loc nD τ sig) → Buf Val ℓ) (hfin : ∀ d a, T.Holds m fin d a) (c : Dev nD) (j : A × K) (hj : P.fwd j.2 = false) :
    X.SendVal m fin m c j := by
  obtain ⟨a, k⟩ := j
  refine copy_value _ _ ((T.src_ref c a k).trans (by rw [show P.fwd k = false from hj, if_neg Bool.false_ne_true])) (T.src_flat c a k) (T.dst_ref c a k) (T.dst_flat c a k) m m fin c _ ?_
  intro t ht
  rw [T.size] at ht
  have h := hfin (P.pm k c) a (P.kd c k) (P.kd_lt c k) t ht
  rw [P.org_send c k hj] at h
  rw [T.perm_eq]
  exact h

theorem pass_val (m fin : (ℓ : Loc nD τ sig) → Buf Val ℓ) (hfin : ∀ d a, T.Holds m fin d a) (c : Dev nD) (j : A × K) (hj : P.fwd j.2 = true) :
    X.SendVal m fin fin c j := by
  obtain ⟨a, k⟩ := j
  refine copy_value _ _ ((T.src_ref c a k).trans (by rw [show P.fwd k = true from hj, if_pos rfl])) (T.src_flat c a k) (T.dst_ref c a k) (T.dst_flat c a k) fin m fin c _ ?_
  intro t ht
  rw [T.size] at ht
  obtain ⟨hk, ho⟩ := P.org_pass c k hj
  have h := hfin (P.pm k c) a (P.kd c k) (P.kd_lt c k) t ht
  have h' := hfin c a (P.ks c k) hk t ht
  rw [ho] at h
  rw [T.perm_eq]
  exact h.trans h'.symm

theorem local_val (m fin : (ℓ : Loc nD τ sig) → Buf Val ℓ) (hfin : ∀ d a, T.Holds m fin d a) (c : Dev nD) (l : A × KL) : X.LocalVal m fin c l := by
  obtain ⟨a, l⟩ := l
  refine copy_value _ _ (T.src_refL c a l) (T.src_flatL c a l) (T.dst_refL c a l) (T.dst_flatL c a l) m m fin c c ?_
  intro t ht
  rw [T.sizeL] at ht
  have hn := T.n_pos a
  obtain ⟨h1, h2⟩ := P.org_local c l (t / T.n a) (Nat.div_lt_of_lt_mul (by rw [Nat.mul_comm]; exact ht))
  have h := hfin c a _ h1 (t % T.n a) (Nat.mod_lt _ hn)
  rw [h2] at h
  have e := Nat.div_add_mod' t (T.n a)
  rw [Nat.add_mul, Nat.add_mul, Nat.add_assoc, Nat.add_assoc, e] at h
  exact h

/-- An @main that is one exchange call of the pattern, started on all devices with every semaphore at zero, terminates
    without a fault; the inputs are as before, every output holds the blocks that the pattern names, and every scoped
    semaphore is at zero. -/
theorem run (cfgs : Fin 1 → Cfg sig Λ₀) [hW : ∀ p, IsEmpty (Fin (cfgs p).W)]
    (phinj : Function.Injective (cellOf (nD := nD) (τ := τ) cfgs)) (hN : (cfgs 0).N = 1) (hnobuf : ∀ b : Ref sig .tc, b.isScoped = false)
    (hall : ∀ sm : SemLoc sig, sm.isScoped .tc = true) (defs₀ : Defs nD τ sig Val Λ₀) (m : (ℓ : Loc nD τ sig) → Buf Val ℓ) (g : Dev nD → PrngReg)
    (main : Dev nD → Prog (TpuEff nD τ sig Val (Pipeline.Sig Λ₀ (Fin 1) fun p => ((cfgs p).toPCfg (Val := Val)).Adm) .tc) PUnit)
    (hmain : ∀ c, main c = .op (.customCall (entry 0) ()) fun _ => .ret ⟨⟩)
    (pl : Net.Plan (A × K) (A × KL))
    (hbody : ∀ (c : Dev nD) (t : Fin (cfgs 0).N) (Q : sProp 𝕄), Net.wpc defs₀ c (X.body c pl.ll pl.ls pl.lp pl.lw) (fun _ => Q)
      ⊢ wp frame (wpE defs₀ Variants.none (c.tc : Thread nD τ) none) Set.univ (defs₀ .tc (cfgs 0).body ((cfgs 0).bodyArgs t ((cfgs 0).slots t))) fun _ => Q)
    (hls : ∀ j ∈ pl.ls, P.fwd j.2 = false)
    (hlp : ∀ p ∈ pl.lp, p.1.1 = p.2.1 ∧ P.fwd p.2.2 = true ∧ ∀ c, P.kd ((P.pm p.1.2).symm c) p.1.2 = P.ks c p.2.2) :
    θ_run (Pipeline.defs (fun p => (cfgs p).toPCfg) defs₀) (onTc main) ⟨m, fun _ => 0, g⟩
      (fun r => (∀ c : Dev nD, ∀ a, r.2.mem ((c.tc : Thread nD τ).loc (T.inp a)) = m ((c.tc : Thread nD τ).loc (T.inp a)) ∧ T.Holds m r.2.mem c a)
        ∧ ∀ g' : GSem nD τ sig, (g'.1.2 ≠ .tc ∨ g'.2.isScoped .tc = true) → r.2.sem g' = 0) := by
  obtain ⟨fin, hfin⟩ := T.exists_final m
  refine (θ_run _ _ _).mono ?_ (X.run m fin cfgs phinj hN hnobuf hall defs₀ g main hmain pl hbody (fun c j hj => T.send_val m fin hfin c j (hls j hj))
    (fun c p hp => T.pass_val m fin hfin c p.2 (hlp p hp).2.1) (fun c l _ => T.local_val m fin hfin c l) ?_ T.inputs (T.deal m hnobuf pl hls))
  · rintro r ⟨h, hs⟩
    refine ⟨fun c a => ⟨(h c).1 _ (T.inp_mem a), (hfin c a).congr T fun i => ?_⟩, hs⟩
    obtain ⟨x, hx⟩ := T.part_cover c a i
    rcases x with k | l
    · have h2 := (h c).2.1 (a, k)
      rw [T.perm_eq] at h2
      exact view_agree _ (T.dst_ref _ a k) (T.dst_flat _ a k) (T.size _ a k) c r.2.mem fin h2 i hx
    · exact view_agree _ (T.dst_refL _ a l) (T.dst_flatL _ a l) (T.sizeL _ a l) c r.2.mem fin ((h c).2.2 (a, l)) i hx
  · intro c p hp q
    obtain ⟨ha, hf, hk⟩ := hlp p hp
    obtain ⟨⟨a, k⟩, ⟨a', k'⟩⟩ := p
    obtain rfl : a = a' := ha
    have hk' : P.kd ((P.pm k).symm c) k = P.ks c k' := hk c
    unfold Net.source
    refine BI.BIBase.Entails.trans (Entails.of_eq (T.piece_run fin q c a k)) ?_
    iintro H
    iexists q
    have e := view_run (Val := Val) (X.rem c (a, k')).src.view ((T.src_ref c a k').trans (if_pos hf)) (T.src_flat c a k') (T.size c a k') c q fin
    rw [e, ← hk']
    iexact H

end Table

end Cert.Exchange

end
-- ==== Proof.SiblingCall.lean ====
/-
# The sibling half of the reduce-scatter

The copies of the call: each device sends, of each of its nine arrays, four blocks to its sibling, the other core of its
chip. Block `k` of the result is the block of the sibling's array at row `k` and at this device's core.
-/
module

public import proofs.«01_k».proof.Proof.Table
public import proofs.«01_k».proof.Proof.Gen.SiblingIdeal
public import proofs.«01_k».proof.Proof.Gen.SiblingIdeal.Launch

@[expose] public section

set_option maxRecDepth 65536

noncomputable section

namespace Cert.SiblingIdeal.Call

open Idealize.SL.Sem Cert.SiblingIdeal Cert.Exchange Idealize.ShloMosaic Idealize.ShloMosaic.TcCoe
open Idealize.SL Idealize.SL.RA Idealize.SL.BI
open scoped Idealize.SL.BI
open Idealize.SL.BI.BIBase Idealize.SL.BI.Laws Idealize.SL.ProofMode

variable {F : FTy → Type} [FloatOps F]

/-! ## The arrays -/

/-- An array, its result and the size of a block. -/
structure Arr where
  R : ℕ
  C : ℕ
  i : Memref sig .tc .hbm ⟨4, ![4, 2, R, C]⟩ .f32
  o : Memref sig .tc .hbm ⟨3, ![4, R, C]⟩ .f32
  hi : i.IsWhole
  ho : o.IsWhole
  sq4 : (⟨4, ![1, 1, R, C]⟩ : Shape).Squeezes ⟨2, ![R, C]⟩
  sq3 : (⟨3, ![1, R, C]⟩ : Shape).Squeezes ⟨2, ![R, C]⟩

/-- The nine arrays. -/
def arr : Fin 9 → Arr
  | 0 => ⟨240, 128, Memref.whole main_arg0, Memref.whole main_v1_0, Memref.isWhole_whole _, Memref.isWhole_whole _, by decide, by decide⟩
  | 1 => ⟨512, 704, Memref.whole main_arg1, Memref.whole main_v1_1, Memref.isWhole_whole _, Memref.isWhole_whole _, by decide, by decide⟩
  | 2 => ⟨512, 704, Memref.whole main_arg2, Memref.whole main_v1_2, Memref.isWhole_whole _, Memref.isWhole_whole _, by decide, by decide⟩
  | 3 => ⟨352, 1024, Memref.whole main_arg3, Memref.whole main_v1_3, Memref.isWhole_whole _, Memref.isWhole_whole _, by decide, by decide⟩
  | 4 => ⟨128, 1024, Memref.whole main_arg4, Memref.whole main_v1_4, Memref.isWhole_whole _, Memref.isWhole_whole _, by decide, by decide⟩
  | 5 => ⟨128, 1024, Memref.whole main_arg5, Memref.whole main_v1_5, Memref.isWhole_whole _, Memref.isWhole_whole _, by decide, by decide⟩
  | 6 => ⟨512, 704, Memref.whole main_arg6, Memref.whole main_v1_6, Memref.isWhole_whole _, Memref.isWhole_whole _, by decide, by decide⟩
  | 7 => ⟨512, 704, Memref.whole main_arg7, Memref.whole main_v1_7, Memref.isWhole_whole _, Memref.isWhole_whole _, by decide, by decide⟩
  | 8 => ⟨352, 1024, Memref.whole main_arg8, Memref.whole main_v1_8, Memref.isWhole_whole _, Memref.isWhole_whole _, by decide, by decide⟩

/-- The other core of a chip. -/
def sib (d : Dev nD) : Dev nD := ⟨d.val + 1 - 2 * (d.val % 2), by have : d.val < 8 := d.isLt; show _ < 8; omega⟩

theorem sib_sib (d : Dev nD) : sib (sib d) = d := by revert d; decide +kernel

/-- Which blocks move where. -/
def pat : Pattern nD (Fin 4) Empty where
  pm _ := ⟨sib, sib, sib_sib, sib_sib⟩
  fwd _ := false
  ks d k := k.val * 2 + (1 - d.val % 2)
  kd _ k := k.val
  ksL _ l := l.elim
  kdL _ l := l.elim
  len l := l.elim
  Q := 4
  org d q := (sib d, q * 2 + d.val % 2)
  kd_lt := by decide +kernel
  org_send := by decide +kernel
  org_pass := by decide +kernel
  org_local := fun _ l => l.elim
  disj := by decide +kernel
  disj_l := fun _ _ l => l.elim
  disj_ll := fun _ l => l.elim
  cover := by decide +kernel

/-! ## The copies -/

/-- Where the block that copy `k` of an array reads on device `d` starts. -/
def off : Fin 9 → Fin 4 → Dev nD → Fin 4 → ℕ
  | 0, 0 => k0_off1
  | 0, 1 => k0_off2
  | 0, 2 => k0_off3
  | 0, 3 => k0_off4
  | 1, 0 => k0_off5
  | 1, 1 => k0_off6
  | 1, 2 => k0_off7
  | 1, 3 => k0_off8
  | 2, 0 => k0_off5
  | 2, 1 => k0_off6
  | 2, 2 => k0_off7
  | 2, 3 => k0_off8
  | 3, 0 => k0_off9
  | 3, 1 => k0_off10
  | 3, 2 => k0_off11
  | 3, 3 => k0_off12
  | 4, 0 => k0_off13
  | 4, 1 => k0_off14
  | 4, 2 => k0_off15
  | 4, 3 => k0_off16
  | 5, 0 => k0_off13
  | 5, 1 => k0_off14
  | 5, 2 => k0_off15
  | 5, 3 => k0_off16
  | 6, 0 => k0_off5
  | 6, 1 => k0_off6
  | 6, 2 => k0_off7
  | 6, 3 => k0_off8
  | 7, 0 => k0_off5
  | 7, 1 => k0_off6
  | 7, 2 => k0_off7
  | 7, 3 => k0_off8
  | 8, 0 => k0_off9
  | 8, 1 => k0_off10
  | 8, 2 => k0_off11
  | 8, 3 => k0_off12

theorem off_eq (a : Fin 9) (k : Fin 4) (d : Dev nD) : off a k d = ![k.val, 1 - d.val % 2, 0, 0] := by
  revert a k d; decide +kernel

/-- The device that copy `k` of array `a` writes on. -/
def dev : Fin 9 → Fin 4 → Dev nD → ℕ
  | 0, 0 => k0_dev1
  | 0, 1 => k0_dev2
  | 0, 2 => k0_dev3
  | 0, 3 => k0_dev4
  | 1, 0 => k0_dev5
  | 1, 1 => k0_dev6
  | 1, 2 => k0_dev7
  | 1, 3 => k0_dev8
  | 2, 0 => k0_dev9
  | 2, 1 => k0_dev10
  | 2, 2 => k0_dev11
  | 2, 3 => k0_dev12
  | 3, 0 => k0_dev13
  | 3, 1 => k0_dev14
  | 3, 2 => k0_dev15
  | 3, 3 => k0_dev16
  | 4, 0 => k0_dev17
  | 4, 1 => k0_dev18
  | 4, 2 => k0_dev19
  | 4, 3 => k0_dev20
  | 5, 0 => k0_dev21
  | 5, 1 => k0_dev22
  | 5, 2 => k0_dev23
  | 5, 3 => k0_dev24
  | 6, 0 => k0_dev25
  | 6, 1 => k0_dev26
  | 6, 2 => k0_dev27
  | 6, 3 => k0_dev28
  | 7, 0 => k0_dev29
  | 7, 1 => k0_dev30
  | 7, 2 => k0_dev31
  | 7, 3 => k0_dev32
  | 8, 0 => k0_dev33
  | 8, 1 => k0_dev34
  | 8, 2 => k0_dev35
  | 8, 3 => k0_dev36

theorem dev_eq (a : Fin 9) (k : Fin 4) (d : Dev nD) : dev a k d = (sib d).val := by revert a k d; decide +kernel

theorem dev_lt (a : Fin 9) (k : Fin 4) (d : Dev nD) : dev a k d < nD := by rw [dev_eq]; exact (sib d).isLt

theorem off_inb (A : Arr) (a : Fin 9) (k : Fin 4) (d : Dev nD) (x : Fin 4) : off a k d x + (![1, 1, A.R, A.C] : Fin 4 → ℕ) x ≤ (![4, 2, A.R, A.C] : Fin 4 → ℕ) x := by
  rw [off_eq]; have := k.isLt
  match x with
  | 0 => show k.val + 1 ≤ 4; omega
  | 1 => show 1 - d.val % 2 + 1 ≤ 2; omega
  | 2 => show 0 + A.R ≤ A.R; omega
  | 3 => show 0 + A.C ≤ A.C; omega

theorem out_inb (A : Arr) (k : Fin 4) (x : Fin 3) : (![k.val, 0, 0] : Fin 3 → ℕ) x + (![1, A.R, A.C] : Fin 3 → ℕ) x ≤ (![4, A.R, A.C] : Fin 3 → ℕ) x := by
  have := k.isLt
  match x with
  | 0 => show k.val + 1 ≤ 4; omega
  | 1 => show 0 + A.R ≤ A.R; omega
  | 2 => show 0 + A.C ≤ A.C; omega

/-- What copy `(a, k)` of device `d` reads, and what it writes. -/
abbrev srcOf (A : Arr) (d : Dev nD) (j : Fin 9 × Fin 4) : Memref sig .tc .hbm ⟨2, ![A.R, A.C]⟩ .f32 :=
  (A.i.slice (Rect.unit (s := ⟨4, ![4, 2, A.R, A.C]⟩) (off j.1 j.2 d) ![1, 1, A.R, A.C] (off_inb A j.1 j.2 d)) (fun _ => rfl)).squeeze ⟨2, ![A.R, A.C]⟩ A.sq4
abbrev dstOf (A : Arr) (j : Fin 9 × Fin 4) : Memref sig .tc .hbm ⟨2, ![A.R, A.C]⟩ .f32 :=
  (A.o.slice (Rect.unit (s := ⟨3, ![4, A.R, A.C]⟩) ![j.2.val, 0, 0] ![1, A.R, A.C] (out_inb A j.2)) (fun _ => rfl)).squeeze ⟨2, ![A.R, A.C]⟩ A.sq3

def sendSem (j : Fin 9 × Fin 4) : DmaSem sig := ⟨4 * j.1.val + j.2.val, by show _ < 72; omega⟩
def recvSem (j : Fin 9 × Fin 4) : DmaSem sig := ⟨36 + (4 * j.1.val + j.2.val), by show _ < 72; omega⟩

def rem (d : Dev nD) (j : Fin 9 × Fin 4) : Remote nD τ sig where
  sp := .hbm
  sp' := .hbm
  s := ⟨2, ![(arr j.1).R, (arr j.1).C]⟩
  e := .f32
  src := srcOf (arr j.1) d j
  dst := dstOf (arr j.1) j
  tgt := ⟨dev j.1 j.2 d, dev_lt j.1 j.2 d⟩
  sendSem := sendSem j
  recvSem := recvSem j
  hsrc := (View.wordExact_bits rfl).reshape _ _
  hdst := (View.wordExact_bits rfl).reshape _ _
  hsc := by cases h : (arr j.1); rfl
  hsem := ⟨⟨rfl, Or.inl rfl⟩, trivial⟩

abbrev Sems := ((Fin 9 × Fin 4) ⊕ (Fin 9 × Fin 4)) ⊕ (Fin 9 × Empty)

def await (d : Dev nD) : Sems → Await sig
  | .inl (.inl j) => ⟨sendSem j, (srcOf (arr j.1) d j).view.ref, ⟨2, ![(arr j.1).R, (arr j.1).C]⟩, .f32, (srcOf (arr j.1) d j).hasMemref⟩
  | .inl (.inr j) => ⟨recvSem j, (dstOf (arr j.1) j).view.ref, ⟨2, ![(arr j.1).R, (arr j.1).C]⟩, .f32, (dstOf (arr j.1) j).hasMemref⟩
  | .inr l => l.2.elim

/-- The semaphores by index. -/
def semOf : Sems → SemLoc sig
  | .inl (.inl j) => .dma (sendSem j)
  | .inl (.inr j) => .dma (recvSem j)
  | .inr l => l.2.elim

theorem semOf_bijective : Function.Bijective semOf := by
  rw [Function.Bijective]
  constructor
  · decide +kernel
  · decide +kernel

def net : Net nD τ sig (Fin 9 × Fin 4) (Fin 9 × Empty) where
  rem := rem
  loc _ l := l.2.elim
  wait := await
  perm j := pat.pm j.2
  cells := Equiv.ofBijective semOf semOf_bijective
  amt j := (dstOf (arr j.1) j).view.dmaCredit
  amtL l := l.2.elim
  to_eq c j := Fin.ext (dev_eq j.1 j.2 c)
  send_eq _ _ := rfl
  recv_eq _ _ := rfl
  loc_eq _ l := l.2.elim
  wait_eq c k := by rcases k with (j | j) | l <;> first | rfl | exact l.2.elim
  amt_eq _ _ := rfl
  amtL_eq _ l := l.2.elim
  amt_pos j := View.dmaCredit_pos _ (by revert j; decide +kernel)
  amtL_pos l := l.2.elim
  wait_amt c k := by rcases k with (j | j) | l <;> first | rfl | exact l.2.elim

/-- The copies in program order. -/
def js : List (Fin 9 × Fin 4) := [(0, 0), (0, 1), (0, 2), (0, 3), (1, 0), (1, 1), (1, 2), (1, 3), (2, 0), (2, 1), (2, 2), (2, 3), (3, 0), (3, 1), (3, 2), (3, 3), (4, 0), (4, 1), (4, 2), (4, 3), (5, 0), (5, 1), (5, 2), (5, 3), (6, 0), (6, 1), (6, 2), (6, 3), (7, 0), (7, 1), (7, 2), (7, 3), (8, 0), (8, 1), (8, 2), (8, 3)]

def plan : Net.Plan (Fin 9 × Fin 4) (Fin 9 × Empty) where
  ll := []
  ls := js
  lp := []
  lr := js
  lw := js.map (fun j => .inl (.inr j)) ++ js.map (fun j => .inl (.inl j))
  rank _ := 0
  all_l := by decide +kernel
  nodup_l := by decide +kernel
  all_s := by decide +kernel
  nodup_s := by decide +kernel
  all_r := by decide +kernel
  nodup_r := by decide +kernel
  perm_w := by rw [List.map_nil, List.nil_append, List.map_nil, List.append_nil]; exact List.perm_append_comm
  nodup_w := by decide +kernel
  rank_lt := by decide +kernel

/-- The body of the call is the copies and waits of the plan. -/
theorem body_eq (t) : defs₀ (F := F) .tc 0 t = .op .deviceId fun d => net.body d plan.ll plan.ls plan.lp plan.lw := rfl

def table : Table net pat where
  inp a := (arr a).i.view.ref
  out a := (arr a).o.view.ref
  n a := (arr a).R * (arr a).C
  n_pos := by decide +kernel
  out_inj := by decide +kernel
  out_inp := by decide +kernel
  elt_eq := by decide +kernel
  numel := by decide +kernel
  perm_eq _ _ := rfl
  dst_ref _ _ _ := rfl
  dst_flat c a k := by
    have h := ((flat_isWhole (arr a).ho).slice _ (rect_three (K := 4) (L := 1) (k := k.val) ![k.val, 0, 0] rfl (out_inb (arr a) k))).reshape ⟨2, ![(arr a).R, (arr a).C]⟩ (arr a).sq3.numel_eq
    rw [Nat.zero_add] at h
    exact h
  src_ref _ _ _ := rfl
  src_flat c a k := by
    have h := ((flat_isWhole (arr a).hi).slice _ (rect_four (K := 4) (H := 2) (L := 1) (k := k.val) (h := 1 - c.val % 2) (off a k c) (off_eq a k c) (off_inb (arr a) a k c))).reshape ⟨2, ![(arr a).R, (arr a).C]⟩ (arr a).sq4.numel_eq
    rw [Nat.zero_add] at h
    exact h
  size c a k := by revert c a k; decide +kernel
  dst_refL _ _ l := l.elim
  dst_flatL _ _ l := l.elim
  src_refL _ _ l := l.elim
  src_flatL _ _ l := l.elim
  sizeL _ _ l := l.elim

/-- The call, started on all devices with every semaphore at zero, terminates without a fault; the arguments are as
    before, every result holds its blocks of the siblings' arguments, and every semaphore is at zero. -/
theorem run_main (m : (ℓ : Loc nD τ sig) → Buf (Elt F) ℓ) (g : Dev nD → PrngReg) :
    θ_run defs (onTc main) ⟨m, fun _ => 0, g⟩ (fun r => (∀ c : Dev nD, ∀ a,
        r.2.mem ((c.tc : Thread nD τ).loc (table.inp a)) = m ((c.tc : Thread nD τ).loc (table.inp a)) ∧ table.Holds m r.2.mem c a)
      ∧ r.2.sem = fun _ => 0) := by
  refine (θ_run _ _ _).mono (fun r h => ⟨h.1, Idealize.ShloMosaic.sem_eq_zero_of_scoped (by decide) h.2⟩)
    (table.run (Val := Elt F) cfgs Gen.cellOf_inj Gen.N_0 (by decide +kernel) (by decide +kernel) defs₀ m g main (fun _ => rfl) plan ?_ (by decide +kernel) (by decide +kernel))
  intro c t Q
  show (Net.wpc defs₀ c _ _ : sProp (MT nD τ sig Unit (Elt F) ℕ (UX nD τ sig) ℕ)) ⊢ wp frame (wpE defs₀ Variants.none (c.tc : Thread nD τ) none) Set.univ (defs₀ (F := F) .tc 0 _) _
  rw [body_eq, wp_deviceId]

end Cert.SiblingIdeal.Call

end
-- ==== Proof.Places.lean ====
/-
# Elements at row-major positions

The element of an array of two, three or four axes at a position that is given as a block and a place within the block.
-/
module

public import proofs.«01_k».proof.Proof.Flat
public import Idealize.ShloMosaic.Lib.Layout
public import Idealize.ShloMosaic.Lib.ValueIdxRank6
public import Idealize.ShloMosaic.Lib.Pipeline.Value

@[expose] public section

noncomputable section

namespace Cert.Exchange

open Idealize.ShloMosaic Idealize.ShloMosaic.ValueIdx

theorem one_or {n v : ℕ} (h : v < n) : v = if n = 1 then 0 else v := by
  split_ifs with e
  · omega
  · rfl

/-- A row and a column give a place below the number of elements. -/
theorem place_lt {R C : ℕ} (r : Fin R) (c : Fin C) : r.val * C + c.val < R * C := by
  have h1 := Nat.mul_le_mul_right C (show r.val + 1 ≤ R from r.isLt)
  rw [Nat.add_mul, Nat.one_mul] at h1
  have := c.isLt; omega

variable {Val : EltTy → Type} [∀ e, Nonempty (Val e)] {e : EltTy} {K H R C : ℕ}

theorem pick_two (x : (⟨⟨2, ![R, C]⟩, e⟩ : BufTy).Contents Val) (r : Fin R) (c : Fin C) :
    pick x (0 * (R * C) + (r.val * C + c.val)) = x (ix2 r c) := by
  have e1 := pick_rowMajor x (ix2 r c)
  rw [← e1]
  congr 1
  rw [Shape.rowMajor_val_two]
  show 0 * (R * C) + (r.val * C + c.val) = r.val * C + c.val
  rw [Nat.zero_mul, Nat.zero_add]

theorem pick_three (x : (⟨⟨3, ![K, R, C]⟩, e⟩ : BufTy).Contents Val) (k : Fin K) (r : Fin R) (c : Fin C) :
    pick x (k.val * (R * C) + (r.val * C + c.val)) = x (ix3 k r c) := by
  have e1 := pick_rowMajor x (ix3 k r c)
  rw [← e1]
  congr 1
  rw [Shape.rowMajor_val_three]
  show k.val * (R * C) + (r.val * C + c.val) = (k.val * R + r.val) * C + c.val
  simp only [Nat.add_mul, Nat.mul_assoc, Nat.add_assoc]

theorem pick_four (x : (⟨⟨4, ![K, H, R, C]⟩, e⟩ : BufTy).Contents Val) (k : Fin K) (h : Fin H) (r : Fin R) (c : Fin C) :
    pick x ((k.val * H + h.val) * (R * C) + (r.val * C + c.val)) = x (ix4 k h r c) := by
  have e1 := pick_rowMajor x (ix4 k h r c)
  rw [← e1]
  congr 1
  rw [Shape.rowMajor_val_four]
  show (k.val * H + h.val) * (R * C) + (r.val * C + c.val) = ((k.val * H + h.val) * R + r.val) * C + c.val
  simp only [Nat.add_mul, Nat.mul_assoc, Nat.add_assoc]

/-- Two arrays of three axes are equal if they are at every index. -/
theorem ext_three {α : Type} {y z : (⟨3, ![K, R, C]⟩ : Shape).Idx → α} (key : ∀ (k : Fin K) (r : Fin R) (c : Fin C), y (ix3 k r c) = z (ix3 k r c)) : y = z := by
  funext i
  exact (congrArg y (eq_ix3 i)).trans ((key (i 0) (i 1) (i 2)).trans (congrArg z (eq_ix3 i)).symm)

/-- Two arrays of four axes are equal if they are at every index. -/
theorem ext_four {α : Type} {y z : (⟨4, ![K, H, R, C]⟩ : Shape).Idx → α} (key : ∀ (k : Fin K) (h : Fin H) (r : Fin R) (c : Fin C), y (ix4 k h r c) = z (ix4 k h r c)) : y = z := by
  funext i
  exact (congrArg y (eq_ix4 i)).trans ((key (i 0) (i 1) (i 2) (i 3)).trans (congrArg z (eq_ix4 i)).symm)

/-- The chip of a device of the mesh: its place on the first two axes. -/
theorem mesh_chip : ∀ d : Fin 8, Layout.meshLin [2, 2, 2] d.val [0, 1] = d.val / 2 := by decide

/-- The part of an array of eight blocks that a chip has, two blocks to a chip. -/
theorem chip_idx (d : Fin 8) (t : Layout.TilesN ⟨3, ![2, R, C]⟩ ⟨3, ![8, R, C]⟩ fun b => Layout.cutSize [2, 2, 2] ((![[0, 1], [], []] : Fin 3 → List ℕ) b))
    (q : Fin 2) (r : Fin R) (c : Fin C) (i : Fin 8) (hi : i.val = d.val / 2 * 2 + q.val) :
    t.idx (Layout.meshBlock [2, 2, 2] ![[0, 1], [], []] d) (ix3 q r c) = ix3 i r c := by
  funext z
  apply Fin.ext
  match z with
  | 0 =>
    refine Eq.trans ?_ hi.symm
    show Layout.meshLin [2, 2, 2] d.val [0, 1] * 2 + q.val = d.val / 2 * 2 + q.val
    rw [mesh_chip]
  | 1 =>
    show 0 * R + r.val = r.val
    rw [Nat.zero_mul, Nat.zero_add]
  | 2 =>
    show 0 * C + c.val = c.val
    rw [Nat.zero_mul, Nat.zero_add]

end Cert.Exchange

end
-- ==== Proof.SiblingValue.lean ====
/-
# The values of the sibling half of the reduce-scatter

The reference's result, element by element, and that the blocks a device receives are its block of that result.
-/
module

public import proofs.«01_k».proof.Proof.Places

@[expose] public section

noncomputable section

namespace Cert.Exchange

open Idealize.ShloMosaic Idealize.ShloMosaic.ValueIdx

section

variable {α : Type} {R C : ℕ}

/-- One of the two stacked halves: the blocks for the cores `b` of all chips, from the other core's `e`. -/
theorem half_apply (w : (⟨4, ![32, 2, R, C]⟩ : Shape).Idx → α) (e b : Fin 2) (off : Fin 6 → ℕ) (hoff : off = ![0, e.val, 0, b.val, 0, 0])
    (h0 : (⟨4, ![32, 2, R, C]⟩ : Shape).ShapeCasts ⟨6, ![4, 2, 4, 2, R, C]⟩)
    (h1 : (⟨6, ![4, 2, 4, 2, R, C]⟩ : Shape).Slices off ⟨6, ![4, 1, 4, 1, R, C]⟩)
    (h2 : (⟨6, ![4, 1, 4, 1, R, C]⟩ : Shape).ShapeCasts ⟨4, ![4, 4, R, C]⟩)
    (h3 : (⟨4, ![4, 4, R, C]⟩ : Shape).BroadcastsInDim ⟨5, ![4, 1, 4, R, C]⟩ ![0, 2, 3, 4])
    (a k : Fin 4) (r : Fin R) (c : Fin C) (z : Fin 1) :
    broadcastInDim ⟨5, ![4, 1, 4, R, C]⟩ ![0, 2, 3, 4] h3 (shapeCast ⟨4, ![4, 4, R, C]⟩
      (extractStridedSlice ⟨6, ![4, 1, 4, 1, R, C]⟩ off (shapeCast ⟨6, ![4, 2, 4, 2, R, C]⟩ w h0) h1) h2) (ix5 a z k r c)
      = w (ix4 (⟨(a.val * 2 + e.val) * 4 + k.val, by omega⟩ : Fin 32) b r c) := by
  subst hoff
  rw [broadcastInDim_apply _ _ _ _ (ix4 a k r c) (fun x => by
    match x with
    | 0 => exact one_or a.isLt
    | 1 => exact one_or k.isLt
    | 2 => exact one_or r.isLt
    | 3 => exact one_or c.isLt)]
  rw [shapeCast_apply _ _ _ (ix6 a (0 : Fin 1) k (0 : Fin 1) r c) (by
    rw [Shape.rowMajor_val_six, Shape.rowMajor_val_four]
    show ((((a.val * 1 + 0) * 4 + k.val) * 1 + 0) * R + r.val) * C + c.val = ((a.val * 4 + k.val) * R + r.val) * C + c.val
    simp only [Nat.mul_one, Nat.add_zero])]
  rw [extractStridedSlice_apply _ _ _ _ (ix6 a e k b r c) (fun x => by
    match x with
    | 0 => exact (Nat.zero_add _).symm
    | 1 => rfl
    | 2 => exact (Nat.zero_add _).symm
    | 3 => rfl
    | 4 => exact (Nat.zero_add _).symm
    | 5 => exact (Nat.zero_add _).symm)]
  rw [shapeCast_apply _ _ _ (ix4 (⟨(a.val * 2 + e.val) * 4 + k.val, by omega⟩ : Fin 32) b r c) (by
    rw [Shape.rowMajor_val_six, Shape.rowMajor_val_four]
    rfl)]

/-- The reference of the sibling half: row `8a + 4b + k` of the result is row `8a + 4(1 - b) + k` of core `b`. -/
theorem sibling_ref_apply (w : (⟨4, ![32, 2, R, C]⟩ : Shape).Idx → α)
    (h0 : (⟨4, ![32, 2, R, C]⟩ : Shape).ShapeCasts ⟨6, ![4, 2, 4, 2, R, C]⟩)
    (h1 : (⟨6, ![4, 2, 4, 2, R, C]⟩ : Shape).Slices ![0, 1, 0, 0, 0, 0] ⟨6, ![4, 1, 4, 1, R, C]⟩)
    (h1' : (⟨6, ![4, 2, 4, 2, R, C]⟩ : Shape).Slices ![0, 0, 0, 1, 0, 0] ⟨6, ![4, 1, 4, 1, R, C]⟩)
    (h2 : (⟨6, ![4, 1, 4, 1, R, C]⟩ : Shape).ShapeCasts ⟨4, ![4, 4, R, C]⟩)
    (h3 : (⟨4, ![4, 4, R, C]⟩ : Shape).BroadcastsInDim ⟨5, ![4, 1, 4, R, C]⟩ ![0, 2, 3, 4])
    (h4 : Shape.Concatenates [(⟨5, ![4, 1, 4, R, C]⟩ : Shape), ⟨5, ![4, 1, 4, R, C]⟩] ⟨5, ![4, 2, 4, R, C]⟩ 1)
    (h5 : (⟨5, ![4, 2, 4, R, C]⟩ : Shape).ShapeCasts ⟨3, ![32, R, C]⟩)
    (a k : Fin 4) (b : Fin 2) (r : Fin R) (c : Fin C) :
    shapeCast ⟨3, ![32, R, C]⟩ (concatenate ⟨5, ![4, 2, 4, R, C]⟩ 1
      [⟨⟨5, ![4, 1, 4, R, C]⟩, broadcastInDim ⟨5, ![4, 1, 4, R, C]⟩ ![0, 2, 3, 4] h3 (shapeCast ⟨4, ![4, 4, R, C]⟩
        (extractStridedSlice ⟨6, ![4, 1, 4, 1, R, C]⟩ ![0, 1, 0, 0, 0, 0] (shapeCast ⟨6, ![4, 2, 4, 2, R, C]⟩ w h0) h1) h2)⟩,
       ⟨⟨5, ![4, 1, 4, R, C]⟩, broadcastInDim ⟨5, ![4, 1, 4, R, C]⟩ ![0, 2, 3, 4] h3 (shapeCast ⟨4, ![4, 4, R, C]⟩
        (extractStridedSlice ⟨6, ![4, 1, 4, 1, R, C]⟩ ![0, 0, 0, 1, 0, 0] (shapeCast ⟨6, ![4, 2, 4, 2, R, C]⟩ w h0) h1') h2)⟩] h4) h5
      (ix3 (⟨(a.val * 2 + b.val) * 4 + k.val, by omega⟩ : Fin 32) r c)
      = w (ix4 (⟨(a.val * 2 + (1 - b.val)) * 4 + k.val, by omega⟩ : Fin 32) b r c) := by
  rw [shapeCast_apply _ _ _ (ix5 a b k r c) (by
    rw [Shape.rowMajor_val_five, Shape.rowMajor_val_three]
    rfl)]
  match b with
  | 0 =>
    refine (concatenate_pair_apply_left (s₁ := ⟨5, ![4, 1, 4, R, C]⟩) (s₂ := ⟨5, ![4, 1, 4, R, C]⟩) 1 _ _ h4 (ix5 a (0 : Fin 2) k r c) rfl (ix5 a (0 : Fin 1) k r c) (fun x => by
      match x with
      | 0 => rfl
      | 1 => rfl
      | 2 => rfl
      | 3 => rfl
      | 4 => rfl)).trans ?_
    exact half_apply w 1 0 _ rfl h0 h1 h2 h3 a k r c 0
  | 1 =>
    refine (concatenate_pair_apply_right (s₁ := ⟨5, ![4, 1, 4, R, C]⟩) (s₂ := ⟨5, ![4, 1, 4, R, C]⟩) 1 _ _ h4 (ix5 a (1 : Fin 2) k r c) rfl rfl (ix5 a (0 : Fin 1) k r c) (fun x hx => by
      match x, hx with
      | 0, _ => rfl
      | 1, hx => exact absurd rfl hx
      | 2, _ => rfl
      | 3, _ => rfl
      | 4, _ => rfl) rfl).trans ?_
    exact half_apply w 0 1 _ rfl h0 h1' h2 h3 a k r c 0

end

/-- What arrives at a device by the sibling half is the device's block of the reference's result. -/
theorem sibling_value {Val : EltTy → Type} [∀ e, Nonempty (Val e)] {e : EltTy} {R C : ℕ} (d : Fin 8) (s : Fin 8) (hs : s.val = d.val + 1 - 2 * (d.val % 2))
    (W : (⟨⟨4, ![32, 2, R, C]⟩, e⟩ : BufTy).Contents Val) (V : (⟨⟨3, ![32, R, C]⟩, e⟩ : BufTy).Contents Val)
    (x : (⟨⟨4, ![4, 2, R, C]⟩, e⟩ : BufTy).Contents Val) (y : (⟨⟨3, ![4, R, C]⟩, e⟩ : BufTy).Contents Val)
    (t4 : Layout.Tiles ⟨4, ![4, 2, R, C]⟩ ⟨4, ![32, 2, R, C]⟩ 0 8) (t3 : Layout.Tiles ⟨3, ![4, R, C]⟩ ⟨3, ![32, R, C]⟩ 0 8)
    (hx : x = Layout.block ⟨4, ![4, 2, R, C]⟩ ⟨4, ![32, 2, R, C]⟩ 0 8 s W t4)
    (hV : ∀ (a k : Fin 4) (b : Fin 2) (r : Fin R) (c : Fin C), V (ix3 (⟨(a.val * 2 + b.val) * 4 + k.val, by omega⟩ : Fin 32) r c)
      = W (ix4 (⟨(a.val * 2 + (1 - b.val)) * 4 + k.val, by omega⟩ : Fin 32) b r c))
    (hy : ∀ q < 4, ∀ t < R * C, HEq (pick y (q * (R * C) + t)) (pick x ((q * 2 + d.val % 2) * (R * C) + t))) :
    y = Layout.block ⟨3, ![4, R, C]⟩ ⟨3, ![32, R, C]⟩ 0 8 d V t3 := by
  refine ext_three fun q r c => ?_
  have e1 := eq_of_heq (hy q.val q.isLt _ (place_lt r c))
  rw [pick_three] at e1
  refine e1.trans ((pick_four x q (⟨d.val % 2, by omega⟩ : Fin 2) r c).trans ?_)
  rw [hx, Layout.block_apply, Layout.block_apply]
  have hv := hV ⟨d.val / 2, by omega⟩ q ⟨d.val % 2, by omega⟩ r c
  have i1 : t3.idx d (ix3 q r c) = ix3 (⟨(d.val / 2 * 2 + d.val % 2) * 4 + q.val, by omega⟩ : Fin 32) r c := by
    funext x
    apply Fin.ext
    match x with
    | 0 => show d.val * 4 + q.val = (d.val / 2 * 2 + d.val % 2) * 4 + q.val; omega
    | 1 => rfl
    | 2 => rfl
  have i2 : t4.idx s (ix4 q (⟨d.val % 2, by omega⟩ : Fin 2) r c) = ix4 (⟨(d.val / 2 * 2 + (1 - d.val % 2)) * 4 + q.val, by omega⟩ : Fin 32) (⟨d.val % 2, by omega⟩ : Fin 2) r c := by
    funext x
    apply Fin.ext
    match x with
    | 0 => show s.val * 4 + q.val = (d.val / 2 * 2 + (1 - d.val % 2)) * 4 + q.val; omega
    | 1 => rfl
    | 2 => rfl
    | 3 => rfl
  rw [i1, i2]
  exact hv.symm

end Cert.Exchange

end
-- ==== Proof.SiblingClaim.lean ====
/-
# The sibling half of the reduce-scatter: the claims

The claims of this call: that it ends without a fault and with every semaphore at zero, and that its results are the
blocks of the reference's results, bit for bit and in the ideal reading.
-/
module

public import proofs.«01_k».proof.Defs
public import proofs.«01_k».proof.Proof.SiblingCall
public import proofs.«01_k».proof.Proof.SiblingValue
public import proofs.«01_k».proof.Proof.Gen.Sibling
public import proofs.«01_k».proof.Proof.Gen.SiblingRef
public import proofs.«01_k».proof.Proof.Gen.SiblingRefIdeal
public import proofs.«01_k».proof.Proof.Gen.SiblingRefIdeal.Run

@[expose] public section

set_option maxRecDepth 65536
set_option maxHeartbeats 2000000

noncomputable section

namespace Cert.SiblingClaim

open Idealize.SL.Sem Idealize.ShloMosaic Idealize.ShloMosaic.TcCoe Cert.Exchange Cert.SiblingIdeal.Call

/-- The results of the call are the blocks of the reference's results, whatever the reading of the floats: nothing but
    copies is done by either. -/
theorem value {F : FTy → Type} [FloatOps F] :
  ∀ (m : (ℓ : Loc Cert.SiblingIdeal.nD Cert.SiblingIdeal.τ Cert.SiblingIdeal.sig) → Buf (Elt F) ℓ) (g : Dev Cert.SiblingIdeal.nD → PrngReg)
    (m' : (ℓ : Loc Cert.SiblingRefIdeal.nD Cert.SiblingRefIdeal.τ Cert.SiblingRefIdeal.sig) → Buf (Elt F) ℓ) (g' : Dev Cert.SiblingRefIdeal.nD → PrngReg),
    (∀ c : Dev Cert.SiblingIdeal.nD,
      m ((c.tc : Thread Cert.SiblingIdeal.nD Cert.SiblingIdeal.τ).loc Cert.SiblingIdeal.main_arg0) = Layout.block ⟨4, ![4, 2, 240, 128]⟩ ⟨4, ![32, 2, 240, 128]⟩ 0 8 c (m' (((0 : Dev Cert.SiblingRefIdeal.nD).tc : Thread Cert.SiblingRefIdeal.nD Cert.SiblingRefIdeal.τ).loc Cert.SiblingRefIdeal.main_arg0))
      ∧ m ((c.tc : Thread Cert.SiblingIdeal.nD Cert.SiblingIdeal.τ).loc Cert.SiblingIdeal.main_arg1) = Layout.block ⟨4, ![4, 2, 512, 704]⟩ ⟨4, ![32, 2, 512, 704]⟩ 0 8 c (m' (((0 : Dev Cert.SiblingRefIdeal.nD).tc : Thread Cert.SiblingRefIdeal.nD Cert.SiblingRefIdeal.τ).loc Cert.SiblingRefIdeal.main_arg1))
      ∧ m ((c.tc : Thread Cert.SiblingIdeal.nD Cert.SiblingIdeal.τ).loc Cert.SiblingIdeal.main_arg2) = Layout.block ⟨4, ![4, 2, 512, 704]⟩ ⟨4, ![32, 2, 512, 704]⟩ 0 8 c (m' (((0 : Dev Cert.SiblingRefIdeal.nD).tc : Thread Cert.SiblingRefIdeal.nD Cert.SiblingRefIdeal.τ).loc Cert.SiblingRefIdeal.main_arg2))
      ∧ m ((c.tc : Thread Cert.SiblingIdeal.nD Cert.SiblingIdeal.τ).loc Cert.SiblingIdeal.main_arg3) = Layout.block ⟨4, ![4, 2, 352, 1024]⟩ ⟨4, ![32, 2, 352, 1024]⟩ 0 8 c (m' (((0 : Dev Cert.SiblingRefIdeal.nD).tc : Thread Cert.SiblingRefIdeal.nD Cert.SiblingRefIdeal.τ).loc Cert.SiblingRefIdeal.main_arg3))
      ∧ m ((c.tc : Thread Cert.SiblingIdeal.nD Cert.SiblingIdeal.τ).loc Cert.SiblingIdeal.main_arg4) = Layout.block ⟨4, ![4, 2, 128, 1024]⟩ ⟨4, ![32, 2, 128, 1024]⟩ 0 8 c (m' (((0 : Dev Cert.SiblingRefIdeal.nD).tc : Thread Cert.SiblingRefIdeal.nD Cert.SiblingRefIdeal.τ).loc Cert.SiblingRefIdeal.main_arg4))
      ∧ m ((c.tc : Thread Cert.SiblingIdeal.nD Cert.SiblingIdeal.τ).loc Cert.SiblingIdeal.main_arg5) = Layout.block ⟨4, ![4, 2, 128, 1024]⟩ ⟨4, ![32, 2, 128, 1024]⟩ 0 8 c (m' (((0 : Dev Cert.SiblingRefIdeal.nD).tc : Thread Cert.SiblingRefIdeal.nD Cert.SiblingRefIdeal.τ).loc Cert.SiblingRefIdeal.main_arg5))
      ∧ m ((c.tc : Thread Cert.SiblingIdeal.nD Cert.SiblingIdeal.τ).loc Cert.SiblingIdeal.main_arg6) = Layout.block ⟨4, ![4, 2, 512, 704]⟩ ⟨4, ![32, 2, 512, 704]⟩ 0 8 c (m' (((0 : Dev Cert.SiblingRefIdeal.nD).tc : Thread Cert.SiblingRefIdeal.nD Cert.SiblingRefIdeal.τ).loc Cert.SiblingRefIdeal.main_arg6))
      ∧ m ((c.tc : Thread Cert.SiblingIdeal.nD Cert.SiblingIdeal.τ).loc Cert.SiblingIdeal.main_arg7) = Layout.block ⟨4, ![4, 2, 512, 704]⟩ ⟨4, ![32, 2, 512, 704]⟩ 0 8 c (m' (((0 : Dev Cert.SiblingRefIdeal.nD).tc : Thread Cert.SiblingRefIdeal.nD Cert.SiblingRefIdeal.τ).loc Cert.SiblingRefIdeal.main_arg7))
      ∧ m ((c.tc : Thread Cert.SiblingIdeal.nD Cert.SiblingIdeal.τ).loc Cert.SiblingIdeal.main_arg8) = Layout.block ⟨4, ![4, 2, 352, 1024]⟩ ⟨4, ![32, 2, 352, 1024]⟩ 0 8 c (m' (((0 : Dev Cert.SiblingRefIdeal.nD).tc : Thread Cert.SiblingRefIdeal.nD Cert.SiblingRefIdeal.τ).loc Cert.SiblingRefIdeal.main_arg8))) →
    ∃ (v0 : Buf (Elt F) (((0 : Dev Cert.SiblingRefIdeal.nD).tc : Thread Cert.SiblingRefIdeal.nD Cert.SiblingRefIdeal.τ).loc Cert.SiblingRefIdeal.main_v8)) (v1 : Buf (Elt F) (((0 : Dev Cert.SiblingRefIdeal.nD).tc : Thread Cert.SiblingRefIdeal.nD Cert.SiblingRefIdeal.τ).loc Cert.SiblingRefIdeal.main_v17)) (v2 : Buf (Elt F) (((0 : Dev Cert.SiblingRefIdeal.nD).tc : Thread Cert.SiblingRefIdeal.nD Cert.SiblingRefIdeal.τ).loc Cert.SiblingRefIdeal.main_v26)) (v3 : Buf (Elt F) (((0 : Dev Cert.SiblingRefIdeal.nD).tc : Thread Cert.SiblingRefIdeal.nD Cert.SiblingRefIdeal.τ).loc Cert.SiblingRefIdeal.main_v35)) (v4 : Buf (Elt F) (((0 : Dev Cert.SiblingRefIdeal.nD).tc : Thread Cert.SiblingRefIdeal.nD Cert.SiblingRefIdeal.τ).loc Cert.SiblingRefIdeal.main_v44)) (v5 : Buf (Elt F) (((0 : Dev Cert.SiblingRefIdeal.nD).tc : Thread Cert.SiblingRefIdeal.nD Cert.SiblingRefIdeal.τ).loc Cert.SiblingRefIdeal.main_v53)) (v6 : Buf (Elt F) (((0 : Dev Cert.SiblingRefIdeal.nD).tc : Thread Cert.SiblingRefIdeal.nD Cert.SiblingRefIdeal.τ).loc Cert.SiblingRefIdeal.main_v62)) (v7 : Buf (Elt F) (((0 : Dev Cert.SiblingRefIdeal.nD).tc : Thread Cert.SiblingRefIdeal.nD Cert.SiblingRefIdeal.τ).loc Cert.SiblingRefIdeal.main_v71)) (v8 : Buf (Elt F) (((0 : Dev Cert.SiblingRefIdeal.nD).tc : Thread Cert.SiblingRefIdeal.nD Cert.SiblingRefIdeal.τ).loc Cert.SiblingRefIdeal.main_v80)),
      θ_run (Cert.SiblingIdeal.defs (F := F)) (onTc (τ := Cert.SiblingIdeal.τ) (Cert.SiblingIdeal.main (F := F))) ⟨m, fun _ => 0, g⟩ (fun r => ∀ c : Dev Cert.SiblingIdeal.nD,
          r.2.mem ((c.tc : Thread Cert.SiblingIdeal.nD Cert.SiblingIdeal.τ).loc Cert.SiblingIdeal.main_v1_0) = Layout.block ⟨3, ![4, 240, 128]⟩ ⟨3, ![32, 240, 128]⟩ 0 8 c v0
          ∧ r.2.mem ((c.tc : Thread Cert.SiblingIdeal.nD Cert.SiblingIdeal.τ).loc Cert.SiblingIdeal.main_v1_1) = Layout.block ⟨3, ![4, 512, 704]⟩ ⟨3, ![32, 512, 704]⟩ 0 8 c v1
          ∧ r.2.mem ((c.tc : Thread Cert.SiblingIdeal.nD Cert.SiblingIdeal.τ).loc Cert.SiblingIdeal.main_v1_2) = Layout.block ⟨3, ![4, 512, 704]⟩ ⟨3, ![32, 512, 704]⟩ 0 8 c v2
          ∧ r.2.mem ((c.tc : Thread Cert.SiblingIdeal.nD Cert.SiblingIdeal.τ).loc Cert.SiblingIdeal.main_v1_3) = Layout.block ⟨3, ![4, 352, 1024]⟩ ⟨3, ![32, 352, 1024]⟩ 0 8 c v3
          ∧ r.2.mem ((c.tc : Thread Cert.SiblingIdeal.nD Cert.SiblingIdeal.τ).loc Cert.SiblingIdeal.main_v1_4) = Layout.block ⟨3, ![4, 128, 1024]⟩ ⟨3, ![32, 128, 1024]⟩ 0 8 c v4
          ∧ r.2.mem ((c.tc : Thread Cert.SiblingIdeal.nD Cert.SiblingIdeal.τ).loc Cert.SiblingIdeal.main_v1_5) = Layout.block ⟨3, ![4, 128, 1024]⟩ ⟨3, ![32, 128, 1024]⟩ 0 8 c v5
          ∧ r.2.mem ((c.tc : Thread Cert.SiblingIdeal.nD Cert.SiblingIdeal.τ).loc Cert.SiblingIdeal.main_v1_6) = Layout.block ⟨3, ![4, 512, 704]⟩ ⟨3, ![32, 512, 704]⟩ 0 8 c v6
          ∧ r.2.mem ((c.tc : Thread Cert.SiblingIdeal.nD Cert.SiblingIdeal.τ).loc Cert.SiblingIdeal.main_v1_7) = Layout.block ⟨3, ![4, 512, 704]⟩ ⟨3, ![32, 512, 704]⟩ 0 8 c v7
          ∧ r.2.mem ((c.tc : Thread Cert.SiblingIdeal.nD Cert.SiblingIdeal.τ).loc Cert.SiblingIdeal.main_v1_8) = Layout.block ⟨3, ![4, 352, 1024]⟩ ⟨3, ![32, 352, 1024]⟩ 0 8 c v8
          ∧ r.2.mem ((c.tc : Thread Cert.SiblingIdeal.nD Cert.SiblingIdeal.τ).loc Cert.SiblingIdeal.main_arg0) = m ((c.tc : Thread Cert.SiblingIdeal.nD Cert.SiblingIdeal.τ).loc Cert.SiblingIdeal.main_arg0)
          ∧ r.2.mem ((c.tc : Thread Cert.SiblingIdeal.nD Cert.SiblingIdeal.τ).loc Cert.SiblingIdeal.main_arg1) = m ((c.tc : Thread Cert.SiblingIdeal.nD Cert.SiblingIdeal.τ).loc Cert.SiblingIdeal.main_arg1)
          ∧ r.2.mem ((c.tc : Thread Cert.SiblingIdeal.nD Cert.SiblingIdeal.τ).loc Cert.SiblingIdeal.main_arg2) = m ((c.tc : Thread Cert.SiblingIdeal.nD Cert.SiblingIdeal.τ).loc Cert.SiblingIdeal.main_arg2)
          ∧ r.2.mem ((c.tc : Thread Cert.SiblingIdeal.nD Cert.SiblingIdeal.τ).loc Cert.SiblingIdeal.main_arg3) = m ((c.tc : Thread Cert.SiblingIdeal.nD Cert.SiblingIdeal.τ).loc Cert.SiblingIdeal.main_arg3)
          ∧ r.2.mem ((c.tc : Thread Cert.SiblingIdeal.nD Cert.SiblingIdeal.τ).loc Cert.SiblingIdeal.main_arg4) = m ((c.tc : Thread Cert.SiblingIdeal.nD Cert.SiblingIdeal.τ).loc Cert.SiblingIdeal.main_arg4)
          ∧ r.2.mem ((c.tc : Thread Cert.SiblingIdeal.nD Cert.SiblingIdeal.τ).loc Cert.SiblingIdeal.main_arg5) = m ((c.tc : Thread Cert.SiblingIdeal.nD Cert.SiblingIdeal.τ).loc Cert.SiblingIdeal.main_arg5)
          ∧ r.2.mem ((c.tc : Thread Cert.SiblingIdeal.nD Cert.SiblingIdeal.τ).loc Cert.SiblingIdeal.main_arg6) = m ((c.tc : Thread Cert.SiblingIdeal.nD Cert.SiblingIdeal.τ).loc Cert.SiblingIdeal.main_arg6)
          ∧ r.2.mem ((c.tc : Thread Cert.SiblingIdeal.nD Cert.SiblingIdeal.τ).loc Cert.SiblingIdeal.main_arg7) = m ((c.tc : Thread Cert.SiblingIdeal.nD Cert.SiblingIdeal.τ).loc Cert.SiblingIdeal.main_arg7)
          ∧ r.2.mem ((c.tc : Thread Cert.SiblingIdeal.nD Cert.SiblingIdeal.τ).loc Cert.SiblingIdeal.main_arg8) = m ((c.tc : Thread Cert.SiblingIdeal.nD Cert.SiblingIdeal.τ).loc Cert.SiblingIdeal.main_arg8))
      ∧ θ_run (Cert.SiblingRefIdeal.defs (F := F)) (onTc (τ := Cert.SiblingRefIdeal.τ) (Cert.SiblingRefIdeal.main (F := F))) ⟨m', fun _ => 0, g'⟩ (fun r =>
          r.2.mem (((0 : Dev Cert.SiblingRefIdeal.nD).tc : Thread Cert.SiblingRefIdeal.nD Cert.SiblingRefIdeal.τ).loc Cert.SiblingRefIdeal.main_v8) = v0
          ∧ r.2.mem (((0 : Dev Cert.SiblingRefIdeal.nD).tc : Thread Cert.SiblingRefIdeal.nD Cert.SiblingRefIdeal.τ).loc Cert.SiblingRefIdeal.main_v17) = v1
          ∧ r.2.mem (((0 : Dev Cert.SiblingRefIdeal.nD).tc : Thread Cert.SiblingRefIdeal.nD Cert.SiblingRefIdeal.τ).loc Cert.SiblingRefIdeal.main_v26) = v2
          ∧ r.2.mem (((0 : Dev Cert.SiblingRefIdeal.nD).tc : Thread Cert.SiblingRefIdeal.nD Cert.SiblingRefIdeal.τ).loc Cert.SiblingRefIdeal.main_v35) = v3
          ∧ r.2.mem (((0 : Dev Cert.SiblingRefIdeal.nD).tc : Thread Cert.SiblingRefIdeal.nD Cert.SiblingRefIdeal.τ).loc Cert.SiblingRefIdeal.main_v44) = v4
          ∧ r.2.mem (((0 : Dev Cert.SiblingRefIdeal.nD).tc : Thread Cert.SiblingRefIdeal.nD Cert.SiblingRefIdeal.τ).loc Cert.SiblingRefIdeal.main_v53) = v5
          ∧ r.2.mem (((0 : Dev Cert.SiblingRefIdeal.nD).tc : Thread Cert.SiblingRefIdeal.nD Cert.SiblingRefIdeal.τ).loc Cert.SiblingRefIdeal.main_v62) = v6
          ∧ r.2.mem (((0 : Dev Cert.SiblingRefIdeal.nD).tc : Thread Cert.SiblingRefIdeal.nD Cert.SiblingRefIdeal.τ).loc Cert.SiblingRefIdeal.main_v71) = v7
          ∧ r.2.mem (((0 : Dev Cert.SiblingRefIdeal.nD).tc : Thread Cert.SiblingRefIdeal.nD Cert.SiblingRefIdeal.τ).loc Cert.SiblingRefIdeal.main_v80) = v8
          ∧ r.2.mem (((0 : Dev Cert.SiblingRefIdeal.nD).tc : Thread Cert.SiblingRefIdeal.nD Cert.SiblingRefIdeal.τ).loc Cert.SiblingRefIdeal.main_arg0) = m' (((0 : Dev Cert.SiblingRefIdeal.nD).tc : Thread Cert.SiblingRefIdeal.nD Cert.SiblingRefIdeal.τ).loc Cert.SiblingRefIdeal.main_arg0)
          ∧ r.2.mem (((0 : Dev Cert.SiblingRefIdeal.nD).tc : Thread Cert.SiblingRefIdeal.nD Cert.SiblingRefIdeal.τ).loc Cert.SiblingRefIdeal.main_arg1) = m' (((0 : Dev Cert.SiblingRefIdeal.nD).tc : Thread Cert.SiblingRefIdeal.nD Cert.SiblingRefIdeal.τ).loc Cert.SiblingRefIdeal.main_arg1)
          ∧ r.2.mem (((0 : Dev Cert.SiblingRefIdeal.nD).tc : Thread Cert.SiblingRefIdeal.nD Cert.SiblingRefIdeal.τ).loc Cert.SiblingRefIdeal.main_arg2) = m' (((0 : Dev Cert.SiblingRefIdeal.nD).tc : Thread Cert.SiblingRefIdeal.nD Cert.SiblingRefIdeal.τ).loc Cert.SiblingRefIdeal.main_arg2)
          ∧ r.2.mem (((0 : Dev Cert.SiblingRefIdeal.nD).tc : Thread Cert.SiblingRefIdeal.nD Cert.SiblingRefIdeal.τ).loc Cert.SiblingRefIdeal.main_arg3) = m' (((0 : Dev Cert.SiblingRefIdeal.nD).tc : Thread Cert.SiblingRefIdeal.nD Cert.SiblingRefIdeal.τ).loc Cert.SiblingRefIdeal.main_arg3)
          ∧ r.2.mem (((0 : Dev Cert.SiblingRefIdeal.nD).tc : Thread Cert.SiblingRefIdeal.nD Cert.SiblingRefIdeal.τ).loc Cert.SiblingRefIdeal.main_arg4) = m' (((0 : Dev Cert.SiblingRefIdeal.nD).tc : Thread Cert.SiblingRefIdeal.nD Cert.SiblingRefIdeal.τ).loc Cert.SiblingRefIdeal.main_arg4)
          ∧ r.2.mem (((0 : Dev Cert.SiblingRefIdeal.nD).tc : Thread Cert.SiblingRefIdeal.nD Cert.SiblingRefIdeal.τ).loc Cert.SiblingRefIdeal.main_arg5) = m' (((0 : Dev Cert.SiblingRefIdeal.nD).tc : Thread Cert.SiblingRefIdeal.nD Cert.SiblingRefIdeal.τ).loc Cert.SiblingRefIdeal.main_arg5)
          ∧ r.2.mem (((0 : Dev Cert.SiblingRefIdeal.nD).tc : Thread Cert.SiblingRefIdeal.nD Cert.SiblingRefIdeal.τ).loc Cert.SiblingRefIdeal.main_arg6) = m' (((0 : Dev Cert.SiblingRefIdeal.nD).tc : Thread Cert.SiblingRefIdeal.nD Cert.SiblingRefIdeal.τ).loc Cert.SiblingRefIdeal.main_arg6)
          ∧ r.2.mem (((0 : Dev Cert.SiblingRefIdeal.nD).tc : Thread Cert.SiblingRefIdeal.nD Cert.SiblingRefIdeal.τ).loc Cert.SiblingRefIdeal.main_arg7) = m' (((0 : Dev Cert.SiblingRefIdeal.nD).tc : Thread Cert.SiblingRefIdeal.nD Cert.SiblingRefIdeal.τ).loc Cert.SiblingRefIdeal.main_arg7)
          ∧ r.2.mem (((0 : Dev Cert.SiblingRefIdeal.nD).tc : Thread Cert.SiblingRefIdeal.nD Cert.SiblingRefIdeal.τ).loc Cert.SiblingRefIdeal.main_arg8) = m' (((0 : Dev Cert.SiblingRefIdeal.nD).tc : Thread Cert.SiblingRefIdeal.nD Cert.SiblingRefIdeal.τ).loc Cert.SiblingRefIdeal.main_arg8)) := by
  intro m g m' g' H
  refine ⟨_, _, _, _, _, _, _, _, _, (θ_run Cert.SiblingIdeal.defs _ _).mono (fun r h c => ?_) (run_main (F := F) m g),
    (θ_run Cert.SiblingRefIdeal.defs _ _).mono (fun r h => h 0) (Cert.SiblingRefIdeal.Value.run (F := F) m' g')⟩
  exact ⟨sibling_value c (sib c) rfl _ _ _ _ _ _ ((H (sib c)).1)
      (fun a k b r c => sibling_ref_apply _ _ _ _ _ _ _ _ a k b r c) (fun q hq t ht => (h.1 c 0).2 q hq t ht),
    sibling_value c (sib c) rfl _ _ _ _ _ _ ((H (sib c)).2.1)
      (fun a k b r c => sibling_ref_apply _ _ _ _ _ _ _ _ a k b r c) (fun q hq t ht => (h.1 c 1).2 q hq t ht),
    sibling_value c (sib c) rfl _ _ _ _ _ _ ((H (sib c)).2.2.1)
      (fun a k b r c => sibling_ref_apply _ _ _ _ _ _ _ _ a k b r c) (fun q hq t ht => (h.1 c 2).2 q hq t ht),
    sibling_value c (sib c) rfl _ _ _ _ _ _ ((H (sib c)).2.2.2.1)
      (fun a k b r c => sibling_ref_apply _ _ _ _ _ _ _ _ a k b r c) (fun q hq t ht => (h.1 c 3).2 q hq t ht),
    sibling_value c (sib c) rfl _ _ _ _ _ _ ((H (sib c)).2.2.2.2.1)
      (fun a k b r c => sibling_ref_apply _ _ _ _ _ _ _ _ a k b r c) (fun q hq t ht => (h.1 c 4).2 q hq t ht),
    sibling_value c (sib c) rfl _ _ _ _ _ _ ((H (sib c)).2.2.2.2.2.1)
      (fun a k b r c => sibling_ref_apply _ _ _ _ _ _ _ _ a k b r c) (fun q hq t ht => (h.1 c 5).2 q hq t ht),
    sibling_value c (sib c) rfl _ _ _ _ _ _ ((H (sib c)).2.2.2.2.2.2.1)
      (fun a k b r c => sibling_ref_apply _ _ _ _ _ _ _ _ a k b r c) (fun q hq t ht => (h.1 c 6).2 q hq t ht),
    sibling_value c (sib c) rfl _ _ _ _ _ _ ((H (sib c)).2.2.2.2.2.2.2.1)
      (fun a k b r c => sibling_ref_apply _ _ _ _ _ _ _ _ a k b r c) (fun q hq t ht => (h.1 c 7).2 q hq t ht),
    sibling_value c (sib c) rfl _ _ _ _ _ _ ((H (sib c)).2.2.2.2.2.2.2.2)
      (fun a k b r c => sibling_ref_apply _ _ _ _ _ _ _ _ a k b r c) (fun q hq t ht => (h.1 c 8).2 q hq t ht),
    (h.1 c 0).1,
    (h.1 c 1).1,
    (h.1 c 2).1,
    (h.1 c 3).1,
    (h.1 c 4).1,
    (h.1 c 5).1,
    (h.1 c 6).1,
    (h.1 c 7).1,
    (h.1 c 8).1⟩

/-- The call, on the bits, ends without a fault, leaves its arguments alone and every semaphore at zero. -/
theorem quiescent_Sibling : Cert.quiescent_Sibling := fun m g _ =>
  (θ_run Cert.SiblingIdeal.defs _ _).mono (fun _ h => ⟨fun c => ⟨(h.1 c 0).1, (h.1 c 1).1, (h.1 c 2).1, (h.1 c 3).1, (h.1 c 4).1, (h.1 c 5).1, (h.1 c 6).1, (h.1 c 7).1, (h.1 c 8).1⟩, h.2⟩) (run_main (F := Bits) m g)

/-- The call, in the ideal reading, ends without a fault, leaves its arguments alone and every semaphore at zero. -/
theorem quiescent_SiblingIdeal : Cert.quiescent_SiblingIdeal := fun m g _ =>
  (θ_run Cert.SiblingIdeal.defs _ _).mono (fun _ h => ⟨fun c => ⟨(h.1 c 0).1, (h.1 c 1).1, (h.1 c 2).1, (h.1 c 3).1, (h.1 c 4).1, (h.1 c 5).1, (h.1 c 6).1, (h.1 c 7).1, (h.1 c 8).1⟩, h.2⟩) (run_main (F := Ideal) m g)

/-- The reference, on the bits, ends without a fault and leaves its arguments alone; it has no semaphore. -/
theorem quiescent_SiblingRef : Cert.quiescent_SiblingRef := fun m g _ =>
  (θ_run Cert.SiblingRefIdeal.defs _ _).mono (fun _ h => ⟨fun c => (h c).2.2.2.2.2.2.2.2.2, sem_eq_zero_of_no_sems (by decide) _⟩) (Cert.SiblingRefIdeal.Value.run (F := Bits) m g)

/-- The reference, in the ideal reading, ends without a fault and leaves its arguments alone; it has no semaphore. -/
theorem quiescent_SiblingRefIdeal : Cert.quiescent_SiblingRefIdeal := fun m g _ =>
  (θ_run Cert.SiblingRefIdeal.defs _ _).mono (fun _ h => ⟨fun c => (h c).2.2.2.2.2.2.2.2.2, sem_eq_zero_of_no_sems (by decide) _⟩) (Cert.SiblingRefIdeal.Value.run (F := Ideal) m g)

/-- The ideal reading of the call rewrites nothing. -/
theorem preserves : Cert.preserves_Sibling_SiblingIdeal := trivial

/-- The results of the call are the blocks of the reference's results, bit for bit. -/
theorem bitexact : Cert.bitexact_Sibling_SiblingRef := fun m g m' g' _ H => value (F := Bits) m g m' g' H

/-- The results of the call are the blocks of the reference's results, in the ideal reading. -/
theorem algebraic : Cert.algebraic_SiblingIdeal_SiblingRefIdeal := fun m g m' g' _ H => value (F := Ideal) m g m' g' H

end Cert.SiblingClaim

end
-- ==== Proof.ChipsCall.lean ====
/-
# The reduce-scatter between the chips

The copies of the call: each device sends, of each of its nine arrays, one block to the same core of each of the three
other chips: the block that belongs to that chip. Block `j` of the result comes from the chip across the first axis, across
the second, and across both.
-/
module

public import proofs.«01_k».proof.Proof.Table
public import proofs.«01_k».proof.Proof.Gen.ChipsIdeal
public import proofs.«01_k».proof.Proof.Gen.ChipsIdeal.Launch

@[expose] public section

set_option maxRecDepth 65536

noncomputable section

namespace Cert.ChipsIdeal.Call

open Idealize.SL.Sem Cert.ChipsIdeal Cert.Exchange Idealize.ShloMosaic Idealize.ShloMosaic.TcCoe
open Idealize.SL Idealize.SL.RA Idealize.SL.BI
open scoped Idealize.SL.BI
open Idealize.SL.BI.BIBase Idealize.SL.BI.Laws Idealize.SL.ProofMode

variable {F : FTy → Type} [FloatOps F]

/-! ## The arrays -/

/-- An array, its result and the size of a block. -/
structure Arr where
  R : ℕ
  C : ℕ
  i : Memref sig .tc .hbm ⟨3, ![4, R, C]⟩ .f32
  o : Memref sig .tc .hbm ⟨3, ![3, R, C]⟩ .f32
  hi : i.IsWhole
  ho : o.IsWhole
  sq3 : (⟨3, ![1, R, C]⟩ : Shape).Squeezes ⟨2, ![R, C]⟩

/-- The nine arrays. -/
def arr : Fin 9 → Arr
  | 0 => ⟨240, 128, Memref.whole main_arg0, Memref.whole main_v1_0, Memref.isWhole_whole _, Memref.isWhole_whole _, by decide⟩
  | 1 => ⟨512, 704, Memref.whole main_arg1, Memref.whole main_v1_1, Memref.isWhole_whole _, Memref.isWhole_whole _, by decide⟩
  | 2 => ⟨512, 704, Memref.whole main_arg2, Memref.whole main_v1_2, Memref.isWhole_whole _, Memref.isWhole_whole _, by decide⟩
  | 3 => ⟨352, 1024, Memref.whole main_arg3, Memref.whole main_v1_3, Memref.isWhole_whole _, Memref.isWhole_whole _, by decide⟩
  | 4 => ⟨128, 1024, Memref.whole main_arg4, Memref.whole main_v1_4, Memref.isWhole_whole _, Memref.isWhole_whole _, by decide⟩
  | 5 => ⟨128, 1024, Memref.whole main_arg5, Memref.whole main_v1_5, Memref.isWhole_whole _, Memref.isWhole_whole _, by decide⟩
  | 6 => ⟨512, 704, Memref.whole main_arg6, Memref.whole main_v1_6, Memref.isWhole_whole _, Memref.isWhole_whole _, by decide⟩
  | 7 => ⟨512, 704, Memref.whole main_arg7, Memref.whole main_v1_7, Memref.isWhole_whole _, Memref.isWhole_whole _, by decide⟩
  | 8 => ⟨352, 1024, Memref.whole main_arg8, Memref.whole main_v1_8, Memref.isWhole_whole _, Memref.isWhole_whole _, by decide⟩

/-- The same core of the chip across the first axis of the mesh, across the second, and across both. -/
def mate (j : ℕ) (d : Dev nD) : Dev nD :=
  if j = 0 then ⟨(d.val + 4) % 8, Nat.mod_lt _ (by decide)⟩
  else if j = 1 then ⟨d.val + 2 - 4 * (d.val / 2 % 2), by have : d.val < 8 := d.isLt; show _ < 8; omega⟩
  else ⟨(d.val + 4) % 8 + 2 - 4 * (d.val / 2 % 2), by have : d.val < 8 := d.isLt; show _ < 8; omega⟩

theorem mate_mate (j : Fin 3) (d : Dev nD) : mate j (mate j d) = d := by revert j d; decide +kernel

/-- Which blocks move where. -/
def pat : Pattern nD (Fin 3) Empty where
  pm j := ⟨mate j, mate j, mate_mate j, mate_mate j⟩
  fwd _ := false
  ks d j := (mate j d).val / 2
  kd _ j := j.val
  ksL _ l := l.elim
  kdL _ l := l.elim
  len l := l.elim
  Q := 3
  org d q := (mate q d, d.val / 2)
  kd_lt := by decide +kernel
  org_send := by decide +kernel
  org_pass := by decide +kernel
  org_local := fun _ l => l.elim
  disj := by decide +kernel
  disj_l := fun _ _ l => l.elim
  disj_ll := fun _ l => l.elim
  cover := by decide +kernel

/-! ## The copies -/

/-- Where the block that copy `j` of an array reads on device `d` starts. -/
def off : Fin 9 → Fin 3 → Dev nD → Fin 3 → ℕ
  | 0, 0 => k0_off1
  | 0, 1 => k0_off2
  | 0, 2 => k0_off3
  | 1, 0 => k0_off4
  | 1, 1 => k0_off5
  | 1, 2 => k0_off6
  | 2, 0 => k0_off4
  | 2, 1 => k0_off5
  | 2, 2 => k0_off6
  | 3, 0 => k0_off7
  | 3, 1 => k0_off8
  | 3, 2 => k0_off9
  | 4, 0 => k0_off10
  | 4, 1 => k0_off11
  | 4, 2 => k0_off12
  | 5, 0 => k0_off10
  | 5, 1 => k0_off11
  | 5, 2 => k0_off12
  | 6, 0 => k0_off4
  | 6, 1 => k0_off5
  | 6, 2 => k0_off6
  | 7, 0 => k0_off4
  | 7, 1 => k0_off5
  | 7, 2 => k0_off6
  | 8, 0 => k0_off7
  | 8, 1 => k0_off8
  | 8, 2 => k0_off9

theorem off_eq (a : Fin 9) (j : Fin 3) (d : Dev nD) : off a j d = ![(mate j d).val / 2, 0, 0] := by
  revert a j d; decide +kernel

/-- The device that copy `j` of array `a` writes on. -/
def dev : Fin 9 → Fin 3 → Dev nD → ℕ
  | 0, 0 => k0_dev1
  | 0, 1 => k0_dev2
  | 0, 2 => k0_dev3
  | 1, 0 => k0_dev4
  | 1, 1 => k0_dev5
  | 1, 2 => k0_dev6
  | 2, 0 => k0_dev7
  | 2, 1 => k0_dev8
  | 2, 2 => k0_dev9
  | 3, 0 => k0_dev10
  | 3, 1 => k0_dev11
  | 3, 2 => k0_dev12
  | 4, 0 => k0_dev13
  | 4, 1 => k0_dev14
  | 4, 2 => k0_dev15
  | 5, 0 => k0_dev16
  | 5, 1 => k0_dev17
  | 5, 2 => k0_dev18
  | 6, 0 => k0_dev19
  | 6, 1 => k0_dev20
  | 6, 2 => k0_dev21
  | 7, 0 => k0_dev22
  | 7, 1 => k0_dev23
  | 7, 2 => k0_dev24
  | 8, 0 => k0_dev25
  | 8, 1 => k0_dev26
  | 8, 2 => k0_dev27

theorem dev_eq (a : Fin 9) (j : Fin 3) (d : Dev nD) : dev a j d = (mate j d).val := by revert a j d; decide +kernel

theorem dev_lt (a : Fin 9) (j : Fin 3) (d : Dev nD) : dev a j d < nD := by rw [dev_eq]; exact (mate j d).isLt

theorem off_inb (A : Arr) (a : Fin 9) (j : Fin 3) (d : Dev nD) (x : Fin 3) : off a j d x + (![1, A.R, A.C] : Fin 3 → ℕ) x ≤ (![4, A.R, A.C] : Fin 3 → ℕ) x := by
  rw [off_eq]; have : (mate j d).val < 8 := (mate j d).isLt
  match x with
  | 0 => show (mate j d).val / 2 + 1 ≤ 4; omega
  | 1 => show 0 + A.R ≤ A.R; omega
  | 2 => show 0 + A.C ≤ A.C; omega

theorem out_inb (A : Arr) (j : Fin 3) (x : Fin 3) : (![j.val, 0, 0] : Fin 3 → ℕ) x + (![1, A.R, A.C] : Fin 3 → ℕ) x ≤ (![3, A.R, A.C] : Fin 3 → ℕ) x := by
  have := j.isLt
  match x with
  | 0 => show j.val + 1 ≤ 3; omega
  | 1 => show 0 + A.R ≤ A.R; omega
  | 2 => show 0 + A.C ≤ A.C; omega

/-- What copy `(a, j)` of device `d` reads, and what it writes. -/
abbrev srcOf (A : Arr) (d : Dev nD) (j : Fin 9 × Fin 3) : Memref sig .tc .hbm ⟨2, ![A.R, A.C]⟩ .f32 :=
  (A.i.slice (Rect.unit (s := ⟨3, ![4, A.R, A.C]⟩) (off j.1 j.2 d) ![1, A.R, A.C] (off_inb A j.1 j.2 d)) (fun _ => rfl)).squeeze ⟨2, ![A.R, A.C]⟩ A.sq3
abbrev dstOf (A : Arr) (j : Fin 9 × Fin 3) : Memref sig .tc .hbm ⟨2, ![A.R, A.C]⟩ .f32 :=
  (A.o.slice (Rect.unit (s := ⟨3, ![3, A.R, A.C]⟩) ![j.2.val, 0, 0] ![1, A.R, A.C] (out_inb A j.2)) (fun _ => rfl)).squeeze ⟨2, ![A.R, A.C]⟩ A.sq3

def sendSem (j : Fin 9 × Fin 3) : DmaSem sig := ⟨3 * j.1.val + j.2.val, by show _ < 54; omega⟩
def recvSem (j : Fin 9 × Fin 3) : DmaSem sig := ⟨27 + (3 * j.1.val + j.2.val), by show _ < 54; omega⟩

def rem (d : Dev nD) (j : Fin 9 × Fin 3) : Remote nD τ sig where
  sp := .hbm
  sp' := .hbm
  s := ⟨2, ![(arr j.1).R, (arr j.1).C]⟩
  e := .f32
  src := srcOf (arr j.1) d j
  dst := dstOf (arr j.1) j
  tgt := ⟨dev j.1 j.2 d, dev_lt j.1 j.2 d⟩
  sendSem := sendSem j
  recvSem := recvSem j
  hsrc := (View.wordExact_bits rfl).reshape _ _
  hdst := (View.wordExact_bits rfl).reshape _ _
  hsc := by cases h : (arr j.1); rfl
  hsem := ⟨⟨rfl, Or.inl rfl⟩, trivial⟩

abbrev Sems := ((Fin 9 × Fin 3) ⊕ (Fin 9 × Fin 3)) ⊕ (Fin 9 × Empty)

def await (d : Dev nD) : Sems → Await sig
  | .inl (.inl j) => ⟨sendSem j, (srcOf (arr j.1) d j).view.ref, ⟨2, ![(arr j.1).R, (arr j.1).C]⟩, .f32, (srcOf (arr j.1) d j).hasMemref⟩
  | .inl (.inr j) => ⟨recvSem j, (dstOf (arr j.1) j).view.ref, ⟨2, ![(arr j.1).R, (arr j.1).C]⟩, .f32, (dstOf (arr j.1) j).hasMemref⟩
  | .inr l => l.2.elim

/-- The semaphores by index. -/
def semOf : Sems → SemLoc sig
  | .inl (.inl j) => .dma (sendSem j)
  | .inl (.inr j) => .dma (recvSem j)
  | .inr l => l.2.elim

theorem semOf_bijective : Function.Bijective semOf := by
  rw [Function.Bijective]
  constructor
  · decide +kernel
  · decide +kernel

def net : Net nD τ sig (Fin 9 × Fin 3) (Fin 9 × Empty) where
  rem := rem
  loc _ l := l.2.elim
  wait := await
  perm j := pat.pm j.2
  cells := Equiv.ofBijective semOf semOf_bijective
  amt j := (dstOf (arr j.1) j).view.dmaCredit
  amtL l := l.2.elim
  to_eq c j := Fin.ext (dev_eq j.1 j.2 c)
  send_eq _ _ := rfl
  recv_eq _ _ := rfl
  loc_eq _ l := l.2.elim
  wait_eq c k := by rcases k with (j | j) | l <;> first | rfl | exact l.2.elim
  amt_eq _ _ := rfl
  amtL_eq _ l := l.2.elim
  amt_pos j := View.dmaCredit_pos _ (by revert j; decide +kernel)
  amtL_pos l := l.2.elim
  wait_amt c k := by rcases k with (j | j) | l <;> first | rfl | exact l.2.elim

/-- The copies in program order. -/
def js : List (Fin 9 × Fin 3) := [(0, 0), (0, 1), (0, 2), (1, 0), (1, 1), (1, 2), (2, 0), (2, 1), (2, 2), (3, 0), (3, 1), (3, 2), (4, 0), (4, 1), (4, 2), (5, 0), (5, 1), (5, 2), (6, 0), (6, 1), (6, 2), (7, 0), (7, 1), (7, 2), (8, 0), (8, 1), (8, 2)]

def plan : Net.Plan (Fin 9 × Fin 3) (Fin 9 × Empty) where
  ll := []
  ls := js
  lp := []
  lr := js
  lw := js.map (fun j => .inl (.inr j)) ++ js.map (fun j => .inl (.inl j))
  rank _ := 0
  all_l := by decide +kernel
  nodup_l := by decide +kernel
  all_s := by decide +kernel
  nodup_s := by decide +kernel
  all_r := by decide +kernel
  nodup_r := by decide +kernel
  perm_w := by rw [List.map_nil, List.nil_append, List.map_nil, List.append_nil]; exact List.perm_append_comm
  nodup_w := by decide +kernel
  rank_lt := by decide +kernel

/-- The body of the call is the copies and waits of the plan. -/
theorem body_eq (t) : defs₀ (F := F) .tc 0 t = .op .deviceId fun d => net.body d plan.ll plan.ls plan.lp plan.lw := rfl

def table : Table net pat where
  inp a := (arr a).i.view.ref
  out a := (arr a).o.view.ref
  n a := (arr a).R * (arr a).C
  n_pos := by decide +kernel
  out_inj := by decide +kernel
  out_inp := by decide +kernel
  elt_eq := by decide +kernel
  numel := by decide +kernel
  perm_eq _ _ := rfl
  dst_ref _ _ _ := rfl
  dst_flat c a j := by
    have h := ((flat_isWhole (arr a).ho).slice _ (rect_three (K := 3) (L := 1) (k := j.val) ![j.val, 0, 0] rfl (out_inb (arr a) j))).reshape ⟨2, ![(arr a).R, (arr a).C]⟩ (arr a).sq3.numel_eq
    rw [Nat.zero_add] at h
    exact h
  src_ref _ _ _ := rfl
  src_flat c a j := by
    have h := ((flat_isWhole (arr a).hi).slice _ (rect_three (K := 4) (L := 1) (k := (mate j c).val / 2) (off a j c) (off_eq a j c) (off_inb (arr a) a j c))).reshape ⟨2, ![(arr a).R, (arr a).C]⟩ (arr a).sq3.numel_eq
    rw [Nat.zero_add] at h
    exact h
  size c a j := by revert c a j; decide +kernel
  dst_refL _ _ l := l.elim
  dst_flatL _ _ l := l.elim
  src_refL _ _ l := l.elim
  src_flatL _ _ l := l.elim
  sizeL _ _ l := l.elim

/-- The call, started on all devices with every semaphore at zero, terminates without a fault; the arguments are as
    before, every result holds its blocks of the other chips' arguments, and every semaphore is at zero. -/
theorem run_main (m : (ℓ : Loc nD τ sig) → Buf (Elt F) ℓ) (g : Dev nD → PrngReg) :
    θ_run defs (onTc main) ⟨m, fun _ => 0, g⟩ (fun r => (∀ c : Dev nD, ∀ a,
        r.2.mem ((c.tc : Thread nD τ).loc (table.inp a)) = m ((c.tc : Thread nD τ).loc (table.inp a)) ∧ table.Holds m r.2.mem c a)
      ∧ r.2.sem = fun _ => 0) := by
  refine (θ_run _ _ _).mono (fun r h => ⟨h.1, Idealize.ShloMosaic.sem_eq_zero_of_scoped (by decide) h.2⟩)
    (table.run (Val := Elt F) cfgs Gen.cellOf_inj Gen.N_0 (by decide +kernel) (by decide +kernel) defs₀ m g main (fun _ => rfl) plan ?_ (by decide +kernel) (by decide +kernel))
  intro c t Q
  show (Net.wpc defs₀ c _ _ : sProp (MT nD τ sig Unit (Elt F) ℕ (UX nD τ sig) ℕ)) ⊢ wp frame (wpE defs₀ Variants.none (c.tc : Thread nD τ) none) Set.univ (defs₀ (F := F) .tc 0 _) _
  rw [body_eq, wp_deviceId]

end Cert.ChipsIdeal.Call

end
-- ==== Proof.ChipsValue.lean ====
/-
# The values of the reduce-scatter between the chips

The reference's result, element by element, and that the blocks a device receives are its block of that result.
-/
module

public import proofs.«01_k».proof.Proof.Places

@[expose] public section

noncomputable section

namespace Cert.Exchange

open Idealize.ShloMosaic Idealize.ShloMosaic.ValueIdx

/-- The chip across the first axis of the mesh from chip `p`, across the second, and across both. -/
def across (j p : ℕ) : ℕ :=
  if j = 0 then (p + 2) % 4 else if j = 1 then p + 1 - 2 * (p % 2) else (p + 2) % 4 + 1 - 2 * (p % 2)

theorem across_lt : ∀ (j : Fin 3) (p : Fin 4), across j p < 4 := by decide

section

variable {α : Type} {R C : ℕ}

/-- One block of the reference: what chip `q` has for chip `p`, for both cores. -/
theorem block_apply (w : (⟨3, ![32, R, C]⟩ : Shape).Idx → α) (q p : Fin 4) (off : Fin 5 → ℕ) (hoff : off = ![q.val, 0, p.val, 0, 0])
    (h0 : (⟨3, ![32, R, C]⟩ : Shape).ShapeCasts ⟨5, ![4, 2, 4, R, C]⟩)
    (h1 : (⟨5, ![4, 2, 4, R, C]⟩ : Shape).Slices off ⟨5, ![1, 2, 1, R, C]⟩)
    (h2 : (⟨5, ![1, 2, 1, R, C]⟩ : Shape).ShapeCasts ⟨3, ![2, R, C]⟩)
    (h3 : (⟨3, ![2, R, C]⟩ : Shape).BroadcastsInDim ⟨4, ![2, 1, R, C]⟩ ![0, 2, 3])
    (b : Fin 2) (z : Fin 1) (r : Fin R) (c : Fin C) :
    broadcastInDim ⟨4, ![2, 1, R, C]⟩ ![0, 2, 3] h3 (shapeCast ⟨3, ![2, R, C]⟩
      (extractStridedSlice ⟨5, ![1, 2, 1, R, C]⟩ off (shapeCast ⟨5, ![4, 2, 4, R, C]⟩ w h0) h1) h2) (ix4 b z r c)
      = w (ix3 (⟨(q.val * 2 + b.val) * 4 + p.val, by omega⟩ : Fin 32) r c) := by
  subst hoff
  rw [broadcastInDim_apply _ _ _ _ (ix3 b r c) (fun x => by
    match x with
    | 0 => exact one_or b.isLt
    | 1 => exact one_or r.isLt
    | 2 => exact one_or c.isLt)]
  rw [shapeCast_apply _ _ _ (ix5 (0 : Fin 1) b (0 : Fin 1) r c) (by
    rw [Shape.rowMajor_val_five, Shape.rowMajor_val_three]
    show (((0 * 2 + b.val) * 1 + 0) * R + r.val) * C + c.val = (b.val * R + r.val) * C + c.val
    simp only [Nat.mul_one, Nat.add_zero, Nat.zero_mul, Nat.zero_add])]
  rw [extractStridedSlice_apply _ _ _ _ (ix5 q b p r c) (fun x => by
    match x with
    | 0 => rfl
    | 1 => exact (Nat.zero_add _).symm
    | 2 => rfl
    | 3 => exact (Nat.zero_add _).symm
    | 4 => exact (Nat.zero_add _).symm)]
  rw [shapeCast_apply _ _ _ (ix3 (⟨(q.val * 2 + b.val) * 4 + p.val, by omega⟩ : Fin 32) r c) (by
    rw [Shape.rowMajor_val_five, Shape.rowMajor_val_three]
    rfl)]

/-- A stack of three along the second axis. -/
theorem stack_three (x : Fin 3 → (⟨4, ![2, 1, R, C]⟩ : Shape).Idx → α)
    (h : Shape.Concatenates [(⟨4, ![2, 1, R, C]⟩ : Shape), ⟨4, ![2, 1, R, C]⟩, ⟨4, ![2, 1, R, C]⟩] ⟨4, ![2, 3, R, C]⟩ 1)
    (b : Fin 2) (j : Fin 3) (r : Fin R) (c : Fin C) :
    concatenate ⟨4, ![2, 3, R, C]⟩ 1 [⟨⟨4, ![2, 1, R, C]⟩, x 0⟩, ⟨⟨4, ![2, 1, R, C]⟩, x 1⟩, ⟨⟨4, ![2, 1, R, C]⟩, x 2⟩] h (ix4 b j r c)
      = x j (ix4 b (0 : Fin 1) r c) :=
  concatenate_ofFn_unit_apply (s₁ := ⟨4, ![2, 1, R, C]⟩) (t := ⟨4, ![2, 3, R, C]⟩) (1 : Fin 4) x h rfl rfl (ix4 b j r c) j rfl (ix4 b (0 : Fin 1) r c) (fun z hz => by
    match z with
    | 0 => rfl
    | 1 => exact absurd rfl hz
    | 2 => rfl
    | 3 => rfl)

/-- A stack of four along the first axis. -/
theorem stack_four (x : Fin 4 → (⟨5, ![1, 2, 3, R, C]⟩ : Shape).Idx → α)
    (h : Shape.Concatenates [(⟨5, ![1, 2, 3, R, C]⟩ : Shape), ⟨5, ![1, 2, 3, R, C]⟩, ⟨5, ![1, 2, 3, R, C]⟩, ⟨5, ![1, 2, 3, R, C]⟩] ⟨5, ![4, 2, 3, R, C]⟩ 0)
    (a : Fin 4) (b : Fin 2) (j : Fin 3) (r : Fin R) (c : Fin C) :
    concatenate ⟨5, ![4, 2, 3, R, C]⟩ 0 [⟨⟨5, ![1, 2, 3, R, C]⟩, x 0⟩, ⟨⟨5, ![1, 2, 3, R, C]⟩, x 1⟩, ⟨⟨5, ![1, 2, 3, R, C]⟩, x 2⟩, ⟨⟨5, ![1, 2, 3, R, C]⟩, x 3⟩] h (ix5 a b j r c)
      = x a (ix5 (0 : Fin 1) b j r c) :=
  concatenate_ofFn_unit_apply (s₁ := ⟨5, ![1, 2, 3, R, C]⟩) (t := ⟨5, ![4, 2, 3, R, C]⟩) (0 : Fin 5) x h rfl rfl (ix5 a b j r c) a rfl (ix5 (0 : Fin 1) b j r c) (fun z hz => by
    match z with
    | 0 => exact absurd rfl hz
    | 1 => rfl
    | 2 => rfl
    | 3 => rfl
    | 4 => rfl)

/-- What chip `q` has for chip `p`, for both cores. -/
def oneBlock (w : (⟨3, ![32, R, C]⟩ : Shape).Idx → α) (q p : Fin 4)
    (h0 : (⟨3, ![32, R, C]⟩ : Shape).ShapeCasts ⟨5, ![4, 2, 4, R, C]⟩)
    (h1 : ∀ q p : Fin 4, (⟨5, ![4, 2, 4, R, C]⟩ : Shape).Slices ![q.val, 0, p.val, 0, 0] ⟨5, ![1, 2, 1, R, C]⟩)
    (h2 : (⟨5, ![1, 2, 1, R, C]⟩ : Shape).ShapeCasts ⟨3, ![2, R, C]⟩)
    (h3 : (⟨3, ![2, R, C]⟩ : Shape).BroadcastsInDim ⟨4, ![2, 1, R, C]⟩ ![0, 2, 3]) : (⟨4, ![2, 1, R, C]⟩ : Shape).Idx → α :=
  broadcastInDim ⟨4, ![2, 1, R, C]⟩ ![0, 2, 3] h3 (shapeCast ⟨3, ![2, R, C]⟩
    (extractStridedSlice ⟨5, ![1, 2, 1, R, C]⟩ ![q.val, 0, p.val, 0, 0] (shapeCast ⟨5, ![4, 2, 4, R, C]⟩ w h0) (h1 q p)) h2)

/-- The blocks of one chip: from the chips `q 0`, `q 1` and `q 2`. -/
def fromThree (w : (⟨3, ![32, R, C]⟩ : Shape).Idx → α) (q : Fin 3 → Fin 4) (p : Fin 4)
    (h0 : (⟨3, ![32, R, C]⟩ : Shape).ShapeCasts ⟨5, ![4, 2, 4, R, C]⟩)
    (h1 : ∀ q p : Fin 4, (⟨5, ![4, 2, 4, R, C]⟩ : Shape).Slices ![q.val, 0, p.val, 0, 0] ⟨5, ![1, 2, 1, R, C]⟩)
    (h2 : (⟨5, ![1, 2, 1, R, C]⟩ : Shape).ShapeCasts ⟨3, ![2, R, C]⟩)
    (h3 : (⟨3, ![2, R, C]⟩ : Shape).BroadcastsInDim ⟨4, ![2, 1, R, C]⟩ ![0, 2, 3])
    (h4 : Shape.Concatenates [(⟨4, ![2, 1, R, C]⟩ : Shape), ⟨4, ![2, 1, R, C]⟩, ⟨4, ![2, 1, R, C]⟩] ⟨4, ![2, 3, R, C]⟩ 1)
    (h5 : (⟨4, ![2, 3, R, C]⟩ : Shape).BroadcastsInDim ⟨5, ![1, 2, 3, R, C]⟩ ![1, 2, 3, 4]) : (⟨5, ![1, 2, 3, R, C]⟩ : Shape).Idx → α :=
  broadcastInDim ⟨5, ![1, 2, 3, R, C]⟩ ![1, 2, 3, 4] h5 (concatenate ⟨4, ![2, 3, R, C]⟩ 1
    [⟨⟨4, ![2, 1, R, C]⟩, oneBlock w (q 0) p h0 h1 h2 h3⟩, ⟨⟨4, ![2, 1, R, C]⟩, oneBlock w (q 1) p h0 h1 h2 h3⟩,
     ⟨⟨4, ![2, 1, R, C]⟩, oneBlock w (q 2) p h0 h1 h2 h3⟩] h4)

theorem fromThree_apply (w : (⟨3, ![32, R, C]⟩ : Shape).Idx → α) (q : Fin 3 → Fin 4) (p : Fin 4) (h0) (h1) (h2) (h3) (h4) (h5)
    (z : Fin 1) (b : Fin 2) (j : Fin 3) (r : Fin R) (c : Fin C) :
    fromThree w q p h0 h1 h2 h3 h4 h5 (ix5 z b j r c) = w (ix3 (⟨((q j).val * 2 + b.val) * 4 + p.val, by omega⟩ : Fin 32) r c) := by
  have e1 := broadcastInDim_apply (t := ⟨5, ![1, 2, 3, R, C]⟩) ![1, 2, 3, 4] h5 (concatenate ⟨4, ![2, 3, R, C]⟩ 1
    [⟨⟨4, ![2, 1, R, C]⟩, oneBlock w (q 0) p h0 h1 h2 h3⟩, ⟨⟨4, ![2, 1, R, C]⟩, oneBlock w (q 1) p h0 h1 h2 h3⟩,
     ⟨⟨4, ![2, 1, R, C]⟩, oneBlock w (q 2) p h0 h1 h2 h3⟩] h4) (ix5 z b j r c) (ix4 b j r c) (fun x => by
    match x with
    | 0 => exact one_or b.isLt
    | 1 => exact one_or j.isLt
    | 2 => exact one_or r.isLt
    | 3 => exact one_or c.isLt)
  have e2 := stack_three (fun j => oneBlock w (q j) p h0 h1 h2 h3) h4 b j r c
  have e3 := block_apply w (q j) p _ rfl h0 (h1 (q j) p) h2 h3 b (0 : Fin 1) r c
  exact e1.trans (e2.trans e3)

/-- The chips from which chip `p` receives. -/
def sources (p : Fin 4) (j : Fin 3) : Fin 4 := ⟨across j p, across_lt j p⟩

/-- The reference: row `(2 a + b) 3 + j` of the result, for core `b` of chip `a`, is the row that the `j`-th other chip's
    core `b` has for chip `a`. -/
theorem chips_ref_apply (w : (⟨3, ![32, R, C]⟩ : Shape).Idx → α) (h0) (h1) (h2) (h3) (h4) (h5)
    (h6 : Shape.Concatenates [(⟨5, ![1, 2, 3, R, C]⟩ : Shape), ⟨5, ![1, 2, 3, R, C]⟩, ⟨5, ![1, 2, 3, R, C]⟩, ⟨5, ![1, 2, 3, R, C]⟩] ⟨5, ![4, 2, 3, R, C]⟩ 0)
    (h7 : (⟨5, ![4, 2, 3, R, C]⟩ : Shape).ShapeCasts ⟨3, ![24, R, C]⟩)
    (a : Fin 4) (b : Fin 2) (j : Fin 3) (r : Fin R) (c : Fin C) :
    shapeCast ⟨3, ![24, R, C]⟩ (concatenate ⟨5, ![4, 2, 3, R, C]⟩ 0
      [⟨⟨5, ![1, 2, 3, R, C]⟩, fromThree w ![2, 1, 3] 0 h0 h1 h2 h3 h4 h5⟩, ⟨⟨5, ![1, 2, 3, R, C]⟩, fromThree w ![3, 0, 2] 1 h0 h1 h2 h3 h4 h5⟩,
       ⟨⟨5, ![1, 2, 3, R, C]⟩, fromThree w ![0, 3, 1] 2 h0 h1 h2 h3 h4 h5⟩, ⟨⟨5, ![1, 2, 3, R, C]⟩, fromThree w ![1, 2, 0] 3 h0 h1 h2 h3 h4 h5⟩] h6) h7
      (ix3 (⟨(a.val * 2 + b.val) * 3 + j.val, by omega⟩ : Fin 24) r c)
      = w (ix3 (⟨(across j a * 2 + b.val) * 4 + a.val, by have := across_lt j a; omega⟩ : Fin 32) r c) := by
  rw [shapeCast_apply _ _ _ (ix5 a b j r c) (by
    rw [Shape.rowMajor_val_five, Shape.rowMajor_val_three]
    rfl)]
  have hq : (![![2, 1, 3], ![3, 0, 2], ![0, 3, 1], ![1, 2, 0]] : Fin 4 → Fin 3 → Fin 4) = sources := by decide
  refine (stack_four (fun p => fromThree w ((![![2, 1, 3], ![3, 0, 2], ![0, 3, 1], ![1, 2, 0]] : Fin 4 → Fin 3 → Fin 4) p) p h0 h1 h2 h3 h4 h5) h6 a b j r c).trans ?_
  rw [hq, fromThree_apply]
  rfl

end

/-- What arrives at a device from the other chips is the device's block of the reference's result. -/
theorem chips_value {Val : EltTy → Type} [∀ e, Nonempty (Val e)] {e : EltTy} {R C : ℕ} (d : Fin 8)
    (s : ℕ → Fin 8) (hs : ∀ q < 3, (s q).val = across q (d.val / 2) * 2 + d.val % 2)
    (W : (⟨⟨3, ![32, R, C]⟩, e⟩ : BufTy).Contents Val) (V : (⟨⟨3, ![24, R, C]⟩, e⟩ : BufTy).Contents Val)
    (x : ℕ → (⟨⟨3, ![4, R, C]⟩, e⟩ : BufTy).Contents Val) (y : (⟨⟨3, ![3, R, C]⟩, e⟩ : BufTy).Contents Val)
    (t4 : Layout.Tiles ⟨3, ![4, R, C]⟩ ⟨3, ![32, R, C]⟩ 0 8) (t3 : Layout.Tiles ⟨3, ![3, R, C]⟩ ⟨3, ![24, R, C]⟩ 0 8)
    (hx : ∀ q, x q = Layout.block ⟨3, ![4, R, C]⟩ ⟨3, ![32, R, C]⟩ 0 8 (s q) W t4)
    (hV : ∀ (a : Fin 4) (b : Fin 2) (j : Fin 3) (r : Fin R) (c : Fin C), V (ix3 (⟨(a.val * 2 + b.val) * 3 + j.val, by omega⟩ : Fin 24) r c)
      = W (ix3 (⟨(across j a * 2 + b.val) * 4 + a.val, by have := across_lt j a; omega⟩ : Fin 32) r c))
    (hy : ∀ q < 3, ∀ t < R * C, HEq (pick y (q * (R * C) + t)) (pick (x q) (d.val / 2 * (R * C) + t))) :
    y = Layout.block ⟨3, ![3, R, C]⟩ ⟨3, ![24, R, C]⟩ 0 8 d V t3 := by
  refine ext_three fun q r c => ?_
  have hd := d.isLt
  have e1 := eq_of_heq (hy q.val q.isLt _ (place_lt r c))
  rw [pick_three] at e1
  refine e1.trans ((pick_three (x q.val) (⟨d.val / 2, by omega⟩ : Fin 4) r c).trans ?_)
  rw [hx, Layout.block_apply, Layout.block_apply]
  have hv := hV ⟨d.val / 2, by omega⟩ ⟨d.val % 2, by omega⟩ q r c
  have i1 : t3.idx d (ix3 q r c) = ix3 (⟨(d.val / 2 * 2 + d.val % 2) * 3 + q.val, by omega⟩ : Fin 24) r c := by
    funext x
    apply Fin.ext
    match x with
    | 0 => show d.val * 3 + q.val = (d.val / 2 * 2 + d.val % 2) * 3 + q.val; omega
    | 1 => rfl
    | 2 => rfl
  have hl := across_lt q ⟨d.val / 2, by omega⟩
  have i2 : t4.idx (s q.val) (ix3 (⟨d.val / 2, by omega⟩ : Fin 4) r c)
      = ix3 (⟨(across q (d.val / 2) * 2 + d.val % 2) * 4 + d.val / 2, by have : across q (d.val / 2) < 4 := hl; omega⟩ : Fin 32) r c := by
    funext x
    apply Fin.ext
    match x with
    | 0 => show (s q.val).val * 4 + d.val / 2 = (across q (d.val / 2) * 2 + d.val % 2) * 4 + d.val / 2; rw [hs q.val q.isLt]
    | 1 => rfl
    | 2 => rfl
  rw [i1, i2]
  exact hv.symm

end Cert.Exchange

end
-- ==== Proof.ChipsClaim.lean ====
/-
# The reduce-scatter between the chips: the claims

The claims of this call: that it ends without a fault and with every semaphore at zero, and that its results are the
blocks of the reference's results, bit for bit and in the ideal reading.
-/
module

public import proofs.«01_k».proof.Defs
public import proofs.«01_k».proof.Proof.ChipsCall
public import proofs.«01_k».proof.Proof.ChipsValue
public import proofs.«01_k».proof.Proof.Gen.Chips
public import proofs.«01_k».proof.Proof.Gen.ChipsRef
public import proofs.«01_k».proof.Proof.Gen.ChipsRefIdeal
public import proofs.«01_k».proof.Proof.Gen.ChipsRefIdeal.Run

@[expose] public section

set_option maxRecDepth 65536
set_option maxHeartbeats 2000000

noncomputable section

namespace Cert.ChipsClaim

open Idealize.SL.Sem Idealize.ShloMosaic Idealize.ShloMosaic.TcCoe Cert.Exchange Cert.ChipsIdeal.Call

theorem mate_val (d : Dev Cert.ChipsIdeal.nD) (q : ℕ) (hq : q < 3) : (mate q d).val = across q (d.val / 2) * 2 + d.val % 2 := by
  have h : ∀ (q : Fin 3) (d : Dev Cert.ChipsIdeal.nD), (mate q d).val = across q (d.val / 2) * 2 + d.val % 2 := by decide +kernel
  exact h ⟨q, hq⟩ d

/-- The results of the call are the blocks of the reference's results, whatever the reading of the floats: nothing but
    copies is done by either. -/
theorem value {F : FTy → Type} [FloatOps F] :
  ∀ (m : (ℓ : Loc Cert.ChipsIdeal.nD Cert.ChipsIdeal.τ Cert.ChipsIdeal.sig) → Buf (Elt F) ℓ) (g : Dev Cert.ChipsIdeal.nD → PrngReg)
    (m' : (ℓ : Loc Cert.ChipsRefIdeal.nD Cert.ChipsRefIdeal.τ Cert.ChipsRefIdeal.sig) → Buf (Elt F) ℓ) (g' : Dev Cert.ChipsRefIdeal.nD → PrngReg),
    (∀ c : Dev Cert.ChipsIdeal.nD,
      m ((c.tc : Thread Cert.ChipsIdeal.nD Cert.ChipsIdeal.τ).loc Cert.ChipsIdeal.main_arg0) = Layout.block ⟨3, ![4, 240, 128]⟩ ⟨3, ![32, 240, 128]⟩ 0 8 c (m' (((0 : Dev Cert.ChipsRefIdeal.nD).tc : Thread Cert.ChipsRefIdeal.nD Cert.ChipsRefIdeal.τ).loc Cert.ChipsRefIdeal.main_arg0))
      ∧ m ((c.tc : Thread Cert.ChipsIdeal.nD Cert.ChipsIdeal.τ).loc Cert.ChipsIdeal.main_arg1) = Layout.block ⟨3, ![4, 512, 704]⟩ ⟨3, ![32, 512, 704]⟩ 0 8 c (m' (((0 : Dev Cert.ChipsRefIdeal.nD).tc : Thread Cert.ChipsRefIdeal.nD Cert.ChipsRefIdeal.τ).loc Cert.ChipsRefIdeal.main_arg1))
      ∧ m ((c.tc : Thread Cert.ChipsIdeal.nD Cert.ChipsIdeal.τ).loc Cert.ChipsIdeal.main_arg2) = Layout.block ⟨3, ![4, 512, 704]⟩ ⟨3, ![32, 512, 704]⟩ 0 8 c (m' (((0 : Dev Cert.ChipsRefIdeal.nD).tc : Thread Cert.ChipsRefIdeal.nD Cert.ChipsRefIdeal.τ).loc Cert.ChipsRefIdeal.main_arg2))
      ∧ m ((c.tc : Thread Cert.ChipsIdeal.nD Cert.ChipsIdeal.τ).loc Cert.ChipsIdeal.main_arg3) = Layout.block ⟨3, ![4, 352, 1024]⟩ ⟨3, ![32, 352, 1024]⟩ 0 8 c (m' (((0 : Dev Cert.ChipsRefIdeal.nD).tc : Thread Cert.ChipsRefIdeal.nD Cert.ChipsRefIdeal.τ).loc Cert.ChipsRefIdeal.main_arg3))
      ∧ m ((c.tc : Thread Cert.ChipsIdeal.nD Cert.ChipsIdeal.τ).loc Cert.ChipsIdeal.main_arg4) = Layout.block ⟨3, ![4, 128, 1024]⟩ ⟨3, ![32, 128, 1024]⟩ 0 8 c (m' (((0 : Dev Cert.ChipsRefIdeal.nD).tc : Thread Cert.ChipsRefIdeal.nD Cert.ChipsRefIdeal.τ).loc Cert.ChipsRefIdeal.main_arg4))
      ∧ m ((c.tc : Thread Cert.ChipsIdeal.nD Cert.ChipsIdeal.τ).loc Cert.ChipsIdeal.main_arg5) = Layout.block ⟨3, ![4, 128, 1024]⟩ ⟨3, ![32, 128, 1024]⟩ 0 8 c (m' (((0 : Dev Cert.ChipsRefIdeal.nD).tc : Thread Cert.ChipsRefIdeal.nD Cert.ChipsRefIdeal.τ).loc Cert.ChipsRefIdeal.main_arg5))
      ∧ m ((c.tc : Thread Cert.ChipsIdeal.nD Cert.ChipsIdeal.τ).loc Cert.ChipsIdeal.main_arg6) = Layout.block ⟨3, ![4, 512, 704]⟩ ⟨3, ![32, 512, 704]⟩ 0 8 c (m' (((0 : Dev Cert.ChipsRefIdeal.nD).tc : Thread Cert.ChipsRefIdeal.nD Cert.ChipsRefIdeal.τ).loc Cert.ChipsRefIdeal.main_arg6))
      ∧ m ((c.tc : Thread Cert.ChipsIdeal.nD Cert.ChipsIdeal.τ).loc Cert.ChipsIdeal.main_arg7) = Layout.block ⟨3, ![4, 512, 704]⟩ ⟨3, ![32, 512, 704]⟩ 0 8 c (m' (((0 : Dev Cert.ChipsRefIdeal.nD).tc : Thread Cert.ChipsRefIdeal.nD Cert.ChipsRefIdeal.τ).loc Cert.ChipsRefIdeal.main_arg7))
      ∧ m ((c.tc : Thread Cert.ChipsIdeal.nD Cert.ChipsIdeal.τ).loc Cert.ChipsIdeal.main_arg8) = Layout.block ⟨3, ![4, 352, 1024]⟩ ⟨3, ![32, 352, 1024]⟩ 0 8 c (m' (((0 : Dev Cert.ChipsRefIdeal.nD).tc : Thread Cert.ChipsRefIdeal.nD Cert.ChipsRefIdeal.τ).loc Cert.ChipsRefIdeal.main_arg8))) →
    ∃ (v0 : Buf (Elt F) (((0 : Dev Cert.ChipsRefIdeal.nD).tc : Thread Cert.ChipsRefIdeal.nD Cert.ChipsRefIdeal.τ).loc Cert.ChipsRefIdeal.main_v46)) (v1 : Buf (Elt F) (((0 : Dev Cert.ChipsRefIdeal.nD).tc : Thread Cert.ChipsRefIdeal.nD Cert.ChipsRefIdeal.τ).loc Cert.ChipsRefIdeal.main_v93)) (v2 : Buf (Elt F) (((0 : Dev Cert.ChipsRefIdeal.nD).tc : Thread Cert.ChipsRefIdeal.nD Cert.ChipsRefIdeal.τ).loc Cert.ChipsRefIdeal.main_v140)) (v3 : Buf (Elt F) (((0 : Dev Cert.ChipsRefIdeal.nD).tc : Thread Cert.ChipsRefIdeal.nD Cert.ChipsRefIdeal.τ).loc Cert.ChipsRefIdeal.main_v187)) (v4 : Buf (Elt F) (((0 : Dev Cert.ChipsRefIdeal.nD).tc : Thread Cert.ChipsRefIdeal.nD Cert.ChipsRefIdeal.τ).loc Cert.ChipsRefIdeal.main_v234)) (v5 : Buf (Elt F) (((0 : Dev Cert.ChipsRefIdeal.nD).tc : Thread Cert.ChipsRefIdeal.nD Cert.ChipsRefIdeal.τ).loc Cert.ChipsRefIdeal.main_v281)) (v6 : Buf (Elt F) (((0 : Dev Cert.ChipsRefIdeal.nD).tc : Thread Cert.ChipsRefIdeal.nD Cert.ChipsRefIdeal.τ).loc Cert.ChipsRefIdeal.main_v328)) (v7 : Buf (Elt F) (((0 : Dev Cert.ChipsRefIdeal.nD).tc : Thread Cert.ChipsRefIdeal.nD Cert.ChipsRefIdeal.τ).loc Cert.ChipsRefIdeal.main_v375)) (v8 : Buf (Elt F) (((0 : Dev Cert.ChipsRefIdeal.nD).tc : Thread Cert.ChipsRefIdeal.nD Cert.ChipsRefIdeal.τ).loc Cert.ChipsRefIdeal.main_v422)),
      θ_run (Cert.ChipsIdeal.defs (F := F)) (onTc (τ := Cert.ChipsIdeal.τ) (Cert.ChipsIdeal.main (F := F))) ⟨m, fun _ => 0, g⟩ (fun r => ∀ c : Dev Cert.ChipsIdeal.nD,
          r.2.mem ((c.tc : Thread Cert.ChipsIdeal.nD Cert.ChipsIdeal.τ).loc Cert.ChipsIdeal.main_v1_0) = Layout.block ⟨3, ![3, 240, 128]⟩ ⟨3, ![24, 240, 128]⟩ 0 8 c v0
          ∧ r.2.mem ((c.tc : Thread Cert.ChipsIdeal.nD Cert.ChipsIdeal.τ).loc Cert.ChipsIdeal.main_v1_1) = Layout.block ⟨3, ![3, 512, 704]⟩ ⟨3, ![24, 512, 704]⟩ 0 8 c v1
          ∧ r.2.mem ((c.tc : Thread Cert.ChipsIdeal.nD Cert.ChipsIdeal.τ).loc Cert.ChipsIdeal.main_v1_2) = Layout.block ⟨3, ![3, 512, 704]⟩ ⟨3, ![24, 512, 704]⟩ 0 8 c v2
          ∧ r.2.mem ((c.tc : Thread Cert.ChipsIdeal.nD Cert.ChipsIdeal.τ).loc Cert.ChipsIdeal.main_v1_3) = Layout.block ⟨3, ![3, 352, 1024]⟩ ⟨3, ![24, 352, 1024]⟩ 0 8 c v3
          ∧ r.2.mem ((c.tc : Thread Cert.ChipsIdeal.nD Cert.ChipsIdeal.τ).loc Cert.ChipsIdeal.main_v1_4) = Layout.block ⟨3, ![3, 128, 1024]⟩ ⟨3, ![24, 128, 1024]⟩ 0 8 c v4
          ∧ r.2.mem ((c.tc : Thread Cert.ChipsIdeal.nD Cert.ChipsIdeal.τ).loc Cert.ChipsIdeal.main_v1_5) = Layout.block ⟨3, ![3, 128, 1024]⟩ ⟨3, ![24, 128, 1024]⟩ 0 8 c v5
          ∧ r.2.mem ((c.tc : Thread Cert.ChipsIdeal.nD Cert.ChipsIdeal.τ).loc Cert.ChipsIdeal.main_v1_6) = Layout.block ⟨3, ![3, 512, 704]⟩ ⟨3, ![24, 512, 704]⟩ 0 8 c v6
          ∧ r.2.mem ((c.tc : Thread Cert.ChipsIdeal.nD Cert.ChipsIdeal.τ).loc Cert.ChipsIdeal.main_v1_7) = Layout.block ⟨3, ![3, 512, 704]⟩ ⟨3, ![24, 512, 704]⟩ 0 8 c v7
          ∧ r.2.mem ((c.tc : Thread Cert.ChipsIdeal.nD Cert.ChipsIdeal.τ).loc Cert.ChipsIdeal.main_v1_8) = Layout.block ⟨3, ![3, 352, 1024]⟩ ⟨3, ![24, 352, 1024]⟩ 0 8 c v8
          ∧ r.2.mem ((c.tc : Thread Cert.ChipsIdeal.nD Cert.ChipsIdeal.τ).loc Cert.ChipsIdeal.main_arg0) = m ((c.tc : Thread Cert.ChipsIdeal.nD Cert.ChipsIdeal.τ).loc Cert.ChipsIdeal.main_arg0)
          ∧ r.2.mem ((c.tc : Thread Cert.ChipsIdeal.nD Cert.ChipsIdeal.τ).loc Cert.ChipsIdeal.main_arg1) = m ((c.tc : Thread Cert.ChipsIdeal.nD Cert.ChipsIdeal.τ).loc Cert.ChipsIdeal.main_arg1)
          ∧ r.2.mem ((c.tc : Thread Cert.ChipsIdeal.nD Cert.ChipsIdeal.τ).loc Cert.ChipsIdeal.main_arg2) = m ((c.tc : Thread Cert.ChipsIdeal.nD Cert.ChipsIdeal.τ).loc Cert.ChipsIdeal.main_arg2)
          ∧ r.2.mem ((c.tc : Thread Cert.ChipsIdeal.nD Cert.ChipsIdeal.τ).loc Cert.ChipsIdeal.main_arg3) = m ((c.tc : Thread Cert.ChipsIdeal.nD Cert.ChipsIdeal.τ).loc Cert.ChipsIdeal.main_arg3)
          ∧ r.2.mem ((c.tc : Thread Cert.ChipsIdeal.nD Cert.ChipsIdeal.τ).loc Cert.ChipsIdeal.main_arg4) = m ((c.tc : Thread Cert.ChipsIdeal.nD Cert.ChipsIdeal.τ).loc Cert.ChipsIdeal.main_arg4)
          ∧ r.2.mem ((c.tc : Thread Cert.ChipsIdeal.nD Cert.ChipsIdeal.τ).loc Cert.ChipsIdeal.main_arg5) = m ((c.tc : Thread Cert.ChipsIdeal.nD Cert.ChipsIdeal.τ).loc Cert.ChipsIdeal.main_arg5)
          ∧ r.2.mem ((c.tc : Thread Cert.ChipsIdeal.nD Cert.ChipsIdeal.τ).loc Cert.ChipsIdeal.main_arg6) = m ((c.tc : Thread Cert.ChipsIdeal.nD Cert.ChipsIdeal.τ).loc Cert.ChipsIdeal.main_arg6)
          ∧ r.2.mem ((c.tc : Thread Cert.ChipsIdeal.nD Cert.ChipsIdeal.τ).loc Cert.ChipsIdeal.main_arg7) = m ((c.tc : Thread Cert.ChipsIdeal.nD Cert.ChipsIdeal.τ).loc Cert.ChipsIdeal.main_arg7)
          ∧ r.2.mem ((c.tc : Thread Cert.ChipsIdeal.nD Cert.ChipsIdeal.τ).loc Cert.ChipsIdeal.main_arg8) = m ((c.tc : Thread Cert.ChipsIdeal.nD Cert.ChipsIdeal.τ).loc Cert.ChipsIdeal.main_arg8))
      ∧ θ_run (Cert.ChipsRefIdeal.defs (F := F)) (onTc (τ := Cert.ChipsRefIdeal.τ) (Cert.ChipsRefIdeal.main (F := F))) ⟨m', fun _ => 0, g'⟩ (fun r =>
          r.2.mem (((0 : Dev Cert.ChipsRefIdeal.nD).tc : Thread Cert.ChipsRefIdeal.nD Cert.ChipsRefIdeal.τ).loc Cert.ChipsRefIdeal.main_v46) = v0
          ∧ r.2.mem (((0 : Dev Cert.ChipsRefIdeal.nD).tc : Thread Cert.ChipsRefIdeal.nD Cert.ChipsRefIdeal.τ).loc Cert.ChipsRefIdeal.main_v93) = v1
          ∧ r.2.mem (((0 : Dev Cert.ChipsRefIdeal.nD).tc : Thread Cert.ChipsRefIdeal.nD Cert.ChipsRefIdeal.τ).loc Cert.ChipsRefIdeal.main_v140) = v2
          ∧ r.2.mem (((0 : Dev Cert.ChipsRefIdeal.nD).tc : Thread Cert.ChipsRefIdeal.nD Cert.ChipsRefIdeal.τ).loc Cert.ChipsRefIdeal.main_v187) = v3
          ∧ r.2.mem (((0 : Dev Cert.ChipsRefIdeal.nD).tc : Thread Cert.ChipsRefIdeal.nD Cert.ChipsRefIdeal.τ).loc Cert.ChipsRefIdeal.main_v234) = v4
          ∧ r.2.mem (((0 : Dev Cert.ChipsRefIdeal.nD).tc : Thread Cert.ChipsRefIdeal.nD Cert.ChipsRefIdeal.τ).loc Cert.ChipsRefIdeal.main_v281) = v5
          ∧ r.2.mem (((0 : Dev Cert.ChipsRefIdeal.nD).tc : Thread Cert.ChipsRefIdeal.nD Cert.ChipsRefIdeal.τ).loc Cert.ChipsRefIdeal.main_v328) = v6
          ∧ r.2.mem (((0 : Dev Cert.ChipsRefIdeal.nD).tc : Thread Cert.ChipsRefIdeal.nD Cert.ChipsRefIdeal.τ).loc Cert.ChipsRefIdeal.main_v375) = v7
          ∧ r.2.mem (((0 : Dev Cert.ChipsRefIdeal.nD).tc : Thread Cert.ChipsRefIdeal.nD Cert.ChipsRefIdeal.τ).loc Cert.ChipsRefIdeal.main_v422) = v8
          ∧ r.2.mem (((0 : Dev Cert.ChipsRefIdeal.nD).tc : Thread Cert.ChipsRefIdeal.nD Cert.ChipsRefIdeal.τ).loc Cert.ChipsRefIdeal.main_arg0) = m' (((0 : Dev Cert.ChipsRefIdeal.nD).tc : Thread Cert.ChipsRefIdeal.nD Cert.ChipsRefIdeal.τ).loc Cert.ChipsRefIdeal.main_arg0)
          ∧ r.2.mem (((0 : Dev Cert.ChipsRefIdeal.nD).tc : Thread Cert.ChipsRefIdeal.nD Cert.ChipsRefIdeal.τ).loc Cert.ChipsRefIdeal.main_arg1) = m' (((0 : Dev Cert.ChipsRefIdeal.nD).tc : Thread Cert.ChipsRefIdeal.nD Cert.ChipsRefIdeal.τ).loc Cert.ChipsRefIdeal.main_arg1)
          ∧ r.2.mem (((0 : Dev Cert.ChipsRefIdeal.nD).tc : Thread Cert.ChipsRefIdeal.nD Cert.ChipsRefIdeal.τ).loc Cert.ChipsRefIdeal.main_arg2) = m' (((0 : Dev Cert.ChipsRefIdeal.nD).tc : Thread Cert.ChipsRefIdeal.nD Cert.ChipsRefIdeal.τ).loc Cert.ChipsRefIdeal.main_arg2)
          ∧ r.2.mem (((0 : Dev Cert.ChipsRefIdeal.nD).tc : Thread Cert.ChipsRefIdeal.nD Cert.ChipsRefIdeal.τ).loc Cert.ChipsRefIdeal.main_arg3) = m' (((0 : Dev Cert.ChipsRefIdeal.nD).tc : Thread Cert.ChipsRefIdeal.nD Cert.ChipsRefIdeal.τ).loc Cert.ChipsRefIdeal.main_arg3)
          ∧ r.2.mem (((0 : Dev Cert.ChipsRefIdeal.nD).tc : Thread Cert.ChipsRefIdeal.nD Cert.ChipsRefIdeal.τ).loc Cert.ChipsRefIdeal.main_arg4) = m' (((0 : Dev Cert.ChipsRefIdeal.nD).tc : Thread Cert.ChipsRefIdeal.nD Cert.ChipsRefIdeal.τ).loc Cert.ChipsRefIdeal.main_arg4)
          ∧ r.2.mem (((0 : Dev Cert.ChipsRefIdeal.nD).tc : Thread Cert.ChipsRefIdeal.nD Cert.ChipsRefIdeal.τ).loc Cert.ChipsRefIdeal.main_arg5) = m' (((0 : Dev Cert.ChipsRefIdeal.nD).tc : Thread Cert.ChipsRefIdeal.nD Cert.ChipsRefIdeal.τ).loc Cert.ChipsRefIdeal.main_arg5)
          ∧ r.2.mem (((0 : Dev Cert.ChipsRefIdeal.nD).tc : Thread Cert.ChipsRefIdeal.nD Cert.ChipsRefIdeal.τ).loc Cert.ChipsRefIdeal.main_arg6) = m' (((0 : Dev Cert.ChipsRefIdeal.nD).tc : Thread Cert.ChipsRefIdeal.nD Cert.ChipsRefIdeal.τ).loc Cert.ChipsRefIdeal.main_arg6)
          ∧ r.2.mem (((0 : Dev Cert.ChipsRefIdeal.nD).tc : Thread Cert.ChipsRefIdeal.nD Cert.ChipsRefIdeal.τ).loc Cert.ChipsRefIdeal.main_arg7) = m' (((0 : Dev Cert.ChipsRefIdeal.nD).tc : Thread Cert.ChipsRefIdeal.nD Cert.ChipsRefIdeal.τ).loc Cert.ChipsRefIdeal.main_arg7)
          ∧ r.2.mem (((0 : Dev Cert.ChipsRefIdeal.nD).tc : Thread Cert.ChipsRefIdeal.nD Cert.ChipsRefIdeal.τ).loc Cert.ChipsRefIdeal.main_arg8) = m' (((0 : Dev Cert.ChipsRefIdeal.nD).tc : Thread Cert.ChipsRefIdeal.nD Cert.ChipsRefIdeal.τ).loc Cert.ChipsRefIdeal.main_arg8)) := by
  intro m g m' g' H
  refine ⟨_, _, _, _, _, _, _, _, _, (θ_run Cert.ChipsIdeal.defs _ _).mono (fun r h c => ?_) (run_main (F := F) m g),
    (θ_run Cert.ChipsRefIdeal.defs _ _).mono (fun r h => h 0) (Cert.ChipsRefIdeal.Value.run (F := F) m' g')⟩
  exact ⟨chips_value c (fun q => mate q c) (mate_val c) _ _ (fun q => m ((mate q c).tc.loc Cert.ChipsIdeal.main_arg0)) _ _ _ (fun q => (H (mate q c)).1)
      (fun a b j r c => chips_ref_apply _ _ (by decide) _ _ _ _ _ _ a b j r c) (fun q hq t ht => (h.1 c 0).2 q hq t ht),
    chips_value c (fun q => mate q c) (mate_val c) _ _ (fun q => m ((mate q c).tc.loc Cert.ChipsIdeal.main_arg1)) _ _ _ (fun q => (H (mate q c)).2.1)
      (fun a b j r c => chips_ref_apply _ _ (by decide) _ _ _ _ _ _ a b j r c) (fun q hq t ht => (h.1 c 1).2 q hq t ht),
    chips_value c (fun q => mate q c) (mate_val c) _ _ (fun q => m ((mate q c).tc.loc Cert.ChipsIdeal.main_arg2)) _ _ _ (fun q => (H (mate q c)).2.2.1)
      (fun a b j r c => chips_ref_apply _ _ (by decide) _ _ _ _ _ _ a b j r c) (fun q hq t ht => (h.1 c 2).2 q hq t ht),
    chips_value c (fun q => mate q c) (mate_val c) _ _ (fun q => m ((mate q c).tc.loc Cert.ChipsIdeal.main_arg3)) _ _ _ (fun q => (H (mate q c)).2.2.2.1)
      (fun a b j r c => chips_ref_apply _ _ (by decide) _ _ _ _ _ _ a b j r c) (fun q hq t ht => (h.1 c 3).2 q hq t ht),
    chips_value c (fun q => mate q c) (mate_val c) _ _ (fun q => m ((mate q c).tc.loc Cert.ChipsIdeal.main_arg4)) _ _ _ (fun q => (H (mate q c)).2.2.2.2.1)
      (fun a b j r c => chips_ref_apply _ _ (by decide) _ _ _ _ _ _ a b j r c) (fun q hq t ht => (h.1 c 4).2 q hq t ht),
    chips_value c (fun q => mate q c) (mate_val c) _ _ (fun q => m ((mate q c).tc.loc Cert.ChipsIdeal.main_arg5)) _ _ _ (fun q => (H (mate q c)).2.2.2.2.2.1)
      (fun a b j r c => chips_ref_apply _ _ (by decide) _ _ _ _ _ _ a b j r c) (fun q hq t ht => (h.1 c 5).2 q hq t ht),
    chips_value c (fun q => mate q c) (mate_val c) _ _ (fun q => m ((mate q c).tc.loc Cert.ChipsIdeal.main_arg6)) _ _ _ (fun q => (H (mate q c)).2.2.2.2.2.2.1)
      (fun a b j r c => chips_ref_apply _ _ (by decide) _ _ _ _ _ _ a b j r c) (fun q hq t ht => (h.1 c 6).2 q hq t ht),
    chips_value c (fun q => mate q c) (mate_val c) _ _ (fun q => m ((mate q c).tc.loc Cert.ChipsIdeal.main_arg7)) _ _ _ (fun q => (H (mate q c)).2.2.2.2.2.2.2.1)
      (fun a b j r c => chips_ref_apply _ _ (by decide) _ _ _ _ _ _ a b j r c) (fun q hq t ht => (h.1 c 7).2 q hq t ht),
    chips_value c (fun q => mate q c) (mate_val c) _ _ (fun q => m ((mate q c).tc.loc Cert.ChipsIdeal.main_arg8)) _ _ _ (fun q => (H (mate q c)).2.2.2.2.2.2.2.2)
      (fun a b j r c => chips_ref_apply _ _ (by decide) _ _ _ _ _ _ a b j r c) (fun q hq t ht => (h.1 c 8).2 q hq t ht),
    (h.1 c 0).1,
    (h.1 c 1).1,
    (h.1 c 2).1,
    (h.1 c 3).1,
    (h.1 c 4).1,
    (h.1 c 5).1,
    (h.1 c 6).1,
    (h.1 c 7).1,
    (h.1 c 8).1⟩

/-- The call, on the bits, ends without a fault, leaves its arguments alone and every semaphore at zero. -/
theorem quiescent_Chips : Cert.quiescent_Chips := fun m g _ =>
  (θ_run Cert.ChipsIdeal.defs _ _).mono (fun _ h => ⟨fun c => ⟨(h.1 c 0).1, (h.1 c 1).1, (h.1 c 2).1, (h.1 c 3).1, (h.1 c 4).1, (h.1 c 5).1, (h.1 c 6).1, (h.1 c 7).1, (h.1 c 8).1⟩, h.2⟩) (run_main (F := Bits) m g)

/-- The call, in the ideal reading, ends without a fault, leaves its arguments alone and every semaphore at zero. -/
theorem quiescent_ChipsIdeal : Cert.quiescent_ChipsIdeal := fun m g _ =>
  (θ_run Cert.ChipsIdeal.defs _ _).mono (fun _ h => ⟨fun c => ⟨(h.1 c 0).1, (h.1 c 1).1, (h.1 c 2).1, (h.1 c 3).1, (h.1 c 4).1, (h.1 c 5).1, (h.1 c 6).1, (h.1 c 7).1, (h.1 c 8).1⟩, h.2⟩) (run_main (F := Ideal) m g)

/-- The reference, on the bits, ends without a fault and leaves its arguments alone; it has no semaphore. -/
theorem quiescent_ChipsRef : Cert.quiescent_ChipsRef := fun m g _ =>
  (θ_run Cert.ChipsRefIdeal.defs _ _).mono (fun _ h => ⟨fun c => (h c).2.2.2.2.2.2.2.2.2, sem_eq_zero_of_no_sems (by decide) _⟩) (Cert.ChipsRefIdeal.Value.run (F := Bits) m g)

/-- The reference, in the ideal reading, ends without a fault and leaves its arguments alone; it has no semaphore. -/
theorem quiescent_ChipsRefIdeal : Cert.quiescent_ChipsRefIdeal := fun m g _ =>
  (θ_run Cert.ChipsRefIdeal.defs _ _).mono (fun _ h => ⟨fun c => (h c).2.2.2.2.2.2.2.2.2, sem_eq_zero_of_no_sems (by decide) _⟩) (Cert.ChipsRefIdeal.Value.run (F := Ideal) m g)

/-- The ideal reading of the call rewrites nothing. -/
theorem preserves : Cert.preserves_Chips_ChipsIdeal := trivial

/-- The results of the call are the blocks of the reference's results, bit for bit. -/
theorem bitexact : Cert.bitexact_Chips_ChipsRef := fun m g m' g' _ H => value (F := Bits) m g m' g' H

/-- The results of the call are the blocks of the reference's results, in the ideal reading. -/
theorem algebraic : Cert.algebraic_ChipsIdeal_ChipsRefIdeal := fun m g m' g' _ H => value (F := Ideal) m g m' g' H

end Cert.ChipsClaim

end
-- ==== Proof.ShareCall.lean ====
/-
# The sibling share

The copies of the call: each device has the half of nine arrays, copies it into its own place of the result and sends it
into the same place of the result of its sibling, the other core of its chip. Both cores end with both halves.
-/
module

public import proofs.«01_k».proof.Proof.Table
public import proofs.«01_k».proof.Proof.Gen.ShareIdeal
public import proofs.«01_k».proof.Proof.Gen.ShareIdeal.Launch

@[expose] public section

set_option maxRecDepth 65536
set_option maxHeartbeats 4000000

noncomputable section

namespace Cert.ShareIdeal.Call

open Idealize.SL.Sem Cert.ShareIdeal Cert.Exchange Idealize.ShloMosaic Idealize.ShloMosaic.TcCoe
open Idealize.SL Idealize.SL.RA Idealize.SL.BI
open scoped Idealize.SL.BI
open Idealize.SL.BI.BIBase Idealize.SL.BI.Laws Idealize.SL.ProofMode

variable {F : FTy → Type} [FloatOps F]

/-! ## The arrays -/

/-- An array, its result and the size of a block. -/
structure Arr where
  R : ℕ
  C : ℕ
  i : Memref sig .tc .hbm ⟨2, ![R, C]⟩ .f32
  o : Memref sig .tc .hbm ⟨3, ![2, R, C]⟩ .f32
  hi : i.IsWhole
  ho : o.IsWhole
  sq3 : (⟨3, ![1, R, C]⟩ : Shape).Squeezes ⟨2, ![R, C]⟩

/-- The nine arrays. -/
def arr : Fin 9 → Arr
  | 0 => ⟨240, 128, Memref.whole main_arg0, Memref.whole main_v1_0, Memref.isWhole_whole _, Memref.isWhole_whole _, by decide⟩
  | 1 => ⟨512, 704, Memref.whole main_arg1, Memref.whole main_v1_1, Memref.isWhole_whole _, Memref.isWhole_whole _, by decide⟩
  | 2 => ⟨512, 704, Memref.whole main_arg2, Memref.whole main_v1_2, Memref.isWhole_whole _, Memref.isWhole_whole _, by decide⟩
  | 3 => ⟨352, 1024, Memref.whole main_arg3, Memref.whole main_v1_3, Memref.isWhole_whole _, Memref.isWhole_whole _, by decide⟩
  | 4 => ⟨128, 1024, Memref.whole main_arg4, Memref.whole main_v1_4, Memref.isWhole_whole _, Memref.isWhole_whole _, by decide⟩
  | 5 => ⟨128, 1024, Memref.whole main_arg5, Memref.whole main_v1_5, Memref.isWhole_whole _, Memref.isWhole_whole _, by decide⟩
  | 6 => ⟨512, 704, Memref.whole main_arg6, Memref.whole main_v1_6, Memref.isWhole_whole _, Memref.isWhole_whole _, by decide⟩
  | 7 => ⟨512, 704, Memref.whole main_arg7, Memref.whole main_v1_7, Memref.isWhole_whole _, Memref.isWhole_whole _, by decide⟩
  | 8 => ⟨352, 1024, Memref.whole main_arg8, Memref.whole main_v1_8, Memref.isWhole_whole _, Memref.isWhole_whole _, by decide⟩

/-- The other core of a chip. -/
def sib (d : Dev nD) : Dev nD := ⟨d.val + 1 - 2 * (d.val % 2), by have : d.val < 8 := d.isLt; show _ < 8; omega⟩

theorem sib_sib (d : Dev nD) : sib (sib d) = d := by revert d; decide +kernel

/-- Core `q` of the chip of a device. -/
def core (d : Dev nD) (q : ℕ) : Dev nD := ⟨d.val / 2 * 2 + q % 2, by have : d.val < 8 := d.isLt; show _ < 8; omega⟩

/-- Which blocks move where. -/
def pat : Pattern nD (Fin 1) (Fin 1) where
  pm _ := ⟨sib, sib, sib_sib, sib_sib⟩
  fwd _ := false
  ks _ _ := 0
  kd d _ := d.val % 2
  ksL _ _ := 0
  kdL d _ := d.val % 2
  len _ := 1
  Q := 2
  org d q := (core d q, 0)
  kd_lt := by decide +kernel
  org_send := by decide +kernel
  org_pass := by decide +kernel
  org_local := by decide +kernel
  disj := by decide +kernel
  disj_l := by decide +kernel
  disj_ll := by decide +kernel
  cover := by decide +kernel

/-! ## The copies -/

/-- Where the block of an array's result that device `d` writes starts. -/
def off : Fin 9 → Dev nD → Fin 3 → ℕ
  | 0 => k0_off1
  | 1 => k0_off2
  | 2 => k0_off2
  | 3 => k0_off3
  | 4 => k0_off4
  | 5 => k0_off4
  | 6 => k0_off2
  | 7 => k0_off2
  | 8 => k0_off3

theorem off_eq (a : Fin 9) (d : Dev nD) : off a d = ![d.val % 2, 0, 0] := by
  revert a d; decide +kernel

/-- The device that the copy of array `a` writes on. -/
def dev : Fin 9 → Dev nD → ℕ
  | 0 => k0_dev1
  | 1 => k0_dev2
  | 2 => k0_dev3
  | 3 => k0_dev4
  | 4 => k0_dev5
  | 5 => k0_dev6
  | 6 => k0_dev7
  | 7 => k0_dev8
  | 8 => k0_dev9

theorem dev_eq (a : Fin 9) (d : Dev nD) : dev a d = (sib d).val := by revert a d; decide +kernel

theorem dev_lt (a : Fin 9) (d : Dev nD) : dev a d < nD := by rw [dev_eq]; exact (sib d).isLt

theorem off_inb (A : Arr) (a : Fin 9) (d : Dev nD) (x : Fin 3) : off a d x + (![1, A.R, A.C] : Fin 3 → ℕ) x ≤ (![2, A.R, A.C] : Fin 3 → ℕ) x := by
  rw [off_eq]
  match x with
  | 0 => show d.val % 2 + 1 ≤ 2; omega
  | 1 => show 0 + A.R ≤ A.R; omega
  | 2 => show 0 + A.C ≤ A.C; omega

/-- What device `d` writes of the result of array `a`, on itself and on its sibling. -/
abbrev dstOf (A : Arr) (d : Dev nD) (a : Fin 9) : Memref sig .tc .hbm ⟨2, ![A.R, A.C]⟩ .f32 :=
  (A.o.slice (Rect.unit (s := ⟨3, ![2, A.R, A.C]⟩) (off a d) ![1, A.R, A.C] (off_inb A a d)) (fun _ => rfl)).squeeze ⟨2, ![A.R, A.C]⟩ A.sq3

def sendSem (a : Fin 9) : DmaSem sig := ⟨a.val, by show _ < 27; omega⟩
def recvSem (a : Fin 9) : DmaSem sig := ⟨9 + a.val, by show _ < 27; omega⟩
def localSem (a : Fin 9) : DmaSem sig := ⟨18 + a.val, by show _ < 27; omega⟩

def rem (d : Dev nD) (j : Fin 9 × Fin 1) : Remote nD τ sig where
  sp := .hbm
  sp' := .hbm
  s := ⟨2, ![(arr j.1).R, (arr j.1).C]⟩
  e := .f32
  src := (arr j.1).i
  dst := dstOf (arr j.1) d j.1
  tgt := ⟨dev j.1 d, dev_lt j.1 d⟩
  sendSem := sendSem j.1
  recvSem := recvSem j.1
  hsrc := (arr j.1).hi.wordExact
  hdst := (View.wordExact_bits rfl).reshape _ _
  hsc := by cases h : (arr j.1); rfl
  hsem := ⟨⟨rfl, Or.inl rfl⟩, trivial⟩

def loc (d : Dev nD) (l : Fin 9 × Fin 1) : Local nD τ sig where
  sp := .hbm
  sp' := .hbm
  s := ⟨2, ![(arr l.1).R, (arr l.1).C]⟩
  e := .f32
  src := (arr l.1).i
  dst := dstOf (arr l.1) d l.1
  sem := localSem l.1
  hsrc := (arr l.1).hi.wordExact
  hdst := (View.wordExact_bits rfl).reshape _ _
  hsem := ⟨Or.inl rfl, trivial⟩

abbrev Sems := ((Fin 9 × Fin 1) ⊕ (Fin 9 × Fin 1)) ⊕ (Fin 9 × Fin 1)

def await (d : Dev nD) : Sems → Await sig
  | .inl (.inl j) => ⟨sendSem j.1, (arr j.1).i.view.ref, ⟨2, ![(arr j.1).R, (arr j.1).C]⟩, .f32, (arr j.1).i.hasMemref⟩
  | .inl (.inr j) => ⟨recvSem j.1, (dstOf (arr j.1) d j.1).view.ref, ⟨2, ![(arr j.1).R, (arr j.1).C]⟩, .f32, (dstOf (arr j.1) d j.1).hasMemref⟩
  | .inr l => ⟨localSem l.1, (dstOf (arr l.1) d l.1).view.ref, ⟨2, ![(arr l.1).R, (arr l.1).C]⟩, .f32, (dstOf (arr l.1) d l.1).hasMemref⟩

/-- The semaphores by index. -/
def semOf : Sems → SemLoc sig
  | .inl (.inl j) => .dma (sendSem j.1)
  | .inl (.inr j) => .dma (recvSem j.1)
  | .inr l => .dma (localSem l.1)

theorem semOf_bijective : Function.Bijective semOf := by
  rw [Function.Bijective]
  constructor
  · decide +kernel
  · decide +kernel

def net : Net nD τ sig (Fin 9 × Fin 1) (Fin 9 × Fin 1) where
  rem := rem
  loc := loc
  wait := await
  perm j := pat.pm j.2
  cells := Equiv.ofBijective semOf semOf_bijective
  amt j := (dstOf (arr j.1) 0 j.1).view.dmaCredit
  amtL l := (dstOf (arr l.1) 0 l.1).view.dmaCredit
  to_eq c j := Fin.ext (dev_eq j.1 c)
  send_eq _ _ := rfl
  recv_eq _ _ := rfl
  loc_eq _ _ := rfl
  wait_eq c k := by rcases k with (j | j) | l <;> rfl
  amt_eq _ _ := rfl
  amtL_eq _ _ := rfl
  amt_pos j := View.dmaCredit_pos _ (by revert j; decide +kernel)
  amtL_pos l := View.dmaCredit_pos _ (by revert l; decide +kernel)
  wait_amt c k := by rcases k with (j | j) | l <;> rfl

/-- The copies in program order. -/
def js : List (Fin 9 × Fin 1) := [(0, 0), (1, 0), (2, 0), (3, 0), (4, 0), (5, 0), (6, 0), (7, 0), (8, 0)]

def plan : Net.Plan (Fin 9 × Fin 1) (Fin 9 × Fin 1) where
  ll := js
  ls := js
  lp := []
  lr := js
  lw := js.map (fun j => .inl (.inr j)) ++ (js.map (fun j => .inl (.inl j)) ++ js.map .inr)
  rank _ := 0
  all_l := by decide +kernel
  nodup_l := by decide +kernel
  all_s := by decide +kernel
  nodup_s := by decide +kernel
  all_r := by decide +kernel
  nodup_r := by decide +kernel
  perm_w := by decide +kernel
  nodup_w := by decide +kernel
  rank_lt := by decide +kernel

/-- The body of the call is the copies and waits of the plan. -/
theorem body_eq (t) : defs₀ (F := F) .tc 0 t = .op .deviceId fun d => net.body d plan.ll plan.ls plan.lp plan.lw := rfl

theorem dst_flat_at (c : Dev nD) (a : Fin 9) : FlatAt (dstOf (arr a) c a).view (c.val % 2 * ((arr a).R * (arr a).C)) := by
  have h := ((flat_isWhole (arr a).ho).slice _ (rect_three (K := 2) (L := 1) (k := c.val % 2) (off a c) (off_eq a c) (off_inb (arr a) a c))).reshape ⟨2, ![(arr a).R, (arr a).C]⟩ (arr a).sq3.numel_eq
  rw [Nat.zero_add] at h
  exact h

theorem src_flat_at (a : Fin 9) : FlatAt (arr a).i.view (0 * ((arr a).R * (arr a).C)) := by
  have h := flat_isWhole (arr a).hi
  rw [Nat.zero_mul]
  exact h

def table : Table net pat where
  inp a := (arr a).i.view.ref
  out a := (arr a).o.view.ref
  n a := (arr a).R * (arr a).C
  n_pos := by decide +kernel
  out_inj := by decide +kernel
  out_inp := by decide +kernel
  elt_eq := by decide +kernel
  numel := by decide +kernel
  perm_eq _ _ := rfl
  dst_ref _ _ _ := rfl
  dst_flat c a _ := dst_flat_at c a
  src_ref _ _ _ := rfl
  src_flat _ a _ := src_flat_at a
  size c a j := by revert c a j; decide +kernel
  dst_refL _ _ _ := rfl
  dst_flatL c a _ := dst_flat_at c a
  src_refL _ _ _ := rfl
  src_flatL _ a _ := src_flat_at a
  sizeL c a l := by revert c a l; decide +kernel

/-- The call, started on all devices with every semaphore at zero, terminates without a fault; the arguments are as
    before, every result holds the arguments of both cores of the chip, and every semaphore is at zero. -/
theorem run_main (m : (ℓ : Loc nD τ sig) → Buf (Elt F) ℓ) (g : Dev nD → PrngReg) :
    θ_run defs (onTc main) ⟨m, fun _ => 0, g⟩ (fun r => (∀ c : Dev nD, ∀ a,
        r.2.mem ((c.tc : Thread nD τ).loc (table.inp a)) = m ((c.tc : Thread nD τ).loc (table.inp a)) ∧ table.Holds m r.2.mem c a)
      ∧ r.2.sem = fun _ => 0) := by
  refine (θ_run _ _ _).mono (fun r h => ⟨h.1, Idealize.ShloMosaic.sem_eq_zero_of_scoped (by decide) h.2⟩)
    (table.run (Val := Elt F) cfgs Gen.cellOf_inj Gen.N_0 (by decide +kernel) (by decide +kernel) defs₀ m g main (fun _ => rfl) plan ?_ (by decide +kernel) (by decide +kernel))
  intro c t Q
  show (Net.wpc defs₀ c _ _ : sProp (MT nD τ sig Unit (Elt F) ℕ (UX nD τ sig) ℕ)) ⊢ wp frame (wpE defs₀ Variants.none (c.tc : Thread nD τ) none) Set.univ (defs₀ (F := F) .tc 0 _) _
  rw [body_eq, wp_deviceId]

end Cert.ShareIdeal.Call

end
-- ==== Proof.ShareValue.lean ====
/-
# The values of the sibling share

The reference lays the halves of all devices side by side; both cores of a chip end with the chip's two halves.
-/
module

public import proofs.«01_k».proof.Proof.Places

@[expose] public section

noncomputable section

namespace Cert.Exchange

open Idealize.ShloMosaic Idealize.ShloMosaic.ValueIdx

/-- The reference: block `q` of the result is rows `q R` to `q R + R` of the argument. -/
theorem share_ref_apply {α : Type} {R C n : ℕ} (hn : n = 8 * R) (w : (⟨2, ![n, C]⟩ : Shape).Idx → α)
    (h : (⟨2, ![n, C]⟩ : Shape).ShapeCasts ⟨3, ![8, R, C]⟩) (q : Fin 8) (r : Fin R) (c : Fin C) (i : Fin n) (hi : i.val = q.val * R + r.val) :
    shapeCast ⟨3, ![8, R, C]⟩ w h (ix3 q r c) = w (ix2 i c) := by
  rw [shapeCast_apply _ _ _ (ix2 i c) (by
    rw [Shape.rowMajor_val_three, Shape.rowMajor_val_two]
    show i.val * C + c.val = (q.val * R + r.val) * C + c.val
    rw [hi])]

/-- What a device ends with by the share is its chip's part of the reference's result. -/
theorem share_value {Val : EltTy → Type} [∀ e, Nonempty (Val e)] {e : EltTy} {R C n : ℕ} (hn : n = 8 * R) (d : Fin 8)
    (s : ℕ → Fin 8) (hs : ∀ q < 2, (s q).val = d.val / 2 * 2 + q)
    (W : (⟨⟨2, ![n, C]⟩, e⟩ : BufTy).Contents Val)
    (x : ℕ → (⟨⟨2, ![R, C]⟩, e⟩ : BufTy).Contents Val) (y : (⟨⟨3, ![2, R, C]⟩, e⟩ : BufTy).Contents Val)
    (h : (⟨2, ![n, C]⟩ : Shape).ShapeCasts ⟨3, ![8, R, C]⟩)
    (t2 : Layout.Tiles ⟨2, ![R, C]⟩ ⟨2, ![n, C]⟩ 0 8)
    (t3 : Layout.TilesN ⟨3, ![2, R, C]⟩ ⟨3, ![8, R, C]⟩ fun b => Layout.cutSize [2, 2, 2] ((![[0, 1], [], []] : Fin 3 → List ℕ) b))
    (hx : ∀ q, x q = Layout.block ⟨2, ![R, C]⟩ ⟨2, ![n, C]⟩ 0 8 (s q) W t2)
    (hy : ∀ q < 2, ∀ t < R * C, HEq (pick y (q * (R * C) + t)) (pick (x q) (0 * (R * C) + t))) :
    y = Layout.blockN ⟨3, ![2, R, C]⟩ ⟨3, ![8, R, C]⟩ (Layout.meshBlock [2, 2, 2] ![[0, 1], [], []] d) (shapeCast ⟨3, ![8, R, C]⟩ W h) t3 := by
  refine ext_three fun q r c => ?_
  have e1 := eq_of_heq (hy q.val q.isLt _ (place_lt r c))
  rw [pick_three, pick_two, hx] at e1
  refine e1.trans ?_
  have hd := d.isLt
  rw [Layout.block_apply, Layout.blockN_apply]
  have hi : d.val / 2 * 2 + q.val < 8 := by omega
  rw [chip_idx d t3 q r c ⟨d.val / 2 * 2 + q.val, hi⟩ rfl]
  refine Eq.trans ?_ (share_ref_apply hn W h _ r c (⟨(d.val / 2 * 2 + q.val) * R + r.val, ?_⟩ : Fin n) rfl).symm
  · refine congrArg W ?_
    funext z
    apply Fin.ext
    match z with
    | 0 => show (s q.val).val * R + r.val = (d.val / 2 * 2 + q.val) * R + r.val; rw [hs _ q.isLt]
    | 1 => rfl
  · rw [hn]
    have h1 := Nat.mul_le_mul_right R (show d.val / 2 * 2 + q.val + 1 ≤ 8 from hi)
    rw [Nat.add_mul, Nat.one_mul] at h1
    have := r.isLt
    omega

end Cert.Exchange

end
-- ==== Proof.ShareClaim.lean ====
/-
# The sibling share: the claims

The claims of this call: that it ends without a fault and with every semaphore at zero, and that its results are the
blocks of the reference's results, bit for bit and in the ideal reading.
-/
module

public import proofs.«01_k».proof.Defs
public import proofs.«01_k».proof.Proof.ShareCall
public import proofs.«01_k».proof.Proof.ShareValue
public import proofs.«01_k».proof.Proof.Gen.Share
public import proofs.«01_k».proof.Proof.Gen.ShareRef
public import proofs.«01_k».proof.Proof.Gen.ShareRefIdeal
public import proofs.«01_k».proof.Proof.Gen.ShareRefIdeal.Run

@[expose] public section

set_option maxRecDepth 65536
set_option maxHeartbeats 2000000

noncomputable section

namespace Cert.ShareClaim

open Idealize.SL.Sem Idealize.ShloMosaic Idealize.ShloMosaic.TcCoe Cert.Exchange Cert.ShareIdeal.Call

theorem core_val (d : Dev Cert.ShareIdeal.nD) (q : ℕ) (hq : q < 2) : (core d q).val = d.val / 2 * 2 + q := by
  show d.val / 2 * 2 + q % 2 = d.val / 2 * 2 + q
  rw [Nat.mod_eq_of_lt hq]

/-- The results of the call are the blocks of the reference's results, whatever the reading of the floats: nothing but
    copies is done by either. -/
theorem value {F : FTy → Type} [FloatOps F] :
  ∀ (m : (ℓ : Loc Cert.ShareIdeal.nD Cert.ShareIdeal.τ Cert.ShareIdeal.sig) → Buf (Elt F) ℓ) (g : Dev Cert.ShareIdeal.nD → PrngReg)
    (m' : (ℓ : Loc Cert.ShareRefIdeal.nD Cert.ShareRefIdeal.τ Cert.ShareRefIdeal.sig) → Buf (Elt F) ℓ) (g' : Dev Cert.ShareRefIdeal.nD → PrngReg),
    (∀ c : Dev Cert.ShareIdeal.nD,
      m ((c.tc : Thread Cert.ShareIdeal.nD Cert.ShareIdeal.τ).loc Cert.ShareIdeal.main_arg0) = Layout.block ⟨2, ![240, 128]⟩ ⟨2, ![1920, 128]⟩ 0 8 c (m' (((0 : Dev Cert.ShareRefIdeal.nD).tc : Thread Cert.ShareRefIdeal.nD Cert.ShareRefIdeal.τ).loc Cert.ShareRefIdeal.main_arg0))
      ∧ m ((c.tc : Thread Cert.ShareIdeal.nD Cert.ShareIdeal.τ).loc Cert.ShareIdeal.main_arg1) = Layout.block ⟨2, ![512, 704]⟩ ⟨2, ![4096, 704]⟩ 0 8 c (m' (((0 : Dev Cert.ShareRefIdeal.nD).tc : Thread Cert.ShareRefIdeal.nD Cert.ShareRefIdeal.τ).loc Cert.ShareRefIdeal.main_arg1))
      ∧ m ((c.tc : Thread Cert.ShareIdeal.nD Cert.ShareIdeal.τ).loc Cert.ShareIdeal.main_arg2) = Layout.block ⟨2, ![512, 704]⟩ ⟨2, ![4096, 704]⟩ 0 8 c (m' (((0 : Dev Cert.ShareRefIdeal.nD).tc : Thread Cert.ShareRefIdeal.nD Cert.ShareRefIdeal.τ).loc Cert.ShareRefIdeal.main_arg2))
      ∧ m ((c.tc : Thread Cert.ShareIdeal.nD Cert.ShareIdeal.τ).loc Cert.ShareIdeal.main_arg3) = Layout.block ⟨2, ![352, 1024]⟩ ⟨2, ![2816, 1024]⟩ 0 8 c (m' (((0 : Dev Cert.ShareRefIdeal.nD).tc : Thread Cert.ShareRefIdeal.nD Cert.ShareRefIdeal.τ).loc Cert.ShareRefIdeal.main_arg3))
      ∧ m ((c.tc : Thread Cert.ShareIdeal.nD Cert.ShareIdeal.τ).loc Cert.ShareIdeal.main_arg4) = Layout.block ⟨2, ![128, 1024]⟩ ⟨2, ![1024, 1024]⟩ 0 8 c (m' (((0 : Dev Cert.ShareRefIdeal.nD).tc : Thread Cert.ShareRefIdeal.nD Cert.ShareRefIdeal.τ).loc Cert.ShareRefIdeal.main_arg4))
      ∧ m ((c.tc : Thread Cert.ShareIdeal.nD Cert.ShareIdeal.τ).loc Cert.ShareIdeal.main_arg5) = Layout.block ⟨2, ![128, 1024]⟩ ⟨2, ![1024, 1024]⟩ 0 8 c (m' (((0 : Dev Cert.ShareRefIdeal.nD).tc : Thread Cert.ShareRefIdeal.nD Cert.ShareRefIdeal.τ).loc Cert.ShareRefIdeal.main_arg5))
      ∧ m ((c.tc : Thread Cert.ShareIdeal.nD Cert.ShareIdeal.τ).loc Cert.ShareIdeal.main_arg6) = Layout.block ⟨2, ![512, 704]⟩ ⟨2, ![4096, 704]⟩ 0 8 c (m' (((0 : Dev Cert.ShareRefIdeal.nD).tc : Thread Cert.ShareRefIdeal.nD Cert.ShareRefIdeal.τ).loc Cert.ShareRefIdeal.main_arg6))
      ∧ m ((c.tc : Thread Cert.ShareIdeal.nD Cert.ShareIdeal.τ).loc Cert.ShareIdeal.main_arg7) = Layout.block ⟨2, ![512, 704]⟩ ⟨2, ![4096, 704]⟩ 0 8 c (m' (((0 : Dev Cert.ShareRefIdeal.nD).tc : Thread Cert.ShareRefIdeal.nD Cert.ShareRefIdeal.τ).loc Cert.ShareRefIdeal.main_arg7))
      ∧ m ((c.tc : Thread Cert.ShareIdeal.nD Cert.ShareIdeal.τ).loc Cert.ShareIdeal.main_arg8) = Layout.block ⟨2, ![352, 1024]⟩ ⟨2, ![2816, 1024]⟩ 0 8 c (m' (((0 : Dev Cert.ShareRefIdeal.nD).tc : Thread Cert.ShareRefIdeal.nD Cert.ShareRefIdeal.τ).loc Cert.ShareRefIdeal.main_arg8))) →
    ∃ (v0 : Buf (Elt F) (((0 : Dev Cert.ShareRefIdeal.nD).tc : Thread Cert.ShareRefIdeal.nD Cert.ShareRefIdeal.τ).loc Cert.ShareRefIdeal.main_v0)) (v1 : Buf (Elt F) (((0 : Dev Cert.ShareRefIdeal.nD).tc : Thread Cert.ShareRefIdeal.nD Cert.ShareRefIdeal.τ).loc Cert.ShareRefIdeal.main_v1)) (v2 : Buf (Elt F) (((0 : Dev Cert.ShareRefIdeal.nD).tc : Thread Cert.ShareRefIdeal.nD Cert.ShareRefIdeal.τ).loc Cert.ShareRefIdeal.main_v2)) (v3 : Buf (Elt F) (((0 : Dev Cert.ShareRefIdeal.nD).tc : Thread Cert.ShareRefIdeal.nD Cert.ShareRefIdeal.τ).loc Cert.ShareRefIdeal.main_v3)) (v4 : Buf (Elt F) (((0 : Dev Cert.ShareRefIdeal.nD).tc : Thread Cert.ShareRefIdeal.nD Cert.ShareRefIdeal.τ).loc Cert.ShareRefIdeal.main_v4)) (v5 : Buf (Elt F) (((0 : Dev Cert.ShareRefIdeal.nD).tc : Thread Cert.ShareRefIdeal.nD Cert.ShareRefIdeal.τ).loc Cert.ShareRefIdeal.main_v5)) (v6 : Buf (Elt F) (((0 : Dev Cert.ShareRefIdeal.nD).tc : Thread Cert.ShareRefIdeal.nD Cert.ShareRefIdeal.τ).loc Cert.ShareRefIdeal.main_v6)) (v7 : Buf (Elt F) (((0 : Dev Cert.ShareRefIdeal.nD).tc : Thread Cert.ShareRefIdeal.nD Cert.ShareRefIdeal.τ).loc Cert.ShareRefIdeal.main_v7)) (v8 : Buf (Elt F) (((0 : Dev Cert.ShareRefIdeal.nD).tc : Thread Cert.ShareRefIdeal.nD Cert.ShareRefIdeal.τ).loc Cert.ShareRefIdeal.main_v8)),
      θ_run (Cert.ShareIdeal.defs (F := F)) (onTc (τ := Cert.ShareIdeal.τ) (Cert.ShareIdeal.main (F := F))) ⟨m, fun _ => 0, g⟩ (fun r => ∀ c : Dev Cert.ShareIdeal.nD,
          r.2.mem ((c.tc : Thread Cert.ShareIdeal.nD Cert.ShareIdeal.τ).loc Cert.ShareIdeal.main_v1_0) = Layout.blockN ⟨3, ![2, 240, 128]⟩ ⟨3, ![8, 240, 128]⟩ (Layout.meshBlock [2, 2, 2] ![[0, 1], [], []] c) v0
          ∧ r.2.mem ((c.tc : Thread Cert.ShareIdeal.nD Cert.ShareIdeal.τ).loc Cert.ShareIdeal.main_v1_1) = Layout.blockN ⟨3, ![2, 512, 704]⟩ ⟨3, ![8, 512, 704]⟩ (Layout.meshBlock [2, 2, 2] ![[0, 1], [], []] c) v1
          ∧ r.2.mem ((c.tc : Thread Cert.ShareIdeal.nD Cert.ShareIdeal.τ).loc Cert.ShareIdeal.main_v1_2) = Layout.blockN ⟨3, ![2, 512, 704]⟩ ⟨3, ![8, 512, 704]⟩ (Layout.meshBlock [2, 2, 2] ![[0, 1], [], []] c) v2
          ∧ r.2.mem ((c.tc : Thread Cert.ShareIdeal.nD Cert.ShareIdeal.τ).loc Cert.ShareIdeal.main_v1_3) = Layout.blockN ⟨3, ![2, 352, 1024]⟩ ⟨3, ![8, 352, 1024]⟩ (Layout.meshBlock [2, 2, 2] ![[0, 1], [], []] c) v3
          ∧ r.2.mem ((c.tc : Thread Cert.ShareIdeal.nD Cert.ShareIdeal.τ).loc Cert.ShareIdeal.main_v1_4) = Layout.blockN ⟨3, ![2, 128, 1024]⟩ ⟨3, ![8, 128, 1024]⟩ (Layout.meshBlock [2, 2, 2] ![[0, 1], [], []] c) v4
          ∧ r.2.mem ((c.tc : Thread Cert.ShareIdeal.nD Cert.ShareIdeal.τ).loc Cert.ShareIdeal.main_v1_5) = Layout.blockN ⟨3, ![2, 128, 1024]⟩ ⟨3, ![8, 128, 1024]⟩ (Layout.meshBlock [2, 2, 2] ![[0, 1], [], []] c) v5
          ∧ r.2.mem ((c.tc : Thread Cert.ShareIdeal.nD Cert.ShareIdeal.τ).loc Cert.ShareIdeal.main_v1_6) = Layout.blockN ⟨3, ![2, 512, 704]⟩ ⟨3, ![8, 512, 704]⟩ (Layout.meshBlock [2, 2, 2] ![[0, 1], [], []] c) v6
          ∧ r.2.mem ((c.tc : Thread Cert.ShareIdeal.nD Cert.ShareIdeal.τ).loc Cert.ShareIdeal.main_v1_7) = Layout.blockN ⟨3, ![2, 512, 704]⟩ ⟨3, ![8, 512, 704]⟩ (Layout.meshBlock [2, 2, 2] ![[0, 1], [], []] c) v7
          ∧ r.2.mem ((c.tc : Thread Cert.ShareIdeal.nD Cert.ShareIdeal.τ).loc Cert.ShareIdeal.main_v1_8) = Layout.blockN ⟨3, ![2, 352, 1024]⟩ ⟨3, ![8, 352, 1024]⟩ (Layout.meshBlock [2, 2, 2] ![[0, 1], [], []] c) v8
          ∧ r.2.mem ((c.tc : Thread Cert.ShareIdeal.nD Cert.ShareIdeal.τ).loc Cert.ShareIdeal.main_arg0) = m ((c.tc : Thread Cert.ShareIdeal.nD Cert.ShareIdeal.τ).loc Cert.ShareIdeal.main_arg0)
          ∧ r.2.mem ((c.tc : Thread Cert.ShareIdeal.nD Cert.ShareIdeal.τ).loc Cert.ShareIdeal.main_arg1) = m ((c.tc : Thread Cert.ShareIdeal.nD Cert.ShareIdeal.τ).loc Cert.ShareIdeal.main_arg1)
          ∧ r.2.mem ((c.tc : Thread Cert.ShareIdeal.nD Cert.ShareIdeal.τ).loc Cert.ShareIdeal.main_arg2) = m ((c.tc : Thread Cert.ShareIdeal.nD Cert.ShareIdeal.τ).loc Cert.ShareIdeal.main_arg2)
          ∧ r.2.mem ((c.tc : Thread Cert.ShareIdeal.nD Cert.ShareIdeal.τ).loc Cert.ShareIdeal.main_arg3) = m ((c.tc : Thread Cert.ShareIdeal.nD Cert.ShareIdeal.τ).loc Cert.ShareIdeal.main_arg3)
          ∧ r.2.mem ((c.tc : Thread Cert.ShareIdeal.nD Cert.ShareIdeal.τ).loc Cert.ShareIdeal.main_arg4) = m ((c.tc : Thread Cert.ShareIdeal.nD Cert.ShareIdeal.τ).loc Cert.ShareIdeal.main_arg4)
          ∧ r.2.mem ((c.tc : Thread Cert.ShareIdeal.nD Cert.ShareIdeal.τ).loc Cert.ShareIdeal.main_arg5) = m ((c.tc : Thread Cert.ShareIdeal.nD Cert.ShareIdeal.τ).loc Cert.ShareIdeal.main_arg5)
          ∧ r.2.mem ((c.tc : Thread Cert.ShareIdeal.nD Cert.ShareIdeal.τ).loc Cert.ShareIdeal.main_arg6) = m ((c.tc : Thread Cert.ShareIdeal.nD Cert.ShareIdeal.τ).loc Cert.ShareIdeal.main_arg6)
          ∧ r.2.mem ((c.tc : Thread Cert.ShareIdeal.nD Cert.ShareIdeal.τ).loc Cert.ShareIdeal.main_arg7) = m ((c.tc : Thread Cert.ShareIdeal.nD Cert.ShareIdeal.τ).loc Cert.ShareIdeal.main_arg7)
          ∧ r.2.mem ((c.tc : Thread Cert.ShareIdeal.nD Cert.ShareIdeal.τ).loc Cert.ShareIdeal.main_arg8) = m ((c.tc : Thread Cert.ShareIdeal.nD Cert.ShareIdeal.τ).loc Cert.ShareIdeal.main_arg8))
      ∧ θ_run (Cert.ShareRefIdeal.defs (F := F)) (onTc (τ := Cert.ShareRefIdeal.τ) (Cert.ShareRefIdeal.main (F := F))) ⟨m', fun _ => 0, g'⟩ (fun r =>
          r.2.mem (((0 : Dev Cert.ShareRefIdeal.nD).tc : Thread Cert.ShareRefIdeal.nD Cert.ShareRefIdeal.τ).loc Cert.ShareRefIdeal.main_v0) = v0
          ∧ r.2.mem (((0 : Dev Cert.ShareRefIdeal.nD).tc : Thread Cert.ShareRefIdeal.nD Cert.ShareRefIdeal.τ).loc Cert.ShareRefIdeal.main_v1) = v1
          ∧ r.2.mem (((0 : Dev Cert.ShareRefIdeal.nD).tc : Thread Cert.ShareRefIdeal.nD Cert.ShareRefIdeal.τ).loc Cert.ShareRefIdeal.main_v2) = v2
          ∧ r.2.mem (((0 : Dev Cert.ShareRefIdeal.nD).tc : Thread Cert.ShareRefIdeal.nD Cert.ShareRefIdeal.τ).loc Cert.ShareRefIdeal.main_v3) = v3
          ∧ r.2.mem (((0 : Dev Cert.ShareRefIdeal.nD).tc : Thread Cert.ShareRefIdeal.nD Cert.ShareRefIdeal.τ).loc Cert.ShareRefIdeal.main_v4) = v4
          ∧ r.2.mem (((0 : Dev Cert.ShareRefIdeal.nD).tc : Thread Cert.ShareRefIdeal.nD Cert.ShareRefIdeal.τ).loc Cert.ShareRefIdeal.main_v5) = v5
          ∧ r.2.mem (((0 : Dev Cert.ShareRefIdeal.nD).tc : Thread Cert.ShareRefIdeal.nD Cert.ShareRefIdeal.τ).loc Cert.ShareRefIdeal.main_v6) = v6
          ∧ r.2.mem (((0 : Dev Cert.ShareRefIdeal.nD).tc : Thread Cert.ShareRefIdeal.nD Cert.ShareRefIdeal.τ).loc Cert.ShareRefIdeal.main_v7) = v7
          ∧ r.2.mem (((0 : Dev Cert.ShareRefIdeal.nD).tc : Thread Cert.ShareRefIdeal.nD Cert.ShareRefIdeal.τ).loc Cert.ShareRefIdeal.main_v8) = v8
          ∧ r.2.mem (((0 : Dev Cert.ShareRefIdeal.nD).tc : Thread Cert.ShareRefIdeal.nD Cert.ShareRefIdeal.τ).loc Cert.ShareRefIdeal.main_arg0) = m' (((0 : Dev Cert.ShareRefIdeal.nD).tc : Thread Cert.ShareRefIdeal.nD Cert.ShareRefIdeal.τ).loc Cert.ShareRefIdeal.main_arg0)
          ∧ r.2.mem (((0 : Dev Cert.ShareRefIdeal.nD).tc : Thread Cert.ShareRefIdeal.nD Cert.ShareRefIdeal.τ).loc Cert.ShareRefIdeal.main_arg1) = m' (((0 : Dev Cert.ShareRefIdeal.nD).tc : Thread Cert.ShareRefIdeal.nD Cert.ShareRefIdeal.τ).loc Cert.ShareRefIdeal.main_arg1)
          ∧ r.2.mem (((0 : Dev Cert.ShareRefIdeal.nD).tc : Thread Cert.ShareRefIdeal.nD Cert.ShareRefIdeal.τ).loc Cert.ShareRefIdeal.main_arg2) = m' (((0 : Dev Cert.ShareRefIdeal.nD).tc : Thread Cert.ShareRefIdeal.nD Cert.ShareRefIdeal.τ).loc Cert.ShareRefIdeal.main_arg2)
          ∧ r.2.mem (((0 : Dev Cert.ShareRefIdeal.nD).tc : Thread Cert.ShareRefIdeal.nD Cert.ShareRefIdeal.τ).loc Cert.ShareRefIdeal.main_arg3) = m' (((0 : Dev Cert.ShareRefIdeal.nD).tc : Thread Cert.ShareRefIdeal.nD Cert.ShareRefIdeal.τ).loc Cert.ShareRefIdeal.main_arg3)
          ∧ r.2.mem (((0 : Dev Cert.ShareRefIdeal.nD).tc : Thread Cert.ShareRefIdeal.nD Cert.ShareRefIdeal.τ).loc Cert.ShareRefIdeal.main_arg4) = m' (((0 : Dev Cert.ShareRefIdeal.nD).tc : Thread Cert.ShareRefIdeal.nD Cert.ShareRefIdeal.τ).loc Cert.ShareRefIdeal.main_arg4)
          ∧ r.2.mem (((0 : Dev Cert.ShareRefIdeal.nD).tc : Thread Cert.ShareRefIdeal.nD Cert.ShareRefIdeal.τ).loc Cert.ShareRefIdeal.main_arg5) = m' (((0 : Dev Cert.ShareRefIdeal.nD).tc : Thread Cert.ShareRefIdeal.nD Cert.ShareRefIdeal.τ).loc Cert.ShareRefIdeal.main_arg5)
          ∧ r.2.mem (((0 : Dev Cert.ShareRefIdeal.nD).tc : Thread Cert.ShareRefIdeal.nD Cert.ShareRefIdeal.τ).loc Cert.ShareRefIdeal.main_arg6) = m' (((0 : Dev Cert.ShareRefIdeal.nD).tc : Thread Cert.ShareRefIdeal.nD Cert.ShareRefIdeal.τ).loc Cert.ShareRefIdeal.main_arg6)
          ∧ r.2.mem (((0 : Dev Cert.ShareRefIdeal.nD).tc : Thread Cert.ShareRefIdeal.nD Cert.ShareRefIdeal.τ).loc Cert.ShareRefIdeal.main_arg7) = m' (((0 : Dev Cert.ShareRefIdeal.nD).tc : Thread Cert.ShareRefIdeal.nD Cert.ShareRefIdeal.τ).loc Cert.ShareRefIdeal.main_arg7)
          ∧ r.2.mem (((0 : Dev Cert.ShareRefIdeal.nD).tc : Thread Cert.ShareRefIdeal.nD Cert.ShareRefIdeal.τ).loc Cert.ShareRefIdeal.main_arg8) = m' (((0 : Dev Cert.ShareRefIdeal.nD).tc : Thread Cert.ShareRefIdeal.nD Cert.ShareRefIdeal.τ).loc Cert.ShareRefIdeal.main_arg8)) := by
  intro m g m' g' H
  refine ⟨_, _, _, _, _, _, _, _, _, (θ_run Cert.ShareIdeal.defs _ _).mono (fun r h c => ?_) (run_main (F := F) m g),
    (θ_run Cert.ShareRefIdeal.defs _ _).mono (fun r h => h 0) (Cert.ShareRefIdeal.Value.run (F := F) m' g')⟩
  exact ⟨share_value rfl c (fun q => core c q) (core_val c) _ (fun q => m ((core c q).tc.loc Cert.ShareIdeal.main_arg0)) _ _ _ _ (fun q => (H (core c q)).1)
      (fun q hq t ht => (h.1 c 0).2 q hq t ht),
    share_value rfl c (fun q => core c q) (core_val c) _ (fun q => m ((core c q).tc.loc Cert.ShareIdeal.main_arg1)) _ _ _ _ (fun q => (H (core c q)).2.1)
      (fun q hq t ht => (h.1 c 1).2 q hq t ht),
    share_value rfl c (fun q => core c q) (core_val c) _ (fun q => m ((core c q).tc.loc Cert.ShareIdeal.main_arg2)) _ _ _ _ (fun q => (H (core c q)).2.2.1)
      (fun q hq t ht => (h.1 c 2).2 q hq t ht),
    share_value rfl c (fun q => core c q) (core_val c) _ (fun q => m ((core c q).tc.loc Cert.ShareIdeal.main_arg3)) _ _ _ _ (fun q => (H (core c q)).2.2.2.1)
      (fun q hq t ht => (h.1 c 3).2 q hq t ht),
    share_value rfl c (fun q => core c q) (core_val c) _ (fun q => m ((core c q).tc.loc Cert.ShareIdeal.main_arg4)) _ _ _ _ (fun q => (H (core c q)).2.2.2.2.1)
      (fun q hq t ht => (h.1 c 4).2 q hq t ht),
    share_value rfl c (fun q => core c q) (core_val c) _ (fun q => m ((core c q).tc.loc Cert.ShareIdeal.main_arg5)) _ _ _ _ (fun q => (H (core c q)).2.2.2.2.2.1)
      (fun q hq t ht => (h.1 c 5).2 q hq t ht),
    share_value rfl c (fun q => core c q) (core_val c) _ (fun q => m ((core c q).tc.loc Cert.ShareIdeal.main_arg6)) _ _ _ _ (fun q => (H (core c q)).2.2.2.2.2.2.1)
      (fun q hq t ht => (h.1 c 6).2 q hq t ht),
    share_value rfl c (fun q => core c q) (core_val c) _ (fun q => m ((core c q).tc.loc Cert.ShareIdeal.main_arg7)) _ _ _ _ (fun q => (H (core c q)).2.2.2.2.2.2.2.1)
      (fun q hq t ht => (h.1 c 7).2 q hq t ht),
    share_value rfl c (fun q => core c q) (core_val c) _ (fun q => m ((core c q).tc.loc Cert.ShareIdeal.main_arg8)) _ _ _ _ (fun q => (H (core c q)).2.2.2.2.2.2.2.2)
      (fun q hq t ht => (h.1 c 8).2 q hq t ht),
    (h.1 c 0).1,
    (h.1 c 1).1,
    (h.1 c 2).1,
    (h.1 c 3).1,
    (h.1 c 4).1,
    (h.1 c 5).1,
    (h.1 c 6).1,
    (h.1 c 7).1,
    (h.1 c 8).1⟩

/-- The call, on the bits, ends without a fault, leaves its arguments alone and every semaphore at zero. -/
theorem quiescent_Share : Cert.quiescent_Share := fun m g _ =>
  (θ_run Cert.ShareIdeal.defs _ _).mono (fun _ h => ⟨fun c => ⟨(h.1 c 0).1, (h.1 c 1).1, (h.1 c 2).1, (h.1 c 3).1, (h.1 c 4).1, (h.1 c 5).1, (h.1 c 6).1, (h.1 c 7).1, (h.1 c 8).1⟩, h.2⟩) (run_main (F := Bits) m g)

/-- The call, in the ideal reading, ends without a fault, leaves its arguments alone and every semaphore at zero. -/
theorem quiescent_ShareIdeal : Cert.quiescent_ShareIdeal := fun m g _ =>
  (θ_run Cert.ShareIdeal.defs _ _).mono (fun _ h => ⟨fun c => ⟨(h.1 c 0).1, (h.1 c 1).1, (h.1 c 2).1, (h.1 c 3).1, (h.1 c 4).1, (h.1 c 5).1, (h.1 c 6).1, (h.1 c 7).1, (h.1 c 8).1⟩, h.2⟩) (run_main (F := Ideal) m g)

/-- The reference, on the bits, ends without a fault and leaves its arguments alone; it has no semaphore. -/
theorem quiescent_ShareRef : Cert.quiescent_ShareRef := fun m g _ =>
  (θ_run Cert.ShareRefIdeal.defs _ _).mono (fun _ h => ⟨fun c => (h c).2.2.2.2.2.2.2.2.2, sem_eq_zero_of_no_sems (by decide) _⟩) (Cert.ShareRefIdeal.Value.run (F := Bits) m g)

/-- The reference, in the ideal reading, ends without a fault and leaves its arguments alone; it has no semaphore. -/
theorem quiescent_ShareRefIdeal : Cert.quiescent_ShareRefIdeal := fun m g _ =>
  (θ_run Cert.ShareRefIdeal.defs _ _).mono (fun _ h => ⟨fun c => (h c).2.2.2.2.2.2.2.2.2, sem_eq_zero_of_no_sems (by decide) _⟩) (Cert.ShareRefIdeal.Value.run (F := Ideal) m g)

/-- The ideal reading of the call rewrites nothing. -/
theorem preserves : Cert.preserves_Share_ShareIdeal := trivial

/-- The results of the call are the blocks of the reference's results, bit for bit. -/
theorem bitexact : Cert.bitexact_Share_ShareRef := fun m g m' g' _ H => value (F := Bits) m g m' g' H

/-- The results of the call are the blocks of the reference's results, in the ideal reading. -/
theorem algebraic : Cert.algebraic_ShareIdeal_ShareRefIdeal := fun m g m' g' _ H => value (F := Ideal) m g m' g' H

end Cert.ShareClaim

end
-- ==== Proof.GatherCall.lean ====
/-
# The gather of the weights

The copies of the call: each chip has two blocks of each of nine arrays, the same on both of its cores. Each core copies them into
their place of its own result, and sends the one of its own number to the same core of the other three chips. What it
gets from these chips it passes on to its sibling, so that every core ends with the blocks of all chips.
-/
module

public import proofs.«01_k».proof.Proof.Table
public import proofs.«01_k».proof.Proof.Gen.GatherIdeal
public import proofs.«01_k».proof.Proof.Gen.GatherIdeal.Launch

@[expose] public section

set_option maxRecDepth 65536
set_option maxHeartbeats 4000000

noncomputable section

namespace Cert.GatherIdeal.Call

open Idealize.SL.Sem Cert.GatherIdeal Cert.Exchange Idealize.ShloMosaic Idealize.ShloMosaic.TcCoe
open Idealize.SL Idealize.SL.RA Idealize.SL.BI
open scoped Idealize.SL.BI
open Idealize.SL.BI.BIBase Idealize.SL.BI.Laws Idealize.SL.ProofMode

variable {F : FTy → Type} [FloatOps F]

/-! ## The arrays -/

/-- An array, its result and the size of a block. -/
structure Arr where
  e : EltTy
  R : ℕ
  C : ℕ
  i : Memref sig .tc .hbm ⟨3, ![2, R, C]⟩ e
  o : Memref sig .tc .hbm ⟨4, ![4, 2, R, C]⟩ e
  hi : i.IsWhole
  ho : o.IsWhole
  sq3 : (⟨3, ![1, R, C]⟩ : Shape).Squeezes ⟨2, ![R, C]⟩
  sq4 : (⟨4, ![1, 1, R, C]⟩ : Shape).Squeezes ⟨2, ![R, C]⟩
  sqL : (⟨4, ![1, 2, R, C]⟩ : Shape).Squeezes ⟨3, ![2, R, C]⟩

/-- The nine arrays. -/
def arr : Fin 9 → Arr
  | 0 => ⟨.bf16, 512, 704, Memref.whole main_arg0, Memref.whole main_v1_0, Memref.isWhole_whole _, Memref.isWhole_whole _, by decide, by decide, by decide⟩
  | 1 => ⟨.bf16, 512, 704, Memref.whole main_arg1, Memref.whole main_v1_1, Memref.isWhole_whole _, Memref.isWhole_whole _, by decide, by decide, by decide⟩
  | 2 => ⟨.bf16, 352, 1024, Memref.whole main_arg2, Memref.whole main_v1_2, Memref.isWhole_whole _, Memref.isWhole_whole _, by decide, by decide, by decide⟩
  | 3 => ⟨.bf16, 128, 1024, Memref.whole main_arg3, Memref.whole main_v1_3, Memref.isWhole_whole _, Memref.isWhole_whole _, by decide, by decide, by decide⟩
  | 4 => ⟨.bf16, 128, 1024, Memref.whole main_arg4, Memref.whole main_v1_4, Memref.isWhole_whole _, Memref.isWhole_whole _, by decide, by decide, by decide⟩
  | 5 => ⟨.bf16, 512, 704, Memref.whole main_arg5, Memref.whole main_v1_5, Memref.isWhole_whole _, Memref.isWhole_whole _, by decide, by decide, by decide⟩
  | 6 => ⟨.bf16, 512, 704, Memref.whole main_arg6, Memref.whole main_v1_6, Memref.isWhole_whole _, Memref.isWhole_whole _, by decide, by decide, by decide⟩
  | 7 => ⟨.bf16, 352, 1024, Memref.whole main_arg7, Memref.whole main_v1_7, Memref.isWhole_whole _, Memref.isWhole_whole _, by decide, by decide, by decide⟩
  | 8 => ⟨.f32, 8, 256, Memref.whole main_arg8, Memref.whole main_v1_8, Memref.isWhole_whole _, Memref.isWhole_whole _, by decide, by decide, by decide⟩

/-- The other core of a chip. -/
def sib (d : Dev nD) : Dev nD := ⟨d.val + 1 - 2 * (d.val % 2), by have : d.val < 8 := d.isLt; show _ < 8; omega⟩

theorem sib_sib (d : Dev nD) : sib (sib d) = d := by revert d; decide +kernel

/-- The same core of the chip across the first axis of the mesh, across the second, and across both. -/
def mate (j : ℕ) (d : Dev nD) : Dev nD :=
  if j = 0 then ⟨(d.val + 4) % 8, Nat.mod_lt _ (by decide)⟩
  else if j = 1 then ⟨d.val + 2 - 4 * (d.val / 2 % 2), by have : d.val < 8 := d.isLt; show _ < 8; omega⟩
  else ⟨(d.val + 4) % 8 + 2 - 4 * (d.val / 2 % 2), by have : d.val < 8 := d.isLt; show _ < 8; omega⟩

theorem mate_mate (j : Fin 3) (d : Dev nD) : mate j (mate j d) = d := by revert j d; decide +kernel

/-- The device whose argument gives block `q` of the result of device `d`: one of the chip `q / 2`; of the other chips
    the core of number `q % 2`. -/
def giver (d : Dev nD) (q : ℕ) : Dev nD :=
  ⟨(q / 2 * 2 + if q / 2 = d.val / 2 then d.val % 2 else q % 2) % 8, Nat.mod_lt _ (by decide)⟩

/-- Where copy `k` goes: to a mate, or to the sibling. -/
def goal (k : Fin 3 ⊕ Fin 3) (d : Dev nD) : Dev nD :=
  match k with
  | .inl j => mate j d
  | .inr _ => sib d

theorem goal_goal (k : Fin 3 ⊕ Fin 3) (d : Dev nD) : goal k (goal k d) = d := by
  rcases k with j | j
  exacts [mate_mate j d, sib_sib d]

/-- The chip whose block copy `k` moves. -/
def chip (k : Fin 3 ⊕ Fin 3) (d : Dev nD) : ℕ :=
  match k with
  | .inl _ => d.val / 2
  | .inr j => (mate j d).val / 2

/-- Which blocks move where. -/
def pat : Pattern nD (Fin 3 ⊕ Fin 3) (Fin 1) where
  pm k := ⟨goal k, goal k, goal_goal k, goal_goal k⟩
  fwd k := k.isRight
  ks d k := match k with
    | .inl _ => d.val % 2
    | .inr j => chip (.inr j) d * 2 + d.val % 2
  kd d k := chip k d * 2 + d.val % 2
  ksL _ _ := 0
  kdL d _ := d.val / 2 * 2 + 0
  len _ := 2
  Q := 8
  org d q := (giver d q, q % 2)
  kd_lt := by decide +kernel
  org_send := by decide +kernel
  org_pass := by decide +kernel
  org_local := by decide +kernel
  disj := by decide +kernel
  disj_l := by decide +kernel
  disj_ll := by decide +kernel
  cover := by decide +kernel

/-! ## The copies -/

/-- Where the block that copy `k` of array `a` writes starts. -/

def off : Fin 9 → Fin 3 ⊕ Fin 3 → Dev nD → Fin 4 → ℕ
  | 0, .inl _ => k0_off5
  | 0, .inr 0 => k0_off13
  | 0, .inr 1 => k0_off14
  | 0, .inr 2 => k0_off15
  | 1, .inl _ => k0_off5
  | 1, .inr 0 => k0_off13
  | 1, .inr 1 => k0_off14
  | 1, .inr 2 => k0_off15
  | 2, .inl _ => k0_off7
  | 2, .inr 0 => k0_off16
  | 2, .inr 1 => k0_off17
  | 2, .inr 2 => k0_off18
  | 3, .inl _ => k0_off9
  | 3, .inr 0 => k0_off19
  | 3, .inr 1 => k0_off20
  | 3, .inr 2 => k0_off21
  | 4, .inl _ => k0_off9
  | 4, .inr 0 => k0_off19
  | 4, .inr 1 => k0_off20
  | 4, .inr 2 => k0_off21
  | 5, .inl _ => k0_off5
  | 5, .inr 0 => k0_off13
  | 5, .inr 1 => k0_off14
  | 5, .inr 2 => k0_off15
  | 6, .inl _ => k0_off5
  | 6, .inr 0 => k0_off13
  | 6, .inr 1 => k0_off14
  | 6, .inr 2 => k0_off15
  | 7, .inl _ => k0_off7
  | 7, .inr 0 => k0_off16
  | 7, .inr 1 => k0_off17
  | 7, .inr 2 => k0_off18
  | 8, .inl _ => k0_off11
  | 8, .inr 0 => k0_off22
  | 8, .inr 1 => k0_off23
  | 8, .inr 2 => k0_off24

theorem off_eq (a : Fin 9) (k : Fin 3 ⊕ Fin 3) (d : Dev nD) : off a k d = ![chip k d, d.val % 2, 0, 0] := by
  revert a k d; decide +kernel

/-- Where the block of an argument that device `d` sends starts. -/
def offI : Fin 9 → Dev nD → Fin 3 → ℕ
  | 0 => k0_off6
  | 1 => k0_off6
  | 2 => k0_off8
  | 3 => k0_off10
  | 4 => k0_off10
  | 5 => k0_off6
  | 6 => k0_off6
  | 7 => k0_off8
  | 8 => k0_off12

theorem offI_eq (a : Fin 9) (d : Dev nD) : offI a d = ![d.val % 2, 0, 0] := by revert a d; decide +kernel

/-- Where the two blocks that device `d` copies on itself go. -/
def offL : Fin 9 → Dev nD → Fin 4 → ℕ
  | 0 => k0_off1
  | 1 => k0_off1
  | 2 => k0_off2
  | 3 => k0_off3
  | 4 => k0_off3
  | 5 => k0_off1
  | 6 => k0_off1
  | 7 => k0_off2
  | 8 => k0_off4

theorem offL_eq (a : Fin 9) (d : Dev nD) : offL a d = ![d.val / 2, 0, 0, 0] := by revert a d; decide +kernel

/-- The device that copy `k` of array `a` writes on. -/
def dev : Fin 9 → Fin 3 ⊕ Fin 3 → Dev nD → ℕ
  | 0, .inl 0 => k0_dev1
  | 0, .inl 1 => k0_dev2
  | 0, .inl 2 => k0_dev3
  | 0, .inr 0 => k0_dev28
  | 0, .inr 1 => k0_dev29
  | 0, .inr 2 => k0_dev30
  | 1, .inl 0 => k0_dev4
  | 1, .inl 1 => k0_dev5
  | 1, .inl 2 => k0_dev6
  | 1, .inr 0 => k0_dev31
  | 1, .inr 1 => k0_dev32
  | 1, .inr 2 => k0_dev33
  | 2, .inl 0 => k0_dev7
  | 2, .inl 1 => k0_dev8
  | 2, .inl 2 => k0_dev9
  | 2, .inr 0 => k0_dev34
  | 2, .inr 1 => k0_dev35
  | 2, .inr 2 => k0_dev36
  | 3, .inl 0 => k0_dev10
  | 3, .inl 1 => k0_dev11
  | 3, .inl 2 => k0_dev12
  | 3, .inr 0 => k0_dev37
  | 3, .inr 1 => k0_dev38
  | 3, .inr 2 => k0_dev39
  | 4, .inl 0 => k0_dev13
  | 4, .inl 1 => k0_dev14
  | 4, .inl 2 => k0_dev15
  | 4, .inr 0 => k0_dev40
  | 4, .inr 1 => k0_dev41
  | 4, .inr 2 => k0_dev42
  | 5, .inl 0 => k0_dev16
  | 5, .inl 1 => k0_dev17
  | 5, .inl 2 => k0_dev18
  | 5, .inr 0 => k0_dev43
  | 5, .inr 1 => k0_dev44
  | 5, .inr 2 => k0_dev45
  | 6, .inl 0 => k0_dev19
  | 6, .inl 1 => k0_dev20
  | 6, .inl 2 => k0_dev21
  | 6, .inr 0 => k0_dev46
  | 6, .inr 1 => k0_dev47
  | 6, .inr 2 => k0_dev48
  | 7, .inl 0 => k0_dev22
  | 7, .inl 1 => k0_dev23
  | 7, .inl 2 => k0_dev24
  | 7, .inr 0 => k0_dev49
  | 7, .inr 1 => k0_dev50
  | 7, .inr 2 => k0_dev51
  | 8, .inl 0 => k0_dev25
  | 8, .inl 1 => k0_dev26
  | 8, .inl 2 => k0_dev27
  | 8, .inr 0 => k0_dev52
  | 8, .inr 1 => k0_dev53
  | 8, .inr 2 => k0_dev54

theorem dev_eq (a : Fin 9) (k : Fin 3 ⊕ Fin 3) (d : Dev nD) : dev a k d = (goal k d).val := by revert a k d; decide +kernel

theorem dev_lt (a : Fin 9) (k : Fin 3 ⊕ Fin 3) (d : Dev nD) : dev a k d < nD := by rw [dev_eq]; exact (goal k d).isLt

theorem chip_lt (k : Fin 3 ⊕ Fin 3) (d : Dev nD) : chip k d < 4 := by revert k d; decide +kernel

theorem off_inb (A : Arr) (a : Fin 9) (k : Fin 3 ⊕ Fin 3) (d : Dev nD) (x : Fin 4) :
    off a k d x + (![1, 1, A.R, A.C] : Fin 4 → ℕ) x ≤ (![4, 2, A.R, A.C] : Fin 4 → ℕ) x := by
  rw [off_eq]; have := chip_lt k d
  match x with
  | 0 => show chip k d + 1 ≤ 4; omega
  | 1 => show d.val % 2 + 1 ≤ 2; omega
  | 2 => show 0 + A.R ≤ A.R; omega
  | 3 => show 0 + A.C ≤ A.C; omega

theorem offI_inb (A : Arr) (a : Fin 9) (d : Dev nD) (x : Fin 3) : offI a d x + (![1, A.R, A.C] : Fin 3 → ℕ) x ≤ (![2, A.R, A.C] : Fin 3 → ℕ) x := by
  rw [offI_eq]
  match x with
  | 0 => show d.val % 2 + 1 ≤ 2; omega
  | 1 => show 0 + A.R ≤ A.R; omega
  | 2 => show 0 + A.C ≤ A.C; omega

theorem offL_inb (A : Arr) (a : Fin 9) (d : Dev nD) (x : Fin 4) :
    offL a d x + (![1, 2, A.R, A.C] : Fin 4 → ℕ) x ≤ (![4, 2, A.R, A.C] : Fin 4 → ℕ) x := by
  rw [offL_eq]; have : d.val < 8 := d.isLt
  match x with
  | 0 => show d.val / 2 + 1 ≤ 4; omega
  | 1 => show 0 + 2 ≤ 2; omega
  | 2 => show 0 + A.R ≤ A.R; omega
  | 3 => show 0 + A.C ≤ A.C; omega

/-- What copy `k` of array `a` writes, what a first copy reads, and what the copy of a device on itself writes. -/
abbrev dstOf (A : Arr) (d : Dev nD) (a : Fin 9) (k : Fin 3 ⊕ Fin 3) : Memref sig .tc .hbm ⟨2, ![A.R, A.C]⟩ A.e :=
  (A.o.slice (Rect.unit (s := ⟨4, ![4, 2, A.R, A.C]⟩) (off a k d) ![1, 1, A.R, A.C] (off_inb A a k d)) (fun _ => rfl)).squeeze ⟨2, ![A.R, A.C]⟩ A.sq4
abbrev inpOf (A : Arr) (d : Dev nD) (a : Fin 9) : Memref sig .tc .hbm ⟨2, ![A.R, A.C]⟩ A.e :=
  (A.i.slice (Rect.unit (s := ⟨3, ![2, A.R, A.C]⟩) (offI a d) ![1, A.R, A.C] (offI_inb A a d)) (fun _ => rfl)).squeeze ⟨2, ![A.R, A.C]⟩ A.sq3
abbrev ownOf (A : Arr) (d : Dev nD) (a : Fin 9) : Memref sig .tc .hbm ⟨3, ![2, A.R, A.C]⟩ A.e :=
  (A.o.slice (Rect.unit (s := ⟨4, ![4, 2, A.R, A.C]⟩) (offL a d) ![1, 2, A.R, A.C] (offL_inb A a d)) (fun _ => rfl)).squeeze ⟨3, ![2, A.R, A.C]⟩ A.sqL

/-- What copy `k` of array `a` reads: a first copy the argument, a copy that passes on what arrived the result. -/
def srcOf (A : Arr) (d : Dev nD) (a : Fin 9) : Fin 3 ⊕ Fin 3 → Memref sig .tc .hbm ⟨2, ![A.R, A.C]⟩ A.e
  | .inl _ => inpOf A d a
  | .inr j => dstOf A d a (.inr j)

/-! All of these take whole rows. -/

theorem dst_exact (A : Arr) (d : Dev nD) (a : Fin 9) (k : Fin 3 ⊕ Fin 3) : (dstOf A d a k).view.WordExact :=
  (A.ho.wordExact_slice rfl _ (.inr ⟨by show 2 ≤ 4; omega, rfl, congrFun (off_eq a k d) 2, rfl⟩)).reshape _ _

theorem inp_exact (A : Arr) (d : Dev nD) (a : Fin 9) : (inpOf A d a).view.WordExact :=
  (A.hi.wordExact_slice rfl _ (.inr ⟨by show 2 ≤ 3; omega, rfl, congrFun (offI_eq a d) 1, rfl⟩)).reshape _ _

theorem own_exact (A : Arr) (d : Dev nD) (a : Fin 9) : (ownOf A d a).view.WordExact :=
  (A.ho.wordExact_slice rfl _ (.inr ⟨by show 2 ≤ 4; omega, rfl, congrFun (offL_eq a d) 2, rfl⟩)).reshape _ _

theorem src_exact (A : Arr) (d : Dev nD) (a : Fin 9) (k : Fin 3 ⊕ Fin 3) : (srcOf A d a k).view.WordExact := by
  rcases k with j | j
  exacts [inp_exact A d a, dst_exact A d a _]

/-- The number of a copy of an array. -/
def num : Fin 3 ⊕ Fin 3 → ℕ
  | .inl j => j.val
  | .inr j => 3 + j.val

theorem num_lt (k : Fin 3 ⊕ Fin 3) : num k < 6 := by revert k; decide

def sendSem (j : Fin 9 × (Fin 3 ⊕ Fin 3)) : DmaSem sig := ⟨6 * j.1.val + num j.2, by have := num_lt j.2; show _ < 117; omega⟩
def recvSem (j : Fin 9 × (Fin 3 ⊕ Fin 3)) : DmaSem sig := ⟨54 + (6 * j.1.val + num j.2), by have := num_lt j.2; show _ < 117; omega⟩
def localSem (a : Fin 9) : DmaSem sig := ⟨108 + a.val, by show _ < 117; omega⟩

def rem (d : Dev nD) (j : Fin 9 × (Fin 3 ⊕ Fin 3)) : Remote nD τ sig where
  sp := .hbm
  sp' := .hbm
  s := ⟨2, ![(arr j.1).R, (arr j.1).C]⟩
  e := (arr j.1).e
  src := srcOf (arr j.1) d j.1 j.2
  dst := dstOf (arr j.1) d j.1 j.2
  tgt := ⟨dev j.1 j.2 d, dev_lt j.1 j.2 d⟩
  sendSem := sendSem j
  recvSem := recvSem j
  hsrc := src_exact _ _ _ _
  hdst := dst_exact _ _ _ _
  hsc := by cases h : (arr j.1); rfl
  hsem := ⟨⟨rfl, Or.inl rfl⟩, trivial⟩

def loc (d : Dev nD) (l : Fin 9 × Fin 1) : Local nD τ sig where
  sp := .hbm
  sp' := .hbm
  s := ⟨3, ![2, (arr l.1).R, (arr l.1).C]⟩
  e := (arr l.1).e
  src := (arr l.1).i
  dst := ownOf (arr l.1) d l.1
  sem := localSem l.1
  hsrc := (arr l.1).hi.wordExact
  hdst := own_exact _ _ _
  hsem := ⟨Or.inl rfl, trivial⟩

abbrev Sems := ((Fin 9 × (Fin 3 ⊕ Fin 3)) ⊕ (Fin 9 × (Fin 3 ⊕ Fin 3))) ⊕ (Fin 9 × Fin 1)

def await (d : Dev nD) : Sems → Await sig
  | .inl (.inl j) => ⟨sendSem j, (srcOf (arr j.1) d j.1 j.2).view.ref, ⟨2, ![(arr j.1).R, (arr j.1).C]⟩, (arr j.1).e, (srcOf (arr j.1) d j.1 j.2).hasMemref⟩
  | .inl (.inr j) => ⟨recvSem j, (dstOf (arr j.1) d j.1 j.2).view.ref, ⟨2, ![(arr j.1).R, (arr j.1).C]⟩, (arr j.1).e, (dstOf (arr j.1) d j.1 j.2).hasMemref⟩
  | .inr l => ⟨localSem l.1, (ownOf (arr l.1) d l.1).view.ref, ⟨3, ![2, (arr l.1).R, (arr l.1).C]⟩, (arr l.1).e, (ownOf (arr l.1) d l.1).hasMemref⟩

/-- The semaphores by index. -/
def semOf : Sems → SemLoc sig
  | .inl (.inl j) => .dma (sendSem j)
  | .inl (.inr j) => .dma (recvSem j)
  | .inr l => .dma (localSem l.1)

theorem semOf_bijective : Function.Bijective semOf := by
  rw [Function.Bijective]
  constructor
  · decide +kernel
  · decide +kernel

def net : Net nD τ sig (Fin 9 × (Fin 3 ⊕ Fin 3)) (Fin 9 × Fin 1) where
  rem := rem
  loc := loc
  wait := await
  perm j := pat.pm j.2
  cells := Equiv.ofBijective semOf semOf_bijective
  amt j := (dstOf (arr j.1) 0 j.1 j.2).view.dmaCredit
  amtL l := (ownOf (arr l.1) 0 l.1).view.dmaCredit
  to_eq c j := Fin.ext (dev_eq j.1 j.2 c)
  send_eq _ _ := rfl
  recv_eq _ _ := rfl
  loc_eq _ _ := rfl
  wait_eq c k := by rcases k with (j | j) | l <;> rfl
  amt_eq _ _ := rfl
  amtL_eq _ _ := rfl
  amt_pos j := View.dmaCredit_pos _ (by revert j; decide +kernel)
  amtL_pos l := View.dmaCredit_pos _ (by revert l; decide +kernel)
  wait_amt c k := by rcases k with (j | j) | l <;> rfl

/-- The first copies and the copies that pass on, in program order. -/
def firsts : List (Fin 9 × (Fin 3 ⊕ Fin 3)) := [(0, .inl 0), (0, .inl 1), (0, .inl 2), (1, .inl 0), (1, .inl 1), (1, .inl 2), (2, .inl 0), (2, .inl 1), (2, .inl 2), (3, .inl 0), (3, .inl 1), (3, .inl 2), (4, .inl 0), (4, .inl 1), (4, .inl 2), (5, .inl 0), (5, .inl 1), (5, .inl 2), (6, .inl 0), (6, .inl 1), (6, .inl 2), (7, .inl 0), (7, .inl 1), (7, .inl 2), (8, .inl 0), (8, .inl 1), (8, .inl 2)]
def seconds : List (Fin 9 × (Fin 3 ⊕ Fin 3)) := [(0, .inr 0), (0, .inr 1), (0, .inr 2), (1, .inr 0), (1, .inr 1), (1, .inr 2), (2, .inr 0), (2, .inr 1), (2, .inr 2), (3, .inr 0), (3, .inr 1), (3, .inr 2), (4, .inr 0), (4, .inr 1), (4, .inr 2), (5, .inr 0), (5, .inr 1), (5, .inr 2), (6, .inr 0), (6, .inr 1), (6, .inr 2), (7, .inr 0), (7, .inr 1), (7, .inr 2), (8, .inr 0), (8, .inr 1), (8, .inr 2)]
def owns : List (Fin 9 × Fin 1) := [(0, 0), (1, 0), (2, 0), (3, 0), (4, 0), (5, 0), (6, 0), (7, 0), (8, 0)]

def plan : Net.Plan (Fin 9 × (Fin 3 ⊕ Fin 3)) (Fin 9 × Fin 1) where
  ll := owns
  ls := firsts
  lp := [((0, .inl 0), (0, .inr 0)), ((0, .inl 1), (0, .inr 1)), ((0, .inl 2), (0, .inr 2)), ((1, .inl 0), (1, .inr 0)), ((1, .inl 1), (1, .inr 1)), ((1, .inl 2), (1, .inr 2)), ((2, .inl 0), (2, .inr 0)), ((2, .inl 1), (2, .inr 1)), ((2, .inl 2), (2, .inr 2)), ((3, .inl 0), (3, .inr 0)), ((3, .inl 1), (3, .inr 1)), ((3, .inl 2), (3, .inr 2)), ((4, .inl 0), (4, .inr 0)), ((4, .inl 1), (4, .inr 1)), ((4, .inl 2), (4, .inr 2)), ((5, .inl 0), (5, .inr 0)), ((5, .inl 1), (5, .inr 1)), ((5, .inl 2), (5, .inr 2)), ((6, .inl 0), (6, .inr 0)), ((6, .inl 1), (6, .inr 1)), ((6, .inl 2), (6, .inr 2)), ((7, .inl 0), (7, .inr 0)), ((7, .inl 1), (7, .inr 1)), ((7, .inl 2), (7, .inr 2)), ((8, .inl 0), (8, .inr 0)), ((8, .inl 1), (8, .inr 1)), ((8, .inl 2), (8, .inr 2))]
  lr := seconds
  lw := seconds.map (fun j => .inl (.inr j)) ++ (firsts.map (fun j => .inl (.inl j)) ++ (seconds.map (fun j => .inl (.inl j)) ++ owns.map .inr))
  rank j := if j.2.isRight = true then 1 else 0
  all_l := by decide +kernel
  nodup_l := by decide +kernel
  all_s := by decide +kernel
  nodup_s := by decide +kernel
  all_r := by decide +kernel
  nodup_r := by decide +kernel
  perm_w := by decide +kernel
  nodup_w := by decide +kernel
  rank_lt := by decide +kernel

/-- The same at every reading of the floats at once. -/
theorem body_all : (fun (F : FTy → Type) (_ : FloatOps F) t => defs₀ (F := F) .tc 0 t) = fun F _ t => .op .deviceId fun d => net.body d plan.ll plan.ls plan.lp plan.lw := by
  eq_refl

/-- The body of the call is the copies and waits of the plan. -/
theorem body_eq (t) : defs₀ (F := F) .tc 0 t = .op .deviceId fun d => net.body d plan.ll plan.ls plan.lp plan.lw :=
  congrFun (congrFun (congrFun body_all F) inferInstance) t

theorem dst_flat_at (c : Dev nD) (a : Fin 9) (k : Fin 3 ⊕ Fin 3) : FlatAt (dstOf (arr a) c a k).view ((chip k c * 2 + c.val % 2) * ((arr a).R * (arr a).C)) := by
  have h := ((flat_isWhole (arr a).ho).slice _ (rect_four (K := 4) (H := 2) (L := 1) (k := chip k c) (h := c.val % 2) (off a k c) (off_eq a k c) (off_inb (arr a) a k c))).reshape ⟨2, ![(arr a).R, (arr a).C]⟩ (arr a).sq4.numel_eq
  rw [Nat.zero_add] at h
  exact h

theorem inp_flat_at (c : Dev nD) (a : Fin 9) : FlatAt (inpOf (arr a) c a).view (c.val % 2 * ((arr a).R * (arr a).C)) := by
  have h := ((flat_isWhole (arr a).hi).slice _ (rect_three (K := 2) (L := 1) (k := c.val % 2) (offI a c) (offI_eq a c) (offI_inb (arr a) a c))).reshape ⟨2, ![(arr a).R, (arr a).C]⟩ (arr a).sq3.numel_eq
  rw [Nat.zero_add] at h
  exact h

theorem own_flat_at (c : Dev nD) (a : Fin 9) : FlatAt (ownOf (arr a) c a).view ((c.val / 2 * 2 + 0) * ((arr a).R * (arr a).C)) := by
  have h := ((flat_isWhole (arr a).ho).slice _ (rect_four (K := 4) (H := 2) (L := 2) (k := c.val / 2) (h := 0) (offL a c) (offL_eq a c) (offL_inb (arr a) a c))).reshape ⟨3, ![2, (arr a).R, (arr a).C]⟩ (arr a).sqL.numel_eq
  rw [Nat.zero_add] at h
  exact h

theorem whole_flat_at (a : Fin 9) : FlatAt (arr a).i.view (0 * ((arr a).R * (arr a).C)) := by
  have h := flat_isWhole (arr a).hi
  rw [Nat.zero_mul]
  exact h

def table : Table net pat where
  inp a := (arr a).i.view.ref
  out a := (arr a).o.view.ref
  n a := (arr a).R * (arr a).C
  n_pos := by decide +kernel
  out_inj := by decide +kernel
  out_inp := by decide +kernel
  elt_eq := by decide +kernel
  numel := by decide +kernel
  perm_eq _ _ := rfl
  dst_ref _ _ _ := rfl
  dst_flat c a k := dst_flat_at c a k
  src_ref c a k := by rcases k with j | j <;> rfl
  src_flat c a k := by
    rcases k with j | j
    exacts [inp_flat_at c a, dst_flat_at c a _]
  size c a k := by revert c a k; decide +kernel
  dst_refL _ _ _ := rfl
  dst_flatL c a _ := own_flat_at c a
  src_refL _ _ _ := rfl
  src_flatL _ a _ := whole_flat_at a
  sizeL c a l := by revert c a l; decide +kernel

/-- The call, started on all devices with every semaphore at zero, terminates without a fault; the arguments are as
    before, every result holds the blocks of all chips, and every semaphore is at zero. -/
theorem run_main (m : (ℓ : Loc nD τ sig) → Buf (Elt F) ℓ) (g : Dev nD → PrngReg) :
    θ_run defs (onTc main) ⟨m, fun _ => 0, g⟩ (fun r => (∀ c : Dev nD, ∀ a,
        r.2.mem ((c.tc : Thread nD τ).loc (table.inp a)) = m ((c.tc : Thread nD τ).loc (table.inp a)) ∧ table.Holds m r.2.mem c a)
      ∧ r.2.sem = fun _ => 0) := by
  refine (θ_run _ _ _).mono (fun r h => ⟨h.1, Idealize.ShloMosaic.sem_eq_zero_of_scoped (by decide) h.2⟩)
    (table.run (Val := Elt F) cfgs Gen.cellOf_inj Gen.N_0 (by decide +kernel) (by decide +kernel) defs₀ m g main (fun _ => rfl) plan ?_ (by decide +kernel) (by decide +kernel))
  intro c t Q
  show (Net.wpc defs₀ c _ _ : sProp (MT nD τ sig Unit (Elt F) ℕ (UX nD τ sig) ℕ)) ⊢ wp frame (wpE defs₀ Variants.none (c.tc : Thread nD τ) none) Set.univ (defs₀ (F := F) .tc 0 _) _
  rw [body_eq, wp_deviceId]

end Cert.GatherIdeal.Call

end
-- ==== Proof.GatherValue.lean ====
/-
# The values of the gathers

The reference is the whole array, its eight blocks by chip and core; every device ends with all of it.
-/
module

public import proofs.«01_k».proof.Proof.Places

@[expose] public section

noncomputable section

namespace Cert.Exchange

open Idealize.ShloMosaic Idealize.ShloMosaic.ValueIdx

/-- The reference: block `(a, b)` of the result is block `2 a + b` of the argument. -/
theorem gather_ref_apply {α : Type} {R C : ℕ} (w : (⟨3, ![8, R, C]⟩ : Shape).Idx → α)
    (h : (⟨3, ![8, R, C]⟩ : Shape).ShapeCasts ⟨4, ![4, 2, R, C]⟩) (a : Fin 4) (b : Fin 2) (r : Fin R) (c : Fin C) (i : Fin 8) (hi : i.val = a.val * 2 + b.val) :
    shapeCast ⟨4, ![4, 2, R, C]⟩ w h (ix4 a b r c) = w (ix3 i r c) := by
  rw [shapeCast_apply _ _ _ (ix3 i r c) (by
    rw [Shape.rowMajor_val_four, Shape.rowMajor_val_three]
    show (i.val * R + r.val) * C + c.val = ((a.val * 2 + b.val) * R + r.val) * C + c.val
    rw [hi])]

/-- What a device ends with by a gather is the reference's result. -/
theorem gather_value {Val : EltTy → Type} [∀ e, Nonempty (Val e)] {e : EltTy} {R C : ℕ} (s : ℕ → Fin 8) (hs : ∀ q < 8, (s q).val / 2 = q / 2)
    (W : (⟨⟨3, ![8, R, C]⟩, e⟩ : BufTy).Contents Val)
    (x : ℕ → (⟨⟨3, ![2, R, C]⟩, e⟩ : BufTy).Contents Val) (y : (⟨⟨4, ![4, 2, R, C]⟩, e⟩ : BufTy).Contents Val)
    (h : (⟨3, ![8, R, C]⟩ : Shape).ShapeCasts ⟨4, ![4, 2, R, C]⟩)
    (t3 : Layout.TilesN ⟨3, ![2, R, C]⟩ ⟨3, ![8, R, C]⟩ fun b => Layout.cutSize [2, 2, 2] ((![[0, 1], [], []] : Fin 3 → List ℕ) b))
    (hx : ∀ q, x q = Layout.blockN ⟨3, ![2, R, C]⟩ ⟨3, ![8, R, C]⟩ (Layout.meshBlock [2, 2, 2] ![[0, 1], [], []] (s q)) W t3)
    (hy : ∀ q < 8, ∀ t < R * C, HEq (pick y (q * (R * C) + t)) (pick (x q) (q % 2 * (R * C) + t))) :
    y = shapeCast ⟨4, ![4, 2, R, C]⟩ W h := by
  refine ext_four fun a b r c => ?_
  have ha := a.isLt
  have hb := b.isLt
  have hq : a.val * 2 + b.val < 8 := by omega
  have e1 := eq_of_heq (hy (a.val * 2 + b.val) hq _ (place_lt r c))
  rw [show (a.val * 2 + b.val) % 2 = b.val by omega, pick_four, pick_three, hx, Layout.blockN_apply,
    chip_idx (s (a.val * 2 + b.val)) t3 b r c ⟨a.val * 2 + b.val, hq⟩ (by rw [hs _ hq]; show a.val * 2 + b.val = (a.val * 2 + b.val) / 2 * 2 + b.val; omega)] at e1
  exact e1.trans (gather_ref_apply W h a b r c _ rfl).symm

end Cert.Exchange

end
-- ==== Proof.GatherClaim.lean ====
/-
# The gather of the weights: the claims

The claims of this call: that it ends without a fault and with every semaphore at zero, and that its results are the
blocks of the reference's results, bit for bit and in the ideal reading.
-/
module

public import proofs.«01_k».proof.Defs
public import proofs.«01_k».proof.Proof.GatherCall
public import proofs.«01_k».proof.Proof.GatherValue
public import proofs.«01_k».proof.Proof.Gen.Gather
public import proofs.«01_k».proof.Proof.Gen.GatherRef
public import proofs.«01_k».proof.Proof.Gen.GatherRefIdeal
public import proofs.«01_k».proof.Proof.Gen.GatherRefIdeal.Run

@[expose] public section

set_option maxRecDepth 65536
set_option maxHeartbeats 2000000

noncomputable section

namespace Cert.GatherClaim

open Idealize.SL.Sem Idealize.ShloMosaic Idealize.ShloMosaic.TcCoe Cert.Exchange Cert.GatherIdeal.Call

theorem giver_val : ∀ (d : Dev Cert.GatherIdeal.nD) (q : ℕ), q < 8 → (giver d q).val / 2 = q / 2 := by decide +kernel

/-- The results of the call are the blocks of the reference's results, whatever the reading of the floats: nothing but
    copies is done by either. -/
theorem value {F : FTy → Type} [FloatOps F] :
  ∀ (m : (ℓ : Loc Cert.GatherIdeal.nD Cert.GatherIdeal.τ Cert.GatherIdeal.sig) → Buf (Elt F) ℓ) (g : Dev Cert.GatherIdeal.nD → PrngReg)
    (m' : (ℓ : Loc Cert.GatherRefIdeal.nD Cert.GatherRefIdeal.τ Cert.GatherRefIdeal.sig) → Buf (Elt F) ℓ) (g' : Dev Cert.GatherRefIdeal.nD → PrngReg),
    (∀ c : Dev Cert.GatherIdeal.nD,
      m ((c.tc : Thread Cert.GatherIdeal.nD Cert.GatherIdeal.τ).loc Cert.GatherIdeal.main_arg0) = Layout.blockN ⟨3, ![2, 512, 704]⟩ ⟨3, ![8, 512, 704]⟩ (Layout.meshBlock [2, 2, 2] ![[0, 1], [], []] c) (m' (((0 : Dev Cert.GatherRefIdeal.nD).tc : Thread Cert.GatherRefIdeal.nD Cert.GatherRefIdeal.τ).loc Cert.GatherRefIdeal.main_arg0))
      ∧ m ((c.tc : Thread Cert.GatherIdeal.nD Cert.GatherIdeal.τ).loc Cert.GatherIdeal.main_arg1) = Layout.blockN ⟨3, ![2, 512, 704]⟩ ⟨3, ![8, 512, 704]⟩ (Layout.meshBlock [2, 2, 2] ![[0, 1], [], []] c) (m' (((0 : Dev Cert.GatherRefIdeal.nD).tc : Thread Cert.GatherRefIdeal.nD Cert.GatherRefIdeal.τ).loc Cert.GatherRefIdeal.main_arg1))
      ∧ m ((c.tc : Thread Cert.GatherIdeal.nD Cert.GatherIdeal.τ).loc Cert.GatherIdeal.main_arg2) = Layout.blockN ⟨3, ![2, 352, 1024]⟩ ⟨3, ![8, 352, 1024]⟩ (Layout.meshBlock [2, 2, 2] ![[0, 1], [], []] c) (m' (((0 : Dev Cert.GatherRefIdeal.nD).tc : Thread Cert.GatherRefIdeal.nD Cert.GatherRefIdeal.τ).loc Cert.GatherRefIdeal.main_arg2))
      ∧ m ((c.tc : Thread Cert.GatherIdeal.nD Cert.GatherIdeal.τ).loc Cert.GatherIdeal.main_arg3) = Layout.blockN ⟨3, ![2, 128, 1024]⟩ ⟨3, ![8, 128, 1024]⟩ (Layout.meshBlock [2, 2, 2] ![[0, 1], [], []] c) (m' (((0 : Dev Cert.GatherRefIdeal.nD).tc : Thread Cert.GatherRefIdeal.nD Cert.GatherRefIdeal.τ).loc Cert.GatherRefIdeal.main_arg3))
      ∧ m ((c.tc : Thread Cert.GatherIdeal.nD Cert.GatherIdeal.τ).loc Cert.GatherIdeal.main_arg4) = Layout.blockN ⟨3, ![2, 128, 1024]⟩ ⟨3, ![8, 128, 1024]⟩ (Layout.meshBlock [2, 2, 2] ![[0, 1], [], []] c) (m' (((0 : Dev Cert.GatherRefIdeal.nD).tc : Thread Cert.GatherRefIdeal.nD Cert.GatherRefIdeal.τ).loc Cert.GatherRefIdeal.main_arg4))
      ∧ m ((c.tc : Thread Cert.GatherIdeal.nD Cert.GatherIdeal.τ).loc Cert.GatherIdeal.main_arg5) = Layout.blockN ⟨3, ![2, 512, 704]⟩ ⟨3, ![8, 512, 704]⟩ (Layout.meshBlock [2, 2, 2] ![[0, 1], [], []] c) (m' (((0 : Dev Cert.GatherRefIdeal.nD).tc : Thread Cert.GatherRefIdeal.nD Cert.GatherRefIdeal.τ).loc Cert.GatherRefIdeal.main_arg5))
      ∧ m ((c.tc : Thread Cert.GatherIdeal.nD Cert.GatherIdeal.τ).loc Cert.GatherIdeal.main_arg6) = Layout.blockN ⟨3, ![2, 512, 704]⟩ ⟨3, ![8, 512, 704]⟩ (Layout.meshBlock [2, 2, 2] ![[0, 1], [], []] c) (m' (((0 : Dev Cert.GatherRefIdeal.nD).tc : Thread Cert.GatherRefIdeal.nD Cert.GatherRefIdeal.τ).loc Cert.GatherRefIdeal.main_arg6))
      ∧ m ((c.tc : Thread Cert.GatherIdeal.nD Cert.GatherIdeal.τ).loc Cert.GatherIdeal.main_arg7) = Layout.blockN ⟨3, ![2, 352, 1024]⟩ ⟨3, ![8, 352, 1024]⟩ (Layout.meshBlock [2, 2, 2] ![[0, 1], [], []] c) (m' (((0 : Dev Cert.GatherRefIdeal.nD).tc : Thread Cert.GatherRefIdeal.nD Cert.GatherRefIdeal.τ).loc Cert.GatherRefIdeal.main_arg7))
      ∧ m ((c.tc : Thread Cert.GatherIdeal.nD Cert.GatherIdeal.τ).loc Cert.GatherIdeal.main_arg8) = Layout.blockN ⟨3, ![2, 8, 256]⟩ ⟨3, ![8, 8, 256]⟩ (Layout.meshBlock [2, 2, 2] ![[0, 1], [], []] c) (m' (((0 : Dev Cert.GatherRefIdeal.nD).tc : Thread Cert.GatherRefIdeal.nD Cert.GatherRefIdeal.τ).loc Cert.GatherRefIdeal.main_arg8))) →
    ∃ (v0 : Buf (Elt F) (((0 : Dev Cert.GatherRefIdeal.nD).tc : Thread Cert.GatherRefIdeal.nD Cert.GatherRefIdeal.τ).loc Cert.GatherRefIdeal.main_v0)) (v1 : Buf (Elt F) (((0 : Dev Cert.GatherRefIdeal.nD).tc : Thread Cert.GatherRefIdeal.nD Cert.GatherRefIdeal.τ).loc Cert.GatherRefIdeal.main_v1)) (v2 : Buf (Elt F) (((0 : Dev Cert.GatherRefIdeal.nD).tc : Thread Cert.GatherRefIdeal.nD Cert.GatherRefIdeal.τ).loc Cert.GatherRefIdeal.main_v2)) (v3 : Buf (Elt F) (((0 : Dev Cert.GatherRefIdeal.nD).tc : Thread Cert.GatherRefIdeal.nD Cert.GatherRefIdeal.τ).loc Cert.GatherRefIdeal.main_v3)) (v4 : Buf (Elt F) (((0 : Dev Cert.GatherRefIdeal.nD).tc : Thread Cert.GatherRefIdeal.nD Cert.GatherRefIdeal.τ).loc Cert.GatherRefIdeal.main_v4)) (v5 : Buf (Elt F) (((0 : Dev Cert.GatherRefIdeal.nD).tc : Thread Cert.GatherRefIdeal.nD Cert.GatherRefIdeal.τ).loc Cert.GatherRefIdeal.main_v5)) (v6 : Buf (Elt F) (((0 : Dev Cert.GatherRefIdeal.nD).tc : Thread Cert.GatherRefIdeal.nD Cert.GatherRefIdeal.τ).loc Cert.GatherRefIdeal.main_v6)) (v7 : Buf (Elt F) (((0 : Dev Cert.GatherRefIdeal.nD).tc : Thread Cert.GatherRefIdeal.nD Cert.GatherRefIdeal.τ).loc Cert.GatherRefIdeal.main_v7)) (v8 : Buf (Elt F) (((0 : Dev Cert.GatherRefIdeal.nD).tc : Thread Cert.GatherRefIdeal.nD Cert.GatherRefIdeal.τ).loc Cert.GatherRefIdeal.main_v8)),
      θ_run (Cert.GatherIdeal.defs (F := F)) (onTc (τ := Cert.GatherIdeal.τ) (Cert.GatherIdeal.main (F := F))) ⟨m, fun _ => 0, g⟩ (fun r => ∀ c : Dev Cert.GatherIdeal.nD,
          r.2.mem ((c.tc : Thread Cert.GatherIdeal.nD Cert.GatherIdeal.τ).loc Cert.GatherIdeal.main_v1_0) = v0
          ∧ r.2.mem ((c.tc : Thread Cert.GatherIdeal.nD Cert.GatherIdeal.τ).loc Cert.GatherIdeal.main_v1_1) = v1
          ∧ r.2.mem ((c.tc : Thread Cert.GatherIdeal.nD Cert.GatherIdeal.τ).loc Cert.GatherIdeal.main_v1_2) = v2
          ∧ r.2.mem ((c.tc : Thread Cert.GatherIdeal.nD Cert.GatherIdeal.τ).loc Cert.GatherIdeal.main_v1_3) = v3
          ∧ r.2.mem ((c.tc : Thread Cert.GatherIdeal.nD Cert.GatherIdeal.τ).loc Cert.GatherIdeal.main_v1_4) = v4
          ∧ r.2.mem ((c.tc : Thread Cert.GatherIdeal.nD Cert.GatherIdeal.τ).loc Cert.GatherIdeal.main_v1_5) = v5
          ∧ r.2.mem ((c.tc : Thread Cert.GatherIdeal.nD Cert.GatherIdeal.τ).loc Cert.GatherIdeal.main_v1_6) = v6
          ∧ r.2.mem ((c.tc : Thread Cert.GatherIdeal.nD Cert.GatherIdeal.τ).loc Cert.GatherIdeal.main_v1_7) = v7
          ∧ r.2.mem ((c.tc : Thread Cert.GatherIdeal.nD Cert.GatherIdeal.τ).loc Cert.GatherIdeal.main_v1_8) = v8
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
          ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2)
          ∧ r.2.mem ((c.tc : Thread Cert.GatherIdeal.nD Cert.GatherIdeal.τ).loc Cert.GatherIdeal.main_arg3) = m ((c.tc : Thread Cert.GatherIdeal.nD Cert.GatherIdeal.τ).loc Cert.GatherIdeal.main_arg3)
          ∧ r.2.mem ((c.tc : Thread Cert.GatherIdeal.nD Cert.GatherIdeal.τ).loc Cert.GatherIdeal.main_arg4) = m ((c.tc : Thread Cert.GatherIdeal.nD Cert.GatherIdeal.τ).loc Cert.GatherIdeal.main_arg4)
          ∧ r.2.mem ((c.tc : Thread Cert.GatherIdeal.nD Cert.GatherIdeal.τ).loc Cert.GatherIdeal.main_arg5) = m ((c.tc : Thread Cert.GatherIdeal.nD Cert.GatherIdeal.τ).loc Cert.GatherIdeal.main_arg5)
          ∧ r.2.mem ((c.tc : Thread Cert.GatherIdeal.nD Cert.GatherIdeal.τ).loc Cert.GatherIdeal.main_arg6) = m ((c.tc : Thread Cert.GatherIdeal.nD Cert.GatherIdeal.τ).loc Cert.GatherIdeal.main_arg6)
          ∧ r.2.mem ((c.tc : Thread Cert.GatherIdeal.nD Cert.GatherIdeal.τ).loc Cert.GatherIdeal.main_arg7) = m ((c.tc : Thread Cert.GatherIdeal.nD Cert.GatherIdeal.τ).loc Cert.GatherIdeal.main_arg7)
          ∧ r.2.mem ((c.tc : Thread Cert.GatherIdeal.nD Cert.GatherIdeal.τ).loc Cert.GatherIdeal.main_arg8) = m ((c.tc : Thread Cert.GatherIdeal.nD Cert.GatherIdeal.τ).loc Cert.GatherIdeal.main_arg8))
      ∧ θ_run (Cert.GatherRefIdeal.defs (F := F)) (onTc (τ := Cert.GatherRefIdeal.τ) (Cert.GatherRefIdeal.main (F := F))) ⟨m', fun _ => 0, g'⟩ (fun r =>
          r.2.mem (((0 : Dev Cert.GatherRefIdeal.nD).tc : Thread Cert.GatherRefIdeal.nD Cert.GatherRefIdeal.τ).loc Cert.GatherRefIdeal.main_v0) = v0
          ∧ r.2.mem (((0 : Dev Cert.GatherRefIdeal.nD).tc : Thread Cert.GatherRefIdeal.nD Cert.GatherRefIdeal.τ).loc Cert.GatherRefIdeal.main_v1) = v1
          ∧ r.2.mem (((0 : Dev Cert.GatherRefIdeal.nD).tc : Thread Cert.GatherRefIdeal.nD Cert.GatherRefIdeal.τ).loc Cert.GatherRefIdeal.main_v2) = v2
          ∧ r.2.mem (((0 : Dev Cert.GatherRefIdeal.nD).tc : Thread Cert.GatherRefIdeal.nD Cert.GatherRefIdeal.τ).loc Cert.GatherRefIdeal.main_v3) = v3
          ∧ r.2.mem (((0 : Dev Cert.GatherRefIdeal.nD).tc : Thread Cert.GatherRefIdeal.nD Cert.GatherRefIdeal.τ).loc Cert.GatherRefIdeal.main_v4) = v4
          ∧ r.2.mem (((0 : Dev Cert.GatherRefIdeal.nD).tc : Thread Cert.GatherRefIdeal.nD Cert.GatherRefIdeal.τ).loc Cert.GatherRefIdeal.main_v5) = v5
          ∧ r.2.mem (((0 : Dev Cert.GatherRefIdeal.nD).tc : Thread Cert.GatherRefIdeal.nD Cert.GatherRefIdeal.τ).loc Cert.GatherRefIdeal.main_v6) = v6
          ∧ r.2.mem (((0 : Dev Cert.GatherRefIdeal.nD).tc : Thread Cert.GatherRefIdeal.nD Cert.GatherRefIdeal.τ).loc Cert.GatherRefIdeal.main_v7) = v7
          ∧ r.2.mem (((0 : Dev Cert.GatherRefIdeal.nD).tc : Thread Cert.GatherRefIdeal.nD Cert.GatherRefIdeal.τ).loc Cert.GatherRefIdeal.main_v8) = v8
          ∧ r.2.mem (((0 : Dev Cert.GatherRefIdeal.nD).tc : Thread Cert.GatherRefIdeal.nD Cert.GatherRefIdeal.τ).loc Cert.GatherRefIdeal.main_arg0) = m' (((0 : Dev Cert.GatherRefIdeal.nD).tc : Thread Cert.GatherRefIdeal.nD Cert.GatherRefIdeal.τ).loc Cert.GatherRefIdeal.main_arg0)
          ∧ r.2.mem (((0 : Dev Cert.GatherRefIdeal.nD).tc : Thread Cert.GatherRefIdeal.nD Cert.GatherRefIdeal.τ).loc Cert.GatherRefIdeal.main_arg1) = m' (((0 : Dev Cert.GatherRefIdeal.nD).tc : Thread Cert.GatherRefIdeal.nD Cert.GatherRefIdeal.τ).loc Cert.GatherRefIdeal.main_arg1)
          ∧ r.2.mem (((0 : Dev Cert.GatherRefIdeal.nD).tc : Thread Cert.GatherRefIdeal.nD Cert.GatherRefIdeal.τ).loc Cert.GatherRefIdeal.main_arg2) = m' (((0 : Dev Cert.GatherRefIdeal.nD).tc : Thread Cert.GatherRefIdeal.nD Cert.GatherRefIdeal.τ).loc Cert.GatherRefIdeal.main_arg2)
          ∧ r.2.mem (((0 : Dev Cert.GatherRefIdeal.nD).tc : Thread Cert.GatherRefIdeal.nD Cert.GatherRefIdeal.τ).loc Cert.GatherRefIdeal.main_arg3) = m' (((0 : Dev Cert.GatherRefIdeal.nD).tc : Thread Cert.GatherRefIdeal.nD Cert.GatherRefIdeal.τ).loc Cert.GatherRefIdeal.main_arg3)
          ∧ r.2.mem (((0 : Dev Cert.GatherRefIdeal.nD).tc : Thread Cert.GatherRefIdeal.nD Cert.GatherRefIdeal.τ).loc Cert.GatherRefIdeal.main_arg4) = m' (((0 : Dev Cert.GatherRefIdeal.nD).tc : Thread Cert.GatherRefIdeal.nD Cert.GatherRefIdeal.τ).loc Cert.GatherRefIdeal.main_arg4)
          ∧ r.2.mem (((0 : Dev Cert.GatherRefIdeal.nD).tc : Thread Cert.GatherRefIdeal.nD Cert.GatherRefIdeal.τ).loc Cert.GatherRefIdeal.main_arg5) = m' (((0 : Dev Cert.GatherRefIdeal.nD).tc : Thread Cert.GatherRefIdeal.nD Cert.GatherRefIdeal.τ).loc Cert.GatherRefIdeal.main_arg5)
          ∧ r.2.mem (((0 : Dev Cert.GatherRefIdeal.nD).tc : Thread Cert.GatherRefIdeal.nD Cert.GatherRefIdeal.τ).loc Cert.GatherRefIdeal.main_arg6) = m' (((0 : Dev Cert.GatherRefIdeal.nD).tc : Thread Cert.GatherRefIdeal.nD Cert.GatherRefIdeal.τ).loc Cert.GatherRefIdeal.main_arg6)
          ∧ r.2.mem (((0 : Dev Cert.GatherRefIdeal.nD).tc : Thread Cert.GatherRefIdeal.nD Cert.GatherRefIdeal.τ).loc Cert.GatherRefIdeal.main_arg7) = m' (((0 : Dev Cert.GatherRefIdeal.nD).tc : Thread Cert.GatherRefIdeal.nD Cert.GatherRefIdeal.τ).loc Cert.GatherRefIdeal.main_arg7)
          ∧ r.2.mem (((0 : Dev Cert.GatherRefIdeal.nD).tc : Thread Cert.GatherRefIdeal.nD Cert.GatherRefIdeal.τ).loc Cert.GatherRefIdeal.main_arg8) = m' (((0 : Dev Cert.GatherRefIdeal.nD).tc : Thread Cert.GatherRefIdeal.nD Cert.GatherRefIdeal.τ).loc Cert.GatherRefIdeal.main_arg8)) := by
  intro m g m' g' H
  refine ⟨_, _, _, _, _, _, _, _, _, (θ_run Cert.GatherIdeal.defs _ _).mono (fun r h c => ?_) (run_main (F := F) m g),
    (θ_run Cert.GatherRefIdeal.defs _ _).mono (fun r h => h 0) (Cert.GatherRefIdeal.Value.run (F := F) m' g')⟩
  exact ⟨gather_value (fun q => giver c q) (giver_val c) _ (fun q => m ((giver c q).tc.loc Cert.GatherIdeal.main_arg0)) _ _ _ (fun q => (H (giver c q)).1)
      (fun q hq t ht => (h.1 c 0).2 q hq t ht),
    gather_value (fun q => giver c q) (giver_val c) _ (fun q => m ((giver c q).tc.loc Cert.GatherIdeal.main_arg1)) _ _ _ (fun q => (H (giver c q)).2.1)
      (fun q hq t ht => (h.1 c 1).2 q hq t ht),
    gather_value (fun q => giver c q) (giver_val c) _ (fun q => m ((giver c q).tc.loc Cert.GatherIdeal.main_arg2)) _ _ _ (fun q => (H (giver c q)).2.2.1)
      (fun q hq t ht => (h.1 c 2).2 q hq t ht),
    gather_value (fun q => giver c q) (giver_val c) _ (fun q => m ((giver c q).tc.loc Cert.GatherIdeal.main_arg3)) _ _ _ (fun q => (H (giver c q)).2.2.2.1)
      (fun q hq t ht => (h.1 c 3).2 q hq t ht),
    gather_value (fun q => giver c q) (giver_val c) _ (fun q => m ((giver c q).tc.loc Cert.GatherIdeal.main_arg4)) _ _ _ (fun q => (H (giver c q)).2.2.2.2.1)
      (fun q hq t ht => (h.1 c 4).2 q hq t ht),
    gather_value (fun q => giver c q) (giver_val c) _ (fun q => m ((giver c q).tc.loc Cert.GatherIdeal.main_arg5)) _ _ _ (fun q => (H (giver c q)).2.2.2.2.2.1)
      (fun q hq t ht => (h.1 c 5).2 q hq t ht),
    gather_value (fun q => giver c q) (giver_val c) _ (fun q => m ((giver c q).tc.loc Cert.GatherIdeal.main_arg6)) _ _ _ (fun q => (H (giver c q)).2.2.2.2.2.2.1)
      (fun q hq t ht => (h.1 c 6).2 q hq t ht),
    gather_value (fun q => giver c q) (giver_val c) _ (fun q => m ((giver c q).tc.loc Cert.GatherIdeal.main_arg7)) _ _ _ (fun q => (H (giver c q)).2.2.2.2.2.2.2.1)
      (fun q hq t ht => (h.1 c 7).2 q hq t ht),
    gather_value (fun q => giver c q) (giver_val c) _ (fun q => m ((giver c q).tc.loc Cert.GatherIdeal.main_arg8)) _ _ _ (fun q => (H (giver c q)).2.2.2.2.2.2.2.2)
      (fun q hq t ht => (h.1 c 8).2 q hq t ht),
    (h.1 c 0).1,
    (h.1 c 1).1,
    (h.1 c 2).1,
    (h.1 c 3).1,
    (h.1 c 4).1,
    (h.1 c 5).1,
    (h.1 c 6).1,
    (h.1 c 7).1,
    (h.1 c 8).1⟩

/-- The call, on the bits, ends without a fault, leaves its arguments alone and every semaphore at zero. -/
theorem quiescent_Gather : Cert.quiescent_Gather := fun m g _ =>
  (θ_run Cert.GatherIdeal.defs _ _).mono (fun _ h => ⟨fun c => ⟨(h.1 c 0).1, (h.1 c 1).1, (h.1 c 2).1, (h.1 c 3).1, (h.1 c 4).1, (h.1 c 5).1, (h.1 c 6).1, (h.1 c 7).1, (h.1 c 8).1⟩, h.2⟩) (run_main (F := Bits) m g)

/-- The call, in the ideal reading, ends without a fault, leaves its arguments alone and every semaphore at zero. -/
theorem quiescent_GatherIdeal : Cert.quiescent_GatherIdeal := fun m g _ =>
  (θ_run Cert.GatherIdeal.defs _ _).mono (fun _ h => ⟨fun c => ⟨(h.1 c 0).1, (h.1 c 1).1, (h.1 c 2).1, (h.1 c 3).1, (h.1 c 4).1, (h.1 c 5).1, (h.1 c 6).1, (h.1 c 7).1, (h.1 c 8).1⟩, h.2⟩) (run_main (F := Ideal) m g)

/-- The reference, on the bits, ends without a fault and leaves its arguments alone; it has no semaphore. -/
theorem quiescent_GatherRef : Cert.quiescent_GatherRef := fun m g _ =>
  (θ_run Cert.GatherRefIdeal.defs _ _).mono (fun _ h => ⟨fun c => (h c).2.2.2.2.2.2.2.2.2, sem_eq_zero_of_no_sems (by decide) _⟩) (Cert.GatherRefIdeal.Value.run (F := Bits) m g)

/-- The reference, in the ideal reading, ends without a fault and leaves its arguments alone; it has no semaphore. -/
theorem quiescent_GatherRefIdeal : Cert.quiescent_GatherRefIdeal := fun m g _ =>
  (θ_run Cert.GatherRefIdeal.defs _ _).mono (fun _ h => ⟨fun c => (h c).2.2.2.2.2.2.2.2.2, sem_eq_zero_of_no_sems (by decide) _⟩) (Cert.GatherRefIdeal.Value.run (F := Ideal) m g)

/-- The ideal reading of the call rewrites nothing. -/
theorem preserves : Cert.preserves_Gather_GatherIdeal := trivial

/-- The results of the call are the blocks of the reference's results, bit for bit. -/
theorem bitexact : Cert.bitexact_Gather_GatherRef := fun m g m' g' _ H => value (F := Bits) m g m' g' H

/-- The results of the call are the blocks of the reference's results, in the ideal reading. -/
theorem algebraic : Cert.algebraic_GatherIdeal_GatherRefIdeal := fun m g m' g' _ H => value (F := Ideal) m g m' g' H

end Cert.GatherClaim

end
-- ==== Proof.GatherSmallCall.lean ====
/-
# The gather of the small gradients

The copies of the call: each chip has two blocks of an array, the same on both of its cores. Each core copies them into
their place of its own result, and sends the one of its own number to the same core of the other three chips. What it
gets from these chips it passes on to its sibling, so that every core ends with the blocks of all chips.
-/
module

public import proofs.«01_k».proof.Proof.Table
public import proofs.«01_k».proof.Proof.Gen.GatherSmallIdeal
public import proofs.«01_k».proof.Proof.Gen.GatherSmallIdeal.Launch

@[expose] public section

set_option maxRecDepth 65536
set_option maxHeartbeats 4000000

noncomputable section

namespace Cert.GatherSmallIdeal.Call

open Idealize.SL.Sem Cert.GatherSmallIdeal Cert.Exchange Idealize.ShloMosaic Idealize.ShloMosaic.TcCoe
open Idealize.SL Idealize.SL.RA Idealize.SL.BI
open scoped Idealize.SL.BI
open Idealize.SL.BI.BIBase Idealize.SL.BI.Laws Idealize.SL.ProofMode

variable {F : FTy → Type} [FloatOps F]

/-! ## The arrays -/

/-- An array, its result and the size of a block. -/
structure Arr where
  e : EltTy
  R : ℕ
  C : ℕ
  i : Memref sig .tc .hbm ⟨3, ![2, R, C]⟩ e
  o : Memref sig .tc .hbm ⟨4, ![4, 2, R, C]⟩ e
  hi : i.IsWhole
  ho : o.IsWhole
  sq3 : (⟨3, ![1, R, C]⟩ : Shape).Squeezes ⟨2, ![R, C]⟩
  sq4 : (⟨4, ![1, 1, R, C]⟩ : Shape).Squeezes ⟨2, ![R, C]⟩
  sqL : (⟨4, ![1, 2, R, C]⟩ : Shape).Squeezes ⟨3, ![2, R, C]⟩

/-- The array. -/
def arr : Fin 1 → Arr
  | 0 => ⟨.f32, 240, 128, Memref.whole main_arg0, Memref.whole main_v1, Memref.isWhole_whole _, Memref.isWhole_whole _, by decide, by decide, by decide⟩

/-- The other core of a chip. -/
def sib (d : Dev nD) : Dev nD := ⟨d.val + 1 - 2 * (d.val % 2), by have : d.val < 8 := d.isLt; show _ < 8; omega⟩

theorem sib_sib (d : Dev nD) : sib (sib d) = d := by revert d; decide +kernel

/-- The same core of the chip across the first axis of the mesh, across the second, and across both. -/
def mate (j : ℕ) (d : Dev nD) : Dev nD :=
  if j = 0 then ⟨(d.val + 4) % 8, Nat.mod_lt _ (by decide)⟩
  else if j = 1 then ⟨d.val + 2 - 4 * (d.val / 2 % 2), by have : d.val < 8 := d.isLt; show _ < 8; omega⟩
  else ⟨(d.val + 4) % 8 + 2 - 4 * (d.val / 2 % 2), by have : d.val < 8 := d.isLt; show _ < 8; omega⟩

theorem mate_mate (j : Fin 3) (d : Dev nD) : mate j (mate j d) = d := by revert j d; decide +kernel

/-- The device whose argument gives block `q` of the result of device `d`: one of the chip `q / 2`; of the other chips
    the core of number `q % 2`. -/
def giver (d : Dev nD) (q : ℕ) : Dev nD :=
  ⟨(q / 2 * 2 + if q / 2 = d.val / 2 then d.val % 2 else q % 2) % 8, Nat.mod_lt _ (by decide)⟩

/-- Where copy `k` goes: to a mate, or to the sibling. -/
def goal (k : Fin 3 ⊕ Fin 3) (d : Dev nD) : Dev nD :=
  match k with
  | .inl j => mate j d
  | .inr _ => sib d

theorem goal_goal (k : Fin 3 ⊕ Fin 3) (d : Dev nD) : goal k (goal k d) = d := by
  rcases k with j | j
  exacts [mate_mate j d, sib_sib d]

/-- The chip whose block copy `k` moves. -/
def chip (k : Fin 3 ⊕ Fin 3) (d : Dev nD) : ℕ :=
  match k with
  | .inl _ => d.val / 2
  | .inr j => (mate j d).val / 2

/-- Which blocks move where. -/
def pat : Pattern nD (Fin 3 ⊕ Fin 3) (Fin 1) where
  pm k := ⟨goal k, goal k, goal_goal k, goal_goal k⟩
  fwd k := k.isRight
  ks d k := match k with
    | .inl _ => d.val % 2
    | .inr j => chip (.inr j) d * 2 + d.val % 2
  kd d k := chip k d * 2 + d.val % 2
  ksL _ _ := 0
  kdL d _ := d.val / 2 * 2 + 0
  len _ := 2
  Q := 8
  org d q := (giver d q, q % 2)
  kd_lt := by decide +kernel
  org_send := by decide +kernel
  org_pass := by decide +kernel
  org_local := by decide +kernel
  disj := by decide +kernel
  disj_l := by decide +kernel
  disj_ll := by decide +kernel
  cover := by decide +kernel

/-! ## The copies -/

/-- Where the block that copy `k` of array `a` writes starts. -/

def off : Fin 1 → Fin 3 ⊕ Fin 3 → Dev nD → Fin 4 → ℕ
  | 0, .inl _ => k0_off2
  | 0, .inr 0 => k0_off4
  | 0, .inr 1 => k0_off5
  | 0, .inr 2 => k0_off6

theorem off_eq (a : Fin 1) (k : Fin 3 ⊕ Fin 3) (d : Dev nD) : off a k d = ![chip k d, d.val % 2, 0, 0] := by
  revert a k d; decide +kernel

/-- Where the block of an argument that device `d` sends starts. -/
def offI : Fin 1 → Dev nD → Fin 3 → ℕ
  | 0 => k0_off3

theorem offI_eq (a : Fin 1) (d : Dev nD) : offI a d = ![d.val % 2, 0, 0] := by revert a d; decide +kernel

/-- Where the two blocks that device `d` copies on itself go. -/
def offL : Fin 1 → Dev nD → Fin 4 → ℕ
  | 0 => k0_off1

theorem offL_eq (a : Fin 1) (d : Dev nD) : offL a d = ![d.val / 2, 0, 0, 0] := by revert a d; decide +kernel

/-- The device that copy `k` of array `a` writes on. -/
def dev : Fin 1 → Fin 3 ⊕ Fin 3 → Dev nD → ℕ
  | 0, .inl 0 => k0_dev1
  | 0, .inl 1 => k0_dev2
  | 0, .inl 2 => k0_dev3
  | 0, .inr 0 => k0_dev4
  | 0, .inr 1 => k0_dev5
  | 0, .inr 2 => k0_dev6

theorem dev_eq (a : Fin 1) (k : Fin 3 ⊕ Fin 3) (d : Dev nD) : dev a k d = (goal k d).val := by revert a k d; decide +kernel

theorem dev_lt (a : Fin 1) (k : Fin 3 ⊕ Fin 3) (d : Dev nD) : dev a k d < nD := by rw [dev_eq]; exact (goal k d).isLt

theorem chip_lt (k : Fin 3 ⊕ Fin 3) (d : Dev nD) : chip k d < 4 := by revert k d; decide +kernel

theorem off_inb (A : Arr) (a : Fin 1) (k : Fin 3 ⊕ Fin 3) (d : Dev nD) (x : Fin 4) :
    off a k d x + (![1, 1, A.R, A.C] : Fin 4 → ℕ) x ≤ (![4, 2, A.R, A.C] : Fin 4 → ℕ) x := by
  rw [off_eq]; have := chip_lt k d
  match x with
  | 0 => show chip k d + 1 ≤ 4; omega
  | 1 => show d.val % 2 + 1 ≤ 2; omega
  | 2 => show 0 + A.R ≤ A.R; omega
  | 3 => show 0 + A.C ≤ A.C; omega

theorem offI_inb (A : Arr) (a : Fin 1) (d : Dev nD) (x : Fin 3) : offI a d x + (![1, A.R, A.C] : Fin 3 → ℕ) x ≤ (![2, A.R, A.C] : Fin 3 → ℕ) x := by
  rw [offI_eq]
  match x with
  | 0 => show d.val % 2 + 1 ≤ 2; omega
  | 1 => show 0 + A.R ≤ A.R; omega
  | 2 => show 0 + A.C ≤ A.C; omega

theorem offL_inb (A : Arr) (a : Fin 1) (d : Dev nD) (x : Fin 4) :
    offL a d x + (![1, 2, A.R, A.C] : Fin 4 → ℕ) x ≤ (![4, 2, A.R, A.C] : Fin 4 → ℕ) x := by
  rw [offL_eq]; have : d.val < 8 := d.isLt
  match x with
  | 0 => show d.val / 2 + 1 ≤ 4; omega
  | 1 => show 0 + 2 ≤ 2; omega
  | 2 => show 0 + A.R ≤ A.R; omega
  | 3 => show 0 + A.C ≤ A.C; omega

/-- What copy `k` of array `a` writes, what a first copy reads, and what the copy of a device on itself writes. -/
abbrev dstOf (A : Arr) (d : Dev nD) (a : Fin 1) (k : Fin 3 ⊕ Fin 3) : Memref sig .tc .hbm ⟨2, ![A.R, A.C]⟩ A.e :=
  (A.o.slice (Rect.unit (s := ⟨4, ![4, 2, A.R, A.C]⟩) (off a k d) ![1, 1, A.R, A.C] (off_inb A a k d)) (fun _ => rfl)).squeeze ⟨2, ![A.R, A.C]⟩ A.sq4
abbrev inpOf (A : Arr) (d : Dev nD) (a : Fin 1) : Memref sig .tc .hbm ⟨2, ![A.R, A.C]⟩ A.e :=
  (A.i.slice (Rect.unit (s := ⟨3, ![2, A.R, A.C]⟩) (offI a d) ![1, A.R, A.C] (offI_inb A a d)) (fun _ => rfl)).squeeze ⟨2, ![A.R, A.C]⟩ A.sq3
abbrev ownOf (A : Arr) (d : Dev nD) (a : Fin 1) : Memref sig .tc .hbm ⟨3, ![2, A.R, A.C]⟩ A.e :=
  (A.o.slice (Rect.unit (s := ⟨4, ![4, 2, A.R, A.C]⟩) (offL a d) ![1, 2, A.R, A.C] (offL_inb A a d)) (fun _ => rfl)).squeeze ⟨3, ![2, A.R, A.C]⟩ A.sqL

/-- What copy `k` of array `a` reads: a first copy the argument, a copy that passes on what arrived the result. -/
def srcOf (A : Arr) (d : Dev nD) (a : Fin 1) : Fin 3 ⊕ Fin 3 → Memref sig .tc .hbm ⟨2, ![A.R, A.C]⟩ A.e
  | .inl _ => inpOf A d a
  | .inr j => dstOf A d a (.inr j)

/-! All of these take whole rows. -/

theorem dst_exact (A : Arr) (d : Dev nD) (a : Fin 1) (k : Fin 3 ⊕ Fin 3) : (dstOf A d a k).view.WordExact :=
  (A.ho.wordExact_slice rfl _ (.inr ⟨by show 2 ≤ 4; omega, rfl, congrFun (off_eq a k d) 2, rfl⟩)).reshape _ _

theorem inp_exact (A : Arr) (d : Dev nD) (a : Fin 1) : (inpOf A d a).view.WordExact :=
  (A.hi.wordExact_slice rfl _ (.inr ⟨by show 2 ≤ 3; omega, rfl, congrFun (offI_eq a d) 1, rfl⟩)).reshape _ _

theorem own_exact (A : Arr) (d : Dev nD) (a : Fin 1) : (ownOf A d a).view.WordExact :=
  (A.ho.wordExact_slice rfl _ (.inr ⟨by show 2 ≤ 4; omega, rfl, congrFun (offL_eq a d) 2, rfl⟩)).reshape _ _

theorem src_exact (A : Arr) (d : Dev nD) (a : Fin 1) (k : Fin 3 ⊕ Fin 3) : (srcOf A d a k).view.WordExact := by
  rcases k with j | j
  exacts [inp_exact A d a, dst_exact A d a _]

/-- The number of a copy of an array. -/
def num : Fin 3 ⊕ Fin 3 → ℕ
  | .inl j => j.val
  | .inr j => 3 + j.val

theorem num_lt (k : Fin 3 ⊕ Fin 3) : num k < 6 := by revert k; decide

def sendSem (j : Fin 1 × (Fin 3 ⊕ Fin 3)) : DmaSem sig := ⟨6 * j.1.val + num j.2, by have := num_lt j.2; show _ < 13; omega⟩
def recvSem (j : Fin 1 × (Fin 3 ⊕ Fin 3)) : DmaSem sig := ⟨6 + (6 * j.1.val + num j.2), by have := num_lt j.2; show _ < 13; omega⟩
def localSem (a : Fin 1) : DmaSem sig := ⟨12 + a.val, by show _ < 13; omega⟩

def rem (d : Dev nD) (j : Fin 1 × (Fin 3 ⊕ Fin 3)) : Remote nD τ sig where
  sp := .hbm
  sp' := .hbm
  s := ⟨2, ![(arr j.1).R, (arr j.1).C]⟩
  e := (arr j.1).e
  src := srcOf (arr j.1) d j.1 j.2
  dst := dstOf (arr j.1) d j.1 j.2
  tgt := ⟨dev j.1 j.2 d, dev_lt j.1 j.2 d⟩
  sendSem := sendSem j
  recvSem := recvSem j
  hsrc := src_exact _ _ _ _
  hdst := dst_exact _ _ _ _
  hsc := by cases h : (arr j.1); rfl
  hsem := ⟨⟨rfl, Or.inl rfl⟩, trivial⟩

def loc (d : Dev nD) (l : Fin 1 × Fin 1) : Local nD τ sig where
  sp := .hbm
  sp' := .hbm
  s := ⟨3, ![2, (arr l.1).R, (arr l.1).C]⟩
  e := (arr l.1).e
  src := (arr l.1).i
  dst := ownOf (arr l.1) d l.1
  sem := localSem l.1
  hsrc := (arr l.1).hi.wordExact
  hdst := own_exact _ _ _
  hsem := ⟨Or.inl rfl, trivial⟩

abbrev Sems := ((Fin 1 × (Fin 3 ⊕ Fin 3)) ⊕ (Fin 1 × (Fin 3 ⊕ Fin 3))) ⊕ (Fin 1 × Fin 1)

def await (d : Dev nD) : Sems → Await sig
  | .inl (.inl j) => ⟨sendSem j, (srcOf (arr j.1) d j.1 j.2).view.ref, ⟨2, ![(arr j.1).R, (arr j.1).C]⟩, (arr j.1).e, (srcOf (arr j.1) d j.1 j.2).hasMemref⟩
  | .inl (.inr j) => ⟨recvSem j, (dstOf (arr j.1) d j.1 j.2).view.ref, ⟨2, ![(arr j.1).R, (arr j.1).C]⟩, (arr j.1).e, (dstOf (arr j.1) d j.1 j.2).hasMemref⟩
  | .inr l => ⟨localSem l.1, (ownOf (arr l.1) d l.1).view.ref, ⟨3, ![2, (arr l.1).R, (arr l.1).C]⟩, (arr l.1).e, (ownOf (arr l.1) d l.1).hasMemref⟩

/-- The semaphores by index. -/
def semOf : Sems → SemLoc sig
  | .inl (.inl j) => .dma (sendSem j)
  | .inl (.inr j) => .dma (recvSem j)
  | .inr l => .dma (localSem l.1)

theorem semOf_bijective : Function.Bijective semOf := by
  rw [Function.Bijective]
  constructor
  · decide +kernel
  · decide +kernel

def net : Net nD τ sig (Fin 1 × (Fin 3 ⊕ Fin 3)) (Fin 1 × Fin 1) where
  rem := rem
  loc := loc
  wait := await
  perm j := pat.pm j.2
  cells := Equiv.ofBijective semOf semOf_bijective
  amt j := (dstOf (arr j.1) 0 j.1 j.2).view.dmaCredit
  amtL l := (ownOf (arr l.1) 0 l.1).view.dmaCredit
  to_eq c j := Fin.ext (dev_eq j.1 j.2 c)
  send_eq _ _ := rfl
  recv_eq _ _ := rfl
  loc_eq _ _ := rfl
  wait_eq c k := by rcases k with (j | j) | l <;> rfl
  amt_eq _ _ := rfl
  amtL_eq _ _ := rfl
  amt_pos j := View.dmaCredit_pos _ (by revert j; decide +kernel)
  amtL_pos l := View.dmaCredit_pos _ (by revert l; decide +kernel)
  wait_amt c k := by rcases k with (j | j) | l <;> rfl

/-- The first copies and the copies that pass on, in program order. -/
def firsts : List (Fin 1 × (Fin 3 ⊕ Fin 3)) := [(0, .inl 0), (0, .inl 1), (0, .inl 2)]
def seconds : List (Fin 1 × (Fin 3 ⊕ Fin 3)) := [(0, .inr 0), (0, .inr 1), (0, .inr 2)]
def owns : List (Fin 1 × Fin 1) := [(0, 0)]

def plan : Net.Plan (Fin 1 × (Fin 3 ⊕ Fin 3)) (Fin 1 × Fin 1) where
  ll := owns
  ls := firsts
  lp := [((0, .inl 0), (0, .inr 0)), ((0, .inl 1), (0, .inr 1)), ((0, .inl 2), (0, .inr 2))]
  lr := seconds
  lw := seconds.map (fun j => .inl (.inr j)) ++ (firsts.map (fun j => .inl (.inl j)) ++ (seconds.map (fun j => .inl (.inl j)) ++ owns.map .inr))
  rank j := if j.2.isRight = true then 1 else 0
  all_l := by decide +kernel
  nodup_l := by decide +kernel
  all_s := by decide +kernel
  nodup_s := by decide +kernel
  all_r := by decide +kernel
  nodup_r := by decide +kernel
  perm_w := by decide +kernel
  nodup_w := by decide +kernel
  rank_lt := by decide +kernel

/-- The same at every reading of the floats at once. -/
theorem body_all : (fun (F : FTy → Type) (_ : FloatOps F) t => defs₀ (F := F) .tc 0 t) = fun F _ t => .op .deviceId fun d => net.body d plan.ll plan.ls plan.lp plan.lw := by
  eq_refl

/-- The body of the call is the copies and waits of the plan. -/
theorem body_eq (t) : defs₀ (F := F) .tc 0 t = .op .deviceId fun d => net.body d plan.ll plan.ls plan.lp plan.lw :=
  congrFun (congrFun (congrFun body_all F) inferInstance) t

theorem dst_flat_at (c : Dev nD) (a : Fin 1) (k : Fin 3 ⊕ Fin 3) : FlatAt (dstOf (arr a) c a k).view ((chip k c * 2 + c.val % 2) * ((arr a).R * (arr a).C)) := by
  have h := ((flat_isWhole (arr a).ho).slice _ (rect_four (K := 4) (H := 2) (L := 1) (k := chip k c) (h := c.val % 2) (off a k c) (off_eq a k c) (off_inb (arr a) a k c))).reshape ⟨2, ![(arr a).R, (arr a).C]⟩ (arr a).sq4.numel_eq
  rw [Nat.zero_add] at h
  exact h

theorem inp_flat_at (c : Dev nD) (a : Fin 1) : FlatAt (inpOf (arr a) c a).view (c.val % 2 * ((arr a).R * (arr a).C)) := by
  have h := ((flat_isWhole (arr a).hi).slice _ (rect_three (K := 2) (L := 1) (k := c.val % 2) (offI a c) (offI_eq a c) (offI_inb (arr a) a c))).reshape ⟨2, ![(arr a).R, (arr a).C]⟩ (arr a).sq3.numel_eq
  rw [Nat.zero_add] at h
  exact h

theorem own_flat_at (c : Dev nD) (a : Fin 1) : FlatAt (ownOf (arr a) c a).view ((c.val / 2 * 2 + 0) * ((arr a).R * (arr a).C)) := by
  have h := ((flat_isWhole (arr a).ho).slice _ (rect_four (K := 4) (H := 2) (L := 2) (k := c.val / 2) (h := 0) (offL a c) (offL_eq a c) (offL_inb (arr a) a c))).reshape ⟨3, ![2, (arr a).R, (arr a).C]⟩ (arr a).sqL.numel_eq
  rw [Nat.zero_add] at h
  exact h

theorem whole_flat_at (a : Fin 1) : FlatAt (arr a).i.view (0 * ((arr a).R * (arr a).C)) := by
  have h := flat_isWhole (arr a).hi
  rw [Nat.zero_mul]
  exact h

def table : Table net pat where
  inp a := (arr a).i.view.ref
  out a := (arr a).o.view.ref
  n a := (arr a).R * (arr a).C
  n_pos := by decide +kernel
  out_inj := by decide +kernel
  out_inp := by decide +kernel
  elt_eq := by decide +kernel
  numel := by decide +kernel
  perm_eq _ _ := rfl
  dst_ref _ _ _ := rfl
  dst_flat c a k := dst_flat_at c a k
  src_ref c a k := by rcases k with j | j <;> rfl
  src_flat c a k := by
    rcases k with j | j
    exacts [inp_flat_at c a, dst_flat_at c a _]
  size c a k := by revert c a k; decide +kernel
  dst_refL _ _ _ := rfl
  dst_flatL c a _ := own_flat_at c a
  src_refL _ _ _ := rfl
  src_flatL _ a _ := whole_flat_at a
  sizeL c a l := by revert c a l; decide +kernel

/-- The call, started on all devices with every semaphore at zero, terminates without a fault; the arguments are as
    before, every result holds the blocks of all chips, and every semaphore is at zero. -/
theorem run_main (m : (ℓ : Loc nD τ sig) → Buf (Elt F) ℓ) (g : Dev nD → PrngReg) :
    θ_run defs (onTc main) ⟨m, fun _ => 0, g⟩ (fun r => (∀ c : Dev nD, ∀ a,
        r.2.mem ((c.tc : Thread nD τ).loc (table.inp a)) = m ((c.tc : Thread nD τ).loc (table.inp a)) ∧ table.Holds m r.2.mem c a)
      ∧ r.2.sem = fun _ => 0) := by
  refine (θ_run _ _ _).mono (fun r h => ⟨h.1, Idealize.ShloMosaic.sem_eq_zero_of_scoped (by decide) h.2⟩)
    (table.run (Val := Elt F) cfgs Gen.cellOf_inj Gen.N_0 (by decide +kernel) (by decide +kernel) defs₀ m g main (fun _ => rfl) plan ?_ (by decide +kernel) (by decide +kernel))
  intro c t Q
  show (Net.wpc defs₀ c _ _ : sProp (MT nD τ sig Unit (Elt F) ℕ (UX nD τ sig) ℕ)) ⊢ wp frame (wpE defs₀ Variants.none (c.tc : Thread nD τ) none) Set.univ (defs₀ (F := F) .tc 0 _) _
  rw [body_eq, wp_deviceId]

end Cert.GatherSmallIdeal.Call

end
-- ==== Proof.GatherSmallClaim.lean ====
/-
# The gather of the small gradients: the claims

The claims of this call: that it ends without a fault and with every semaphore at zero, and that its results are the
blocks of the reference's results, bit for bit and in the ideal reading.
-/
module

public import proofs.«01_k».proof.Defs
public import proofs.«01_k».proof.Proof.GatherSmallCall
public import proofs.«01_k».proof.Proof.GatherValue
public import proofs.«01_k».proof.Proof.Gen.GatherSmall
public import proofs.«01_k».proof.Proof.Gen.GatherSmallRef
public import proofs.«01_k».proof.Proof.Gen.GatherSmallRefIdeal
public import proofs.«01_k».proof.Proof.Gen.GatherSmallRefIdeal.Run

@[expose] public section

set_option maxRecDepth 65536
set_option maxHeartbeats 2000000

noncomputable section

namespace Cert.GatherSmallClaim

open Idealize.SL.Sem Idealize.ShloMosaic Idealize.ShloMosaic.TcCoe Cert.Exchange Cert.GatherSmallIdeal.Call

theorem giver_val : ∀ (d : Dev Cert.GatherSmallIdeal.nD) (q : ℕ), q < 8 → (giver d q).val / 2 = q / 2 := by decide +kernel

/-- The results of the call are the blocks of the reference's results, whatever the reading of the floats: nothing but
    copies is done by either. -/
theorem value {F : FTy → Type} [FloatOps F] :
  ∀ (m : (ℓ : Loc Cert.GatherSmallIdeal.nD Cert.GatherSmallIdeal.τ Cert.GatherSmallIdeal.sig) → Buf (Elt F) ℓ) (g : Dev Cert.GatherSmallIdeal.nD → PrngReg)
    (m' : (ℓ : Loc Cert.GatherSmallRefIdeal.nD Cert.GatherSmallRefIdeal.τ Cert.GatherSmallRefIdeal.sig) → Buf (Elt F) ℓ) (g' : Dev Cert.GatherSmallRefIdeal.nD → PrngReg),
    (∀ c : Dev Cert.GatherSmallIdeal.nD,
      m ((c.tc : Thread Cert.GatherSmallIdeal.nD Cert.GatherSmallIdeal.τ).loc Cert.GatherSmallIdeal.main_arg0) = Layout.blockN ⟨3, ![2, 240, 128]⟩ ⟨3, ![8, 240, 128]⟩ (Layout.meshBlock [2, 2, 2] ![[0, 1], [], []] c) (m' (((0 : Dev Cert.GatherSmallRefIdeal.nD).tc : Thread Cert.GatherSmallRefIdeal.nD Cert.GatherSmallRefIdeal.τ).loc Cert.GatherSmallRefIdeal.main_arg0))) →
    ∃ (v0 : Buf (Elt F) (((0 : Dev Cert.GatherSmallRefIdeal.nD).tc : Thread Cert.GatherSmallRefIdeal.nD Cert.GatherSmallRefIdeal.τ).loc Cert.GatherSmallRefIdeal.main_v0)),
      θ_run (Cert.GatherSmallIdeal.defs (F := F)) (onTc (τ := Cert.GatherSmallIdeal.τ) (Cert.GatherSmallIdeal.main (F := F))) ⟨m, fun _ => 0, g⟩ (fun r => ∀ c : Dev Cert.GatherSmallIdeal.nD,
          r.2.mem ((c.tc : Thread Cert.GatherSmallIdeal.nD Cert.GatherSmallIdeal.τ).loc Cert.GatherSmallIdeal.main_v1) = v0
          ∧ r.2.mem ((c.tc : Thread Cert.GatherSmallIdeal.nD Cert.GatherSmallIdeal.τ).loc Cert.GatherSmallIdeal.main_arg0) = m ((c.tc : Thread Cert.GatherSmallIdeal.nD Cert.GatherSmallIdeal.τ).loc Cert.GatherSmallIdeal.main_arg0))
      ∧ θ_run (Cert.GatherSmallRefIdeal.defs (F := F)) (onTc (τ := Cert.GatherSmallRefIdeal.τ) (Cert.GatherSmallRefIdeal.main (F := F))) ⟨m', fun _ => 0, g'⟩ (fun r =>
          r.2.mem (((0 : Dev Cert.GatherSmallRefIdeal.nD).tc : Thread Cert.GatherSmallRefIdeal.nD Cert.GatherSmallRefIdeal.τ).loc Cert.GatherSmallRefIdeal.main_v0) = v0
          ∧ r.2.mem (((0 : Dev Cert.GatherSmallRefIdeal.nD).tc : Thread Cert.GatherSmallRefIdeal.nD Cert.GatherSmallRefIdeal.τ).loc Cert.GatherSmallRefIdeal.main_arg0) = m' (((0 : Dev Cert.GatherSmallRefIdeal.nD).tc : Thread Cert.GatherSmallRefIdeal.nD Cert.GatherSmallRefIdeal.τ).loc Cert.GatherSmallRefIdeal.main_arg0)) := by
  intro m g m' g' H
  refine ⟨_, (θ_run Cert.GatherSmallIdeal.defs _ _).mono (fun r h c => ?_) (run_main (F := F) m g),
    (θ_run Cert.GatherSmallRefIdeal.defs _ _).mono (fun r h => h 0) (Cert.GatherSmallRefIdeal.Value.run (F := F) m' g')⟩
  exact ⟨gather_value (fun q => giver c q) (giver_val c) _ (fun q => m ((giver c q).tc.loc Cert.GatherSmallIdeal.main_arg0)) _ _ _ (fun q => (H (giver c q)))
      (fun q hq t ht => (h.1 c 0).2 q hq t ht),
    (h.1 c 0).1⟩

/-- The call, on the bits, ends without a fault, leaves its arguments alone and every semaphore at zero. -/
theorem quiescent_GatherSmall : Cert.quiescent_GatherSmall := fun m g _ =>
  (θ_run Cert.GatherSmallIdeal.defs _ _).mono (fun _ h => ⟨fun c => (h.1 c 0).1, h.2⟩) (run_main (F := Bits) m g)

/-- The call, in the ideal reading, ends without a fault, leaves its arguments alone and every semaphore at zero. -/
theorem quiescent_GatherSmallIdeal : Cert.quiescent_GatherSmallIdeal := fun m g _ =>
  (θ_run Cert.GatherSmallIdeal.defs _ _).mono (fun _ h => ⟨fun c => (h.1 c 0).1, h.2⟩) (run_main (F := Ideal) m g)

/-- The reference, on the bits, ends without a fault and leaves its arguments alone; it has no semaphore. -/
theorem quiescent_GatherSmallRef : Cert.quiescent_GatherSmallRef := fun m g _ =>
  (θ_run Cert.GatherSmallRefIdeal.defs _ _).mono (fun _ h => ⟨fun c => (h c).2, sem_eq_zero_of_no_sems (by decide) _⟩) (Cert.GatherSmallRefIdeal.Value.run (F := Bits) m g)

/-- The reference, in the ideal reading, ends without a fault and leaves its arguments alone; it has no semaphore. -/
theorem quiescent_GatherSmallRefIdeal : Cert.quiescent_GatherSmallRefIdeal := fun m g _ =>
  (θ_run Cert.GatherSmallRefIdeal.defs _ _).mono (fun _ h => ⟨fun c => (h c).2, sem_eq_zero_of_no_sems (by decide) _⟩) (Cert.GatherSmallRefIdeal.Value.run (F := Ideal) m g)

/-- The ideal reading of the call rewrites nothing. -/
theorem preserves : Cert.preserves_GatherSmall_GatherSmallIdeal := trivial

/-- The results of the call are the blocks of the reference's results, bit for bit. -/
theorem bitexact : Cert.bitexact_GatherSmall_GatherSmallRef := fun m g m' g' _ H => value (F := Bits) m g m' g' H

/-- The results of the call are the blocks of the reference's results, in the ideal reading. -/
theorem algebraic : Cert.algebraic_GatherSmallIdeal_GatherSmallRefIdeal := fun m g m' g' _ H => value (F := Ideal) m g m' g' H

end Cert.GatherSmallClaim

end
-- ==== Proof.AdamUpClaim.lean ====
/-
  The AdamW step of the gate and up projections: both frames, the frame of the reference, and the equation of the two
  over the extended reals.  The kernel walks the rows tile by tile; the reference is the
  textbook formula on the whole arrays.
-/
module

public import proofs.«01_k».proof.Defs
public import proofs.«01_k».proof.Proof.Gen.AdamUp
public import proofs.«01_k».proof.Proof.Gen.AdamUp.Frame
public import proofs.«01_k».proof.Proof.Gen.AdamUpIdeal.Frame
public import proofs.«01_k».proof.Proof.Gen.AdamUpIdeal.Value
public import proofs.«01_k».proof.Proof.Gen.AdamUpRefIdeal.Run

@[expose] public section

namespace Cert.AdamUpProof

open Idealize.ShloMosaic Idealize.ShloMosaic.TcCoe Idealize.SL.Sem

/-- The kernel runs to its end, its arguments kept, its counters at zero. -/
theorem frame : Cert.quiescent_AdamUp (hAdamUp := Cert.AdamUp.Gen.facts) := fun m ρ _ => Cert.AdamUp.Gen.frame m ρ

/-- The same of the kernel over the extended reals. -/
theorem frame_ideal : Cert.quiescent_AdamUpIdeal (hAdamUpIdeal := Cert.AdamUpIdeal.Gen.facts) := fun m ρ _ => Cert.AdamUpIdeal.Gen.frame m ρ

/-- The same of the reference. -/
theorem frame_ref : Cert.quiescent_AdamUpRefIdeal (hAdamUpRefIdeal := Cert.AdamUpRefIdeal.Gen.facts) :=
  fun m ρ _ => (θ_run Cert.AdamUpRefIdeal.defs _ _).mono (fun _ h => ⟨fun c => (h c).2.2.2, sem_eq_zero_of_no_sems (by decide) _⟩) (Cert.AdamUpRefIdeal.Value.run m ρ)

/-- Kernel and reference end with the same update, first moment and second moment over the extended reals. -/
theorem algebraic : Cert.algebraic_AdamUpIdeal_AdamUpRefIdeal (hAdamUpIdeal := Cert.AdamUpIdeal.Gen.facts) (hAdamUpRefIdeal := Cert.AdamUpRefIdeal.Gen.facts) :=
  fun m g m' g' _ h => by
    refine ⟨_, _, _, Cert.AdamUpIdeal.Value.run m g, (θ_run _ _ _).mono (fun r hr c => ?_) (Cert.AdamUpRefIdeal.Value.run m' g')⟩
    obtain ⟨d, nm, nv, k⟩ := hr c
    obtain ⟨h0, h1, h2, h3⟩ := h c
    refine ⟨d.trans ?_, nm.trans ?_, nv.trans ?_, k⟩
    · rw [h0, h1, h2, h3]; rfl
    · rw [h1, h2]; rfl
    · rw [h1, h3]; rfl

end Cert.AdamUpProof
-- ==== Proof.AdamDownClaim.lean ====
/-
  The AdamW step of the down projections: both frames, the frame of the reference, and the equation of the two
  over the extended reals.  The kernel walks the rows tile by tile; the reference is the
  textbook formula on the whole arrays.
-/
module

public import proofs.«01_k».proof.Defs
public import proofs.«01_k».proof.Proof.Gen.AdamDown
public import proofs.«01_k».proof.Proof.Gen.AdamDown.Frame
public import proofs.«01_k».proof.Proof.Gen.AdamDownIdeal.Frame
public import proofs.«01_k».proof.Proof.Gen.AdamDownIdeal.Value
public import proofs.«01_k».proof.Proof.Gen.AdamDownRefIdeal.Run

@[expose] public section

namespace Cert.AdamDownProof

open Idealize.ShloMosaic Idealize.ShloMosaic.TcCoe Idealize.SL.Sem

/-- The kernel runs to its end, its arguments kept, its counters at zero. -/
theorem frame : Cert.quiescent_AdamDown (hAdamDown := Cert.AdamDown.Gen.facts) := fun m ρ _ => Cert.AdamDown.Gen.frame m ρ

/-- The same of the kernel over the extended reals. -/
theorem frame_ideal : Cert.quiescent_AdamDownIdeal (hAdamDownIdeal := Cert.AdamDownIdeal.Gen.facts) := fun m ρ _ => Cert.AdamDownIdeal.Gen.frame m ρ

/-- The same of the reference. -/
theorem frame_ref : Cert.quiescent_AdamDownRefIdeal (hAdamDownRefIdeal := Cert.AdamDownRefIdeal.Gen.facts) :=
  fun m ρ _ => (θ_run Cert.AdamDownRefIdeal.defs _ _).mono (fun _ h => ⟨fun c => (h c).2.2.2, sem_eq_zero_of_no_sems (by decide) _⟩) (Cert.AdamDownRefIdeal.Value.run m ρ)

/-- Kernel and reference end with the same update, first moment and second moment over the extended reals. -/
theorem algebraic : Cert.algebraic_AdamDownIdeal_AdamDownRefIdeal (hAdamDownIdeal := Cert.AdamDownIdeal.Gen.facts) (hAdamDownRefIdeal := Cert.AdamDownRefIdeal.Gen.facts) :=
  fun m g m' g' _ h => by
    refine ⟨_, _, _, Cert.AdamDownIdeal.Value.run m g, (θ_run _ _ _).mono (fun r hr c => ?_) (Cert.AdamDownRefIdeal.Value.run m' g')⟩
    obtain ⟨d, nm, nv, k⟩ := hr c
    obtain ⟨h0, h1, h2, h3⟩ := h c
    refine ⟨d.trans ?_, nm.trans ?_, nv.trans ?_, k⟩
    · rw [h0, h1, h2, h3]; rfl
    · rw [h1, h2]; rfl
    · rw [h1, h3]; rfl

end Cert.AdamDownProof
-- ==== Proof.AdamSquareClaim.lean ====
/-
  The AdamW step of the input and output projections of the mixer: both frames, the frame of the reference, and the equation of the two
  over the extended reals.  The kernel walks the rows tile by tile; the reference is the
  textbook formula on the whole arrays.
-/
module

public import proofs.«01_k».proof.Defs
public import proofs.«01_k».proof.Proof.Gen.AdamSquare
public import proofs.«01_k».proof.Proof.Gen.AdamSquare.Frame
public import proofs.«01_k».proof.Proof.Gen.AdamSquareIdeal.Frame
public import proofs.«01_k».proof.Proof.Gen.AdamSquareIdeal.Value
public import proofs.«01_k».proof.Proof.Gen.AdamSquareRefIdeal.Run

@[expose] public section

namespace Cert.AdamSquareProof

open Idealize.ShloMosaic Idealize.ShloMosaic.TcCoe Idealize.SL.Sem

/-- The kernel runs to its end, its arguments kept, its counters at zero. -/
theorem frame : Cert.quiescent_AdamSquare (hAdamSquare := Cert.AdamSquare.Gen.facts) := fun m ρ _ => Cert.AdamSquare.Gen.frame m ρ

/-- The same of the kernel over the extended reals. -/
theorem frame_ideal : Cert.quiescent_AdamSquareIdeal (hAdamSquareIdeal := Cert.AdamSquareIdeal.Gen.facts) := fun m ρ _ => Cert.AdamSquareIdeal.Gen.frame m ρ

/-- The same of the reference. -/
theorem frame_ref : Cert.quiescent_AdamSquareRefIdeal (hAdamSquareRefIdeal := Cert.AdamSquareRefIdeal.Gen.facts) :=
  fun m ρ _ => (θ_run Cert.AdamSquareRefIdeal.defs _ _).mono (fun _ h => ⟨fun c => (h c).2.2.2, sem_eq_zero_of_no_sems (by decide) _⟩) (Cert.AdamSquareRefIdeal.Value.run m ρ)

/-- Kernel and reference end with the same update, first moment and second moment over the extended reals. -/
theorem algebraic : Cert.algebraic_AdamSquareIdeal_AdamSquareRefIdeal (hAdamSquareIdeal := Cert.AdamSquareIdeal.Gen.facts) (hAdamSquareRefIdeal := Cert.AdamSquareRefIdeal.Gen.facts) :=
  fun m g m' g' _ h => by
    refine ⟨_, _, _, Cert.AdamSquareIdeal.Value.run m g, (θ_run _ _ _).mono (fun r hr c => ?_) (Cert.AdamSquareRefIdeal.Value.run m' g')⟩
    obtain ⟨d, nm, nv, k⟩ := hr c
    obtain ⟨h0, h1, h2, h3⟩ := h c
    refine ⟨d.trans ?_, nm.trans ?_, nv.trans ?_, k⟩
    · rw [h0, h1, h2, h3]; rfl
    · rw [h1, h2]; rfl
    · rw [h1, h3]; rfl

end Cert.AdamSquareProof
-- ==== Proof.AdamMetaClaim.lean ====
/-
  The AdamW step of the meta tokens: both frames, the frame of the reference, and the equation of the two
  over the extended reals.  The kernel walks the rows tile by tile; the reference is the
  textbook formula on the whole arrays.
-/
module

public import proofs.«01_k».proof.Defs
public import proofs.«01_k».proof.Proof.Gen.AdamMeta
public import proofs.«01_k».proof.Proof.Gen.AdamMeta.Frame
public import proofs.«01_k».proof.Proof.Gen.AdamMetaIdeal.Frame
public import proofs.«01_k».proof.Proof.Gen.AdamMetaIdeal.Value
public import proofs.«01_k».proof.Proof.Gen.AdamMetaRefIdeal.Run

@[expose] public section

namespace Cert.AdamMetaProof

open Idealize.ShloMosaic Idealize.ShloMosaic.TcCoe Idealize.SL.Sem

/-- The kernel runs to its end, its arguments kept, its counters at zero. -/
theorem frame : Cert.quiescent_AdamMeta (hAdamMeta := Cert.AdamMeta.Gen.facts) := fun m ρ _ => Cert.AdamMeta.Gen.frame m ρ

/-- The same of the kernel over the extended reals. -/
theorem frame_ideal : Cert.quiescent_AdamMetaIdeal (hAdamMetaIdeal := Cert.AdamMetaIdeal.Gen.facts) := fun m ρ _ => Cert.AdamMetaIdeal.Gen.frame m ρ

/-- The same of the reference. -/
theorem frame_ref : Cert.quiescent_AdamMetaRefIdeal (hAdamMetaRefIdeal := Cert.AdamMetaRefIdeal.Gen.facts) :=
  fun m ρ _ => (θ_run Cert.AdamMetaRefIdeal.defs _ _).mono (fun _ h => ⟨fun c => (h c).2.2.2, sem_eq_zero_of_no_sems (by decide) _⟩) (Cert.AdamMetaRefIdeal.Value.run m ρ)

/-- Kernel and reference end with the same update, first moment and second moment over the extended reals. -/
theorem algebraic : Cert.algebraic_AdamMetaIdeal_AdamMetaRefIdeal (hAdamMetaIdeal := Cert.AdamMetaIdeal.Gen.facts) (hAdamMetaRefIdeal := Cert.AdamMetaRefIdeal.Gen.facts) :=
  fun m g m' g' _ h => by
    refine ⟨_, _, _, Cert.AdamMetaIdeal.Value.run m g, (θ_run _ _ _).mono (fun r hr c => ?_) (Cert.AdamMetaRefIdeal.Value.run m' g')⟩
    obtain ⟨d, nm, nv, k⟩ := hr c
    obtain ⟨h0, h1, h2, h3⟩ := h c
    refine ⟨d.trans ?_, nm.trans ?_, nv.trans ?_, k⟩
    · rw [h0, h1, h2, h3]; rfl
    · rw [h1, h2]; rfl
    · rw [h1, h3]; rfl

end Cert.AdamMetaProof
-- ==== Proof.AdamSmallClaim.lean ====
/-
  The AdamW step of the packed small weights: both frames, the frame of the reference, and the equation of the two
  over the extended reals.  The kernel walks the rows tile by tile; the reference is the
  textbook formula on the whole arrays.
-/
module

public import proofs.«01_k».proof.Defs
public import proofs.«01_k».proof.Proof.Gen.AdamSmall
public import proofs.«01_k».proof.Proof.Gen.AdamSmall.Frame
public import proofs.«01_k».proof.Proof.Gen.AdamSmallIdeal.Frame
public import proofs.«01_k».proof.Proof.Gen.AdamSmallIdeal.Value
public import proofs.«01_k».proof.Proof.Gen.AdamSmallRefIdeal.Run

@[expose] public section

namespace Cert.AdamSmallProof

open Idealize.ShloMosaic Idealize.ShloMosaic.TcCoe Idealize.SL.Sem

/-- The kernel runs to its end, its arguments kept, its counters at zero. -/
theorem frame : Cert.quiescent_AdamSmall (hAdamSmall := Cert.AdamSmall.Gen.facts) := fun m ρ _ => Cert.AdamSmall.Gen.frame m ρ

/-- The same of the kernel over the extended reals. -/
theorem frame_ideal : Cert.quiescent_AdamSmallIdeal (hAdamSmallIdeal := Cert.AdamSmallIdeal.Gen.facts) := fun m ρ _ => Cert.AdamSmallIdeal.Gen.frame m ρ

/-- The same of the reference. -/
theorem frame_ref : Cert.quiescent_AdamSmallRefIdeal (hAdamSmallRefIdeal := Cert.AdamSmallRefIdeal.Gen.facts) :=
  fun m ρ _ => (θ_run Cert.AdamSmallRefIdeal.defs _ _).mono (fun _ h => ⟨fun c => (h c).2.2.2, sem_eq_zero_of_no_sems (by decide) _⟩) (Cert.AdamSmallRefIdeal.Value.run m ρ)

/-- Kernel and reference end with the same update, first moment and second moment over the extended reals. -/
theorem algebraic : Cert.algebraic_AdamSmallIdeal_AdamSmallRefIdeal (hAdamSmallIdeal := Cert.AdamSmallIdeal.Gen.facts) (hAdamSmallRefIdeal := Cert.AdamSmallRefIdeal.Gen.facts) :=
  fun m g m' g' _ h => by
    refine ⟨_, _, _, Cert.AdamSmallIdeal.Value.run m g, (θ_run _ _ _).mono (fun r hr c => ?_) (Cert.AdamSmallRefIdeal.Value.run m' g')⟩
    obtain ⟨d, nm, nv, k⟩ := hr c
    obtain ⟨h0, h1, h2, h3⟩ := h c
    refine ⟨d.trans ?_, nm.trans ?_, nv.trans ?_, k⟩
    · rw [h0, h1, h2, h3]; rfl
    · rw [h1, h2]; rfl
    · rw [h1, h3]; rfl

end Cert.AdamSmallProof
-- ==== Proof.Products.lean ====
/-
  The mathematics of the weight gradients: an entry of the product of two arrays is a sum over the tokens, and a
  quantity that gathers one stretch of the tokens after another ends at the whole of that sum.
-/
module

public import Idealize.ShloMosaic.Lib.Pipeline.Value
public import Idealize.ShloMosaic.Lib.Pipeline.ValueKit.Acc
public import Idealize.ShloMosaic.Lib.Pipeline.ValueKit.Geometry
public import Idealize.ShloMosaic.Lib.Pointwise

@[expose] public section

namespace Cert.Products

open Idealize.ShloMosaic

theorem hz2 : (![0, 0] : Fin 2 → ℕ) = fun _ => 0 := funext fun a => by fin_cases a <;> rfl
theorem hz4 : (![0, 0, 0, 0] : Fin 4 → ℕ) = fun _ => 0 := funext fun a => by fin_cases a <;> rfl

/-- The entry of an array at a row and a column given as numbers, zero outside the array. -/
noncomputable def at2 {A B : ℕ} (X : (⟨2, ![A, B]⟩ : Shape).Idx → EReal) (a b : ℕ) : EReal :=
  if h : a < A ∧ b < B then X (ix2 ⟨a, h.1⟩ ⟨b, h.2⟩) else 0

/-- At a place of the array it is the array's entry there. -/
theorem at2_idx {A B : ℕ} (X : (⟨2, ![A, B]⟩ : Shape).Idx → EReal) (i : (⟨2, ![A, B]⟩ : Shape).Idx) {a b : ℕ}
    (ha : (i 0).val = a) (hb : (i 1).val = b) : X i = at2 X a b := by
  subst ha hb
  rw [at2, dif_pos ⟨(i 0).isLt, (i 1).isLt⟩]
  exact congrArg X (eq_ix2 i)

/-- An entry of the product of two arrays over the tokens. -/
noncomputable def overTokens {A B : ℕ} (X : (⟨2, ![8208, A]⟩ : Shape).Idx → EReal) (Y : (⟨2, ![8208, B]⟩ : Shape).Idx → EReal)
    (a b : ℕ) : EReal := ∑ s : Fin 8208, at2 X s.val a * at2 Y s.val b

/-- A quantity that starts anew at every `J`-th point with the first stretch of `B` terms, and gathers the next stretch
    at each point after it, holds at the last point of its run all the terms of the run. -/
theorem gathered {N L : ℕ} (f : (n : ℕ) → n < N → EReal) (J B : ℕ) (g : ℕ → ℕ → EReal)
    (h0 : ∀ t : Fin N, t.val % J = 0 → f t.val t.isLt = ∑ k : Fin B, g (t.val / J) (t.val % J * B + k.val))
    (hs : ∀ t : Fin N, ¬t.val % J = 0 → f t.val t.isLt
      = f (t.val - 1) (Nat.lt_of_le_of_lt (Nat.sub_le _ _) t.isLt) + ∑ k : Fin B, g (t.val / J) (t.val % J * B + k.val))
    (t : Fin N) {r : ℕ} (hr : t.val % J = r) (hL : L = (r + 1) * B) : f t.val t.isLt = ∑ s : Fin L, g (t.val / J) s.val := by
  subst hL
  rw [Pipeline.eq_sum_of_reset_step_divmod f J 0 (fun a s => ∑ k : Fin B, g a (s * B + k.val))
    (fun t h => (h0 t h).trans (zero_add _).symm) hs t, zero_add, hr,
    ← Fin.sum_univ_univ_mul_add (r + 1) B (g (t.val / J)),
    ← Fin.sum_univ_eq_sum_range (fun s => ∑ k : Fin B, g (t.val / J) (s * B + k.val))]

/-- A block of a product, gathered over nine stretches of 912 tokens: `x t` and `y t` are the two arrays' rows of the
    stretch, `p` and `q` the block's first row and column by its place among the runs. -/
theorem block_gathered {N A B a b : ℕ} (f : (n : ℕ) → n < N → EReal) (X : (⟨2, ![8208, A]⟩ : Shape).Idx → EReal)
    (Y : (⟨2, ![8208, B]⟩ : Shape).Idx → EReal) (x : Fin N → (⟨2, ![912, a]⟩ : Shape).Idx → EReal)
    (y : Fin N → (⟨2, ![912, b]⟩ : Shape).Idx → EReal) (p q : ℕ → ℕ) (r : Fin a) (l : Fin b)
    (hx : ∀ t k, x t (ix2 k r) = at2 X (t.val % 9 * 912 + k.val) (p (t.val / 9) + r.val))
    (hy : ∀ t k, y t (ix2 k l) = at2 Y (t.val % 9 * 912 + k.val) (q (t.val / 9) + l.val))
    (h0 : ∀ t : Fin N, t.val % 9 = 0 → f t.val t.isLt = ∑ k : Fin 912, x t (ix2 k r) * y t (ix2 k l))
    (hs : ∀ t : Fin N, ¬t.val % 9 = 0 → f t.val t.isLt
      = f (t.val - 1) (Nat.lt_of_le_of_lt (Nat.sub_le _ _) t.isLt) + ∑ k : Fin 912, x t (ix2 k r) * y t (ix2 k l))
    (t : Fin N) (ht : t.val % 9 = 8) : f t.val t.isLt = overTokens X Y (p (t.val / 9) + r.val) (q (t.val / 9) + l.val) := by
  simp only [hx, hy] at h0 hs
  exact gathered f 9 912 (fun u s => at2 X s (p u + r.val) * at2 Y s (q u + l.val)) h0 hs t ht rfl

end Cert.Products
-- ==== Proof.LossGradClaim.lean ====
/-
  The loss and its gradient on one device's tokens: both frames, the frame of the reference, and the equation of the two
  over the extended reals.  The kernel walks the tokens in nineteen stretches, writes the error over the width and gathers
  the squares column by column; the reference does the same on the whole arrays.
-/
module

public import proofs.«01_k».proof.Defs
public import proofs.«01_k».proof.Proof.Products
public import proofs.«01_k».proof.Proof.Gen.LossGrad
public import proofs.«01_k».proof.Proof.Gen.LossGrad.Frame
public import proofs.«01_k».proof.Proof.Gen.LossGradIdeal.Frame
public import proofs.«01_k».proof.Proof.Gen.LossGradIdeal.Value
public import proofs.«01_k».proof.Proof.Gen.LossGradRefIdeal.Run
public import Idealize.ShloMosaic.Lib.WordCmp

@[expose] public section

namespace Cert.LossGradProof

open Idealize.ShloMosaic Idealize.ShloMosaic.TcCoe Idealize.SL.Sem
open Cert.LossGradIdeal Cert.LossGradIdeal.Gen Cert.Products

variable (m : (ℓ : Loc nD τ sig) → Buf (Elt Ideal) ℓ)

/-- A choice by whether a row is past the sixteen meta tokens. -/
theorem past_meta (n : ℕ) (hn : n < 8208) (a b : EReal) :
    Scalar.select (IntOp.cmpi .sge (BitVec.ofNat 32 n) 16#32) a b = if 16 ≤ n then a else b := by
  rw [WordCmp.cmpi_sge_ofNat (w := 32) (b := 16) (lt_trans hn (by decide)) (by decide), WordCmp.select_decide]

/-- The error at a row and a column: none on the meta tokens. -/
noncomputable def err (X T : (⟨2, ![8208, 1024]⟩ : Shape).Idx → EReal) (n l : ℕ) : EReal :=
  if 16 ≤ n then at2 X n l - at2 T n l else 0

/-- The reference's error at an index. -/
theorem err_idx (X T : (⟨2, ![8208, 1024]⟩ : Shape).Idx → EReal) (n : Fin 8208) (l : Fin 1024) :
    Scalar.select (IntOp.cmpi .sge (BitVec.ofNat 32 n.val) 16#32) (X (ix2 n l) - T (ix2 n l)) (Ideal.ofBits .f32 0x00000000#32) = err X T n.val l.val := by
  rw [past_meta _ n.isLt, Ideal.ofBits_zero_f32, at2_idx X (ix2 n l) rfl rfl, at2_idx T (ix2 n l) rfl rfl]; rfl

/-- A column's sum of squared errors. -/
noncomputable def squares (X T : (⟨2, ![8208, 1024]⟩ : Shape).Idx → EReal) (l : ℕ) : EReal := ∑ s : Fin 8208, err X T s.val l * err X T s.val l

/-- A stretch's error, its first row given by the grid. -/
theorem err_apply (i : grid0.Coords) (x y : Vec Ideal S432x1024 .f32) (k : Fin 432) (l : Fin 1024) :
    k0_pay1 i x y (ix2 k l) = if 16 ≤ (i 0).val * 432 + k.val then x (ix2 k l) - y (ix2 k l) else 0 := by
  have hi : (i 0).val < 19 := (i 0).isLt
  pointwise [k0_pay1]
  have e : IntOp.addi (Scalar.muli (BitVec.ofNat 32 (i 0).val) 432#32) (BitVec.ofNat 32 k.val) = BitVec.ofNat 32 ((i 0).val * 432 + k.val) := by
    rw [BitVec.ofNat_add, BitVec.ofNat_mul]; rfl
  rw [e, past_meta _ (by omega)]

/-- Every step writes its error over the width. -/
theorem written_first (c : Dev nD) (i : grid0.Coords) (a1 : Memref sig .tc .vmem S432x1024 .f32) (h1 : a1.IsWhole)
    (a2 : Memref sig .tc .vmem S432x1024 .f32) (h2 : a2.IsWhole) (a3 : Memref sig .tc .vmem S432x1024 .f32) (h3 : a3.IsWhole)
    (a4 : Memref sig .tc .vmem S1x1024 .f32) (h4 : a4.IsWhole) (hc hd) (x y : Vec Ideal S432x1024 .f32) :
    out0_A_2 c i a1 h1 a2 h2 a3 h3 a4 h4 hc hd x y = k0_pay2 i x y := by
  unfold out0_A_2
  rw [View.read_writes_eq_canon _ _ _ (cover0_A_2 c i a1 h1 a2 h2 a3 h3 a4 h4 hc hd x y)]
  unfold kernelRun0_A
  dsimp only
  rw [View.canon_unit_zero hz2]
  simp only [View.readAt_eq_ld, h1.read_unread, h2.read_unread, View.ld_unit_zero (S := S432x1024) hz2]

theorem written_later (c : Dev nD) (i : grid0.Coords) (a1 : Memref sig .tc .vmem S432x1024 .f32) (h1 : a1.IsWhole)
    (a2 : Memref sig .tc .vmem S432x1024 .f32) (h2 : a2.IsWhole) (a3 : Memref sig .tc .vmem S432x1024 .f32) (h3 : a3.IsWhole)
    (a4 : Memref sig .tc .vmem S1x1024 .f32) (h4 : a4.IsWhole) (hc hd) (x y : Vec Ideal S432x1024 .f32) (o : Vec Ideal S1x1024 .f32) :
    out0_B_2 c i a1 h1 a2 h2 a3 h3 a4 h4 hc hd x y o = k0_pay2 i x y := by
  unfold out0_B_2
  rw [View.read_writes_eq_canon _ _ _ (cover0_B_2 c i a1 h1 a2 h2 a3 h3 a4 h4 hc hd x y o)]
  unfold kernelRun0_B
  dsimp only
  rw [View.canon_unit_zero hz2]
  simp only [View.readAt_eq_ld, h1.read_unread, h2.read_unread, View.ld_unit_zero (S := S432x1024) hz2]

/-- The first step leaves the column sums of its squares. -/
theorem first (c : Dev nD) (i : grid0.Coords) (a1 : Memref sig .tc .vmem S432x1024 .f32) (h1 : a1.IsWhole)
    (a2 : Memref sig .tc .vmem S432x1024 .f32) (h2 : a2.IsWhole) (a3 : Memref sig .tc .vmem S432x1024 .f32) (h3 : a3.IsWhole)
    (a4 : Memref sig .tc .vmem S1x1024 .f32) (h4 : a4.IsWhole) (hc hd) (x y : Vec Ideal S432x1024 .f32) (l : Fin 1024) :
    out0_A_3 c i a1 h1 a2 h2 a3 h3 a4 h4 hc hd x y (ix2 0 l) = ∑ k : Fin 432, k0_pay1 i x y (ix2 k l) * k0_pay1 i x y (ix2 k l) := by
  unfold out0_A_3
  rw [View.read_writes_eq_canon _ _ _ (cover0_A_3 c i a1 h1 a2 h2 a3 h3 a4 h4 hc hd x y)]
  unfold kernelRun0_A
  dsimp only
  rw [View.canon_unit_zero hz2]
  simp only [View.readAt_eq_ld, h1.read_unread, h2.read_unread, View.ld_unit_zero (S := S432x1024) hz2]
  pointwise [k0_pay3]

/-- A later step adds them to what it found. -/
theorem later (c : Dev nD) (i : grid0.Coords) (a1 : Memref sig .tc .vmem S432x1024 .f32) (h1 : a1.IsWhole)
    (a2 : Memref sig .tc .vmem S432x1024 .f32) (h2 : a2.IsWhole) (a3 : Memref sig .tc .vmem S432x1024 .f32) (h3 : a3.IsWhole)
    (a4 : Memref sig .tc .vmem S1x1024 .f32) (h4 : a4.IsWhole) (hc hd) (x y : Vec Ideal S432x1024 .f32) (o : Vec Ideal S1x1024 .f32) (l : Fin 1024) :
    out0_B_3 c i a1 h1 a2 h2 a3 h3 a4 h4 hc hd x y o (ix2 0 l)
      = o (ix2 0 l) + ∑ k : Fin 432, k0_pay1 i x y (ix2 k l) * k0_pay1 i x y (ix2 k l) := by
  unfold out0_B_3
  rw [View.read_writes_eq_canon _ _ _ (cover0_B_3 c i a1 h1 a2 h2 a3 h3 a4 h4 hc hd x y o)]
  unfold kernelRun0_B
  dsimp only
  rw [View.canon_unit_zero hz2]
  simp only [View.readAt_eq_ld, h1.read_unread, h2.read_unread, h4.read_unread, View.ld_unit_zero (S := S432x1024) hz2,
    View.ld_unit_zero (S := S1x1024) hz2]
  pointwise [k0_pay4, k0_pay3]

/-- Which blocks a point of the grid works on: the rows of its stretch. -/
theorem places (t : Fin cfg0.N) : (grid0.coords t 0).val = t.val ∧ (win0_0.index t 0 = t.val ∧ win0_0.index t 1 = 0)
    ∧ (win0_1.index t 0 = t.val ∧ win0_1.index t 1 = 0) ∧ (win0_2.index t 0 = t.val ∧ win0_2.index t 1 = 0)
    ∧ win0_3.index t 0 = 0 ∧ win0_3.index t 1 = 0 := by
  revert t; decide +kernel

/-- A point's error, by rows and columns of the whole arrays. -/
theorem err_block (c : Dev nD) (t : Fin cfg0.N) (k : Fin 432) (l : Fin 1024) :
    k0_pay1 (grid0.coords t) (iblk m c 0 t) (iblk m c 1 t) (ix2 k l)
      = err (m ((c : Thread nD τ).loc main_arg0)) (m ((c : Thread nD τ).loc main_arg1)) (t.val * 432 + k.val) l.val := by
  obtain ⟨g, ⟨x0, x1⟩, ⟨y0, y1⟩, -⟩ := places t
  have hx : iblk m c 0 t (ix2 k l) = at2 (m ((c : Thread nD τ).loc main_arg0)) (t.val * 432 + k.val) l.val :=
    at2_idx _ ((win0_0.rect t).emb (ix2 k l))
      ((Pipeline.Window.rect_emb_val win0_0 t (ix2 k l) 0).trans (by rw [x0]; rfl))
      ((Pipeline.Window.rect_emb_val win0_0 t (ix2 k l) 1).trans (by rw [x1, Nat.zero_mul, Nat.zero_add]; rfl))
  have hy : iblk m c 1 t (ix2 k l) = at2 (m ((c : Thread nD τ).loc main_arg1)) (t.val * 432 + k.val) l.val :=
    at2_idx _ ((win0_1.rect t).emb (ix2 k l))
      ((Pipeline.Window.rect_emb_val win0_1 t (ix2 k l) 0).trans (by rw [y0]; rfl))
      ((Pipeline.Window.rect_emb_val win0_1 t (ix2 k l) 1).trans (by rw [y1, Nat.zero_mul, Nat.zero_add]; rfl))
  rw [err_apply, g, hx, hy, err]

/-- The gradient: the error over the width. -/
noncomputable def grad (c : Dev nD) : Buf (Elt Ideal) ((c : Thread nD τ).loc main_v0_0) := fun i : S8208x1024.Idx =>
  err (m ((c : Thread nD τ).loc main_arg0)) (m ((c : Thread nD τ).loc main_arg1)) (i 0).val (i 1).val * Ideal.ofBits .f32 0x3A800000#32

/-- The column sums of the squared error. -/
noncomputable def sums (c : Dev nD) : Buf (Elt Ideal) ((c : Thread nD τ).loc main_v0_1) := fun i : S1x1024.Idx =>
  squares (m ((c : Thread nD τ).loc main_arg0)) (m ((c : Thread nD τ).loc main_arg1)) (i 1).val

/-- A point's block of the gradient. -/
theorem grad_block (c : Dev nD) (t : Fin cfg0.N) (y : S432x1024.Idx) : (outsAt0 m c t.val t.isLt).1 y
    = err (m ((c : Thread nD τ).loc main_arg0)) (m ((c : Thread nD τ).loc main_arg1)) (t.val * 432 + (y 0).val) (y 1).val * Ideal.ofBits .f32 0x3A800000#32 := by
  have hN : cfg0.N = 19 := N_0
  have hp : (outsAt0 m c t.val t.isLt).1 = k0_pay2 (grid0.coords t) (iblk m c 0 t) (iblk m c 1 t) := by
    by_cases h : t.val % 19 = 0
    · rw [outsAt0_A m c t h (by have := t.isLt; omega)]; dsimp only; rw [written_first]
    · rw [outsAt0_B m c t h (by omega)]; dsimp only; rw [written_later]
  obtain ⟨k, l, rfl⟩ : ∃ k l, y = ix2 k l := ⟨_, _, eq_ix2 y⟩
  rw [hp]
  pointwise [k0_pay2]
  rw [err_block]

/-- The last point leaves the column sums. -/
theorem sums_block (c : Dev nD) (t : Fin cfg0.N) (ht : t.val % 19 = 18) (y : S1x1024.Idx) : (outsAt0 m c t.val t.isLt).2 y
    = squares (m ((c : Thread nD τ).loc main_arg0)) (m ((c : Thread nD τ).loc main_arg1)) (y 1).val := by
  have hN : cfg0.N = 19 := N_0
  obtain ⟨l, rfl⟩ : ∃ l, y = ix2 0 l := ⟨y 1, (eq_ix2 y).trans (by congr 1; exact Subsingleton.elim (α := Fin 1) _ _)⟩
  have hm : ∀ t : Fin cfg0.N, t.val % 19 = t.val := fun t => Nat.mod_eq_of_lt (by have := t.isLt; omega)
  refine gathered (fun n h => (outsAt0 m c n h).2 (ix2 0 l)) 19 432 (fun _ s => err _ _ s l.val * err _ _ s l.val) (fun t h => ?_) (fun t h => ?_) t ht rfl
  · rw [outsAt0_A m c t h (by have := t.isLt; omega)]
    dsimp only
    rw [first]
    exact Finset.sum_congr rfl fun k _ => by rw [err_block, hm t]
  · rw [outsAt0_B m c t h (by omega)]
    dsimp only
    rw [later]
    exact congrArg (_ + ·) (Finset.sum_congr rfl fun k _ => by rw [err_block, hm t])

set_option maxRecDepth 20000 in
/-- So the first output array ends as the gradient. -/
theorem final_grad (c : Dev nD) : (dats m 0 c).arrAt 2 cfg0.N = grad m c := by
  have hN : cfg0.N = 19 := N_0
  refine (dats m 0 c).arrAt_eq_of_cover 2 (grad m c) (fun t hf => ?_) (fun (i : S8208x1024.Idx) => ?_)
  · obtain ⟨-, -, -, ⟨i0, i1⟩, -⟩ := places t
    rw [Value.flushed2]
    funext y
    have e0 : ((win0_2.rect t).emb y 0 : ℕ) = t.val * 432 + (y 0).val := (Pipeline.Window.rect_emb_val win0_2 t y 0).trans (by rw [i0]; rfl)
    have e1 : ((win0_2.rect t).emb y 1 : ℕ) = (y 1).val := (Pipeline.Window.rect_emb_val win0_2 t y 1).trans (by rw [i1, Nat.zero_mul, Nat.zero_add])
    rw [View.read_apply, Pipeline.Window.cut_apply]
    exact (grad_block m c t (win0_2.xinj (grid0.coords t) y)).trans
      (congrArg₂ (err (m ((c : Thread nD τ).loc main_arg0)) (m ((c : Thread nD τ).loc main_arg1)) · · * Ideal.ofBits .f32 0x3A800000#32) e0.symm e1.symm)
  · have h0 : (i 0 : ℕ) < 8208 := (i 0).isLt
    have h1 : (i 1 : ℕ) < 1024 := (i 1).isLt
    obtain ⟨t, ht⟩ : ∃ t : Fin cfg0.N, t.val = (i 0).val / 432 := ⟨⟨_, by omega⟩, rfl⟩
    obtain ⟨-, -, -, ⟨i0, i1⟩, -⟩ := places t
    refine ⟨t, flush0_2 t, (Pipeline.Window.emb_mem_blk_iff win0_2 t i).mpr fun a => ?_⟩
    match a with
    | ⟨0, _⟩ => refine (?_ : win0_2.index t 0 * 432 ≤ (i 0 : ℕ) ∧ (i 0 : ℕ) < win0_2.index t 0 * 432 + 432); omega
    | ⟨1, _⟩ => refine (?_ : win0_2.index t 1 * 1024 ≤ (i 1 : ℕ) ∧ (i 1 : ℕ) < win0_2.index t 1 * 1024 + 1024); omega

set_option maxRecDepth 20000 in
/-- And the second as the column sums. -/
theorem final_sums (c : Dev nD) : (dats m 0 c).arrAt 3 cfg0.N = sums m c := by
  have hN : cfg0.N = 19 := N_0
  refine (dats m 0 c).arrAt_eq_of_cover 3 (sums m c) (fun t hf => ?_) (fun (i : S1x1024.Idx) => ?_)
  · obtain ⟨-, -, -, -, i0, i1⟩ := places t
    rw [Value.flushed3]
    funext y
    have e1 : ((win0_3.rect t).emb y 1 : ℕ) = (y 1).val := (Pipeline.Window.rect_emb_val win0_3 t y 1).trans (by rw [i1, Nat.zero_mul, Nat.zero_add])
    rw [View.read_apply, Pipeline.Window.cut_apply]
    exact (sums_block m c t ((flush0_3 t).mp hf) (win0_3.xinj (grid0.coords t) y)).trans
      (congrArg (squares (m ((c : Thread nD τ).loc main_arg0)) (m ((c : Thread nD τ).loc main_arg1))) e1.symm)
  · have h0 : (i 0 : ℕ) < 1 := (i 0).isLt
    have h1 : (i 1 : ℕ) < 1024 := (i 1).isLt
    obtain ⟨t, ht⟩ : ∃ t : Fin cfg0.N, t.val = 18 := ⟨⟨_, by omega⟩, rfl⟩
    obtain ⟨-, -, -, -, i0, i1⟩ := places t
    refine ⟨t, (flush0_3 t).mpr (by omega), (Pipeline.Window.emb_mem_blk_iff win0_3 t i).mpr fun a => ?_⟩
    match a with
    | ⟨0, _⟩ => refine (?_ : win0_3.index t 0 * 1 ≤ (i 0 : ℕ) ∧ (i 0 : ℕ) < win0_3.index t 0 * 1 + 1); omega
    | ⟨1, _⟩ => refine (?_ : win0_3.index t 1 * 1024 ≤ (i 1 : ℕ) ∧ (i 1 : ℕ) < win0_3.index t 1 * 1024 + 1024); omega

/-- The kernel runs to its end, its arguments kept, its counters at zero. -/
theorem frame : Cert.quiescent_LossGrad (hLossGrad := Cert.LossGrad.Gen.facts) := fun m ρ _ => Cert.LossGrad.Gen.frame m ρ

/-- The same of the kernel over the extended reals. -/
theorem frame_ideal : Cert.quiescent_LossGradIdeal (hLossGradIdeal := Cert.LossGradIdeal.Gen.facts) := fun m ρ _ => Cert.LossGradIdeal.Gen.frame m ρ

/-- The same of the reference. -/
theorem frame_ref : Cert.quiescent_LossGradRefIdeal (hLossGradRefIdeal := Cert.LossGradRefIdeal.Gen.facts) :=
  fun m ρ _ => (θ_run Cert.LossGradRefIdeal.defs _ _).mono (fun _ h => ⟨fun c => (h c).2.2, sem_eq_zero_of_no_sems (by decide) _⟩) (Cert.LossGradRefIdeal.Value.run m ρ)

/-- Kernel and reference end with the same gradient and the same column sums over the extended reals. -/
theorem algebraic : Cert.algebraic_LossGradIdeal_LossGradRefIdeal (hLossGradIdeal := Cert.LossGradIdeal.Gen.facts) (hLossGradRefIdeal := Cert.LossGradRefIdeal.Gen.facts) :=
  fun m g m' g' _ h => by
    refine ⟨_, _, (θ_run _ _ _).mono (fun r hr c => ⟨(hr c).1.trans (final_grad m c), (hr c).2.1.trans (final_sums m c), (hr c).2.2⟩) (Cert.LossGradIdeal.Value.run_blocks m g),
      (θ_run _ _ _).mono (fun r hr c => ⟨(hr c).1.trans ?_, (hr c).2.1.trans ?_, (hr c).2.2⟩) (Cert.LossGradRefIdeal.Value.run m' g')⟩
    · rw [(h c).1, (h c).2]
      funext (i : S8208x1024.Idx)
      obtain ⟨n, l, rfl⟩ : ∃ n l, i = ix2 n l := ⟨_, _, eq_ix2 i⟩
      show _ = err (m (c.tc.loc main_arg0)) (m (c.tc.loc main_arg1)) n.val l.val * _
      pointwise []
      exact congrArg (· * _) (err_idx _ _ n l)
    · rw [(h c).1, (h c).2]
      funext (i : S1x1024.Idx)
      obtain ⟨a, l, rfl⟩ : ∃ a l, i = ix2 a l := ⟨_, _, eq_ix2 i⟩
      show _ = squares (m (c.tc.loc main_arg0)) (m (c.tc.loc main_arg1)) l.val
      pointwise []
      exact Finset.sum_congr rfl fun n _ => congrArg₂ (· * ·) (err_idx _ _ n l) (err_idx _ _ n l)

end Cert.LossGradProof
-- ==== Proof.TnUpClaim.lean ====
/-
  The gradient of the gate and up projections' weights: both frames, the frame of the reference, and the equation of the
  two over the extended reals.  The kernel walks two column blocks and for each gathers nine stretches of the tokens; the
  reference multiplies the whole arrays.
-/
module

public import proofs.«01_k».proof.Defs
public import proofs.«01_k».proof.Proof.Products
public import proofs.«01_k».proof.Proof.Gen.TnUp
public import proofs.«01_k».proof.Proof.Gen.TnUp.Frame
public import proofs.«01_k».proof.Proof.Gen.TnUpIdeal.Frame
public import proofs.«01_k».proof.Proof.Gen.TnUpIdeal.Value
public import proofs.«01_k».proof.Proof.Gen.TnUpRefIdeal.Run

@[expose] public section

namespace Cert.TnUpProof

open Idealize.ShloMosaic Idealize.ShloMosaic.TcCoe Idealize.SL.Sem
open Cert.TnUpIdeal Cert.TnUpIdeal.Gen Cert.Products

variable (m : (ℓ : Loc nD τ sig) → Buf (Elt Ideal) ℓ)

/-- The first stretch's step leaves the product of the two blocks. -/
theorem first (c : Dev nD) (i : grid0.Coords) (a1 : Memref sig .tc .vmem S912x1024 .bf16) (h1 : a1.IsWhole)
    (a2 : Memref sig .tc .vmem S912x1408 .bf16) (h2 : a2.IsWhole) (a3 : Memref sig .tc .vmem S1x1x1024x1408 .f32) (h3 : a3.IsWhole)
    (hc hd) (x : Vec Ideal S912x1024 .bf16) (y : Vec Ideal S912x1408 .bf16) (r : Fin 1024) (l : Fin 1408) :
    out0_A_2 c i a1 h1 a2 h2 a3 h3 hc hd x y (ix4 0 0 r l) = ∑ k : Fin 912, x (ix2 k r) * y (ix2 k l) := by
  unfold out0_A_2
  rw [View.read_writes_eq_canon _ _ _ (cover0_A_2 c i a1 h1 a2 h2 a3 h3 hc hd x y)]
  unfold kernelRun0_A
  dsimp only
  rw [View.canon_unit_zero hz4]
  simp only [View.readAt_eq_ld, h1.read_unread, h2.read_unread, View.ld_unit_zero (S := S912x1024) hz2, View.ld_unit_zero (S := S912x1408) hz2]
  pointwise [k0_pay2, k0_pay1]

/-- A later step adds the product of its two blocks to what it found. -/
theorem later (c : Dev nD) (i : grid0.Coords) (a1 : Memref sig .tc .vmem S912x1024 .bf16) (h1 : a1.IsWhole)
    (a2 : Memref sig .tc .vmem S912x1408 .bf16) (h2 : a2.IsWhole) (a3 : Memref sig .tc .vmem S1x1x1024x1408 .f32) (h3 : a3.IsWhole)
    (hc hd) (x : Vec Ideal S912x1024 .bf16) (y : Vec Ideal S912x1408 .bf16) (o : Vec Ideal S1x1x1024x1408 .f32) (r : Fin 1024) (l : Fin 1408) :
    out0_B_2 c i a1 h1 a2 h2 a3 h3 hc hd x y o (ix4 0 0 r l) = o (ix4 0 0 r l) + ∑ k : Fin 912, x (ix2 k r) * y (ix2 k l) := by
  unfold out0_B_2
  rw [View.read_writes_eq_canon _ _ _ (cover0_B_2 c i a1 h1 a2 h2 a3 h3 hc hd x y o)]
  unfold kernelRun0_B
  dsimp only
  rw [View.canon_unit_zero hz4]
  simp only [View.readAt_eq_ld, h1.read_unread, h2.read_unread, h3.read_unread, View.ld_unit_zero (S := S912x1024) hz2,
    View.ld_unit_zero (S := S912x1408) hz2, View.ld_unit_zero (S := S1x1x1024x1408) hz4]
  pointwise [k0_pay3, k0_pay1]

/-- Which blocks a point of the grid works on: the rows of its stretch, the columns of its run. -/
theorem places (t : Fin cfg0.N) : (win0_0.index t 0 = t.val % 9 ∧ win0_0.index t 1 = 0)
    ∧ (win0_1.index t 0 = t.val % 9 ∧ win0_1.index t 1 = t.val / 9)
    ∧ (win0_2.index t 0 = 0 ∧ win0_2.index t 1 = t.val / 9 ∧ win0_2.index t 2 = 0 ∧ win0_2.index t 3 = 0) := by
  revert t; decide +kernel

/-- A point's block of the first array. -/
theorem rows_x (c : Dev nD) (t : Fin cfg0.N) (k : Fin 912) (r : Fin 1024) :
    iblk m c 0 t (ix2 k r) = at2 (m ((c : Thread nD τ).loc main_arg0)) (t.val % 9 * 912 + k.val) (0 + r.val) :=
  at2_idx _ ((win0_0.rect t).emb (ix2 k r))
    ((Pipeline.Window.rect_emb_val win0_0 t (ix2 k r) 0).trans (by rw [(places t).1.1]; rfl))
    ((Pipeline.Window.rect_emb_val win0_0 t (ix2 k r) 1).trans (by rw [(places t).1.2, Nat.zero_mul]; rfl))

/-- A point's block of the second array. -/
theorem rows_y (c : Dev nD) (t : Fin cfg0.N) (k : Fin 912) (l : Fin 1408) :
    iblk m c 1 t (ix2 k l) = at2 (m ((c : Thread nD τ).loc main_arg1)) (t.val % 9 * 912 + k.val) (t.val / 9 * 1408 + l.val) :=
  at2_idx _ ((win0_1.rect t).emb (ix2 k l))
    ((Pipeline.Window.rect_emb_val win0_1 t (ix2 k l) 0).trans (by rw [(places t).2.1.1]; rfl))
    ((Pipeline.Window.rect_emb_val win0_1 t (ix2 k l) 1).trans (by rw [(places t).2.1.2]; rfl))

/-- The gradient: the product over the tokens, its columns in two blocks. -/
noncomputable def result (c : Dev nD) : Buf (Elt Ideal) ((c : Thread nD τ).loc main_v0) := fun i : S1x2x1024x1408.Idx =>
  overTokens (m ((c : Thread nD τ).loc main_arg0)) (m ((c : Thread nD τ).loc main_arg1)) (0 + (i 2).val) ((i 1).val * 1408 + (i 3).val)

/-- The last point of a run leaves the run's block of it. -/
theorem block (c : Dev nD) (t : Fin cfg0.N) (ht : t.val % 9 = 8) (y : S1x1x1024x1408.Idx) : outsAt0 m c t.val t.isLt y
    = overTokens (m ((c : Thread nD τ).loc main_arg0)) (m ((c : Thread nD τ).loc main_arg1)) (0 + (y 2).val) (t.val / 9 * 1408 + (y 3).val) := by
  obtain ⟨r, l, rfl⟩ : ∃ r l, y = ix4 0 0 r l := ⟨y 2, y 3, (eq_ix4 y).trans (by congr 1 <;> exact Subsingleton.elim (α := Fin 1) _ _)⟩
  exact block_gathered (fun n h => outsAt0 m c n h (ix4 0 0 r l)) _ _ (iblk m c 0) (iblk m c 1) (fun _ => 0) (· * 1408) r l
    (fun t k => rows_x m c t k r) (fun t k => rows_y m c t k l)
    (fun t h => (congrFun (outsAt0_A m c t h (by omega)) _).trans (first ..))
    (fun t h => (congrFun (outsAt0_B m c t h (by omega)) _).trans (later ..)) t ht

set_option maxRecDepth 20000 in
/-- So the output array ends as the gradient. -/
theorem final (c : Dev nD) : (dats m 0 c).arrAt 2 cfg0.N = result m c := by
  have hN : cfg0.N = 18 := N_0
  refine (dats m 0 c).arrAt_eq_of_cover 2 (result m c) (fun t hf => ?_) (fun (i : S1x2x1024x1408.Idx) => ?_)
  · obtain ⟨-, -, -, i1, i2, i3⟩ := places t
    rw [Value.flushed2]
    funext y
    have h0 : (y 1).val = 0 := Nat.lt_one_iff.mp (y 1).isLt
    have e1 : ((win0_2.rect t).emb y 1 : ℕ) = t.val / 9 := (Pipeline.Window.rect_emb_val win0_2 t y 1).trans (by rw [i1, h0]; exact Nat.mul_one _)
    have e2 : ((win0_2.rect t).emb y 2 : ℕ) = (y 2).val := (Pipeline.Window.rect_emb_val win0_2 t y 2).trans (by rw [i2, Nat.zero_mul, Nat.zero_add])
    have e3 : ((win0_2.rect t).emb y 3 : ℕ) = (y 3).val := (Pipeline.Window.rect_emb_val win0_2 t y 3).trans (by rw [i3, Nat.zero_mul, Nat.zero_add])
    rw [View.read_apply, Pipeline.Window.cut_apply]
    refine (block m c t ((flush0_2 t).mp hf) (win0_2.xinj (grid0.coords t) y)).trans
      (congrArg₂ (overTokens (m ((c : Thread nD τ).loc main_arg0)) (m ((c : Thread nD τ).loc main_arg1)))
        (congrArg (0 + ·) e2.symm) (congrArg₂ (· * 1408 + ·) e1.symm e3.symm))
  · have h0 : (i 0 : ℕ) < 1 := (i 0).isLt
    have h1 : (i 1 : ℕ) < 2 := (i 1).isLt
    have h2 : (i 2 : ℕ) < 1024 := (i 2).isLt
    have h3 : (i 3 : ℕ) < 1408 := (i 3).isLt
    obtain ⟨t, ht⟩ : ∃ t : Fin cfg0.N, t.val = (i 1).val * 9 + 8 := ⟨⟨_, by omega⟩, rfl⟩
    obtain ⟨-, -, i0, i1, i2, i3⟩ := places t
    refine ⟨t, (flush0_2 t).mpr (by omega), (Pipeline.Window.emb_mem_blk_iff win0_2 t i).mpr fun a => ?_⟩
    match a with
    | ⟨0, _⟩ => refine (?_ : win0_2.index t 0 * 1 ≤ (i 0 : ℕ) ∧ (i 0 : ℕ) < win0_2.index t 0 * 1 + 1); omega
    | ⟨1, _⟩ => refine (?_ : win0_2.index t 1 * 1 ≤ (i 1 : ℕ) ∧ (i 1 : ℕ) < win0_2.index t 1 * 1 + 1); omega
    | ⟨2, _⟩ => refine (?_ : win0_2.index t 2 * 1024 ≤ (i 2 : ℕ) ∧ (i 2 : ℕ) < win0_2.index t 2 * 1024 + 1024); omega
    | ⟨3, _⟩ => refine (?_ : win0_2.index t 3 * 1408 ≤ (i 3 : ℕ) ∧ (i 3 : ℕ) < win0_2.index t 3 * 1408 + 1408); omega

/-- The kernel runs to its end, its arguments kept, its counters at zero. -/
theorem frame : Cert.quiescent_TnUp (hTnUp := Cert.TnUp.Gen.facts) := fun m ρ _ => Cert.TnUp.Gen.frame m ρ

/-- The same of the kernel over the extended reals. -/
theorem frame_ideal : Cert.quiescent_TnUpIdeal (hTnUpIdeal := Cert.TnUpIdeal.Gen.facts) := fun m ρ _ => Cert.TnUpIdeal.Gen.frame m ρ

/-- The same of the reference. -/
theorem frame_ref : Cert.quiescent_TnUpRefIdeal (hTnUpRefIdeal := Cert.TnUpRefIdeal.Gen.facts) :=
  fun m ρ _ => (θ_run Cert.TnUpRefIdeal.defs _ _).mono (fun _ h => ⟨fun c => (h c).2, sem_eq_zero_of_no_sems (by decide) _⟩) (Cert.TnUpRefIdeal.Value.run m ρ)

/-- Kernel and reference end with the same gradient over the extended reals. -/
theorem algebraic : Cert.algebraic_TnUpIdeal_TnUpRefIdeal (hTnUpIdeal := Cert.TnUpIdeal.Gen.facts) (hTnUpRefIdeal := Cert.TnUpRefIdeal.Gen.facts) :=
  fun m g m' g' _ h => by
    refine ⟨_, (θ_run _ _ _).mono (fun r hr c => ⟨(hr c).1.trans (final m c), (hr c).2⟩) (Cert.TnUpIdeal.Value.run_blocks m g),
      (θ_run _ _ _).mono (fun r hr c => ⟨(hr c).1.trans ?_, (hr c).2⟩) (Cert.TnUpRefIdeal.Value.run m' g')⟩
    rw [(h c).1, (h c).2]
    funext (i : S1x2x1024x1408.Idx)
    obtain ⟨a, b, r, l, rfl⟩ : ∃ a b r l, i = ix4 a b r l := ⟨_, _, _, _, eq_ix4 i⟩
    show _ = overTokens _ _ (0 + r.val) (b.val * 1408 + l.val)
    pointwise [overTokens]
    exact Finset.sum_congr rfl fun s _ => congrArg₂ (· * ·) (at2_idx _ _ rfl rfl) (at2_idx _ _ rfl rfl)

end Cert.TnUpProof
-- ==== Proof.TnDownClaim.lean ====
/-
  The gradient of the down projection's weights: both frames, the frame of the reference, and the equation of the
  two over the extended reals.  The kernel walks two row blocks and for each gathers nine stretches of the tokens; the
  reference multiplies the whole arrays.
-/
module

public import proofs.«01_k».proof.Defs
public import proofs.«01_k».proof.Proof.Products
public import proofs.«01_k».proof.Proof.Gen.TnDown
public import proofs.«01_k».proof.Proof.Gen.TnDown.Frame
public import proofs.«01_k».proof.Proof.Gen.TnDownIdeal.Frame
public import proofs.«01_k».proof.Proof.Gen.TnDownIdeal.Value
public import proofs.«01_k».proof.Proof.Gen.TnDownRefIdeal.Run

@[expose] public section

namespace Cert.TnDownProof

open Idealize.ShloMosaic Idealize.ShloMosaic.TcCoe Idealize.SL.Sem
open Cert.TnDownIdeal Cert.TnDownIdeal.Gen Cert.Products

variable (m : (ℓ : Loc nD τ sig) → Buf (Elt Ideal) ℓ)

/-- The first stretch's step leaves the product of the two blocks. -/
theorem first (c : Dev nD) (i : grid0.Coords) (a1 : Memref sig .tc .vmem S912x1408 .bf16) (h1 : a1.IsWhole)
    (a2 : Memref sig .tc .vmem S912x1024 .bf16) (h2 : a2.IsWhole) (a3 : Memref sig .tc .vmem S1x1x1408x1024 .f32) (h3 : a3.IsWhole)
    (hc hd) (x : Vec Ideal S912x1408 .bf16) (y : Vec Ideal S912x1024 .bf16) (r : Fin 1408) (l : Fin 1024) :
    out0_A_2 c i a1 h1 a2 h2 a3 h3 hc hd x y (ix4 0 0 r l) = ∑ k : Fin 912, x (ix2 k r) * y (ix2 k l) := by
  unfold out0_A_2
  rw [View.read_writes_eq_canon _ _ _ (cover0_A_2 c i a1 h1 a2 h2 a3 h3 hc hd x y)]
  unfold kernelRun0_A
  dsimp only
  rw [View.canon_unit_zero hz4]
  simp only [View.readAt_eq_ld, h1.read_unread, h2.read_unread, View.ld_unit_zero (S := S912x1408) hz2, View.ld_unit_zero (S := S912x1024) hz2]
  pointwise [k0_pay2, k0_pay1]

/-- A later step adds the product of its two blocks to what it found. -/
theorem later (c : Dev nD) (i : grid0.Coords) (a1 : Memref sig .tc .vmem S912x1408 .bf16) (h1 : a1.IsWhole)
    (a2 : Memref sig .tc .vmem S912x1024 .bf16) (h2 : a2.IsWhole) (a3 : Memref sig .tc .vmem S1x1x1408x1024 .f32) (h3 : a3.IsWhole)
    (hc hd) (x : Vec Ideal S912x1408 .bf16) (y : Vec Ideal S912x1024 .bf16) (o : Vec Ideal S1x1x1408x1024 .f32) (r : Fin 1408) (l : Fin 1024) :
    out0_B_2 c i a1 h1 a2 h2 a3 h3 hc hd x y o (ix4 0 0 r l) = o (ix4 0 0 r l) + ∑ k : Fin 912, x (ix2 k r) * y (ix2 k l) := by
  unfold out0_B_2
  rw [View.read_writes_eq_canon _ _ _ (cover0_B_2 c i a1 h1 a2 h2 a3 h3 hc hd x y o)]
  unfold kernelRun0_B
  dsimp only
  rw [View.canon_unit_zero hz4]
  simp only [View.readAt_eq_ld, h1.read_unread, h2.read_unread, h3.read_unread, View.ld_unit_zero (S := S912x1408) hz2,
    View.ld_unit_zero (S := S912x1024) hz2, View.ld_unit_zero (S := S1x1x1408x1024) hz4]
  pointwise [k0_pay3, k0_pay1]

/-- Which blocks a point of the grid works on: the tokens of its stretch, the rows of its run. -/
theorem places (t : Fin cfg0.N) : (win0_0.index t 0 = t.val % 9 ∧ win0_0.index t 1 = t.val / 9)
    ∧ (win0_1.index t 0 = t.val % 9 ∧ win0_1.index t 1 = 0)
    ∧ (win0_2.index t 0 = t.val / 9 ∧ win0_2.index t 1 = 0 ∧ win0_2.index t 2 = 0 ∧ win0_2.index t 3 = 0) := by
  revert t; decide +kernel

/-- A point's block of the first array. -/
theorem rows_x (c : Dev nD) (t : Fin cfg0.N) (k : Fin 912) (r : Fin 1408) :
    iblk m c 0 t (ix2 k r) = at2 (m ((c : Thread nD τ).loc main_arg0)) (t.val % 9 * 912 + k.val) (t.val / 9 * 1408 + r.val) :=
  at2_idx _ ((win0_0.rect t).emb (ix2 k r))
    ((Pipeline.Window.rect_emb_val win0_0 t (ix2 k r) 0).trans (by rw [(places t).1.1]; rfl))
    ((Pipeline.Window.rect_emb_val win0_0 t (ix2 k r) 1).trans (by rw [(places t).1.2]; rfl))

/-- A point's block of the second array. -/
theorem rows_y (c : Dev nD) (t : Fin cfg0.N) (k : Fin 912) (l : Fin 1024) :
    iblk m c 1 t (ix2 k l) = at2 (m ((c : Thread nD τ).loc main_arg1)) (t.val % 9 * 912 + k.val) (0 + l.val) :=
  at2_idx _ ((win0_1.rect t).emb (ix2 k l))
    ((Pipeline.Window.rect_emb_val win0_1 t (ix2 k l) 0).trans (by rw [(places t).2.1.1]; rfl))
    ((Pipeline.Window.rect_emb_val win0_1 t (ix2 k l) 1).trans (by rw [(places t).2.1.2, Nat.zero_mul]; rfl))

/-- The gradient: the product over the tokens, its rows in two blocks. -/
noncomputable def result (c : Dev nD) : Buf (Elt Ideal) ((c : Thread nD τ).loc main_v0) := fun i : S2x1x1408x1024.Idx =>
  overTokens (m ((c : Thread nD τ).loc main_arg0)) (m ((c : Thread nD τ).loc main_arg1)) ((i 0).val * 1408 + (i 2).val) (0 + (i 3).val)

/-- The last point of a run leaves the run's block of it. -/
theorem block (c : Dev nD) (t : Fin cfg0.N) (ht : t.val % 9 = 8) (y : S1x1x1408x1024.Idx) : outsAt0 m c t.val t.isLt y
    = overTokens (m ((c : Thread nD τ).loc main_arg0)) (m ((c : Thread nD τ).loc main_arg1)) (t.val / 9 * 1408 + (y 2).val) (0 + (y 3).val) := by
  obtain ⟨r, l, rfl⟩ : ∃ r l, y = ix4 0 0 r l := ⟨y 2, y 3, (eq_ix4 y).trans (by congr 1 <;> exact Subsingleton.elim (α := Fin 1) _ _)⟩
  exact block_gathered (fun n h => outsAt0 m c n h (ix4 0 0 r l)) _ _ (iblk m c 0) (iblk m c 1) (· * 1408) (fun _ => 0) r l
    (fun t k => rows_x m c t k r) (fun t k => rows_y m c t k l)
    (fun t h => (congrFun (outsAt0_A m c t h (by omega)) _).trans (first ..))
    (fun t h => (congrFun (outsAt0_B m c t h (by omega)) _).trans (later ..)) t ht

set_option maxRecDepth 20000 in
/-- So the output array ends as the gradient. -/
theorem final (c : Dev nD) : (dats m 0 c).arrAt 2 cfg0.N = result m c := by
  have hN : cfg0.N = 18 := N_0
  refine (dats m 0 c).arrAt_eq_of_cover 2 (result m c) (fun t hf => ?_) (fun (i : S2x1x1408x1024.Idx) => ?_)
  · obtain ⟨-, -, i0, -, i2, i3⟩ := places t
    rw [Value.flushed2]
    funext y
    have h0 : (y 0).val = 0 := Nat.lt_one_iff.mp (y 0).isLt
    have e0 : ((win0_2.rect t).emb y 0 : ℕ) = t.val / 9 := (Pipeline.Window.rect_emb_val win0_2 t y 0).trans (by rw [i0, h0]; exact Nat.mul_one _)
    have e2 : ((win0_2.rect t).emb y 2 : ℕ) = (y 2).val := (Pipeline.Window.rect_emb_val win0_2 t y 2).trans (by rw [i2, Nat.zero_mul, Nat.zero_add])
    have e3 : ((win0_2.rect t).emb y 3 : ℕ) = (y 3).val := (Pipeline.Window.rect_emb_val win0_2 t y 3).trans (by rw [i3, Nat.zero_mul, Nat.zero_add])
    rw [View.read_apply, Pipeline.Window.cut_apply]
    refine (block m c t ((flush0_2 t).mp hf) (win0_2.xinj (grid0.coords t) y)).trans
      (congrArg₂ (overTokens (m ((c : Thread nD τ).loc main_arg0)) (m ((c : Thread nD τ).loc main_arg1)))
        (congrArg₂ (· * 1408 + ·) e0.symm e2.symm) (congrArg (0 + ·) e3.symm))
  · have h0 : (i 0 : ℕ) < 2 := (i 0).isLt
    have h1 : (i 1 : ℕ) < 1 := (i 1).isLt
    have h2 : (i 2 : ℕ) < 1408 := (i 2).isLt
    have h3 : (i 3 : ℕ) < 1024 := (i 3).isLt
    obtain ⟨t, ht⟩ : ∃ t : Fin cfg0.N, t.val = (i 0).val * 9 + 8 := ⟨⟨_, by omega⟩, rfl⟩
    obtain ⟨-, -, i0, i1, i2, i3⟩ := places t
    refine ⟨t, (flush0_2 t).mpr (by omega), (Pipeline.Window.emb_mem_blk_iff win0_2 t i).mpr fun a => ?_⟩
    match a with
    | ⟨0, _⟩ => refine (?_ : win0_2.index t 0 * 1 ≤ (i 0 : ℕ) ∧ (i 0 : ℕ) < win0_2.index t 0 * 1 + 1); omega
    | ⟨1, _⟩ => refine (?_ : win0_2.index t 1 * 1 ≤ (i 1 : ℕ) ∧ (i 1 : ℕ) < win0_2.index t 1 * 1 + 1); omega
    | ⟨2, _⟩ => refine (?_ : win0_2.index t 2 * 1408 ≤ (i 2 : ℕ) ∧ (i 2 : ℕ) < win0_2.index t 2 * 1408 + 1408); omega
    | ⟨3, _⟩ => refine (?_ : win0_2.index t 3 * 1024 ≤ (i 3 : ℕ) ∧ (i 3 : ℕ) < win0_2.index t 3 * 1024 + 1024); omega

/-- The kernel runs to its end, its arguments kept, its counters at zero. -/
theorem frame : Cert.quiescent_TnDown (hTnDown := Cert.TnDown.Gen.facts) := fun m ρ _ => Cert.TnDown.Gen.frame m ρ

/-- The same of the kernel over the extended reals. -/
theorem frame_ideal : Cert.quiescent_TnDownIdeal (hTnDownIdeal := Cert.TnDownIdeal.Gen.facts) := fun m ρ _ => Cert.TnDownIdeal.Gen.frame m ρ

/-- The same of the reference. -/
theorem frame_ref : Cert.quiescent_TnDownRefIdeal (hTnDownRefIdeal := Cert.TnDownRefIdeal.Gen.facts) :=
  fun m ρ _ => (θ_run Cert.TnDownRefIdeal.defs _ _).mono (fun _ h => ⟨fun c => (h c).2, sem_eq_zero_of_no_sems (by decide) _⟩) (Cert.TnDownRefIdeal.Value.run m ρ)

/-- Kernel and reference end with the same gradient over the extended reals. -/
theorem algebraic : Cert.algebraic_TnDownIdeal_TnDownRefIdeal (hTnDownIdeal := Cert.TnDownIdeal.Gen.facts) (hTnDownRefIdeal := Cert.TnDownRefIdeal.Gen.facts) :=
  fun m g m' g' _ h => by
    refine ⟨_, (θ_run _ _ _).mono (fun r hr c => ⟨(hr c).1.trans (final m c), (hr c).2⟩) (Cert.TnDownIdeal.Value.run_blocks m g),
      (θ_run _ _ _).mono (fun r hr c => ⟨(hr c).1.trans ?_, (hr c).2⟩) (Cert.TnDownRefIdeal.Value.run m' g')⟩
    rw [(h c).1, (h c).2]
    funext (i : S2x1x1408x1024.Idx)
    obtain ⟨a, b, r, l, rfl⟩ : ∃ a b r l, i = ix4 a b r l := ⟨_, _, _, _, eq_ix4 i⟩
    show _ = overTokens _ _ (a.val * 1408 + r.val) (0 + l.val)
    pointwise [overTokens]
    exact Finset.sum_congr rfl fun s _ => congrArg₂ (· * ·) (at2_idx _ _ rfl rfl) (at2_idx _ _ rfl rfl)

end Cert.TnDownProof
-- ==== Proof.TnSquareClaim.lean ====
/-
  The gradient of the mixer's two square weights: both frames, the frame of the reference, and the equation of the
  two over the extended reals.  The kernel gathers nine stretches of the tokens; the
  reference multiplies the whole arrays.
-/
module

public import proofs.«01_k».proof.Defs
public import proofs.«01_k».proof.Proof.Products
public import proofs.«01_k».proof.Proof.Gen.TnSquare
public import proofs.«01_k».proof.Proof.Gen.TnSquare.Frame
public import proofs.«01_k».proof.Proof.Gen.TnSquareIdeal.Frame
public import proofs.«01_k».proof.Proof.Gen.TnSquareIdeal.Value
public import proofs.«01_k».proof.Proof.Gen.TnSquareRefIdeal.Run

@[expose] public section

namespace Cert.TnSquareProof

open Idealize.ShloMosaic Idealize.ShloMosaic.TcCoe Idealize.SL.Sem
open Cert.TnSquareIdeal Cert.TnSquareIdeal.Gen Cert.Products

variable (m : (ℓ : Loc nD τ sig) → Buf (Elt Ideal) ℓ)

/-- The first stretch's step leaves the product of the two blocks. -/
theorem first (c : Dev nD) (i : grid0.Coords) (a1 : Memref sig .tc .vmem S912x1024 .bf16) (h1 : a1.IsWhole)
    (a2 : Memref sig .tc .vmem S912x1024 .bf16) (h2 : a2.IsWhole) (a3 : Memref sig .tc .vmem S1x1x1024x1024 .f32) (h3 : a3.IsWhole)
    (hc hd) (x : Vec Ideal S912x1024 .bf16) (y : Vec Ideal S912x1024 .bf16) (r : Fin 1024) (l : Fin 1024) :
    out0_A_2 c i a1 h1 a2 h2 a3 h3 hc hd x y (ix4 0 0 r l) = ∑ k : Fin 912, x (ix2 k r) * y (ix2 k l) := by
  unfold out0_A_2
  rw [View.read_writes_eq_canon _ _ _ (cover0_A_2 c i a1 h1 a2 h2 a3 h3 hc hd x y)]
  unfold kernelRun0_A
  dsimp only
  rw [View.canon_unit_zero hz4]
  simp only [View.readAt_eq_ld, h1.read_unread, h2.read_unread, View.ld_unit_zero (S := S912x1024) hz2]
  pointwise [k0_pay2, k0_pay1]

/-- A later step adds the product of its two blocks to what it found. -/
theorem later (c : Dev nD) (i : grid0.Coords) (a1 : Memref sig .tc .vmem S912x1024 .bf16) (h1 : a1.IsWhole)
    (a2 : Memref sig .tc .vmem S912x1024 .bf16) (h2 : a2.IsWhole) (a3 : Memref sig .tc .vmem S1x1x1024x1024 .f32) (h3 : a3.IsWhole)
    (hc hd) (x : Vec Ideal S912x1024 .bf16) (y : Vec Ideal S912x1024 .bf16) (o : Vec Ideal S1x1x1024x1024 .f32) (r : Fin 1024) (l : Fin 1024) :
    out0_B_2 c i a1 h1 a2 h2 a3 h3 hc hd x y o (ix4 0 0 r l) = o (ix4 0 0 r l) + ∑ k : Fin 912, x (ix2 k r) * y (ix2 k l) := by
  unfold out0_B_2
  rw [View.read_writes_eq_canon _ _ _ (cover0_B_2 c i a1 h1 a2 h2 a3 h3 hc hd x y o)]
  unfold kernelRun0_B
  dsimp only
  rw [View.canon_unit_zero hz4]
  simp only [View.readAt_eq_ld, h1.read_unread, h2.read_unread, h3.read_unread, View.ld_unit_zero (S := S912x1024) hz2,
    View.ld_unit_zero (S := S1x1x1024x1024) hz4]
  pointwise [k0_pay3, k0_pay1]

/-- Which blocks a point of the grid works on: the tokens of its stretch. -/
theorem places (t : Fin cfg0.N) : (win0_0.index t 0 = t.val % 9 ∧ win0_0.index t 1 = 0)
    ∧ (win0_1.index t 0 = t.val % 9 ∧ win0_1.index t 1 = 0)
    ∧ (win0_2.index t 0 = 0 ∧ win0_2.index t 1 = 0 ∧ win0_2.index t 2 = 0 ∧ win0_2.index t 3 = 0) := by
  revert t; decide +kernel

/-- A point's block of the first array. -/
theorem rows_x (c : Dev nD) (t : Fin cfg0.N) (k : Fin 912) (r : Fin 1024) :
    iblk m c 0 t (ix2 k r) = at2 (m ((c : Thread nD τ).loc main_arg0)) (t.val % 9 * 912 + k.val) (0 + r.val) :=
  at2_idx _ ((win0_0.rect t).emb (ix2 k r))
    ((Pipeline.Window.rect_emb_val win0_0 t (ix2 k r) 0).trans (by rw [(places t).1.1]; rfl))
    ((Pipeline.Window.rect_emb_val win0_0 t (ix2 k r) 1).trans (by rw [(places t).1.2, Nat.zero_mul]; rfl))

/-- A point's block of the second array. -/
theorem rows_y (c : Dev nD) (t : Fin cfg0.N) (k : Fin 912) (l : Fin 1024) :
    iblk m c 1 t (ix2 k l) = at2 (m ((c : Thread nD τ).loc main_arg1)) (t.val % 9 * 912 + k.val) (0 + l.val) :=
  at2_idx _ ((win0_1.rect t).emb (ix2 k l))
    ((Pipeline.Window.rect_emb_val win0_1 t (ix2 k l) 0).trans (by rw [(places t).2.1.1]; rfl))
    ((Pipeline.Window.rect_emb_val win0_1 t (ix2 k l) 1).trans (by rw [(places t).2.1.2, Nat.zero_mul]; rfl))

/-- The gradient: the product over the tokens. -/
noncomputable def result (c : Dev nD) : Buf (Elt Ideal) ((c : Thread nD τ).loc main_v0) := fun i : S1x1x1024x1024.Idx =>
  overTokens (m ((c : Thread nD τ).loc main_arg0)) (m ((c : Thread nD τ).loc main_arg1)) (0 + (i 2).val) (0 + (i 3).val)

/-- The last point of a run leaves the run's block of it. -/
theorem block (c : Dev nD) (t : Fin cfg0.N) (ht : t.val % 9 = 8) (y : S1x1x1024x1024.Idx) : outsAt0 m c t.val t.isLt y
    = overTokens (m ((c : Thread nD τ).loc main_arg0)) (m ((c : Thread nD τ).loc main_arg1)) (0 + (y 2).val) (0 + (y 3).val) := by
  have hN : cfg0.N = 9 := N_0
  obtain ⟨r, l, rfl⟩ : ∃ r l, y = ix4 0 0 r l := ⟨y 2, y 3, (eq_ix4 y).trans (by congr 1 <;> exact Subsingleton.elim (α := Fin 1) _ _)⟩
  exact block_gathered (fun n h => outsAt0 m c n h (ix4 0 0 r l)) _ _ (iblk m c 0) (iblk m c 1) (fun _ => 0) (fun _ => 0) r l
    (fun t k => rows_x m c t k r) (fun t k => rows_y m c t k l)
    (fun t h => (congrFun (outsAt0_A m c t h (by have := t.isLt; omega)) _).trans (first ..))
    (fun t h => (congrFun (outsAt0_B m c t h (by have := t.isLt; omega)) _).trans (later ..)) t ht

set_option maxRecDepth 20000 in
/-- So the output array ends as the gradient. -/
theorem final (c : Dev nD) : (dats m 0 c).arrAt 2 cfg0.N = result m c := by
  have hN : cfg0.N = 9 := N_0
  refine (dats m 0 c).arrAt_eq_of_cover 2 (result m c) (fun t hf => ?_) (fun (i : S1x1x1024x1024.Idx) => ?_)
  · obtain ⟨-, -, -, -, i2, i3⟩ := places t
    rw [Value.flushed2]
    funext y
    have e2 : ((win0_2.rect t).emb y 2 : ℕ) = (y 2).val := (Pipeline.Window.rect_emb_val win0_2 t y 2).trans (by rw [i2, Nat.zero_mul, Nat.zero_add])
    have e3 : ((win0_2.rect t).emb y 3 : ℕ) = (y 3).val := (Pipeline.Window.rect_emb_val win0_2 t y 3).trans (by rw [i3, Nat.zero_mul, Nat.zero_add])
    rw [View.read_apply, Pipeline.Window.cut_apply]
    refine (block m c t ((flush0_2 t).mp hf) (win0_2.xinj (grid0.coords t) y)).trans
      (congrArg₂ (overTokens (m ((c : Thread nD τ).loc main_arg0)) (m ((c : Thread nD τ).loc main_arg1)))
        (congrArg (0 + ·) e2.symm) (congrArg (0 + ·) e3.symm))
  · have h0 : (i 0 : ℕ) < 1 := (i 0).isLt
    have h1 : (i 1 : ℕ) < 1 := (i 1).isLt
    have h2 : (i 2 : ℕ) < 1024 := (i 2).isLt
    have h3 : (i 3 : ℕ) < 1024 := (i 3).isLt
    obtain ⟨t, ht⟩ : ∃ t : Fin cfg0.N, t.val = 8 := ⟨⟨_, by omega⟩, rfl⟩
    obtain ⟨-, -, i0, i1, i2, i3⟩ := places t
    refine ⟨t, (flush0_2 t).mpr (by omega), (Pipeline.Window.emb_mem_blk_iff win0_2 t i).mpr fun a => ?_⟩
    match a with
    | ⟨0, _⟩ => refine (?_ : win0_2.index t 0 * 1 ≤ (i 0 : ℕ) ∧ (i 0 : ℕ) < win0_2.index t 0 * 1 + 1); omega
    | ⟨1, _⟩ => refine (?_ : win0_2.index t 1 * 1 ≤ (i 1 : ℕ) ∧ (i 1 : ℕ) < win0_2.index t 1 * 1 + 1); omega
    | ⟨2, _⟩ => refine (?_ : win0_2.index t 2 * 1024 ≤ (i 2 : ℕ) ∧ (i 2 : ℕ) < win0_2.index t 2 * 1024 + 1024); omega
    | ⟨3, _⟩ => refine (?_ : win0_2.index t 3 * 1024 ≤ (i 3 : ℕ) ∧ (i 3 : ℕ) < win0_2.index t 3 * 1024 + 1024); omega

/-- The kernel runs to its end, its arguments kept, its counters at zero. -/
theorem frame : Cert.quiescent_TnSquare (hTnSquare := Cert.TnSquare.Gen.facts) := fun m ρ _ => Cert.TnSquare.Gen.frame m ρ

/-- The same of the kernel over the extended reals. -/
theorem frame_ideal : Cert.quiescent_TnSquareIdeal (hTnSquareIdeal := Cert.TnSquareIdeal.Gen.facts) := fun m ρ _ => Cert.TnSquareIdeal.Gen.frame m ρ

/-- The same of the reference. -/
theorem frame_ref : Cert.quiescent_TnSquareRefIdeal (hTnSquareRefIdeal := Cert.TnSquareRefIdeal.Gen.facts) :=
  fun m ρ _ => (θ_run Cert.TnSquareRefIdeal.defs _ _).mono (fun _ h => ⟨fun c => (h c).2, sem_eq_zero_of_no_sems (by decide) _⟩) (Cert.TnSquareRefIdeal.Value.run m ρ)

/-- Kernel and reference end with the same gradient over the extended reals. -/
theorem algebraic : Cert.algebraic_TnSquareIdeal_TnSquareRefIdeal (hTnSquareIdeal := Cert.TnSquareIdeal.Gen.facts) (hTnSquareRefIdeal := Cert.TnSquareRefIdeal.Gen.facts) :=
  fun m g m' g' _ h => by
    refine ⟨_, (θ_run _ _ _).mono (fun r hr c => ⟨(hr c).1.trans (final m c), (hr c).2⟩) (Cert.TnSquareIdeal.Value.run_blocks m g),
      (θ_run _ _ _).mono (fun r hr c => ⟨(hr c).1.trans ?_, (hr c).2⟩) (Cert.TnSquareRefIdeal.Value.run m' g')⟩
    rw [(h c).1, (h c).2]
    funext (i : S1x1x1024x1024.Idx)
    obtain ⟨a, b, r, l, rfl⟩ : ∃ a b r l, i = ix4 a b r l := ⟨_, _, _, _, eq_ix4 i⟩
    show _ = overTokens _ _ (0 + r.val) (0 + l.val)
    pointwise [overTokens]
    exact Finset.sum_congr rfl fun s _ => congrArg₂ (· * ·) (at2_idx _ _ rfl rfl) (at2_idx _ _ rfl rfl)

end Cert.TnSquareProof
-- ==== Proof.Rows.lean ====
/-
  The mathematics of the backward pass through a normalized row of 1024 entries.
-/
module

public import proofs.«01_k».proof.Proof.Products

@[expose] public section

namespace Cert.Rows

open Idealize.ShloMosaic

/-- The reciprocal root of a row's mean square. -/
noncomputable def stat (x : Fin 1024 → EReal) : EReal :=
  Ideal.rsqrt (Ideal.div (∑ k, x k * x k) (Ideal.ofBits .f32 0x44800000#32) + Ideal.ofBits .f32 0x358637BD#32)

/-- A row's part of the gradient of the scale. -/
noncomputable def gain (x d : Fin 1024 → EReal) (l : Fin 1024) : EReal := d l * (x l * stat x)

/-- The cotangent of a row from that of its normalized and scaled row. -/
noncomputable def back (x g d : Fin 1024 → EReal) (l : Fin 1024) : EReal :=
  stat x * (d l * g l - x l * stat x * Ideal.div (∑ k, d k * g k * (x k * stat x)) (Ideal.ofBits .f32 0x44800000#32))

/-- An index from its coordinates. -/
theorem ix2_of {A B : ℕ} (i : (⟨2, ![A, B]⟩ : Shape).Idx) (a : Fin A) (b : Fin B) (h0 : (i 0).val = a.val) (h1 : (i 1).val = b.val) : i = ix2 a b := by
  rw [eq_ix2 i]
  exact congrArg₂ ix2 (Fin.ext h0) (Fin.ext h1)

/-- The same of an index with three coordinates. -/
theorem ix3_of {A B C : ℕ} (i : (⟨3, ![A, B, C]⟩ : Shape).Idx) (a : Fin A) (b : Fin B) (c : Fin C) (h0 : (i 0).val = a.val) (h1 : (i 1).val = b.val)
    (h2 : (i 2).val = c.val) : i = ix3 a b c := by
  rw [eq_ix3 i, Fin.ext h0, Fin.ext h1, Fin.ext h2]

/-- The row of the whole arrays at a row of one of the nineteen stretches. -/
def row (t : Fin 19) (k : Fin 432) : Fin 8208 := ⟨t.val * 432 + k.val, by omega⟩

/-- A stretch of an array. -/
def stretch {B : ℕ} (t : Fin 19) (X : (⟨2, ![8208, B]⟩ : Shape).Idx → EReal) : (⟨2, ![432, B]⟩ : Shape).Idx → EReal := fun i => X (ix2 (row t (i 0)) (i 1))

/-- Where the block of a stretch has a place of it. -/
theorem placed {B : ℕ} (t : Fin 19) {p : ℕ} (q : ℕ) (i : (⟨2, ![8208, B]⟩ : Shape).Idx) (y : (⟨2, ![432, B]⟩ : Shape).Idx)
    (h0 : (i 0).val = p * 432 + (y 0).val) (h1 : (i 1).val = q * B + (y 1).val) (hp : p = t.val) (hq : q = 0) : i = ix2 (row t (y 0)) (y 1) :=
  ix2_of _ _ _ (by rw [h0, hp]; rfl) (by rw [h1, hq, Nat.zero_mul, Nat.zero_add])

/-- A buffer filled in one piece holds that piece. -/
theorem filled {S : Shape} {e : EltTy} (w : S.Idx → Elt Ideal e) : View.canon (Val := Elt Ideal) [⟨Rect.whole S, w⟩] = w := by
  funext y
  have h := View.canon_cons_emb (Val := Elt Ideal) (e := e) (Rect.whole S) w [] y
  rwa [Rect.emb_whole_apply] at h

/-- A buffer filled shard by shard holds an array when each piece is the array's part there. -/
theorem halves (i0 : ∀ a, ![0, 0] a + ![432, 1408] a ≤ (⟨2, ![432, 2816]⟩ : Shape).size a) (i1 : ∀ a, ![0, 1408] a + ![432, 1408] a ≤ (⟨2, ![432, 2816]⟩ : Shape).size a)
    (w0 w1 : (⟨2, ![432, 1408]⟩ : Shape).Idx → EReal) (G : (⟨2, ![432, 2816]⟩ : Shape).Idx → EReal)
    (h0 : ∀ k j, w0 (ix2 k j) = G (ix2 k ⟨j.val, by omega⟩)) (h1 : ∀ k j, w1 (ix2 k j) = G (ix2 k ⟨1408 + j.val, by omega⟩)) :
    View.canon (Val := Elt Ideal) (e := .bf16) [⟨Rect.unit ![0, 1408] ![432, 1408] i1, w1⟩, ⟨Rect.unit ![0, 0] ![432, 1408] i0, w0⟩] = G := by
  funext y
  refine View.canon_apply_of_pieces (Val := Elt Ideal) (e := .bf16) G _ ?_ y ?_
  · simp only [List.mem_cons, List.not_mem_nil, or_false, forall_eq_or_imp, forall_eq]
    refine ⟨fun (x : (⟨2, ![432, 1408]⟩ : Shape).Idx) => ?_, fun (x : (⟨2, ![432, 1408]⟩ : Shape).Idx) => ?_⟩
    · rw [eq_ix2 x]
      exact (h1 _ _).trans (congrArg G (ix2_of _ _ _ (by rw [Rect.emb_apply]; simp [Rect.unit]) (by rw [Rect.emb_apply]; simp [Rect.unit])).symm)
    · rw [eq_ix2 x]
      exact (h0 _ _).trans (congrArg G (ix2_of _ _ _ (by rw [Rect.emb_apply]; simp [Rect.unit]) (by rw [Rect.emb_apply]; simp [Rect.unit])).symm)
  · obtain ⟨k, l, rfl⟩ : ∃ k l, y = ix2 k l := ⟨_, _, eq_ix2 y⟩
    by_cases h : l.val < 1408
    · refine ⟨⟨Rect.unit ![0, 0] ![432, 1408] i0, w0⟩, List.mem_cons_of_mem _ (List.mem_singleton_self _), (Rect.mem_set_unit (inb := i0)).mpr fun a => ?_⟩
      fin_cases a <;> simp <;> omega
    · refine ⟨⟨Rect.unit ![0, 1408] ![432, 1408] i1, w1⟩, List.mem_cons_self, (Rect.mem_set_unit (inb := i1)).mpr fun a => ?_⟩
      fin_cases a <;> simp <;> omega

/-- A sum over the width of the two shards is that over the first and that over the second. -/
theorem two_shards (f : Fin 2816 → EReal) : ∑ x, f x = ∑ x : Fin 1408, f ⟨x.val, by omega⟩ + ∑ x : Fin 1408, f ⟨1408 + x.val, by omega⟩ :=
  Fin.sum_univ_add (a := 1408) (b := 1408) f

end Cert.Rows
-- ==== Proof.FwdClaim.lean ====
/-
  A gated feed-forward part on one device's tokens: both frames, the frame of the reference, and the equation of the two over
  the extended reals.  The kernel keeps the weights of both shards, walks the tokens in nineteen stretches, normalizes each
  row, projects it, gates it and projects it back shard by shard; the reference does the same on the whole arrays.
-/
module

public import proofs.«01_k».proof.Defs
public import proofs.«01_k».proof.Proof.Rows
public import proofs.«01_k».proof.Proof.Gen.FfnFwd
public import proofs.«01_k».proof.Proof.Gen.FfnFwd.Frame
public import proofs.«01_k».proof.Proof.Gen.FfnFwdIdeal.Frame
public import proofs.«01_k».proof.Proof.Gen.FfnFwdIdeal.Value
public import proofs.«01_k».proof.Proof.Gen.FfnFwdRefIdeal.Run

@[expose] public section

namespace Cert.FfnFwdProof

open Idealize.ShloMosaic Idealize.ShloMosaic.TcCoe Idealize.SL.Sem
open Cert.FfnFwdIdeal Cert.FfnFwdIdeal.Gen Cert.Products Cert.Rows

variable (m : (ℓ : Loc nD τ sig) → Buf (Elt Ideal) ℓ)

section Mathematics

variable {R : ℕ}

/-- The normalized and scaled rows. -/
noncomputable def norm (X : (⟨2, ![R, 1024]⟩ : Shape).Idx → EReal) (G : S1x1024.Idx → EReal) : (⟨2, ![R, 1024]⟩ : Shape).Idx → EReal := fun i =>
  X i * stat (fun l => X (ix2 (i 0) l)) * G (ix2 0 (i 1))

/-- A row through an up projection, at an entry of the two shards' width. -/
noncomputable def entry (N : (⟨2, ![R, 1024]⟩ : Shape).Idx → EReal) (W : S2x1024x1408.Idx → EReal) (k : Fin R) (s : Fin 2816) : EReal :=
  ∑ l, N (ix2 k l) * W (ix3 ⟨s.val / 1408, by omega⟩ l ⟨s.val % 1408, Nat.mod_lt _ (by decide)⟩)

/-- The rows through an up projection. -/
noncomputable def proj (N : (⟨2, ![R, 1024]⟩ : Shape).Idx → EReal) (W : S2x1024x1408.Idx → EReal) : (⟨2, ![R, 2816]⟩ : Shape).Idx → EReal := fun i =>
  entry N W (i 0) (i 1)

/-- The gated entries. -/
noncomputable def gated (A B : (⟨2, ![R, 2816]⟩ : Shape).Idx → EReal) : (⟨2, ![R, 2816]⟩ : Shape).Idx → EReal := fun i =>
  A i * Ideal.logistic (A i) * B i

/-- The rows through the down projection. -/
noncomputable def down (S : (⟨2, ![R, 2816]⟩ : Shape).Idx → EReal) (W : S2x1408x1024.Idx → EReal) : (⟨2, ![R, 1024]⟩ : Shape).Idx → EReal := fun i =>
  ∑ s : Fin 2816, S (ix2 (i 0) s) * W (ix3 ⟨s.val / 1408, by omega⟩ ⟨s.val % 1408, Nat.mod_lt _ (by decide)⟩ (i 1))

/-- The tokens after the feed-forward part. -/
noncomputable def out (X : (⟨2, ![R, 1024]⟩ : Shape).Idx → EReal) (G Q : S1x1024.Idx → EReal) (U V : S2x1024x1408.Idx → EReal) (W : S2x1408x1024.Idx → EReal) :
    (⟨2, ![R, 1024]⟩ : Shape).Idx → EReal := fun i =>
  X i + Ideal.ofBits .f32 0x3F000000#32 * norm (down (gated (proj (norm X G) U) (proj (norm X G) V)) W) Q i

end Mathematics

/-- The kernel's sigmoid. -/
theorem sigmoid (x : EReal) : Ideal.div 1 (1 + Ideal.exp (0 - x)) = Ideal.logistic x := by
  rw [zero_sub, Ideal.logistic]

/-- A stretch's normalized rows. -/
theorem norm_block (x : Vec Ideal S432x1024 .f32) (g : Vec Ideal S1x1024 .f32) : k0_pay3 x g = norm x g := by
  funext i
  obtain ⟨k, l, rfl⟩ : ∃ k l, i = ix2 k l := ⟨_, _, eq_ix2 i⟩
  pointwise [k0_pay3]
  rfl

/-- The two shards of an up projection and those of the down projection. -/
abbrev up0 (w : Vec Ideal S2x1024x1408 .bf16) := View.ld w (Rect.unit ![0, 0, 0] ![1, 1024, 1408] inb_S2x1024x1408_S1x1024x1408_0_0_0)

abbrev up1 (w : Vec Ideal S2x1024x1408 .bf16) := View.ld w (Rect.unit ![1, 0, 0] ![1, 1024, 1408] inb_S2x1024x1408_S1x1024x1408_1_0_0)

abbrev low0 (w : Vec Ideal S2x1408x1024 .bf16) := View.ld w (Rect.unit ![0, 0, 0] ![1, 1408, 1024] inb_S2x1408x1024_S1x1408x1024_0_0_0)

abbrev low1 (w : Vec Ideal S2x1408x1024 .bf16) := View.ld w (Rect.unit ![1, 0, 0] ![1, 1408, 1024] inb_S2x1408x1024_S1x1408x1024_1_0_0)

/-- A shard's product. -/
theorem shard (n : Vec Ideal S432x1024 .bf16) (w : Vec Ideal S1x1024x1408 .bf16) (k : Fin 432) (j : Fin 1408) :
    k0_pay12 n w (ix2 k j) = ∑ l, n (ix2 k l) * w (ix3 0 l j) ∧ k0_pay13 n w (ix2 k j) = ∑ l, n (ix2 k l) * w (ix3 0 l j) :=
  ⟨by pointwise [k0_pay12], by pointwise [k0_pay13]⟩

/-- An up projection of a stretch, on either shard. -/
theorem entries (n : Vec Ideal S432x1024 .bf16) (w : Vec Ideal S2x1024x1408 .bf16) (k : Fin 432) (j : Fin 1408) :
    k0_pay12 n (up0 w) (ix2 k j) = entry n w k ⟨j.val, by omega⟩
    ∧ k0_pay12 n (up1 w) (ix2 k j) = entry n w k ⟨1408 + j.val, by omega⟩ := by
  rw [(shard ..).1, (shard ..).1, entry, entry]
  refine ⟨Finset.sum_congr rfl fun l _ => congrArg₂ (· * ·) rfl (congrArg w (ix3_of _ _ _ _ ?_ ?_ ?_)),
    Finset.sum_congr rfl fun l _ => congrArg₂ (· * ·) rfl (congrArg w (ix3_of _ _ _ _ ?_ ?_ ?_))⟩
  all_goals simp [Rect.unit, LoadRect.idx] <;> omega

/-- What the kernel writes of an up projection, shard by shard. -/
theorem proj_halves (x : Vec Ideal S432x1024 .f32) (g : Vec Ideal S1x1024 .f32) (w : Vec Ideal S2x1024x1408 .bf16) :
    View.canon (Val := Elt Ideal) (e := .bf16) [⟨Rect.unit ![0, 1408] ![432, 1408] inb_S432x2816_S432x1408_0_1408, k0_pay15 (k0_pay3 x g) (up1 w)⟩,
      ⟨Rect.unit ![0, 0] ![432, 1408] inb_S432x2816_S432x1408_0_0, k0_pay9 (k0_pay5 x g (up0 w))⟩] = proj (norm x g) w := by
  rw [← norm_block]
  exact halves _ _ _ _ _ (fun k j => (entries (k0_pay3 x g) w k j).1) (fun k j => (entries (k0_pay3 x g) w k j).2)

/-- A shard's gated entries. -/
theorem gated_shard (n : Vec Ideal S432x1024 .bf16) (u v : Vec Ideal S2x1024x1408 .bf16) (k : Fin 432) (j : Fin 1408) :
    k0_pay14 n (up0 u) (up0 v) (ix2 k j) = gated (proj n u) (proj n v) (ix2 k ⟨j.val, by omega⟩)
    ∧ k0_pay14 n (up1 u) (up1 v) (ix2 k j) = gated (proj n u) (proj n v) (ix2 k ⟨1408 + j.val, by omega⟩) := by
  obtain ⟨a, b⟩ := entries n u k j
  obtain ⟨d, e⟩ := entries n v k j
  rw [show k0_pay12 n (up0 v) = k0_pay13 n (up0 v) from rfl] at d
  rw [show k0_pay12 n (up1 v) = k0_pay13 n (up1 v) from rfl] at e
  revert a b d e
  pointwise [k0_pay14]
  intro a b d e
  rw [a, b, d, e, sigmoid, sigmoid]
  exact ⟨rfl, rfl⟩

/-- What the kernel writes of the gated entries, shard by shard. -/
theorem gated_halves (x : Vec Ideal S432x1024 .f32) (g : Vec Ideal S1x1024 .f32) (u v : Vec Ideal S2x1024x1408 .bf16) :
    View.canon (Val := Elt Ideal) (e := .bf16) [⟨Rect.unit ![0, 1408] ![432, 1408] inb_S432x2816_S432x1408_0_1408, k0_pay14 (k0_pay3 x g) (up1 u) (up1 v)⟩,
      ⟨Rect.unit ![0, 0] ![432, 1408] inb_S432x2816_S432x1408_0_0, k0_pay8 (k0_pay6 x g (up0 v)) (k0_pay7 x g (up0 u))⟩]
      = gated (proj (norm x g) u) (proj (norm x g) v) := by
  rw [← norm_block]
  exact halves _ _ _ _ _ (fun k j => (gated_shard (k0_pay3 x g) u v k j).1) (fun k j => (gated_shard (k0_pay3 x g) u v k j).2)

/-- The down projection from two shards. -/
theorem down_shards (o s : Vec Ideal S432x1408 .bf16) (b a : FVec Ideal S432x1408 .f32) (w r : Vec Ideal S1x1408x1024 .bf16) (k : Fin 432) (l : Fin 1024)
    (ho : k0_pay8 b a = o) :
    k0_pay1 (k0_pay11 k0_pay4 b a w) s r (ix2 k l) = ∑ j, o (ix2 k j) * w (ix3 0 j l) + ∑ j, s (ix2 k j) * r (ix3 0 j l) := by
  subst ho
  pointwise [k0_pay1, k0_pay11, k0_pay4]

/-- A stretch through the down projection. -/
theorem down_block (x : Vec Ideal S432x1024 .f32) (g : Vec Ideal S1x1024 .f32) (u v : Vec Ideal S2x1024x1408 .bf16) (w : Vec Ideal S2x1408x1024 .bf16) :
    k0_pay1 (k0_pay11 k0_pay4 (k0_pay6 x g (up0 v)) (k0_pay7 x g (up0 u)) (low0 w))
      (k0_pay14 (k0_pay3 x g) (up1 u) (up1 v)) (low1 w)
      = down (gated (proj (norm x g) u) (proj (norm x g) v)) w := by
  funext i
  obtain ⟨k, l, rfl⟩ : ∃ k l, i = ix2 k l := ⟨_, _, eq_ix2 i⟩
  rw [down_shards (k0_pay14 (k0_pay3 x g) (up0 u) (up0 v)) _ (k0_pay6 x g (up0 v)) (k0_pay7 x g (up0 u)) _ _ k l rfl, down, two_shards, ← norm_block]
  refine congrArg₂ (· + ·) (Finset.sum_congr rfl fun j _ => congrArg₂ (· * ·) (gated_shard (k0_pay3 x g) u v k j).1 (congrArg w (ix3_of _ _ _ _ ?_ ?_ ?_)))
    (Finset.sum_congr rfl fun j _ => congrArg₂ (· * ·) (gated_shard (k0_pay3 x g) u v k j).2 (congrArg w (ix3_of _ _ _ _ ?_ ?_ ?_)))
  all_goals simp [Rect.unit, LoadRect.idx] <;> omega

/-- The tokens after the part, from what the down projection gives. -/
theorem out_from (x a : Vec Ideal S432x1024 .f32) (s : FVec Ideal S432x1408 .bf16) (w : Vec Ideal S1x1408x1024 .bf16) (q : Vec Ideal S1x1024 .f32)
    (f : S432x1024.Idx → EReal) (hf : k0_pay1 a s w = f) (k : Fin 432) (l : Fin 1024) :
    k0_pay2 x a s w q (ix2 k l) = x (ix2 k l) + Ideal.ofBits .f32 0x3F000000#32 * norm f q (ix2 k l) := by
  subst hf
  pointwise [k0_pay2]
  rfl

/-- A stretch's tokens after the part. -/
theorem out_block (x : Vec Ideal S432x1024 .f32) (g q : Vec Ideal S1x1024 .f32) (u v : Vec Ideal S2x1024x1408 .bf16) (w : Vec Ideal S2x1408x1024 .bf16) :
    k0_pay2 x (k0_pay11 k0_pay4 (k0_pay6 x g (up0 v)) (k0_pay7 x g (up0 u)) (low0 w))
      (k0_pay14 (k0_pay3 x g) (up1 u) (up1 v)) (low1 w) q
      = out x g q u v w := by
  funext i
  obtain ⟨k, l, rfl⟩ : ∃ k l, i = ix2 k l := ⟨_, _, eq_ix2 i⟩
  exact out_from x _ _ _ q _ (down_block x g u v w) k l

/-- The first step writes its stretch of the results, -/
theorem first (c : Dev nD) (i : grid0.Coords)
    (a1 : Memref sig .tc .vmem S432x1024 .f32) (h1 : a1.IsWhole) (a2 : Memref sig .tc .vmem S1x1024 .f32) (h2 : a2.IsWhole)
    (a3 : Memref sig .tc .vmem S1x1024 .f32) (h3 : a3.IsWhole) (a7 : Memref sig .tc .vmem S432x1024 .f32) (h7 : a7.IsWhole)
    (a8 : Memref sig .tc .vmem S432x1024 .f32) (h8 : a8.IsWhole) (a9 : Memref sig .tc .vmem S432x2816 .bf16) (h9 : a9.IsWhole)
    (a10 : Memref sig .tc .vmem S432x2816 .bf16) (h10 : a10.IsWhole) (a11 : Memref sig .tc .vmem S432x2816 .bf16) (h11 : a11.IsWhole)
    (a12 : Memref sig .tc .vmem S432x1024 .bf16) (h12 : a12.IsWhole) (a13 : Memref sig .tc .vmem S2x1024x1408 .bf16) (h13 : a13.IsWhole)
    (a14 : Memref sig .tc .vmem S2x1024x1408 .bf16) (h14 : a14.IsWhole) (a15 : Memref sig .tc .vmem S2x1408x1024 .bf16) (h15 : a15.IsWhole)
    (hc) (x : Vec Ideal S432x1024 .f32) (g q : Vec Ideal S1x1024 .f32) (u v w) :
    out0_A_3 c i a1 h1 a2 h2 a3 h3 a7 h7 a8 h8 a9 h9 a10 h10 a11 h11 a12 h12 a13 h13 a14 h14 a15 h15 hc x g q u v w = out x g q u v w
    ∧ out0_A_4 c i a1 h1 a2 h2 a3 h3 a7 h7 a8 h8 a9 h9 a10 h10 a11 h11 a12 h12 a13 h13 a14 h14 a15 h15 hc x g q u v w = down (gated (proj (norm x g) u) (proj (norm x g) v)) w
    ∧ out0_A_5 c i a1 h1 a2 h2 a3 h3 a7 h7 a8 h8 a9 h9 a10 h10 a11 h11 a12 h12 a13 h13 a14 h14 a15 h15 hc x g q u v w = proj (norm x g) u
    ∧ out0_A_6 c i a1 h1 a2 h2 a3 h3 a7 h7 a8 h8 a9 h9 a10 h10 a11 h11 a12 h12 a13 h13 a14 h14 a15 h15 hc x g q u v w = proj (norm x g) v
    ∧ out0_A_7 c i a1 h1 a2 h2 a3 h3 a7 h7 a8 h8 a9 h9 a10 h10 a11 h11 a12 h12 a13 h13 a14 h14 a15 h15 hc x g q u v w = gated (proj (norm x g) u) (proj (norm x g) v)
    ∧ out0_A_8 c i a1 h1 a2 h2 a3 h3 a7 h7 a8 h8 a9 h9 a10 h10 a11 h11 a12 h12 a13 h13 a14 h14 a15 h15 hc x g q u v w = norm x g := by
  refine ⟨(View.read_writes_eq_canon _ _ _ (cover0_A_3 c i a1 h1 a2 h2 a3 h3 a7 h7 a8 h8 a9 h9 a10 h10 a11 h11 a12 h12 a13 h13 a14 h14 a15 h15 hc x g q u v w)).trans ?_,
    (View.read_writes_eq_canon _ _ _ (cover0_A_4 c i a1 h1 a2 h2 a3 h3 a7 h7 a8 h8 a9 h9 a10 h10 a11 h11 a12 h12 a13 h13 a14 h14 a15 h15 hc x g q u v w)).trans ?_,
    (View.read_writes_eq_canon _ _ _ (cover0_A_5 c i a1 h1 a2 h2 a3 h3 a7 h7 a8 h8 a9 h9 a10 h10 a11 h11 a12 h12 a13 h13 a14 h14 a15 h15 hc x g q u v w)).trans ?_,
    (View.read_writes_eq_canon _ _ _ (cover0_A_6 c i a1 h1 a2 h2 a3 h3 a7 h7 a8 h8 a9 h9 a10 h10 a11 h11 a12 h12 a13 h13 a14 h14 a15 h15 hc x g q u v w)).trans ?_,
    (View.read_writes_eq_canon _ _ _ (cover0_A_7 c i a1 h1 a2 h2 a3 h3 a7 h7 a8 h8 a9 h9 a10 h10 a11 h11 a12 h12 a13 h13 a14 h14 a15 h15 hc x g q u v w)).trans ?_,
    (View.read_writes_eq_canon _ _ _ (cover0_A_8 c i a1 h1 a2 h2 a3 h3 a7 h7 a8 h8 a9 h9 a10 h10 a11 h11 a12 h12 a13 h13 a14 h14 a15 h15 hc x g q u v w)).trans ?_⟩
  all_goals
    unfold kernelRun0_A
    dsimp only
    simp only [kernelRun0_A.sl.r, kernelRun0_A.sl.r_1, kernelRun0_A.sl.r_2, kernelRun0_A.sl.r_3, kernelRun0_A.sl.r_4,
      kernelRun0_A.sl.r_5, kernelRun0_A.sl.r_6, kernelRun0_A.sl.r_7, kernelRun0_A.sl.v20, kernelRun0_A.sl.v23,
      kernelRun0_A.sl.v41, kernelRun0_A.sl.v45, kernelRun0_A.sl.v48, kernelRun0_A.sl.v66, kernelRun0_A.sl.dma0,
      kernelRun0_A.sl.dma0_1, kernelRun0_A.sl.dma0_2, View.readCov_eq_canon', View.read_whole, View.readAt_eq_ld,
      h1.read_unread, h2.read_unread, h3.read_unread, View.ld_unit_zero (S := S432x1024) hz2,
      View.ld_unit_zero (S := S1x1024) hz2]
    try simp only [filled]
    try rw [View.canon_unit_zero hz2]
  · exact out_block x g q u v w
  · exact down_block x g u v w
  · exact proj_halves x g u
  · exact proj_halves x g v
  · exact gated_halves x g u v
  · exact norm_block x g

/-- and keeps the weights it has copied. -/
theorem kept (c : Dev nD) (i : grid0.Coords)
    (a1 : Memref sig .tc .vmem S432x1024 .f32) (h1 : a1.IsWhole) (a2 : Memref sig .tc .vmem S1x1024 .f32) (h2 : a2.IsWhole)
    (a3 : Memref sig .tc .vmem S1x1024 .f32) (h3 : a3.IsWhole) (a7 : Memref sig .tc .vmem S432x1024 .f32) (h7 : a7.IsWhole)
    (a8 : Memref sig .tc .vmem S432x1024 .f32) (h8 : a8.IsWhole) (a9 : Memref sig .tc .vmem S432x2816 .bf16) (h9 : a9.IsWhole)
    (a10 : Memref sig .tc .vmem S432x2816 .bf16) (h10 : a10.IsWhole) (a11 : Memref sig .tc .vmem S432x2816 .bf16) (h11 : a11.IsWhole)
    (a12 : Memref sig .tc .vmem S432x1024 .bf16) (h12 : a12.IsWhole) (a13 : Memref sig .tc .vmem S2x1024x1408 .bf16) (h13 : a13.IsWhole)
    (a14 : Memref sig .tc .vmem S2x1024x1408 .bf16) (h14 : a14.IsWhole) (a15 : Memref sig .tc .vmem S2x1408x1024 .bf16) (h15 : a15.IsWhole)
    (hc) (x : Vec Ideal S432x1024 .f32) (g q : Vec Ideal S1x1024 .f32) (u v w) : sout0_A_0 c i a1 h1 a2 h2 a3 h3 a7 h7 a8 h8 a9 h9 a10 h10 a11 h11 a12 h12 a13 h13 a14 h14 a15 h15 hc x g q u v w = u ∧ sout0_A_1 c i a1 h1 a2 h2 a3 h3 a7 h7 a8 h8 a9 h9 a10 h10 a11 h11 a12 h12 a13 h13 a14 h14 a15 h15 hc x g q u v w = v
    ∧ sout0_A_2 c i a1 h1 a2 h2 a3 h3 a7 h7 a8 h8 a9 h9 a10 h10 a11 h11 a12 h12 a13 h13 a14 h14 a15 h15 hc x g q u v w = w := by
  refine ⟨(View.read_writes_eq_canon _ _ _ (scover0_A_0 c i a1 h1 a2 h2 a3 h3 a7 h7 a8 h8 a9 h9 a10 h10 a11 h11 a12 h12 a13 h13 a14 h14 a15 h15 hc x g q u v w)).trans ?_,
    (View.read_writes_eq_canon _ _ _ (scover0_A_1 c i a1 h1 a2 h2 a3 h3 a7 h7 a8 h8 a9 h9 a10 h10 a11 h11 a12 h12 a13 h13 a14 h14 a15 h15 hc x g q u v w)).trans ?_,
    (View.read_writes_eq_canon _ _ _ (scover0_A_2 c i a1 h1 a2 h2 a3 h3 a7 h7 a8 h8 a9 h9 a10 h10 a11 h11 a12 h12 a13 h13 a14 h14 a15 h15 hc x g q u v w)).trans ?_⟩
  all_goals
    unfold kernelRun0_A
    exact filled _

/-- A later step writes the same from the weights kept, -/
theorem later (c : Dev nD) (i : grid0.Coords)
    (a1 : Memref sig .tc .vmem S432x1024 .f32) (h1 : a1.IsWhole) (a2 : Memref sig .tc .vmem S1x1024 .f32) (h2 : a2.IsWhole)
    (a3 : Memref sig .tc .vmem S1x1024 .f32) (h3 : a3.IsWhole) (a7 : Memref sig .tc .vmem S432x1024 .f32) (h7 : a7.IsWhole)
    (a8 : Memref sig .tc .vmem S432x1024 .f32) (h8 : a8.IsWhole) (a9 : Memref sig .tc .vmem S432x2816 .bf16) (h9 : a9.IsWhole)
    (a10 : Memref sig .tc .vmem S432x2816 .bf16) (h10 : a10.IsWhole) (a11 : Memref sig .tc .vmem S432x2816 .bf16) (h11 : a11.IsWhole)
    (a12 : Memref sig .tc .vmem S432x1024 .bf16) (h12 : a12.IsWhole) (a13 : Memref sig .tc .vmem S2x1024x1408 .bf16) (h13 : a13.IsWhole)
    (a14 : Memref sig .tc .vmem S2x1024x1408 .bf16) (h14 : a14.IsWhole) (a15 : Memref sig .tc .vmem S2x1408x1024 .bf16) (h15 : a15.IsWhole)
    (hc) (x : Vec Ideal S432x1024 .f32) (g q : Vec Ideal S1x1024 .f32) (u v w e f p) :
    out0_B_3 c i a1 h1 a2 h2 a3 h3 a7 h7 a8 h8 a9 h9 a10 h10 a11 h11 a12 h12 a13 h13 a14 h14 a15 h15 hc x g q u v w e f p = out x g q u v w
    ∧ out0_B_4 c i a1 h1 a2 h2 a3 h3 a7 h7 a8 h8 a9 h9 a10 h10 a11 h11 a12 h12 a13 h13 a14 h14 a15 h15 hc x g q u v w e f p = down (gated (proj (norm x g) u) (proj (norm x g) v)) w
    ∧ out0_B_5 c i a1 h1 a2 h2 a3 h3 a7 h7 a8 h8 a9 h9 a10 h10 a11 h11 a12 h12 a13 h13 a14 h14 a15 h15 hc x g q u v w e f p = proj (norm x g) u
    ∧ out0_B_6 c i a1 h1 a2 h2 a3 h3 a7 h7 a8 h8 a9 h9 a10 h10 a11 h11 a12 h12 a13 h13 a14 h14 a15 h15 hc x g q u v w e f p = proj (norm x g) v
    ∧ out0_B_7 c i a1 h1 a2 h2 a3 h3 a7 h7 a8 h8 a9 h9 a10 h10 a11 h11 a12 h12 a13 h13 a14 h14 a15 h15 hc x g q u v w e f p = gated (proj (norm x g) u) (proj (norm x g) v)
    ∧ out0_B_8 c i a1 h1 a2 h2 a3 h3 a7 h7 a8 h8 a9 h9 a10 h10 a11 h11 a12 h12 a13 h13 a14 h14 a15 h15 hc x g q u v w e f p = norm x g := by
  refine ⟨(View.read_writes_eq_canon _ _ _ (cover0_B_3 c i a1 h1 a2 h2 a3 h3 a7 h7 a8 h8 a9 h9 a10 h10 a11 h11 a12 h12 a13 h13 a14 h14 a15 h15 hc x g q u v w e f p)).trans ?_,
    (View.read_writes_eq_canon _ _ _ (cover0_B_4 c i a1 h1 a2 h2 a3 h3 a7 h7 a8 h8 a9 h9 a10 h10 a11 h11 a12 h12 a13 h13 a14 h14 a15 h15 hc x g q u v w e f p)).trans ?_,
    (View.read_writes_eq_canon _ _ _ (cover0_B_5 c i a1 h1 a2 h2 a3 h3 a7 h7 a8 h8 a9 h9 a10 h10 a11 h11 a12 h12 a13 h13 a14 h14 a15 h15 hc x g q u v w e f p)).trans ?_,
    (View.read_writes_eq_canon _ _ _ (cover0_B_6 c i a1 h1 a2 h2 a3 h3 a7 h7 a8 h8 a9 h9 a10 h10 a11 h11 a12 h12 a13 h13 a14 h14 a15 h15 hc x g q u v w e f p)).trans ?_,
    (View.read_writes_eq_canon _ _ _ (cover0_B_7 c i a1 h1 a2 h2 a3 h3 a7 h7 a8 h8 a9 h9 a10 h10 a11 h11 a12 h12 a13 h13 a14 h14 a15 h15 hc x g q u v w e f p)).trans ?_,
    (View.read_writes_eq_canon _ _ _ (cover0_B_8 c i a1 h1 a2 h2 a3 h3 a7 h7 a8 h8 a9 h9 a10 h10 a11 h11 a12 h12 a13 h13 a14 h14 a15 h15 hc x g q u v w e f p)).trans ?_⟩
  all_goals
    unfold kernelRun0_B
    dsimp only
    simp only [kernelRun0_B.sl.r, kernelRun0_B.sl.r_1, kernelRun0_B.sl.r_2, kernelRun0_B.sl.r_3, kernelRun0_B.sl.r_4,
      kernelRun0_B.sl.r_5, kernelRun0_B.sl.r_6, kernelRun0_B.sl.r_7, View.readAt_eq_ld, h1.read_unread, h2.read_unread,
      h3.read_unread, h13.read_unread, h14.read_unread, h15.read_unread, View.ld_unit_zero (S := S432x1024) hz2,
      View.ld_unit_zero (S := S1x1024) hz2]
    try rw [View.canon_unit_zero hz2]
  · exact out_block x g q u v w
  · exact down_block x g u v w
  · exact proj_halves x g u
  · exact proj_halves x g v
  · exact gated_halves x g u v
  · exact norm_block x g

/-- and leaves the weights as they are. -/
theorem kept_later (c : Dev nD) (i : grid0.Coords)
    (a1 : Memref sig .tc .vmem S432x1024 .f32) (h1 : a1.IsWhole) (a2 : Memref sig .tc .vmem S1x1024 .f32) (h2 : a2.IsWhole)
    (a3 : Memref sig .tc .vmem S1x1024 .f32) (h3 : a3.IsWhole) (a7 : Memref sig .tc .vmem S432x1024 .f32) (h7 : a7.IsWhole)
    (a8 : Memref sig .tc .vmem S432x1024 .f32) (h8 : a8.IsWhole) (a9 : Memref sig .tc .vmem S432x2816 .bf16) (h9 : a9.IsWhole)
    (a10 : Memref sig .tc .vmem S432x2816 .bf16) (h10 : a10.IsWhole) (a11 : Memref sig .tc .vmem S432x2816 .bf16) (h11 : a11.IsWhole)
    (a12 : Memref sig .tc .vmem S432x1024 .bf16) (h12 : a12.IsWhole) (a13 : Memref sig .tc .vmem S2x1024x1408 .bf16) (h13 : a13.IsWhole)
    (a14 : Memref sig .tc .vmem S2x1024x1408 .bf16) (h14 : a14.IsWhole) (a15 : Memref sig .tc .vmem S2x1408x1024 .bf16) (h15 : a15.IsWhole)
    (hc) (x : Vec Ideal S432x1024 .f32) (g q : Vec Ideal S1x1024 .f32) (u v w e f p) : sout0_B_0 c i a1 h1 a2 h2 a3 h3 a7 h7 a8 h8 a9 h9 a10 h10 a11 h11 a12 h12 a13 h13 a14 h14 a15 h15 hc x g q u v w e f p = u
    ∧ sout0_B_1 c i a1 h1 a2 h2 a3 h3 a7 h7 a8 h8 a9 h9 a10 h10 a11 h11 a12 h12 a13 h13 a14 h14 a15 h15 hc x g q u v w e f p = v ∧ sout0_B_2 c i a1 h1 a2 h2 a3 h3 a7 h7 a8 h8 a9 h9 a10 h10 a11 h11 a12 h12 a13 h13 a14 h14 a15 h15 hc x g q u v w e f p = w := ⟨rfl, rfl, rfl⟩

/-- So every point holds the weights. -/
theorem held (c : Dev nD) (n : ℕ) : ∀ t : Fin cfg0.N, t.val = n → (outsAt0 m c t.val t.isLt).2.2.2.2.2.2.1 = m ((c : Thread nD τ).loc main_arg3)
    ∧ (outsAt0 m c t.val t.isLt).2.2.2.2.2.2.2.1 = m ((c : Thread nD τ).loc main_arg4) ∧ (outsAt0 m c t.val t.isLt).2.2.2.2.2.2.2.2 = m ((c : Thread nD τ).loc main_arg5) := by
  have hN : cfg0.N = 19 := N_0
  induction n with
  | zero =>
    intro t ht
    rw [outsAt0_A m c t (by omega)]
    dsimp only
    rw [(kept ..).1, (kept ..).2.1, (kept ..).2.2]
    exact ⟨rfl, rfl, rfl⟩
  | succ n ih =>
    intro t ht
    rw [outsAt0_B m c t (by have := t.isLt; omega)]
    have := ih ⟨t.val - 1, by omega⟩ (by dsimp only; omega)
    dsimp only
    rw [(kept_later ..).1, (kept_later ..).2.1, (kept_later ..).2.2]
    exact this

theorem weights (c : Dev nD) (n : ℕ) (hn : n < cfg0.N) : (outsAt0 m c n hn).2.2.2.2.2.2.1 = m ((c : Thread nD τ).loc main_arg3)
    ∧ (outsAt0 m c n hn).2.2.2.2.2.2.2.1 = m ((c : Thread nD τ).loc main_arg4) ∧ (outsAt0 m c n hn).2.2.2.2.2.2.2.2 = m ((c : Thread nD τ).loc main_arg5) := held m c n ⟨n, hn⟩ rfl

/-- Which blocks a point of the grid works on: the rows of its stretch, and the scales. -/
theorem places (t : Fin cfg0.N) : (win0_0.index t 0 = t.val ∧ win0_0.index t 1 = 0)
    ∧ (win0_1.index t 0 = 0 ∧ win0_1.index t 1 = 0) ∧ (win0_2.index t 0 = 0 ∧ win0_2.index t 1 = 0)
    ∧ (win0_3.index t 0 = t.val ∧ win0_3.index t 1 = 0) ∧ (win0_4.index t 0 = t.val ∧ win0_4.index t 1 = 0)
    ∧ (win0_5.index t 0 = t.val ∧ win0_5.index t 1 = 0) ∧ (win0_6.index t 0 = t.val ∧ win0_6.index t 1 = 0)
    ∧ (win0_7.index t 0 = t.val ∧ win0_7.index t 1 = 0) ∧ win0_8.index t 0 = t.val ∧ win0_8.index t 1 = 0 := by
  revert t; decide +kernel

/-- The number of points. -/
theorem lt_points (t : Fin cfg0.N) : t.val < 19 := lt_of_lt_of_eq t.isLt N_0

/-- A point's blocks are its stretch of the tokens and the two scales. -/
theorem blocks (c : Dev nD) (t : Fin cfg0.N) :
    iblk m c 0 t = stretch ⟨t.val, lt_points t⟩ (m ((c : Thread nD τ).loc main_arg0)) ∧ iblk m c 1 t = m ((c : Thread nD τ).loc main_arg1) ∧ iblk m c 2 t = m ((c : Thread nD τ).loc main_arg2) := by
  obtain ⟨⟨a0, a1⟩, ⟨b0, b1⟩, ⟨c0, c1⟩, -⟩ := places t
  exact ⟨
    funext fun y => congrArg (m ((c : Thread nD τ).loc main_arg0)) (placed ⟨t.val, lt_points t⟩ _ ((win0_0.rect t).emb y) y (Pipeline.Window.rect_emb_val win0_0 t y 0) (Pipeline.Window.rect_emb_val win0_0 t y 1) a0 a1),
    funext fun y => congrArg (m ((c : Thread nD τ).loc main_arg1)) ((ix2_of ((win0_1.rect t).emb y) (y 0) (y 1)
      ((Pipeline.Window.rect_emb_val win0_1 t y 0).trans (by rw [b0, Nat.zero_mul, Nat.zero_add]))
      ((Pipeline.Window.rect_emb_val win0_1 t y 1).trans (by rw [b1, Nat.zero_mul, Nat.zero_add]))).trans (eq_ix2 y).symm),
    funext fun y => congrArg (m ((c : Thread nD τ).loc main_arg2)) ((ix2_of ((win0_2.rect t).emb y) (y 0) (y 1)
      ((Pipeline.Window.rect_emb_val win0_2 t y 0).trans (by rw [c0, Nat.zero_mul, Nat.zero_add]))
      ((Pipeline.Window.rect_emb_val win0_2 t y 1).trans (by rw [c1, Nat.zero_mul, Nat.zero_add]))).trans (eq_ix2 y).symm)⟩

/-- The tokens after the feed-forward part, on all tokens. -/
noncomputable def outAll (c : Dev nD) : Buf (Elt Ideal) ((c : Thread nD τ).loc main_v0_0) :=
  out (R := 8208) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- What the down projection gives, on all tokens. -/
noncomputable def downAll (c : Dev nD) : Buf (Elt Ideal) ((c : Thread nD τ).loc main_v0_1) :=
  down (gated (proj (norm (R := 8208) (m ((c : Thread nD τ).loc main_arg0)) (m ((c : Thread nD τ).loc main_arg1))) (m ((c : Thread nD τ).loc main_arg3))) (proj (norm (R := 8208) (m ((c : Thread nD τ).loc main_arg0)) (m ((c : Thread nD τ).loc main_arg1))) (m ((c : Thread nD τ).loc main_arg4)))) (m ((c : Thread nD τ).loc main_arg5))

/-- The gate, on all tokens. -/
noncomputable def gateAll (c : Dev nD) : Buf (Elt Ideal) ((c : Thread nD τ).loc main_v0_2) :=
  proj (norm (R := 8208) (m ((c : Thread nD τ).loc main_arg0)) (m ((c : Thread nD τ).loc main_arg1))) (m ((c : Thread nD τ).loc main_arg3))

/-- What the gate is multiplied with, on all tokens. -/
noncomputable def upAll (c : Dev nD) : Buf (Elt Ideal) ((c : Thread nD τ).loc main_v0_3) :=
  proj (norm (R := 8208) (m ((c : Thread nD τ).loc main_arg0)) (m ((c : Thread nD τ).loc main_arg1))) (m ((c : Thread nD τ).loc main_arg4))

/-- The gated entries, on all tokens. -/
noncomputable def gatedAll (c : Dev nD) : Buf (Elt Ideal) ((c : Thread nD τ).loc main_v0_4) :=
  gated (proj (norm (R := 8208) (m ((c : Thread nD τ).loc main_arg0)) (m ((c : Thread nD τ).loc main_arg1))) (m ((c : Thread nD τ).loc main_arg3))) (proj (norm (R := 8208) (m ((c : Thread nD τ).loc main_arg0)) (m ((c : Thread nD τ).loc main_arg1))) (m ((c : Thread nD τ).loc main_arg4)))

/-- The normalized tokens, on all tokens. -/
noncomputable def normAll (c : Dev nD) : Buf (Elt Ideal) ((c : Thread nD τ).loc main_v0_5) :=
  norm (R := 8208) (m ((c : Thread nD τ).loc main_arg0)) (m ((c : Thread nD τ).loc main_arg1))

/-- What a point writes is its stretch of the results. -/
theorem point (c : Dev nD) (t : Fin cfg0.N) :
    (outsAt0 m c t.val t.isLt).1 = stretch ⟨t.val, lt_points t⟩ (outAll m c)
    ∧ (outsAt0 m c t.val t.isLt).2.1 = stretch ⟨t.val, lt_points t⟩ (downAll m c)
    ∧ (outsAt0 m c t.val t.isLt).2.2.1 = stretch ⟨t.val, lt_points t⟩ (gateAll m c)
    ∧ (outsAt0 m c t.val t.isLt).2.2.2.1 = stretch ⟨t.val, lt_points t⟩ (upAll m c)
    ∧ (outsAt0 m c t.val t.isLt).2.2.2.2.1 = stretch ⟨t.val, lt_points t⟩ (gatedAll m c)
    ∧ (outsAt0 m c t.val t.isLt).2.2.2.2.2.1 = stretch ⟨t.val, lt_points t⟩ (normAll m c) := by
  obtain ⟨e0, e1, e2⟩ := blocks m c t
  by_cases h : t.val % 19 = 0
  · rw [outsAt0_A m c t h]
    dsimp only
    rw [(first ..).1, (first ..).2.1, (first ..).2.2.1, (first ..).2.2.2.1, (first ..).2.2.2.2.1, (first ..).2.2.2.2.2, e0, e1, e2]
    exact ⟨rfl, rfl, rfl, rfl, rfl, rfl⟩
  · rw [outsAt0_B m c t h]
    dsimp only
    rw [(later ..).1, (later ..).2.1, (later ..).2.2.1, (later ..).2.2.2.1, (later ..).2.2.2.2.1, (later ..).2.2.2.2.2, (weights ..).1, (weights ..).2.1, (weights ..).2.2, e0, e1, e2]
    exact ⟨rfl, rfl, rfl, rfl, rfl, rfl⟩

set_option maxRecDepth 20000 in
/-- So the output arrays end as the results on all tokens. -/
theorem final (c : Dev nD) : (dats m 0 c).arrAt 3 cfg0.N = outAll m c
    ∧ (dats m 0 c).arrAt 4 cfg0.N = downAll m c
    ∧ (dats m 0 c).arrAt 5 cfg0.N = gateAll m c
    ∧ (dats m 0 c).arrAt 6 cfg0.N = upAll m c
    ∧ (dats m 0 c).arrAt 7 cfg0.N = gatedAll m c
    ∧ (dats m 0 c).arrAt 8 cfg0.N = normAll m c := by
  refine ⟨(dats m 0 c).arrAt_eq_of_covers 3 _ (by decide +kernel) fun t hf y => ?_,
    (dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_,
    (dats m 0 c).arrAt_eq_of_covers 7 _ (by decide +kernel) fun t hf y => ?_,
    (dats m 0 c).arrAt_eq_of_covers 8 _ (by decide +kernel) fun t hf y => ?_⟩
  all_goals obtain ⟨-, -, -, ⟨a0, a1⟩, ⟨b0, b1⟩, ⟨c0, c1⟩, ⟨d0, d1⟩, ⟨e0, e1⟩, f0, f1⟩ := places t
  · rw [after0_3]
    exact (congrFun (point m c t).1 (win0_3.xinj (grid0.coords t) y)).trans (congrArg (outAll m c)
      (placed ⟨t.val, lt_points t⟩ _ ((win0_3.rect t).emb y) y (Pipeline.Window.rect_emb_val win0_3 t y 0) (Pipeline.Window.rect_emb_val win0_3 t y 1) a0 a1).symm)
  · rw [after0_4]
    exact (congrFun (point m c t).2.1 (win0_4.xinj (grid0.coords t) y)).trans (congrArg (downAll m c)
      (placed ⟨t.val, lt_points t⟩ _ ((win0_4.rect t).emb y) y (Pipeline.Window.rect_emb_val win0_4 t y 0) (Pipeline.Window.rect_emb_val win0_4 t y 1) b0 b1).symm)
  · rw [after0_5]
    exact (congrFun (point m c t).2.2.1 (win0_5.xinj (grid0.coords t) y)).trans (congrArg (gateAll m c)
      (placed ⟨t.val, lt_points t⟩ _ ((win0_5.rect t).emb y) y (Pipeline.Window.rect_emb_val win0_5 t y 0) (Pipeline.Window.rect_emb_val win0_5 t y 1) c0 c1).symm)
  · rw [after0_6]
    exact (congrFun (point m c t).2.2.2.1 (win0_6.xinj (grid0.coords t) y)).trans (congrArg (upAll m c)
      (placed ⟨t.val, lt_points t⟩ _ ((win0_6.rect t).emb y) y (Pipeline.Window.rect_emb_val win0_6 t y 0) (Pipeline.Window.rect_emb_val win0_6 t y 1) d0 d1).symm)
  · rw [after0_7]
    exact (congrFun (point m c t).2.2.2.2.1 (win0_7.xinj (grid0.coords t) y)).trans (congrArg (gatedAll m c)
      (placed ⟨t.val, lt_points t⟩ _ ((win0_7.rect t).emb y) y (Pipeline.Window.rect_emb_val win0_7 t y 0) (Pipeline.Window.rect_emb_val win0_7 t y 1) e0 e1).symm)
  · rw [after0_8]
    exact (congrFun (point m c t).2.2.2.2.2 (win0_8.xinj (grid0.coords t) y)).trans (congrArg (normAll m c)
      (placed ⟨t.val, lt_points t⟩ _ ((win0_8.rect t).emb y) y (Pipeline.Window.rect_emb_val win0_8 t y 0) (Pipeline.Window.rect_emb_val win0_8 t y 1) f0 f1).symm)

/-- The reference's normalized rows. -/
theorem norm_ref (X : FVec Ideal Cert.FfnFwdRefIdeal.S8208x1024 .f32) (G : FVec Ideal Cert.FfnFwdRefIdeal.S1x1024 .f32) :
    (mulf (mulf X (broadcastInDim Cert.FfnFwdRefIdeal.S8208x1024 ![0, 1] Cert.FfnFwdRefIdeal.Gen.bcast_S8208x1_S8208x1024_0_1 (Host.rsqrt (addf (Host.divf (broadcastInDim Cert.FfnFwdRefIdeal.S8208x1 ![0] Cert.FfnFwdRefIdeal.Gen.bcast_S8208_S8208x1_0 (Host.reduceAdd (mulf X X) (constant Cert.FfnFwdRefIdeal.S_ .f32 0x00000000#32)
        Cert.FfnFwdRefIdeal.Gen.reducesTo_S8208x1024_S8208_d1 Cert.FfnFwdRefIdeal.Gen.h_S_)) (broadcastInDim Cert.FfnFwdRefIdeal.S8208x1 ![] Cert.FfnFwdRefIdeal.Gen.bcast_S_S8208x1 (constant Cert.FfnFwdRefIdeal.S_ .f32 0x44800000#32)))
        (broadcastInDim Cert.FfnFwdRefIdeal.S8208x1 ![] Cert.FfnFwdRefIdeal.Gen.bcast_S_S8208x1 (constant Cert.FfnFwdRefIdeal.S_ .f32 0x358637BD#32))))))
      (broadcastInDim Cert.FfnFwdRefIdeal.S8208x1024 ![0, 1] Cert.FfnFwdRefIdeal.Gen.bcast_S1x1024_S8208x1024_0_1 G) : FVec Ideal Cert.FfnFwdRefIdeal.S8208x1024 .f32) = norm (R := 8208) X G := by
  funext (i : S8208x1024.Idx)
  obtain ⟨n, l, rfl⟩ : ∃ n l, i = ix2 n l := ⟨_, _, eq_ix2 i⟩
  pointwise []
  rfl

/-- The reference's up projections, the shards side by side. -/
noncomputable def beside (W : S2x1024x1408.Idx → EReal) : (⟨2, ![1024, 2816]⟩ : Shape).Idx → EReal := fun i =>
  W (ix3 ⟨(i 1).val / 1408, by have := (i 1).isLt; simp at this; omega⟩ (i 0) ⟨(i 1).val % 1408, Nat.mod_lt _ (by decide)⟩)

theorem beside_ref (W : FVec Ideal Cert.FfnFwdRefIdeal.S2x1024x1408 .bf16) :
    (shapeCast Cert.FfnFwdRefIdeal.S1024x2816 (transpose Cert.FfnFwdRefIdeal.S1024x2x1408 [1, 0, 2] (extf .f32 W Cert.FfnFwdRefIdeal.Gen.bitsLt_bf16_f32) Cert.FfnFwdRefIdeal.Gen.transposes_S2x1024x1408_S1024x2x1408_1_0_2)
      Cert.FfnFwdRefIdeal.Gen.shapeCasts_S1024x2x1408_S1024x2816 : FVec Ideal Cert.FfnFwdRefIdeal.S1024x2816 .f32) = beside W := by
  funext (i : (⟨2, ![1024, 2816]⟩ : Shape).Idx)
  obtain ⟨l, s, rfl⟩ : ∃ l s, i = ix2 l s := ⟨_, _, eq_ix2 i⟩
  pointwise []
  rfl

theorem proj_ref (N : FVec Ideal Cert.FfnFwdRefIdeal.S8208x1024 .f32) (W : S2x1024x1408.Idx → EReal) :
    (Host.dotGeneral (φ₁ := .f32) (φ₂ := .f32) Cert.FfnFwdRefIdeal.dot_S8208x1024_S1024x2816_S8208x2816_1_0_0_1_n_n (some .fp32) N (beside W) : FVec Ideal Cert.FfnFwdRefIdeal.S8208x2816 .f32)
      = proj (R := 8208) N W := by
  funext (i : S8208x2816.Idx)
  obtain ⟨n, s, rfl⟩ : ∃ n s, i = ix2 n s := ⟨_, _, eq_ix2 i⟩
  pointwise []
  rfl

/-- The reference's gated entries. -/
theorem gated_ref (A B : FVec Ideal Cert.FfnFwdRefIdeal.S8208x2816 .f32) :
    (mulf (mulf A (Host.divf (broadcastInDim Cert.FfnFwdRefIdeal.S8208x2816 ![] Cert.FfnFwdRefIdeal.Gen.bcast_S_S8208x2816 (constant Cert.FfnFwdRefIdeal.S_ .f32 0x3F800000#32))
      (addf (broadcastInDim Cert.FfnFwdRefIdeal.S8208x2816 ![] Cert.FfnFwdRefIdeal.Gen.bcast_S_S8208x2816 (constant Cert.FfnFwdRefIdeal.S_ .f32 0x3F800000#32)) (Host.exp (Host.negf A))))) B : FVec Ideal Cert.FfnFwdRefIdeal.S8208x2816 .f32)
      = gated (R := 8208) A B := by
  funext (i : S8208x2816.Idx)
  obtain ⟨n, s, rfl⟩ : ∃ n s, i = ix2 n s := ⟨_, _, eq_ix2 i⟩
  pointwise []
  rfl

/-- The reference's down projection, the shards one below the other. -/
noncomputable def stacked (W : S2x1408x1024.Idx → EReal) : (⟨2, ![2816, 1024]⟩ : Shape).Idx → EReal := fun i =>
  W (ix3 ⟨(i 0).val / 1408, by have := (i 0).isLt; simp at this; omega⟩ ⟨(i 0).val % 1408, Nat.mod_lt _ (by decide)⟩ (i 1))

theorem stacked_ref (W : FVec Ideal Cert.FfnFwdRefIdeal.S2x1408x1024 .bf16) :
    (shapeCast Cert.FfnFwdRefIdeal.S2816x1024 (extf .f32 W Cert.FfnFwdRefIdeal.Gen.bitsLt_bf16_f32)
      Cert.FfnFwdRefIdeal.Gen.shapeCasts_S2x1408x1024_S2816x1024 : FVec Ideal Cert.FfnFwdRefIdeal.S2816x1024 .f32) = stacked W := by
  funext (i : (⟨2, ![2816, 1024]⟩ : Shape).Idx)
  obtain ⟨s, l, rfl⟩ : ∃ s l, i = ix2 s l := ⟨_, _, eq_ix2 i⟩
  pointwise []
  rfl

theorem down_ref (S : FVec Ideal Cert.FfnFwdRefIdeal.S8208x2816 .f32) (W : S2x1408x1024.Idx → EReal) :
    (Host.dotGeneral (φ₁ := .f32) (φ₂ := .f32) Cert.FfnFwdRefIdeal.dot_S8208x2816_S2816x1024_S8208x1024_1_0_0_1_n_n (some .fp32) S (stacked W) : FVec Ideal Cert.FfnFwdRefIdeal.S8208x1024 .f32)
      = down (R := 8208) S W := by
  funext (i : S8208x1024.Idx)
  obtain ⟨n, l, rfl⟩ : ∃ n l, i = ix2 n l := ⟨_, _, eq_ix2 i⟩
  pointwise []
  rfl

/-- The reference's last sum. -/
theorem out_ref (X F : FVec Ideal Cert.FfnFwdRefIdeal.S8208x1024 .f32) :
    (addf X (mulf (broadcastInDim Cert.FfnFwdRefIdeal.S8208x1024 ![] Cert.FfnFwdRefIdeal.Gen.bcast_S_S8208x1024 (constant Cert.FfnFwdRefIdeal.S_ .f32 0x3F000000#32)) F) : FVec Ideal Cert.FfnFwdRefIdeal.S8208x1024 .f32)
      = fun i => X i + Ideal.ofBits .f32 0x3F000000#32 * F i := by
  funext (i : S8208x1024.Idx)
  obtain ⟨n, l, rfl⟩ : ∃ n l, i = ix2 n l := ⟨_, _, eq_ix2 i⟩
  pointwise []

/-- The kernel runs to its end, its arguments kept, its counters at zero. -/
theorem frame : Cert.quiescent_FfnFwd (hFfnFwd := Cert.FfnFwd.Gen.facts) := fun m ρ _ => Cert.FfnFwd.Gen.frame m ρ

/-- The same of the kernel over the extended reals. -/
theorem frame_ideal : Cert.quiescent_FfnFwdIdeal (hFfnFwdIdeal := Cert.FfnFwdIdeal.Gen.facts) := fun m ρ _ => Cert.FfnFwdIdeal.Gen.frame m ρ

/-- The same of the reference. -/
theorem frame_ref : Cert.quiescent_FfnFwdRefIdeal (hFfnFwdRefIdeal := Cert.FfnFwdRefIdeal.Gen.facts) :=
  fun m ρ _ => (θ_run Cert.FfnFwdRefIdeal.defs _ _).mono (fun _ h => ⟨fun c => (h c).2.2.2.2.2.2, sem_eq_zero_of_no_sems (by decide) _⟩) (Cert.FfnFwdRefIdeal.Value.run m ρ)

set_option maxRecDepth 20000 in
/-- Kernel and reference end with the same tokens and the same activations over the extended reals. -/
theorem algebraic : Cert.algebraic_FfnFwdIdeal_FfnFwdRefIdeal (hFfnFwdIdeal := Cert.FfnFwdIdeal.Gen.facts) (hFfnFwdRefIdeal := Cert.FfnFwdRefIdeal.Gen.facts) :=
  fun m g m' g' _ h => by
    refine ⟨_, _, _, _, _, _, (θ_run _ _ _).mono (fun r hr c => ⟨(hr c).1.trans (final m c).1, (hr c).2.1.trans (final m c).2.1, (hr c).2.2.1.trans (final m c).2.2.1, (hr c).2.2.2.1.trans (final m c).2.2.2.1, (hr c).2.2.2.2.1.trans (final m c).2.2.2.2.1, (hr c).2.2.2.2.2.1.trans (final m c).2.2.2.2.2, (hr c).2.2.2.2.2.2⟩) (Cert.FfnFwdIdeal.Value.run_blocks m g),
      (θ_run _ _ _).mono (fun r hr c => ⟨(hr c).1.trans ?_, (hr c).2.1.trans ?_, (hr c).2.2.1.trans ?_, (hr c).2.2.2.1.trans ?_, (hr c).2.2.2.2.1.trans ?_, (hr c).2.2.2.2.2.1.trans ?_, (hr c).2.2.2.2.2.2⟩) (Cert.FfnFwdRefIdeal.Value.run m' g')⟩
    all_goals obtain ⟨e0, e1, e2, e3, e4, e5⟩ := h c
    · rw [Cert.FfnFwdRefIdeal.Value.res_main_v39, norm_ref, beside_ref, beside_ref, proj_ref, proj_ref, gated_ref, stacked_ref, down_ref, norm_ref, out_ref, e0, e1, e2, e3, e4, e5]
      rfl
    · rw [norm_ref, beside_ref, beside_ref, proj_ref, proj_ref, gated_ref, stacked_ref, down_ref, e0, e1, e3, e4, e5]
      rfl
    · rw [norm_ref, beside_ref, proj_ref, e0, e1, e3]
      rfl
    · rw [norm_ref, beside_ref, proj_ref, e0, e1, e4]
      rfl
    · rw [norm_ref, beside_ref, beside_ref, proj_ref, proj_ref, gated_ref, e0, e1, e3, e4]
      rfl
    · rw [norm_ref, e0, e1]
      rfl

end Cert.FfnFwdProof
-- ==== Proof.DownClaim.lean ====
/-
  The start of the backward pass through a gated feed-forward part on one device's tokens: both frames, the frame of the
  reference, and the equation of the two over the extended reals.  The kernel keeps the weights of both shards, walks the
  tokens in nineteen stretches, takes the cotangents back through the norm, gathers the gradient of its scale, and takes
  them shard by shard through the down projection and the gate; the reference does the same on the whole arrays.
-/
module

public import proofs.«01_k».proof.Defs
public import proofs.«01_k».proof.Proof.Rows
public import proofs.«01_k».proof.Proof.Gen.BwdDown
public import proofs.«01_k».proof.Proof.Gen.BwdDown.Frame
public import proofs.«01_k».proof.Proof.Gen.BwdDownIdeal.Frame
public import proofs.«01_k».proof.Proof.Gen.BwdDownIdeal.Value
public import proofs.«01_k».proof.Proof.Gen.BwdDownRefIdeal.Run

@[expose] public section

namespace Cert.BwdDownProof

open Idealize.ShloMosaic Idealize.ShloMosaic.TcCoe Idealize.SL.Sem
open Cert.BwdDownIdeal Cert.BwdDownIdeal.Gen Cert.Products Cert.Rows

variable (m : (ℓ : Loc nD τ sig) → Buf (Elt Ideal) ℓ)

section Mathematics

variable {R : ℕ} (D F : (⟨2, ![R, 1024]⟩ : Shape).Idx → EReal) (X Y : (⟨2, ![R, 2816]⟩ : Shape).Idx → EReal)
  (G : S1x1024.Idx → EReal) (W : S2x1408x1024.Idx → EReal)

/-- A row of the cotangents of the sum that is added, half of those given. -/
noncomputable def half (k : Fin R) (l : Fin 1024) : EReal := Ideal.ofBits .f32 0x3F000000#32 * D (ix2 k l)

/-- The cotangents of what the down projection gives. -/
noncomputable def outer : (⟨2, ![R, 1024]⟩ : Shape).Idx → EReal := fun i =>
  back (fun l => F (ix2 (i 0) l)) (fun l => G (ix2 0 l)) (half D (i 0)) (i 1)

/-- The cotangents of what the down projection takes. -/
noncomputable def inner (k : Fin R) (s : Fin 2816) : EReal :=
  ∑ l, outer D F G (ix2 k l) * W (ix3 ⟨s.val / 1408, by omega⟩ ⟨s.val % 1408, Nat.mod_lt _ (by decide)⟩ l)

/-- The cotangents of the gate. -/
noncomputable def gate : (⟨2, ![R, 2816]⟩ : Shape).Idx → EReal := fun i =>
  inner D F G W (i 0) (i 1) * Y i * (Ideal.logistic (X i) * (1 + X i * (1 - Ideal.logistic (X i))))

/-- The cotangents of what the gate is multiplied with. -/
noncomputable def up : (⟨2, ![R, 2816]⟩ : Shape).Idx → EReal := fun i =>
  inner D F G W (i 0) (i 1) * (X i * Ideal.logistic (X i))

/-- Every row's part of the gradient of the norm's scale. -/
noncomputable def part : (⟨2, ![R, 1024]⟩ : Shape).Idx → EReal := fun i => gain (fun l => F (ix2 (i 0) l)) (half D (i 0)) (i 1)

end Mathematics

/-- The kernel's sigmoid. -/
theorem sigmoid (x : EReal) : Ideal.div 1 (1 + Ideal.exp (0 - x)) = Ideal.logistic x := by
  rw [zero_sub, Ideal.logistic]

/-- A stretch's cotangents of what the down projection gives. -/
theorem outer_block (d f : Vec Ideal S432x1024 .f32) (g : Vec Ideal S1x1024 .f32) : k0_pay12 (k0_pay10 f g d) = outer d f g := by
  funext i
  obtain ⟨k, l, rfl⟩ : ∃ k l, i = ix2 k l := ⟨_, _, eq_ix2 i⟩
  pointwise [k0_pay12, k0_pay10, k0_pay8, k0_pay7, k0_pay6]
  rfl

/-- A stretch's part of the gradient of the scale. -/
theorem part_sum (d f : Vec Ideal S432x1024 .f32) (l : Fin 1024) : k0_pay9 f d (ix2 0 l) = ∑ k : Fin 432, part d f (ix2 k l) := by
  pointwise [k0_pay9, k0_pay8, k0_pay7, k0_pay6, part, gain, stat, half]

/-- A shard's product. -/
theorem shard (v : Vec Ideal S432x1024 .f32) (w : Vec Ideal S1x1408x1024 .bf16) (k : Fin 432) (j : Fin 1408) :
    k0_pay13 v w (ix2 k j) = ∑ l, v (ix2 k l) * w (ix3 0 j l) ∧ k0_pay1 (k0_pay12 v) (k0_pay18 w) (constant S432x1408 .f32 0x00000000#32) (ix2 k j) = ∑ l, v (ix2 k l) * w (ix3 0 j l) :=
  ⟨by pointwise [k0_pay13, k0_pay12], by pointwise [k0_pay1, k0_pay12, k0_pay18]⟩

/-- A stretch's cotangents of what the down projection takes, on either shard. -/
theorem inner_block (d f : Vec Ideal S432x1024 .f32) (g : Vec Ideal S1x1024 .f32) (w : Vec Ideal S2x1408x1024 .bf16) (k : Fin 432) (j : Fin 1408) :
    k0_pay13 (k0_pay10 f g d) (View.ld w (Rect.unit ![0, 0, 0] ![1, 1408, 1024] inb_S2x1408x1024_S1x1408x1024_0_0_0)) (ix2 k j) = inner d f g w k ⟨j.val, by omega⟩
    ∧ k0_pay1 (k0_pay12 (k0_pay10 f g d)) (k0_pay18 (View.ld w (Rect.unit ![1, 0, 0] ![1, 1408, 1024] inb_S2x1408x1024_S1x1408x1024_1_0_0))) (constant S432x1408 .f32 0x00000000#32) (ix2 k j) = inner d f g w k ⟨1408 + j.val, by omega⟩ := by
  rw [(shard ..).1, (shard ..).2, inner, inner, ← outer_block]
  refine ⟨Finset.sum_congr rfl fun l _ => congrArg₂ (· * ·) rfl (congrArg w (ix3_of _ _ _ _ ?_ ?_ ?_)),
    Finset.sum_congr rfl fun l _ => congrArg₂ (· * ·) rfl (congrArg w (ix3_of _ _ _ _ ?_ ?_ ?_))⟩
  all_goals simp [Rect.unit, LoadRect.idx] <;> omega

/-- What the kernel writes of the gate's cotangents, shard by shard. -/
theorem gates (d f : Vec Ideal S432x1024 .f32) (a b : Vec Ideal S432x2816 .bf16) (g : Vec Ideal S1x1024 .f32) (w : Vec Ideal S2x1408x1024 .bf16) :
    View.canon (Val := Elt Ideal) (e := .bf16) [⟨Rect.unit ![0, 1408] ![432, 1408] inb_S432x2816_S432x1408_0_1408, k0_pay5 (k0_pay12 (k0_pay10 f g d)) (k0_pay18 (View.ld w (Rect.unit ![1, 0, 0] ![1, 1408, 1024] inb_S2x1408x1024_S1x1408x1024_1_0_0))) (constant S432x1408 .f32 0x00000000#32) (View.ld a (Rect.unit ![0, 1408] ![432, 1408] inb_S432x2816_S432x1408_0_1408)) (View.ld b (Rect.unit ![0, 1408] ![432, 1408] inb_S432x2816_S432x1408_0_1408))⟩,
      ⟨Rect.unit ![0, 0] ![432, 1408] inb_S432x2816_S432x1408_0_0, k0_pay17 (k0_pay10 f g d) (View.ld w (Rect.unit ![0, 0, 0] ![1, 1408, 1024] inb_S2x1408x1024_S1x1408x1024_0_0_0)) (View.ld a (Rect.unit ![0, 0] ![432, 1408] inb_S432x2816_S432x1408_0_0)) (View.ld b (Rect.unit ![0, 0] ![432, 1408] inb_S432x2816_S432x1408_0_0))⟩]
      = gate d f a b g w := by
  refine halves _ _ _ _ _ (fun k j => ?_) (fun k j => ?_)
  · have e := (inner_block d f g w k j).1
    revert e
    pointwise [k0_pay17, k0_pay15, k0_pay14]
    intro e
    rw [e, sigmoid]
    rfl
  · have e := (inner_block d f g w k j).2
    revert e
    pointwise [k0_pay5, k0_pay3, k0_pay2]
    intro e
    rw [e, sigmoid]
    rfl

/-- The same of what the gate is multiplied with. -/
theorem ups (d f : Vec Ideal S432x1024 .f32) (a : Vec Ideal S432x2816 .bf16) (g : Vec Ideal S1x1024 .f32) (w : Vec Ideal S2x1408x1024 .bf16) :
    View.canon (Val := Elt Ideal) (e := .bf16) [⟨Rect.unit ![0, 1408] ![432, 1408] inb_S432x2816_S432x1408_0_1408, k0_pay4 (k0_pay12 (k0_pay10 f g d)) (k0_pay18 (View.ld w (Rect.unit ![1, 0, 0] ![1, 1408, 1024] inb_S2x1408x1024_S1x1408x1024_1_0_0))) (constant S432x1408 .f32 0x00000000#32) (View.ld a (Rect.unit ![0, 1408] ![432, 1408] inb_S432x2816_S432x1408_0_1408))⟩,
      ⟨Rect.unit ![0, 0] ![432, 1408] inb_S432x2816_S432x1408_0_0, k0_pay16 (k0_pay10 f g d) (View.ld w (Rect.unit ![0, 0, 0] ![1, 1408, 1024] inb_S2x1408x1024_S1x1408x1024_0_0_0)) (View.ld a (Rect.unit ![0, 0] ![432, 1408] inb_S432x2816_S432x1408_0_0))⟩]
      = up d f a g w := by
  refine halves _ _ _ _ _ (fun k j => ?_) (fun k j => ?_)
  · have e := (inner_block d f g w k j).1
    revert e
    pointwise [k0_pay16, k0_pay15, k0_pay14]
    intro e
    rw [e, sigmoid]
    rfl
  · have e := (inner_block d f g w k j).2
    revert e
    pointwise [k0_pay4, k0_pay3, k0_pay2]
    intro e
    rw [e, sigmoid]
    rfl

/-- The first step writes the three cotangents and leaves its part of the gradient of the scale. -/
theorem first (c : Dev nD) (i : grid0.Coords) (a1 : Memref sig .tc .vmem S432x1024 .f32) (h1 : a1.IsWhole)
    (a2 : Memref sig .tc .vmem S432x1024 .f32) (h2 : a2.IsWhole) (a3 : Memref sig .tc .vmem S432x2816 .bf16) (h3 : a3.IsWhole)
    (a4 : Memref sig .tc .vmem S432x2816 .bf16) (h4 : a4.IsWhole) (a5 : Memref sig .tc .vmem S1x1024 .f32) (h5 : a5.IsWhole)
    (a7 : Memref sig .tc .vmem S432x2816 .bf16) (h7 : a7.IsWhole) (a8 : Memref sig .tc .vmem S432x2816 .bf16) (h8 : a8.IsWhole)
    (a9 : Memref sig .tc .vmem S432x1024 .bf16) (h9 : a9.IsWhole) (a10 : Memref sig .tc .vmem S1x1024 .f32) (h10 : a10.IsWhole)
    (a11 : Memref sig .tc .vmem S2x1408x1024 .bf16) (h11 : a11.IsWhole) (hc hd he)
    (d f : Vec Ideal S432x1024 .f32) (a b : Vec Ideal S432x2816 .bf16) (g : Vec Ideal S1x1024 .f32) (w) :
    out0_A_5 c i a1 h1 a2 h2 a3 h3 a4 h4 a5 h5 a7 h7 a8 h8 a9 h9 a10 h10 a11 h11 hc hd he d f a b g w = gate d f a b g w ∧ out0_A_6 c i a1 h1 a2 h2 a3 h3 a4 h4 a5 h5 a7 h7 a8 h8 a9 h9 a10 h10 a11 h11 hc hd he d f a b g w = up d f a g w
    ∧ out0_A_7 c i a1 h1 a2 h2 a3 h3 a4 h4 a5 h5 a7 h7 a8 h8 a9 h9 a10 h10 a11 h11 hc hd he d f a b g w = k0_pay12 (k0_pay10 f g d) ∧ out0_A_8 c i a1 h1 a2 h2 a3 h3 a4 h4 a5 h5 a7 h7 a8 h8 a9 h9 a10 h10 a11 h11 hc hd he d f a b g w = k0_pay9 f d := by
  refine ⟨?_, ?_, ?_, ?_⟩
  · unfold out0_A_5
    rw [View.read_writes_eq_canon _ _ _ (cover0_A_5 c i a1 h1 a2 h2 a3 h3 a4 h4 a5 h5 a7 h7 a8 h8 a9 h9 a10 h10 a11 h11 hc hd he d f a b g w)]
    unfold kernelRun0_A
    dsimp only
    simp only [kernelRun0_A.sl.r_1, kernelRun0_A.sl.r_2, kernelRun0_A.sl.r_3, kernelRun0_A.sl.cst_36, kernelRun0_A.sl.v41, kernelRun0_A.sl.v69, kernelRun0_A.sl.dma0,
      View.readCov_eq_canon', View.read_whole,
      View.readAt_eq_ld, h1.read_unread, h2.read_unread, h3.read_unread, h4.read_unread, h5.read_unread, View.ld_unit_zero (S := S432x1024) hz2, View.ld_unit_zero (S := S1x1024) hz2]
    rw [filled]
    exact gates d f a b g w
  · unfold out0_A_6
    rw [View.read_writes_eq_canon _ _ _ (cover0_A_6 c i a1 h1 a2 h2 a3 h3 a4 h4 a5 h5 a7 h7 a8 h8 a9 h9 a10 h10 a11 h11 hc hd he d f a b g w)]
    unfold kernelRun0_A
    dsimp only
    simp only [kernelRun0_A.sl.r_1, kernelRun0_A.sl.r_2, kernelRun0_A.sl.r_3, kernelRun0_A.sl.cst_36, kernelRun0_A.sl.v41, kernelRun0_A.sl.v69, kernelRun0_A.sl.dma0,
      View.readCov_eq_canon', View.read_whole,
      View.readAt_eq_ld, h1.read_unread, h2.read_unread, h3.read_unread, h5.read_unread, View.ld_unit_zero (S := S432x1024) hz2, View.ld_unit_zero (S := S1x1024) hz2]
    rw [filled]
    exact ups d f a g w
  · unfold out0_A_7
    rw [View.read_writes_eq_canon _ _ _ (cover0_A_7 c i a1 h1 a2 h2 a3 h3 a4 h4 a5 h5 a7 h7 a8 h8 a9 h9 a10 h10 a11 h11 hc hd he d f a b g w)]
    unfold kernelRun0_A
    dsimp only
    rw [View.canon_unit_zero hz2]
    simp only [kernelRun0_A.sl.r_1,
      View.readAt_eq_ld, h1.read_unread, h2.read_unread, h5.read_unread, View.ld_unit_zero (S := S432x1024) hz2, View.ld_unit_zero (S := S1x1024) hz2]
  · unfold out0_A_8
    rw [View.read_writes_eq_canon _ _ _ (cover0_A_8 c i a1 h1 a2 h2 a3 h3 a4 h4 a5 h5 a7 h7 a8 h8 a9 h9 a10 h10 a11 h11 hc hd he d f a b g w)]
    unfold kernelRun0_A
    dsimp only
    rw [View.canon_unit_zero hz2]
    simp only [kernelRun0_A.sl.r,
      View.readAt_eq_ld, h1.read_unread, h2.read_unread, View.ld_unit_zero (S := S432x1024) hz2, View.ld_unit_zero (S := S1x1024) hz2]

/-- It keeps the weights it has copied. -/
theorem kept (c : Dev nD) (i : grid0.Coords) (a1 : Memref sig .tc .vmem S432x1024 .f32) (h1 : a1.IsWhole)
    (a2 : Memref sig .tc .vmem S432x1024 .f32) (h2 : a2.IsWhole) (a3 : Memref sig .tc .vmem S432x2816 .bf16) (h3 : a3.IsWhole)
    (a4 : Memref sig .tc .vmem S432x2816 .bf16) (h4 : a4.IsWhole) (a5 : Memref sig .tc .vmem S1x1024 .f32) (h5 : a5.IsWhole)
    (a7 : Memref sig .tc .vmem S432x2816 .bf16) (h7 : a7.IsWhole) (a8 : Memref sig .tc .vmem S432x2816 .bf16) (h8 : a8.IsWhole)
    (a9 : Memref sig .tc .vmem S432x1024 .bf16) (h9 : a9.IsWhole) (a10 : Memref sig .tc .vmem S1x1024 .f32) (h10 : a10.IsWhole)
    (a11 : Memref sig .tc .vmem S2x1408x1024 .bf16) (h11 : a11.IsWhole) (hc hd he)
    (d f : Vec Ideal S432x1024 .f32) (a b : Vec Ideal S432x2816 .bf16) (g : Vec Ideal S1x1024 .f32) (w) : sout0_A_0 c i a1 h1 a2 h2 a3 h3 a4 h4 a5 h5 a7 h7 a8 h8 a9 h9 a10 h10 a11 h11 hc hd he d f a b g w = w := by
  unfold sout0_A_0
  rw [View.read_writes_eq_canon _ _ _ (scover0_A_0 c i a1 h1 a2 h2 a3 h3 a4 h4 a5 h5 a7 h7 a8 h8 a9 h9 a10 h10 a11 h11 hc hd he d f a b g w)]
  unfold kernelRun0_A
  exact filled _

/-- A later step does the same from the weights kept, and adds its part of the gradient of the scale to what it found. -/
theorem later (c : Dev nD) (i : grid0.Coords) (a1 : Memref sig .tc .vmem S432x1024 .f32) (h1 : a1.IsWhole)
    (a2 : Memref sig .tc .vmem S432x1024 .f32) (h2 : a2.IsWhole) (a3 : Memref sig .tc .vmem S432x2816 .bf16) (h3 : a3.IsWhole)
    (a4 : Memref sig .tc .vmem S432x2816 .bf16) (h4 : a4.IsWhole) (a5 : Memref sig .tc .vmem S1x1024 .f32) (h5 : a5.IsWhole)
    (a7 : Memref sig .tc .vmem S432x2816 .bf16) (h7 : a7.IsWhole) (a8 : Memref sig .tc .vmem S432x2816 .bf16) (h8 : a8.IsWhole)
    (a9 : Memref sig .tc .vmem S432x1024 .bf16) (h9 : a9.IsWhole) (a10 : Memref sig .tc .vmem S1x1024 .f32) (h10 : a10.IsWhole)
    (a11 : Memref sig .tc .vmem S2x1408x1024 .bf16) (h11 : a11.IsWhole) (hc hd he)
    (d f : Vec Ideal S432x1024 .f32) (a b : Vec Ideal S432x2816 .bf16) (g : Vec Ideal S1x1024 .f32) (o w p) :
    out0_B_5 c i a1 h1 a2 h2 a3 h3 a4 h4 a5 h5 a7 h7 a8 h8 a9 h9 a10 h10 a11 h11 hc hd he d f a b g o w p = gate d f a b g w ∧ out0_B_6 c i a1 h1 a2 h2 a3 h3 a4 h4 a5 h5 a7 h7 a8 h8 a9 h9 a10 h10 a11 h11 hc hd he d f a b g o w p = up d f a g w
    ∧ out0_B_7 c i a1 h1 a2 h2 a3 h3 a4 h4 a5 h5 a7 h7 a8 h8 a9 h9 a10 h10 a11 h11 hc hd he d f a b g o w p = k0_pay12 (k0_pay10 f g d) ∧ out0_B_8 c i a1 h1 a2 h2 a3 h3 a4 h4 a5 h5 a7 h7 a8 h8 a9 h9 a10 h10 a11 h11 hc hd he d f a b g o w p = k0_pay11 (k0_pay9 f d) o := by
  refine ⟨?_, ?_, ?_, ?_⟩
  · unfold out0_B_5
    rw [View.read_writes_eq_canon _ _ _ (cover0_B_5 c i a1 h1 a2 h2 a3 h3 a4 h4 a5 h5 a7 h7 a8 h8 a9 h9 a10 h10 a11 h11 hc hd he d f a b g o w p)]
    unfold kernelRun0_B
    dsimp only
    simp only [kernelRun0_B.sl.r_1, kernelRun0_B.sl.r_2, kernelRun0_B.sl.r_3, kernelRun0_B.sl.cst_36,
      View.readAt_eq_ld, h1.read_unread, h2.read_unread, h3.read_unread, h4.read_unread, h5.read_unread, h11.read_unread, View.ld_unit_zero (S := S432x1024) hz2, View.ld_unit_zero (S := S1x1024) hz2]
    exact gates d f a b g w
  · unfold out0_B_6
    rw [View.read_writes_eq_canon _ _ _ (cover0_B_6 c i a1 h1 a2 h2 a3 h3 a4 h4 a5 h5 a7 h7 a8 h8 a9 h9 a10 h10 a11 h11 hc hd he d f a b g o w p)]
    unfold kernelRun0_B
    dsimp only
    simp only [kernelRun0_B.sl.r_1, kernelRun0_B.sl.r_2, kernelRun0_B.sl.r_3, kernelRun0_B.sl.cst_36,
      View.readAt_eq_ld, h1.read_unread, h2.read_unread, h3.read_unread, h5.read_unread, h11.read_unread, View.ld_unit_zero (S := S432x1024) hz2, View.ld_unit_zero (S := S1x1024) hz2]
    exact ups d f a g w
  · unfold out0_B_7
    rw [View.read_writes_eq_canon _ _ _ (cover0_B_7 c i a1 h1 a2 h2 a3 h3 a4 h4 a5 h5 a7 h7 a8 h8 a9 h9 a10 h10 a11 h11 hc hd he d f a b g o w p)]
    unfold kernelRun0_B
    dsimp only
    rw [View.canon_unit_zero hz2]
    simp only [kernelRun0_B.sl.r_1,
      View.readAt_eq_ld, h1.read_unread, h2.read_unread, h5.read_unread, View.ld_unit_zero (S := S432x1024) hz2, View.ld_unit_zero (S := S1x1024) hz2]
  · unfold out0_B_8
    rw [View.read_writes_eq_canon _ _ _ (cover0_B_8 c i a1 h1 a2 h2 a3 h3 a4 h4 a5 h5 a7 h7 a8 h8 a9 h9 a10 h10 a11 h11 hc hd he d f a b g o w p)]
    unfold kernelRun0_B
    dsimp only
    rw [View.canon_unit_zero hz2]
    simp only [kernelRun0_B.sl.r,
      View.readAt_eq_ld, h1.read_unread, h2.read_unread, h10.read_unread, View.ld_unit_zero (S := S432x1024) hz2, View.ld_unit_zero (S := S1x1024) hz2]

/-- It leaves the weights as they are. -/
theorem kept_later (c : Dev nD) (i : grid0.Coords) (a1 : Memref sig .tc .vmem S432x1024 .f32) (h1 : a1.IsWhole)
    (a2 : Memref sig .tc .vmem S432x1024 .f32) (h2 : a2.IsWhole) (a3 : Memref sig .tc .vmem S432x2816 .bf16) (h3 : a3.IsWhole)
    (a4 : Memref sig .tc .vmem S432x2816 .bf16) (h4 : a4.IsWhole) (a5 : Memref sig .tc .vmem S1x1024 .f32) (h5 : a5.IsWhole)
    (a7 : Memref sig .tc .vmem S432x2816 .bf16) (h7 : a7.IsWhole) (a8 : Memref sig .tc .vmem S432x2816 .bf16) (h8 : a8.IsWhole)
    (a9 : Memref sig .tc .vmem S432x1024 .bf16) (h9 : a9.IsWhole) (a10 : Memref sig .tc .vmem S1x1024 .f32) (h10 : a10.IsWhole)
    (a11 : Memref sig .tc .vmem S2x1408x1024 .bf16) (h11 : a11.IsWhole) (hc hd he)
    (d f : Vec Ideal S432x1024 .f32) (a b : Vec Ideal S432x2816 .bf16) (g : Vec Ideal S1x1024 .f32) (o w p) : sout0_B_0 c i a1 h1 a2 h2 a3 h3 a4 h4 a5 h5 a7 h7 a8 h8 a9 h9 a10 h10 a11 h11 hc hd he d f a b g o w p = w := rfl

/-- So every point holds the weights. -/
theorem held (c : Dev nD) (n : ℕ) : ∀ t : Fin cfg0.N, t.val = n → (outsAt0 m c t.val t.isLt).2.2.2.2 = m ((c : Thread nD τ).loc main_arg5) := by
  have hN : cfg0.N = 19 := N_0
  induction n with
  | zero =>
    intro t ht
    rw [outsAt0_A m c t (by omega) (by omega) (by omega)]
    dsimp only
    rw [kept]
  | succ n ih =>
    intro t ht
    rw [outsAt0_B m c t (by have := t.isLt; omega) (by have := t.isLt; omega) (by omega)]
    have := ih ⟨t.val - 1, by omega⟩ (by dsimp only; omega)
    dsimp only
    rw [kept_later]
    exact this

theorem weights (c : Dev nD) (n : ℕ) (hn : n < cfg0.N) : (outsAt0 m c n hn).2.2.2.2 = m ((c : Thread nD τ).loc main_arg5) := held m c n ⟨n, hn⟩ rfl

/-- Which blocks a point of the grid works on: the rows of its stretch. -/
theorem places (t : Fin cfg0.N) : (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = 0 ∧ win0_4.index t 1 = 0) ∧ (win0_5.index t 0 = t.val ∧ win0_5.index t 1 = 0)
    ∧ (win0_6.index t 0 = t.val ∧ win0_6.index t 1 = 0) ∧ (win0_7.index t 0 = t.val ∧ win0_7.index t 1 = 0)
    ∧ win0_8.index t 0 = 0 ∧ win0_8.index t 1 = 0 := by
  revert t; decide +kernel

/-- The number of points. -/
theorem lt_points (t : Fin cfg0.N) : t.val < 19 := lt_of_lt_of_eq t.isLt N_0

/-- A point's blocks are its stretches of the arrays, but for the norm's scale. -/
theorem blocks (c : Dev nD) (t : Fin cfg0.N) :
    iblk m c 0 t = stretch ⟨t.val, lt_points t⟩ (m ((c : Thread nD τ).loc main_arg0)) ∧ iblk m c 1 t = stretch ⟨t.val, lt_points t⟩ (m ((c : Thread nD τ).loc main_arg1))
    ∧ iblk m c 2 t = stretch ⟨t.val, lt_points t⟩ (m ((c : Thread nD τ).loc main_arg2)) ∧ iblk m c 3 t = stretch ⟨t.val, lt_points t⟩ (m ((c : Thread nD τ).loc main_arg3))
    ∧ iblk m c 4 t = m ((c : Thread nD τ).loc main_arg4) := by
  obtain ⟨⟨a0, a1⟩, ⟨b0, b1⟩, ⟨c0, c1⟩, ⟨d0, d1⟩, ⟨e0, e1⟩, -⟩ := places t
  exact ⟨
    funext fun y => congrArg (m ((c : Thread nD τ).loc main_arg0)) (placed ⟨t.val, lt_points t⟩ _ ((win0_0.rect t).emb y) y (Pipeline.Window.rect_emb_val win0_0 t y 0) (Pipeline.Window.rect_emb_val win0_0 t y 1) a0 a1),
    funext fun y => congrArg (m ((c : Thread nD τ).loc main_arg1)) (placed ⟨t.val, lt_points t⟩ _ ((win0_1.rect t).emb y) y (Pipeline.Window.rect_emb_val win0_1 t y 0) (Pipeline.Window.rect_emb_val win0_1 t y 1) b0 b1),
    funext fun y => congrArg (m ((c : Thread nD τ).loc main_arg2)) (placed ⟨t.val, lt_points t⟩ _ ((win0_2.rect t).emb y) y (Pipeline.Window.rect_emb_val win0_2 t y 0) (Pipeline.Window.rect_emb_val win0_2 t y 1) c0 c1),
    funext fun y => congrArg (m ((c : Thread nD τ).loc main_arg3)) (placed ⟨t.val, lt_points t⟩ _ ((win0_3.rect t).emb y) y (Pipeline.Window.rect_emb_val win0_3 t y 0) (Pipeline.Window.rect_emb_val win0_3 t y 1) d0 d1),
    funext fun y => congrArg (m ((c : Thread nD τ).loc main_arg4)) ((ix2_of ((win0_4.rect t).emb y) (y 0) (y 1)
      ((Pipeline.Window.rect_emb_val win0_4 t y 0).trans (by rw [e0, Nat.zero_mul, Nat.zero_add]))
      ((Pipeline.Window.rect_emb_val win0_4 t y 1).trans (by rw [e1, Nat.zero_mul, Nat.zero_add]))).trans (eq_ix2 y).symm)⟩

/-- The gate's cotangents on all tokens. -/
noncomputable def gateAll (c : Dev nD) : Buf (Elt Ideal) ((c : Thread nD τ).loc main_v0_0) :=
  gate (R := 8208) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- Those of what the gate is multiplied with. -/
noncomputable def upAll (c : Dev nD) : Buf (Elt Ideal) ((c : Thread nD τ).loc main_v0_1) :=
  up (R := 8208) (m ((c : Thread nD τ).loc main_arg0)) (m ((c : Thread nD τ).loc main_arg1)) (m ((c : Thread nD τ).loc main_arg2)) (m ((c : Thread nD τ).loc main_arg4)) (m ((c : Thread nD τ).loc main_arg5))

/-- Those of what the down projection gives. -/
noncomputable def outerAll (c : Dev nD) : Buf (Elt Ideal) ((c : Thread nD τ).loc main_v0_2) :=
  outer (R := 8208) (m ((c : Thread nD τ).loc main_arg0)) (m ((c : Thread nD τ).loc main_arg1)) (m ((c : Thread nD τ).loc main_arg4))

/-- Every row's part of the gradient of the scale. -/
noncomputable def parts (c : Dev nD) : S8208x1024.Idx → EReal := part (R := 8208) (m ((c : Thread nD τ).loc main_arg0)) (m ((c : Thread nD τ).loc main_arg1))

/-- The gradient of the scale at an entry. -/
noncomputable def total (c : Dev nD) (l : ℕ) : EReal := ∑ s : Fin 8208, at2 (parts m c) s.val l

/-- The gradient of the scale. -/
noncomputable def scale (c : Dev nD) : Buf (Elt Ideal) ((c : Thread nD τ).loc main_v0_3) := fun i : S1x1024.Idx => total m c (i 1).val

/-- What a point writes is its stretch of the three cotangents. -/
theorem point (c : Dev nD) (t : Fin cfg0.N) : (outsAt0 m c t.val t.isLt).1 = stretch ⟨t.val, lt_points t⟩ (gateAll m c)
    ∧ (outsAt0 m c t.val t.isLt).2.1 = stretch ⟨t.val, lt_points t⟩ (upAll m c)
    ∧ (outsAt0 m c t.val t.isLt).2.2.1 = stretch ⟨t.val, lt_points t⟩ (outerAll m c) := by
  obtain ⟨e0, e1, e2, e3, e4⟩ := blocks m c t
  by_cases h : t.val % 19 = 0
  · rw [outsAt0_A m c t h h (by have := lt_points t; omega)]
    dsimp only
    rw [(first ..).1, (first ..).2.1, (first ..).2.2.1, outer_block, e0, e1, e2, e3, e4]
    exact ⟨rfl, rfl, rfl⟩
  · rw [outsAt0_B m c t h h (by omega)]
    dsimp only
    rw [(later ..).1, (later ..).2.1, (later ..).2.2.1, outer_block, weights, e0, e1, e2, e3, e4]
    exact ⟨rfl, rfl, rfl⟩

/-- A point's part of the gradient of the scale. -/
theorem part_block (c : Dev nD) (t : Fin cfg0.N) (l : Fin 1024) :
    k0_pay9 (iblk m c 1 t) (iblk m c 0 t) (ix2 0 l) = ∑ k : Fin 432, at2 (parts m c) (t.val % 19 * 432 + k.val) l.val := by
  obtain ⟨e0, e1, -⟩ := blocks m c t
  rw [part_sum, Nat.mod_eq_of_lt (lt_points t), e0, e1]
  exact Finset.sum_congr rfl fun k _ => at2_idx (parts m c) (ix2 (row ⟨t.val, lt_points t⟩ k) l) rfl rfl

/-- The last point leaves the gradient of the scale. -/
theorem scale_block (c : Dev nD) (t : Fin cfg0.N) (ht : t.val % 19 = 18) (y : S1x1024.Idx) : (outsAt0 m c t.val t.isLt).2.2.2.1 y = total m c (y 1).val := by
  obtain ⟨l, rfl⟩ : ∃ l, y = ix2 0 l := ⟨y 1, (eq_ix2 y).trans (by congr 1; exact Subsingleton.elim (α := Fin 1) _ _)⟩
  refine gathered (fun n h => (outsAt0 m c n h).2.2.2.1 (ix2 0 l)) 19 432 (fun _ s => at2 (parts m c) s l.val) (fun t h => ?_) (fun t h => ?_) t ht rfl
  · rw [outsAt0_A m c t h h (by have := lt_points t; omega)]
    dsimp only
    rw [(first ..).2.2.2]
    exact part_block m c t l
  · rw [outsAt0_B m c t h h (by omega)]
    dsimp only
    rw [(later ..).2.2.2]
    refine Eq.trans ?_ (congrArg (_ + ·) (part_block m c t l))
    pointwise [k0_pay11]

set_option maxRecDepth 20000 in
/-- So the first three output arrays end as the cotangents on all tokens. -/
theorem final (c : Dev nD) : (dats m 0 c).arrAt 5 cfg0.N = gateAll m c ∧ (dats m 0 c).arrAt 6 cfg0.N = upAll m c
    ∧ (dats m 0 c).arrAt 7 cfg0.N = outerAll m c := by
  refine ⟨(dats m 0 c).arrAt_eq_of_covers 5 _ (by decide +kernel) fun t hf y => ?_, (dats m 0 c).arrAt_eq_of_covers 6 _ (by decide +kernel) fun t hf y => ?_,
    (dats m 0 c).arrAt_eq_of_covers 7 _ (by decide +kernel) fun t hf y => ?_⟩
  all_goals obtain ⟨-, -, -, -, -, ⟨a0, a1⟩, ⟨b0, b1⟩, ⟨c0, c1⟩, -⟩ := places t
  · rw [after0_5]
    exact (congrFun (point m c t).1 (win0_5.xinj (grid0.coords t) y)).trans (congrArg (gateAll m c)
      (placed ⟨t.val, lt_points t⟩ _ ((win0_5.rect t).emb y) y (Pipeline.Window.rect_emb_val win0_5 t y 0) (Pipeline.Window.rect_emb_val win0_5 t y 1) a0 a1).symm)
  · rw [after0_6]
    exact (congrFun (point m c t).2.1 (win0_6.xinj (grid0.coords t) y)).trans (congrArg (upAll m c)
      (placed ⟨t.val, lt_points t⟩ _ ((win0_6.rect t).emb y) y (Pipeline.Window.rect_emb_val win0_6 t y 0) (Pipeline.Window.rect_emb_val win0_6 t y 1) b0 b1).symm)
  · rw [after0_7]
    exact (congrFun (point m c t).2.2 (win0_7.xinj (grid0.coords t) y)).trans (congrArg (outerAll m c)
      (placed ⟨t.val, lt_points t⟩ _ ((win0_7.rect t).emb y) y (Pipeline.Window.rect_emb_val win0_7 t y 0) (Pipeline.Window.rect_emb_val win0_7 t y 1) c0 c1).symm)

set_option maxRecDepth 20000 in
/-- And the fourth as the gradient of the scale. -/
theorem final_scale (c : Dev nD) : (dats m 0 c).arrAt 8 cfg0.N = scale m c := by
  refine (dats m 0 c).arrAt_eq_of_covers 8 _ (by decide +kernel) fun t hf y => ?_
  obtain ⟨-, -, -, -, -, -, -, -, -, i1⟩ := places t
  have e1 : ((win0_8.rect t).emb y 1 : ℕ) = (y 1).val := (Pipeline.Window.rect_emb_val win0_8 t y 1).trans (by rw [i1, Nat.zero_mul, Nat.zero_add])
  rw [after0_8]
  exact (scale_block m c t ((flush0_8 t).mp hf) (win0_8.xinj (grid0.coords t) y)).trans (congrArg (total m c) e1.symm)

/-- The kernel runs to its end, its arguments kept, its counters at zero. -/
theorem frame : Cert.quiescent_BwdDown (hBwdDown := Cert.BwdDown.Gen.facts) := fun m ρ _ => Cert.BwdDown.Gen.frame m ρ

/-- The same of the kernel over the extended reals. -/
theorem frame_ideal : Cert.quiescent_BwdDownIdeal (hBwdDownIdeal := Cert.BwdDownIdeal.Gen.facts) := fun m ρ _ => Cert.BwdDownIdeal.Gen.frame m ρ

/-- The same of the reference. -/
theorem frame_ref : Cert.quiescent_BwdDownRefIdeal (hBwdDownRefIdeal := Cert.BwdDownRefIdeal.Gen.facts) :=
  fun m ρ _ => (θ_run Cert.BwdDownRefIdeal.defs _ _).mono (fun _ h => ⟨fun c => (h c).2.2.2.2, sem_eq_zero_of_no_sems (by decide) _⟩) (Cert.BwdDownRefIdeal.Value.run m ρ)

/-- The reference's cotangents of what the down projection gives. -/
theorem outer_ref (D F : Vec Ideal Cert.BwdDownRefIdeal.S8208x1024 .f32) (G : Vec Ideal Cert.BwdDownRefIdeal.S1x1024 .f32) :
    (mulf (broadcastInDim Cert.BwdDownRefIdeal.S8208x1024 ![0, 1] Cert.BwdDownRefIdeal.Gen.bcast_S8208x1_S8208x1024_0_1 (Host.rsqrt (addf (Host.divf (broadcastInDim Cert.BwdDownRefIdeal.S8208x1 ![0] Cert.BwdDownRefIdeal.Gen.bcast_S8208_S8208x1_0 (Host.reduceAdd (mulf F F) (constant Cert.BwdDownRefIdeal.S_ .f32 0x00000000#32) Cert.BwdDownRefIdeal.Gen.reducesTo_S8208x1024_S8208_d1 Cert.BwdDownRefIdeal.Gen.h_S_)) (broadcastInDim Cert.BwdDownRefIdeal.S8208x1 ![] Cert.BwdDownRefIdeal.Gen.bcast_S_S8208x1 (constant Cert.BwdDownRefIdeal.S_ .f32 0x44800000#32))) (broadcastInDim Cert.BwdDownRefIdeal.S8208x1 ![] Cert.BwdDownRefIdeal.Gen.bcast_S_S8208x1 (constant Cert.BwdDownRefIdeal.S_ .f32 0x358637BD#32))))) (subf (mulf (mulf (broadcastInDim Cert.BwdDownRefIdeal.S8208x1024 ![] Cert.BwdDownRefIdeal.Gen.bcast_S_S8208x1024 (constant Cert.BwdDownRefIdeal.S_ .f32 0x3F000000#32)) D) (broadcastInDim Cert.BwdDownRefIdeal.S8208x1024 ![0, 1] Cert.BwdDownRefIdeal.Gen.bcast_S1x1024_S8208x1024_0_1 G)) (mulf (mulf F (broadcastInDim Cert.BwdDownRefIdeal.S8208x1024 ![0, 1] Cert.BwdDownRefIdeal.Gen.bcast_S8208x1_S8208x1024_0_1 (Host.rsqrt (addf (Host.divf (broadcastInDim Cert.BwdDownRefIdeal.S8208x1 ![0] Cert.BwdDownRefIdeal.Gen.bcast_S8208_S8208x1_0 (Host.reduceAdd (mulf F F) (constant Cert.BwdDownRefIdeal.S_ .f32 0x00000000#32) Cert.BwdDownRefIdeal.Gen.reducesTo_S8208x1024_S8208_d1 Cert.BwdDownRefIdeal.Gen.h_S_)) (broadcastInDim Cert.BwdDownRefIdeal.S8208x1 ![] Cert.BwdDownRefIdeal.Gen.bcast_S_S8208x1 (constant Cert.BwdDownRefIdeal.S_ .f32 0x44800000#32))) (broadcastInDim Cert.BwdDownRefIdeal.S8208x1 ![] Cert.BwdDownRefIdeal.Gen.bcast_S_S8208x1 (constant Cert.BwdDownRefIdeal.S_ .f32 0x358637BD#32)))))) (broadcastInDim Cert.BwdDownRefIdeal.S8208x1024 ![0, 1] Cert.BwdDownRefIdeal.Gen.bcast_S8208x1_S8208x1024_0_1 (Host.divf (broadcastInDim Cert.BwdDownRefIdeal.S8208x1 ![0] Cert.BwdDownRefIdeal.Gen.bcast_S8208_S8208x1_0 (Host.reduceAdd (mulf (mulf (mulf (broadcastInDim Cert.BwdDownRefIdeal.S8208x1024 ![] Cert.BwdDownRefIdeal.Gen.bcast_S_S8208x1024 (constant Cert.BwdDownRefIdeal.S_ .f32 0x3F000000#32)) D) (broadcastInDim Cert.BwdDownRefIdeal.S8208x1024 ![0, 1] Cert.BwdDownRefIdeal.Gen.bcast_S1x1024_S8208x1024_0_1 G)) (mulf F (broadcastInDim Cert.BwdDownRefIdeal.S8208x1024 ![0, 1] Cert.BwdDownRefIdeal.Gen.bcast_S8208x1_S8208x1024_0_1 (Host.rsqrt (addf (Host.divf (broadcastInDim Cert.BwdDownRefIdeal.S8208x1 ![0] Cert.BwdDownRefIdeal.Gen.bcast_S8208_S8208x1_0 (Host.reduceAdd (mulf F F) (constant Cert.BwdDownRefIdeal.S_ .f32 0x00000000#32) Cert.BwdDownRefIdeal.Gen.reducesTo_S8208x1024_S8208_d1 Cert.BwdDownRefIdeal.Gen.h_S_)) (broadcastInDim Cert.BwdDownRefIdeal.S8208x1 ![] Cert.BwdDownRefIdeal.Gen.bcast_S_S8208x1 (constant Cert.BwdDownRefIdeal.S_ .f32 0x44800000#32))) (broadcastInDim Cert.BwdDownRefIdeal.S8208x1 ![] Cert.BwdDownRefIdeal.Gen.bcast_S_S8208x1 (constant Cert.BwdDownRefIdeal.S_ .f32 0x358637BD#32))))))) (constant Cert.BwdDownRefIdeal.S_ .f32 0x00000000#32) Cert.BwdDownRefIdeal.Gen.reducesTo_S8208x1024_S8208_d1 Cert.BwdDownRefIdeal.Gen.h_S_)) (broadcastInDim Cert.BwdDownRefIdeal.S8208x1 ![] Cert.BwdDownRefIdeal.Gen.bcast_S_S8208x1 (constant Cert.BwdDownRefIdeal.S_ .f32 0x44800000#32)))))) : FVec Ideal Cert.BwdDownRefIdeal.S8208x1024 .f32)
      = outer (R := 8208) D F G := by
  funext (i : S8208x1024.Idx)
  obtain ⟨n, l, rfl⟩ : ∃ n l, i = ix2 n l := ⟨_, _, eq_ix2 i⟩
  pointwise []
  rfl

/-- The reference's weights with the shards one below the other. -/
noncomputable def stacked (W : S2x1408x1024.Idx → EReal) : (⟨2, ![2816, 1024]⟩ : Shape).Idx → EReal := fun i =>
  W (ix3 ⟨(i 0).val / 1408, by have := (i 0).isLt; simp at this; omega⟩ ⟨(i 0).val % 1408, Nat.mod_lt _ (by decide)⟩ (i 1))

theorem stacked_ref (W : FVec Ideal Cert.BwdDownRefIdeal.S2x1408x1024 .bf16) :
    (shapeCast Cert.BwdDownRefIdeal.S2816x1024 (extf .f32 W Cert.BwdDownRefIdeal.Gen.bitsLt_bf16_f32)
      Cert.BwdDownRefIdeal.Gen.shapeCasts_S2x1408x1024_S2816x1024 : FVec Ideal Cert.BwdDownRefIdeal.S2816x1024 .f32) = stacked W := by
  funext (i : (⟨2, ![2816, 1024]⟩ : Shape).Idx)
  obtain ⟨s, l, rfl⟩ : ∃ s l, i = ix2 s l := ⟨_, _, eq_ix2 i⟩
  pointwise []
  rfl

/-- The reference's sigmoid. -/
theorem sigmoid_ref (A : FVec Ideal Cert.BwdDownRefIdeal.S8208x2816 .bf16) :
    (Host.divf (broadcastInDim Cert.BwdDownRefIdeal.S8208x2816 ![] Cert.BwdDownRefIdeal.Gen.bcast_S_S8208x2816 (constant Cert.BwdDownRefIdeal.S_ .f32 0x3F800000#32))
      (addf (broadcastInDim Cert.BwdDownRefIdeal.S8208x2816 ![] Cert.BwdDownRefIdeal.Gen.bcast_S_S8208x2816 (constant Cert.BwdDownRefIdeal.S_ .f32 0x3F800000#32))
        (Host.exp (Host.negf (extf .f32 A Cert.BwdDownRefIdeal.Gen.bitsLt_bf16_f32)))) : FVec Ideal Cert.BwdDownRefIdeal.S8208x2816 .f32)
      = fun i => Ideal.logistic (A i) := by
  funext (i : S8208x2816.Idx)
  obtain ⟨n, s, rfl⟩ : ∃ n s, i = ix2 n s := ⟨_, _, eq_ix2 i⟩
  pointwise []
  rfl

set_option maxRecDepth 20000 in
/-- Kernel and reference end with the same cotangents and the same gradient of the scale over the extended reals. -/
theorem algebraic : Cert.algebraic_BwdDownIdeal_BwdDownRefIdeal (hBwdDownIdeal := Cert.BwdDownIdeal.Gen.facts) (hBwdDownRefIdeal := Cert.BwdDownRefIdeal.Gen.facts) :=
  fun m g m' g' _ h => by
    refine ⟨_, _, _, _, (θ_run _ _ _).mono (fun r hr c => ⟨(hr c).1.trans (final m c).1, (hr c).2.1.trans (final m c).2.1, (hr c).2.2.1.trans (final m c).2.2, (hr c).2.2.2.1.trans (final_scale m c), (hr c).2.2.2.2⟩) (Cert.BwdDownIdeal.Value.run_blocks m g),
      (θ_run _ _ _).mono (fun r hr c => ⟨(hr c).1.trans ?_, (hr c).2.1.trans ?_, (hr c).2.2.1.trans ?_, (hr c).2.2.2.1.trans ?_, (hr c).2.2.2.2⟩) (Cert.BwdDownRefIdeal.Value.run m' g')⟩
    all_goals obtain ⟨e0, e1, e2, e3, e4, e5⟩ := h c
    · rw [outer_ref, stacked_ref, sigmoid_ref, e0, e1, e2, e3, e4, e5]
      funext (i : S8208x2816.Idx)
      obtain ⟨n, l, rfl⟩ : ∃ n l, i = ix2 n l := ⟨_, _, eq_ix2 i⟩
      pointwise []
      rfl
    · rw [outer_ref, stacked_ref, sigmoid_ref, e0, e1, e2, e4, e5]
      funext (i : S8208x2816.Idx)
      obtain ⟨n, l, rfl⟩ : ∃ n l, i = ix2 n l := ⟨_, _, eq_ix2 i⟩
      pointwise []
      rfl
    · rw [outer_ref, e0, e1, e4]
      funext (i : S8208x1024.Idx)
      obtain ⟨n, l, rfl⟩ : ∃ n l, i = ix2 n l := ⟨_, _, eq_ix2 i⟩
      pointwise []
      rfl
    · rw [e0, e1]
      funext (i : S1x1024.Idx)
      obtain ⟨a, l, rfl⟩ : ∃ a l, i = ix2 a l := ⟨_, _, eq_ix2 i⟩
      show _ = ∑ s : Fin 8208, at2 (parts m c) s.val l.val
      refine Eq.trans ?_ (Finset.sum_congr rfl fun n _ => at2_idx (parts m c) (ix2 n l) rfl rfl)
      pointwise []
      rfl

end Cert.BwdDownProof
-- ==== Proof.BwdUpClaim.lean ====
/-
  The end of the backward pass through a gated feed-forward part on one device's tokens: both frames, the frame of the
  reference, and the equation of the two over the extended reals.  The kernel keeps the weights of both shards, walks the
  tokens in nineteen stretches, takes the cotangents back through the two projections shard by shard and through the norm,
  and gathers the gradient of the norm's scale; the reference does the same on the whole arrays.
-/
module

public import proofs.«01_k».proof.Defs
public import proofs.«01_k».proof.Proof.Rows
public import proofs.«01_k».proof.Proof.Gen.BwdUp
public import proofs.«01_k».proof.Proof.Gen.BwdUp.Frame
public import proofs.«01_k».proof.Proof.Gen.BwdUpIdeal.Frame
public import proofs.«01_k».proof.Proof.Gen.BwdUpIdeal.Value
public import proofs.«01_k».proof.Proof.Gen.BwdUpRefIdeal.Run

@[expose] public section

namespace Cert.BwdUpProof

open Idealize.ShloMosaic Idealize.ShloMosaic.TcCoe Idealize.SL.Sem
open Cert.BwdUpIdeal Cert.BwdUpIdeal.Gen Cert.Products Cert.Rows

variable (m : (ℓ : Loc nD τ sig) → Buf (Elt Ideal) ℓ)

/-- A row of the cotangents of the normalized tokens: both cotangents back through their weights. -/
noncomputable def down {R : ℕ} (X Y : (⟨2, ![R, 2816]⟩ : Shape).Idx → EReal) (W V : S2x1024x1408.Idx → EReal) (k : Fin R) (l : Fin 1024) : EReal :=
  ∑ s, X (ix2 k s) * W (ix3 ⟨s.val / 1408, by omega⟩ l ⟨s.val % 1408, Nat.mod_lt _ (by decide)⟩)
    + ∑ s, Y (ix2 k s) * V (ix3 ⟨s.val / 1408, by omega⟩ l ⟨s.val % 1408, Nat.mod_lt _ (by decide)⟩)

/-- What the kernel forms of them on a stretch, shard by shard. -/
noncomputable def shards (x y : Vec Ideal S432x2816 .bf16) (w v : Vec Ideal S2x1024x1408 .bf16) : FVec Ideal S432x1024 .f32 :=
  k0_pay6 (View.ld x (Rect.unit ![0, 0] ![432, 1408] inb_S432x2816_S432x1408_0_0))
    (View.ld w (Rect.unit ![0, 0, 0] ![1, 1024, 1408] inb_S2x1024x1408_S1x1024x1408_0_0_0))
    (View.ld y (Rect.unit ![0, 0] ![432, 1408] inb_S432x2816_S432x1408_0_0))
    (View.ld v (Rect.unit ![0, 0, 0] ![1, 1024, 1408] inb_S2x1024x1408_S1x1024x1408_0_0_0))
    (View.ld x (Rect.unit ![0, 1408] ![432, 1408] inb_S432x2816_S432x1408_0_1408))
    (View.ld w (Rect.unit ![1, 0, 0] ![1, 1024, 1408] inb_S2x1024x1408_S1x1024x1408_1_0_0))
    (View.ld y (Rect.unit ![0, 1408] ![432, 1408] inb_S432x2816_S432x1408_0_1408))
    (View.ld v (Rect.unit ![1, 0, 0] ![1, 1024, 1408] inb_S2x1024x1408_S1x1024x1408_1_0_0))

/-- One product over a shard. -/
theorem shard (X : Vec Ideal S432x2816 .bf16) (W : Vec Ideal S2x1024x1408 .bf16) (k : Fin 432) (l : Fin 1024) :
    ∑ s, X (ix2 k s) * W (ix3 ⟨s.val / 1408, by omega⟩ l ⟨s.val % 1408, Nat.mod_lt _ (by decide)⟩)
      = ∑ j, View.ld X (Rect.unit ![0, 0] ![432, 1408] inb_S432x2816_S432x1408_0_0) (ix2 k j)
          * View.ld W (Rect.unit ![0, 0, 0] ![1, 1024, 1408] inb_S2x1024x1408_S1x1024x1408_0_0_0) (ix3 0 l j)
        + ∑ j, View.ld X (Rect.unit ![0, 1408] ![432, 1408] inb_S432x2816_S432x1408_0_1408) (ix2 k j)
          * View.ld W (Rect.unit ![1, 0, 0] ![1, 1024, 1408] inb_S2x1024x1408_S1x1024x1408_1_0_0) (ix3 0 l j) := by
  rw [two_shards]
  refine congrArg₂ (· + ·) (Finset.sum_congr rfl fun j _ => congrArg₂ (· * ·) (congrArg X (ix2_of _ _ _ ?_ ?_).symm) (congrArg W (ix3_of _ _ _ _ ?_ ?_ ?_).symm))
    (Finset.sum_congr rfl fun j _ => congrArg₂ (· * ·) (congrArg X (ix2_of _ _ _ ?_ ?_).symm) (congrArg W (ix3_of _ _ _ _ ?_ ?_ ?_).symm))
  all_goals simp [Rect.unit, LoadRect.idx] <;> omega

/-- The shards together give the cotangents. -/
theorem shards_apply (x y : Vec Ideal S432x2816 .bf16) (w v : Vec Ideal S2x1024x1408 .bf16) (k : Fin 432) (l : Fin 1024) :
    shards x y w v (ix2 k l) = down x y w v k l := by
  rw [down, shard, shard, add_add_add_comm, ← add_assoc]
  pointwise [shards, k0_pay6]

/-- A stretch's result: what it is given, and the cotangents back through the norm. -/
theorem through (d h b : Vec Ideal S432x1024 .f32) (g : Vec Ideal S1x1024 .f32) (k : Fin 432) (l : Fin 1024) :
    k0_pay5 d h g (k0_pay7 h) b (ix2 k l) = b (ix2 k l) + back (fun x => h (ix2 k x)) (fun x => g (ix2 0 x)) (fun x => d (ix2 k x)) l := by
  pointwise [k0_pay5, k0_pay2, k0_pay1, k0_pay7]
  rfl

/-- A stretch's part of the gradient of the scale. -/
theorem gains (d h : Vec Ideal S432x1024 .f32) (l : Fin 1024) :
    k0_pay3 d h (k0_pay7 h) (ix2 0 l) = ∑ k : Fin 432, gain (fun x => h (ix2 k x)) (fun x => d (ix2 k x)) l := by
  pointwise [k0_pay3, k0_pay2, k0_pay1, k0_pay7, gain, stat]

/-- The first step writes its result, -/
theorem written_first (c : Dev nD) (i : grid0.Coords) (a1 : Memref sig .tc .vmem S432x2816 .bf16) (h1 : a1.IsWhole)
    (a2 : Memref sig .tc .vmem S432x2816 .bf16) (h2 : a2.IsWhole) (a3 : Memref sig .tc .vmem S432x1024 .f32) (h3 : a3.IsWhole)
    (a4 : Memref sig .tc .vmem S432x1024 .f32) (h4 : a4.IsWhole) (a5 : Memref sig .tc .vmem S1x1024 .f32) (h5 : a5.IsWhole)
    (a8 : Memref sig .tc .vmem S432x1024 .f32) (h8 : a8.IsWhole) (a9 : Memref sig .tc .vmem S1x1024 .f32) (h9 : a9.IsWhole)
    (a10 : Memref sig .tc .vmem S2x1024x1408 .bf16) (h10 : a10.IsWhole) (a11 : Memref sig .tc .vmem S2x1024x1408 .bf16) (h11 : a11.IsWhole)
    (hc hd he) (x y : Vec Ideal S432x2816 .bf16) (h b : Vec Ideal S432x1024 .f32) (g : Vec Ideal S1x1024 .f32) (w v) :
    out0_A_5 c i a1 h1 a2 h2 a3 h3 a4 h4 a5 h5 a8 h8 a9 h9 a10 h10 a11 h11 hc hd he x y h b g w v = k0_pay5 (shards x y w v) h g (k0_pay7 h) b := by
  unfold out0_A_5
  rw [View.read_writes_eq_canon _ _ _ (cover0_A_5 c i a1 h1 a2 h2 a3 h3 a4 h4 a5 h5 a8 h8 a9 h9 a10 h10 a11 h11 hc hd he x y h b g w v)]
  unfold kernelRun0_A
  dsimp only
  rw [View.canon_unit_zero hz2]
  simp only [kernelRun0_A.sl.r, kernelRun0_A.sl.r_1, kernelRun0_A.sl.r_2, kernelRun0_A.sl.r_3, kernelRun0_A.sl.v5, kernelRun0_A.sl.v10,
    kernelRun0_A.sl.v15, kernelRun0_A.sl.v20, kernelRun0_A.sl.dma0, kernelRun0_A.sl.dma0_1, View.readCov_eq_canon', View.read_whole,
    View.readAt_eq_ld, h1.read_unread, h2.read_unread, h3.read_unread, h4.read_unread, h5.read_unread,
    View.ld_unit_zero (S := S432x1024) hz2, View.ld_unit_zero (S := S1x1024) hz2]
  rw [filled, filled]
  rfl

/-- leaves its part of the gradient of the scale, -/
theorem first (c : Dev nD) (i : grid0.Coords) (a1 : Memref sig .tc .vmem S432x2816 .bf16) (h1 : a1.IsWhole)
    (a2 : Memref sig .tc .vmem S432x2816 .bf16) (h2 : a2.IsWhole) (a3 : Memref sig .tc .vmem S432x1024 .f32) (h3 : a3.IsWhole)
    (a4 : Memref sig .tc .vmem S432x1024 .f32) (h4 : a4.IsWhole) (a5 : Memref sig .tc .vmem S1x1024 .f32) (h5 : a5.IsWhole)
    (a8 : Memref sig .tc .vmem S432x1024 .f32) (h8 : a8.IsWhole) (a9 : Memref sig .tc .vmem S1x1024 .f32) (h9 : a9.IsWhole)
    (a10 : Memref sig .tc .vmem S2x1024x1408 .bf16) (h10 : a10.IsWhole) (a11 : Memref sig .tc .vmem S2x1024x1408 .bf16) (h11 : a11.IsWhole)
    (hc hd he) (x y : Vec Ideal S432x2816 .bf16) (h b : Vec Ideal S432x1024 .f32) (g : Vec Ideal S1x1024 .f32) (w v) :
    out0_A_6 c i a1 h1 a2 h2 a3 h3 a4 h4 a5 h5 a8 h8 a9 h9 a10 h10 a11 h11 hc hd he x y h b g w v = k0_pay3 (shards x y w v) h (k0_pay7 h) := by
  unfold out0_A_6
  rw [View.read_writes_eq_canon _ _ _ (cover0_A_6 c i a1 h1 a2 h2 a3 h3 a4 h4 a5 h5 a8 h8 a9 h9 a10 h10 a11 h11 hc hd he x y h b g w v)]
  unfold kernelRun0_A
  dsimp only
  rw [View.canon_unit_zero hz2]
  simp only [kernelRun0_A.sl.r, kernelRun0_A.sl.r_1, kernelRun0_A.sl.r_2, kernelRun0_A.sl.r_3, kernelRun0_A.sl.v5, kernelRun0_A.sl.v10,
    kernelRun0_A.sl.v15, kernelRun0_A.sl.v20, kernelRun0_A.sl.dma0, kernelRun0_A.sl.dma0_1, View.readCov_eq_canon', View.read_whole,
    View.readAt_eq_ld, h1.read_unread, h2.read_unread, h3.read_unread, h4.read_unread, h5.read_unread,
    View.ld_unit_zero (S := S432x1024) hz2, View.ld_unit_zero (S := S1x1024) hz2]
  rw [filled, filled]
  rfl

/-- and keeps the weights it has copied. -/
theorem kept (c : Dev nD) (i : grid0.Coords) (a1 : Memref sig .tc .vmem S432x2816 .bf16) (h1 : a1.IsWhole)
    (a2 : Memref sig .tc .vmem S432x2816 .bf16) (h2 : a2.IsWhole) (a3 : Memref sig .tc .vmem S432x1024 .f32) (h3 : a3.IsWhole)
    (a4 : Memref sig .tc .vmem S432x1024 .f32) (h4 : a4.IsWhole) (a5 : Memref sig .tc .vmem S1x1024 .f32) (h5 : a5.IsWhole)
    (a8 : Memref sig .tc .vmem S432x1024 .f32) (h8 : a8.IsWhole) (a9 : Memref sig .tc .vmem S1x1024 .f32) (h9 : a9.IsWhole)
    (a10 : Memref sig .tc .vmem S2x1024x1408 .bf16) (h10 : a10.IsWhole) (a11 : Memref sig .tc .vmem S2x1024x1408 .bf16) (h11 : a11.IsWhole)
    (hc hd he) (x y : Vec Ideal S432x2816 .bf16) (h b : Vec Ideal S432x1024 .f32) (g : Vec Ideal S1x1024 .f32) (w v) :
    sout0_A_0 c i a1 h1 a2 h2 a3 h3 a4 h4 a5 h5 a8 h8 a9 h9 a10 h10 a11 h11 hc hd he x y h b g w v = w := by
  unfold sout0_A_0
  rw [View.read_writes_eq_canon _ _ _ (scover0_A_0 c i a1 h1 a2 h2 a3 h3 a4 h4 a5 h5 a8 h8 a9 h9 a10 h10 a11 h11 hc hd he x y h b g w v)]
  unfold kernelRun0_A
  exact filled _

theorem kept_too (c : Dev nD) (i : grid0.Coords) (a1 : Memref sig .tc .vmem S432x2816 .bf16) (h1 : a1.IsWhole)
    (a2 : Memref sig .tc .vmem S432x2816 .bf16) (h2 : a2.IsWhole) (a3 : Memref sig .tc .vmem S432x1024 .f32) (h3 : a3.IsWhole)
    (a4 : Memref sig .tc .vmem S432x1024 .f32) (h4 : a4.IsWhole) (a5 : Memref sig .tc .vmem S1x1024 .f32) (h5 : a5.IsWhole)
    (a8 : Memref sig .tc .vmem S432x1024 .f32) (h8 : a8.IsWhole) (a9 : Memref sig .tc .vmem S1x1024 .f32) (h9 : a9.IsWhole)
    (a10 : Memref sig .tc .vmem S2x1024x1408 .bf16) (h10 : a10.IsWhole) (a11 : Memref sig .tc .vmem S2x1024x1408 .bf16) (h11 : a11.IsWhole)
    (hc hd he) (x y : Vec Ideal S432x2816 .bf16) (h b : Vec Ideal S432x1024 .f32) (g : Vec Ideal S1x1024 .f32) (w v) :
    sout0_A_1 c i a1 h1 a2 h2 a3 h3 a4 h4 a5 h5 a8 h8 a9 h9 a10 h10 a11 h11 hc hd he x y h b g w v = v := by
  unfold sout0_A_1
  rw [View.read_writes_eq_canon _ _ _ (scover0_A_1 c i a1 h1 a2 h2 a3 h3 a4 h4 a5 h5 a8 h8 a9 h9 a10 h10 a11 h11 hc hd he x y h b g w v)]
  unfold kernelRun0_A
  exact filled _

/-- A later step leaves the weights as they are, -/
theorem kept_later (c : Dev nD) (i : grid0.Coords) (a1 : Memref sig .tc .vmem S432x2816 .bf16) (h1 : a1.IsWhole)
    (a2 : Memref sig .tc .vmem S432x2816 .bf16) (h2 : a2.IsWhole) (a3 : Memref sig .tc .vmem S432x1024 .f32) (h3 : a3.IsWhole)
    (a4 : Memref sig .tc .vmem S432x1024 .f32) (h4 : a4.IsWhole) (a5 : Memref sig .tc .vmem S1x1024 .f32) (h5 : a5.IsWhole)
    (a8 : Memref sig .tc .vmem S432x1024 .f32) (h8 : a8.IsWhole) (a9 : Memref sig .tc .vmem S1x1024 .f32) (h9 : a9.IsWhole)
    (a10 : Memref sig .tc .vmem S2x1024x1408 .bf16) (h10 : a10.IsWhole) (a11 : Memref sig .tc .vmem S2x1024x1408 .bf16) (h11 : a11.IsWhole)
    (hc hd he) (x y : Vec Ideal S432x2816 .bf16) (h b : Vec Ideal S432x1024 .f32) (g : Vec Ideal S1x1024 .f32) (o w v p q) : sout0_B_0 c i a1 h1 a2 h2 a3 h3 a4 h4 a5 h5 a8 h8 a9 h9 a10 h10 a11 h11 hc hd he x y h b g o w v p q = w := rfl

theorem kept_later_too (c : Dev nD) (i : grid0.Coords) (a1 : Memref sig .tc .vmem S432x2816 .bf16) (h1 : a1.IsWhole)
    (a2 : Memref sig .tc .vmem S432x2816 .bf16) (h2 : a2.IsWhole) (a3 : Memref sig .tc .vmem S432x1024 .f32) (h3 : a3.IsWhole)
    (a4 : Memref sig .tc .vmem S432x1024 .f32) (h4 : a4.IsWhole) (a5 : Memref sig .tc .vmem S1x1024 .f32) (h5 : a5.IsWhole)
    (a8 : Memref sig .tc .vmem S432x1024 .f32) (h8 : a8.IsWhole) (a9 : Memref sig .tc .vmem S1x1024 .f32) (h9 : a9.IsWhole)
    (a10 : Memref sig .tc .vmem S2x1024x1408 .bf16) (h10 : a10.IsWhole) (a11 : Memref sig .tc .vmem S2x1024x1408 .bf16) (h11 : a11.IsWhole)
    (hc hd he) (x y : Vec Ideal S432x2816 .bf16) (h b : Vec Ideal S432x1024 .f32) (g : Vec Ideal S1x1024 .f32) (o w v p q) : sout0_B_1 c i a1 h1 a2 h2 a3 h3 a4 h4 a5 h5 a8 h8 a9 h9 a10 h10 a11 h11 hc hd he x y h b g o w v p q = v := rfl

/-- writes its result from them, -/
theorem written_later (c : Dev nD) (i : grid0.Coords) (a1 : Memref sig .tc .vmem S432x2816 .bf16) (h1 : a1.IsWhole)
    (a2 : Memref sig .tc .vmem S432x2816 .bf16) (h2 : a2.IsWhole) (a3 : Memref sig .tc .vmem S432x1024 .f32) (h3 : a3.IsWhole)
    (a4 : Memref sig .tc .vmem S432x1024 .f32) (h4 : a4.IsWhole) (a5 : Memref sig .tc .vmem S1x1024 .f32) (h5 : a5.IsWhole)
    (a8 : Memref sig .tc .vmem S432x1024 .f32) (h8 : a8.IsWhole) (a9 : Memref sig .tc .vmem S1x1024 .f32) (h9 : a9.IsWhole)
    (a10 : Memref sig .tc .vmem S2x1024x1408 .bf16) (h10 : a10.IsWhole) (a11 : Memref sig .tc .vmem S2x1024x1408 .bf16) (h11 : a11.IsWhole)
    (hc hd he) (x y : Vec Ideal S432x2816 .bf16) (h b : Vec Ideal S432x1024 .f32) (g : Vec Ideal S1x1024 .f32) (o w v p q) :
    out0_B_5 c i a1 h1 a2 h2 a3 h3 a4 h4 a5 h5 a8 h8 a9 h9 a10 h10 a11 h11 hc hd he x y h b g o w v p q = k0_pay5 (shards x y w v) h g (k0_pay7 h) b := by
  unfold out0_B_5
  rw [View.read_writes_eq_canon _ _ _ (cover0_B_5 c i a1 h1 a2 h2 a3 h3 a4 h4 a5 h5 a8 h8 a9 h9 a10 h10 a11 h11 hc hd he x y h b g o w v p q)]
  unfold kernelRun0_B
  dsimp only
  rw [View.canon_unit_zero hz2]
  simp only [kernelRun0_B.sl.r, kernelRun0_B.sl.r_1, kernelRun0_B.sl.r_2, kernelRun0_B.sl.r_3,
    View.readAt_eq_ld, h1.read_unread, h2.read_unread, h3.read_unread, h4.read_unread, h5.read_unread,
    h9.read_unread, h10.read_unread, h11.read_unread, View.ld_unit_zero (S := S432x1024) hz2, View.ld_unit_zero (S := S1x1024) hz2]
  rfl

/-- and adds its part of the gradient of the scale to what it found. -/
theorem later (c : Dev nD) (i : grid0.Coords) (a1 : Memref sig .tc .vmem S432x2816 .bf16) (h1 : a1.IsWhole)
    (a2 : Memref sig .tc .vmem S432x2816 .bf16) (h2 : a2.IsWhole) (a3 : Memref sig .tc .vmem S432x1024 .f32) (h3 : a3.IsWhole)
    (a4 : Memref sig .tc .vmem S432x1024 .f32) (h4 : a4.IsWhole) (a5 : Memref sig .tc .vmem S1x1024 .f32) (h5 : a5.IsWhole)
    (a8 : Memref sig .tc .vmem S432x1024 .f32) (h8 : a8.IsWhole) (a9 : Memref sig .tc .vmem S1x1024 .f32) (h9 : a9.IsWhole)
    (a10 : Memref sig .tc .vmem S2x1024x1408 .bf16) (h10 : a10.IsWhole) (a11 : Memref sig .tc .vmem S2x1024x1408 .bf16) (h11 : a11.IsWhole)
    (hc hd he) (x y : Vec Ideal S432x2816 .bf16) (h b : Vec Ideal S432x1024 .f32) (g : Vec Ideal S1x1024 .f32) (o w v p q) (l : Fin 1024) :
    out0_B_6 c i a1 h1 a2 h2 a3 h3 a4 h4 a5 h5 a8 h8 a9 h9 a10 h10 a11 h11 hc hd he x y h b g o w v p q (ix2 0 l) = o (ix2 0 l) + k0_pay3 (shards x y w v) h (k0_pay7 h) (ix2 0 l) := by
  unfold out0_B_6
  rw [View.read_writes_eq_canon _ _ _ (cover0_B_6 c i a1 h1 a2 h2 a3 h3 a4 h4 a5 h5 a8 h8 a9 h9 a10 h10 a11 h11 hc hd he x y h b g o w v p q)]
  unfold kernelRun0_B
  dsimp only
  rw [View.canon_unit_zero hz2]
  simp only [kernelRun0_B.sl.r, kernelRun0_B.sl.r_1, kernelRun0_B.sl.r_2, kernelRun0_B.sl.r_3,
    View.readAt_eq_ld, h1.read_unread, h2.read_unread, h3.read_unread, h4.read_unread, h5.read_unread,
    h9.read_unread, h10.read_unread, h11.read_unread, View.ld_unit_zero (S := S432x1024) hz2, View.ld_unit_zero (S := S1x1024) hz2]
  pointwise [k0_pay4]
  rfl

/-- So every point holds the weights. -/
theorem held (c : Dev nD) (n : ℕ) : ∀ t : Fin cfg0.N, t.val = n → (outsAt0 m c t.val t.isLt).2.2.1 = m ((c : Thread nD τ).loc main_arg5)
    ∧ (outsAt0 m c t.val t.isLt).2.2.2 = m ((c : Thread nD τ).loc main_arg6) := by
  have hN : cfg0.N = 19 := N_0
  induction n with
  | zero =>
    intro t ht
    rw [outsAt0_A m c t (by omega) (by omega) (by omega)]
    dsimp only
    rw [kept, kept_too]
    exact ⟨rfl, rfl⟩
  | succ n ih =>
    intro t ht
    rw [outsAt0_B m c t (by have := t.isLt; omega) (by have := t.isLt; omega) (by omega)]
    have := ih ⟨t.val - 1, by omega⟩ (by dsimp only; omega)
    dsimp only
    rw [kept_later, kept_later_too]
    exact this

theorem weights (c : Dev nD) (n : ℕ) (hn : n < cfg0.N) : (outsAt0 m c n hn).2.2.1 = m ((c : Thread nD τ).loc main_arg5)
    ∧ (outsAt0 m c n hn).2.2.2 = m ((c : Thread nD τ).loc main_arg6) := held m c n ⟨n, hn⟩ rfl

/-- Which blocks a point of the grid works on: the rows of its stretch. -/
theorem places (t : Fin cfg0.N) : (win0_0.index t 0 = t.val ∧ win0_0.index t 1 = 0)
    ∧ (win0_1.index t 0 = t.val ∧ win0_1.index t 1 = 0) ∧ (win0_2.index t 0 = t.val ∧ win0_2.index t 1 = 0)
    ∧ (win0_3.index t 0 = t.val ∧ win0_3.index t 1 = 0) ∧ (win0_4.index t 0 = 0 ∧ win0_4.index t 1 = 0)
    ∧ (win0_5.index t 0 = t.val ∧ win0_5.index t 1 = 0) ∧ win0_6.index t 0 = 0 ∧ win0_6.index t 1 = 0 := by
  revert t; decide +kernel

/-- The row of the whole arrays at a row of a point's stretch. -/
def row (t : Fin cfg0.N) (k : Fin 432) : Fin 8208 := ⟨t.val * 432 + k.val, by have := t.isLt; have hN : cfg0.N = 19 := N_0; omega⟩

/-- A point's blocks, by rows of the whole arrays. -/
theorem blocks (c : Dev nD) (t : Fin cfg0.N) (k : Fin 432) :
    (∀ s, iblk m c 0 t (ix2 k s) = m ((c : Thread nD τ).loc main_arg0) (ix2 (row t k) s))
    ∧ (∀ s, iblk m c 1 t (ix2 k s) = m ((c : Thread nD τ).loc main_arg1) (ix2 (row t k) s))
    ∧ (∀ l, iblk m c 2 t (ix2 k l) = m ((c : Thread nD τ).loc main_arg2) (ix2 (row t k) l))
    ∧ (∀ l, iblk m c 3 t (ix2 k l) = m ((c : Thread nD τ).loc main_arg3) (ix2 (row t k) l))
    ∧ ∀ l, iblk m c 4 t (ix2 0 l) = m ((c : Thread nD τ).loc main_arg4) (ix2 0 l) := by
  obtain ⟨⟨a0, a1⟩, ⟨b0, b1⟩, ⟨c0, c1⟩, ⟨d0, d1⟩, ⟨e0, e1⟩, -⟩ := places t
  exact ⟨
    fun s => congrArg (m ((c : Thread nD τ).loc main_arg0)) (ix2_of ((win0_0.rect t).emb (ix2 k s)) (row t k) s
      ((Pipeline.Window.rect_emb_val win0_0 t (ix2 k s) 0).trans (by rw [a0]; rfl))
      ((Pipeline.Window.rect_emb_val win0_0 t (ix2 k s) 1).trans (by rw [a1, Nat.zero_mul, Nat.zero_add]; rfl))),
    fun s => congrArg (m ((c : Thread nD τ).loc main_arg1)) (ix2_of ((win0_1.rect t).emb (ix2 k s)) (row t k) s
      ((Pipeline.Window.rect_emb_val win0_1 t (ix2 k s) 0).trans (by rw [b0]; rfl))
      ((Pipeline.Window.rect_emb_val win0_1 t (ix2 k s) 1).trans (by rw [b1, Nat.zero_mul, Nat.zero_add]; rfl))),
    fun s => congrArg (m ((c : Thread nD τ).loc main_arg2)) (ix2_of ((win0_2.rect t).emb (ix2 k s)) (row t k) s
      ((Pipeline.Window.rect_emb_val win0_2 t (ix2 k s) 0).trans (by rw [c0]; rfl))
      ((Pipeline.Window.rect_emb_val win0_2 t (ix2 k s) 1).trans (by rw [c1, Nat.zero_mul, Nat.zero_add]; rfl))),
    fun s => congrArg (m ((c : Thread nD τ).loc main_arg3)) (ix2_of ((win0_3.rect t).emb (ix2 k s)) (row t k) s
      ((Pipeline.Window.rect_emb_val win0_3 t (ix2 k s) 0).trans (by rw [d0]; rfl))
      ((Pipeline.Window.rect_emb_val win0_3 t (ix2 k s) 1).trans (by rw [d1, Nat.zero_mul, Nat.zero_add]; rfl))),
    fun s => congrArg (m ((c : Thread nD τ).loc main_arg4)) (ix2_of ((win0_4.rect t).emb (ix2 0 s)) 0 s
      ((Pipeline.Window.rect_emb_val win0_4 t (ix2 0 s) 0).trans (by rw [e0, Nat.zero_mul, Nat.zero_add]; rfl))
      ((Pipeline.Window.rect_emb_val win0_4 t (ix2 0 s) 1).trans (by rw [e1, Nat.zero_mul, Nat.zero_add]; rfl)))⟩

/-- A row of the cotangents, from the whole arrays. -/
noncomputable def cot (c : Dev nD) (n : Fin 8208) : Fin 1024 → EReal := down (m ((c : Thread nD τ).loc main_arg0)) (m ((c : Thread nD τ).loc main_arg1))
  (m ((c : Thread nD τ).loc main_arg5)) (m ((c : Thread nD τ).loc main_arg6)) n

/-- A row of the tokens. -/
noncomputable def tok (c : Dev nD) (n : Fin 8208) (l : Fin 1024) : EReal := m ((c : Thread nD τ).loc main_arg2) (ix2 n l)

/-- The cotangent of the tokens. -/
noncomputable def result (c : Dev nD) : Buf (Elt Ideal) ((c : Thread nD τ).loc main_v0_0) := fun i : S8208x1024.Idx =>
  (show EReal from m ((c : Thread nD τ).loc main_arg3) i) + back (tok m c (i 0)) (fun x => m ((c : Thread nD τ).loc main_arg4) (ix2 0 x)) (cot m c (i 0)) (i 1)

/-- Every row's part of the gradient of the scale. -/
noncomputable def parts (c : Dev nD) : S8208x1024.Idx → EReal := fun i => gain (tok m c (i 0)) (cot m c (i 0)) (i 1)

/-- The gradient of the scale at an entry. -/
noncomputable def total (c : Dev nD) (l : ℕ) : EReal := ∑ s : Fin 8208, at2 (parts m c) s.val l

/-- The gradient of the scale. -/
noncomputable def scale (c : Dev nD) : Buf (Elt Ideal) ((c : Thread nD τ).loc main_v0_1) := fun i : S1x1024.Idx => total m c (i 1).val

/-- A point's cotangents, by rows of the whole arrays. -/
theorem cot_block (c : Dev nD) (t : Fin cfg0.N) (k : Fin 432) (l : Fin 1024) :
    shards (iblk m c 0 t) (iblk m c 1 t) (m ((c : Thread nD τ).loc main_arg5)) (m ((c : Thread nD τ).loc main_arg6)) (ix2 k l) = cot m c (row t k) l := by
  obtain ⟨a, b, -⟩ := blocks m c t k
  rw [shards_apply, cot, down, down]
  exact congrArg₂ (· + ·) (Finset.sum_congr rfl fun s _ => by rw [a]) (Finset.sum_congr rfl fun s _ => by rw [b])

/-- What a point writes. -/
theorem point (c : Dev nD) (t : Fin cfg0.N) : (outsAt0 m c t.val t.isLt).1
    = k0_pay5 (shards (iblk m c 0 t) (iblk m c 1 t) (m ((c : Thread nD τ).loc main_arg5)) (m ((c : Thread nD τ).loc main_arg6)))
      (iblk m c 2 t) (iblk m c 4 t) (k0_pay7 (iblk m c 2 t)) (iblk m c 3 t) := by
  have hN : cfg0.N = 19 := N_0
  by_cases h : t.val % 19 = 0
  · rw [outsAt0_A m c t h h (by have := t.isLt; omega)]; dsimp only; rw [written_first]
  · rw [outsAt0_B m c t h h (by omega)]; dsimp only; rw [written_later, (weights m c _ _).1, (weights m c _ _).2]

/-- A point's block of the result. -/
theorem result_block (c : Dev nD) (t : Fin cfg0.N) (y : S432x1024.Idx) :
    (outsAt0 m c t.val t.isLt).1 y = result m c (ix2 (row t (y 0)) (y 1)) := by
  obtain ⟨k, l, rfl⟩ : ∃ k l, y = ix2 k l := ⟨_, _, eq_ix2 y⟩
  obtain ⟨-, -, ht, hd, hg⟩ := blocks m c t k
  rw [point, through, hd, funext ht, funext hg, funext (cot_block m c t k)]
  rfl

/-- A point's part of the gradient of the scale. -/
theorem part_block (c : Dev nD) (t : Fin cfg0.N) (l : Fin 1024) :
    k0_pay3 (shards (iblk m c 0 t) (iblk m c 1 t) (m ((c : Thread nD τ).loc main_arg5)) (m ((c : Thread nD τ).loc main_arg6)))
      (iblk m c 2 t) (k0_pay7 (iblk m c 2 t)) (ix2 0 l) = ∑ k : Fin 432, at2 (parts m c) (t.val % 19 * 432 + k.val) l.val := by
  have hN : cfg0.N = 19 := N_0
  rw [gains, Nat.mod_eq_of_lt (show t.val < 19 by have := t.isLt; omega)]
  refine Finset.sum_congr rfl fun k _ => ?_
  rw [funext (blocks m c t k).2.2.1, funext (cot_block m c t k)]
  exact at2_idx (parts m c) (ix2 (row t k) l) rfl rfl

/-- The last point leaves the gradient of the scale. -/
theorem scale_block (c : Dev nD) (t : Fin cfg0.N) (ht : t.val % 19 = 18) (y : S1x1024.Idx) : (outsAt0 m c t.val t.isLt).2.1 y = total m c (y 1).val := by
  have hN : cfg0.N = 19 := N_0
  obtain ⟨l, rfl⟩ : ∃ l, y = ix2 0 l := ⟨y 1, (eq_ix2 y).trans (by congr 1; exact Subsingleton.elim (α := Fin 1) _ _)⟩
  refine gathered (fun n h => (outsAt0 m c n h).2.1 (ix2 0 l)) 19 432 (fun _ s => at2 (parts m c) s l.val) (fun t h => ?_) (fun t h => ?_) t ht rfl
  · rw [outsAt0_A m c t h h (by have := t.isLt; omega)]
    dsimp only
    rw [first]
    exact part_block m c t l
  · rw [outsAt0_B m c t h h (by omega)]
    dsimp only
    rw [later, (weights m c _ _).1, (weights m c _ _).2]
    exact congrArg (_ + ·) (part_block m c t l)

set_option maxRecDepth 20000 in
/-- So the first output array ends as the cotangent of the tokens. -/
theorem final_result (c : Dev nD) : (dats m 0 c).arrAt 5 cfg0.N = result m c := by
  have hN : cfg0.N = 19 := N_0
  refine (dats m 0 c).arrAt_eq_of_cover 5 (result m c) (fun t hf => ?_) (fun (i : S8208x1024.Idx) => ?_)
  · obtain ⟨-, -, -, -, -, ⟨i0, i1⟩, -⟩ := places t
    rw [Value.flushed5]
    funext y
    have e : (win0_5.rect t).emb y = ix2 (row t (y 0)) (y 1) := ix2_of _ _ _
      ((Pipeline.Window.rect_emb_val win0_5 t y 0).trans (by rw [i0]; rfl)) ((Pipeline.Window.rect_emb_val win0_5 t y 1).trans (by rw [i1, Nat.zero_mul, Nat.zero_add]))
    rw [View.read_apply, Pipeline.Window.cut_apply]
    exact (result_block m c t (win0_5.xinj (grid0.coords t) y)).trans (congrArg (result m c) e.symm)
  · have h0 : (i 0 : ℕ) < 8208 := (i 0).isLt
    have h1 : (i 1 : ℕ) < 1024 := (i 1).isLt
    obtain ⟨t, ht⟩ : ∃ t : Fin cfg0.N, t.val = (i 0).val / 432 := ⟨⟨_, by omega⟩, rfl⟩
    obtain ⟨-, -, -, -, -, ⟨i0, i1⟩, -⟩ := places t
    refine ⟨t, flush0_5 t, (Pipeline.Window.emb_mem_blk_iff win0_5 t i).mpr fun a => ?_⟩
    match a with
    | ⟨0, _⟩ => refine (?_ : win0_5.index t 0 * 432 ≤ (i 0 : ℕ) ∧ (i 0 : ℕ) < win0_5.index t 0 * 432 + 432); omega
    | ⟨1, _⟩ => refine (?_ : win0_5.index t 1 * 1024 ≤ (i 1 : ℕ) ∧ (i 1 : ℕ) < win0_5.index t 1 * 1024 + 1024); omega

set_option maxRecDepth 20000 in
/-- And the second as the gradient of the scale. -/
theorem final_scale (c : Dev nD) : (dats m 0 c).arrAt 6 cfg0.N = scale m c := by
  have hN : cfg0.N = 19 := N_0
  refine (dats m 0 c).arrAt_eq_of_cover 6 (scale m c) (fun t hf => ?_) (fun (i : S1x1024.Idx) => ?_)
  · obtain ⟨-, -, -, -, -, -, i0, i1⟩ := places t
    rw [Value.flushed6]
    funext y
    have e1 : ((win0_6.rect t).emb y 1 : ℕ) = (y 1).val := (Pipeline.Window.rect_emb_val win0_6 t y 1).trans (by rw [i1, Nat.zero_mul, Nat.zero_add])
    rw [View.read_apply, Pipeline.Window.cut_apply]
    exact (scale_block m c t ((flush0_6 t).mp hf) (win0_6.xinj (grid0.coords t) y)).trans (congrArg (total m c) e1.symm)
  · have h0 : (i 0 : ℕ) < 1 := (i 0).isLt
    have h1 : (i 1 : ℕ) < 1024 := (i 1).isLt
    obtain ⟨t, ht⟩ : ∃ t : Fin cfg0.N, t.val = 18 := ⟨⟨_, by omega⟩, rfl⟩
    obtain ⟨-, -, -, -, -, -, i0, i1⟩ := places t
    refine ⟨t, (flush0_6 t).mpr (by omega), (Pipeline.Window.emb_mem_blk_iff win0_6 t i).mpr fun a => ?_⟩
    match a with
    | ⟨0, _⟩ => refine (?_ : win0_6.index t 0 * 1 ≤ (i 0 : ℕ) ∧ (i 0 : ℕ) < win0_6.index t 0 * 1 + 1); omega
    | ⟨1, _⟩ => refine (?_ : win0_6.index t 1 * 1024 ≤ (i 1 : ℕ) ∧ (i 1 : ℕ) < win0_6.index t 1 * 1024 + 1024); omega

/-- The kernel runs to its end, its arguments kept, its counters at zero. -/
theorem frame : Cert.quiescent_BwdUp (hBwdUp := Cert.BwdUp.Gen.facts) := fun m ρ _ => Cert.BwdUp.Gen.frame m ρ

/-- The same of the kernel over the extended reals. -/
theorem frame_ideal : Cert.quiescent_BwdUpIdeal (hBwdUpIdeal := Cert.BwdUpIdeal.Gen.facts) := fun m ρ _ => Cert.BwdUpIdeal.Gen.frame m ρ

/-- The same of the reference. -/
theorem frame_ref : Cert.quiescent_BwdUpRefIdeal (hBwdUpRefIdeal := Cert.BwdUpRefIdeal.Gen.facts) :=
  fun m ρ _ => (θ_run Cert.BwdUpRefIdeal.defs _ _).mono (fun _ h => ⟨fun c => (h c).2.2, sem_eq_zero_of_no_sems (by decide) _⟩) (Cert.BwdUpRefIdeal.Value.run m ρ)

set_option maxRecDepth 20000 in
/-- Kernel and reference end with the same cotangent and the same gradient of the scale over the extended reals. -/
theorem algebraic : Cert.algebraic_BwdUpIdeal_BwdUpRefIdeal (hBwdUpIdeal := Cert.BwdUpIdeal.Gen.facts) (hBwdUpRefIdeal := Cert.BwdUpRefIdeal.Gen.facts) :=
  fun m g m' g' _ h => by
    refine ⟨_, _, (θ_run _ _ _).mono (fun r hr c => ⟨(hr c).1.trans (final_result m c), (hr c).2.1.trans (final_scale m c), (hr c).2.2⟩) (Cert.BwdUpIdeal.Value.run_blocks m g),
      (θ_run _ _ _).mono (fun r hr c => ⟨(hr c).1.trans ?_, (hr c).2.1.trans ?_, (hr c).2.2⟩) (Cert.BwdUpRefIdeal.Value.run m' g')⟩
    · obtain ⟨e0, e1, e2, e3, e4, e5, e6⟩ := h c
      rw [e0, e1, e2, e3, e4, e5, e6]
      funext (i : S8208x1024.Idx)
      obtain ⟨n, l, rfl⟩ : ∃ n l, i = ix2 n l := ⟨_, _, eq_ix2 i⟩
      pointwise []
      rfl
    · obtain ⟨e0, e1, e2, e3, e4, e5, e6⟩ := h c
      rw [e0, e1, e2, e5, e6]
      funext (i : S1x1024.Idx)
      obtain ⟨a, l, rfl⟩ : ∃ a l, i = ix2 a l := ⟨_, _, eq_ix2 i⟩
      show _ = ∑ s : Fin 8208, at2 (parts m c) s.val l.val
      refine Eq.trans ?_ (Finset.sum_congr rfl fun n _ => at2_idx (parts m c) (ix2 n l) rfl rfl)
      pointwise []
      rfl

end Cert.BwdUpProof
-- ==== Proof.Sums.lean ====
/-
  The mathematics of the two sums between the exchanges: a core adds what came from its sibling to its own half, and a
  chip adds what came from the three others to its own part.
-/
module

public import proofs.«01_k».proof.Proof.Rows

@[expose] public section

namespace Cert.Sums

open Idealize.ShloMosaic

variable {F : FTy → Type} [FloatOps F] {R C : ℕ}

/-- The half of an array that core `k` keeps, and what it got for it. -/
def half (k : Fin 2) (v : (⟨4, ![4, 2, R, C]⟩ : Shape).Idx → Elt F .f32) (g : (⟨3, ![4, R, C]⟩ : Shape).Idx → Elt F .f32) :
    (⟨3, ![4, R, C]⟩ : Shape).Idx → Elt F .f32 :=
  fun i => FloatOps.addf (v (ix4 (i 0) k (i 1) (i 2))) (g i)

/-- Four values, added in turn. -/
def turn (a b c d : Elt F .f32) : Elt F .f32 := FloatOps.addf (FloatOps.addf (FloatOps.addf a b) c) d

theorem turn_congr {a a' b b' c c' d d' : Elt F .f32} (ha : a = a') (hb : b = b') (hc : c = c') (hd : d = d') : turn a b c d = turn a' b' c' d' := by
  rw [ha, hb, hc, hd]

/-- The part of an array that chip `k` keeps, and what it got for it from each of the others, in turn. -/
def four (k : Fin 4) (p : (⟨3, ![4, R, C]⟩ : Shape).Idx → Elt F .f32) (g : (⟨3, ![3, R, C]⟩ : Shape).Idx → Elt F .f32) :
    (⟨2, ![R, C]⟩ : Shape).Idx → Elt F .f32 :=
  fun i => turn (p (ix3 k (i 0) (i 1))) (g (ix3 0 (i 0) (i 1))) (g (ix3 1 (i 0) (i 1))) (g (ix3 2 (i 0) (i 1)))

theorem hz3 : (![0, 0, 0] : Fin 3 → ℕ) = fun _ => 0 := funext fun a => by fin_cases a <;> rfl

/-- A word between zero and `n` is one of the numbers up to `n`. -/
theorem word_named (n : ℕ) (hn : n < 8) (x : BitVec 32) (h : IntOp.andi (IntOp.cmpi .sge x 0#32) (IntOp.cmpi .sle x (BitVec.ofNat 32 n)) = 1#1) :
    ∃ k : Fin (n + 1), x = BitVec.ofNat 32 k.val := by
  have both : ∀ a b : BitVec 1, a &&& b = 1#1 → a = 1#1 ∧ b = 1#1 := by decide
  obtain ⟨h0, h1⟩ := both _ _ h
  have bit : ∀ b : Bool, BitVec.ofBool b = 1#1 → b = true := by decide
  replace h0 : (0#32).sle x = true := bit _ h0
  replace h1 : x.sle (BitVec.ofNat 32 n) = true := bit _ h1
  rw [BitVec.sle, decide_eq_true_eq] at h0 h1
  rw [BitVec.toInt_eq_toNat_cond, BitVec.toInt_eq_toNat_cond, BitVec.toNat_ofNat, Nat.mod_eq_of_lt (by omega : n < 2 ^ 32)] at h1
  rw [BitVec.toInt_eq_toNat_cond (x := x)] at h0
  rw [if_pos (by omega : 2 * n < 2 ^ 32)] at h1
  have hx : x.toNat ≤ n := by
    have := x.isLt
    simp only [BitVec.toInt_zero] at h0
    split at h0 <;> omega
  exact ⟨⟨x.toNat, by omega⟩, by simp⟩

/-- So a table of one word that passes the check holds one of them. -/
theorem table_named (n : ℕ) (hn : n < 8) (w : (⟨1, ![1]⟩ : Shape).Idx → BitVec 32) (hb : (⟨0, ![]⟩ : Shape).BroadcastsInDim ⟨1, ![1]⟩ ![])
    (h : andi (cmpi .sge w (broadcastInDim ⟨1, ![1]⟩ ![] hb (constantI ⟨0, ![]⟩ 32 0#32)))
      (cmpi .sle w (broadcastInDim ⟨1, ![1]⟩ ![] hb (constantI ⟨0, ![]⟩ 32 (BitVec.ofNat 32 n)))) = fun _ => 1#1) :
    ∃ k : Fin (n + 1), w = fun _ => BitVec.ofNat 32 k.val := by
  obtain ⟨k, hk⟩ := word_named n hn (w (ix1 0)) (congrFun h (ix1 0))
  exact ⟨k, funext fun x => (congrArg w ((eq_ix1 x).trans (congrArg ix1 (Subsingleton.elim (α := Fin 1) _ _)))).trans hk⟩

/-- One half, cut out. -/
theorem cut_half {α : Type} (k : Fin 2) (v : (⟨4, ![4, 2, R, C]⟩ : Shape).Idx → α) (off : Fin 4 → ℕ) (ho : off = ![0, k.val, 0, 0])
    (h : (⟨4, ![4, 2, R, C]⟩ : Shape).Slices off ⟨4, ![4, 1, R, C]⟩) (h' : (⟨4, ![4, 1, R, C]⟩ : Shape).ShapeCasts ⟨3, ![4, R, C]⟩)
    (i : (⟨3, ![4, R, C]⟩ : Shape).Idx) :
    shapeCast ⟨3, ![4, R, C]⟩ (extractStridedSlice ⟨4, ![4, 1, R, C]⟩ off v h) h' i = v (ix4 (i 0) k (i 1) (i 2)) := by
  subst ho
  obtain ⟨a, r, c, rfl⟩ : ∃ a r c, i = ix3 a r c := ⟨_, _, _, eq_ix3 i⟩
  rw [shapeCast_apply _ _ _ (ix4 a (0 : Fin 1) r c) (by
    rw [Shape.rowMajor_val_four, Shape.rowMajor_val_three]
    show ((a.val * 1 + 0) * R + r.val) * C + c.val = (a.val * R + r.val) * C + c.val
    simp only [Nat.mul_one, Nat.add_zero])]
  exact extractStridedSlice_apply _ _ _ _ (ix4 a k r c) (fun x => by
    match x with
    | 0 => exact (Nat.zero_add _).symm
    | 1 => rfl
    | 2 => exact (Nat.zero_add _).symm
    | 3 => exact (Nat.zero_add _).symm)

/-- One part of a stack, cut out. -/
theorem cut_part {α : Type} {N : ℕ} (k : Fin N) (v : (⟨3, ![N, R, C]⟩ : Shape).Idx → α) (off : Fin 3 → ℕ) (ho : off = ![k.val, 0, 0])
    (h : (⟨3, ![N, R, C]⟩ : Shape).Slices off ⟨3, ![1, R, C]⟩) (h' : (⟨3, ![1, R, C]⟩ : Shape).ShapeCasts ⟨2, ![R, C]⟩)
    (i : (⟨2, ![R, C]⟩ : Shape).Idx) :
    shapeCast ⟨2, ![R, C]⟩ (extractStridedSlice ⟨3, ![1, R, C]⟩ off v h) h' i = v (ix3 k (i 0) (i 1)) := by
  subst ho
  obtain ⟨r, c, rfl⟩ : ∃ r c, i = ix2 r c := ⟨_, _, eq_ix2 i⟩
  rw [shapeCast_apply _ _ _ (ix3 (0 : Fin 1) r c) (by
    rw [Shape.rowMajor_val_three, Shape.rowMajor_val_two]
    show (0 * R + r.val) * C + c.val = r.val * C + c.val
    simp only [Nat.zero_mul, Nat.zero_add])]
  exact extractStridedSlice_apply _ _ _ _ (ix3 k r c) (fun x => by
    match x with
    | 0 => rfl
    | 1 => exact (Nat.zero_add _).symm
    | 2 => exact (Nat.zero_add _).symm)

/-- The reference picks the half by the core's number. -/
theorem half_picked (k : Fin 2) (w : (⟨1, ![1]⟩ : Shape).Idx → BitVec 32) (hw : w = fun _ => BitVec.ofNat 32 k.val)
    (v : (⟨4, ![4, 2, R, C]⟩ : Shape).Idx → Elt F .f32) (g : (⟨3, ![4, R, C]⟩ : Shape).Idx → Elt F .f32)
    (hb : (⟨0, ![]⟩ : Shape).BroadcastsInDim ⟨3, ![4, R, C]⟩ ![]) (hs : (⟨1, ![1]⟩ : Shape).ShapeCasts ⟨0, ![]⟩)
    (h0 : (⟨4, ![4, 2, R, C]⟩ : Shape).Slices ![0, 0, 0, 0] ⟨4, ![4, 1, R, C]⟩)
    (h1 : (⟨4, ![4, 2, R, C]⟩ : Shape).Slices ![0, 1, 0, 0] ⟨4, ![4, 1, R, C]⟩)
    (h' : (⟨4, ![4, 1, R, C]⟩ : Shape).ShapeCasts ⟨3, ![4, R, C]⟩) :
    (addf (select (broadcastInDim ⟨3, ![4, R, C]⟩ ![] hb (cmpi .eq (shapeCast ⟨0, ![]⟩ w hs) (constantI ⟨0, ![]⟩ 32 0#32)))
      (shapeCast ⟨3, ![4, R, C]⟩ (extractStridedSlice ⟨4, ![4, 1, R, C]⟩ ![0, 0, 0, 0] v h0) h')
      (shapeCast ⟨3, ![4, R, C]⟩ (extractStridedSlice ⟨4, ![4, 1, R, C]⟩ ![0, 1, 0, 0] v h1) h')) g : FVec F ⟨3, ![4, R, C]⟩ .f32) = half k v g := by
  subst hw
  funext i
  have e0 := cut_half 0 v _ rfl h0 h' i
  have e1 := cut_half 1 v _ rfl h1 h' i
  fin_cases k
  · exact congrArg (FloatOps.addf · (g i)) e0
  · exact congrArg (FloatOps.addf · (g i)) e1

/-- The reference picks the part by the chip's number. -/
theorem part_picked (k : Fin 4) (w : (⟨1, ![1]⟩ : Shape).Idx → BitVec 32) (hw : w = fun _ => BitVec.ofNat 32 k.val)
    (p : (⟨3, ![4, R, C]⟩ : Shape).Idx → Elt F .f32) (g : (⟨3, ![3, R, C]⟩ : Shape).Idx → Elt F .f32)
    (hb : (⟨0, ![]⟩ : Shape).BroadcastsInDim ⟨2, ![R, C]⟩ ![]) (hs : (⟨1, ![1]⟩ : Shape).ShapeCasts ⟨0, ![]⟩)
    (h0 : (⟨3, ![4, R, C]⟩ : Shape).Slices ![0, 0, 0] ⟨3, ![1, R, C]⟩) (h1 : (⟨3, ![4, R, C]⟩ : Shape).Slices ![1, 0, 0] ⟨3, ![1, R, C]⟩)
    (h2 : (⟨3, ![4, R, C]⟩ : Shape).Slices ![2, 0, 0] ⟨3, ![1, R, C]⟩) (h3 : (⟨3, ![4, R, C]⟩ : Shape).Slices ![3, 0, 0] ⟨3, ![1, R, C]⟩)
    (g0 : (⟨3, ![3, R, C]⟩ : Shape).Slices ![0, 0, 0] ⟨3, ![1, R, C]⟩) (g1 : (⟨3, ![3, R, C]⟩ : Shape).Slices ![1, 0, 0] ⟨3, ![1, R, C]⟩)
    (g2 : (⟨3, ![3, R, C]⟩ : Shape).Slices ![2, 0, 0] ⟨3, ![1, R, C]⟩)
    (h' : (⟨3, ![1, R, C]⟩ : Shape).ShapeCasts ⟨2, ![R, C]⟩) :
    (addf (addf (addf (select (broadcastInDim ⟨2, ![R, C]⟩ ![] hb (cmpi .slt (shapeCast ⟨0, ![]⟩ w hs) (constantI ⟨0, ![]⟩ 32 2#32)))
      (select (broadcastInDim ⟨2, ![R, C]⟩ ![] hb (cmpi .eq (shapeCast ⟨0, ![]⟩ w hs) (constantI ⟨0, ![]⟩ 32 0#32)))
        (shapeCast ⟨2, ![R, C]⟩ (extractStridedSlice ⟨3, ![1, R, C]⟩ ![0, 0, 0] p h0) h') (shapeCast ⟨2, ![R, C]⟩ (extractStridedSlice ⟨3, ![1, R, C]⟩ ![1, 0, 0] p h1) h'))
      (select (broadcastInDim ⟨2, ![R, C]⟩ ![] hb (cmpi .eq (shapeCast ⟨0, ![]⟩ w hs) (constantI ⟨0, ![]⟩ 32 2#32)))
        (shapeCast ⟨2, ![R, C]⟩ (extractStridedSlice ⟨3, ![1, R, C]⟩ ![2, 0, 0] p h2) h') (shapeCast ⟨2, ![R, C]⟩ (extractStridedSlice ⟨3, ![1, R, C]⟩ ![3, 0, 0] p h3) h')))
      (shapeCast ⟨2, ![R, C]⟩ (extractStridedSlice ⟨3, ![1, R, C]⟩ ![0, 0, 0] g g0) h')) (shapeCast ⟨2, ![R, C]⟩ (extractStridedSlice ⟨3, ![1, R, C]⟩ ![1, 0, 0] g g1) h'))
      (shapeCast ⟨2, ![R, C]⟩ (extractStridedSlice ⟨3, ![1, R, C]⟩ ![2, 0, 0] g g2) h') : FVec F ⟨2, ![R, C]⟩ .f32) = four k p g := by
  subst hw
  funext i
  have e0 := cut_part 0 p _ rfl h0 h' i
  have e1 := cut_part 1 p _ rfl h1 h' i
  have e2 := cut_part 2 p _ rfl h2 h' i
  have e3 := cut_part 3 p _ rfl h3 h' i
  refine turn_congr ?_ (cut_part 0 g _ rfl g0 h' i) (cut_part 1 g _ rfl g1 h' i) (cut_part 2 g _ rfl g2 h' i)
  fin_cases k
  · exact e0
  · exact e1
  · exact e2
  · exact e3

/-- What the body of the first sum computes from its blocks. -/
theorem half_block (x : (⟨4, ![1, 1, R, C]⟩ : Shape).Idx → Elt F .f32) (y : (⟨3, ![1, R, C]⟩ : Shape).Idx → Elt F .f32)
    (h1 : (⟨4, ![1, 1, R, C]⟩ : Shape).ShapeCasts ⟨2, ![R, C]⟩) (h2 : (⟨3, ![1, R, C]⟩ : Shape).ShapeCasts ⟨2, ![R, C]⟩)
    (h3 : (⟨2, ![R, C]⟩ : Shape).ShapeCasts ⟨3, ![1, R, C]⟩) (j : (⟨3, ![1, R, C]⟩ : Shape).Idx) :
    shapeCast ⟨3, ![1, R, C]⟩ (addf (shapeCast ⟨2, ![R, C]⟩ x h1) (shapeCast ⟨2, ![R, C]⟩ y h2) : FVec F ⟨2, ![R, C]⟩ .f32) h3 j
      = FloatOps.addf (x (ix4 0 0 (j 1) (j 2))) (y j) := by
  obtain ⟨a, r, c, rfl⟩ : ∃ a r c, j = ix3 a r c := ⟨_, _, _, eq_ix3 j⟩
  obtain rfl : a = 0 := Subsingleton.elim (α := Fin 1) _ _
  rw [shapeCast_apply _ _ _ (ix2 r c) (by
    rw [Shape.rowMajor_val_three, Shape.rowMajor_val_two]
    show r.val * C + c.val = (0 * R + r.val) * C + c.val
    simp only [Nat.zero_mul, Nat.zero_add])]
  refine congr (congrArg FloatOps.addf (shapeCast_apply _ _ _ (ix4 (0 : Fin 1) (0 : Fin 1) r c) ?_)) (shapeCast_apply _ _ _ (ix3 (0 : Fin 1) r c) ?_)
  · rw [Shape.rowMajor_val_four, Shape.rowMajor_val_two]
    show ((0 * 1 + 0) * R + r.val) * C + c.val = r.val * C + c.val
    simp only [Nat.zero_mul, Nat.zero_add]
  · rw [Shape.rowMajor_val_three, Shape.rowMajor_val_two]
    show (0 * R + r.val) * C + c.val = r.val * C + c.val
    simp only [Nat.zero_mul, Nat.zero_add]

/-- One part of a block of three, loaded. -/
theorem load_part (l : Fin 3) (x : (⟨3, ![3, R, C]⟩ : Shape).Idx → Elt F .f32) (off : Fin 3 → ℕ) (ho : off = ![l.val, 0, 0])
    (inb : ∀ a, off a + (![1, R, C] : Fin 3 → ℕ) a ≤ (⟨3, ![3, R, C]⟩ : Shape).size a) (h : (⟨3, ![1, R, C]⟩ : Shape).ShapeCasts ⟨2, ![R, C]⟩)
    (j : (⟨2, ![R, C]⟩ : Shape).Idx) :
    shapeCast ⟨2, ![R, C]⟩ (View.ld (Val := Elt F) (e' := .f32) x (Rect.unit (s := ⟨3, ![3, R, C]⟩) off ![1, R, C] inb)) h j = x (ix3 l (j 0) (j 1)) := by
  rw [View.ld_unit]
  exact cut_part l x off ho _ h j

/-- What the body of the second sum computes from its blocks. -/
theorem part_block (x : (⟨3, ![1, R, C]⟩ : Shape).Idx → Elt F .f32) (h : (⟨3, ![1, R, C]⟩ : Shape).ShapeCasts ⟨2, ![R, C]⟩) (j : (⟨2, ![R, C]⟩ : Shape).Idx) :
    shapeCast ⟨2, ![R, C]⟩ x h j = x (ix3 0 (j 0) (j 1)) := by
  obtain ⟨r, c, rfl⟩ : ∃ r c, j = ix2 r c := ⟨_, _, eq_ix2 j⟩
  exact shapeCast_apply _ _ _ (ix3 (0 : Fin 1) r c) (by
    rw [Shape.rowMajor_val_three, Shape.rowMajor_val_two]
    show (0 * R + r.val) * C + c.val = r.val * C + c.val
    simp only [Nat.zero_mul, Nat.zero_add])

end Cert.Sums
-- ==== Proof.HalfUpClaim.lean ====
/-
  A core adds what its sibling sent to its own half: both frames, the frame of the reference, and the equation of the two
  over the extended reals.  The first argument is the core's number, and the kernel reads the half of that number.
-/
module

public import proofs.«01_k».proof.Defs
public import proofs.«01_k».proof.Proof.Sums
public import proofs.«01_k».proof.Proof.Products
public import proofs.«01_k».proof.Proof.Gen.HalfUp
public import proofs.«01_k».proof.Proof.Gen.HalfUp.Frame
public import proofs.«01_k».proof.Proof.Gen.HalfUpIdeal.Frame
public import proofs.«01_k».proof.Proof.Gen.HalfUpRefIdeal.Run
public import proofs.«01_k».proof.Proof.Gen.Pre_core_named

@[expose] public section

namespace Cert.HalfUpProof

open Idealize.ShloMosaic Idealize.ShloMosaic.TcCoe Idealize.SL.Sem
open Cert.Sums Cert.Products

section Named
open Cert.HalfUp Cert.HalfUp.Gen

set_option backward.proofsInPublic true in
/-- The core's number, as the kernel is handed it. -/
noncomputable def core (k : Fin 2) : pre0.Contents (Elt Bits) := fun | ⟨0, _⟩ => fun _ => BitVec.ofNat 32 k.val | ⟨_ + 1, h⟩ => absurd h (by simp)

/-- Whichever it is, the half of that number lies inside the array. -/
theorem ok_core (k : Fin 2) : ok0 (F := Bits) (core k) := by revert k; decide

theorem ok_of_pre (m : (ℓ : Loc nD τ sig) → Buf (Elt Bits) ℓ) (h : Cert.Pre_HalfUp m) : Ok (F := Bits) m := by
  obtain ⟨k, hk⟩ := table_named 1 (by decide) _ _ (h 0)
  have : tbl m = core k := by
    funext j
    match j with
    | ⟨0, _⟩ => exact hk
  unfold Ok; rw [this]; exact ok_core k

end Named

open Cert.HalfUpIdeal Cert.HalfUpIdeal.Gen

set_option backward.proofsInPublic true in
/-- The core's number, as the kernel over the extended reals is handed it. -/
noncomputable def coreI (k : Fin 2) : pre0.Contents (Elt Ideal) := fun | ⟨0, _⟩ => fun _ => BitVec.ofNat 32 k.val | ⟨_ + 1, h⟩ => absurd h (by simp)

theorem ok_coreI (k : Fin 2) : ok0 (F := Ideal) (coreI k) := by revert k; decide

variable (m : (ℓ : Loc nD τ sig) → Buf (Elt Ideal) ℓ)

theorem tbl_of_pre (h : Cert.Pre_HalfUpIdeal m) : ∃ k : Fin 2, tbl m = coreI k ∧ m ((0 : Dev nD).tc.loc main_arg0) = fun _ => BitVec.ofNat 32 k.val := by
  obtain ⟨k, hk⟩ := table_named 1 (by decide) _ _ (h 0)
  refine ⟨k, ?_, hk⟩
  funext j
  match j with
  | ⟨0, _⟩ => exact hk

/-- Which blocks a point of the grid works on: one chip's rows, and of the own array those of the half of the core's number. -/
theorem places (k : Fin 2) (t : Fin grid0.N) :
    (cc0_transform_0 inb_S1_S1_0 numel1_S1 (coreI k) (grid0.coords t) = ![t.val, k.val, 0, 0])
    ∧ cc0_transform_1 (grid0.coords t) = ![t.val, 0, 0] ∧ cc0_transform_2 (grid0.coords t) = ![t.val, 0, 0] := by
  revert k t; decide +kernel

/-- What a point leaves of its blocks. -/
theorem written (c : Dev nD) (i : grid0.Coords) (a1 : Memref sig .tc .vmem S1x1x512x704 .f32) (h1 : a1.IsWhole)
    (a2 : Memref sig .tc .vmem S1x512x704 .f32) (h2 : a2.IsWhole) (a3 : Memref sig .tc .vmem S1x512x704 .f32) (h3 : a3.IsWhole)
    (x : Vec Ideal S1x1x512x704 .f32) (y : Vec Ideal S1x512x704 .f32) (z) :
    out0_A_2 c i a1 h1 a2 h2 a3 h3 x y z = k0_pay1 x y := by
  unfold out0_A_2
  rw [View.read_writes_eq_canon _ _ _ (cover0_A_2 c i a1 h1 a2 h2 a3 h3 x y z)]
  unfold kernelRun0_A
  dsimp only
  rw [View.canon_unit_zero hz3]
  simp only [View.readAt_eq_ld, h1.read_unread, h2.read_unread, View.ld_unit_zero (S := S1x1x512x704) hz4, View.ld_unit_zero (S := S1x512x704) hz3]

variable {m} (hO : Ok m) {k : Fin 2} (hk : tbl m = coreI k)

/-- The sum, on a device. -/
noncomputable def sum (m : (ℓ : Loc nD τ sig) → Buf (Elt Ideal) ℓ) (k : Fin 2) (c : Dev nD) : Buf (Elt Ideal) ((c : Thread nD τ).loc main_v0) :=
  half (F := Ideal) (R := 512) (C := 704) k (m ((c : Thread nD τ).loc main_arg1)) (m ((c : Thread nD τ).loc main_arg2))

include hk in
/-- A point's block of it. -/
theorem sum_block (c : Dev nD) (t : Fin (cfgM m hO).N) (y : S1x512x704.Idx) (i : S4x512x704.Idx)
    (h0 : (i 0).val = t.val + (y 0).val) (h1 : (i 1).val = (y 1).val) (h2 : (i 2).val = (y 2).val) :
    outsAt0 m hO c t y = sum m k c i := by
  obtain ⟨p0, p1, -⟩ := places k t
  have y0 : (y 0).val = 0 := by have : (y 0).val < 1 := (y 0).isLt; omega
  refine ((congrFun (written c (grid0.coords t) _ (hs0_0 m hO t) _ (hs0_1 m hO t) _ (hs0_2 m hO t) (iblk m hO c 0 t) (iblk m hO c 1 t) (tbl m 0)) y).trans (half_block _ _ _ _ _ y)).trans (congrArg₂ FloatOps.addf ?_ ?_)
  · refine congrArg (m ((c : Thread nD τ).loc main_arg1)) (funext fun a => Fin.ext ?_)
    refine (Pipeline.Window.rect_emb_val ((cfgM m hO).win 0) t (ix4 (0 : Fin 1) (0 : Fin 1) (y 1) (y 2)) a).trans ?_
    have e : ((cfgM m hO).win 0).index t = ![t.val, k.val, 0, 0] := (congrArg (fun p => cc0_transform_0 inb_S1_S1_0 numel1_S1 p (grid0.coords t)) hk).trans p0
    rw [e]
    match a with
    | ⟨0, _⟩ => refine (?_ : t.val * 1 + 0 = (i 0).val); omega
    | ⟨1, _⟩ => refine (?_ : k.val * 1 + 0 = k.val); omega
    | ⟨2, _⟩ => refine (?_ : 0 * 512 + (y 1).val = (i 1).val); omega
    | ⟨3, _⟩ => refine (?_ : 0 * 704 + (y 2).val = (i 2).val); omega
  · refine congrArg (m ((c : Thread nD τ).loc main_arg2)) (funext fun a => Fin.ext ?_)
    refine (Pipeline.Window.rect_emb_val ((cfgM m hO).win 1) t y a).trans ?_
    have e : ((cfgM m hO).win 1).index t = ![t.val, 0, 0] := p1
    rw [e]
    match a with
    | ⟨0, _⟩ => refine (?_ : t.val * 1 + (y 0).val = (i 0).val); omega
    | ⟨1, _⟩ => refine (?_ : 0 * 512 + (y 1).val = (i 1).val); omega
    | ⟨2, _⟩ => refine (?_ : 0 * 704 + (y 2).val = (i 2).val); omega

include hk in
set_option maxRecDepth 20000 in
/-- So the result ends as the sum. -/
theorem final (c : Dev nD) : (dats m hO 0 c).arrAt 2 (cfgM m hO).N = sum m k c := by
  have hN : (cfgM m hO).N = 4 := N_0
  refine (dats m hO 0 c).arrAt_eq_of_cover 2 (sum m k c) (fun t hf => ?_) (fun (i : S4x512x704.Idx) => ?_)
  · have e : ((cfgM m hO).win 2).index t = ![t.val, 0, 0] := (places k t).2.2
    have hfl : (dats m hO 0 c).flushed 2 t = ((cfgM m hO).win 2).cut (grid0.coords t) (outsAt0 m hO c t) := by
      show ((cfgM m hO).win 2).cut (grid0.coords t) ((dats m hO 0 c).after 2 t) = _
      rw [after0_2]
    rw [hfl]
    funext y
    refine sum_block hO hk c t y (((cfgM m hO).win 2).rect t |>.emb y)
      ((Pipeline.Window.rect_emb_val ((cfgM m hO).win 2) t y (0 : Fin 3)).trans (congrArg (· + _) ((congrArg (· * 1) (congrFun e (0 : Fin 3))).trans (Nat.mul_one _))))
      ((Pipeline.Window.rect_emb_val ((cfgM m hO).win 2) t y (1 : Fin 3)).trans ((congrArg (· * 512 + _) (congrFun e (1 : Fin 3))).trans ((congrArg (· + _) (Nat.zero_mul _)).trans (Nat.zero_add _))))
      ((Pipeline.Window.rect_emb_val ((cfgM m hO).win 2) t y (2 : Fin 3)).trans ((congrArg (· * 704 + _) (congrFun e (2 : Fin 3))).trans ((congrArg (· + _) (Nat.zero_mul _)).trans (Nat.zero_add _))))
  · have h0 : (i 0 : ℕ) < 4 := (i 0).isLt
    have h1 : (i 1 : ℕ) < 512 := (i 1).isLt
    have h2 : (i 2 : ℕ) < 704 := (i 2).isLt
    obtain ⟨t, ht⟩ : ∃ t : Fin (cfgM m hO).N, t.val = (i 0).val := ⟨⟨_, by omega⟩, rfl⟩
    have e : ((cfgM m hO).win 2).index t = ![t.val, 0, 0] := (places k t).2.2
    refine ⟨t, flush0_2 _ t, (Pipeline.Window.emb_mem_blk_iff ((cfgM m hO).win 2) t i).mpr fun a => ?_⟩
    rw [e]
    match a with
    | ⟨0, _⟩ => refine (?_ : t.val * 1 ≤ (i 0 : ℕ) ∧ (i 0 : ℕ) < t.val * 1 + 1); omega
    | ⟨1, _⟩ => refine (?_ : 0 * 512 ≤ (i 1 : ℕ) ∧ (i 1 : ℕ) < 0 * 512 + 512); omega
    | ⟨2, _⟩ => refine (?_ : 0 * 704 ≤ (i 2 : ℕ) ∧ (i 2 : ℕ) < 0 * 704 + 704); omega

/-- The kernel runs to its end where its first argument is a core's number. -/
theorem frame : Cert.quiescent_HalfUp (hHalfUp := Cert.HalfUp.Gen.facts) (hPre_core_named := Cert.Pre_core_named.Gen.facts) :=
  fun m ρ h => Cert.HalfUp.Gen.frame m ρ (ok_of_pre m h)

/-- The same of the kernel over the extended reals. -/
theorem frame_ideal : Cert.quiescent_HalfUpIdeal (hHalfUpIdeal := Cert.HalfUpIdeal.Gen.facts) (hPre_core_named := Cert.Pre_core_named.Gen.facts) :=
  fun m ρ h => Cert.HalfUpIdeal.Gen.frame m ρ (by obtain ⟨k, hk, -⟩ := tbl_of_pre m h; unfold Ok; rw [hk]; exact ok_coreI k)

/-- The same of the reference, whatever its first argument. -/
theorem frame_ref : Cert.quiescent_HalfUpRefIdeal (hHalfUpRefIdeal := Cert.HalfUpRefIdeal.Gen.facts) :=
  fun m ρ _ => (θ_run Cert.HalfUpRefIdeal.defs _ _).mono (fun _ h => ⟨fun c => (h c).2, sem_eq_zero_of_no_sems (by decide) _⟩) (Cert.HalfUpRefIdeal.Value.run m ρ)

/-- Kernel and reference end with the same sum over the extended reals. -/
theorem algebraic : Cert.algebraic_HalfUpIdeal_HalfUpRefIdeal (hHalfUpIdeal := Cert.HalfUpIdeal.Gen.facts)
    (hHalfUpRefIdeal := Cert.HalfUpRefIdeal.Gen.facts) (hPre_core_named := Cert.Pre_core_named.Gen.facts) :=
  fun m g m' g' hp h => by
    obtain ⟨k, hk, hw⟩ := tbl_of_pre m hp
    have hO : Ok m := by unfold Ok; rw [hk]; exact ok_coreI k
    refine ⟨fun c => sum m k c, (θ_run _ _ _).mono (fun r hr c => ⟨((hr c).1 2).trans (final hO hk c), ((hr c).2 main_arg0 (by decide : main_arg0 ∈ Pipeline.restRefs sig spec0)).trans (V_main_arg0 m c),
        ((hr c).1 0).trans (((dats m hO 0 c).arrAt_in 0 rfl _).trans ((A_eq m hO c 0).trans (V_main_arg1 m c))),
        ((hr c).1 1).trans (((dats m hO 0 c).arrAt_in 1 rfl _).trans ((A_eq m hO c 1).trans (V_main_arg2 m c)))⟩) (run_main m g hO),
      (θ_run _ _ _).mono (fun r hr c => ⟨(hr c).1.trans ?_, (hr c).2⟩) (Cert.HalfUpRefIdeal.Value.run m' g')⟩
    obtain rfl : c = 0 := Subsingleton.elim (α := Fin 1) _ _
    rw [(h 0).2.1, (h 0).2.2]
    exact half_picked k _ ((h 0).1.trans hw) _ _ _ _ _ _ _

end Cert.HalfUpProof
-- ==== Proof.AddUpClaim.lean ====
/-
  A chip adds what the three others sent to its own part: both frames, the frame of the reference, and the equation of the
  two over the extended reals.  The first argument is the chip's number, and the kernel reads the part of that number.
-/
module

public import proofs.«01_k».proof.Defs
public import proofs.«01_k».proof.Proof.Sums
public import proofs.«01_k».proof.Proof.Products
public import proofs.«01_k».proof.Proof.Gen.AddUp
public import proofs.«01_k».proof.Proof.Gen.AddUp.Frame
public import proofs.«01_k».proof.Proof.Gen.AddUpIdeal.Frame
public import proofs.«01_k».proof.Proof.Gen.AddUpRefIdeal.Run
public import proofs.«01_k».proof.Proof.Gen.Pre_chip_named

@[expose] public section

namespace Cert.AddUpProof

open Idealize.ShloMosaic Idealize.ShloMosaic.TcCoe Idealize.SL.Sem
open Cert.Sums Cert.Products

section Named
open Cert.AddUp Cert.AddUp.Gen

set_option backward.proofsInPublic true in
/-- The chip's number, as the kernel is handed it. -/
noncomputable def chip (k : Fin 4) : pre0.Contents (Elt Bits) := fun | ⟨0, _⟩ => fun _ => BitVec.ofNat 32 k.val | ⟨_ + 1, h⟩ => absurd h (by simp)

/-- Whichever it is, the part of that number lies inside the array. -/
theorem ok_chip (k : Fin 4) : ok0 (F := Bits) (chip k) := by revert k; decide

theorem ok_of_pre (m : (ℓ : Loc nD τ sig) → Buf (Elt Bits) ℓ) (h : Cert.Pre_AddUp m) : Ok (F := Bits) m := by
  obtain ⟨k, hk⟩ := table_named 3 (by decide) _ _ (h 0)
  have : tbl m = chip k := by
    funext j
    match j with
    | ⟨0, _⟩ => exact hk
  unfold Ok; rw [this]; exact ok_chip k

end Named

open Cert.AddUpIdeal Cert.AddUpIdeal.Gen

set_option backward.proofsInPublic true in
/-- The chip's number, as the kernel over the extended reals is handed it. -/
noncomputable def chipI (k : Fin 4) : pre0.Contents (Elt Ideal) := fun | ⟨0, _⟩ => fun _ => BitVec.ofNat 32 k.val | ⟨_ + 1, h⟩ => absurd h (by simp)

theorem ok_chipI (k : Fin 4) : ok0 (F := Ideal) (chipI k) := by revert k; decide

variable (m : (ℓ : Loc nD τ sig) → Buf (Elt Ideal) ℓ)

theorem tbl_of_pre (h : Cert.Pre_AddUpIdeal m) : ∃ k : Fin 4, tbl m = chipI k ∧ m ((0 : Dev nD).tc.loc main_arg0) = fun _ => BitVec.ofNat 32 k.val := by
  obtain ⟨k, hk⟩ := table_named 3 (by decide) _ _ (h 0)
  refine ⟨k, ?_, hk⟩
  funext j
  match j with
  | ⟨0, _⟩ => exact hk

/-- Which blocks the one point of the grid works on: of the own array the part of the chip's number. -/
theorem places (k : Fin 4) (t : Fin grid0.N) :
    (cc0_transform_0 inb_S1_S1_0 numel1_S1 (chipI k) (grid0.coords t) = ![k.val, 0, 0])
    ∧ cc0_transform_1 (grid0.coords t) = ![0, 0, 0] ∧ cc0_transform_2 (grid0.coords t) = ![0, 0] := by
  revert k t; decide +kernel

/-- What the point leaves of its blocks. -/
theorem written (c : Dev nD) (i : grid0.Coords) (a1 : Memref sig .tc .vmem S1x512x704 .f32) (h1 : a1.IsWhole)
    (a2 : Memref sig .tc .vmem S3x512x704 .f32) (h2 : a2.IsWhole) (a3 : Memref sig .tc .vmem S512x704 .f32) (h3 : a3.IsWhole)
    (x : Vec Ideal S1x512x704 .f32) (y : Vec Ideal S3x512x704 .f32) (z) (j : S512x704.Idx) :
    out0_A_2 c i a1 h1 a2 h2 a3 h3 x y z j = turn (F := Ideal) (x (ix3 0 (j 0) (j 1))) (y (ix3 0 (j 0) (j 1))) (y (ix3 1 (j 0) (j 1))) (y (ix3 2 (j 0) (j 1))) := by
  unfold out0_A_2
  rw [View.read_writes_eq_canon _ _ _ (cover0_A_2 c i a1 h1 a2 h2 a3 h3 x y z)]
  unfold kernelRun0_A
  dsimp only
  rw [View.canon_unit_zero hz2]
  simp only [View.readAt_eq_ld, h1.read_unread, h2.read_unread, View.ld_unit_zero (S := S1x512x704) hz3]
  exact turn_congr (F := Ideal) (part_block x _ j) (load_part 0 y _ rfl _ _ j) (load_part 1 y _ rfl _ _ j) (load_part 2 y _ rfl _ _ j)

variable {m} (hO : Ok m) {k : Fin 4} (hk : tbl m = chipI k)

/-- The sum, on a device. -/
noncomputable def sum (m : (ℓ : Loc nD τ sig) → Buf (Elt Ideal) ℓ) (k : Fin 4) (c : Dev nD) : Buf (Elt Ideal) ((c : Thread nD τ).loc main_v0) :=
  four (F := Ideal) (R := 512) (C := 704) k (m ((c : Thread nD τ).loc main_arg1)) (m ((c : Thread nD τ).loc main_arg2))

/-- What the others sent, as the point finds it. -/
theorem got_block (c : Dev nD) (t : Fin (cfgM m hO).N) (l : Fin 3) (a : Fin 512) (b : Fin 704) :
    (iblk m hO c 1 t : Vec Ideal S3x512x704 .f32) (ix3 l a b) = (m ((c : Thread nD τ).loc main_arg2) : Vec Ideal S3x512x704 .f32) (ix3 l a b) := by
  refine congrArg (m ((c : Thread nD τ).loc main_arg2)) (funext fun d => Fin.ext ?_)
  refine (Pipeline.Window.rect_emb_val ((cfgM m hO).win 1) t (ix3 l a b) d).trans ?_
  have e : ((cfgM m hO).win 1).index t = ![0, 0, 0] := (places 0 t).2.1
  rw [e]
  match d with
  | ⟨0, _⟩ => refine (?_ : 0 * 3 + l.val = l.val); omega
  | ⟨1, _⟩ => refine (?_ : 0 * 512 + a.val = a.val); omega
  | ⟨2, _⟩ => refine (?_ : 0 * 704 + b.val = b.val); omega

include hk in
/-- The own part, as the point finds it. -/
theorem own_block (c : Dev nD) (t : Fin (cfgM m hO).N) (a : Fin 512) (b : Fin 704) :
    (iblk m hO c 0 t : Vec Ideal S1x512x704 .f32) (ix3 0 a b) = (m ((c : Thread nD τ).loc main_arg1) : Vec Ideal S4x512x704 .f32) (ix3 k a b) := by
  refine congrArg (m ((c : Thread nD τ).loc main_arg1)) (funext fun d => Fin.ext ?_)
  refine (Pipeline.Window.rect_emb_val ((cfgM m hO).win 0) t (ix3 (0 : Fin 1) a b) d).trans ?_
  have e : ((cfgM m hO).win 0).index t = ![k.val, 0, 0] := (congrArg (fun p => cc0_transform_0 inb_S1_S1_0 numel1_S1 p (grid0.coords t)) hk).trans (places k t).1
  rw [e]
  match d with
  | ⟨0, _⟩ => refine (?_ : k.val * 1 + 0 = k.val); omega
  | ⟨1, _⟩ => refine (?_ : 0 * 512 + a.val = a.val); omega
  | ⟨2, _⟩ => refine (?_ : 0 * 704 + b.val = b.val); omega

include hk in
/-- So the point leaves the sum. -/
theorem sum_block (c : Dev nD) (t : Fin (cfgM m hO).N) (y : S512x704.Idx) (i : S512x704.Idx) (h : i = y) : outsAt0 m hO c t y = sum m k c i := by
  subst h
  unfold outsAt0
  refine (written c (grid0.coords t) _ (hs0_0 m hO t) _ (hs0_1 m hO t) _ (hs0_2 m hO t) (iblk m hO c 0 t) (iblk m hO c 1 t) (tbl m 0) i).trans ?_
  exact turn_congr (F := Ideal) (own_block hO hk c t (i 0) (i 1)) (got_block hO c t 0 (i 0) (i 1)) (got_block hO c t 1 (i 0) (i 1)) (got_block hO c t 2 (i 0) (i 1))

include hk in
set_option maxRecDepth 20000 in
/-- And the result ends as the sum. -/
theorem final (c : Dev nD) : (dats m hO 0 c).arrAt 2 (cfgM m hO).N = sum m k c := by
  have hN : (cfgM m hO).N = 1 := N_0
  refine (dats m hO 0 c).arrAt_eq_of_cover 2 (sum m k c) (fun t hf => ?_) (fun (i : S512x704.Idx) => ?_)
  · have e : ((cfgM m hO).win 2).index t = ![0, 0] := (places k t).2.2
    have hfl : (dats m hO 0 c).flushed 2 t = ((cfgM m hO).win 2).cut (grid0.coords t) (outsAt0 m hO c t) := by
      show ((cfgM m hO).win 2).cut (grid0.coords t) ((dats m hO 0 c).after 2 t) = _
      rw [after0_2]
    rw [hfl]
    funext y
    refine sum_block hO hk c t y (((cfgM m hO).win 2).rect t |>.emb y) (funext fun d => Fin.ext ?_)
    refine (Pipeline.Window.rect_emb_val ((cfgM m hO).win 2) t y d).trans ?_
    rw [e]
    match d with
    | ⟨0, _⟩ => exact (congrArg (· + _) (Nat.zero_mul 512)).trans (Nat.zero_add _)
    | ⟨1, _⟩ => exact (congrArg (· + _) (Nat.zero_mul 704)).trans (Nat.zero_add _)
  · have h0 : (i 0 : ℕ) < 512 := (i 0).isLt
    have h1 : (i 1 : ℕ) < 704 := (i 1).isLt
    obtain ⟨t, ht⟩ : ∃ t : Fin (cfgM m hO).N, t.val = 0 := ⟨⟨_, by omega⟩, rfl⟩
    have e : ((cfgM m hO).win 2).index t = ![0, 0] := (places k t).2.2
    refine ⟨t, flush0_2 _ t, (Pipeline.Window.emb_mem_blk_iff ((cfgM m hO).win 2) t i).mpr fun a => ?_⟩
    rw [e]
    match a with
    | ⟨0, _⟩ => refine (?_ : 0 * 512 ≤ (i 0 : ℕ) ∧ (i 0 : ℕ) < 0 * 512 + 512); omega
    | ⟨1, _⟩ => refine (?_ : 0 * 704 ≤ (i 1 : ℕ) ∧ (i 1 : ℕ) < 0 * 704 + 704); omega

/-- The kernel runs to its end where its first argument is a chip's number. -/
theorem frame : Cert.quiescent_AddUp (hAddUp := Cert.AddUp.Gen.facts) (hPre_chip_named := Cert.Pre_chip_named.Gen.facts) :=
  fun m ρ h => Cert.AddUp.Gen.frame m ρ (ok_of_pre m h)

/-- The same of the kernel over the extended reals. -/
theorem frame_ideal : Cert.quiescent_AddUpIdeal (hAddUpIdeal := Cert.AddUpIdeal.Gen.facts) (hPre_chip_named := Cert.Pre_chip_named.Gen.facts) :=
  fun m ρ h => Cert.AddUpIdeal.Gen.frame m ρ (by obtain ⟨k, hk, -⟩ := tbl_of_pre m h; unfold Ok; rw [hk]; exact ok_chipI k)

/-- The same of the reference, whatever its first argument. -/
theorem frame_ref : Cert.quiescent_AddUpRefIdeal (hAddUpRefIdeal := Cert.AddUpRefIdeal.Gen.facts) :=
  fun m ρ _ => (θ_run Cert.AddUpRefIdeal.defs _ _).mono (fun _ h => ⟨fun c => (h c).2, sem_eq_zero_of_no_sems (by decide) _⟩) (Cert.AddUpRefIdeal.Value.run m ρ)

/-- Kernel and reference end with the same sum over the extended reals. -/
theorem algebraic : Cert.algebraic_AddUpIdeal_AddUpRefIdeal (hAddUpIdeal := Cert.AddUpIdeal.Gen.facts)
    (hAddUpRefIdeal := Cert.AddUpRefIdeal.Gen.facts) (hPre_chip_named := Cert.Pre_chip_named.Gen.facts) :=
  fun m g m' g' hp h => by
    obtain ⟨k, hk, hw⟩ := tbl_of_pre m hp
    have hO : Ok m := by unfold Ok; rw [hk]; exact ok_chipI k
    refine ⟨fun c => sum m k c, (θ_run _ _ _).mono (fun r hr c => ⟨((hr c).1 2).trans (final hO hk c), ((hr c).2 main_arg0 (by decide : main_arg0 ∈ Pipeline.restRefs sig spec0)).trans (V_main_arg0 m c),
        ((hr c).1 0).trans (((dats m hO 0 c).arrAt_in 0 rfl _).trans ((A_eq m hO c 0).trans (V_main_arg1 m c))),
        ((hr c).1 1).trans (((dats m hO 0 c).arrAt_in 1 rfl _).trans ((A_eq m hO c 1).trans (V_main_arg2 m c)))⟩) (run_main m g hO),
      (θ_run _ _ _).mono (fun r hr c => ⟨(hr c).1.trans ?_, (hr c).2⟩) (Cert.AddUpRefIdeal.Value.run m' g')⟩
    obtain rfl : c = 0 := Subsingleton.elim (α := Fin 1) _ _
    rw [(h 0).2.1, (h 0).2.2]
    exact part_picked k _ ((h 0).1.trans hw) _ _ _ _ _ _ _ _ _ _ _ _

end Cert.AddUpProof
-- ==== Proof.lean ====
/-
# The certificate

The claims of every call, put together. What each call does, and why, is in the modules that its `…Claim` module imports:
`Launch`, `Copies`, `Body` and `Run` give the run of a body that only starts copies and waits for them; `Flat` and `Table`
turn it into a statement about the elements of the arrays; `…Call` is one call; `…Value` compares it with its reference.
The other calls move nothing between devices; each is one module. `Adam…Claim` are the AdamW steps, `Tn…Claim` the weight
gradients and `LossGradClaim` the loss; `Products` has the sums over the tokens.
`FwdClaim`, `DownClaim` and `BwdUpClaim` are a feed-forward part and the start and the end of the backward pass through one;
`Rows` has the norm of a row and the weights kept in two shards.
`HalfUpClaim` and `AddUpClaim` are the sums between the exchanges, with `Sums`.
-/
module

public import proofs.«01_k».proof.Defs
public import proofs.«01_k».proof.Proof.Gen.Sibling
public import proofs.«01_k».proof.Proof.Gen.SiblingRef
public import proofs.«01_k».proof.Proof.Gen.SiblingIdeal
public import proofs.«01_k».proof.Proof.Gen.SiblingRefIdeal
public import proofs.«01_k».proof.Proof.Gen.SiblingIdeal.Launch
public import proofs.«01_k».proof.Proof.Gen.SiblingRefIdeal.Run
public import proofs.«01_k».proof.Proof.Gen.Chips
public import proofs.«01_k».proof.Proof.Gen.ChipsRef
public import proofs.«01_k».proof.Proof.Gen.ChipsIdeal
public import proofs.«01_k».proof.Proof.Gen.ChipsRefIdeal
public import proofs.«01_k».proof.Proof.Gen.ChipsIdeal.Launch
public import proofs.«01_k».proof.Proof.Gen.ChipsRefIdeal.Run
public import proofs.«01_k».proof.Proof.Gen.Share
public import proofs.«01_k».proof.Proof.Gen.ShareRef
public import proofs.«01_k».proof.Proof.Gen.ShareIdeal
public import proofs.«01_k».proof.Proof.Gen.ShareRefIdeal
public import proofs.«01_k».proof.Proof.Gen.ShareIdeal.Launch
public import proofs.«01_k».proof.Proof.Gen.ShareRefIdeal.Run
public import proofs.«01_k».proof.Proof.Gen.Gather
public import proofs.«01_k».proof.Proof.Gen.GatherRef
public import proofs.«01_k».proof.Proof.Gen.GatherIdeal
public import proofs.«01_k».proof.Proof.Gen.GatherRefIdeal
public import proofs.«01_k».proof.Proof.Gen.GatherIdeal.Launch
public import proofs.«01_k».proof.Proof.Gen.GatherRefIdeal.Run
public import proofs.«01_k».proof.Proof.Gen.GatherSmall
public import proofs.«01_k».proof.Proof.Gen.GatherSmallRef
public import proofs.«01_k».proof.Proof.Gen.GatherSmallIdeal
public import proofs.«01_k».proof.Proof.Gen.GatherSmallRefIdeal
public import proofs.«01_k».proof.Proof.Gen.GatherSmallIdeal.Launch
public import proofs.«01_k».proof.Proof.Gen.GatherSmallRefIdeal.Run
public import proofs.«01_k».proof.Proof.Gen.AdamUp
public import proofs.«01_k».proof.Proof.Gen.AdamUpIdeal
public import proofs.«01_k».proof.Proof.Gen.AdamUpRefIdeal
public import proofs.«01_k».proof.Proof.Gen.AdamUp.Frame
public import proofs.«01_k».proof.Proof.Gen.AdamUpIdeal.Frame
public import proofs.«01_k».proof.Proof.Gen.AdamUpIdeal.Value
public import proofs.«01_k».proof.Proof.Gen.AdamUpRefIdeal.Run
public import proofs.«01_k».proof.Proof.Gen.AdamDown
public import proofs.«01_k».proof.Proof.Gen.AdamDownIdeal
public import proofs.«01_k».proof.Proof.Gen.AdamDownRefIdeal
public import proofs.«01_k».proof.Proof.Gen.AdamDown.Frame
public import proofs.«01_k».proof.Proof.Gen.AdamDownIdeal.Frame
public import proofs.«01_k».proof.Proof.Gen.AdamDownIdeal.Value
public import proofs.«01_k».proof.Proof.Gen.AdamDownRefIdeal.Run
public import proofs.«01_k».proof.Proof.Gen.AdamSquare
public import proofs.«01_k».proof.Proof.Gen.AdamSquareIdeal
public import proofs.«01_k».proof.Proof.Gen.AdamSquareRefIdeal
public import proofs.«01_k».proof.Proof.Gen.AdamSquare.Frame
public import proofs.«01_k».proof.Proof.Gen.AdamSquareIdeal.Frame
public import proofs.«01_k».proof.Proof.Gen.AdamSquareIdeal.Value
public import proofs.«01_k».proof.Proof.Gen.AdamSquareRefIdeal.Run
public import proofs.«01_k».proof.Proof.Gen.AdamMeta
public import proofs.«01_k».proof.Proof.Gen.AdamMetaIdeal
public import proofs.«01_k».proof.Proof.Gen.AdamMetaRefIdeal
public import proofs.«01_k».proof.Proof.Gen.AdamMeta.Frame
public import proofs.«01_k».proof.Proof.Gen.AdamMetaIdeal.Frame
public import proofs.«01_k».proof.Proof.Gen.AdamMetaIdeal.Value
public import proofs.«01_k».proof.Proof.Gen.AdamMetaRefIdeal.Run
public import proofs.«01_k».proof.Proof.Gen.AdamSmall
public import proofs.«01_k».proof.Proof.Gen.AdamSmallIdeal
public import proofs.«01_k».proof.Proof.Gen.AdamSmallRefIdeal
public import proofs.«01_k».proof.Proof.Gen.AdamSmall.Frame
public import proofs.«01_k».proof.Proof.Gen.AdamSmallIdeal.Frame
public import proofs.«01_k».proof.Proof.Gen.AdamSmallIdeal.Value
public import proofs.«01_k».proof.Proof.Gen.AdamSmallRefIdeal.Run
public import proofs.«01_k».proof.Proof.Gen.LossGrad
public import proofs.«01_k».proof.Proof.Gen.LossGradIdeal
public import proofs.«01_k».proof.Proof.Gen.LossGradRefIdeal
public import proofs.«01_k».proof.Proof.Gen.LossGrad.Frame
public import proofs.«01_k».proof.Proof.Gen.LossGradIdeal.Frame
public import proofs.«01_k».proof.Proof.Gen.LossGradIdeal.Value
public import proofs.«01_k».proof.Proof.Gen.LossGradRefIdeal.Run
public import proofs.«01_k».proof.Proof.Gen.TnUp
public import proofs.«01_k».proof.Proof.Gen.TnUpIdeal
public import proofs.«01_k».proof.Proof.Gen.TnUpRefIdeal
public import proofs.«01_k».proof.Proof.Gen.TnUp.Frame
public import proofs.«01_k».proof.Proof.Gen.TnUpIdeal.Frame
public import proofs.«01_k».proof.Proof.Gen.TnUpIdeal.Value
public import proofs.«01_k».proof.Proof.Gen.TnUpRefIdeal.Run
public import proofs.«01_k».proof.Proof.Gen.TnDown
public import proofs.«01_k».proof.Proof.Gen.TnDownIdeal
public import proofs.«01_k».proof.Proof.Gen.TnDownRefIdeal
public import proofs.«01_k».proof.Proof.Gen.TnDown.Frame
public import proofs.«01_k».proof.Proof.Gen.TnDownIdeal.Frame
public import proofs.«01_k».proof.Proof.Gen.TnDownIdeal.Value
public import proofs.«01_k».proof.Proof.Gen.TnDownRefIdeal.Run
public import proofs.«01_k».proof.Proof.Gen.TnSquare
public import proofs.«01_k».proof.Proof.Gen.TnSquareIdeal
public import proofs.«01_k».proof.Proof.Gen.TnSquareRefIdeal
public import proofs.«01_k».proof.Proof.Gen.TnSquare.Frame
public import proofs.«01_k».proof.Proof.Gen.TnSquareIdeal.Frame
public import proofs.«01_k».proof.Proof.Gen.TnSquareIdeal.Value
public import proofs.«01_k».proof.Proof.Gen.TnSquareRefIdeal.Run
public import proofs.«01_k».proof.Proof.Gen.FfnFwd
public import proofs.«01_k».proof.Proof.Gen.FfnFwdIdeal
public import proofs.«01_k».proof.Proof.Gen.FfnFwdRefIdeal
public import proofs.«01_k».proof.Proof.Gen.FfnFwd.Frame
public import proofs.«01_k».proof.Proof.Gen.FfnFwdIdeal.Frame
public import proofs.«01_k».proof.Proof.Gen.FfnFwdIdeal.Value
public import proofs.«01_k».proof.Proof.Gen.FfnFwdRefIdeal.Run
public import proofs.«01_k».proof.Proof.Gen.BwdDown
public import proofs.«01_k».proof.Proof.Gen.BwdDownIdeal
public import proofs.«01_k».proof.Proof.Gen.BwdDownRefIdeal
public import proofs.«01_k».proof.Proof.Gen.BwdDown.Frame
public import proofs.«01_k».proof.Proof.Gen.BwdDownIdeal.Frame
public import proofs.«01_k».proof.Proof.Gen.BwdDownIdeal.Value
public import proofs.«01_k».proof.Proof.Gen.BwdDownRefIdeal.Run
public import proofs.«01_k».proof.Proof.Gen.BwdUp
public import proofs.«01_k».proof.Proof.Gen.BwdUpIdeal
public import proofs.«01_k».proof.Proof.Gen.BwdUpRefIdeal
public import proofs.«01_k».proof.Proof.Gen.BwdUp.Frame
public import proofs.«01_k».proof.Proof.Gen.BwdUpIdeal.Frame
public import proofs.«01_k».proof.Proof.Gen.BwdUpIdeal.Value
public import proofs.«01_k».proof.Proof.Gen.BwdUpRefIdeal.Run
public import proofs.«01_k».proof.Proof.Gen.HalfUp
public import proofs.«01_k».proof.Proof.Gen.HalfUpIdeal
public import proofs.«01_k».proof.Proof.Gen.HalfUpRefIdeal
public import proofs.«01_k».proof.Proof.Gen.HalfUp.Frame
public import proofs.«01_k».proof.Proof.Gen.HalfUpIdeal.Frame
public import proofs.«01_k».proof.Proof.Gen.HalfUpRefIdeal.Run
public import proofs.«01_k».proof.Proof.Gen.AddUp
public import proofs.«01_k».proof.Proof.Gen.AddUpIdeal
public import proofs.«01_k».proof.Proof.Gen.AddUpRefIdeal
public import proofs.«01_k».proof.Proof.Gen.AddUp.Frame
public import proofs.«01_k».proof.Proof.Gen.AddUpIdeal.Frame
public import proofs.«01_k».proof.Proof.Gen.AddUpRefIdeal.Run
public import proofs.«01_k».proof.Proof.Gen.Pre_core_named
public import proofs.«01_k».proof.Proof.Gen.Pre_chip_named
public import proofs.«01_k».proof.Proof.SiblingClaim
public import proofs.«01_k».proof.Proof.ChipsClaim
public import proofs.«01_k».proof.Proof.ShareClaim
public import proofs.«01_k».proof.Proof.GatherClaim
public import proofs.«01_k».proof.Proof.GatherSmallClaim
public import proofs.«01_k».proof.Proof.AdamUpClaim
public import proofs.«01_k».proof.Proof.AdamDownClaim
public import proofs.«01_k».proof.Proof.AdamSquareClaim
public import proofs.«01_k».proof.Proof.AdamMetaClaim
public import proofs.«01_k».proof.Proof.AdamSmallClaim
public import proofs.«01_k».proof.Proof.LossGradClaim
public import proofs.«01_k».proof.Proof.TnUpClaim
public import proofs.«01_k».proof.Proof.TnDownClaim
public import proofs.«01_k».proof.Proof.TnSquareClaim
public import proofs.«01_k».proof.Proof.FwdClaim
public import proofs.«01_k».proof.Proof.DownClaim
public import proofs.«01_k».proof.Proof.BwdUpClaim
public import proofs.«01_k».proof.Proof.HalfUpClaim
public import proofs.«01_k».proof.Proof.AddUpClaim

@[expose] public section

set_option maxRecDepth 65536

noncomputable section

namespace Cert.Proof

/-- Every claim: the frames of the calls and of their references, that the ideal reading rewrites nothing, that the results
    of each exchange are the blocks of its reference's results, bit for bit and in the ideal reading, and that the results
    of each sum, AdamW step, weight gradient, loss and feed-forward part are its reference's in the ideal reading. -/
theorem claim : Cert.Claim := ⟨
  Cert.Sibling.Gen.facts, Cert.SiblingIdeal.Gen.facts, Cert.SiblingRefIdeal.Gen.facts, Cert.SiblingRef.Gen.facts,
  Cert.Chips.Gen.facts, Cert.ChipsIdeal.Gen.facts, Cert.ChipsRefIdeal.Gen.facts, Cert.ChipsRef.Gen.facts,
  Cert.Share.Gen.facts, Cert.ShareIdeal.Gen.facts, Cert.ShareRefIdeal.Gen.facts, Cert.ShareRef.Gen.facts,
  Cert.Gather.Gen.facts, Cert.GatherIdeal.Gen.facts, Cert.GatherRefIdeal.Gen.facts, Cert.GatherRef.Gen.facts,
  Cert.GatherSmall.Gen.facts, Cert.GatherSmallIdeal.Gen.facts, Cert.GatherSmallRefIdeal.Gen.facts,
  Cert.GatherSmallRef.Gen.facts,
  Cert.AdamUp.Gen.facts, Cert.AdamUpIdeal.Gen.facts, Cert.AdamUpRefIdeal.Gen.facts, Cert.AdamDown.Gen.facts,
  Cert.AdamDownIdeal.Gen.facts, Cert.AdamDownRefIdeal.Gen.facts, Cert.AdamSquare.Gen.facts,
  Cert.AdamSquareIdeal.Gen.facts, Cert.AdamSquareRefIdeal.Gen.facts, Cert.AdamMeta.Gen.facts,
  Cert.AdamMetaIdeal.Gen.facts, Cert.AdamMetaRefIdeal.Gen.facts, Cert.AdamSmall.Gen.facts,
  Cert.AdamSmallIdeal.Gen.facts, Cert.AdamSmallRefIdeal.Gen.facts,
  Cert.LossGrad.Gen.facts, Cert.LossGradIdeal.Gen.facts, Cert.LossGradRefIdeal.Gen.facts, Cert.TnUp.Gen.facts,
  Cert.TnUpIdeal.Gen.facts, Cert.TnUpRefIdeal.Gen.facts, Cert.TnDown.Gen.facts, Cert.TnDownIdeal.Gen.facts,
  Cert.TnDownRefIdeal.Gen.facts, Cert.TnSquare.Gen.facts, Cert.TnSquareIdeal.Gen.facts,
  Cert.TnSquareRefIdeal.Gen.facts,
  Cert.FfnFwd.Gen.facts, Cert.FfnFwdIdeal.Gen.facts, Cert.FfnFwdRefIdeal.Gen.facts, Cert.BwdDown.Gen.facts,
  Cert.BwdDownIdeal.Gen.facts, Cert.BwdDownRefIdeal.Gen.facts, Cert.BwdUp.Gen.facts, Cert.BwdUpIdeal.Gen.facts,
  Cert.BwdUpRefIdeal.Gen.facts,
  Cert.HalfUp.Gen.facts, Cert.HalfUpIdeal.Gen.facts, Cert.HalfUpRefIdeal.Gen.facts, Cert.AddUp.Gen.facts,
  Cert.AddUpIdeal.Gen.facts, Cert.AddUpRefIdeal.Gen.facts, Cert.Pre_core_named.Gen.facts, Cert.Pre_chip_named.Gen.facts,
  Cert.SiblingClaim.quiescent_Sibling, Cert.SiblingClaim.quiescent_SiblingIdeal,
  Cert.SiblingClaim.quiescent_SiblingRefIdeal, Cert.SiblingClaim.quiescent_SiblingRef,
  Cert.ChipsClaim.quiescent_Chips, Cert.ChipsClaim.quiescent_ChipsIdeal, Cert.ChipsClaim.quiescent_ChipsRefIdeal,
  Cert.ChipsClaim.quiescent_ChipsRef, Cert.ShareClaim.quiescent_Share, Cert.ShareClaim.quiescent_ShareIdeal,
  Cert.ShareClaim.quiescent_ShareRefIdeal, Cert.ShareClaim.quiescent_ShareRef, Cert.GatherClaim.quiescent_Gather,
  Cert.GatherClaim.quiescent_GatherIdeal, Cert.GatherClaim.quiescent_GatherRefIdeal,
  Cert.GatherClaim.quiescent_GatherRef, Cert.GatherSmallClaim.quiescent_GatherSmall,
  Cert.GatherSmallClaim.quiescent_GatherSmallIdeal, Cert.GatherSmallClaim.quiescent_GatherSmallRefIdeal,
  Cert.GatherSmallClaim.quiescent_GatherSmallRef,
  Cert.AdamUpProof.frame, Cert.AdamUpProof.frame_ideal, Cert.AdamUpProof.frame_ref, Cert.AdamDownProof.frame,
  Cert.AdamDownProof.frame_ideal, Cert.AdamDownProof.frame_ref, Cert.AdamSquareProof.frame,
  Cert.AdamSquareProof.frame_ideal, Cert.AdamSquareProof.frame_ref, Cert.AdamMetaProof.frame,
  Cert.AdamMetaProof.frame_ideal, Cert.AdamMetaProof.frame_ref, Cert.AdamSmallProof.frame,
  Cert.AdamSmallProof.frame_ideal, Cert.AdamSmallProof.frame_ref,
  Cert.LossGradProof.frame, Cert.LossGradProof.frame_ideal, Cert.LossGradProof.frame_ref, Cert.TnUpProof.frame,
  Cert.TnUpProof.frame_ideal, Cert.TnUpProof.frame_ref, Cert.TnDownProof.frame, Cert.TnDownProof.frame_ideal,
  Cert.TnDownProof.frame_ref, Cert.TnSquareProof.frame, Cert.TnSquareProof.frame_ideal,
  Cert.TnSquareProof.frame_ref,
  Cert.FfnFwdProof.frame, Cert.FfnFwdProof.frame_ideal, Cert.FfnFwdProof.frame_ref, Cert.BwdDownProof.frame,
  Cert.BwdDownProof.frame_ideal, Cert.BwdDownProof.frame_ref, Cert.BwdUpProof.frame, Cert.BwdUpProof.frame_ideal,
  Cert.BwdUpProof.frame_ref,
  Cert.HalfUpProof.frame, Cert.HalfUpProof.frame_ideal, Cert.HalfUpProof.frame_ref,
  fun m ρ _ => Cert.HalfUpProof.frame_ref m ρ trivial, Cert.AddUpProof.frame, Cert.AddUpProof.frame_ideal,
  Cert.AddUpProof.frame_ref, fun m ρ _ => Cert.AddUpProof.frame_ref m ρ trivial,
  Cert.SiblingClaim.preserves, Cert.SiblingClaim.bitexact, Cert.SiblingClaim.algebraic,
  Cert.ChipsClaim.preserves, Cert.ChipsClaim.bitexact, Cert.ChipsClaim.algebraic, Cert.ShareClaim.preserves,
  Cert.ShareClaim.bitexact, Cert.ShareClaim.algebraic, Cert.GatherClaim.preserves, Cert.GatherClaim.bitexact,
  Cert.GatherClaim.algebraic, Cert.GatherSmallClaim.preserves, Cert.GatherSmallClaim.bitexact,
  Cert.GatherSmallClaim.algebraic,
  trivial, Cert.AdamUpProof.algebraic, trivial, Cert.AdamDownProof.algebraic, trivial,
  Cert.AdamSquareProof.algebraic, trivial, Cert.AdamMetaProof.algebraic, trivial, Cert.AdamSmallProof.algebraic,
  trivial, Cert.LossGradProof.algebraic, trivial, Cert.TnUpProof.algebraic, trivial, Cert.TnDownProof.algebraic,
  trivial, Cert.TnSquareProof.algebraic,
  trivial, Cert.FfnFwdProof.algebraic, trivial, Cert.BwdDownProof.algebraic, trivial, Cert.BwdUpProof.algebraic,
  trivial, Cert.HalfUpProof.algebraic, trivial, Cert.AddUpProof.algebraic⟩

end Cert.Proof

end
